-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_args [hPre_finite_args : Cert.Pre_finite_args.Facts] (m : (ℓ : Loc Cert.KernelIdeal.nD Cert.KernelIdeal.τ Cert.KernelIdeal.sig) → Buf (Elt Ideal) ℓ) : Prop :=
  ∀ c : Dev Cert.KernelIdeal.nD,
    (Cert.Pre_finite_args.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))).1 = (fun _ => 1#1)
    ∧ (Cert.Pre_finite_args.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))).2.1 = (fun _ => 1#1)
    ∧ (Cert.Pre_finite_args.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))).2.2.1 = (fun _ => 1#1)
    ∧ (Cert.Pre_finite_args.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))).2.2.2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_args [hPre_finite_args : Cert.Pre_finite_args.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_args.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))).1 = (fun _ => 1#1)
    ∧ (Cert.Pre_finite_args.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))).2.1 = (fun _ => 1#1)
    ∧ (Cert.Pre_finite_args.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))).2.2.1 = (fun _ => 1#1)
    ∧ (Cert.Pre_finite_args.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))).2.2.2 = (fun _ => 1#1)

def Pre_Merge (m : (ℓ : Loc Cert.Merge.nD Cert.Merge.τ Cert.Merge.sig) → Buf (Elt Bits) ℓ) : Prop :=
  True

def Pre_MergeIdeal (m : (ℓ : Loc Cert.MergeIdeal.nD Cert.MergeIdeal.τ Cert.MergeIdeal.sig) → Buf (Elt Ideal) ℓ) : Prop :=
  True

def Pre_MergeRefIdeal (m : (ℓ : Loc Cert.MergeRefIdeal.nD Cert.MergeRefIdeal.τ Cert.MergeRefIdeal.sig) → Buf (Elt Ideal) ℓ) : Prop :=
  True

def Pre_Act (m : (ℓ : Loc Cert.Act.nD Cert.Act.τ Cert.Act.sig) → Buf (Elt Bits) ℓ) : Prop :=
  True

def Pre_ActIdeal (m : (ℓ : Loc Cert.ActIdeal.nD Cert.ActIdeal.τ Cert.ActIdeal.sig) → Buf (Elt Ideal) ℓ) : Prop :=
  True

def Pre_ActRefIdeal (m : (ℓ : Loc Cert.ActRefIdeal.nD Cert.ActRefIdeal.τ Cert.ActRefIdeal.sig) → Buf (Elt Ideal) ℓ) : Prop :=
  True

def Pre_Down (m : (ℓ : Loc Cert.Down.nD Cert.Down.τ Cert.Down.sig) → Buf (Elt Bits) ℓ) : Prop :=
  True

def Pre_DownIdeal (m : (ℓ : Loc Cert.DownIdeal.nD Cert.DownIdeal.τ Cert.DownIdeal.sig) → Buf (Elt Ideal) ℓ) : Prop :=
  True

def Pre_DownRefIdeal (m : (ℓ : Loc Cert.DownRefIdeal.nD Cert.DownRefIdeal.τ Cert.DownRefIdeal.sig) → Buf (Elt Ideal) ℓ) : Prop :=
  True

def Pre_Up (m : (ℓ : Loc Cert.Up.nD Cert.Up.τ Cert.Up.sig) → Buf (Elt Bits) ℓ) : Prop :=
  True

def Pre_UpIdeal (m : (ℓ : Loc Cert.UpIdeal.nD Cert.UpIdeal.τ Cert.UpIdeal.sig) → Buf (Elt Ideal) ℓ) : Prop :=
  True

def Pre_UpRefIdeal (m : (ℓ : Loc Cert.UpRefIdeal.nD Cert.UpRefIdeal.τ Cert.UpRefIdeal.sig) → Buf (Elt Ideal) ℓ) : Prop :=
  True

def Pre_H2 (m : (ℓ : Loc Cert.H2.nD Cert.H2.τ Cert.H2.sig) → Buf (Elt Bits) ℓ) : Prop :=
  True

def Pre_H2Ideal (m : (ℓ : Loc Cert.H2Ideal.nD Cert.H2Ideal.τ Cert.H2Ideal.sig) → Buf (Elt Ideal) ℓ) : Prop :=
  True

def Pre_H2RefIdeal (m : (ℓ : Loc Cert.H2RefIdeal.nD Cert.H2RefIdeal.τ Cert.H2RefIdeal.sig) → Buf (Elt Ideal) ℓ) : Prop :=
  True

def Pre_Do (m : (ℓ : Loc Cert.Do.nD Cert.Do.τ Cert.Do.sig) → Buf (Elt Bits) ℓ) : Prop :=
  True

def Pre_DoIdeal (m : (ℓ : Loc Cert.DoIdeal.nD Cert.DoIdeal.τ Cert.DoIdeal.sig) → Buf (Elt Ideal) ℓ) : Prop :=
  True

def Pre_DoRefIdeal (m : (ℓ : Loc Cert.DoRefIdeal.nD Cert.DoRefIdeal.τ Cert.DoRefIdeal.sig) → Buf (Elt Ideal) ℓ) : Prop :=
  True

def Pre_Da (m : (ℓ : Loc Cert.Da.nD Cert.Da.τ Cert.Da.sig) → Buf (Elt Bits) ℓ) : Prop :=
  True

def Pre_DaIdeal (m : (ℓ : Loc Cert.DaIdeal.nD Cert.DaIdeal.τ Cert.DaIdeal.sig) → Buf (Elt Ideal) ℓ) : Prop :=
  True

def Pre_DaRefIdeal (m : (ℓ : Loc Cert.DaRefIdeal.nD Cert.DaRefIdeal.τ Cert.DaRefIdeal.sig) → Buf (Elt Ideal) ℓ) : Prop :=
  True

def Pre_Dkv (m : (ℓ : Loc Cert.Dkv.nD Cert.Dkv.τ Cert.Dkv.sig) → Buf (Elt Bits) ℓ) : Prop :=
  True

def Pre_DkvIdeal (m : (ℓ : Loc Cert.DkvIdeal.nD Cert.DkvIdeal.τ Cert.DkvIdeal.sig) → Buf (Elt Ideal) ℓ) : Prop :=
  True

def Pre_DkvRefIdeal (m : (ℓ : Loc Cert.DkvRefIdeal.nD Cert.DkvRefIdeal.τ Cert.DkvRefIdeal.sig) → Buf (Elt Ideal) ℓ) : Prop :=
  True

def Pre_Go (m : (ℓ : Loc Cert.Go.nD Cert.Go.τ Cert.Go.sig) → Buf (Elt Bits) ℓ) : Prop :=
  True

def Pre_GoIdeal (m : (ℓ : Loc Cert.GoIdeal.nD Cert.GoIdeal.τ Cert.GoIdeal.sig) → Buf (Elt Ideal) ℓ) : Prop :=
  True

def Pre_GoRefIdeal (m : (ℓ : Loc Cert.GoRefIdeal.nD Cert.GoRefIdeal.τ Cert.GoRefIdeal.sig) → Buf (Elt Ideal) ℓ) : Prop :=
  True

def Pre_Ga (m : (ℓ : Loc Cert.Ga.nD Cert.Ga.τ Cert.Ga.sig) → Buf (Elt Bits) ℓ) : Prop :=
  True

def Pre_GaIdeal (m : (ℓ : Loc Cert.GaIdeal.nD Cert.GaIdeal.τ Cert.GaIdeal.sig) → Buf (Elt Ideal) ℓ) : Prop :=
  True

def Pre_GaRefIdeal (m : (ℓ : Loc Cert.GaRefIdeal.nD Cert.GaRefIdeal.τ Cert.GaRefIdeal.sig) → Buf (Elt Ideal) ℓ) : Prop :=
  True

def Pre_Gkv (m : (ℓ : Loc Cert.Gkv.nD Cert.Gkv.τ Cert.Gkv.sig) → Buf (Elt Bits) ℓ) : Prop :=
  True

def Pre_GkvIdeal (m : (ℓ : Loc Cert.GkvIdeal.nD Cert.GkvIdeal.τ Cert.GkvIdeal.sig) → Buf (Elt Ideal) ℓ) : Prop :=
  True

def Pre_GkvRefIdeal (m : (ℓ : Loc Cert.GkvRefIdeal.nD Cert.GkvRefIdeal.τ Cert.GkvRefIdeal.sig) → Buf (Elt Ideal) ℓ) : Prop :=
  True

def Pre_Gin (m : (ℓ : Loc Cert.Gin.nD Cert.Gin.τ Cert.Gin.sig) → Buf (Elt Bits) ℓ) : Prop :=
  True

def Pre_GinIdeal (m : (ℓ : Loc Cert.GinIdeal.nD Cert.GinIdeal.τ Cert.GinIdeal.sig) → Buf (Elt Ideal) ℓ) : Prop :=
  True

def Pre_GinRefIdeal (m : (ℓ : Loc Cert.GinRefIdeal.nD Cert.GinRefIdeal.τ Cert.GinRefIdeal.sig) → Buf (Elt Ideal) ℓ) : Prop :=
  True

def Pre_Fb (m : (ℓ : Loc Cert.Fb.nD Cert.Fb.τ Cert.Fb.sig) → Buf (Elt Bits) ℓ) : Prop :=
  True

def Pre_FbIdeal (m : (ℓ : Loc Cert.FbIdeal.nD Cert.FbIdeal.τ Cert.FbIdeal.sig) → Buf (Elt Ideal) ℓ) : Prop :=
  True

def Pre_FbRefIdeal (m : (ℓ : Loc Cert.FbRefIdeal.nD Cert.FbRefIdeal.τ Cert.FbRefIdeal.sig) → Buf (Elt Ideal) ℓ) : Prop :=
  True

def Pre_Fa (m : (ℓ : Loc Cert.Fa.nD Cert.Fa.τ Cert.Fa.sig) → Buf (Elt Bits) ℓ) : Prop :=
  True

def Pre_FaIdeal (m : (ℓ : Loc Cert.FaIdeal.nD Cert.FaIdeal.τ Cert.FaIdeal.sig) → Buf (Elt Ideal) ℓ) : Prop :=
  True

def Pre_FaRefIdeal (m : (ℓ : Loc Cert.FaRefIdeal.nD Cert.FaRefIdeal.τ Cert.FaRefIdeal.sig) → Buf (Elt Ideal) ℓ) : Prop :=
  True

def Pre_Fkv (m : (ℓ : Loc Cert.Fkv.nD Cert.Fkv.τ Cert.Fkv.sig) → Buf (Elt Bits) ℓ) : Prop :=
  True

def Pre_FkvIdeal (m : (ℓ : Loc Cert.FkvIdeal.nD Cert.FkvIdeal.τ Cert.FkvIdeal.sig) → Buf (Elt Ideal) ℓ) : Prop :=
  True

def Pre_FkvRefIdeal (m : (ℓ : Loc Cert.FkvRefIdeal.nD Cert.FkvRefIdeal.τ Cert.FkvRefIdeal.sig) → Buf (Elt Ideal) ℓ) : Prop :=
  True

def Pre_Fo (m : (ℓ : Loc Cert.Fo.nD Cert.Fo.τ Cert.Fo.sig) → Buf (Elt Bits) ℓ) : Prop :=
  True

def Pre_FoIdeal (m : (ℓ : Loc Cert.FoIdeal.nD Cert.FoIdeal.τ Cert.FoIdeal.sig) → Buf (Elt Ideal) ℓ) : Prop :=
  True

def Pre_FoRefIdeal (m : (ℓ : Loc Cert.FoRefIdeal.nD Cert.FoRefIdeal.τ Cert.FoRefIdeal.sig) → Buf (Elt Ideal) ℓ) : Prop :=
  True

def Pre_Fdown (m : (ℓ : Loc Cert.Fdown.nD Cert.Fdown.τ Cert.Fdown.sig) → Buf (Elt Bits) ℓ) : Prop :=
  True

def Pre_FdownIdeal (m : (ℓ : Loc Cert.FdownIdeal.nD Cert.FdownIdeal.τ Cert.FdownIdeal.sig) → Buf (Elt Ideal) ℓ) : Prop :=
  True

def Pre_FdownRefIdeal (m : (ℓ : Loc Cert.FdownRefIdeal.nD Cert.FdownRefIdeal.τ Cert.FdownRefIdeal.sig) → Buf (Elt Ideal) ℓ) : Prop :=
  True

def Pre_Fup (m : (ℓ : Loc Cert.Fup.nD Cert.Fup.τ Cert.Fup.sig) → Buf (Elt Bits) ℓ) : Prop :=
  True

def Pre_FupIdeal (m : (ℓ : Loc Cert.FupIdeal.nD Cert.FupIdeal.τ Cert.FupIdeal.sig) → Buf (Elt Ideal) ℓ) : Prop :=
  True

def Pre_FupRefIdeal (m : (ℓ : Loc Cert.FupRefIdeal.nD Cert.FupRefIdeal.τ Cert.FupRefIdeal.sig) → Buf (Elt Ideal) ℓ) : Prop :=
  True

def Pre_Mix (m : (ℓ : Loc Cert.Mix.nD Cert.Mix.τ Cert.Mix.sig) → Buf (Elt Bits) ℓ) : Prop :=
  True

def Pre_MixIdeal (m : (ℓ : Loc Cert.MixIdeal.nD Cert.MixIdeal.τ Cert.MixIdeal.sig) → Buf (Elt Ideal) ℓ) : Prop :=
  True

def Pre_MixRefIdeal (m : (ℓ : Loc Cert.MixRefIdeal.nD Cert.MixRefIdeal.τ Cert.MixRefIdeal.sig) → Buf (Elt Ideal) ℓ) : Prop :=
  True

def Pre_Norm (m : (ℓ : Loc Cert.Norm.nD Cert.Norm.τ Cert.Norm.sig) → Buf (Elt Bits) ℓ) : Prop :=
  True

def Pre_NormIdeal (m : (ℓ : Loc Cert.NormIdeal.nD Cert.NormIdeal.τ Cert.NormIdeal.sig) → Buf (Elt Ideal) ℓ) : Prop :=
  True

def Pre_NormRefIdeal (m : (ℓ : Loc Cert.NormRefIdeal.nD Cert.NormRefIdeal.τ Cert.NormRefIdeal.sig) → Buf (Elt Ideal) ℓ) : Prop :=
  True

def Pre_Attn (m : (ℓ : Loc Cert.Attn.nD Cert.Attn.τ Cert.Attn.sig) → Buf (Elt Bits) ℓ) : Prop :=
  True

def Pre_AttnIdeal (m : (ℓ : Loc Cert.AttnIdeal.nD Cert.AttnIdeal.τ Cert.AttnIdeal.sig) → Buf (Elt Ideal) ℓ) : Prop :=
  True

def Pre_AttnIdeal_finite_qk [hPre_finite_qk : Cert.Pre_finite_qk.Facts] (m : (ℓ : Loc Cert.AttnIdeal.nD Cert.AttnIdeal.τ Cert.AttnIdeal.sig) → Buf (Elt Ideal) ℓ) : Prop :=
  ∀ c : Dev Cert.AttnIdeal.nD,
    (Cert.Pre_finite_qk.fn (F := Ideal) (m ((c.tc : Thread Cert.AttnIdeal.nD Cert.AttnIdeal.τ).loc Cert.AttnIdeal.main_arg0)) (m ((c.tc : Thread Cert.AttnIdeal.nD Cert.AttnIdeal.τ).loc Cert.AttnIdeal.main_arg1)) (m ((c.tc : Thread Cert.AttnIdeal.nD Cert.AttnIdeal.τ).loc Cert.AttnIdeal.main_arg2))).1 = (fun _ => 1#1)
    ∧ (Cert.Pre_finite_qk.fn (F := Ideal) (m ((c.tc : Thread Cert.AttnIdeal.nD Cert.AttnIdeal.τ).loc Cert.AttnIdeal.main_arg0)) (m ((c.tc : Thread Cert.AttnIdeal.nD Cert.AttnIdeal.τ).loc Cert.AttnIdeal.main_arg1)) (m ((c.tc : Thread Cert.AttnIdeal.nD Cert.AttnIdeal.τ).loc Cert.AttnIdeal.main_arg2))).2 = (fun _ => 1#1)

def Pre_AttnRefIdeal (m : (ℓ : Loc Cert.AttnRefIdeal.nD Cert.AttnRefIdeal.τ Cert.AttnRefIdeal.sig) → Buf (Elt Ideal) ℓ) : Prop :=
  True

def Pre_AttnRefIdeal_finite_qk [hPre_finite_qk : Cert.Pre_finite_qk.Facts] (m : (ℓ : Loc Cert.AttnRefIdeal.nD Cert.AttnRefIdeal.τ Cert.AttnRefIdeal.sig) → Buf (Elt Ideal) ℓ) : Prop :=
  ∀ c : Dev Cert.AttnRefIdeal.nD,
    (Cert.Pre_finite_qk.fn (F := Ideal) (m ((c.tc : Thread Cert.AttnRefIdeal.nD Cert.AttnRefIdeal.τ).loc Cert.AttnRefIdeal.main_arg0)) (m ((c.tc : Thread Cert.AttnRefIdeal.nD Cert.AttnRefIdeal.τ).loc Cert.AttnRefIdeal.main_arg1)) (m ((c.tc : Thread Cert.AttnRefIdeal.nD Cert.AttnRefIdeal.τ).loc Cert.AttnRefIdeal.main_arg2))).1 = (fun _ => 1#1)
    ∧ (Cert.Pre_finite_qk.fn (F := Ideal) (m ((c.tc : Thread Cert.AttnRefIdeal.nD Cert.AttnRefIdeal.τ).loc Cert.AttnRefIdeal.main_arg0)) (m ((c.tc : Thread Cert.AttnRefIdeal.nD Cert.AttnRefIdeal.τ).loc Cert.AttnRefIdeal.main_arg1)) (m ((c.tc : Thread Cert.AttnRefIdeal.nD Cert.AttnRefIdeal.τ).loc Cert.AttnRefIdeal.main_arg2))).2 = (fun _ => 1#1)

def Pre_Dnorm (m : (ℓ : Loc Cert.Dnorm.nD Cert.Dnorm.τ Cert.Dnorm.sig) → Buf (Elt Bits) ℓ) : Prop :=
  True

def Pre_DnormIdeal (m : (ℓ : Loc Cert.DnormIdeal.nD Cert.DnormIdeal.τ Cert.DnormIdeal.sig) → Buf (Elt Ideal) ℓ) : Prop :=
  True

def Pre_DnormRefIdeal (m : (ℓ : Loc Cert.DnormRefIdeal.nD Cert.DnormRefIdeal.τ Cert.DnormRefIdeal.sig) → Buf (Elt Ideal) ℓ) : Prop :=
  True

def Pre_LatQ (m : (ℓ : Loc Cert.LatQ.nD Cert.LatQ.τ Cert.LatQ.sig) → Buf (Elt Bits) ℓ) : Prop :=
  True

def Pre_LatQIdeal (m : (ℓ : Loc Cert.LatQIdeal.nD Cert.LatQIdeal.τ Cert.LatQIdeal.sig) → Buf (Elt Ideal) ℓ) : Prop :=
  True

def Pre_LatQRefIdeal (m : (ℓ : Loc Cert.LatQRefIdeal.nD Cert.LatQRefIdeal.τ Cert.LatQRefIdeal.sig) → Buf (Elt Ideal) ℓ) : Prop :=
  True

def Pre_LatKv (m : (ℓ : Loc Cert.LatKv.nD Cert.LatKv.τ Cert.LatKv.sig) → Buf (Elt Bits) ℓ) : Prop :=
  True

def Pre_LatKvIdeal (m : (ℓ : Loc Cert.LatKvIdeal.nD Cert.LatKvIdeal.τ Cert.LatKvIdeal.sig) → Buf (Elt Ideal) ℓ) : Prop :=
  True

def Pre_LatKvRefIdeal (m : (ℓ : Loc Cert.LatKvRefIdeal.nD Cert.LatKvRefIdeal.τ Cert.LatKvRefIdeal.sig) → Buf (Elt Ideal) ℓ) : Prop :=
  True

def Pre_DlatQ (m : (ℓ : Loc Cert.DlatQ.nD Cert.DlatQ.τ Cert.DlatQ.sig) → Buf (Elt Bits) ℓ) : Prop :=
  True

def Pre_DlatQIdeal (m : (ℓ : Loc Cert.DlatQIdeal.nD Cert.DlatQIdeal.τ Cert.DlatQIdeal.sig) → Buf (Elt Ideal) ℓ) : Prop :=
  True

def Pre_DlatQRefIdeal (m : (ℓ : Loc Cert.DlatQRefIdeal.nD Cert.DlatQRefIdeal.τ Cert.DlatQRefIdeal.sig) → Buf (Elt Ideal) ℓ) : Prop :=
  True

def Pre_DlatKv (m : (ℓ : Loc Cert.DlatKv.nD Cert.DlatKv.τ Cert.DlatKv.sig) → Buf (Elt Bits) ℓ) : Prop :=
  True

def Pre_DlatKvIdeal (m : (ℓ : Loc Cert.DlatKvIdeal.nD Cert.DlatKvIdeal.τ Cert.DlatKvIdeal.sig) → Buf (Elt Ideal) ℓ) : Prop :=
  True

def Pre_DlatKvRefIdeal (m : (ℓ : Loc Cert.DlatKvRefIdeal.nD Cert.DlatKvRefIdeal.τ Cert.DlatKvRefIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_KernelIdeal_pre_finite_args [hKernelIdeal : Cert.KernelIdeal.Facts] [hPre_finite_args : Cert.Pre_finite_args.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_args m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_ReferenceIdeal_pre_finite_args [hReferenceIdeal : Cert.ReferenceIdeal.Facts] [hPre_finite_args : Cert.Pre_finite_args.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_args m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_Merge [hMerge : Cert.Merge.Facts] : Prop :=
  ∀ (m : (ℓ : Loc Cert.Merge.nD Cert.Merge.τ Cert.Merge.sig) → Buf (Elt Bits) ℓ) (g : Dev Cert.Merge.nD → PrngReg), Pre_Merge m →
    θ_run (Cert.Merge.defs (F := Bits)) (onTc (τ := Cert.Merge.τ) (Cert.Merge.main (F := Bits))) ⟨m, fun _ => 0, g⟩ (fun r => (∀ c : Dev Cert.Merge.nD,
      r.2.mem ((c.tc : Thread Cert.Merge.nD Cert.Merge.τ).loc Cert.Merge.main_arg0) = m ((c.tc : Thread Cert.Merge.nD Cert.Merge.τ).loc Cert.Merge.main_arg0)
      ∧ r.2.mem ((c.tc : Thread Cert.Merge.nD Cert.Merge.τ).loc Cert.Merge.main_arg1) = m ((c.tc : Thread Cert.Merge.nD Cert.Merge.τ).loc Cert.Merge.main_arg1)
      ∧ r.2.mem ((c.tc : Thread Cert.Merge.nD Cert.Merge.τ).loc Cert.Merge.main_arg2) = m ((c.tc : Thread Cert.Merge.nD Cert.Merge.τ).loc Cert.Merge.main_arg2)
      ∧ r.2.mem ((c.tc : Thread Cert.Merge.nD Cert.Merge.τ).loc Cert.Merge.main_arg3) = m ((c.tc : Thread Cert.Merge.nD Cert.Merge.τ).loc Cert.Merge.main_arg3)
      ∧ r.2.mem ((c.tc : Thread Cert.Merge.nD Cert.Merge.τ).loc Cert.Merge.main_arg4) = m ((c.tc : Thread Cert.Merge.nD Cert.Merge.τ).loc Cert.Merge.main_arg4))
      ∧ r.2.sem = fun _ => 0)

def quiescent_MergeIdeal [hMergeIdeal : Cert.MergeIdeal.Facts] : Prop :=
  ∀ (m : (ℓ : Loc Cert.MergeIdeal.nD Cert.MergeIdeal.τ Cert.MergeIdeal.sig) → Buf (Elt Ideal) ℓ) (g : Dev Cert.MergeIdeal.nD → PrngReg), Pre_MergeIdeal m →
    θ_run (Cert.MergeIdeal.defs (F := Ideal)) (onTc (τ := Cert.MergeIdeal.τ) (Cert.MergeIdeal.main (F := Ideal))) ⟨m, fun _ => 0, g⟩ (fun r => (∀ c : Dev Cert.MergeIdeal.nD,
      r.2.mem ((c.tc : Thread Cert.MergeIdeal.nD Cert.MergeIdeal.τ).loc Cert.MergeIdeal.main_arg0) = m ((c.tc : Thread Cert.MergeIdeal.nD Cert.MergeIdeal.τ).loc Cert.MergeIdeal.main_arg0)
      ∧ r.2.mem ((c.tc : Thread Cert.MergeIdeal.nD Cert.MergeIdeal.τ).loc Cert.MergeIdeal.main_arg1) = m ((c.tc : Thread Cert.MergeIdeal.nD Cert.MergeIdeal.τ).loc Cert.MergeIdeal.main_arg1)
      ∧ r.2.mem ((c.tc : Thread Cert.MergeIdeal.nD Cert.MergeIdeal.τ).loc Cert.MergeIdeal.main_arg2) = m ((c.tc : Thread Cert.MergeIdeal.nD Cert.MergeIdeal.τ).loc Cert.MergeIdeal.main_arg2)
      ∧ r.2.mem ((c.tc : Thread Cert.MergeIdeal.nD Cert.MergeIdeal.τ).loc Cert.MergeIdeal.main_arg3) = m ((c.tc : Thread Cert.MergeIdeal.nD Cert.MergeIdeal.τ).loc Cert.MergeIdeal.main_arg3)
      ∧ r.2.mem ((c.tc : Thread Cert.MergeIdeal.nD Cert.MergeIdeal.τ).loc Cert.MergeIdeal.main_arg4) = m ((c.tc : Thread Cert.MergeIdeal.nD Cert.MergeIdeal.τ).loc Cert.MergeIdeal.main_arg4))
      ∧ r.2.sem = fun _ => 0)

def quiescent_MergeRefIdeal [hMergeRefIdeal : Cert.MergeRefIdeal.Facts] : Prop :=
  ∀ (m : (ℓ : Loc Cert.MergeRefIdeal.nD Cert.MergeRefIdeal.τ Cert.MergeRefIdeal.sig) → Buf (Elt Ideal) ℓ) (g : Dev Cert.MergeRefIdeal.nD → PrngReg), Pre_MergeRefIdeal m →
    θ_run (Cert.MergeRefIdeal.defs (F := Ideal)) (onTc (τ := Cert.MergeRefIdeal.τ) (Cert.MergeRefIdeal.main (F := Ideal))) ⟨m, fun _ => 0, g⟩ (fun r => (∀ c : Dev Cert.MergeRefIdeal.nD,
      r.2.mem ((c.tc : Thread Cert.MergeRefIdeal.nD Cert.MergeRefIdeal.τ).loc Cert.MergeRefIdeal.main_arg0) = m ((c.tc : Thread Cert.MergeRefIdeal.nD Cert.MergeRefIdeal.τ).loc Cert.MergeRefIdeal.main_arg0)
      ∧ r.2.mem ((c.tc : Thread Cert.MergeRefIdeal.nD Cert.MergeRefIdeal.τ).loc Cert.MergeRefIdeal.main_arg1) = m ((c.tc : Thread Cert.MergeRefIdeal.nD Cert.MergeRefIdeal.τ).loc Cert.MergeRefIdeal.main_arg1)
      ∧ r.2.mem ((c.tc : Thread Cert.MergeRefIdeal.nD Cert.MergeRefIdeal.τ).loc Cert.MergeRefIdeal.main_arg2) = m ((c.tc : Thread Cert.MergeRefIdeal.nD Cert.MergeRefIdeal.τ).loc Cert.MergeRefIdeal.main_arg2)
      ∧ r.2.mem ((c.tc : Thread Cert.MergeRefIdeal.nD Cert.MergeRefIdeal.τ).loc Cert.MergeRefIdeal.main_arg3) = m ((c.tc : Thread Cert.MergeRefIdeal.nD Cert.MergeRefIdeal.τ).loc Cert.MergeRefIdeal.main_arg3)
      ∧ r.2.mem ((c.tc : Thread Cert.MergeRefIdeal.nD Cert.MergeRefIdeal.τ).loc Cert.MergeRefIdeal.main_arg4) = m ((c.tc : Thread Cert.MergeRefIdeal.nD Cert.MergeRefIdeal.τ).loc Cert.MergeRefIdeal.main_arg4))
      ∧ r.2.sem = fun _ => 0)

def quiescent_Act [hAct : Cert.Act.Facts] : Prop :=
  ∀ (m : (ℓ : Loc Cert.Act.nD Cert.Act.τ Cert.Act.sig) → Buf (Elt Bits) ℓ) (g : Dev Cert.Act.nD → PrngReg), Pre_Act m →
    θ_run (Cert.Act.defs (F := Bits)) (onTc (τ := Cert.Act.τ) (Cert.Act.main (F := Bits))) ⟨m, fun _ => 0, g⟩ (fun r => (∀ c : Dev Cert.Act.nD,
      r.2.mem ((c.tc : Thread Cert.Act.nD Cert.Act.τ).loc Cert.Act.main_arg0) = m ((c.tc : Thread Cert.Act.nD Cert.Act.τ).loc Cert.Act.main_arg0)
      ∧ r.2.mem ((c.tc : Thread Cert.Act.nD Cert.Act.τ).loc Cert.Act.main_arg1) = m ((c.tc : Thread Cert.Act.nD Cert.Act.τ).loc Cert.Act.main_arg1)
      ∧ r.2.mem ((c.tc : Thread Cert.Act.nD Cert.Act.τ).loc Cert.Act.main_arg2) = m ((c.tc : Thread Cert.Act.nD Cert.Act.τ).loc Cert.Act.main_arg2))
      ∧ r.2.sem = fun _ => 0)

def quiescent_ActIdeal [hActIdeal : Cert.ActIdeal.Facts] : Prop :=
  ∀ (m : (ℓ : Loc Cert.ActIdeal.nD Cert.ActIdeal.τ Cert.ActIdeal.sig) → Buf (Elt Ideal) ℓ) (g : Dev Cert.ActIdeal.nD → PrngReg), Pre_ActIdeal m →
    θ_run (Cert.ActIdeal.defs (F := Ideal)) (onTc (τ := Cert.ActIdeal.τ) (Cert.ActIdeal.main (F := Ideal))) ⟨m, fun _ => 0, g⟩ (fun r => (∀ c : Dev Cert.ActIdeal.nD,
      r.2.mem ((c.tc : Thread Cert.ActIdeal.nD Cert.ActIdeal.τ).loc Cert.ActIdeal.main_arg0) = m ((c.tc : Thread Cert.ActIdeal.nD Cert.ActIdeal.τ).loc Cert.ActIdeal.main_arg0)
      ∧ r.2.mem ((c.tc : Thread Cert.ActIdeal.nD Cert.ActIdeal.τ).loc Cert.ActIdeal.main_arg1) = m ((c.tc : Thread Cert.ActIdeal.nD Cert.ActIdeal.τ).loc Cert.ActIdeal.main_arg1)
      ∧ r.2.mem ((c.tc : Thread Cert.ActIdeal.nD Cert.ActIdeal.τ).loc Cert.ActIdeal.main_arg2) = m ((c.tc : Thread Cert.ActIdeal.nD Cert.ActIdeal.τ).loc Cert.ActIdeal.main_arg2))
      ∧ r.2.sem = fun _ => 0)

def quiescent_ActRefIdeal [hActRefIdeal : Cert.ActRefIdeal.Facts] : Prop :=
  ∀ (m : (ℓ : Loc Cert.ActRefIdeal.nD Cert.ActRefIdeal.τ Cert.ActRefIdeal.sig) → Buf (Elt Ideal) ℓ) (g : Dev Cert.ActRefIdeal.nD → PrngReg), Pre_ActRefIdeal m →
    θ_run (Cert.ActRefIdeal.defs (F := Ideal)) (onTc (τ := Cert.ActRefIdeal.τ) (Cert.ActRefIdeal.main (F := Ideal))) ⟨m, fun _ => 0, g⟩ (fun r => (∀ c : Dev Cert.ActRefIdeal.nD,
      r.2.mem ((c.tc : Thread Cert.ActRefIdeal.nD Cert.ActRefIdeal.τ).loc Cert.ActRefIdeal.main_arg0) = m ((c.tc : Thread Cert.ActRefIdeal.nD Cert.ActRefIdeal.τ).loc Cert.ActRefIdeal.main_arg0)
      ∧ r.2.mem ((c.tc : Thread Cert.ActRefIdeal.nD Cert.ActRefIdeal.τ).loc Cert.ActRefIdeal.main_arg1) = m ((c.tc : Thread Cert.ActRefIdeal.nD Cert.ActRefIdeal.τ).loc Cert.ActRefIdeal.main_arg1)
      ∧ r.2.mem ((c.tc : Thread Cert.ActRefIdeal.nD Cert.ActRefIdeal.τ).loc Cert.ActRefIdeal.main_arg2) = m ((c.tc : Thread Cert.ActRefIdeal.nD Cert.ActRefIdeal.τ).loc Cert.ActRefIdeal.main_arg2))
      ∧ r.2.sem = fun _ => 0)

def quiescent_Down [hDown : Cert.Down.Facts] : Prop :=
  ∀ (m : (ℓ : Loc Cert.Down.nD Cert.Down.τ Cert.Down.sig) → Buf (Elt Bits) ℓ) (g : Dev Cert.Down.nD → PrngReg), Pre_Down m →
    θ_run (Cert.Down.defs (F := Bits)) (onTc (τ := Cert.Down.τ) (Cert.Down.main (F := Bits))) ⟨m, fun _ => 0, g⟩ (fun r => (∀ c : Dev Cert.Down.nD,
      r.2.mem ((c.tc : Thread Cert.Down.nD Cert.Down.τ).loc Cert.Down.main_arg0) = m ((c.tc : Thread Cert.Down.nD Cert.Down.τ).loc Cert.Down.main_arg0)
      ∧ r.2.mem ((c.tc : Thread Cert.Down.nD Cert.Down.τ).loc Cert.Down.main_arg1) = m ((c.tc : Thread Cert.Down.nD Cert.Down.τ).loc Cert.Down.main_arg1))
      ∧ r.2.sem = fun _ => 0)

def quiescent_DownIdeal [hDownIdeal : Cert.DownIdeal.Facts] : Prop :=
  ∀ (m : (ℓ : Loc Cert.DownIdeal.nD Cert.DownIdeal.τ Cert.DownIdeal.sig) → Buf (Elt Ideal) ℓ) (g : Dev Cert.DownIdeal.nD → PrngReg), Pre_DownIdeal m →
    θ_run (Cert.DownIdeal.defs (F := Ideal)) (onTc (τ := Cert.DownIdeal.τ) (Cert.DownIdeal.main (F := Ideal))) ⟨m, fun _ => 0, g⟩ (fun r => (∀ c : Dev Cert.DownIdeal.nD,
      r.2.mem ((c.tc : Thread Cert.DownIdeal.nD Cert.DownIdeal.τ).loc Cert.DownIdeal.main_arg0) = m ((c.tc : Thread Cert.DownIdeal.nD Cert.DownIdeal.τ).loc Cert.DownIdeal.main_arg0)
      ∧ r.2.mem ((c.tc : Thread Cert.DownIdeal.nD Cert.DownIdeal.τ).loc Cert.DownIdeal.main_arg1) = m ((c.tc : Thread Cert.DownIdeal.nD Cert.DownIdeal.τ).loc Cert.DownIdeal.main_arg1))
      ∧ r.2.sem = fun _ => 0)

def quiescent_DownRefIdeal [hDownRefIdeal : Cert.DownRefIdeal.Facts] : Prop :=
  ∀ (m : (ℓ : Loc Cert.DownRefIdeal.nD Cert.DownRefIdeal.τ Cert.DownRefIdeal.sig) → Buf (Elt Ideal) ℓ) (g : Dev Cert.DownRefIdeal.nD → PrngReg), Pre_DownRefIdeal m →
    θ_run (Cert.DownRefIdeal.defs (F := Ideal)) (onTc (τ := Cert.DownRefIdeal.τ) (Cert.DownRefIdeal.main (F := Ideal))) ⟨m, fun _ => 0, g⟩ (fun r => (∀ c : Dev Cert.DownRefIdeal.nD,
      r.2.mem ((c.tc : Thread Cert.DownRefIdeal.nD Cert.DownRefIdeal.τ).loc Cert.DownRefIdeal.main_arg0) = m ((c.tc : Thread Cert.DownRefIdeal.nD Cert.DownRefIdeal.τ).loc Cert.DownRefIdeal.main_arg0)
      ∧ r.2.mem ((c.tc : Thread Cert.DownRefIdeal.nD Cert.DownRefIdeal.τ).loc Cert.DownRefIdeal.main_arg1) = m ((c.tc : Thread Cert.DownRefIdeal.nD Cert.DownRefIdeal.τ).loc Cert.DownRefIdeal.main_arg1))
      ∧ r.2.sem = fun _ => 0)

def quiescent_Up [hUp : Cert.Up.Facts] : Prop :=
  ∀ (m : (ℓ : Loc Cert.Up.nD Cert.Up.τ Cert.Up.sig) → Buf (Elt Bits) ℓ) (g : Dev Cert.Up.nD → PrngReg), Pre_Up m →
    θ_run (Cert.Up.defs (F := Bits)) (onTc (τ := Cert.Up.τ) (Cert.Up.main (F := Bits))) ⟨m, fun _ => 0, g⟩ (fun r => (∀ c : Dev Cert.Up.nD,
      r.2.mem ((c.tc : Thread Cert.Up.nD Cert.Up.τ).loc Cert.Up.main_arg0) = m ((c.tc : Thread Cert.Up.nD Cert.Up.τ).loc Cert.Up.main_arg0)
      ∧ r.2.mem ((c.tc : Thread Cert.Up.nD Cert.Up.τ).loc Cert.Up.main_arg1) = m ((c.tc : Thread Cert.Up.nD Cert.Up.τ).loc Cert.Up.main_arg1))
      ∧ r.2.sem = fun _ => 0)

def quiescent_UpIdeal [hUpIdeal : Cert.UpIdeal.Facts] : Prop :=
  ∀ (m : (ℓ : Loc Cert.UpIdeal.nD Cert.UpIdeal.τ Cert.UpIdeal.sig) → Buf (Elt Ideal) ℓ) (g : Dev Cert.UpIdeal.nD → PrngReg), Pre_UpIdeal m →
    θ_run (Cert.UpIdeal.defs (F := Ideal)) (onTc (τ := Cert.UpIdeal.τ) (Cert.UpIdeal.main (F := Ideal))) ⟨m, fun _ => 0, g⟩ (fun r => (∀ c : Dev Cert.UpIdeal.nD,
      r.2.mem ((c.tc : Thread Cert.UpIdeal.nD Cert.UpIdeal.τ).loc Cert.UpIdeal.main_arg0) = m ((c.tc : Thread Cert.UpIdeal.nD Cert.UpIdeal.τ).loc Cert.UpIdeal.main_arg0)
      ∧ r.2.mem ((c.tc : Thread Cert.UpIdeal.nD Cert.UpIdeal.τ).loc Cert.UpIdeal.main_arg1) = m ((c.tc : Thread Cert.UpIdeal.nD Cert.UpIdeal.τ).loc Cert.UpIdeal.main_arg1))
      ∧ r.2.sem = fun _ => 0)

def quiescent_UpRefIdeal [hUpRefIdeal : Cert.UpRefIdeal.Facts] : Prop :=
  ∀ (m : (ℓ : Loc Cert.UpRefIdeal.nD Cert.UpRefIdeal.τ Cert.UpRefIdeal.sig) → Buf (Elt Ideal) ℓ) (g : Dev Cert.UpRefIdeal.nD → PrngReg), Pre_UpRefIdeal m →
    θ_run (Cert.UpRefIdeal.defs (F := Ideal)) (onTc (τ := Cert.UpRefIdeal.τ) (Cert.UpRefIdeal.main (F := Ideal))) ⟨m, fun _ => 0, g⟩ (fun r => (∀ c : Dev Cert.UpRefIdeal.nD,
      r.2.mem ((c.tc : Thread Cert.UpRefIdeal.nD Cert.UpRefIdeal.τ).loc Cert.UpRefIdeal.main_arg0) = m ((c.tc : Thread Cert.UpRefIdeal.nD Cert.UpRefIdeal.τ).loc Cert.UpRefIdeal.main_arg0)
      ∧ r.2.mem ((c.tc : Thread Cert.UpRefIdeal.nD Cert.UpRefIdeal.τ).loc Cert.UpRefIdeal.main_arg1) = m ((c.tc : Thread Cert.UpRefIdeal.nD Cert.UpRefIdeal.τ).loc Cert.UpRefIdeal.main_arg1))
      ∧ r.2.sem = fun _ => 0)

def quiescent_H2 [hH2 : Cert.H2.Facts] : Prop :=
  ∀ (m : (ℓ : Loc Cert.H2.nD Cert.H2.τ Cert.H2.sig) → Buf (Elt Bits) ℓ) (g : Dev Cert.H2.nD → PrngReg), Pre_H2 m →
    θ_run (Cert.H2.defs (F := Bits)) (onTc (τ := Cert.H2.τ) (Cert.H2.main (F := Bits))) ⟨m, fun _ => 0, g⟩ (fun r => (∀ c : Dev Cert.H2.nD,
      r.2.mem ((c.tc : Thread Cert.H2.nD Cert.H2.τ).loc Cert.H2.main_arg0) = m ((c.tc : Thread Cert.H2.nD Cert.H2.τ).loc Cert.H2.main_arg0)
      ∧ r.2.mem ((c.tc : Thread Cert.H2.nD Cert.H2.τ).loc Cert.H2.main_arg1) = m ((c.tc : Thread Cert.H2.nD Cert.H2.τ).loc Cert.H2.main_arg1))
      ∧ r.2.sem = fun _ => 0)

def quiescent_H2Ideal [hH2Ideal : Cert.H2Ideal.Facts] : Prop :=
  ∀ (m : (ℓ : Loc Cert.H2Ideal.nD Cert.H2Ideal.τ Cert.H2Ideal.sig) → Buf (Elt Ideal) ℓ) (g : Dev Cert.H2Ideal.nD → PrngReg), Pre_H2Ideal m →
    θ_run (Cert.H2Ideal.defs (F := Ideal)) (onTc (τ := Cert.H2Ideal.τ) (Cert.H2Ideal.main (F := Ideal))) ⟨m, fun _ => 0, g⟩ (fun r => (∀ c : Dev Cert.H2Ideal.nD,
      r.2.mem ((c.tc : Thread Cert.H2Ideal.nD Cert.H2Ideal.τ).loc Cert.H2Ideal.main_arg0) = m ((c.tc : Thread Cert.H2Ideal.nD Cert.H2Ideal.τ).loc Cert.H2Ideal.main_arg0)
      ∧ r.2.mem ((c.tc : Thread Cert.H2Ideal.nD Cert.H2Ideal.τ).loc Cert.H2Ideal.main_arg1) = m ((c.tc : Thread Cert.H2Ideal.nD Cert.H2Ideal.τ).loc Cert.H2Ideal.main_arg1))
      ∧ r.2.sem = fun _ => 0)

def quiescent_H2RefIdeal [hH2RefIdeal : Cert.H2RefIdeal.Facts] : Prop :=
  ∀ (m : (ℓ : Loc Cert.H2RefIdeal.nD Cert.H2RefIdeal.τ Cert.H2RefIdeal.sig) → Buf (Elt Ideal) ℓ) (g : Dev Cert.H2RefIdeal.nD → PrngReg), Pre_H2RefIdeal m →
    θ_run (Cert.H2RefIdeal.defs (F := Ideal)) (onTc (τ := Cert.H2RefIdeal.τ) (Cert.H2RefIdeal.main (F := Ideal))) ⟨m, fun _ => 0, g⟩ (fun r => (∀ c : Dev Cert.H2RefIdeal.nD,
      r.2.mem ((c.tc : Thread Cert.H2RefIdeal.nD Cert.H2RefIdeal.τ).loc Cert.H2RefIdeal.main_arg0) = m ((c.tc : Thread Cert.H2RefIdeal.nD Cert.H2RefIdeal.τ).loc Cert.H2RefIdeal.main_arg0)
      ∧ r.2.mem ((c.tc : Thread Cert.H2RefIdeal.nD Cert.H2RefIdeal.τ).loc Cert.H2RefIdeal.main_arg1) = m ((c.tc : Thread Cert.H2RefIdeal.nD Cert.H2RefIdeal.τ).loc Cert.H2RefIdeal.main_arg1))
      ∧ r.2.sem = fun _ => 0)

def quiescent_Do [hDo : Cert.Do.Facts] : Prop :=
  ∀ (m : (ℓ : Loc Cert.Do.nD Cert.Do.τ Cert.Do.sig) → Buf (Elt Bits) ℓ) (g : Dev Cert.Do.nD → PrngReg), Pre_Do m →
    θ_run (Cert.Do.defs (F := Bits)) (onTc (τ := Cert.Do.τ) (Cert.Do.main (F := Bits))) ⟨m, fun _ => 0, g⟩ (fun r => (∀ c : Dev Cert.Do.nD,
      r.2.mem ((c.tc : Thread Cert.Do.nD Cert.Do.τ).loc Cert.Do.main_arg0) = m ((c.tc : Thread Cert.Do.nD Cert.Do.τ).loc Cert.Do.main_arg0)
      ∧ r.2.mem ((c.tc : Thread Cert.Do.nD Cert.Do.τ).loc Cert.Do.main_arg1) = m ((c.tc : Thread Cert.Do.nD Cert.Do.τ).loc Cert.Do.main_arg1))
      ∧ r.2.sem = fun _ => 0)

def quiescent_DoIdeal [hDoIdeal : Cert.DoIdeal.Facts] : Prop :=
  ∀ (m : (ℓ : Loc Cert.DoIdeal.nD Cert.DoIdeal.τ Cert.DoIdeal.sig) → Buf (Elt Ideal) ℓ) (g : Dev Cert.DoIdeal.nD → PrngReg), Pre_DoIdeal m →
    θ_run (Cert.DoIdeal.defs (F := Ideal)) (onTc (τ := Cert.DoIdeal.τ) (Cert.DoIdeal.main (F := Ideal))) ⟨m, fun _ => 0, g⟩ (fun r => (∀ c : Dev Cert.DoIdeal.nD,
      r.2.mem ((c.tc : Thread Cert.DoIdeal.nD Cert.DoIdeal.τ).loc Cert.DoIdeal.main_arg0) = m ((c.tc : Thread Cert.DoIdeal.nD Cert.DoIdeal.τ).loc Cert.DoIdeal.main_arg0)
      ∧ r.2.mem ((c.tc : Thread Cert.DoIdeal.nD Cert.DoIdeal.τ).loc Cert.DoIdeal.main_arg1) = m ((c.tc : Thread Cert.DoIdeal.nD Cert.DoIdeal.τ).loc Cert.DoIdeal.main_arg1))
      ∧ r.2.sem = fun _ => 0)

def quiescent_DoRefIdeal [hDoRefIdeal : Cert.DoRefIdeal.Facts] : Prop :=
  ∀ (m : (ℓ : Loc Cert.DoRefIdeal.nD Cert.DoRefIdeal.τ Cert.DoRefIdeal.sig) → Buf (Elt Ideal) ℓ) (g : Dev Cert.DoRefIdeal.nD → PrngReg), Pre_DoRefIdeal m →
    θ_run (Cert.DoRefIdeal.defs (F := Ideal)) (onTc (τ := Cert.DoRefIdeal.τ) (Cert.DoRefIdeal.main (F := Ideal))) ⟨m, fun _ => 0, g⟩ (fun r => (∀ c : Dev Cert.DoRefIdeal.nD,
      r.2.mem ((c.tc : Thread Cert.DoRefIdeal.nD Cert.DoRefIdeal.τ).loc Cert.DoRefIdeal.main_arg0) = m ((c.tc : Thread Cert.DoRefIdeal.nD Cert.DoRefIdeal.τ).loc Cert.DoRefIdeal.main_arg0)
      ∧ r.2.mem ((c.tc : Thread Cert.DoRefIdeal.nD Cert.DoRefIdeal.τ).loc Cert.DoRefIdeal.main_arg1) = m ((c.tc : Thread Cert.DoRefIdeal.nD Cert.DoRefIdeal.τ).loc Cert.DoRefIdeal.main_arg1))
      ∧ r.2.sem = fun _ => 0)

def quiescent_Da [hDa : Cert.Da.Facts] : Prop :=
  ∀ (m : (ℓ : Loc Cert.Da.nD Cert.Da.τ Cert.Da.sig) → Buf (Elt Bits) ℓ) (g : Dev Cert.Da.nD → PrngReg), Pre_Da m →
    θ_run (Cert.Da.defs (F := Bits)) (onTc (τ := Cert.Da.τ) (Cert.Da.main (F := Bits))) ⟨m, fun _ => 0, g⟩ (fun r => (∀ c : Dev Cert.Da.nD,
      r.2.mem ((c.tc : Thread Cert.Da.nD Cert.Da.τ).loc Cert.Da.main_arg0) = m ((c.tc : Thread Cert.Da.nD Cert.Da.τ).loc Cert.Da.main_arg0)
      ∧ r.2.mem ((c.tc : Thread Cert.Da.nD Cert.Da.τ).loc Cert.Da.main_arg1) = m ((c.tc : Thread Cert.Da.nD Cert.Da.τ).loc Cert.Da.main_arg1))
      ∧ r.2.sem = fun _ => 0)

def quiescent_DaIdeal [hDaIdeal : Cert.DaIdeal.Facts] : Prop :=
  ∀ (m : (ℓ : Loc Cert.DaIdeal.nD Cert.DaIdeal.τ Cert.DaIdeal.sig) → Buf (Elt Ideal) ℓ) (g : Dev Cert.DaIdeal.nD → PrngReg), Pre_DaIdeal m →
    θ_run (Cert.DaIdeal.defs (F := Ideal)) (onTc (τ := Cert.DaIdeal.τ) (Cert.DaIdeal.main (F := Ideal))) ⟨m, fun _ => 0, g⟩ (fun r => (∀ c : Dev Cert.DaIdeal.nD,
      r.2.mem ((c.tc : Thread Cert.DaIdeal.nD Cert.DaIdeal.τ).loc Cert.DaIdeal.main_arg0) = m ((c.tc : Thread Cert.DaIdeal.nD Cert.DaIdeal.τ).loc Cert.DaIdeal.main_arg0)
      ∧ r.2.mem ((c.tc : Thread Cert.DaIdeal.nD Cert.DaIdeal.τ).loc Cert.DaIdeal.main_arg1) = m ((c.tc : Thread Cert.DaIdeal.nD Cert.DaIdeal.τ).loc Cert.DaIdeal.main_arg1))
      ∧ r.2.sem = fun _ => 0)

def quiescent_DaRefIdeal [hDaRefIdeal : Cert.DaRefIdeal.Facts] : Prop :=
  ∀ (m : (ℓ : Loc Cert.DaRefIdeal.nD Cert.DaRefIdeal.τ Cert.DaRefIdeal.sig) → Buf (Elt Ideal) ℓ) (g : Dev Cert.DaRefIdeal.nD → PrngReg), Pre_DaRefIdeal m →
    θ_run (Cert.DaRefIdeal.defs (F := Ideal)) (onTc (τ := Cert.DaRefIdeal.τ) (Cert.DaRefIdeal.main (F := Ideal))) ⟨m, fun _ => 0, g⟩ (fun r => (∀ c : Dev Cert.DaRefIdeal.nD,
      r.2.mem ((c.tc : Thread Cert.DaRefIdeal.nD Cert.DaRefIdeal.τ).loc Cert.DaRefIdeal.main_arg0) = m ((c.tc : Thread Cert.DaRefIdeal.nD Cert.DaRefIdeal.τ).loc Cert.DaRefIdeal.main_arg0)
      ∧ r.2.mem ((c.tc : Thread Cert.DaRefIdeal.nD Cert.DaRefIdeal.τ).loc Cert.DaRefIdeal.main_arg1) = m ((c.tc : Thread Cert.DaRefIdeal.nD Cert.DaRefIdeal.τ).loc Cert.DaRefIdeal.main_arg1))
      ∧ r.2.sem = fun _ => 0)

def quiescent_Dkv [hDkv : Cert.Dkv.Facts] : Prop :=
  ∀ (m : (ℓ : Loc Cert.Dkv.nD Cert.Dkv.τ Cert.Dkv.sig) → Buf (Elt Bits) ℓ) (g : Dev Cert.Dkv.nD → PrngReg), Pre_Dkv m →
    θ_run (Cert.Dkv.defs (F := Bits)) (onTc (τ := Cert.Dkv.τ) (Cert.Dkv.main (F := Bits))) ⟨m, fun _ => 0, g⟩ (fun r => (∀ c : Dev Cert.Dkv.nD,
      r.2.mem ((c.tc : Thread Cert.Dkv.nD Cert.Dkv.τ).loc Cert.Dkv.main_arg0) = m ((c.tc : Thread Cert.Dkv.nD Cert.Dkv.τ).loc Cert.Dkv.main_arg0)
      ∧ r.2.mem ((c.tc : Thread Cert.Dkv.nD Cert.Dkv.τ).loc Cert.Dkv.main_arg1) = m ((c.tc : Thread Cert.Dkv.nD Cert.Dkv.τ).loc Cert.Dkv.main_arg1))
      ∧ r.2.sem = fun _ => 0)

def quiescent_DkvIdeal [hDkvIdeal : Cert.DkvIdeal.Facts] : Prop :=
  ∀ (m : (ℓ : Loc Cert.DkvIdeal.nD Cert.DkvIdeal.τ Cert.DkvIdeal.sig) → Buf (Elt Ideal) ℓ) (g : Dev Cert.DkvIdeal.nD → PrngReg), Pre_DkvIdeal m →
    θ_run (Cert.DkvIdeal.defs (F := Ideal)) (onTc (τ := Cert.DkvIdeal.τ) (Cert.DkvIdeal.main (F := Ideal))) ⟨m, fun _ => 0, g⟩ (fun r => (∀ c : Dev Cert.DkvIdeal.nD,
      r.2.mem ((c.tc : Thread Cert.DkvIdeal.nD Cert.DkvIdeal.τ).loc Cert.DkvIdeal.main_arg0) = m ((c.tc : Thread Cert.DkvIdeal.nD Cert.DkvIdeal.τ).loc Cert.DkvIdeal.main_arg0)
      ∧ r.2.mem ((c.tc : Thread Cert.DkvIdeal.nD Cert.DkvIdeal.τ).loc Cert.DkvIdeal.main_arg1) = m ((c.tc : Thread Cert.DkvIdeal.nD Cert.DkvIdeal.τ).loc Cert.DkvIdeal.main_arg1))
      ∧ r.2.sem = fun _ => 0)

def quiescent_DkvRefIdeal [hDkvRefIdeal : Cert.DkvRefIdeal.Facts] : Prop :=
  ∀ (m : (ℓ : Loc Cert.DkvRefIdeal.nD Cert.DkvRefIdeal.τ Cert.DkvRefIdeal.sig) → Buf (Elt Ideal) ℓ) (g : Dev Cert.DkvRefIdeal.nD → PrngReg), Pre_DkvRefIdeal m →
    θ_run (Cert.DkvRefIdeal.defs (F := Ideal)) (onTc (τ := Cert.DkvRefIdeal.τ) (Cert.DkvRefIdeal.main (F := Ideal))) ⟨m, fun _ => 0, g⟩ (fun r => (∀ c : Dev Cert.DkvRefIdeal.nD,
      r.2.mem ((c.tc : Thread Cert.DkvRefIdeal.nD Cert.DkvRefIdeal.τ).loc Cert.DkvRefIdeal.main_arg0) = m ((c.tc : Thread Cert.DkvRefIdeal.nD Cert.DkvRefIdeal.τ).loc Cert.DkvRefIdeal.main_arg0)
      ∧ r.2.mem ((c.tc : Thread Cert.DkvRefIdeal.nD Cert.DkvRefIdeal.τ).loc Cert.DkvRefIdeal.main_arg1) = m ((c.tc : Thread Cert.DkvRefIdeal.nD Cert.DkvRefIdeal.τ).loc Cert.DkvRefIdeal.main_arg1))
      ∧ r.2.sem = fun _ => 0)

def quiescent_Go [hGo : Cert.Go.Facts] : Prop :=
  ∀ (m : (ℓ : Loc Cert.Go.nD Cert.Go.τ Cert.Go.sig) → Buf (Elt Bits) ℓ) (g : Dev Cert.Go.nD → PrngReg), Pre_Go m →
    θ_run (Cert.Go.defs (F := Bits)) (onTc (τ := Cert.Go.τ) (Cert.Go.main (F := Bits))) ⟨m, fun _ => 0, g⟩ (fun r => (∀ c : Dev Cert.Go.nD,
      r.2.mem ((c.tc : Thread Cert.Go.nD Cert.Go.τ).loc Cert.Go.main_arg0) = m ((c.tc : Thread Cert.Go.nD Cert.Go.τ).loc Cert.Go.main_arg0)
      ∧ r.2.mem ((c.tc : Thread Cert.Go.nD Cert.Go.τ).loc Cert.Go.main_arg1) = m ((c.tc : Thread Cert.Go.nD Cert.Go.τ).loc Cert.Go.main_arg1))
      ∧ r.2.sem = fun _ => 0)

def quiescent_GoIdeal [hGoIdeal : Cert.GoIdeal.Facts] : Prop :=
  ∀ (m : (ℓ : Loc Cert.GoIdeal.nD Cert.GoIdeal.τ Cert.GoIdeal.sig) → Buf (Elt Ideal) ℓ) (g : Dev Cert.GoIdeal.nD → PrngReg), Pre_GoIdeal m →
    θ_run (Cert.GoIdeal.defs (F := Ideal)) (onTc (τ := Cert.GoIdeal.τ) (Cert.GoIdeal.main (F := Ideal))) ⟨m, fun _ => 0, g⟩ (fun r => (∀ c : Dev Cert.GoIdeal.nD,
      r.2.mem ((c.tc : Thread Cert.GoIdeal.nD Cert.GoIdeal.τ).loc Cert.GoIdeal.main_arg0) = m ((c.tc : Thread Cert.GoIdeal.nD Cert.GoIdeal.τ).loc Cert.GoIdeal.main_arg0)
      ∧ r.2.mem ((c.tc : Thread Cert.GoIdeal.nD Cert.GoIdeal.τ).loc Cert.GoIdeal.main_arg1) = m ((c.tc : Thread Cert.GoIdeal.nD Cert.GoIdeal.τ).loc Cert.GoIdeal.main_arg1))
      ∧ r.2.sem = fun _ => 0)

def quiescent_GoRefIdeal [hGoRefIdeal : Cert.GoRefIdeal.Facts] : Prop :=
  ∀ (m : (ℓ : Loc Cert.GoRefIdeal.nD Cert.GoRefIdeal.τ Cert.GoRefIdeal.sig) → Buf (Elt Ideal) ℓ) (g : Dev Cert.GoRefIdeal.nD → PrngReg), Pre_GoRefIdeal m →
    θ_run (Cert.GoRefIdeal.defs (F := Ideal)) (onTc (τ := Cert.GoRefIdeal.τ) (Cert.GoRefIdeal.main (F := Ideal))) ⟨m, fun _ => 0, g⟩ (fun r => (∀ c : Dev Cert.GoRefIdeal.nD,
      r.2.mem ((c.tc : Thread Cert.GoRefIdeal.nD Cert.GoRefIdeal.τ).loc Cert.GoRefIdeal.main_arg0) = m ((c.tc : Thread Cert.GoRefIdeal.nD Cert.GoRefIdeal.τ).loc Cert.GoRefIdeal.main_arg0)
      ∧ r.2.mem ((c.tc : Thread Cert.GoRefIdeal.nD Cert.GoRefIdeal.τ).loc Cert.GoRefIdeal.main_arg1) = m ((c.tc : Thread Cert.GoRefIdeal.nD Cert.GoRefIdeal.τ).loc Cert.GoRefIdeal.main_arg1))
      ∧ r.2.sem = fun _ => 0)

def quiescent_Ga [hGa : Cert.Ga.Facts] : Prop :=
  ∀ (m : (ℓ : Loc Cert.Ga.nD Cert.Ga.τ Cert.Ga.sig) → Buf (Elt Bits) ℓ) (g : Dev Cert.Ga.nD → PrngReg), Pre_Ga m →
    θ_run (Cert.Ga.defs (F := Bits)) (onTc (τ := Cert.Ga.τ) (Cert.Ga.main (F := Bits))) ⟨m, fun _ => 0, g⟩ (fun r => (∀ c : Dev Cert.Ga.nD,
      r.2.mem ((c.tc : Thread Cert.Ga.nD Cert.Ga.τ).loc Cert.Ga.main_arg0) = m ((c.tc : Thread Cert.Ga.nD Cert.Ga.τ).loc Cert.Ga.main_arg0)
      ∧ r.2.mem ((c.tc : Thread Cert.Ga.nD Cert.Ga.τ).loc Cert.Ga.main_arg1) = m ((c.tc : Thread Cert.Ga.nD Cert.Ga.τ).loc Cert.Ga.main_arg1))
      ∧ r.2.sem = fun _ => 0)

def quiescent_GaIdeal [hGaIdeal : Cert.GaIdeal.Facts] : Prop :=
  ∀ (m : (ℓ : Loc Cert.GaIdeal.nD Cert.GaIdeal.τ Cert.GaIdeal.sig) → Buf (Elt Ideal) ℓ) (g : Dev Cert.GaIdeal.nD → PrngReg), Pre_GaIdeal m →
    θ_run (Cert.GaIdeal.defs (F := Ideal)) (onTc (τ := Cert.GaIdeal.τ) (Cert.GaIdeal.main (F := Ideal))) ⟨m, fun _ => 0, g⟩ (fun r => (∀ c : Dev Cert.GaIdeal.nD,
      r.2.mem ((c.tc : Thread Cert.GaIdeal.nD Cert.GaIdeal.τ).loc Cert.GaIdeal.main_arg0) = m ((c.tc : Thread Cert.GaIdeal.nD Cert.GaIdeal.τ).loc Cert.GaIdeal.main_arg0)
      ∧ r.2.mem ((c.tc : Thread Cert.GaIdeal.nD Cert.GaIdeal.τ).loc Cert.GaIdeal.main_arg1) = m ((c.tc : Thread Cert.GaIdeal.nD Cert.GaIdeal.τ).loc Cert.GaIdeal.main_arg1))
      ∧ r.2.sem = fun _ => 0)

def quiescent_GaRefIdeal [hGaRefIdeal : Cert.GaRefIdeal.Facts] : Prop :=
  ∀ (m : (ℓ : Loc Cert.GaRefIdeal.nD Cert.GaRefIdeal.τ Cert.GaRefIdeal.sig) → Buf (Elt Ideal) ℓ) (g : Dev Cert.GaRefIdeal.nD → PrngReg), Pre_GaRefIdeal m →
    θ_run (Cert.GaRefIdeal.defs (F := Ideal)) (onTc (τ := Cert.GaRefIdeal.τ) (Cert.GaRefIdeal.main (F := Ideal))) ⟨m, fun _ => 0, g⟩ (fun r => (∀ c : Dev Cert.GaRefIdeal.nD,
      r.2.mem ((c.tc : Thread Cert.GaRefIdeal.nD Cert.GaRefIdeal.τ).loc Cert.GaRefIdeal.main_arg0) = m ((c.tc : Thread Cert.GaRefIdeal.nD Cert.GaRefIdeal.τ).loc Cert.GaRefIdeal.main_arg0)
      ∧ r.2.mem ((c.tc : Thread Cert.GaRefIdeal.nD Cert.GaRefIdeal.τ).loc Cert.GaRefIdeal.main_arg1) = m ((c.tc : Thread Cert.GaRefIdeal.nD Cert.GaRefIdeal.τ).loc Cert.GaRefIdeal.main_arg1))
      ∧ r.2.sem = fun _ => 0)

def quiescent_Gkv [hGkv : Cert.Gkv.Facts] : Prop :=
  ∀ (m : (ℓ : Loc Cert.Gkv.nD Cert.Gkv.τ Cert.Gkv.sig) → Buf (Elt Bits) ℓ) (g : Dev Cert.Gkv.nD → PrngReg), Pre_Gkv m →
    θ_run (Cert.Gkv.defs (F := Bits)) (onTc (τ := Cert.Gkv.τ) (Cert.Gkv.main (F := Bits))) ⟨m, fun _ => 0, g⟩ (fun r => (∀ c : Dev Cert.Gkv.nD,
      r.2.mem ((c.tc : Thread Cert.Gkv.nD Cert.Gkv.τ).loc Cert.Gkv.main_arg0) = m ((c.tc : Thread Cert.Gkv.nD Cert.Gkv.τ).loc Cert.Gkv.main_arg0)
      ∧ r.2.mem ((c.tc : Thread Cert.Gkv.nD Cert.Gkv.τ).loc Cert.Gkv.main_arg1) = m ((c.tc : Thread Cert.Gkv.nD Cert.Gkv.τ).loc Cert.Gkv.main_arg1))
      ∧ r.2.sem = fun _ => 0)

def quiescent_GkvIdeal [hGkvIdeal : Cert.GkvIdeal.Facts] : Prop :=
  ∀ (m : (ℓ : Loc Cert.GkvIdeal.nD Cert.GkvIdeal.τ Cert.GkvIdeal.sig) → Buf (Elt Ideal) ℓ) (g : Dev Cert.GkvIdeal.nD → PrngReg), Pre_GkvIdeal m →
    θ_run (Cert.GkvIdeal.defs (F := Ideal)) (onTc (τ := Cert.GkvIdeal.τ) (Cert.GkvIdeal.main (F := Ideal))) ⟨m, fun _ => 0, g⟩ (fun r => (∀ c : Dev Cert.GkvIdeal.nD,
      r.2.mem ((c.tc : Thread Cert.GkvIdeal.nD Cert.GkvIdeal.τ).loc Cert.GkvIdeal.main_arg0) = m ((c.tc : Thread Cert.GkvIdeal.nD Cert.GkvIdeal.τ).loc Cert.GkvIdeal.main_arg0)
      ∧ r.2.mem ((c.tc : Thread Cert.GkvIdeal.nD Cert.GkvIdeal.τ).loc Cert.GkvIdeal.main_arg1) = m ((c.tc : Thread Cert.GkvIdeal.nD Cert.GkvIdeal.τ).loc Cert.GkvIdeal.main_arg1))
      ∧ r.2.sem = fun _ => 0)

def quiescent_GkvRefIdeal [hGkvRefIdeal : Cert.GkvRefIdeal.Facts] : Prop :=
  ∀ (m : (ℓ : Loc Cert.GkvRefIdeal.nD Cert.GkvRefIdeal.τ Cert.GkvRefIdeal.sig) → Buf (Elt Ideal) ℓ) (g : Dev Cert.GkvRefIdeal.nD → PrngReg), Pre_GkvRefIdeal m →
    θ_run (Cert.GkvRefIdeal.defs (F := Ideal)) (onTc (τ := Cert.GkvRefIdeal.τ) (Cert.GkvRefIdeal.main (F := Ideal))) ⟨m, fun _ => 0, g⟩ (fun r => (∀ c : Dev Cert.GkvRefIdeal.nD,
      r.2.mem ((c.tc : Thread Cert.GkvRefIdeal.nD Cert.GkvRefIdeal.τ).loc Cert.GkvRefIdeal.main_arg0) = m ((c.tc : Thread Cert.GkvRefIdeal.nD Cert.GkvRefIdeal.τ).loc Cert.GkvRefIdeal.main_arg0)
      ∧ r.2.mem ((c.tc : Thread Cert.GkvRefIdeal.nD Cert.GkvRefIdeal.τ).loc Cert.GkvRefIdeal.main_arg1) = m ((c.tc : Thread Cert.GkvRefIdeal.nD Cert.GkvRefIdeal.τ).loc Cert.GkvRefIdeal.main_arg1))
      ∧ r.2.sem = fun _ => 0)

def quiescent_Gin [hGin : Cert.Gin.Facts] : Prop :=
  ∀ (m : (ℓ : Loc Cert.Gin.nD Cert.Gin.τ Cert.Gin.sig) → Buf (Elt Bits) ℓ) (g : Dev Cert.Gin.nD → PrngReg), Pre_Gin m →
    θ_run (Cert.Gin.defs (F := Bits)) (onTc (τ := Cert.Gin.τ) (Cert.Gin.main (F := Bits))) ⟨m, fun _ => 0, g⟩ (fun r => (∀ c : Dev Cert.Gin.nD,
      r.2.mem ((c.tc : Thread Cert.Gin.nD Cert.Gin.τ).loc Cert.Gin.main_arg0) = m ((c.tc : Thread Cert.Gin.nD Cert.Gin.τ).loc Cert.Gin.main_arg0)
      ∧ r.2.mem ((c.tc : Thread Cert.Gin.nD Cert.Gin.τ).loc Cert.Gin.main_arg1) = m ((c.tc : Thread Cert.Gin.nD Cert.Gin.τ).loc Cert.Gin.main_arg1))
      ∧ r.2.sem = fun _ => 0)

def quiescent_GinIdeal [hGinIdeal : Cert.GinIdeal.Facts] : Prop :=
  ∀ (m : (ℓ : Loc Cert.GinIdeal.nD Cert.GinIdeal.τ Cert.GinIdeal.sig) → Buf (Elt Ideal) ℓ) (g : Dev Cert.GinIdeal.nD → PrngReg), Pre_GinIdeal m →
    θ_run (Cert.GinIdeal.defs (F := Ideal)) (onTc (τ := Cert.GinIdeal.τ) (Cert.GinIdeal.main (F := Ideal))) ⟨m, fun _ => 0, g⟩ (fun r => (∀ c : Dev Cert.GinIdeal.nD,
      r.2.mem ((c.tc : Thread Cert.GinIdeal.nD Cert.GinIdeal.τ).loc Cert.GinIdeal.main_arg0) = m ((c.tc : Thread Cert.GinIdeal.nD Cert.GinIdeal.τ).loc Cert.GinIdeal.main_arg0)
      ∧ r.2.mem ((c.tc : Thread Cert.GinIdeal.nD Cert.GinIdeal.τ).loc Cert.GinIdeal.main_arg1) = m ((c.tc : Thread Cert.GinIdeal.nD Cert.GinIdeal.τ).loc Cert.GinIdeal.main_arg1))
      ∧ r.2.sem = fun _ => 0)

def quiescent_GinRefIdeal [hGinRefIdeal : Cert.GinRefIdeal.Facts] : Prop :=
  ∀ (m : (ℓ : Loc Cert.GinRefIdeal.nD Cert.GinRefIdeal.τ Cert.GinRefIdeal.sig) → Buf (Elt Ideal) ℓ) (g : Dev Cert.GinRefIdeal.nD → PrngReg), Pre_GinRefIdeal m →
    θ_run (Cert.GinRefIdeal.defs (F := Ideal)) (onTc (τ := Cert.GinRefIdeal.τ) (Cert.GinRefIdeal.main (F := Ideal))) ⟨m, fun _ => 0, g⟩ (fun r => (∀ c : Dev Cert.GinRefIdeal.nD,
      r.2.mem ((c.tc : Thread Cert.GinRefIdeal.nD Cert.GinRefIdeal.τ).loc Cert.GinRefIdeal.main_arg0) = m ((c.tc : Thread Cert.GinRefIdeal.nD Cert.GinRefIdeal.τ).loc Cert.GinRefIdeal.main_arg0)
      ∧ r.2.mem ((c.tc : Thread Cert.GinRefIdeal.nD Cert.GinRefIdeal.τ).loc Cert.GinRefIdeal.main_arg1) = m ((c.tc : Thread Cert.GinRefIdeal.nD Cert.GinRefIdeal.τ).loc Cert.GinRefIdeal.main_arg1))
      ∧ r.2.sem = fun _ => 0)

def quiescent_Fb [hFb : Cert.Fb.Facts] : Prop :=
  ∀ (m : (ℓ : Loc Cert.Fb.nD Cert.Fb.τ Cert.Fb.sig) → Buf (Elt Bits) ℓ) (g : Dev Cert.Fb.nD → PrngReg), Pre_Fb m →
    θ_run (Cert.Fb.defs (F := Bits)) (onTc (τ := Cert.Fb.τ) (Cert.Fb.main (F := Bits))) ⟨m, fun _ => 0, g⟩ (fun r => (∀ c : Dev Cert.Fb.nD,
      r.2.mem ((c.tc : Thread Cert.Fb.nD Cert.Fb.τ).loc Cert.Fb.main_arg0) = m ((c.tc : Thread Cert.Fb.nD Cert.Fb.τ).loc Cert.Fb.main_arg0)
      ∧ r.2.mem ((c.tc : Thread Cert.Fb.nD Cert.Fb.τ).loc Cert.Fb.main_arg1) = m ((c.tc : Thread Cert.Fb.nD Cert.Fb.τ).loc Cert.Fb.main_arg1))
      ∧ r.2.sem = fun _ => 0)

def quiescent_FbIdeal [hFbIdeal : Cert.FbIdeal.Facts] : Prop :=
  ∀ (m : (ℓ : Loc Cert.FbIdeal.nD Cert.FbIdeal.τ Cert.FbIdeal.sig) → Buf (Elt Ideal) ℓ) (g : Dev Cert.FbIdeal.nD → PrngReg), Pre_FbIdeal m →
    θ_run (Cert.FbIdeal.defs (F := Ideal)) (onTc (τ := Cert.FbIdeal.τ) (Cert.FbIdeal.main (F := Ideal))) ⟨m, fun _ => 0, g⟩ (fun r => (∀ c : Dev Cert.FbIdeal.nD,
      r.2.mem ((c.tc : Thread Cert.FbIdeal.nD Cert.FbIdeal.τ).loc Cert.FbIdeal.main_arg0) = m ((c.tc : Thread Cert.FbIdeal.nD Cert.FbIdeal.τ).loc Cert.FbIdeal.main_arg0)
      ∧ r.2.mem ((c.tc : Thread Cert.FbIdeal.nD Cert.FbIdeal.τ).loc Cert.FbIdeal.main_arg1) = m ((c.tc : Thread Cert.FbIdeal.nD Cert.FbIdeal.τ).loc Cert.FbIdeal.main_arg1))
      ∧ r.2.sem = fun _ => 0)

def quiescent_FbRefIdeal [hFbRefIdeal : Cert.FbRefIdeal.Facts] : Prop :=
  ∀ (m : (ℓ : Loc Cert.FbRefIdeal.nD Cert.FbRefIdeal.τ Cert.FbRefIdeal.sig) → Buf (Elt Ideal) ℓ) (g : Dev Cert.FbRefIdeal.nD → PrngReg), Pre_FbRefIdeal m →
    θ_run (Cert.FbRefIdeal.defs (F := Ideal)) (onTc (τ := Cert.FbRefIdeal.τ) (Cert.FbRefIdeal.main (F := Ideal))) ⟨m, fun _ => 0, g⟩ (fun r => (∀ c : Dev Cert.FbRefIdeal.nD,
      r.2.mem ((c.tc : Thread Cert.FbRefIdeal.nD Cert.FbRefIdeal.τ).loc Cert.FbRefIdeal.main_arg0) = m ((c.tc : Thread Cert.FbRefIdeal.nD Cert.FbRefIdeal.τ).loc Cert.FbRefIdeal.main_arg0)
      ∧ r.2.mem ((c.tc : Thread Cert.FbRefIdeal.nD Cert.FbRefIdeal.τ).loc Cert.FbRefIdeal.main_arg1) = m ((c.tc : Thread Cert.FbRefIdeal.nD Cert.FbRefIdeal.τ).loc Cert.FbRefIdeal.main_arg1))
      ∧ r.2.sem = fun _ => 0)

def quiescent_Fa [hFa : Cert.Fa.Facts] : Prop :=
  ∀ (m : (ℓ : Loc Cert.Fa.nD Cert.Fa.τ Cert.Fa.sig) → Buf (Elt Bits) ℓ) (g : Dev Cert.Fa.nD → PrngReg), Pre_Fa m →
    θ_run (Cert.Fa.defs (F := Bits)) (onTc (τ := Cert.Fa.τ) (Cert.Fa.main (F := Bits))) ⟨m, fun _ => 0, g⟩ (fun r => (∀ c : Dev Cert.Fa.nD,
      r.2.mem ((c.tc : Thread Cert.Fa.nD Cert.Fa.τ).loc Cert.Fa.main_arg0) = m ((c.tc : Thread Cert.Fa.nD Cert.Fa.τ).loc Cert.Fa.main_arg0)
      ∧ r.2.mem ((c.tc : Thread Cert.Fa.nD Cert.Fa.τ).loc Cert.Fa.main_arg1) = m ((c.tc : Thread Cert.Fa.nD Cert.Fa.τ).loc Cert.Fa.main_arg1))
      ∧ r.2.sem = fun _ => 0)

def quiescent_FaIdeal [hFaIdeal : Cert.FaIdeal.Facts] : Prop :=
  ∀ (m : (ℓ : Loc Cert.FaIdeal.nD Cert.FaIdeal.τ Cert.FaIdeal.sig) → Buf (Elt Ideal) ℓ) (g : Dev Cert.FaIdeal.nD → PrngReg), Pre_FaIdeal m →
    θ_run (Cert.FaIdeal.defs (F := Ideal)) (onTc (τ := Cert.FaIdeal.τ) (Cert.FaIdeal.main (F := Ideal))) ⟨m, fun _ => 0, g⟩ (fun r => (∀ c : Dev Cert.FaIdeal.nD,
      r.2.mem ((c.tc : Thread Cert.FaIdeal.nD Cert.FaIdeal.τ).loc Cert.FaIdeal.main_arg0) = m ((c.tc : Thread Cert.FaIdeal.nD Cert.FaIdeal.τ).loc Cert.FaIdeal.main_arg0)
      ∧ r.2.mem ((c.tc : Thread Cert.FaIdeal.nD Cert.FaIdeal.τ).loc Cert.FaIdeal.main_arg1) = m ((c.tc : Thread Cert.FaIdeal.nD Cert.FaIdeal.τ).loc Cert.FaIdeal.main_arg1))
      ∧ r.2.sem = fun _ => 0)

def quiescent_FaRefIdeal [hFaRefIdeal : Cert.FaRefIdeal.Facts] : Prop :=
  ∀ (m : (ℓ : Loc Cert.FaRefIdeal.nD Cert.FaRefIdeal.τ Cert.FaRefIdeal.sig) → Buf (Elt Ideal) ℓ) (g : Dev Cert.FaRefIdeal.nD → PrngReg), Pre_FaRefIdeal m →
    θ_run (Cert.FaRefIdeal.defs (F := Ideal)) (onTc (τ := Cert.FaRefIdeal.τ) (Cert.FaRefIdeal.main (F := Ideal))) ⟨m, fun _ => 0, g⟩ (fun r => (∀ c : Dev Cert.FaRefIdeal.nD,
      r.2.mem ((c.tc : Thread Cert.FaRefIdeal.nD Cert.FaRefIdeal.τ).loc Cert.FaRefIdeal.main_arg0) = m ((c.tc : Thread Cert.FaRefIdeal.nD Cert.FaRefIdeal.τ).loc Cert.FaRefIdeal.main_arg0)
      ∧ r.2.mem ((c.tc : Thread Cert.FaRefIdeal.nD Cert.FaRefIdeal.τ).loc Cert.FaRefIdeal.main_arg1) = m ((c.tc : Thread Cert.FaRefIdeal.nD Cert.FaRefIdeal.τ).loc Cert.FaRefIdeal.main_arg1))
      ∧ r.2.sem = fun _ => 0)

def quiescent_Fkv [hFkv : Cert.Fkv.Facts] : Prop :=
  ∀ (m : (ℓ : Loc Cert.Fkv.nD Cert.Fkv.τ Cert.Fkv.sig) → Buf (Elt Bits) ℓ) (g : Dev Cert.Fkv.nD → PrngReg), Pre_Fkv m →
    θ_run (Cert.Fkv.defs (F := Bits)) (onTc (τ := Cert.Fkv.τ) (Cert.Fkv.main (F := Bits))) ⟨m, fun _ => 0, g⟩ (fun r => (∀ c : Dev Cert.Fkv.nD,
      r.2.mem ((c.tc : Thread Cert.Fkv.nD Cert.Fkv.τ).loc Cert.Fkv.main_arg0) = m ((c.tc : Thread Cert.Fkv.nD Cert.Fkv.τ).loc Cert.Fkv.main_arg0)
      ∧ r.2.mem ((c.tc : Thread Cert.Fkv.nD Cert.Fkv.τ).loc Cert.Fkv.main_arg1) = m ((c.tc : Thread Cert.Fkv.nD Cert.Fkv.τ).loc Cert.Fkv.main_arg1))
      ∧ r.2.sem = fun _ => 0)

def quiescent_FkvIdeal [hFkvIdeal : Cert.FkvIdeal.Facts] : Prop :=
  ∀ (m : (ℓ : Loc Cert.FkvIdeal.nD Cert.FkvIdeal.τ Cert.FkvIdeal.sig) → Buf (Elt Ideal) ℓ) (g : Dev Cert.FkvIdeal.nD → PrngReg), Pre_FkvIdeal m →
    θ_run (Cert.FkvIdeal.defs (F := Ideal)) (onTc (τ := Cert.FkvIdeal.τ) (Cert.FkvIdeal.main (F := Ideal))) ⟨m, fun _ => 0, g⟩ (fun r => (∀ c : Dev Cert.FkvIdeal.nD,
      r.2.mem ((c.tc : Thread Cert.FkvIdeal.nD Cert.FkvIdeal.τ).loc Cert.FkvIdeal.main_arg0) = m ((c.tc : Thread Cert.FkvIdeal.nD Cert.FkvIdeal.τ).loc Cert.FkvIdeal.main_arg0)
      ∧ r.2.mem ((c.tc : Thread Cert.FkvIdeal.nD Cert.FkvIdeal.τ).loc Cert.FkvIdeal.main_arg1) = m ((c.tc : Thread Cert.FkvIdeal.nD Cert.FkvIdeal.τ).loc Cert.FkvIdeal.main_arg1))
      ∧ r.2.sem = fun _ => 0)

def quiescent_FkvRefIdeal [hFkvRefIdeal : Cert.FkvRefIdeal.Facts] : Prop :=
  ∀ (m : (ℓ : Loc Cert.FkvRefIdeal.nD Cert.FkvRefIdeal.τ Cert.FkvRefIdeal.sig) → Buf (Elt Ideal) ℓ) (g : Dev Cert.FkvRefIdeal.nD → PrngReg), Pre_FkvRefIdeal m →
    θ_run (Cert.FkvRefIdeal.defs (F := Ideal)) (onTc (τ := Cert.FkvRefIdeal.τ) (Cert.FkvRefIdeal.main (F := Ideal))) ⟨m, fun _ => 0, g⟩ (fun r => (∀ c : Dev Cert.FkvRefIdeal.nD,
      r.2.mem ((c.tc : Thread Cert.FkvRefIdeal.nD Cert.FkvRefIdeal.τ).loc Cert.FkvRefIdeal.main_arg0) = m ((c.tc : Thread Cert.FkvRefIdeal.nD Cert.FkvRefIdeal.τ).loc Cert.FkvRefIdeal.main_arg0)
      ∧ r.2.mem ((c.tc : Thread Cert.FkvRefIdeal.nD Cert.FkvRefIdeal.τ).loc Cert.FkvRefIdeal.main_arg1) = m ((c.tc : Thread Cert.FkvRefIdeal.nD Cert.FkvRefIdeal.τ).loc Cert.FkvRefIdeal.main_arg1))
      ∧ r.2.sem = fun _ => 0)

def quiescent_Fo [hFo : Cert.Fo.Facts] : Prop :=
  ∀ (m : (ℓ : Loc Cert.Fo.nD Cert.Fo.τ Cert.Fo.sig) → Buf (Elt Bits) ℓ) (g : Dev Cert.Fo.nD → PrngReg), Pre_Fo m →
    θ_run (Cert.Fo.defs (F := Bits)) (onTc (τ := Cert.Fo.τ) (Cert.Fo.main (F := Bits))) ⟨m, fun _ => 0, g⟩ (fun r => (∀ c : Dev Cert.Fo.nD,
      r.2.mem ((c.tc : Thread Cert.Fo.nD Cert.Fo.τ).loc Cert.Fo.main_arg0) = m ((c.tc : Thread Cert.Fo.nD Cert.Fo.τ).loc Cert.Fo.main_arg0)
      ∧ r.2.mem ((c.tc : Thread Cert.Fo.nD Cert.Fo.τ).loc Cert.Fo.main_arg1) = m ((c.tc : Thread Cert.Fo.nD Cert.Fo.τ).loc Cert.Fo.main_arg1)
      ∧ r.2.mem ((c.tc : Thread Cert.Fo.nD Cert.Fo.τ).loc Cert.Fo.main_arg2) = m ((c.tc : Thread Cert.Fo.nD Cert.Fo.τ).loc Cert.Fo.main_arg2))
      ∧ r.2.sem = fun _ => 0)

def quiescent_FoIdeal [hFoIdeal : Cert.FoIdeal.Facts] : Prop :=
  ∀ (m : (ℓ : Loc Cert.FoIdeal.nD Cert.FoIdeal.τ Cert.FoIdeal.sig) → Buf (Elt Ideal) ℓ) (g : Dev Cert.FoIdeal.nD → PrngReg), Pre_FoIdeal m →
    θ_run (Cert.FoIdeal.defs (F := Ideal)) (onTc (τ := Cert.FoIdeal.τ) (Cert.FoIdeal.main (F := Ideal))) ⟨m, fun _ => 0, g⟩ (fun r => (∀ c : Dev Cert.FoIdeal.nD,
      r.2.mem ((c.tc : Thread Cert.FoIdeal.nD Cert.FoIdeal.τ).loc Cert.FoIdeal.main_arg0) = m ((c.tc : Thread Cert.FoIdeal.nD Cert.FoIdeal.τ).loc Cert.FoIdeal.main_arg0)
      ∧ r.2.mem ((c.tc : Thread Cert.FoIdeal.nD Cert.FoIdeal.τ).loc Cert.FoIdeal.main_arg1) = m ((c.tc : Thread Cert.FoIdeal.nD Cert.FoIdeal.τ).loc Cert.FoIdeal.main_arg1)
      ∧ r.2.mem ((c.tc : Thread Cert.FoIdeal.nD Cert.FoIdeal.τ).loc Cert.FoIdeal.main_arg2) = m ((c.tc : Thread Cert.FoIdeal.nD Cert.FoIdeal.τ).loc Cert.FoIdeal.main_arg2))
      ∧ r.2.sem = fun _ => 0)

def quiescent_FoRefIdeal [hFoRefIdeal : Cert.FoRefIdeal.Facts] : Prop :=
  ∀ (m : (ℓ : Loc Cert.FoRefIdeal.nD Cert.FoRefIdeal.τ Cert.FoRefIdeal.sig) → Buf (Elt Ideal) ℓ) (g : Dev Cert.FoRefIdeal.nD → PrngReg), Pre_FoRefIdeal m →
    θ_run (Cert.FoRefIdeal.defs (F := Ideal)) (onTc (τ := Cert.FoRefIdeal.τ) (Cert.FoRefIdeal.main (F := Ideal))) ⟨m, fun _ => 0, g⟩ (fun r => (∀ c : Dev Cert.FoRefIdeal.nD,
      r.2.mem ((c.tc : Thread Cert.FoRefIdeal.nD Cert.FoRefIdeal.τ).loc Cert.FoRefIdeal.main_arg0) = m ((c.tc : Thread Cert.FoRefIdeal.nD Cert.FoRefIdeal.τ).loc Cert.FoRefIdeal.main_arg0)
      ∧ r.2.mem ((c.tc : Thread Cert.FoRefIdeal.nD Cert.FoRefIdeal.τ).loc Cert.FoRefIdeal.main_arg1) = m ((c.tc : Thread Cert.FoRefIdeal.nD Cert.FoRefIdeal.τ).loc Cert.FoRefIdeal.main_arg1)
      ∧ r.2.mem ((c.tc : Thread Cert.FoRefIdeal.nD Cert.FoRefIdeal.τ).loc Cert.FoRefIdeal.main_arg2) = m ((c.tc : Thread Cert.FoRefIdeal.nD Cert.FoRefIdeal.τ).loc Cert.FoRefIdeal.main_arg2))
      ∧ r.2.sem = fun _ => 0)

def quiescent_Fdown [hFdown : Cert.Fdown.Facts] : Prop :=
  ∀ (m : (ℓ : Loc Cert.Fdown.nD Cert.Fdown.τ Cert.Fdown.sig) → Buf (Elt Bits) ℓ) (g : Dev Cert.Fdown.nD → PrngReg), Pre_Fdown m →
    θ_run (Cert.Fdown.defs (F := Bits)) (onTc (τ := Cert.Fdown.τ) (Cert.Fdown.main (F := Bits))) ⟨m, fun _ => 0, g⟩ (fun r => (∀ c : Dev Cert.Fdown.nD,
      r.2.mem ((c.tc : Thread Cert.Fdown.nD Cert.Fdown.τ).loc Cert.Fdown.main_arg0) = m ((c.tc : Thread Cert.Fdown.nD Cert.Fdown.τ).loc Cert.Fdown.main_arg0)
      ∧ r.2.mem ((c.tc : Thread Cert.Fdown.nD Cert.Fdown.τ).loc Cert.Fdown.main_arg1) = m ((c.tc : Thread Cert.Fdown.nD Cert.Fdown.τ).loc Cert.Fdown.main_arg1)
      ∧ r.2.mem ((c.tc : Thread Cert.Fdown.nD Cert.Fdown.τ).loc Cert.Fdown.main_arg2) = m ((c.tc : Thread Cert.Fdown.nD Cert.Fdown.τ).loc Cert.Fdown.main_arg2))
      ∧ r.2.sem = fun _ => 0)

def quiescent_FdownIdeal [hFdownIdeal : Cert.FdownIdeal.Facts] : Prop :=
  ∀ (m : (ℓ : Loc Cert.FdownIdeal.nD Cert.FdownIdeal.τ Cert.FdownIdeal.sig) → Buf (Elt Ideal) ℓ) (g : Dev Cert.FdownIdeal.nD → PrngReg), Pre_FdownIdeal m →
    θ_run (Cert.FdownIdeal.defs (F := Ideal)) (onTc (τ := Cert.FdownIdeal.τ) (Cert.FdownIdeal.main (F := Ideal))) ⟨m, fun _ => 0, g⟩ (fun r => (∀ c : Dev Cert.FdownIdeal.nD,
      r.2.mem ((c.tc : Thread Cert.FdownIdeal.nD Cert.FdownIdeal.τ).loc Cert.FdownIdeal.main_arg0) = m ((c.tc : Thread Cert.FdownIdeal.nD Cert.FdownIdeal.τ).loc Cert.FdownIdeal.main_arg0)
      ∧ r.2.mem ((c.tc : Thread Cert.FdownIdeal.nD Cert.FdownIdeal.τ).loc Cert.FdownIdeal.main_arg1) = m ((c.tc : Thread Cert.FdownIdeal.nD Cert.FdownIdeal.τ).loc Cert.FdownIdeal.main_arg1)
      ∧ r.2.mem ((c.tc : Thread Cert.FdownIdeal.nD Cert.FdownIdeal.τ).loc Cert.FdownIdeal.main_arg2) = m ((c.tc : Thread Cert.FdownIdeal.nD Cert.FdownIdeal.τ).loc Cert.FdownIdeal.main_arg2))
      ∧ r.2.sem = fun _ => 0)

def quiescent_FdownRefIdeal [hFdownRefIdeal : Cert.FdownRefIdeal.Facts] : Prop :=
  ∀ (m : (ℓ : Loc Cert.FdownRefIdeal.nD Cert.FdownRefIdeal.τ Cert.FdownRefIdeal.sig) → Buf (Elt Ideal) ℓ) (g : Dev Cert.FdownRefIdeal.nD → PrngReg), Pre_FdownRefIdeal m →
    θ_run (Cert.FdownRefIdeal.defs (F := Ideal)) (onTc (τ := Cert.FdownRefIdeal.τ) (Cert.FdownRefIdeal.main (F := Ideal))) ⟨m, fun _ => 0, g⟩ (fun r => (∀ c : Dev Cert.FdownRefIdeal.nD,
      r.2.mem ((c.tc : Thread Cert.FdownRefIdeal.nD Cert.FdownRefIdeal.τ).loc Cert.FdownRefIdeal.main_arg0) = m ((c.tc : Thread Cert.FdownRefIdeal.nD Cert.FdownRefIdeal.τ).loc Cert.FdownRefIdeal.main_arg0)
      ∧ r.2.mem ((c.tc : Thread Cert.FdownRefIdeal.nD Cert.FdownRefIdeal.τ).loc Cert.FdownRefIdeal.main_arg1) = m ((c.tc : Thread Cert.FdownRefIdeal.nD Cert.FdownRefIdeal.τ).loc Cert.FdownRefIdeal.main_arg1)
      ∧ r.2.mem ((c.tc : Thread Cert.FdownRefIdeal.nD Cert.FdownRefIdeal.τ).loc Cert.FdownRefIdeal.main_arg2) = m ((c.tc : Thread Cert.FdownRefIdeal.nD Cert.FdownRefIdeal.τ).loc Cert.FdownRefIdeal.main_arg2))
      ∧ r.2.sem = fun _ => 0)

def quiescent_Fup [hFup : Cert.Fup.Facts] : Prop :=
  ∀ (m : (ℓ : Loc Cert.Fup.nD Cert.Fup.τ Cert.Fup.sig) → Buf (Elt Bits) ℓ) (g : Dev Cert.Fup.nD → PrngReg), Pre_Fup m →
    θ_run (Cert.Fup.defs (F := Bits)) (onTc (τ := Cert.Fup.τ) (Cert.Fup.main (F := Bits))) ⟨m, fun _ => 0, g⟩ (fun r => (∀ c : Dev Cert.Fup.nD,
      r.2.mem ((c.tc : Thread Cert.Fup.nD Cert.Fup.τ).loc Cert.Fup.main_arg0) = m ((c.tc : Thread Cert.Fup.nD Cert.Fup.τ).loc Cert.Fup.main_arg0)
      ∧ r.2.mem ((c.tc : Thread Cert.Fup.nD Cert.Fup.τ).loc Cert.Fup.main_arg1) = m ((c.tc : Thread Cert.Fup.nD Cert.Fup.τ).loc Cert.Fup.main_arg1))
      ∧ r.2.sem = fun _ => 0)

def quiescent_FupIdeal [hFupIdeal : Cert.FupIdeal.Facts] : Prop :=
  ∀ (m : (ℓ : Loc Cert.FupIdeal.nD Cert.FupIdeal.τ Cert.FupIdeal.sig) → Buf (Elt Ideal) ℓ) (g : Dev Cert.FupIdeal.nD → PrngReg), Pre_FupIdeal m →
    θ_run (Cert.FupIdeal.defs (F := Ideal)) (onTc (τ := Cert.FupIdeal.τ) (Cert.FupIdeal.main (F := Ideal))) ⟨m, fun _ => 0, g⟩ (fun r => (∀ c : Dev Cert.FupIdeal.nD,
      r.2.mem ((c.tc : Thread Cert.FupIdeal.nD Cert.FupIdeal.τ).loc Cert.FupIdeal.main_arg0) = m ((c.tc : Thread Cert.FupIdeal.nD Cert.FupIdeal.τ).loc Cert.FupIdeal.main_arg0)
      ∧ r.2.mem ((c.tc : Thread Cert.FupIdeal.nD Cert.FupIdeal.τ).loc Cert.FupIdeal.main_arg1) = m ((c.tc : Thread Cert.FupIdeal.nD Cert.FupIdeal.τ).loc Cert.FupIdeal.main_arg1))
      ∧ r.2.sem = fun _ => 0)

def quiescent_FupRefIdeal [hFupRefIdeal : Cert.FupRefIdeal.Facts] : Prop :=
  ∀ (m : (ℓ : Loc Cert.FupRefIdeal.nD Cert.FupRefIdeal.τ Cert.FupRefIdeal.sig) → Buf (Elt Ideal) ℓ) (g : Dev Cert.FupRefIdeal.nD → PrngReg), Pre_FupRefIdeal m →
    θ_run (Cert.FupRefIdeal.defs (F := Ideal)) (onTc (τ := Cert.FupRefIdeal.τ) (Cert.FupRefIdeal.main (F := Ideal))) ⟨m, fun _ => 0, g⟩ (fun r => (∀ c : Dev Cert.FupRefIdeal.nD,
      r.2.mem ((c.tc : Thread Cert.FupRefIdeal.nD Cert.FupRefIdeal.τ).loc Cert.FupRefIdeal.main_arg0) = m ((c.tc : Thread Cert.FupRefIdeal.nD Cert.FupRefIdeal.τ).loc Cert.FupRefIdeal.main_arg0)
      ∧ r.2.mem ((c.tc : Thread Cert.FupRefIdeal.nD Cert.FupRefIdeal.τ).loc Cert.FupRefIdeal.main_arg1) = m ((c.tc : Thread Cert.FupRefIdeal.nD Cert.FupRefIdeal.τ).loc Cert.FupRefIdeal.main_arg1))
      ∧ r.2.sem = fun _ => 0)

def quiescent_Mix [hMix : Cert.Mix.Facts] : Prop :=
  ∀ (m : (ℓ : Loc Cert.Mix.nD Cert.Mix.τ Cert.Mix.sig) → Buf (Elt Bits) ℓ) (g : Dev Cert.Mix.nD → PrngReg), Pre_Mix m →
    θ_run (Cert.Mix.defs (F := Bits)) (onTc (τ := Cert.Mix.τ) (Cert.Mix.main (F := Bits))) ⟨m, fun _ => 0, g⟩ (fun r => (∀ c : Dev Cert.Mix.nD,
      r.2.mem ((c.tc : Thread Cert.Mix.nD Cert.Mix.τ).loc Cert.Mix.main_arg0) = m ((c.tc : Thread Cert.Mix.nD Cert.Mix.τ).loc Cert.Mix.main_arg0)
      ∧ r.2.mem ((c.tc : Thread Cert.Mix.nD Cert.Mix.τ).loc Cert.Mix.main_arg1) = m ((c.tc : Thread Cert.Mix.nD Cert.Mix.τ).loc Cert.Mix.main_arg1)
      ∧ r.2.mem ((c.tc : Thread Cert.Mix.nD Cert.Mix.τ).loc Cert.Mix.main_arg2) = m ((c.tc : Thread Cert.Mix.nD Cert.Mix.τ).loc Cert.Mix.main_arg2)
      ∧ r.2.mem ((c.tc : Thread Cert.Mix.nD Cert.Mix.τ).loc Cert.Mix.main_arg3) = m ((c.tc : Thread Cert.Mix.nD Cert.Mix.τ).loc Cert.Mix.main_arg3))
      ∧ r.2.sem = fun _ => 0)

def quiescent_MixIdeal [hMixIdeal : Cert.MixIdeal.Facts] : Prop :=
  ∀ (m : (ℓ : Loc Cert.MixIdeal.nD Cert.MixIdeal.τ Cert.MixIdeal.sig) → Buf (Elt Ideal) ℓ) (g : Dev Cert.MixIdeal.nD → PrngReg), Pre_MixIdeal m →
    θ_run (Cert.MixIdeal.defs (F := Ideal)) (onTc (τ := Cert.MixIdeal.τ) (Cert.MixIdeal.main (F := Ideal))) ⟨m, fun _ => 0, g⟩ (fun r => (∀ c : Dev Cert.MixIdeal.nD,
      r.2.mem ((c.tc : Thread Cert.MixIdeal.nD Cert.MixIdeal.τ).loc Cert.MixIdeal.main_arg0) = m ((c.tc : Thread Cert.MixIdeal.nD Cert.MixIdeal.τ).loc Cert.MixIdeal.main_arg0)
      ∧ r.2.mem ((c.tc : Thread Cert.MixIdeal.nD Cert.MixIdeal.τ).loc Cert.MixIdeal.main_arg1) = m ((c.tc : Thread Cert.MixIdeal.nD Cert.MixIdeal.τ).loc Cert.MixIdeal.main_arg1)
      ∧ r.2.mem ((c.tc : Thread Cert.MixIdeal.nD Cert.MixIdeal.τ).loc Cert.MixIdeal.main_arg2) = m ((c.tc : Thread Cert.MixIdeal.nD Cert.MixIdeal.τ).loc Cert.MixIdeal.main_arg2)
      ∧ r.2.mem ((c.tc : Thread Cert.MixIdeal.nD Cert.MixIdeal.τ).loc Cert.MixIdeal.main_arg3) = m ((c.tc : Thread Cert.MixIdeal.nD Cert.MixIdeal.τ).loc Cert.MixIdeal.main_arg3))
      ∧ r.2.sem = fun _ => 0)

def quiescent_MixRefIdeal [hMixRefIdeal : Cert.MixRefIdeal.Facts] : Prop :=
  ∀ (m : (ℓ : Loc Cert.MixRefIdeal.nD Cert.MixRefIdeal.τ Cert.MixRefIdeal.sig) → Buf (Elt Ideal) ℓ) (g : Dev Cert.MixRefIdeal.nD → PrngReg), Pre_MixRefIdeal m →
    θ_run (Cert.MixRefIdeal.defs (F := Ideal)) (onTc (τ := Cert.MixRefIdeal.τ) (Cert.MixRefIdeal.main (F := Ideal))) ⟨m, fun _ => 0, g⟩ (fun r => (∀ c : Dev Cert.MixRefIdeal.nD,
      r.2.mem ((c.tc : Thread Cert.MixRefIdeal.nD Cert.MixRefIdeal.τ).loc Cert.MixRefIdeal.main_arg0) = m ((c.tc : Thread Cert.MixRefIdeal.nD Cert.MixRefIdeal.τ).loc Cert.MixRefIdeal.main_arg0)
      ∧ r.2.mem ((c.tc : Thread Cert.MixRefIdeal.nD Cert.MixRefIdeal.τ).loc Cert.MixRefIdeal.main_arg1) = m ((c.tc : Thread Cert.MixRefIdeal.nD Cert.MixRefIdeal.τ).loc Cert.MixRefIdeal.main_arg1)
      ∧ r.2.mem ((c.tc : Thread Cert.MixRefIdeal.nD Cert.MixRefIdeal.τ).loc Cert.MixRefIdeal.main_arg2) = m ((c.tc : Thread Cert.MixRefIdeal.nD Cert.MixRefIdeal.τ).loc Cert.MixRefIdeal.main_arg2)
      ∧ r.2.mem ((c.tc : Thread Cert.MixRefIdeal.nD Cert.MixRefIdeal.τ).loc Cert.MixRefIdeal.main_arg3) = m ((c.tc : Thread Cert.MixRefIdeal.nD Cert.MixRefIdeal.τ).loc Cert.MixRefIdeal.main_arg3))
      ∧ r.2.sem = fun _ => 0)

def quiescent_Norm [hNorm : Cert.Norm.Facts] : Prop :=
  ∀ (m : (ℓ : Loc Cert.Norm.nD Cert.Norm.τ Cert.Norm.sig) → Buf (Elt Bits) ℓ) (g : Dev Cert.Norm.nD → PrngReg), Pre_Norm m →
    θ_run (Cert.Norm.defs (F := Bits)) (onTc (τ := Cert.Norm.τ) (Cert.Norm.main (F := Bits))) ⟨m, fun _ => 0, g⟩ (fun r => (∀ c : Dev Cert.Norm.nD,
      r.2.mem ((c.tc : Thread Cert.Norm.nD Cert.Norm.τ).loc Cert.Norm.main_arg0) = m ((c.tc : Thread Cert.Norm.nD Cert.Norm.τ).loc Cert.Norm.main_arg0)
      ∧ r.2.mem ((c.tc : Thread Cert.Norm.nD Cert.Norm.τ).loc Cert.Norm.main_arg1) = m ((c.tc : Thread Cert.Norm.nD Cert.Norm.τ).loc Cert.Norm.main_arg1))
      ∧ r.2.sem = fun _ => 0)

def quiescent_NormIdeal [hNormIdeal : Cert.NormIdeal.Facts] : Prop :=
  ∀ (m : (ℓ : Loc Cert.NormIdeal.nD Cert.NormIdeal.τ Cert.NormIdeal.sig) → Buf (Elt Ideal) ℓ) (g : Dev Cert.NormIdeal.nD → PrngReg), Pre_NormIdeal m →
    θ_run (Cert.NormIdeal.defs (F := Ideal)) (onTc (τ := Cert.NormIdeal.τ) (Cert.NormIdeal.main (F := Ideal))) ⟨m, fun _ => 0, g⟩ (fun r => (∀ c : Dev Cert.NormIdeal.nD,
      r.2.mem ((c.tc : Thread Cert.NormIdeal.nD Cert.NormIdeal.τ).loc Cert.NormIdeal.main_arg0) = m ((c.tc : Thread Cert.NormIdeal.nD Cert.NormIdeal.τ).loc Cert.NormIdeal.main_arg0)
      ∧ r.2.mem ((c.tc : Thread Cert.NormIdeal.nD Cert.NormIdeal.τ).loc Cert.NormIdeal.main_arg1) = m ((c.tc : Thread Cert.NormIdeal.nD Cert.NormIdeal.τ).loc Cert.NormIdeal.main_arg1))
      ∧ r.2.sem = fun _ => 0)

def quiescent_NormRefIdeal [hNormRefIdeal : Cert.NormRefIdeal.Facts] : Prop :=
  ∀ (m : (ℓ : Loc Cert.NormRefIdeal.nD Cert.NormRefIdeal.τ Cert.NormRefIdeal.sig) → Buf (Elt Ideal) ℓ) (g : Dev Cert.NormRefIdeal.nD → PrngReg), Pre_NormRefIdeal m →
    θ_run (Cert.NormRefIdeal.defs (F := Ideal)) (onTc (τ := Cert.NormRefIdeal.τ) (Cert.NormRefIdeal.main (F := Ideal))) ⟨m, fun _ => 0, g⟩ (fun r => (∀ c : Dev Cert.NormRefIdeal.nD,
      r.2.mem ((c.tc : Thread Cert.NormRefIdeal.nD Cert.NormRefIdeal.τ).loc Cert.NormRefIdeal.main_arg0) = m ((c.tc : Thread Cert.NormRefIdeal.nD Cert.NormRefIdeal.τ).loc Cert.NormRefIdeal.main_arg0)
      ∧ r.2.mem ((c.tc : Thread Cert.NormRefIdeal.nD Cert.NormRefIdeal.τ).loc Cert.NormRefIdeal.main_arg1) = m ((c.tc : Thread Cert.NormRefIdeal.nD Cert.NormRefIdeal.τ).loc Cert.NormRefIdeal.main_arg1))
      ∧ r.2.sem = fun _ => 0)

def quiescent_Attn [hAttn : Cert.Attn.Facts] : Prop :=
  ∀ (m : (ℓ : Loc Cert.Attn.nD Cert.Attn.τ Cert.Attn.sig) → Buf (Elt Bits) ℓ) (g : Dev Cert.Attn.nD → PrngReg), Pre_Attn m →
    θ_run (Cert.Attn.defs (F := Bits)) (onTc (τ := Cert.Attn.τ) (Cert.Attn.main (F := Bits))) ⟨m, fun _ => 0, g⟩ (fun r => (∀ c : Dev Cert.Attn.nD,
      r.2.mem ((c.tc : Thread Cert.Attn.nD Cert.Attn.τ).loc Cert.Attn.main_arg0) = m ((c.tc : Thread Cert.Attn.nD Cert.Attn.τ).loc Cert.Attn.main_arg0)
      ∧ r.2.mem ((c.tc : Thread Cert.Attn.nD Cert.Attn.τ).loc Cert.Attn.main_arg1) = m ((c.tc : Thread Cert.Attn.nD Cert.Attn.τ).loc Cert.Attn.main_arg1)
      ∧ r.2.mem ((c.tc : Thread Cert.Attn.nD Cert.Attn.τ).loc Cert.Attn.main_arg2) = m ((c.tc : Thread Cert.Attn.nD Cert.Attn.τ).loc Cert.Attn.main_arg2))
      ∧ r.2.sem = fun _ => 0)

def quiescent_AttnIdeal [hAttnIdeal : Cert.AttnIdeal.Facts] : Prop :=
  ∀ (m : (ℓ : Loc Cert.AttnIdeal.nD Cert.AttnIdeal.τ Cert.AttnIdeal.sig) → Buf (Elt Ideal) ℓ) (g : Dev Cert.AttnIdeal.nD → PrngReg), Pre_AttnIdeal m →
    θ_run (Cert.AttnIdeal.defs (F := Ideal)) (onTc (τ := Cert.AttnIdeal.τ) (Cert.AttnIdeal.main (F := Ideal))) ⟨m, fun _ => 0, g⟩ (fun r => (∀ c : Dev Cert.AttnIdeal.nD,
      r.2.mem ((c.tc : Thread Cert.AttnIdeal.nD Cert.AttnIdeal.τ).loc Cert.AttnIdeal.main_arg0) = m ((c.tc : Thread Cert.AttnIdeal.nD Cert.AttnIdeal.τ).loc Cert.AttnIdeal.main_arg0)
      ∧ r.2.mem ((c.tc : Thread Cert.AttnIdeal.nD Cert.AttnIdeal.τ).loc Cert.AttnIdeal.main_arg1) = m ((c.tc : Thread Cert.AttnIdeal.nD Cert.AttnIdeal.τ).loc Cert.AttnIdeal.main_arg1)
      ∧ r.2.mem ((c.tc : Thread Cert.AttnIdeal.nD Cert.AttnIdeal.τ).loc Cert.AttnIdeal.main_arg2) = m ((c.tc : Thread Cert.AttnIdeal.nD Cert.AttnIdeal.τ).loc Cert.AttnIdeal.main_arg2))
      ∧ r.2.sem = fun _ => 0)

def quiescent_AttnIdeal_pre_finite_qk [hAttnIdeal : Cert.AttnIdeal.Facts] [hPre_finite_qk : Cert.Pre_finite_qk.Facts] : Prop :=
  ∀ (m : (ℓ : Loc Cert.AttnIdeal.nD Cert.AttnIdeal.τ Cert.AttnIdeal.sig) → Buf (Elt Ideal) ℓ) (g : Dev Cert.AttnIdeal.nD → PrngReg), Pre_AttnIdeal_finite_qk m →
    θ_run (Cert.AttnIdeal.defs (F := Ideal)) (onTc (τ := Cert.AttnIdeal.τ) (Cert.AttnIdeal.main (F := Ideal))) ⟨m, fun _ => 0, g⟩ (fun r => (∀ c : Dev Cert.AttnIdeal.nD,
      r.2.mem ((c.tc : Thread Cert.AttnIdeal.nD Cert.AttnIdeal.τ).loc Cert.AttnIdeal.main_arg0) = m ((c.tc : Thread Cert.AttnIdeal.nD Cert.AttnIdeal.τ).loc Cert.AttnIdeal.main_arg0)
      ∧ r.2.mem ((c.tc : Thread Cert.AttnIdeal.nD Cert.AttnIdeal.τ).loc Cert.AttnIdeal.main_arg1) = m ((c.tc : Thread Cert.AttnIdeal.nD Cert.AttnIdeal.τ).loc Cert.AttnIdeal.main_arg1)
      ∧ r.2.mem ((c.tc : Thread Cert.AttnIdeal.nD Cert.AttnIdeal.τ).loc Cert.AttnIdeal.main_arg2) = m ((c.tc : Thread Cert.AttnIdeal.nD Cert.AttnIdeal.τ).loc Cert.AttnIdeal.main_arg2))
      ∧ r.2.sem = fun _ => 0)

def quiescent_AttnRefIdeal [hAttnRefIdeal : Cert.AttnRefIdeal.Facts] : Prop :=
  ∀ (m : (ℓ : Loc Cert.AttnRefIdeal.nD Cert.AttnRefIdeal.τ Cert.AttnRefIdeal.sig) → Buf (Elt Ideal) ℓ) (g : Dev Cert.AttnRefIdeal.nD → PrngReg), Pre_AttnRefIdeal m →
    θ_run (Cert.AttnRefIdeal.defs (F := Ideal)) (onTc (τ := Cert.AttnRefIdeal.τ) (Cert.AttnRefIdeal.main (F := Ideal))) ⟨m, fun _ => 0, g⟩ (fun r => (∀ c : Dev Cert.AttnRefIdeal.nD,
      r.2.mem ((c.tc : Thread Cert.AttnRefIdeal.nD Cert.AttnRefIdeal.τ).loc Cert.AttnRefIdeal.main_arg0) = m ((c.tc : Thread Cert.AttnRefIdeal.nD Cert.AttnRefIdeal.τ).loc Cert.AttnRefIdeal.main_arg0)
      ∧ r.2.mem ((c.tc : Thread Cert.AttnRefIdeal.nD Cert.AttnRefIdeal.τ).loc Cert.AttnRefIdeal.main_arg1) = m ((c.tc : Thread Cert.AttnRefIdeal.nD Cert.AttnRefIdeal.τ).loc Cert.AttnRefIdeal.main_arg1)
      ∧ r.2.mem ((c.tc : Thread Cert.AttnRefIdeal.nD Cert.AttnRefIdeal.τ).loc Cert.AttnRefIdeal.main_arg2) = m ((c.tc : Thread Cert.AttnRefIdeal.nD Cert.AttnRefIdeal.τ).loc Cert.AttnRefIdeal.main_arg2))
      ∧ r.2.sem = fun _ => 0)

def quiescent_AttnRefIdeal_pre_finite_qk [hAttnRefIdeal : Cert.AttnRefIdeal.Facts] [hPre_finite_qk : Cert.Pre_finite_qk.Facts] : Prop :=
  ∀ (m : (ℓ : Loc Cert.AttnRefIdeal.nD Cert.AttnRefIdeal.τ Cert.AttnRefIdeal.sig) → Buf (Elt Ideal) ℓ) (g : Dev Cert.AttnRefIdeal.nD → PrngReg), Pre_AttnRefIdeal_finite_qk m →
    θ_run (Cert.AttnRefIdeal.defs (F := Ideal)) (onTc (τ := Cert.AttnRefIdeal.τ) (Cert.AttnRefIdeal.main (F := Ideal))) ⟨m, fun _ => 0, g⟩ (fun r => (∀ c : Dev Cert.AttnRefIdeal.nD,
      r.2.mem ((c.tc : Thread Cert.AttnRefIdeal.nD Cert.AttnRefIdeal.τ).loc Cert.AttnRefIdeal.main_arg0) = m ((c.tc : Thread Cert.AttnRefIdeal.nD Cert.AttnRefIdeal.τ).loc Cert.AttnRefIdeal.main_arg0)
      ∧ r.2.mem ((c.tc : Thread Cert.AttnRefIdeal.nD Cert.AttnRefIdeal.τ).loc Cert.AttnRefIdeal.main_arg1) = m ((c.tc : Thread Cert.AttnRefIdeal.nD Cert.AttnRefIdeal.τ).loc Cert.AttnRefIdeal.main_arg1)
      ∧ r.2.mem ((c.tc : Thread Cert.AttnRefIdeal.nD Cert.AttnRefIdeal.τ).loc Cert.AttnRefIdeal.main_arg2) = m ((c.tc : Thread Cert.AttnRefIdeal.nD Cert.AttnRefIdeal.τ).loc Cert.AttnRefIdeal.main_arg2))
      ∧ r.2.sem = fun _ => 0)

def quiescent_Dnorm [hDnorm : Cert.Dnorm.Facts] : Prop :=
  ∀ (m : (ℓ : Loc Cert.Dnorm.nD Cert.Dnorm.τ Cert.Dnorm.sig) → Buf (Elt Bits) ℓ) (g : Dev Cert.Dnorm.nD → PrngReg), Pre_Dnorm m →
    θ_run (Cert.Dnorm.defs (F := Bits)) (onTc (τ := Cert.Dnorm.τ) (Cert.Dnorm.main (F := Bits))) ⟨m, fun _ => 0, g⟩ (fun r => (∀ c : Dev Cert.Dnorm.nD,
      r.2.mem ((c.tc : Thread Cert.Dnorm.nD Cert.Dnorm.τ).loc Cert.Dnorm.main_arg0) = m ((c.tc : Thread Cert.Dnorm.nD Cert.Dnorm.τ).loc Cert.Dnorm.main_arg0)
      ∧ r.2.mem ((c.tc : Thread Cert.Dnorm.nD Cert.Dnorm.τ).loc Cert.Dnorm.main_arg1) = m ((c.tc : Thread Cert.Dnorm.nD Cert.Dnorm.τ).loc Cert.Dnorm.main_arg1)
      ∧ r.2.mem ((c.tc : Thread Cert.Dnorm.nD Cert.Dnorm.τ).loc Cert.Dnorm.main_arg2) = m ((c.tc : Thread Cert.Dnorm.nD Cert.Dnorm.τ).loc Cert.Dnorm.main_arg2)
      ∧ r.2.mem ((c.tc : Thread Cert.Dnorm.nD Cert.Dnorm.τ).loc Cert.Dnorm.main_arg3) = m ((c.tc : Thread Cert.Dnorm.nD Cert.Dnorm.τ).loc Cert.Dnorm.main_arg3))
      ∧ r.2.sem = fun _ => 0)

def quiescent_DnormIdeal [hDnormIdeal : Cert.DnormIdeal.Facts] : Prop :=
  ∀ (m : (ℓ : Loc Cert.DnormIdeal.nD Cert.DnormIdeal.τ Cert.DnormIdeal.sig) → Buf (Elt Ideal) ℓ) (g : Dev Cert.DnormIdeal.nD → PrngReg), Pre_DnormIdeal m →
    θ_run (Cert.DnormIdeal.defs (F := Ideal)) (onTc (τ := Cert.DnormIdeal.τ) (Cert.DnormIdeal.main (F := Ideal))) ⟨m, fun _ => 0, g⟩ (fun r => (∀ c : Dev Cert.DnormIdeal.nD,
      r.2.mem ((c.tc : Thread Cert.DnormIdeal.nD Cert.DnormIdeal.τ).loc Cert.DnormIdeal.main_arg0) = m ((c.tc : Thread Cert.DnormIdeal.nD Cert.DnormIdeal.τ).loc Cert.DnormIdeal.main_arg0)
      ∧ r.2.mem ((c.tc : Thread Cert.DnormIdeal.nD Cert.DnormIdeal.τ).loc Cert.DnormIdeal.main_arg1) = m ((c.tc : Thread Cert.DnormIdeal.nD Cert.DnormIdeal.τ).loc Cert.DnormIdeal.main_arg1)
      ∧ r.2.mem ((c.tc : Thread Cert.DnormIdeal.nD Cert.DnormIdeal.τ).loc Cert.DnormIdeal.main_arg2) = m ((c.tc : Thread Cert.DnormIdeal.nD Cert.DnormIdeal.τ).loc Cert.DnormIdeal.main_arg2)
      ∧ r.2.mem ((c.tc : Thread Cert.DnormIdeal.nD Cert.DnormIdeal.τ).loc Cert.DnormIdeal.main_arg3) = m ((c.tc : Thread Cert.DnormIdeal.nD Cert.DnormIdeal.τ).loc Cert.DnormIdeal.main_arg3))
      ∧ r.2.sem = fun _ => 0)

def quiescent_DnormRefIdeal [hDnormRefIdeal : Cert.DnormRefIdeal.Facts] : Prop :=
  ∀ (m : (ℓ : Loc Cert.DnormRefIdeal.nD Cert.DnormRefIdeal.τ Cert.DnormRefIdeal.sig) → Buf (Elt Ideal) ℓ) (g : Dev Cert.DnormRefIdeal.nD → PrngReg), Pre_DnormRefIdeal m →
    θ_run (Cert.DnormRefIdeal.defs (F := Ideal)) (onTc (τ := Cert.DnormRefIdeal.τ) (Cert.DnormRefIdeal.main (F := Ideal))) ⟨m, fun _ => 0, g⟩ (fun r => (∀ c : Dev Cert.DnormRefIdeal.nD,
      r.2.mem ((c.tc : Thread Cert.DnormRefIdeal.nD Cert.DnormRefIdeal.τ).loc Cert.DnormRefIdeal.main_arg0) = m ((c.tc : Thread Cert.DnormRefIdeal.nD Cert.DnormRefIdeal.τ).loc Cert.DnormRefIdeal.main_arg0)
      ∧ r.2.mem ((c.tc : Thread Cert.DnormRefIdeal.nD Cert.DnormRefIdeal.τ).loc Cert.DnormRefIdeal.main_arg1) = m ((c.tc : Thread Cert.DnormRefIdeal.nD Cert.DnormRefIdeal.τ).loc Cert.DnormRefIdeal.main_arg1)
      ∧ r.2.mem ((c.tc : Thread Cert.DnormRefIdeal.nD Cert.DnormRefIdeal.τ).loc Cert.DnormRefIdeal.main_arg2) = m ((c.tc : Thread Cert.DnormRefIdeal.nD Cert.DnormRefIdeal.τ).loc Cert.DnormRefIdeal.main_arg2)
      ∧ r.2.mem ((c.tc : Thread Cert.DnormRefIdeal.nD Cert.DnormRefIdeal.τ).loc Cert.DnormRefIdeal.main_arg3) = m ((c.tc : Thread Cert.DnormRefIdeal.nD Cert.DnormRefIdeal.τ).loc Cert.DnormRefIdeal.main_arg3))
      ∧ r.2.sem = fun _ => 0)

def quiescent_LatQ [hLatQ : Cert.LatQ.Facts] : Prop :=
  ∀ (m : (ℓ : Loc Cert.LatQ.nD Cert.LatQ.τ Cert.LatQ.sig) → Buf (Elt Bits) ℓ) (g : Dev Cert.LatQ.nD → PrngReg), Pre_LatQ m →
    θ_run (Cert.LatQ.defs (F := Bits)) (onTc (τ := Cert.LatQ.τ) (Cert.LatQ.main (F := Bits))) ⟨m, fun _ => 0, g⟩ (fun r => (∀ c : Dev Cert.LatQ.nD,
      r.2.mem ((c.tc : Thread Cert.LatQ.nD Cert.LatQ.τ).loc Cert.LatQ.main_arg0) = m ((c.tc : Thread Cert.LatQ.nD Cert.LatQ.τ).loc Cert.LatQ.main_arg0)
      ∧ r.2.mem ((c.tc : Thread Cert.LatQ.nD Cert.LatQ.τ).loc Cert.LatQ.main_arg1) = m ((c.tc : Thread Cert.LatQ.nD Cert.LatQ.τ).loc Cert.LatQ.main_arg1))
      ∧ r.2.sem = fun _ => 0)

def quiescent_LatQIdeal [hLatQIdeal : Cert.LatQIdeal.Facts] : Prop :=
  ∀ (m : (ℓ : Loc Cert.LatQIdeal.nD Cert.LatQIdeal.τ Cert.LatQIdeal.sig) → Buf (Elt Ideal) ℓ) (g : Dev Cert.LatQIdeal.nD → PrngReg), Pre_LatQIdeal m →
    θ_run (Cert.LatQIdeal.defs (F := Ideal)) (onTc (τ := Cert.LatQIdeal.τ) (Cert.LatQIdeal.main (F := Ideal))) ⟨m, fun _ => 0, g⟩ (fun r => (∀ c : Dev Cert.LatQIdeal.nD,
      r.2.mem ((c.tc : Thread Cert.LatQIdeal.nD Cert.LatQIdeal.τ).loc Cert.LatQIdeal.main_arg0) = m ((c.tc : Thread Cert.LatQIdeal.nD Cert.LatQIdeal.τ).loc Cert.LatQIdeal.main_arg0)
      ∧ r.2.mem ((c.tc : Thread Cert.LatQIdeal.nD Cert.LatQIdeal.τ).loc Cert.LatQIdeal.main_arg1) = m ((c.tc : Thread Cert.LatQIdeal.nD Cert.LatQIdeal.τ).loc Cert.LatQIdeal.main_arg1))
      ∧ r.2.sem = fun _ => 0)

def quiescent_LatQRefIdeal [hLatQRefIdeal : Cert.LatQRefIdeal.Facts] : Prop :=
  ∀ (m : (ℓ : Loc Cert.LatQRefIdeal.nD Cert.LatQRefIdeal.τ Cert.LatQRefIdeal.sig) → Buf (Elt Ideal) ℓ) (g : Dev Cert.LatQRefIdeal.nD → PrngReg), Pre_LatQRefIdeal m →
    θ_run (Cert.LatQRefIdeal.defs (F := Ideal)) (onTc (τ := Cert.LatQRefIdeal.τ) (Cert.LatQRefIdeal.main (F := Ideal))) ⟨m, fun _ => 0, g⟩ (fun r => (∀ c : Dev Cert.LatQRefIdeal.nD,
      r.2.mem ((c.tc : Thread Cert.LatQRefIdeal.nD Cert.LatQRefIdeal.τ).loc Cert.LatQRefIdeal.main_arg0) = m ((c.tc : Thread Cert.LatQRefIdeal.nD Cert.LatQRefIdeal.τ).loc Cert.LatQRefIdeal.main_arg0)
      ∧ r.2.mem ((c.tc : Thread Cert.LatQRefIdeal.nD Cert.LatQRefIdeal.τ).loc Cert.LatQRefIdeal.main_arg1) = m ((c.tc : Thread Cert.LatQRefIdeal.nD Cert.LatQRefIdeal.τ).loc Cert.LatQRefIdeal.main_arg1))
      ∧ r.2.sem = fun _ => 0)

def quiescent_LatKv [hLatKv : Cert.LatKv.Facts] : Prop :=
  ∀ (m : (ℓ : Loc Cert.LatKv.nD Cert.LatKv.τ Cert.LatKv.sig) → Buf (Elt Bits) ℓ) (g : Dev Cert.LatKv.nD → PrngReg), Pre_LatKv m →
    θ_run (Cert.LatKv.defs (F := Bits)) (onTc (τ := Cert.LatKv.τ) (Cert.LatKv.main (F := Bits))) ⟨m, fun _ => 0, g⟩ (fun r => (∀ c : Dev Cert.LatKv.nD,
      r.2.mem ((c.tc : Thread Cert.LatKv.nD Cert.LatKv.τ).loc Cert.LatKv.main_arg0) = m ((c.tc : Thread Cert.LatKv.nD Cert.LatKv.τ).loc Cert.LatKv.main_arg0)
      ∧ r.2.mem ((c.tc : Thread Cert.LatKv.nD Cert.LatKv.τ).loc Cert.LatKv.main_arg1) = m ((c.tc : Thread Cert.LatKv.nD Cert.LatKv.τ).loc Cert.LatKv.main_arg1))
      ∧ r.2.sem = fun _ => 0)

def quiescent_LatKvIdeal [hLatKvIdeal : Cert.LatKvIdeal.Facts] : Prop :=
  ∀ (m : (ℓ : Loc Cert.LatKvIdeal.nD Cert.LatKvIdeal.τ Cert.LatKvIdeal.sig) → Buf (Elt Ideal) ℓ) (g : Dev Cert.LatKvIdeal.nD → PrngReg), Pre_LatKvIdeal m →
    θ_run (Cert.LatKvIdeal.defs (F := Ideal)) (onTc (τ := Cert.LatKvIdeal.τ) (Cert.LatKvIdeal.main (F := Ideal))) ⟨m, fun _ => 0, g⟩ (fun r => (∀ c : Dev Cert.LatKvIdeal.nD,
      r.2.mem ((c.tc : Thread Cert.LatKvIdeal.nD Cert.LatKvIdeal.τ).loc Cert.LatKvIdeal.main_arg0) = m ((c.tc : Thread Cert.LatKvIdeal.nD Cert.LatKvIdeal.τ).loc Cert.LatKvIdeal.main_arg0)
      ∧ r.2.mem ((c.tc : Thread Cert.LatKvIdeal.nD Cert.LatKvIdeal.τ).loc Cert.LatKvIdeal.main_arg1) = m ((c.tc : Thread Cert.LatKvIdeal.nD Cert.LatKvIdeal.τ).loc Cert.LatKvIdeal.main_arg1))
      ∧ r.2.sem = fun _ => 0)

def quiescent_LatKvRefIdeal [hLatKvRefIdeal : Cert.LatKvRefIdeal.Facts] : Prop :=
  ∀ (m : (ℓ : Loc Cert.LatKvRefIdeal.nD Cert.LatKvRefIdeal.τ Cert.LatKvRefIdeal.sig) → Buf (Elt Ideal) ℓ) (g : Dev Cert.LatKvRefIdeal.nD → PrngReg), Pre_LatKvRefIdeal m →
    θ_run (Cert.LatKvRefIdeal.defs (F := Ideal)) (onTc (τ := Cert.LatKvRefIdeal.τ) (Cert.LatKvRefIdeal.main (F := Ideal))) ⟨m, fun _ => 0, g⟩ (fun r => (∀ c : Dev Cert.LatKvRefIdeal.nD,
      r.2.mem ((c.tc : Thread Cert.LatKvRefIdeal.nD Cert.LatKvRefIdeal.τ).loc Cert.LatKvRefIdeal.main_arg0) = m ((c.tc : Thread Cert.LatKvRefIdeal.nD Cert.LatKvRefIdeal.τ).loc Cert.LatKvRefIdeal.main_arg0)
      ∧ r.2.mem ((c.tc : Thread Cert.LatKvRefIdeal.nD Cert.LatKvRefIdeal.τ).loc Cert.LatKvRefIdeal.main_arg1) = m ((c.tc : Thread Cert.LatKvRefIdeal.nD Cert.LatKvRefIdeal.τ).loc Cert.LatKvRefIdeal.main_arg1))
      ∧ r.2.sem = fun _ => 0)

def quiescent_DlatQ [hDlatQ : Cert.DlatQ.Facts] : Prop :=
  ∀ (m : (ℓ : Loc Cert.DlatQ.nD Cert.DlatQ.τ Cert.DlatQ.sig) → Buf (Elt Bits) ℓ) (g : Dev Cert.DlatQ.nD → PrngReg), Pre_DlatQ m →
    θ_run (Cert.DlatQ.defs (F := Bits)) (onTc (τ := Cert.DlatQ.τ) (Cert.DlatQ.main (F := Bits))) ⟨m, fun _ => 0, g⟩ (fun r => (∀ c : Dev Cert.DlatQ.nD,
      r.2.mem ((c.tc : Thread Cert.DlatQ.nD Cert.DlatQ.τ).loc Cert.DlatQ.main_arg0) = m ((c.tc : Thread Cert.DlatQ.nD Cert.DlatQ.τ).loc Cert.DlatQ.main_arg0)
      ∧ r.2.mem ((c.tc : Thread Cert.DlatQ.nD Cert.DlatQ.τ).loc Cert.DlatQ.main_arg1) = m ((c.tc : Thread Cert.DlatQ.nD Cert.DlatQ.τ).loc Cert.DlatQ.main_arg1)
      ∧ r.2.mem ((c.tc : Thread Cert.DlatQ.nD Cert.DlatQ.τ).loc Cert.DlatQ.main_arg2) = m ((c.tc : Thread Cert.DlatQ.nD Cert.DlatQ.τ).loc Cert.DlatQ.main_arg2))
      ∧ r.2.sem = fun _ => 0)

def quiescent_DlatQIdeal [hDlatQIdeal : Cert.DlatQIdeal.Facts] : Prop :=
  ∀ (m : (ℓ : Loc Cert.DlatQIdeal.nD Cert.DlatQIdeal.τ Cert.DlatQIdeal.sig) → Buf (Elt Ideal) ℓ) (g : Dev Cert.DlatQIdeal.nD → PrngReg), Pre_DlatQIdeal m →
    θ_run (Cert.DlatQIdeal.defs (F := Ideal)) (onTc (τ := Cert.DlatQIdeal.τ) (Cert.DlatQIdeal.main (F := Ideal))) ⟨m, fun _ => 0, g⟩ (fun r => (∀ c : Dev Cert.DlatQIdeal.nD,
      r.2.mem ((c.tc : Thread Cert.DlatQIdeal.nD Cert.DlatQIdeal.τ).loc Cert.DlatQIdeal.main_arg0) = m ((c.tc : Thread Cert.DlatQIdeal.nD Cert.DlatQIdeal.τ).loc Cert.DlatQIdeal.main_arg0)
      ∧ r.2.mem ((c.tc : Thread Cert.DlatQIdeal.nD Cert.DlatQIdeal.τ).loc Cert.DlatQIdeal.main_arg1) = m ((c.tc : Thread Cert.DlatQIdeal.nD Cert.DlatQIdeal.τ).loc Cert.DlatQIdeal.main_arg1)
      ∧ r.2.mem ((c.tc : Thread Cert.DlatQIdeal.nD Cert.DlatQIdeal.τ).loc Cert.DlatQIdeal.main_arg2) = m ((c.tc : Thread Cert.DlatQIdeal.nD Cert.DlatQIdeal.τ).loc Cert.DlatQIdeal.main_arg2))
      ∧ r.2.sem = fun _ => 0)

def quiescent_DlatQRefIdeal [hDlatQRefIdeal : Cert.DlatQRefIdeal.Facts] : Prop :=
  ∀ (m : (ℓ : Loc Cert.DlatQRefIdeal.nD Cert.DlatQRefIdeal.τ Cert.DlatQRefIdeal.sig) → Buf (Elt Ideal) ℓ) (g : Dev Cert.DlatQRefIdeal.nD → PrngReg), Pre_DlatQRefIdeal m →
    θ_run (Cert.DlatQRefIdeal.defs (F := Ideal)) (onTc (τ := Cert.DlatQRefIdeal.τ) (Cert.DlatQRefIdeal.main (F := Ideal))) ⟨m, fun _ => 0, g⟩ (fun r => (∀ c : Dev Cert.DlatQRefIdeal.nD,
      r.2.mem ((c.tc : Thread Cert.DlatQRefIdeal.nD Cert.DlatQRefIdeal.τ).loc Cert.DlatQRefIdeal.main_arg0) = m ((c.tc : Thread Cert.DlatQRefIdeal.nD Cert.DlatQRefIdeal.τ).loc Cert.DlatQRefIdeal.main_arg0)
      ∧ r.2.mem ((c.tc : Thread Cert.DlatQRefIdeal.nD Cert.DlatQRefIdeal.τ).loc Cert.DlatQRefIdeal.main_arg1) = m ((c.tc : Thread Cert.DlatQRefIdeal.nD Cert.DlatQRefIdeal.τ).loc Cert.DlatQRefIdeal.main_arg1)
      ∧ r.2.mem ((c.tc : Thread Cert.DlatQRefIdeal.nD Cert.DlatQRefIdeal.τ).loc Cert.DlatQRefIdeal.main_arg2) = m ((c.tc : Thread Cert.DlatQRefIdeal.nD Cert.DlatQRefIdeal.τ).loc Cert.DlatQRefIdeal.main_arg2))
      ∧ r.2.sem = fun _ => 0)

def quiescent_DlatKv [hDlatKv : Cert.DlatKv.Facts] : Prop :=
  ∀ (m : (ℓ : Loc Cert.DlatKv.nD Cert.DlatKv.τ Cert.DlatKv.sig) → Buf (Elt Bits) ℓ) (g : Dev Cert.DlatKv.nD → PrngReg), Pre_DlatKv m →
    θ_run (Cert.DlatKv.defs (F := Bits)) (onTc (τ := Cert.DlatKv.τ) (Cert.DlatKv.main (F := Bits))) ⟨m, fun _ => 0, g⟩ (fun r => (∀ c : Dev Cert.DlatKv.nD,
      r.2.mem ((c.tc : Thread Cert.DlatKv.nD Cert.DlatKv.τ).loc Cert.DlatKv.main_arg0) = m ((c.tc : Thread Cert.DlatKv.nD Cert.DlatKv.τ).loc Cert.DlatKv.main_arg0)
      ∧ r.2.mem ((c.tc : Thread Cert.DlatKv.nD Cert.DlatKv.τ).loc Cert.DlatKv.main_arg1) = m ((c.tc : Thread Cert.DlatKv.nD Cert.DlatKv.τ).loc Cert.DlatKv.main_arg1)
      ∧ r.2.mem ((c.tc : Thread Cert.DlatKv.nD Cert.DlatKv.τ).loc Cert.DlatKv.main_arg2) = m ((c.tc : Thread Cert.DlatKv.nD Cert.DlatKv.τ).loc Cert.DlatKv.main_arg2))
      ∧ r.2.sem = fun _ => 0)

def quiescent_DlatKvIdeal [hDlatKvIdeal : Cert.DlatKvIdeal.Facts] : Prop :=
  ∀ (m : (ℓ : Loc Cert.DlatKvIdeal.nD Cert.DlatKvIdeal.τ Cert.DlatKvIdeal.sig) → Buf (Elt Ideal) ℓ) (g : Dev Cert.DlatKvIdeal.nD → PrngReg), Pre_DlatKvIdeal m →
    θ_run (Cert.DlatKvIdeal.defs (F := Ideal)) (onTc (τ := Cert.DlatKvIdeal.τ) (Cert.DlatKvIdeal.main (F := Ideal))) ⟨m, fun _ => 0, g⟩ (fun r => (∀ c : Dev Cert.DlatKvIdeal.nD,
      r.2.mem ((c.tc : Thread Cert.DlatKvIdeal.nD Cert.DlatKvIdeal.τ).loc Cert.DlatKvIdeal.main_arg0) = m ((c.tc : Thread Cert.DlatKvIdeal.nD Cert.DlatKvIdeal.τ).loc Cert.DlatKvIdeal.main_arg0)
      ∧ r.2.mem ((c.tc : Thread Cert.DlatKvIdeal.nD Cert.DlatKvIdeal.τ).loc Cert.DlatKvIdeal.main_arg1) = m ((c.tc : Thread Cert.DlatKvIdeal.nD Cert.DlatKvIdeal.τ).loc Cert.DlatKvIdeal.main_arg1)
      ∧ r.2.mem ((c.tc : Thread Cert.DlatKvIdeal.nD Cert.DlatKvIdeal.τ).loc Cert.DlatKvIdeal.main_arg2) = m ((c.tc : Thread Cert.DlatKvIdeal.nD Cert.DlatKvIdeal.τ).loc Cert.DlatKvIdeal.main_arg2))
      ∧ r.2.sem = fun _ => 0)

def quiescent_DlatKvRefIdeal [hDlatKvRefIdeal : Cert.DlatKvRefIdeal.Facts] : Prop :=
  ∀ (m : (ℓ : Loc Cert.DlatKvRefIdeal.nD Cert.DlatKvRefIdeal.τ Cert.DlatKvRefIdeal.sig) → Buf (Elt Ideal) ℓ) (g : Dev Cert.DlatKvRefIdeal.nD → PrngReg), Pre_DlatKvRefIdeal m →
    θ_run (Cert.DlatKvRefIdeal.defs (F := Ideal)) (onTc (τ := Cert.DlatKvRefIdeal.τ) (Cert.DlatKvRefIdeal.main (F := Ideal))) ⟨m, fun _ => 0, g⟩ (fun r => (∀ c : Dev Cert.DlatKvRefIdeal.nD,
      r.2.mem ((c.tc : Thread Cert.DlatKvRefIdeal.nD Cert.DlatKvRefIdeal.τ).loc Cert.DlatKvRefIdeal.main_arg0) = m ((c.tc : Thread Cert.DlatKvRefIdeal.nD Cert.DlatKvRefIdeal.τ).loc Cert.DlatKvRefIdeal.main_arg0)
      ∧ r.2.mem ((c.tc : Thread Cert.DlatKvRefIdeal.nD Cert.DlatKvRefIdeal.τ).loc Cert.DlatKvRefIdeal.main_arg1) = m ((c.tc : Thread Cert.DlatKvRefIdeal.nD Cert.DlatKvRefIdeal.τ).loc Cert.DlatKvRefIdeal.main_arg1)
      ∧ r.2.mem ((c.tc : Thread Cert.DlatKvRefIdeal.nD Cert.DlatKvRefIdeal.τ).loc Cert.DlatKvRefIdeal.main_arg2) = m ((c.tc : Thread Cert.DlatKvRefIdeal.nD Cert.DlatKvRefIdeal.τ).loc Cert.DlatKvRefIdeal.main_arg2))
      ∧ r.2.sem = fun _ => 0)

def preserves_Kernel_KernelIdeal : Prop :=
  True

def algebraic_KernelIdeal_ReferenceIdeal_pre_finite_args [hKernelIdeal : Cert.KernelIdeal.Facts] [hReferenceIdeal : Cert.ReferenceIdeal.Facts] [hPre_finite_args : Cert.Pre_finite_args.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_args m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v48_0)) (v1 : (c : Dev Cert.KernelIdeal.nD) → Buf (Elt Ideal) ((c.tc : Thread Cert.KernelIdeal.nD Cert.KernelIdeal.τ).loc Cert.KernelIdeal.main_v48_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v48_0) = v0 c
          ∧ r.2.mem ((c.tc : Thread Cert.KernelIdeal.nD Cert.KernelIdeal.τ).loc Cert.KernelIdeal.main_v48_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v66) = v0 c
          ∧ r.2.mem ((c.tc : Thread Cert.ReferenceIdeal.nD Cert.ReferenceIdeal.τ).loc Cert.ReferenceIdeal.main_v69) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def preserves_Merge_MergeIdeal : Prop :=
  True

def algebraic_MergeIdeal_MergeRefIdeal [hMergeIdeal : Cert.MergeIdeal.Facts] [hMergeRefIdeal : Cert.MergeRefIdeal.Facts] : Prop :=
  ∀ (m : (ℓ : Loc Cert.MergeIdeal.nD Cert.MergeIdeal.τ Cert.MergeIdeal.sig) → Buf (Elt Ideal) ℓ) (g : Dev Cert.MergeIdeal.nD → PrngReg)
    (m' : (ℓ : Loc Cert.MergeRefIdeal.nD Cert.MergeRefIdeal.τ Cert.MergeRefIdeal.sig) → Buf (Elt Ideal) ℓ) (g' : Dev Cert.MergeRefIdeal.nD → PrngReg), Pre_MergeIdeal m →
    (∀ c : Dev Cert.MergeIdeal.nD,
      m' ((c.tc : Thread Cert.MergeRefIdeal.nD Cert.MergeRefIdeal.τ).loc Cert.MergeRefIdeal.main_arg0) = m ((c.tc : Thread Cert.MergeIdeal.nD Cert.MergeIdeal.τ).loc Cert.MergeIdeal.main_arg0)
      ∧ m' ((c.tc : Thread Cert.MergeRefIdeal.nD Cert.MergeRefIdeal.τ).loc Cert.MergeRefIdeal.main_arg1) = m ((c.tc : Thread Cert.MergeIdeal.nD Cert.MergeIdeal.τ).loc Cert.MergeIdeal.main_arg1)
      ∧ m' ((c.tc : Thread Cert.MergeRefIdeal.nD Cert.MergeRefIdeal.τ).loc Cert.MergeRefIdeal.main_arg2) = m ((c.tc : Thread Cert.MergeIdeal.nD Cert.MergeIdeal.τ).loc Cert.MergeIdeal.main_arg2)
      ∧ m' ((c.tc : Thread Cert.MergeRefIdeal.nD Cert.MergeRefIdeal.τ).loc Cert.MergeRefIdeal.main_arg3) = m ((c.tc : Thread Cert.MergeIdeal.nD Cert.MergeIdeal.τ).loc Cert.MergeIdeal.main_arg3)
      ∧ m' ((c.tc : Thread Cert.MergeRefIdeal.nD Cert.MergeRefIdeal.τ).loc Cert.MergeRefIdeal.main_arg4) = m ((c.tc : Thread Cert.MergeIdeal.nD Cert.MergeIdeal.τ).loc Cert.MergeIdeal.main_arg4)) →
    ∃ (v0 : (c : Dev Cert.MergeIdeal.nD) → Buf (Elt Ideal) ((c.tc : Thread Cert.MergeIdeal.nD Cert.MergeIdeal.τ).loc Cert.MergeIdeal.main_v10_0)) (v1 : (c : Dev Cert.MergeIdeal.nD) → Buf (Elt Ideal) ((c.tc : Thread Cert.MergeIdeal.nD Cert.MergeIdeal.τ).loc Cert.MergeIdeal.main_v10_1)) (v2 : (c : Dev Cert.MergeIdeal.nD) → Buf (Elt Ideal) ((c.tc : Thread Cert.MergeIdeal.nD Cert.MergeIdeal.τ).loc Cert.MergeIdeal.main_v10_2)) (v3 : (c : Dev Cert.MergeIdeal.nD) → Buf (Elt Ideal) ((c.tc : Thread Cert.MergeIdeal.nD Cert.MergeIdeal.τ).loc Cert.MergeIdeal.main_v10_3)) (v4 : (c : Dev Cert.MergeIdeal.nD) → Buf (Elt Ideal) ((c.tc : Thread Cert.MergeIdeal.nD Cert.MergeIdeal.τ).loc Cert.MergeIdeal.main_v10_4)) (v5 : (c : Dev Cert.MergeIdeal.nD) → Buf (Elt Ideal) ((c.tc : Thread Cert.MergeIdeal.nD Cert.MergeIdeal.τ).loc Cert.MergeIdeal.main_v10_5)),
      θ_run (Cert.MergeIdeal.defs (F := Ideal)) (onTc (τ := Cert.MergeIdeal.τ) (Cert.MergeIdeal.main (F := Ideal))) ⟨m, fun _ => 0, g⟩ (fun r => ∀ c : Dev Cert.MergeIdeal.nD,
          r.2.mem ((c.tc : Thread Cert.MergeIdeal.nD Cert.MergeIdeal.τ).loc Cert.MergeIdeal.main_v10_0) = v0 c
          ∧ r.2.mem ((c.tc : Thread Cert.MergeIdeal.nD Cert.MergeIdeal.τ).loc Cert.MergeIdeal.main_v10_1) = v1 c
          ∧ r.2.mem ((c.tc : Thread Cert.MergeIdeal.nD Cert.MergeIdeal.τ).loc Cert.MergeIdeal.main_v10_2) = v2 c
          ∧ r.2.mem ((c.tc : Thread Cert.MergeIdeal.nD Cert.MergeIdeal.τ).loc Cert.MergeIdeal.main_v10_3) = v3 c
          ∧ r.2.mem ((c.tc : Thread Cert.MergeIdeal.nD Cert.MergeIdeal.τ).loc Cert.MergeIdeal.main_v10_4) = v4 c
          ∧ r.2.mem ((c.tc : Thread Cert.MergeIdeal.nD Cert.MergeIdeal.τ).loc Cert.MergeIdeal.main_v10_5) = v5 c
          ∧ r.2.mem ((c.tc : Thread Cert.MergeIdeal.nD Cert.MergeIdeal.τ).loc Cert.MergeIdeal.main_arg0) = m ((c.tc : Thread Cert.MergeIdeal.nD Cert.MergeIdeal.τ).loc Cert.MergeIdeal.main_arg0)
          ∧ r.2.mem ((c.tc : Thread Cert.MergeIdeal.nD Cert.MergeIdeal.τ).loc Cert.MergeIdeal.main_arg1) = m ((c.tc : Thread Cert.MergeIdeal.nD Cert.MergeIdeal.τ).loc Cert.MergeIdeal.main_arg1)
          ∧ r.2.mem ((c.tc : Thread Cert.MergeIdeal.nD Cert.MergeIdeal.τ).loc Cert.MergeIdeal.main_arg2) = m ((c.tc : Thread Cert.MergeIdeal.nD Cert.MergeIdeal.τ).loc Cert.MergeIdeal.main_arg2)
          ∧ r.2.mem ((c.tc : Thread Cert.MergeIdeal.nD Cert.MergeIdeal.τ).loc Cert.MergeIdeal.main_arg3) = m ((c.tc : Thread Cert.MergeIdeal.nD Cert.MergeIdeal.τ).loc Cert.MergeIdeal.main_arg3)
          ∧ r.2.mem ((c.tc : Thread Cert.MergeIdeal.nD Cert.MergeIdeal.τ).loc Cert.MergeIdeal.main_arg4) = m ((c.tc : Thread Cert.MergeIdeal.nD Cert.MergeIdeal.τ).loc Cert.MergeIdeal.main_arg4))
      ∧ θ_run (Cert.MergeRefIdeal.defs (F := Ideal)) (onTc (τ := Cert.MergeRefIdeal.τ) (Cert.MergeRefIdeal.main (F := Ideal))) ⟨m', fun _ => 0, g'⟩ (fun r => ∀ c : Dev Cert.MergeRefIdeal.nD,
          r.2.mem ((c.tc : Thread Cert.MergeRefIdeal.nD Cert.MergeRefIdeal.τ).loc Cert.MergeRefIdeal.main_v41) = v0 c
          ∧ r.2.mem ((c.tc : Thread Cert.MergeRefIdeal.nD Cert.MergeRefIdeal.τ).loc Cert.MergeRefIdeal.main_v44) = v1 c
          ∧ r.2.mem ((c.tc : Thread Cert.MergeRefIdeal.nD Cert.MergeRefIdeal.τ).loc Cert.MergeRefIdeal.main_v47) = v2 c
          ∧ r.2.mem ((c.tc : Thread Cert.MergeRefIdeal.nD Cert.MergeRefIdeal.τ).loc Cert.MergeRefIdeal.main_v53) = v3 c
          ∧ r.2.mem ((c.tc : Thread Cert.MergeRefIdeal.nD Cert.MergeRefIdeal.τ).loc Cert.MergeRefIdeal.main_v56) = v4 c
          ∧ r.2.mem ((c.tc : Thread Cert.MergeRefIdeal.nD Cert.MergeRefIdeal.τ).loc Cert.MergeRefIdeal.main_v59) = v5 c
          ∧ r.2.mem ((c.tc : Thread Cert.MergeRefIdeal.nD Cert.MergeRefIdeal.τ).loc Cert.MergeRefIdeal.main_arg0) = m' ((c.tc : Thread Cert.MergeRefIdeal.nD Cert.MergeRefIdeal.τ).loc Cert.MergeRefIdeal.main_arg0)
          ∧ r.2.mem ((c.tc : Thread Cert.MergeRefIdeal.nD Cert.MergeRefIdeal.τ).loc Cert.MergeRefIdeal.main_arg1) = m' ((c.tc : Thread Cert.MergeRefIdeal.nD Cert.MergeRefIdeal.τ).loc Cert.MergeRefIdeal.main_arg1)
          ∧ r.2.mem ((c.tc : Thread Cert.MergeRefIdeal.nD Cert.MergeRefIdeal.τ).loc Cert.MergeRefIdeal.main_arg2) = m' ((c.tc : Thread Cert.MergeRefIdeal.nD Cert.MergeRefIdeal.τ).loc Cert.MergeRefIdeal.main_arg2)
          ∧ r.2.mem ((c.tc : Thread Cert.MergeRefIdeal.nD Cert.MergeRefIdeal.τ).loc Cert.MergeRefIdeal.main_arg3) = m' ((c.tc : Thread Cert.MergeRefIdeal.nD Cert.MergeRefIdeal.τ).loc Cert.MergeRefIdeal.main_arg3)
          ∧ r.2.mem ((c.tc : Thread Cert.MergeRefIdeal.nD Cert.MergeRefIdeal.τ).loc Cert.MergeRefIdeal.main_arg4) = m' ((c.tc : Thread Cert.MergeRefIdeal.nD Cert.MergeRefIdeal.τ).loc Cert.MergeRefIdeal.main_arg4))

def preserves_Act_ActIdeal : Prop :=
  True

def algebraic_ActIdeal_ActRefIdeal [hActIdeal : Cert.ActIdeal.Facts] [hActRefIdeal : Cert.ActRefIdeal.Facts] : Prop :=
  ∀ (m : (ℓ : Loc Cert.ActIdeal.nD Cert.ActIdeal.τ Cert.ActIdeal.sig) → Buf (Elt Ideal) ℓ) (g : Dev Cert.ActIdeal.nD → PrngReg)
    (m' : (ℓ : Loc Cert.ActRefIdeal.nD Cert.ActRefIdeal.τ Cert.ActRefIdeal.sig) → Buf (Elt Ideal) ℓ) (g' : Dev Cert.ActRefIdeal.nD → PrngReg), Pre_ActIdeal m →
    (∀ c : Dev Cert.ActIdeal.nD,
      m' ((c.tc : Thread Cert.ActRefIdeal.nD Cert.ActRefIdeal.τ).loc Cert.ActRefIdeal.main_arg0) = m ((c.tc : Thread Cert.ActIdeal.nD Cert.ActIdeal.τ).loc Cert.ActIdeal.main_arg0)
      ∧ m' ((c.tc : Thread Cert.ActRefIdeal.nD Cert.ActRefIdeal.τ).loc Cert.ActRefIdeal.main_arg1) = m ((c.tc : Thread Cert.ActIdeal.nD Cert.ActIdeal.τ).loc Cert.ActIdeal.main_arg1)
      ∧ m' ((c.tc : Thread Cert.ActRefIdeal.nD Cert.ActRefIdeal.τ).loc Cert.ActRefIdeal.main_arg2) = m ((c.tc : Thread Cert.ActIdeal.nD Cert.ActIdeal.τ).loc Cert.ActIdeal.main_arg2)) →
    ∃ (v0 : (c : Dev Cert.ActIdeal.nD) → Buf (Elt Ideal) ((c.tc : Thread Cert.ActIdeal.nD Cert.ActIdeal.τ).loc Cert.ActIdeal.main_v6)),
      θ_run (Cert.ActIdeal.defs (F := Ideal)) (onTc (τ := Cert.ActIdeal.τ) (Cert.ActIdeal.main (F := Ideal))) ⟨m, fun _ => 0, g⟩ (fun r => ∀ c : Dev Cert.ActIdeal.nD,
          r.2.mem ((c.tc : Thread Cert.ActIdeal.nD Cert.ActIdeal.τ).loc Cert.ActIdeal.main_v6) = v0 c
          ∧ r.2.mem ((c.tc : Thread Cert.ActIdeal.nD Cert.ActIdeal.τ).loc Cert.ActIdeal.main_arg0) = m ((c.tc : Thread Cert.ActIdeal.nD Cert.ActIdeal.τ).loc Cert.ActIdeal.main_arg0)
          ∧ r.2.mem ((c.tc : Thread Cert.ActIdeal.nD Cert.ActIdeal.τ).loc Cert.ActIdeal.main_arg1) = m ((c.tc : Thread Cert.ActIdeal.nD Cert.ActIdeal.τ).loc Cert.ActIdeal.main_arg1)
          ∧ r.2.mem ((c.tc : Thread Cert.ActIdeal.nD Cert.ActIdeal.τ).loc Cert.ActIdeal.main_arg2) = m ((c.tc : Thread Cert.ActIdeal.nD Cert.ActIdeal.τ).loc Cert.ActIdeal.main_arg2))
      ∧ θ_run (Cert.ActRefIdeal.defs (F := Ideal)) (onTc (τ := Cert.ActRefIdeal.τ) (Cert.ActRefIdeal.main (F := Ideal))) ⟨m', fun _ => 0, g'⟩ (fun r => ∀ c : Dev Cert.ActRefIdeal.nD,
          r.2.mem ((c.tc : Thread Cert.ActRefIdeal.nD Cert.ActRefIdeal.τ).loc Cert.ActRefIdeal.main_v14) = v0 c
          ∧ r.2.mem ((c.tc : Thread Cert.ActRefIdeal.nD Cert.ActRefIdeal.τ).loc Cert.ActRefIdeal.main_arg0) = m' ((c.tc : Thread Cert.ActRefIdeal.nD Cert.ActRefIdeal.τ).loc Cert.ActRefIdeal.main_arg0)
          ∧ r.2.mem ((c.tc : Thread Cert.ActRefIdeal.nD Cert.ActRefIdeal.τ).loc Cert.ActRefIdeal.main_arg1) = m' ((c.tc : Thread Cert.ActRefIdeal.nD Cert.ActRefIdeal.τ).loc Cert.ActRefIdeal.main_arg1)
          ∧ r.2.mem ((c.tc : Thread Cert.ActRefIdeal.nD Cert.ActRefIdeal.τ).loc Cert.ActRefIdeal.main_arg2) = m' ((c.tc : Thread Cert.ActRefIdeal.nD Cert.ActRefIdeal.τ).loc Cert.ActRefIdeal.main_arg2))

def preserves_Down_DownIdeal : Prop :=
  True

def algebraic_DownIdeal_DownRefIdeal [hDownIdeal : Cert.DownIdeal.Facts] [hDownRefIdeal : Cert.DownRefIdeal.Facts] : Prop :=
  ∀ (m : (ℓ : Loc Cert.DownIdeal.nD Cert.DownIdeal.τ Cert.DownIdeal.sig) → Buf (Elt Ideal) ℓ) (g : Dev Cert.DownIdeal.nD → PrngReg)
    (m' : (ℓ : Loc Cert.DownRefIdeal.nD Cert.DownRefIdeal.τ Cert.DownRefIdeal.sig) → Buf (Elt Ideal) ℓ) (g' : Dev Cert.DownRefIdeal.nD → PrngReg), Pre_DownIdeal m →
    (∀ c : Dev Cert.DownIdeal.nD,
      m' ((c.tc : Thread Cert.DownRefIdeal.nD Cert.DownRefIdeal.τ).loc Cert.DownRefIdeal.main_arg0) = m ((c.tc : Thread Cert.DownIdeal.nD Cert.DownIdeal.τ).loc Cert.DownIdeal.main_arg0)
      ∧ m' ((c.tc : Thread Cert.DownRefIdeal.nD Cert.DownRefIdeal.τ).loc Cert.DownRefIdeal.main_arg1) = m ((c.tc : Thread Cert.DownIdeal.nD Cert.DownIdeal.τ).loc Cert.DownIdeal.main_arg1)) →
    ∃ (v0 : (c : Dev Cert.DownIdeal.nD) → Buf (Elt Ideal) ((c.tc : Thread Cert.DownIdeal.nD Cert.DownIdeal.τ).loc Cert.DownIdeal.main_v8)),
      θ_run (Cert.DownIdeal.defs (F := Ideal)) (onTc (τ := Cert.DownIdeal.τ) (Cert.DownIdeal.main (F := Ideal))) ⟨m, fun _ => 0, g⟩ (fun r => ∀ c : Dev Cert.DownIdeal.nD,
          r.2.mem ((c.tc : Thread Cert.DownIdeal.nD Cert.DownIdeal.τ).loc Cert.DownIdeal.main_v8) = v0 c
          ∧ r.2.mem ((c.tc : Thread Cert.DownIdeal.nD Cert.DownIdeal.τ).loc Cert.DownIdeal.main_arg0) = m ((c.tc : Thread Cert.DownIdeal.nD Cert.DownIdeal.τ).loc Cert.DownIdeal.main_arg0)
          ∧ r.2.mem ((c.tc : Thread Cert.DownIdeal.nD Cert.DownIdeal.τ).loc Cert.DownIdeal.main_arg1) = m ((c.tc : Thread Cert.DownIdeal.nD Cert.DownIdeal.τ).loc Cert.DownIdeal.main_arg1))
      ∧ θ_run (Cert.DownRefIdeal.defs (F := Ideal)) (onTc (τ := Cert.DownRefIdeal.τ) (Cert.DownRefIdeal.main (F := Ideal))) ⟨m', fun _ => 0, g'⟩ (fun r => ∀ c : Dev Cert.DownRefIdeal.nD,
          r.2.mem ((c.tc : Thread Cert.DownRefIdeal.nD Cert.DownRefIdeal.τ).loc Cert.DownRefIdeal.main_v6) = v0 c
          ∧ r.2.mem ((c.tc : Thread Cert.DownRefIdeal.nD Cert.DownRefIdeal.τ).loc Cert.DownRefIdeal.main_arg0) = m' ((c.tc : Thread Cert.DownRefIdeal.nD Cert.DownRefIdeal.τ).loc Cert.DownRefIdeal.main_arg0)
          ∧ r.2.mem ((c.tc : Thread Cert.DownRefIdeal.nD Cert.DownRefIdeal.τ).loc Cert.DownRefIdeal.main_arg1) = m' ((c.tc : Thread Cert.DownRefIdeal.nD Cert.DownRefIdeal.τ).loc Cert.DownRefIdeal.main_arg1))

def preserves_Up_UpIdeal : Prop :=
  True

def algebraic_UpIdeal_UpRefIdeal [hUpIdeal : Cert.UpIdeal.Facts] [hUpRefIdeal : Cert.UpRefIdeal.Facts] : Prop :=
  ∀ (m : (ℓ : Loc Cert.UpIdeal.nD Cert.UpIdeal.τ Cert.UpIdeal.sig) → Buf (Elt Ideal) ℓ) (g : Dev Cert.UpIdeal.nD → PrngReg)
    (m' : (ℓ : Loc Cert.UpRefIdeal.nD Cert.UpRefIdeal.τ Cert.UpRefIdeal.sig) → Buf (Elt Ideal) ℓ) (g' : Dev Cert.UpRefIdeal.nD → PrngReg), Pre_UpIdeal m →
    (∀ c : Dev Cert.UpIdeal.nD,
      m' ((c.tc : Thread Cert.UpRefIdeal.nD Cert.UpRefIdeal.τ).loc Cert.UpRefIdeal.main_arg0) = m ((c.tc : Thread Cert.UpIdeal.nD Cert.UpIdeal.τ).loc Cert.UpIdeal.main_arg0)
      ∧ m' ((c.tc : Thread Cert.UpRefIdeal.nD Cert.UpRefIdeal.τ).loc Cert.UpRefIdeal.main_arg1) = m ((c.tc : Thread Cert.UpIdeal.nD Cert.UpIdeal.τ).loc Cert.UpIdeal.main_arg1)) →
    ∃ (v0 : (c : Dev Cert.UpIdeal.nD) → Buf (Elt Ideal) ((c.tc : Thread Cert.UpIdeal.nD Cert.UpIdeal.τ).loc Cert.UpIdeal.main_v6)),
      θ_run (Cert.UpIdeal.defs (F := Ideal)) (onTc (τ := Cert.UpIdeal.τ) (Cert.UpIdeal.main (F := Ideal))) ⟨m, fun _ => 0, g⟩ (fun r => ∀ c : Dev Cert.UpIdeal.nD,
          r.2.mem ((c.tc : Thread Cert.UpIdeal.nD Cert.UpIdeal.τ).loc Cert.UpIdeal.main_v6) = v0 c
          ∧ r.2.mem ((c.tc : Thread Cert.UpIdeal.nD Cert.UpIdeal.τ).loc Cert.UpIdeal.main_arg0) = m ((c.tc : Thread Cert.UpIdeal.nD Cert.UpIdeal.τ).loc Cert.UpIdeal.main_arg0)
          ∧ r.2.mem ((c.tc : Thread Cert.UpIdeal.nD Cert.UpIdeal.τ).loc Cert.UpIdeal.main_arg1) = m ((c.tc : Thread Cert.UpIdeal.nD Cert.UpIdeal.τ).loc Cert.UpIdeal.main_arg1))
      ∧ θ_run (Cert.UpRefIdeal.defs (F := Ideal)) (onTc (τ := Cert.UpRefIdeal.τ) (Cert.UpRefIdeal.main (F := Ideal))) ⟨m', fun _ => 0, g'⟩ (fun r => ∀ c : Dev Cert.UpRefIdeal.nD,
          r.2.mem ((c.tc : Thread Cert.UpRefIdeal.nD Cert.UpRefIdeal.τ).loc Cert.UpRefIdeal.main_v4) = v0 c
          ∧ r.2.mem ((c.tc : Thread Cert.UpRefIdeal.nD Cert.UpRefIdeal.τ).loc Cert.UpRefIdeal.main_arg0) = m' ((c.tc : Thread Cert.UpRefIdeal.nD Cert.UpRefIdeal.τ).loc Cert.UpRefIdeal.main_arg0)
          ∧ r.2.mem ((c.tc : Thread Cert.UpRefIdeal.nD Cert.UpRefIdeal.τ).loc Cert.UpRefIdeal.main_arg1) = m' ((c.tc : Thread Cert.UpRefIdeal.nD Cert.UpRefIdeal.τ).loc Cert.UpRefIdeal.main_arg1))

def preserves_H2_H2Ideal : Prop :=
  True

def algebraic_H2Ideal_H2RefIdeal [hH2Ideal : Cert.H2Ideal.Facts] [hH2RefIdeal : Cert.H2RefIdeal.Facts] : Prop :=
  ∀ (m : (ℓ : Loc Cert.H2Ideal.nD Cert.H2Ideal.τ Cert.H2Ideal.sig) → Buf (Elt Ideal) ℓ) (g : Dev Cert.H2Ideal.nD → PrngReg)
    (m' : (ℓ : Loc Cert.H2RefIdeal.nD Cert.H2RefIdeal.τ Cert.H2RefIdeal.sig) → Buf (Elt Ideal) ℓ) (g' : Dev Cert.H2RefIdeal.nD → PrngReg), Pre_H2Ideal m →
    (∀ c : Dev Cert.H2Ideal.nD,
      m' ((c.tc : Thread Cert.H2RefIdeal.nD Cert.H2RefIdeal.τ).loc Cert.H2RefIdeal.main_arg0) = m ((c.tc : Thread Cert.H2Ideal.nD Cert.H2Ideal.τ).loc Cert.H2Ideal.main_arg0)
      ∧ m' ((c.tc : Thread Cert.H2RefIdeal.nD Cert.H2RefIdeal.τ).loc Cert.H2RefIdeal.main_arg1) = m ((c.tc : Thread Cert.H2Ideal.nD Cert.H2Ideal.τ).loc Cert.H2Ideal.main_arg1)) →
    ∃ (v0 : (c : Dev Cert.H2Ideal.nD) → Buf (Elt Ideal) ((c.tc : Thread Cert.H2Ideal.nD Cert.H2Ideal.τ).loc Cert.H2Ideal.main_v4)),
      θ_run (Cert.H2Ideal.defs (F := Ideal)) (onTc (τ := Cert.H2Ideal.τ) (Cert.H2Ideal.main (F := Ideal))) ⟨m, fun _ => 0, g⟩ (fun r => ∀ c : Dev Cert.H2Ideal.nD,
          r.2.mem ((c.tc : Thread Cert.H2Ideal.nD Cert.H2Ideal.τ).loc Cert.H2Ideal.main_v4) = v0 c
          ∧ r.2.mem ((c.tc : Thread Cert.H2Ideal.nD Cert.H2Ideal.τ).loc Cert.H2Ideal.main_arg0) = m ((c.tc : Thread Cert.H2Ideal.nD Cert.H2Ideal.τ).loc Cert.H2Ideal.main_arg0)
          ∧ r.2.mem ((c.tc : Thread Cert.H2Ideal.nD Cert.H2Ideal.τ).loc Cert.H2Ideal.main_arg1) = m ((c.tc : Thread Cert.H2Ideal.nD Cert.H2Ideal.τ).loc Cert.H2Ideal.main_arg1))
      ∧ θ_run (Cert.H2RefIdeal.defs (F := Ideal)) (onTc (τ := Cert.H2RefIdeal.τ) (Cert.H2RefIdeal.main (F := Ideal))) ⟨m', fun _ => 0, g'⟩ (fun r => ∀ c : Dev Cert.H2RefIdeal.nD,
          r.2.mem ((c.tc : Thread Cert.H2RefIdeal.nD Cert.H2RefIdeal.τ).loc Cert.H2RefIdeal.main_v4) = v0 c
          ∧ r.2.mem ((c.tc : Thread Cert.H2RefIdeal.nD Cert.H2RefIdeal.τ).loc Cert.H2RefIdeal.main_arg0) = m' ((c.tc : Thread Cert.H2RefIdeal.nD Cert.H2RefIdeal.τ).loc Cert.H2RefIdeal.main_arg0)
          ∧ r.2.mem ((c.tc : Thread Cert.H2RefIdeal.nD Cert.H2RefIdeal.τ).loc Cert.H2RefIdeal.main_arg1) = m' ((c.tc : Thread Cert.H2RefIdeal.nD Cert.H2RefIdeal.τ).loc Cert.H2RefIdeal.main_arg1))

def preserves_Do_DoIdeal : Prop :=
  True

def algebraic_DoIdeal_DoRefIdeal [hDoIdeal : Cert.DoIdeal.Facts] [hDoRefIdeal : Cert.DoRefIdeal.Facts] : Prop :=
  ∀ (m : (ℓ : Loc Cert.DoIdeal.nD Cert.DoIdeal.τ Cert.DoIdeal.sig) → Buf (Elt Ideal) ℓ) (g : Dev Cert.DoIdeal.nD → PrngReg)
    (m' : (ℓ : Loc Cert.DoRefIdeal.nD Cert.DoRefIdeal.τ Cert.DoRefIdeal.sig) → Buf (Elt Ideal) ℓ) (g' : Dev Cert.DoRefIdeal.nD → PrngReg), Pre_DoIdeal m →
    (∀ c : Dev Cert.DoIdeal.nD,
      m' ((c.tc : Thread Cert.DoRefIdeal.nD Cert.DoRefIdeal.τ).loc Cert.DoRefIdeal.main_arg0) = m ((c.tc : Thread Cert.DoIdeal.nD Cert.DoIdeal.τ).loc Cert.DoIdeal.main_arg0)
      ∧ m' ((c.tc : Thread Cert.DoRefIdeal.nD Cert.DoRefIdeal.τ).loc Cert.DoRefIdeal.main_arg1) = m ((c.tc : Thread Cert.DoIdeal.nD Cert.DoIdeal.τ).loc Cert.DoIdeal.main_arg1)) →
    ∃ (v0 : (c : Dev Cert.DoIdeal.nD) → Buf (Elt Ideal) ((c.tc : Thread Cert.DoIdeal.nD Cert.DoIdeal.τ).loc Cert.DoIdeal.main_v4)),
      θ_run (Cert.DoIdeal.defs (F := Ideal)) (onTc (τ := Cert.DoIdeal.τ) (Cert.DoIdeal.main (F := Ideal))) ⟨m, fun _ => 0, g⟩ (fun r => ∀ c : Dev Cert.DoIdeal.nD,
          r.2.mem ((c.tc : Thread Cert.DoIdeal.nD Cert.DoIdeal.τ).loc Cert.DoIdeal.main_v4) = v0 c
          ∧ r.2.mem ((c.tc : Thread Cert.DoIdeal.nD Cert.DoIdeal.τ).loc Cert.DoIdeal.main_arg0) = m ((c.tc : Thread Cert.DoIdeal.nD Cert.DoIdeal.τ).loc Cert.DoIdeal.main_arg0)
          ∧ r.2.mem ((c.tc : Thread Cert.DoIdeal.nD Cert.DoIdeal.τ).loc Cert.DoIdeal.main_arg1) = m ((c.tc : Thread Cert.DoIdeal.nD Cert.DoIdeal.τ).loc Cert.DoIdeal.main_arg1))
      ∧ θ_run (Cert.DoRefIdeal.defs (F := Ideal)) (onTc (τ := Cert.DoRefIdeal.τ) (Cert.DoRefIdeal.main (F := Ideal))) ⟨m', fun _ => 0, g'⟩ (fun r => ∀ c : Dev Cert.DoRefIdeal.nD,
          r.2.mem ((c.tc : Thread Cert.DoRefIdeal.nD Cert.DoRefIdeal.τ).loc Cert.DoRefIdeal.main_v4) = v0 c
          ∧ r.2.mem ((c.tc : Thread Cert.DoRefIdeal.nD Cert.DoRefIdeal.τ).loc Cert.DoRefIdeal.main_arg0) = m' ((c.tc : Thread Cert.DoRefIdeal.nD Cert.DoRefIdeal.τ).loc Cert.DoRefIdeal.main_arg0)
          ∧ r.2.mem ((c.tc : Thread Cert.DoRefIdeal.nD Cert.DoRefIdeal.τ).loc Cert.DoRefIdeal.main_arg1) = m' ((c.tc : Thread Cert.DoRefIdeal.nD Cert.DoRefIdeal.τ).loc Cert.DoRefIdeal.main_arg1))

def preserves_Da_DaIdeal : Prop :=
  True

def algebraic_DaIdeal_DaRefIdeal [hDaIdeal : Cert.DaIdeal.Facts] [hDaRefIdeal : Cert.DaRefIdeal.Facts] : Prop :=
  ∀ (m : (ℓ : Loc Cert.DaIdeal.nD Cert.DaIdeal.τ Cert.DaIdeal.sig) → Buf (Elt Ideal) ℓ) (g : Dev Cert.DaIdeal.nD → PrngReg)
    (m' : (ℓ : Loc Cert.DaRefIdeal.nD Cert.DaRefIdeal.τ Cert.DaRefIdeal.sig) → Buf (Elt Ideal) ℓ) (g' : Dev Cert.DaRefIdeal.nD → PrngReg), Pre_DaIdeal m →
    (∀ c : Dev Cert.DaIdeal.nD,
      m' ((c.tc : Thread Cert.DaRefIdeal.nD Cert.DaRefIdeal.τ).loc Cert.DaRefIdeal.main_arg0) = m ((c.tc : Thread Cert.DaIdeal.nD Cert.DaIdeal.τ).loc Cert.DaIdeal.main_arg0)
      ∧ m' ((c.tc : Thread Cert.DaRefIdeal.nD Cert.DaRefIdeal.τ).loc Cert.DaRefIdeal.main_arg1) = m ((c.tc : Thread Cert.DaIdeal.nD Cert.DaIdeal.τ).loc Cert.DaIdeal.main_arg1)) →
    ∃ (v0 : (c : Dev Cert.DaIdeal.nD) → Buf (Elt Ideal) ((c.tc : Thread Cert.DaIdeal.nD Cert.DaIdeal.τ).loc Cert.DaIdeal.main_v4)),
      θ_run (Cert.DaIdeal.defs (F := Ideal)) (onTc (τ := Cert.DaIdeal.τ) (Cert.DaIdeal.main (F := Ideal))) ⟨m, fun _ => 0, g⟩ (fun r => ∀ c : Dev Cert.DaIdeal.nD,
          r.2.mem ((c.tc : Thread Cert.DaIdeal.nD Cert.DaIdeal.τ).loc Cert.DaIdeal.main_v4) = v0 c
          ∧ r.2.mem ((c.tc : Thread Cert.DaIdeal.nD Cert.DaIdeal.τ).loc Cert.DaIdeal.main_arg0) = m ((c.tc : Thread Cert.DaIdeal.nD Cert.DaIdeal.τ).loc Cert.DaIdeal.main_arg0)
          ∧ r.2.mem ((c.tc : Thread Cert.DaIdeal.nD Cert.DaIdeal.τ).loc Cert.DaIdeal.main_arg1) = m ((c.tc : Thread Cert.DaIdeal.nD Cert.DaIdeal.τ).loc Cert.DaIdeal.main_arg1))
      ∧ θ_run (Cert.DaRefIdeal.defs (F := Ideal)) (onTc (τ := Cert.DaRefIdeal.τ) (Cert.DaRefIdeal.main (F := Ideal))) ⟨m', fun _ => 0, g'⟩ (fun r => ∀ c : Dev Cert.DaRefIdeal.nD,
          r.2.mem ((c.tc : Thread Cert.DaRefIdeal.nD Cert.DaRefIdeal.τ).loc Cert.DaRefIdeal.main_v4) = v0 c
          ∧ r.2.mem ((c.tc : Thread Cert.DaRefIdeal.nD Cert.DaRefIdeal.τ).loc Cert.DaRefIdeal.main_arg0) = m' ((c.tc : Thread Cert.DaRefIdeal.nD Cert.DaRefIdeal.τ).loc Cert.DaRefIdeal.main_arg0)
          ∧ r.2.mem ((c.tc : Thread Cert.DaRefIdeal.nD Cert.DaRefIdeal.τ).loc Cert.DaRefIdeal.main_arg1) = m' ((c.tc : Thread Cert.DaRefIdeal.nD Cert.DaRefIdeal.τ).loc Cert.DaRefIdeal.main_arg1))

def preserves_Dkv_DkvIdeal : Prop :=
  True

def algebraic_DkvIdeal_DkvRefIdeal [hDkvIdeal : Cert.DkvIdeal.Facts] [hDkvRefIdeal : Cert.DkvRefIdeal.Facts] : Prop :=
  ∀ (m : (ℓ : Loc Cert.DkvIdeal.nD Cert.DkvIdeal.τ Cert.DkvIdeal.sig) → Buf (Elt Ideal) ℓ) (g : Dev Cert.DkvIdeal.nD → PrngReg)
    (m' : (ℓ : Loc Cert.DkvRefIdeal.nD Cert.DkvRefIdeal.τ Cert.DkvRefIdeal.sig) → Buf (Elt Ideal) ℓ) (g' : Dev Cert.DkvRefIdeal.nD → PrngReg), Pre_DkvIdeal m →
    (∀ c : Dev Cert.DkvIdeal.nD,
      m' ((c.tc : Thread Cert.DkvRefIdeal.nD Cert.DkvRefIdeal.τ).loc Cert.DkvRefIdeal.main_arg0) = m ((c.tc : Thread Cert.DkvIdeal.nD Cert.DkvIdeal.τ).loc Cert.DkvIdeal.main_arg0)
      ∧ m' ((c.tc : Thread Cert.DkvRefIdeal.nD Cert.DkvRefIdeal.τ).loc Cert.DkvRefIdeal.main_arg1) = m ((c.tc : Thread Cert.DkvIdeal.nD Cert.DkvIdeal.τ).loc Cert.DkvIdeal.main_arg1)) →
    ∃ (v0 : (c : Dev Cert.DkvIdeal.nD) → Buf (Elt Ideal) ((c.tc : Thread Cert.DkvIdeal.nD Cert.DkvIdeal.τ).loc Cert.DkvIdeal.main_v4)),
      θ_run (Cert.DkvIdeal.defs (F := Ideal)) (onTc (τ := Cert.DkvIdeal.τ) (Cert.DkvIdeal.main (F := Ideal))) ⟨m, fun _ => 0, g⟩ (fun r => ∀ c : Dev Cert.DkvIdeal.nD,
          r.2.mem ((c.tc : Thread Cert.DkvIdeal.nD Cert.DkvIdeal.τ).loc Cert.DkvIdeal.main_v4) = v0 c
          ∧ r.2.mem ((c.tc : Thread Cert.DkvIdeal.nD Cert.DkvIdeal.τ).loc Cert.DkvIdeal.main_arg0) = m ((c.tc : Thread Cert.DkvIdeal.nD Cert.DkvIdeal.τ).loc Cert.DkvIdeal.main_arg0)
          ∧ r.2.mem ((c.tc : Thread Cert.DkvIdeal.nD Cert.DkvIdeal.τ).loc Cert.DkvIdeal.main_arg1) = m ((c.tc : Thread Cert.DkvIdeal.nD Cert.DkvIdeal.τ).loc Cert.DkvIdeal.main_arg1))
      ∧ θ_run (Cert.DkvRefIdeal.defs (F := Ideal)) (onTc (τ := Cert.DkvRefIdeal.τ) (Cert.DkvRefIdeal.main (F := Ideal))) ⟨m', fun _ => 0, g'⟩ (fun r => ∀ c : Dev Cert.DkvRefIdeal.nD,
          r.2.mem ((c.tc : Thread Cert.DkvRefIdeal.nD Cert.DkvRefIdeal.τ).loc Cert.DkvRefIdeal.main_v4) = v0 c
          ∧ r.2.mem ((c.tc : Thread Cert.DkvRefIdeal.nD Cert.DkvRefIdeal.τ).loc Cert.DkvRefIdeal.main_arg0) = m' ((c.tc : Thread Cert.DkvRefIdeal.nD Cert.DkvRefIdeal.τ).loc Cert.DkvRefIdeal.main_arg0)
          ∧ r.2.mem ((c.tc : Thread Cert.DkvRefIdeal.nD Cert.DkvRefIdeal.τ).loc Cert.DkvRefIdeal.main_arg1) = m' ((c.tc : Thread Cert.DkvRefIdeal.nD Cert.DkvRefIdeal.τ).loc Cert.DkvRefIdeal.main_arg1))

def preserves_Go_GoIdeal : Prop :=
  True

def algebraic_GoIdeal_GoRefIdeal [hGoIdeal : Cert.GoIdeal.Facts] [hGoRefIdeal : Cert.GoRefIdeal.Facts] : Prop :=
  ∀ (m : (ℓ : Loc Cert.GoIdeal.nD Cert.GoIdeal.τ Cert.GoIdeal.sig) → Buf (Elt Ideal) ℓ) (g : Dev Cert.GoIdeal.nD → PrngReg)
    (m' : (ℓ : Loc Cert.GoRefIdeal.nD Cert.GoRefIdeal.τ Cert.GoRefIdeal.sig) → Buf (Elt Ideal) ℓ) (g' : Dev Cert.GoRefIdeal.nD → PrngReg), Pre_GoIdeal m →
    (∀ c : Dev Cert.GoIdeal.nD,
      m' ((c.tc : Thread Cert.GoRefIdeal.nD Cert.GoRefIdeal.τ).loc Cert.GoRefIdeal.main_arg0) = m ((c.tc : Thread Cert.GoIdeal.nD Cert.GoIdeal.τ).loc Cert.GoIdeal.main_arg0)
      ∧ m' ((c.tc : Thread Cert.GoRefIdeal.nD Cert.GoRefIdeal.τ).loc Cert.GoRefIdeal.main_arg1) = m ((c.tc : Thread Cert.GoIdeal.nD Cert.GoIdeal.τ).loc Cert.GoIdeal.main_arg1)) →
    ∃ (v0 : (c : Dev Cert.GoIdeal.nD) → Buf (Elt Ideal) ((c.tc : Thread Cert.GoIdeal.nD Cert.GoIdeal.τ).loc Cert.GoIdeal.main_v6)),
      θ_run (Cert.GoIdeal.defs (F := Ideal)) (onTc (τ := Cert.GoIdeal.τ) (Cert.GoIdeal.main (F := Ideal))) ⟨m, fun _ => 0, g⟩ (fun r => ∀ c : Dev Cert.GoIdeal.nD,
          r.2.mem ((c.tc : Thread Cert.GoIdeal.nD Cert.GoIdeal.τ).loc Cert.GoIdeal.main_v6) = v0 c
          ∧ r.2.mem ((c.tc : Thread Cert.GoIdeal.nD Cert.GoIdeal.τ).loc Cert.GoIdeal.main_arg0) = m ((c.tc : Thread Cert.GoIdeal.nD Cert.GoIdeal.τ).loc Cert.GoIdeal.main_arg0)
          ∧ r.2.mem ((c.tc : Thread Cert.GoIdeal.nD Cert.GoIdeal.τ).loc Cert.GoIdeal.main_arg1) = m ((c.tc : Thread Cert.GoIdeal.nD Cert.GoIdeal.τ).loc Cert.GoIdeal.main_arg1))
      ∧ θ_run (Cert.GoRefIdeal.defs (F := Ideal)) (onTc (τ := Cert.GoRefIdeal.τ) (Cert.GoRefIdeal.main (F := Ideal))) ⟨m', fun _ => 0, g'⟩ (fun r => ∀ c : Dev Cert.GoRefIdeal.nD,
          r.2.mem ((c.tc : Thread Cert.GoRefIdeal.nD Cert.GoRefIdeal.τ).loc Cert.GoRefIdeal.main_v4) = v0 c
          ∧ r.2.mem ((c.tc : Thread Cert.GoRefIdeal.nD Cert.GoRefIdeal.τ).loc Cert.GoRefIdeal.main_arg0) = m' ((c.tc : Thread Cert.GoRefIdeal.nD Cert.GoRefIdeal.τ).loc Cert.GoRefIdeal.main_arg0)
          ∧ r.2.mem ((c.tc : Thread Cert.GoRefIdeal.nD Cert.GoRefIdeal.τ).loc Cert.GoRefIdeal.main_arg1) = m' ((c.tc : Thread Cert.GoRefIdeal.nD Cert.GoRefIdeal.τ).loc Cert.GoRefIdeal.main_arg1))

def preserves_Ga_GaIdeal : Prop :=
  True

def algebraic_GaIdeal_GaRefIdeal [hGaIdeal : Cert.GaIdeal.Facts] [hGaRefIdeal : Cert.GaRefIdeal.Facts] : Prop :=
  ∀ (m : (ℓ : Loc Cert.GaIdeal.nD Cert.GaIdeal.τ Cert.GaIdeal.sig) → Buf (Elt Ideal) ℓ) (g : Dev Cert.GaIdeal.nD → PrngReg)
    (m' : (ℓ : Loc Cert.GaRefIdeal.nD Cert.GaRefIdeal.τ Cert.GaRefIdeal.sig) → Buf (Elt Ideal) ℓ) (g' : Dev Cert.GaRefIdeal.nD → PrngReg), Pre_GaIdeal m →
    (∀ c : Dev Cert.GaIdeal.nD,
      m' ((c.tc : Thread Cert.GaRefIdeal.nD Cert.GaRefIdeal.τ).loc Cert.GaRefIdeal.main_arg0) = m ((c.tc : Thread Cert.GaIdeal.nD Cert.GaIdeal.τ).loc Cert.GaIdeal.main_arg0)
      ∧ m' ((c.tc : Thread Cert.GaRefIdeal.nD Cert.GaRefIdeal.τ).loc Cert.GaRefIdeal.main_arg1) = m ((c.tc : Thread Cert.GaIdeal.nD Cert.GaIdeal.τ).loc Cert.GaIdeal.main_arg1)) →
    ∃ (v0 : (c : Dev Cert.GaIdeal.nD) → Buf (Elt Ideal) ((c.tc : Thread Cert.GaIdeal.nD Cert.GaIdeal.τ).loc Cert.GaIdeal.main_v6)),
      θ_run (Cert.GaIdeal.defs (F := Ideal)) (onTc (τ := Cert.GaIdeal.τ) (Cert.GaIdeal.main (F := Ideal))) ⟨m, fun _ => 0, g⟩ (fun r => ∀ c : Dev Cert.GaIdeal.nD,
          r.2.mem ((c.tc : Thread Cert.GaIdeal.nD Cert.GaIdeal.τ).loc Cert.GaIdeal.main_v6) = v0 c
          ∧ r.2.mem ((c.tc : Thread Cert.GaIdeal.nD Cert.GaIdeal.τ).loc Cert.GaIdeal.main_arg0) = m ((c.tc : Thread Cert.GaIdeal.nD Cert.GaIdeal.τ).loc Cert.GaIdeal.main_arg0)
          ∧ r.2.mem ((c.tc : Thread Cert.GaIdeal.nD Cert.GaIdeal.τ).loc Cert.GaIdeal.main_arg1) = m ((c.tc : Thread Cert.GaIdeal.nD Cert.GaIdeal.τ).loc Cert.GaIdeal.main_arg1))
      ∧ θ_run (Cert.GaRefIdeal.defs (F := Ideal)) (onTc (τ := Cert.GaRefIdeal.τ) (Cert.GaRefIdeal.main (F := Ideal))) ⟨m', fun _ => 0, g'⟩ (fun r => ∀ c : Dev Cert.GaRefIdeal.nD,
          r.2.mem ((c.tc : Thread Cert.GaRefIdeal.nD Cert.GaRefIdeal.τ).loc Cert.GaRefIdeal.main_v4) = v0 c
          ∧ r.2.mem ((c.tc : Thread Cert.GaRefIdeal.nD Cert.GaRefIdeal.τ).loc Cert.GaRefIdeal.main_arg0) = m' ((c.tc : Thread Cert.GaRefIdeal.nD Cert.GaRefIdeal.τ).loc Cert.GaRefIdeal.main_arg0)
          ∧ r.2.mem ((c.tc : Thread Cert.GaRefIdeal.nD Cert.GaRefIdeal.τ).loc Cert.GaRefIdeal.main_arg1) = m' ((c.tc : Thread Cert.GaRefIdeal.nD Cert.GaRefIdeal.τ).loc Cert.GaRefIdeal.main_arg1))

def preserves_Gkv_GkvIdeal : Prop :=
  True

def algebraic_GkvIdeal_GkvRefIdeal [hGkvIdeal : Cert.GkvIdeal.Facts] [hGkvRefIdeal : Cert.GkvRefIdeal.Facts] : Prop :=
  ∀ (m : (ℓ : Loc Cert.GkvIdeal.nD Cert.GkvIdeal.τ Cert.GkvIdeal.sig) → Buf (Elt Ideal) ℓ) (g : Dev Cert.GkvIdeal.nD → PrngReg)
    (m' : (ℓ : Loc Cert.GkvRefIdeal.nD Cert.GkvRefIdeal.τ Cert.GkvRefIdeal.sig) → Buf (Elt Ideal) ℓ) (g' : Dev Cert.GkvRefIdeal.nD → PrngReg), Pre_GkvIdeal m →
    (∀ c : Dev Cert.GkvIdeal.nD,
      m' ((c.tc : Thread Cert.GkvRefIdeal.nD Cert.GkvRefIdeal.τ).loc Cert.GkvRefIdeal.main_arg0) = m ((c.tc : Thread Cert.GkvIdeal.nD Cert.GkvIdeal.τ).loc Cert.GkvIdeal.main_arg0)
      ∧ m' ((c.tc : Thread Cert.GkvRefIdeal.nD Cert.GkvRefIdeal.τ).loc Cert.GkvRefIdeal.main_arg1) = m ((c.tc : Thread Cert.GkvIdeal.nD Cert.GkvIdeal.τ).loc Cert.GkvIdeal.main_arg1)) →
    ∃ (v0 : (c : Dev Cert.GkvIdeal.nD) → Buf (Elt Ideal) ((c.tc : Thread Cert.GkvIdeal.nD Cert.GkvIdeal.τ).loc Cert.GkvIdeal.main_v6)),
      θ_run (Cert.GkvIdeal.defs (F := Ideal)) (onTc (τ := Cert.GkvIdeal.τ) (Cert.GkvIdeal.main (F := Ideal))) ⟨m, fun _ => 0, g⟩ (fun r => ∀ c : Dev Cert.GkvIdeal.nD,
          r.2.mem ((c.tc : Thread Cert.GkvIdeal.nD Cert.GkvIdeal.τ).loc Cert.GkvIdeal.main_v6) = v0 c
          ∧ r.2.mem ((c.tc : Thread Cert.GkvIdeal.nD Cert.GkvIdeal.τ).loc Cert.GkvIdeal.main_arg0) = m ((c.tc : Thread Cert.GkvIdeal.nD Cert.GkvIdeal.τ).loc Cert.GkvIdeal.main_arg0)
          ∧ r.2.mem ((c.tc : Thread Cert.GkvIdeal.nD Cert.GkvIdeal.τ).loc Cert.GkvIdeal.main_arg1) = m ((c.tc : Thread Cert.GkvIdeal.nD Cert.GkvIdeal.τ).loc Cert.GkvIdeal.main_arg1))
      ∧ θ_run (Cert.GkvRefIdeal.defs (F := Ideal)) (onTc (τ := Cert.GkvRefIdeal.τ) (Cert.GkvRefIdeal.main (F := Ideal))) ⟨m', fun _ => 0, g'⟩ (fun r => ∀ c : Dev Cert.GkvRefIdeal.nD,
          r.2.mem ((c.tc : Thread Cert.GkvRefIdeal.nD Cert.GkvRefIdeal.τ).loc Cert.GkvRefIdeal.main_v4) = v0 c
          ∧ r.2.mem ((c.tc : Thread Cert.GkvRefIdeal.nD Cert.GkvRefIdeal.τ).loc Cert.GkvRefIdeal.main_arg0) = m' ((c.tc : Thread Cert.GkvRefIdeal.nD Cert.GkvRefIdeal.τ).loc Cert.GkvRefIdeal.main_arg0)
          ∧ r.2.mem ((c.tc : Thread Cert.GkvRefIdeal.nD Cert.GkvRefIdeal.τ).loc Cert.GkvRefIdeal.main_arg1) = m' ((c.tc : Thread Cert.GkvRefIdeal.nD Cert.GkvRefIdeal.τ).loc Cert.GkvRefIdeal.main_arg1))

def preserves_Gin_GinIdeal : Prop :=
  True

def algebraic_GinIdeal_GinRefIdeal [hGinIdeal : Cert.GinIdeal.Facts] [hGinRefIdeal : Cert.GinRefIdeal.Facts] : Prop :=
  ∀ (m : (ℓ : Loc Cert.GinIdeal.nD Cert.GinIdeal.τ Cert.GinIdeal.sig) → Buf (Elt Ideal) ℓ) (g : Dev Cert.GinIdeal.nD → PrngReg)
    (m' : (ℓ : Loc Cert.GinRefIdeal.nD Cert.GinRefIdeal.τ Cert.GinRefIdeal.sig) → Buf (Elt Ideal) ℓ) (g' : Dev Cert.GinRefIdeal.nD → PrngReg), Pre_GinIdeal m →
    (∀ c : Dev Cert.GinIdeal.nD,
      m' ((c.tc : Thread Cert.GinRefIdeal.nD Cert.GinRefIdeal.τ).loc Cert.GinRefIdeal.main_arg0) = m ((c.tc : Thread Cert.GinIdeal.nD Cert.GinIdeal.τ).loc Cert.GinIdeal.main_arg0)
      ∧ m' ((c.tc : Thread Cert.GinRefIdeal.nD Cert.GinRefIdeal.τ).loc Cert.GinRefIdeal.main_arg1) = m ((c.tc : Thread Cert.GinIdeal.nD Cert.GinIdeal.τ).loc Cert.GinIdeal.main_arg1)) →
    ∃ (v0 : (c : Dev Cert.GinIdeal.nD) → Buf (Elt Ideal) ((c.tc : Thread Cert.GinIdeal.nD Cert.GinIdeal.τ).loc Cert.GinIdeal.main_v6)),
      θ_run (Cert.GinIdeal.defs (F := Ideal)) (onTc (τ := Cert.GinIdeal.τ) (Cert.GinIdeal.main (F := Ideal))) ⟨m, fun _ => 0, g⟩ (fun r => ∀ c : Dev Cert.GinIdeal.nD,
          r.2.mem ((c.tc : Thread Cert.GinIdeal.nD Cert.GinIdeal.τ).loc Cert.GinIdeal.main_v6) = v0 c
          ∧ r.2.mem ((c.tc : Thread Cert.GinIdeal.nD Cert.GinIdeal.τ).loc Cert.GinIdeal.main_arg0) = m ((c.tc : Thread Cert.GinIdeal.nD Cert.GinIdeal.τ).loc Cert.GinIdeal.main_arg0)
          ∧ r.2.mem ((c.tc : Thread Cert.GinIdeal.nD Cert.GinIdeal.τ).loc Cert.GinIdeal.main_arg1) = m ((c.tc : Thread Cert.GinIdeal.nD Cert.GinIdeal.τ).loc Cert.GinIdeal.main_arg1))
      ∧ θ_run (Cert.GinRefIdeal.defs (F := Ideal)) (onTc (τ := Cert.GinRefIdeal.τ) (Cert.GinRefIdeal.main (F := Ideal))) ⟨m', fun _ => 0, g'⟩ (fun r => ∀ c : Dev Cert.GinRefIdeal.nD,
          r.2.mem ((c.tc : Thread Cert.GinRefIdeal.nD Cert.GinRefIdeal.τ).loc Cert.GinRefIdeal.main_v4) = v0 c
          ∧ r.2.mem ((c.tc : Thread Cert.GinRefIdeal.nD Cert.GinRefIdeal.τ).loc Cert.GinRefIdeal.main_arg0) = m' ((c.tc : Thread Cert.GinRefIdeal.nD Cert.GinRefIdeal.τ).loc Cert.GinRefIdeal.main_arg0)
          ∧ r.2.mem ((c.tc : Thread Cert.GinRefIdeal.nD Cert.GinRefIdeal.τ).loc Cert.GinRefIdeal.main_arg1) = m' ((c.tc : Thread Cert.GinRefIdeal.nD Cert.GinRefIdeal.τ).loc Cert.GinRefIdeal.main_arg1))

def preserves_Fb_FbIdeal : Prop :=
  True

def algebraic_FbIdeal_FbRefIdeal [hFbIdeal : Cert.FbIdeal.Facts] [hFbRefIdeal : Cert.FbRefIdeal.Facts] : Prop :=
  ∀ (m : (ℓ : Loc Cert.FbIdeal.nD Cert.FbIdeal.τ Cert.FbIdeal.sig) → Buf (Elt Ideal) ℓ) (g : Dev Cert.FbIdeal.nD → PrngReg)
    (m' : (ℓ : Loc Cert.FbRefIdeal.nD Cert.FbRefIdeal.τ Cert.FbRefIdeal.sig) → Buf (Elt Ideal) ℓ) (g' : Dev Cert.FbRefIdeal.nD → PrngReg), Pre_FbIdeal m →
    (∀ c : Dev Cert.FbIdeal.nD,
      m' ((c.tc : Thread Cert.FbRefIdeal.nD Cert.FbRefIdeal.τ).loc Cert.FbRefIdeal.main_arg0) = m ((c.tc : Thread Cert.FbIdeal.nD Cert.FbIdeal.τ).loc Cert.FbIdeal.main_arg0)
      ∧ m' ((c.tc : Thread Cert.FbRefIdeal.nD Cert.FbRefIdeal.τ).loc Cert.FbRefIdeal.main_arg1) = m ((c.tc : Thread Cert.FbIdeal.nD Cert.FbIdeal.τ).loc Cert.FbIdeal.main_arg1)) →
    ∃ (v0 : (c : Dev Cert.FbIdeal.nD) → Buf (Elt Ideal) ((c.tc : Thread Cert.FbIdeal.nD Cert.FbIdeal.τ).loc Cert.FbIdeal.main_v4)),
      θ_run (Cert.FbIdeal.defs (F := Ideal)) (onTc (τ := Cert.FbIdeal.τ) (Cert.FbIdeal.main (F := Ideal))) ⟨m, fun _ => 0, g⟩ (fun r => ∀ c : Dev Cert.FbIdeal.nD,
          r.2.mem ((c.tc : Thread Cert.FbIdeal.nD Cert.FbIdeal.τ).loc Cert.FbIdeal.main_v4) = v0 c
          ∧ r.2.mem ((c.tc : Thread Cert.FbIdeal.nD Cert.FbIdeal.τ).loc Cert.FbIdeal.main_arg0) = m ((c.tc : Thread Cert.FbIdeal.nD Cert.FbIdeal.τ).loc Cert.FbIdeal.main_arg0)
          ∧ r.2.mem ((c.tc : Thread Cert.FbIdeal.nD Cert.FbIdeal.τ).loc Cert.FbIdeal.main_arg1) = m ((c.tc : Thread Cert.FbIdeal.nD Cert.FbIdeal.τ).loc Cert.FbIdeal.main_arg1))
      ∧ θ_run (Cert.FbRefIdeal.defs (F := Ideal)) (onTc (τ := Cert.FbRefIdeal.τ) (Cert.FbRefIdeal.main (F := Ideal))) ⟨m', fun _ => 0, g'⟩ (fun r => ∀ c : Dev Cert.FbRefIdeal.nD,
          r.2.mem ((c.tc : Thread Cert.FbRefIdeal.nD Cert.FbRefIdeal.τ).loc Cert.FbRefIdeal.main_v2) = v0 c
          ∧ r.2.mem ((c.tc : Thread Cert.FbRefIdeal.nD Cert.FbRefIdeal.τ).loc Cert.FbRefIdeal.main_arg0) = m' ((c.tc : Thread Cert.FbRefIdeal.nD Cert.FbRefIdeal.τ).loc Cert.FbRefIdeal.main_arg0)
          ∧ r.2.mem ((c.tc : Thread Cert.FbRefIdeal.nD Cert.FbRefIdeal.τ).loc Cert.FbRefIdeal.main_arg1) = m' ((c.tc : Thread Cert.FbRefIdeal.nD Cert.FbRefIdeal.τ).loc Cert.FbRefIdeal.main_arg1))

def preserves_Fa_FaIdeal : Prop :=
  True

def algebraic_FaIdeal_FaRefIdeal [hFaIdeal : Cert.FaIdeal.Facts] [hFaRefIdeal : Cert.FaRefIdeal.Facts] : Prop :=
  ∀ (m : (ℓ : Loc Cert.FaIdeal.nD Cert.FaIdeal.τ Cert.FaIdeal.sig) → Buf (Elt Ideal) ℓ) (g : Dev Cert.FaIdeal.nD → PrngReg)
    (m' : (ℓ : Loc Cert.FaRefIdeal.nD Cert.FaRefIdeal.τ Cert.FaRefIdeal.sig) → Buf (Elt Ideal) ℓ) (g' : Dev Cert.FaRefIdeal.nD → PrngReg), Pre_FaIdeal m →
    (∀ c : Dev Cert.FaIdeal.nD,
      m' ((c.tc : Thread Cert.FaRefIdeal.nD Cert.FaRefIdeal.τ).loc Cert.FaRefIdeal.main_arg0) = m ((c.tc : Thread Cert.FaIdeal.nD Cert.FaIdeal.τ).loc Cert.FaIdeal.main_arg0)
      ∧ m' ((c.tc : Thread Cert.FaRefIdeal.nD Cert.FaRefIdeal.τ).loc Cert.FaRefIdeal.main_arg1) = m ((c.tc : Thread Cert.FaIdeal.nD Cert.FaIdeal.τ).loc Cert.FaIdeal.main_arg1)) →
    ∃ (v0 : (c : Dev Cert.FaIdeal.nD) → Buf (Elt Ideal) ((c.tc : Thread Cert.FaIdeal.nD Cert.FaIdeal.τ).loc Cert.FaIdeal.main_v4)),
      θ_run (Cert.FaIdeal.defs (F := Ideal)) (onTc (τ := Cert.FaIdeal.τ) (Cert.FaIdeal.main (F := Ideal))) ⟨m, fun _ => 0, g⟩ (fun r => ∀ c : Dev Cert.FaIdeal.nD,
          r.2.mem ((c.tc : Thread Cert.FaIdeal.nD Cert.FaIdeal.τ).loc Cert.FaIdeal.main_v4) = v0 c
          ∧ r.2.mem ((c.tc : Thread Cert.FaIdeal.nD Cert.FaIdeal.τ).loc Cert.FaIdeal.main_arg0) = m ((c.tc : Thread Cert.FaIdeal.nD Cert.FaIdeal.τ).loc Cert.FaIdeal.main_arg0)
          ∧ r.2.mem ((c.tc : Thread Cert.FaIdeal.nD Cert.FaIdeal.τ).loc Cert.FaIdeal.main_arg1) = m ((c.tc : Thread Cert.FaIdeal.nD Cert.FaIdeal.τ).loc Cert.FaIdeal.main_arg1))
      ∧ θ_run (Cert.FaRefIdeal.defs (F := Ideal)) (onTc (τ := Cert.FaRefIdeal.τ) (Cert.FaRefIdeal.main (F := Ideal))) ⟨m', fun _ => 0, g'⟩ (fun r => ∀ c : Dev Cert.FaRefIdeal.nD,
          r.2.mem ((c.tc : Thread Cert.FaRefIdeal.nD Cert.FaRefIdeal.τ).loc Cert.FaRefIdeal.main_v2) = v0 c
          ∧ r.2.mem ((c.tc : Thread Cert.FaRefIdeal.nD Cert.FaRefIdeal.τ).loc Cert.FaRefIdeal.main_arg0) = m' ((c.tc : Thread Cert.FaRefIdeal.nD Cert.FaRefIdeal.τ).loc Cert.FaRefIdeal.main_arg0)
          ∧ r.2.mem ((c.tc : Thread Cert.FaRefIdeal.nD Cert.FaRefIdeal.τ).loc Cert.FaRefIdeal.main_arg1) = m' ((c.tc : Thread Cert.FaRefIdeal.nD Cert.FaRefIdeal.τ).loc Cert.FaRefIdeal.main_arg1))

def preserves_Fkv_FkvIdeal : Prop :=
  True

def algebraic_FkvIdeal_FkvRefIdeal [hFkvIdeal : Cert.FkvIdeal.Facts] [hFkvRefIdeal : Cert.FkvRefIdeal.Facts] : Prop :=
  ∀ (m : (ℓ : Loc Cert.FkvIdeal.nD Cert.FkvIdeal.τ Cert.FkvIdeal.sig) → Buf (Elt Ideal) ℓ) (g : Dev Cert.FkvIdeal.nD → PrngReg)
    (m' : (ℓ : Loc Cert.FkvRefIdeal.nD Cert.FkvRefIdeal.τ Cert.FkvRefIdeal.sig) → Buf (Elt Ideal) ℓ) (g' : Dev Cert.FkvRefIdeal.nD → PrngReg), Pre_FkvIdeal m →
    (∀ c : Dev Cert.FkvIdeal.nD,
      m' ((c.tc : Thread Cert.FkvRefIdeal.nD Cert.FkvRefIdeal.τ).loc Cert.FkvRefIdeal.main_arg0) = m ((c.tc : Thread Cert.FkvIdeal.nD Cert.FkvIdeal.τ).loc Cert.FkvIdeal.main_arg0)
      ∧ m' ((c.tc : Thread Cert.FkvRefIdeal.nD Cert.FkvRefIdeal.τ).loc Cert.FkvRefIdeal.main_arg1) = m ((c.tc : Thread Cert.FkvIdeal.nD Cert.FkvIdeal.τ).loc Cert.FkvIdeal.main_arg1)) →
    ∃ (v0 : (c : Dev Cert.FkvIdeal.nD) → Buf (Elt Ideal) ((c.tc : Thread Cert.FkvIdeal.nD Cert.FkvIdeal.τ).loc Cert.FkvIdeal.main_v4)),
      θ_run (Cert.FkvIdeal.defs (F := Ideal)) (onTc (τ := Cert.FkvIdeal.τ) (Cert.FkvIdeal.main (F := Ideal))) ⟨m, fun _ => 0, g⟩ (fun r => ∀ c : Dev Cert.FkvIdeal.nD,
          r.2.mem ((c.tc : Thread Cert.FkvIdeal.nD Cert.FkvIdeal.τ).loc Cert.FkvIdeal.main_v4) = v0 c
          ∧ r.2.mem ((c.tc : Thread Cert.FkvIdeal.nD Cert.FkvIdeal.τ).loc Cert.FkvIdeal.main_arg0) = m ((c.tc : Thread Cert.FkvIdeal.nD Cert.FkvIdeal.τ).loc Cert.FkvIdeal.main_arg0)
          ∧ r.2.mem ((c.tc : Thread Cert.FkvIdeal.nD Cert.FkvIdeal.τ).loc Cert.FkvIdeal.main_arg1) = m ((c.tc : Thread Cert.FkvIdeal.nD Cert.FkvIdeal.τ).loc Cert.FkvIdeal.main_arg1))
      ∧ θ_run (Cert.FkvRefIdeal.defs (F := Ideal)) (onTc (τ := Cert.FkvRefIdeal.τ) (Cert.FkvRefIdeal.main (F := Ideal))) ⟨m', fun _ => 0, g'⟩ (fun r => ∀ c : Dev Cert.FkvRefIdeal.nD,
          r.2.mem ((c.tc : Thread Cert.FkvRefIdeal.nD Cert.FkvRefIdeal.τ).loc Cert.FkvRefIdeal.main_v2) = v0 c
          ∧ r.2.mem ((c.tc : Thread Cert.FkvRefIdeal.nD Cert.FkvRefIdeal.τ).loc Cert.FkvRefIdeal.main_arg0) = m' ((c.tc : Thread Cert.FkvRefIdeal.nD Cert.FkvRefIdeal.τ).loc Cert.FkvRefIdeal.main_arg0)
          ∧ r.2.mem ((c.tc : Thread Cert.FkvRefIdeal.nD Cert.FkvRefIdeal.τ).loc Cert.FkvRefIdeal.main_arg1) = m' ((c.tc : Thread Cert.FkvRefIdeal.nD Cert.FkvRefIdeal.τ).loc Cert.FkvRefIdeal.main_arg1))

def preserves_Fo_FoIdeal : Prop :=
  True

def algebraic_FoIdeal_FoRefIdeal [hFoIdeal : Cert.FoIdeal.Facts] [hFoRefIdeal : Cert.FoRefIdeal.Facts] : Prop :=
  ∀ (m : (ℓ : Loc Cert.FoIdeal.nD Cert.FoIdeal.τ Cert.FoIdeal.sig) → Buf (Elt Ideal) ℓ) (g : Dev Cert.FoIdeal.nD → PrngReg)
    (m' : (ℓ : Loc Cert.FoRefIdeal.nD Cert.FoRefIdeal.τ Cert.FoRefIdeal.sig) → Buf (Elt Ideal) ℓ) (g' : Dev Cert.FoRefIdeal.nD → PrngReg), Pre_FoIdeal m →
    (∀ c : Dev Cert.FoIdeal.nD,
      m' ((c.tc : Thread Cert.FoRefIdeal.nD Cert.FoRefIdeal.τ).loc Cert.FoRefIdeal.main_arg0) = m ((c.tc : Thread Cert.FoIdeal.nD Cert.FoIdeal.τ).loc Cert.FoIdeal.main_arg0)
      ∧ m' ((c.tc : Thread Cert.FoRefIdeal.nD Cert.FoRefIdeal.τ).loc Cert.FoRefIdeal.main_arg1) = m ((c.tc : Thread Cert.FoIdeal.nD Cert.FoIdeal.τ).loc Cert.FoIdeal.main_arg1)
      ∧ m' ((c.tc : Thread Cert.FoRefIdeal.nD Cert.FoRefIdeal.τ).loc Cert.FoRefIdeal.main_arg2) = m ((c.tc : Thread Cert.FoIdeal.nD Cert.FoIdeal.τ).loc Cert.FoIdeal.main_arg2)) →
    ∃ (v0 : (c : Dev Cert.FoIdeal.nD) → Buf (Elt Ideal) ((c.tc : Thread Cert.FoIdeal.nD Cert.FoIdeal.τ).loc Cert.FoIdeal.main_v6)),
      θ_run (Cert.FoIdeal.defs (F := Ideal)) (onTc (τ := Cert.FoIdeal.τ) (Cert.FoIdeal.main (F := Ideal))) ⟨m, fun _ => 0, g⟩ (fun r => ∀ c : Dev Cert.FoIdeal.nD,
          r.2.mem ((c.tc : Thread Cert.FoIdeal.nD Cert.FoIdeal.τ).loc Cert.FoIdeal.main_v6) = v0 c
          ∧ r.2.mem ((c.tc : Thread Cert.FoIdeal.nD Cert.FoIdeal.τ).loc Cert.FoIdeal.main_arg0) = m ((c.tc : Thread Cert.FoIdeal.nD Cert.FoIdeal.τ).loc Cert.FoIdeal.main_arg0)
          ∧ r.2.mem ((c.tc : Thread Cert.FoIdeal.nD Cert.FoIdeal.τ).loc Cert.FoIdeal.main_arg1) = m ((c.tc : Thread Cert.FoIdeal.nD Cert.FoIdeal.τ).loc Cert.FoIdeal.main_arg1)
          ∧ r.2.mem ((c.tc : Thread Cert.FoIdeal.nD Cert.FoIdeal.τ).loc Cert.FoIdeal.main_arg2) = m ((c.tc : Thread Cert.FoIdeal.nD Cert.FoIdeal.τ).loc Cert.FoIdeal.main_arg2))
      ∧ θ_run (Cert.FoRefIdeal.defs (F := Ideal)) (onTc (τ := Cert.FoRefIdeal.τ) (Cert.FoRefIdeal.main (F := Ideal))) ⟨m', fun _ => 0, g'⟩ (fun r => ∀ c : Dev Cert.FoRefIdeal.nD,
          r.2.mem ((c.tc : Thread Cert.FoRefIdeal.nD Cert.FoRefIdeal.τ).loc Cert.FoRefIdeal.main_v3) = v0 c
          ∧ r.2.mem ((c.tc : Thread Cert.FoRefIdeal.nD Cert.FoRefIdeal.τ).loc Cert.FoRefIdeal.main_arg0) = m' ((c.tc : Thread Cert.FoRefIdeal.nD Cert.FoRefIdeal.τ).loc Cert.FoRefIdeal.main_arg0)
          ∧ r.2.mem ((c.tc : Thread Cert.FoRefIdeal.nD Cert.FoRefIdeal.τ).loc Cert.FoRefIdeal.main_arg1) = m' ((c.tc : Thread Cert.FoRefIdeal.nD Cert.FoRefIdeal.τ).loc Cert.FoRefIdeal.main_arg1)
          ∧ r.2.mem ((c.tc : Thread Cert.FoRefIdeal.nD Cert.FoRefIdeal.τ).loc Cert.FoRefIdeal.main_arg2) = m' ((c.tc : Thread Cert.FoRefIdeal.nD Cert.FoRefIdeal.τ).loc Cert.FoRefIdeal.main_arg2))

def preserves_Fdown_FdownIdeal : Prop :=
  True

def algebraic_FdownIdeal_FdownRefIdeal [hFdownIdeal : Cert.FdownIdeal.Facts] [hFdownRefIdeal : Cert.FdownRefIdeal.Facts] : Prop :=
  ∀ (m : (ℓ : Loc Cert.FdownIdeal.nD Cert.FdownIdeal.τ Cert.FdownIdeal.sig) → Buf (Elt Ideal) ℓ) (g : Dev Cert.FdownIdeal.nD → PrngReg)
    (m' : (ℓ : Loc Cert.FdownRefIdeal.nD Cert.FdownRefIdeal.τ Cert.FdownRefIdeal.sig) → Buf (Elt Ideal) ℓ) (g' : Dev Cert.FdownRefIdeal.nD → PrngReg), Pre_FdownIdeal m →
    (∀ c : Dev Cert.FdownIdeal.nD,
      m' ((c.tc : Thread Cert.FdownRefIdeal.nD Cert.FdownRefIdeal.τ).loc Cert.FdownRefIdeal.main_arg0) = m ((c.tc : Thread Cert.FdownIdeal.nD Cert.FdownIdeal.τ).loc Cert.FdownIdeal.main_arg0)
      ∧ m' ((c.tc : Thread Cert.FdownRefIdeal.nD Cert.FdownRefIdeal.τ).loc Cert.FdownRefIdeal.main_arg1) = m ((c.tc : Thread Cert.FdownIdeal.nD Cert.FdownIdeal.τ).loc Cert.FdownIdeal.main_arg1)
      ∧ m' ((c.tc : Thread Cert.FdownRefIdeal.nD Cert.FdownRefIdeal.τ).loc Cert.FdownRefIdeal.main_arg2) = m ((c.tc : Thread Cert.FdownIdeal.nD Cert.FdownIdeal.τ).loc Cert.FdownIdeal.main_arg2)) →
    ∃ (v0 : (c : Dev Cert.FdownIdeal.nD) → Buf (Elt Ideal) ((c.tc : Thread Cert.FdownIdeal.nD Cert.FdownIdeal.τ).loc Cert.FdownIdeal.main_v6)),
      θ_run (Cert.FdownIdeal.defs (F := Ideal)) (onTc (τ := Cert.FdownIdeal.τ) (Cert.FdownIdeal.main (F := Ideal))) ⟨m, fun _ => 0, g⟩ (fun r => ∀ c : Dev Cert.FdownIdeal.nD,
          r.2.mem ((c.tc : Thread Cert.FdownIdeal.nD Cert.FdownIdeal.τ).loc Cert.FdownIdeal.main_v6) = v0 c
          ∧ r.2.mem ((c.tc : Thread Cert.FdownIdeal.nD Cert.FdownIdeal.τ).loc Cert.FdownIdeal.main_arg0) = m ((c.tc : Thread Cert.FdownIdeal.nD Cert.FdownIdeal.τ).loc Cert.FdownIdeal.main_arg0)
          ∧ r.2.mem ((c.tc : Thread Cert.FdownIdeal.nD Cert.FdownIdeal.τ).loc Cert.FdownIdeal.main_arg1) = m ((c.tc : Thread Cert.FdownIdeal.nD Cert.FdownIdeal.τ).loc Cert.FdownIdeal.main_arg1)
          ∧ r.2.mem ((c.tc : Thread Cert.FdownIdeal.nD Cert.FdownIdeal.τ).loc Cert.FdownIdeal.main_arg2) = m ((c.tc : Thread Cert.FdownIdeal.nD Cert.FdownIdeal.τ).loc Cert.FdownIdeal.main_arg2))
      ∧ θ_run (Cert.FdownRefIdeal.defs (F := Ideal)) (onTc (τ := Cert.FdownRefIdeal.τ) (Cert.FdownRefIdeal.main (F := Ideal))) ⟨m', fun _ => 0, g'⟩ (fun r => ∀ c : Dev Cert.FdownRefIdeal.nD,
          r.2.mem ((c.tc : Thread Cert.FdownRefIdeal.nD Cert.FdownRefIdeal.τ).loc Cert.FdownRefIdeal.main_v3) = v0 c
          ∧ r.2.mem ((c.tc : Thread Cert.FdownRefIdeal.nD Cert.FdownRefIdeal.τ).loc Cert.FdownRefIdeal.main_arg0) = m' ((c.tc : Thread Cert.FdownRefIdeal.nD Cert.FdownRefIdeal.τ).loc Cert.FdownRefIdeal.main_arg0)
          ∧ r.2.mem ((c.tc : Thread Cert.FdownRefIdeal.nD Cert.FdownRefIdeal.τ).loc Cert.FdownRefIdeal.main_arg1) = m' ((c.tc : Thread Cert.FdownRefIdeal.nD Cert.FdownRefIdeal.τ).loc Cert.FdownRefIdeal.main_arg1)
          ∧ r.2.mem ((c.tc : Thread Cert.FdownRefIdeal.nD Cert.FdownRefIdeal.τ).loc Cert.FdownRefIdeal.main_arg2) = m' ((c.tc : Thread Cert.FdownRefIdeal.nD Cert.FdownRefIdeal.τ).loc Cert.FdownRefIdeal.main_arg2))

def preserves_Fup_FupIdeal : Prop :=
  True

def algebraic_FupIdeal_FupRefIdeal [hFupIdeal : Cert.FupIdeal.Facts] [hFupRefIdeal : Cert.FupRefIdeal.Facts] : Prop :=
  ∀ (m : (ℓ : Loc Cert.FupIdeal.nD Cert.FupIdeal.τ Cert.FupIdeal.sig) → Buf (Elt Ideal) ℓ) (g : Dev Cert.FupIdeal.nD → PrngReg)
    (m' : (ℓ : Loc Cert.FupRefIdeal.nD Cert.FupRefIdeal.τ Cert.FupRefIdeal.sig) → Buf (Elt Ideal) ℓ) (g' : Dev Cert.FupRefIdeal.nD → PrngReg), Pre_FupIdeal m →
    (∀ c : Dev Cert.FupIdeal.nD,
      m' ((c.tc : Thread Cert.FupRefIdeal.nD Cert.FupRefIdeal.τ).loc Cert.FupRefIdeal.main_arg0) = m ((c.tc : Thread Cert.FupIdeal.nD Cert.FupIdeal.τ).loc Cert.FupIdeal.main_arg0)
      ∧ m' ((c.tc : Thread Cert.FupRefIdeal.nD Cert.FupRefIdeal.τ).loc Cert.FupRefIdeal.main_arg1) = m ((c.tc : Thread Cert.FupIdeal.nD Cert.FupIdeal.τ).loc Cert.FupIdeal.main_arg1)) →
    ∃ (v0 : (c : Dev Cert.FupIdeal.nD) → Buf (Elt Ideal) ((c.tc : Thread Cert.FupIdeal.nD Cert.FupIdeal.τ).loc Cert.FupIdeal.main_v4_0)) (v1 : (c : Dev Cert.FupIdeal.nD) → Buf (Elt Ideal) ((c.tc : Thread Cert.FupIdeal.nD Cert.FupIdeal.τ).loc Cert.FupIdeal.main_v4_1)),
      θ_run (Cert.FupIdeal.defs (F := Ideal)) (onTc (τ := Cert.FupIdeal.τ) (Cert.FupIdeal.main (F := Ideal))) ⟨m, fun _ => 0, g⟩ (fun r => ∀ c : Dev Cert.FupIdeal.nD,
          r.2.mem ((c.tc : Thread Cert.FupIdeal.nD Cert.FupIdeal.τ).loc Cert.FupIdeal.main_v4_0) = v0 c
          ∧ r.2.mem ((c.tc : Thread Cert.FupIdeal.nD Cert.FupIdeal.τ).loc Cert.FupIdeal.main_v4_1) = v1 c
          ∧ r.2.mem ((c.tc : Thread Cert.FupIdeal.nD Cert.FupIdeal.τ).loc Cert.FupIdeal.main_arg0) = m ((c.tc : Thread Cert.FupIdeal.nD Cert.FupIdeal.τ).loc Cert.FupIdeal.main_arg0)
          ∧ r.2.mem ((c.tc : Thread Cert.FupIdeal.nD Cert.FupIdeal.τ).loc Cert.FupIdeal.main_arg1) = m ((c.tc : Thread Cert.FupIdeal.nD Cert.FupIdeal.τ).loc Cert.FupIdeal.main_arg1))
      ∧ θ_run (Cert.FupRefIdeal.defs (F := Ideal)) (onTc (τ := Cert.FupRefIdeal.τ) (Cert.FupRefIdeal.main (F := Ideal))) ⟨m', fun _ => 0, g'⟩ (fun r => ∀ c : Dev Cert.FupRefIdeal.nD,
          r.2.mem ((c.tc : Thread Cert.FupRefIdeal.nD Cert.FupRefIdeal.τ).loc Cert.FupRefIdeal.main_v2) = v0 c
          ∧ r.2.mem ((c.tc : Thread Cert.FupRefIdeal.nD Cert.FupRefIdeal.τ).loc Cert.FupRefIdeal.main_v7) = v1 c
          ∧ r.2.mem ((c.tc : Thread Cert.FupRefIdeal.nD Cert.FupRefIdeal.τ).loc Cert.FupRefIdeal.main_arg0) = m' ((c.tc : Thread Cert.FupRefIdeal.nD Cert.FupRefIdeal.τ).loc Cert.FupRefIdeal.main_arg0)
          ∧ r.2.mem ((c.tc : Thread Cert.FupRefIdeal.nD Cert.FupRefIdeal.τ).loc Cert.FupRefIdeal.main_arg1) = m' ((c.tc : Thread Cert.FupRefIdeal.nD Cert.FupRefIdeal.τ).loc Cert.FupRefIdeal.main_arg1))

def preserves_Mix_MixIdeal : Prop :=
  True

def algebraic_MixIdeal_MixRefIdeal [hMixIdeal : Cert.MixIdeal.Facts] [hMixRefIdeal : Cert.MixRefIdeal.Facts] : Prop :=
  ∀ (m : (ℓ : Loc Cert.MixIdeal.nD Cert.MixIdeal.τ Cert.MixIdeal.sig) → Buf (Elt Ideal) ℓ) (g : Dev Cert.MixIdeal.nD → PrngReg)
    (m' : (ℓ : Loc Cert.MixRefIdeal.nD Cert.MixRefIdeal.τ Cert.MixRefIdeal.sig) → Buf (Elt Ideal) ℓ) (g' : Dev Cert.MixRefIdeal.nD → PrngReg), Pre_MixIdeal m →
    (∀ c : Dev Cert.MixIdeal.nD,
      m' ((c.tc : Thread Cert.MixRefIdeal.nD Cert.MixRefIdeal.τ).loc Cert.MixRefIdeal.main_arg0) = m ((c.tc : Thread Cert.MixIdeal.nD Cert.MixIdeal.τ).loc Cert.MixIdeal.main_arg0)
      ∧ m' ((c.tc : Thread Cert.MixRefIdeal.nD Cert.MixRefIdeal.τ).loc Cert.MixRefIdeal.main_arg1) = m ((c.tc : Thread Cert.MixIdeal.nD Cert.MixIdeal.τ).loc Cert.MixIdeal.main_arg1)
      ∧ m' ((c.tc : Thread Cert.MixRefIdeal.nD Cert.MixRefIdeal.τ).loc Cert.MixRefIdeal.main_arg2) = m ((c.tc : Thread Cert.MixIdeal.nD Cert.MixIdeal.τ).loc Cert.MixIdeal.main_arg2)
      ∧ m' ((c.tc : Thread Cert.MixRefIdeal.nD Cert.MixRefIdeal.τ).loc Cert.MixRefIdeal.main_arg3) = m ((c.tc : Thread Cert.MixIdeal.nD Cert.MixIdeal.τ).loc Cert.MixIdeal.main_arg3)) →
    ∃ (v0 : (c : Dev Cert.MixIdeal.nD) → Buf (Elt Ideal) ((c.tc : Thread Cert.MixIdeal.nD Cert.MixIdeal.τ).loc Cert.MixIdeal.main_v8)),
      θ_run (Cert.MixIdeal.defs (F := Ideal)) (onTc (τ := Cert.MixIdeal.τ) (Cert.MixIdeal.main (F := Ideal))) ⟨m, fun _ => 0, g⟩ (fun r => ∀ c : Dev Cert.MixIdeal.nD,
          r.2.mem ((c.tc : Thread Cert.MixIdeal.nD Cert.MixIdeal.τ).loc Cert.MixIdeal.main_v8) = v0 c
          ∧ r.2.mem ((c.tc : Thread Cert.MixIdeal.nD Cert.MixIdeal.τ).loc Cert.MixIdeal.main_arg0) = m ((c.tc : Thread Cert.MixIdeal.nD Cert.MixIdeal.τ).loc Cert.MixIdeal.main_arg0)
          ∧ r.2.mem ((c.tc : Thread Cert.MixIdeal.nD Cert.MixIdeal.τ).loc Cert.MixIdeal.main_arg1) = m ((c.tc : Thread Cert.MixIdeal.nD Cert.MixIdeal.τ).loc Cert.MixIdeal.main_arg1)
          ∧ r.2.mem ((c.tc : Thread Cert.MixIdeal.nD Cert.MixIdeal.τ).loc Cert.MixIdeal.main_arg2) = m ((c.tc : Thread Cert.MixIdeal.nD Cert.MixIdeal.τ).loc Cert.MixIdeal.main_arg2)
          ∧ r.2.mem ((c.tc : Thread Cert.MixIdeal.nD Cert.MixIdeal.τ).loc Cert.MixIdeal.main_arg3) = m ((c.tc : Thread Cert.MixIdeal.nD Cert.MixIdeal.τ).loc Cert.MixIdeal.main_arg3))
      ∧ θ_run (Cert.MixRefIdeal.defs (F := Ideal)) (onTc (τ := Cert.MixRefIdeal.τ) (Cert.MixRefIdeal.main (F := Ideal))) ⟨m', fun _ => 0, g'⟩ (fun r => ∀ c : Dev Cert.MixRefIdeal.nD,
          r.2.mem ((c.tc : Thread Cert.MixRefIdeal.nD Cert.MixRefIdeal.τ).loc Cert.MixRefIdeal.main_v20) = v0 c
          ∧ r.2.mem ((c.tc : Thread Cert.MixRefIdeal.nD Cert.MixRefIdeal.τ).loc Cert.MixRefIdeal.main_arg0) = m' ((c.tc : Thread Cert.MixRefIdeal.nD Cert.MixRefIdeal.τ).loc Cert.MixRefIdeal.main_arg0)
          ∧ r.2.mem ((c.tc : Thread Cert.MixRefIdeal.nD Cert.MixRefIdeal.τ).loc Cert.MixRefIdeal.main_arg1) = m' ((c.tc : Thread Cert.MixRefIdeal.nD Cert.MixRefIdeal.τ).loc Cert.MixRefIdeal.main_arg1)
          ∧ r.2.mem ((c.tc : Thread Cert.MixRefIdeal.nD Cert.MixRefIdeal.τ).loc Cert.MixRefIdeal.main_arg2) = m' ((c.tc : Thread Cert.MixRefIdeal.nD Cert.MixRefIdeal.τ).loc Cert.MixRefIdeal.main_arg2)
          ∧ r.2.mem ((c.tc : Thread Cert.MixRefIdeal.nD Cert.MixRefIdeal.τ).loc Cert.MixRefIdeal.main_arg3) = m' ((c.tc : Thread Cert.MixRefIdeal.nD Cert.MixRefIdeal.τ).loc Cert.MixRefIdeal.main_arg3))

def preserves_Norm_NormIdeal : Prop :=
  True

def algebraic_NormIdeal_NormRefIdeal [hNormIdeal : Cert.NormIdeal.Facts] [hNormRefIdeal : Cert.NormRefIdeal.Facts] : Prop :=
  ∀ (m : (ℓ : Loc Cert.NormIdeal.nD Cert.NormIdeal.τ Cert.NormIdeal.sig) → Buf (Elt Ideal) ℓ) (g : Dev Cert.NormIdeal.nD → PrngReg)
    (m' : (ℓ : Loc Cert.NormRefIdeal.nD Cert.NormRefIdeal.τ Cert.NormRefIdeal.sig) → Buf (Elt Ideal) ℓ) (g' : Dev Cert.NormRefIdeal.nD → PrngReg), Pre_NormIdeal m →
    (∀ c : Dev Cert.NormIdeal.nD,
      m' ((c.tc : Thread Cert.NormRefIdeal.nD Cert.NormRefIdeal.τ).loc Cert.NormRefIdeal.main_arg0) = m ((c.tc : Thread Cert.NormIdeal.nD Cert.NormIdeal.τ).loc Cert.NormIdeal.main_arg0)
      ∧ m' ((c.tc : Thread Cert.NormRefIdeal.nD Cert.NormRefIdeal.τ).loc Cert.NormRefIdeal.main_arg1) = m ((c.tc : Thread Cert.NormIdeal.nD Cert.NormIdeal.τ).loc Cert.NormIdeal.main_arg1)) →
    ∃ (v0 : (c : Dev Cert.NormIdeal.nD) → Buf (Elt Ideal) ((c.tc : Thread Cert.NormIdeal.nD Cert.NormIdeal.τ).loc Cert.NormIdeal.main_v3)),
      θ_run (Cert.NormIdeal.defs (F := Ideal)) (onTc (τ := Cert.NormIdeal.τ) (Cert.NormIdeal.main (F := Ideal))) ⟨m, fun _ => 0, g⟩ (fun r => ∀ c : Dev Cert.NormIdeal.nD,
          r.2.mem ((c.tc : Thread Cert.NormIdeal.nD Cert.NormIdeal.τ).loc Cert.NormIdeal.main_v3) = v0 c
          ∧ r.2.mem ((c.tc : Thread Cert.NormIdeal.nD Cert.NormIdeal.τ).loc Cert.NormIdeal.main_arg0) = m ((c.tc : Thread Cert.NormIdeal.nD Cert.NormIdeal.τ).loc Cert.NormIdeal.main_arg0)
          ∧ r.2.mem ((c.tc : Thread Cert.NormIdeal.nD Cert.NormIdeal.τ).loc Cert.NormIdeal.main_arg1) = m ((c.tc : Thread Cert.NormIdeal.nD Cert.NormIdeal.τ).loc Cert.NormIdeal.main_arg1))
      ∧ θ_run (Cert.NormRefIdeal.defs (F := Ideal)) (onTc (τ := Cert.NormRefIdeal.τ) (Cert.NormRefIdeal.main (F := Ideal))) ⟨m', fun _ => 0, g'⟩ (fun r => ∀ c : Dev Cert.NormRefIdeal.nD,
          r.2.mem ((c.tc : Thread Cert.NormRefIdeal.nD Cert.NormRefIdeal.τ).loc Cert.NormRefIdeal.main_v15) = v0 c
          ∧ r.2.mem ((c.tc : Thread Cert.NormRefIdeal.nD Cert.NormRefIdeal.τ).loc Cert.NormRefIdeal.main_arg0) = m' ((c.tc : Thread Cert.NormRefIdeal.nD Cert.NormRefIdeal.τ).loc Cert.NormRefIdeal.main_arg0)
          ∧ r.2.mem ((c.tc : Thread Cert.NormRefIdeal.nD Cert.NormRefIdeal.τ).loc Cert.NormRefIdeal.main_arg1) = m' ((c.tc : Thread Cert.NormRefIdeal.nD Cert.NormRefIdeal.τ).loc Cert.NormRefIdeal.main_arg1))

def preserves_Attn_AttnIdeal : Prop :=
  True

def algebraic_AttnIdeal_AttnRefIdeal_pre_finite_qk [hAttnIdeal : Cert.AttnIdeal.Facts] [hAttnRefIdeal : Cert.AttnRefIdeal.Facts] [hPre_finite_qk : Cert.Pre_finite_qk.Facts] : Prop :=
  ∀ (m : (ℓ : Loc Cert.AttnIdeal.nD Cert.AttnIdeal.τ Cert.AttnIdeal.sig) → Buf (Elt Ideal) ℓ) (g : Dev Cert.AttnIdeal.nD → PrngReg)
    (m' : (ℓ : Loc Cert.AttnRefIdeal.nD Cert.AttnRefIdeal.τ Cert.AttnRefIdeal.sig) → Buf (Elt Ideal) ℓ) (g' : Dev Cert.AttnRefIdeal.nD → PrngReg), Pre_AttnIdeal_finite_qk m →
    (∀ c : Dev Cert.AttnIdeal.nD,
      m' ((c.tc : Thread Cert.AttnRefIdeal.nD Cert.AttnRefIdeal.τ).loc Cert.AttnRefIdeal.main_arg0) = m ((c.tc : Thread Cert.AttnIdeal.nD Cert.AttnIdeal.τ).loc Cert.AttnIdeal.main_arg0)
      ∧ m' ((c.tc : Thread Cert.AttnRefIdeal.nD Cert.AttnRefIdeal.τ).loc Cert.AttnRefIdeal.main_arg1) = m ((c.tc : Thread Cert.AttnIdeal.nD Cert.AttnIdeal.τ).loc Cert.AttnIdeal.main_arg1)
      ∧ m' ((c.tc : Thread Cert.AttnRefIdeal.nD Cert.AttnRefIdeal.τ).loc Cert.AttnRefIdeal.main_arg2) = m ((c.tc : Thread Cert.AttnIdeal.nD Cert.AttnIdeal.τ).loc Cert.AttnIdeal.main_arg2)) →
    ∃ (v0 : (c : Dev Cert.AttnIdeal.nD) → Buf (Elt Ideal) ((c.tc : Thread Cert.AttnIdeal.nD Cert.AttnIdeal.τ).loc Cert.AttnIdeal.main_v12_0)) (v1 : (c : Dev Cert.AttnIdeal.nD) → Buf (Elt Ideal) ((c.tc : Thread Cert.AttnIdeal.nD Cert.AttnIdeal.τ).loc Cert.AttnIdeal.main_v12_1)) (v2 : (c : Dev Cert.AttnIdeal.nD) → Buf (Elt Ideal) ((c.tc : Thread Cert.AttnIdeal.nD Cert.AttnIdeal.τ).loc Cert.AttnIdeal.main_v12_2)),
      θ_run (Cert.AttnIdeal.defs (F := Ideal)) (onTc (τ := Cert.AttnIdeal.τ) (Cert.AttnIdeal.main (F := Ideal))) ⟨m, fun _ => 0, g⟩ (fun r => ∀ c : Dev Cert.AttnIdeal.nD,
          r.2.mem ((c.tc : Thread Cert.AttnIdeal.nD Cert.AttnIdeal.τ).loc Cert.AttnIdeal.main_v12_0) = v0 c
          ∧ r.2.mem ((c.tc : Thread Cert.AttnIdeal.nD Cert.AttnIdeal.τ).loc Cert.AttnIdeal.main_v12_1) = v1 c
          ∧ r.2.mem ((c.tc : Thread Cert.AttnIdeal.nD Cert.AttnIdeal.τ).loc Cert.AttnIdeal.main_v12_2) = v2 c
          ∧ r.2.mem ((c.tc : Thread Cert.AttnIdeal.nD Cert.AttnIdeal.τ).loc Cert.AttnIdeal.main_arg0) = m ((c.tc : Thread Cert.AttnIdeal.nD Cert.AttnIdeal.τ).loc Cert.AttnIdeal.main_arg0)
          ∧ r.2.mem ((c.tc : Thread Cert.AttnIdeal.nD Cert.AttnIdeal.τ).loc Cert.AttnIdeal.main_arg1) = m ((c.tc : Thread Cert.AttnIdeal.nD Cert.AttnIdeal.τ).loc Cert.AttnIdeal.main_arg1)
          ∧ r.2.mem ((c.tc : Thread Cert.AttnIdeal.nD Cert.AttnIdeal.τ).loc Cert.AttnIdeal.main_arg2) = m ((c.tc : Thread Cert.AttnIdeal.nD Cert.AttnIdeal.τ).loc Cert.AttnIdeal.main_arg2))
      ∧ θ_run (Cert.AttnRefIdeal.defs (F := Ideal)) (onTc (τ := Cert.AttnRefIdeal.τ) (Cert.AttnRefIdeal.main (F := Ideal))) ⟨m', fun _ => 0, g'⟩ (fun r => ∀ c : Dev Cert.AttnRefIdeal.nD,
          r.2.mem ((c.tc : Thread Cert.AttnRefIdeal.nD Cert.AttnRefIdeal.τ).loc Cert.AttnRefIdeal.main_v27) = v0 c
          ∧ r.2.mem ((c.tc : Thread Cert.AttnRefIdeal.nD Cert.AttnRefIdeal.τ).loc Cert.AttnRefIdeal.main_v47) = v1 c
          ∧ r.2.mem ((c.tc : Thread Cert.AttnRefIdeal.nD Cert.AttnRefIdeal.τ).loc Cert.AttnRefIdeal.main_v48) = v2 c
          ∧ r.2.mem ((c.tc : Thread Cert.AttnRefIdeal.nD Cert.AttnRefIdeal.τ).loc Cert.AttnRefIdeal.main_arg0) = m' ((c.tc : Thread Cert.AttnRefIdeal.nD Cert.AttnRefIdeal.τ).loc Cert.AttnRefIdeal.main_arg0)
          ∧ r.2.mem ((c.tc : Thread Cert.AttnRefIdeal.nD Cert.AttnRefIdeal.τ).loc Cert.AttnRefIdeal.main_arg1) = m' ((c.tc : Thread Cert.AttnRefIdeal.nD Cert.AttnRefIdeal.τ).loc Cert.AttnRefIdeal.main_arg1)
          ∧ r.2.mem ((c.tc : Thread Cert.AttnRefIdeal.nD Cert.AttnRefIdeal.τ).loc Cert.AttnRefIdeal.main_arg2) = m' ((c.tc : Thread Cert.AttnRefIdeal.nD Cert.AttnRefIdeal.τ).loc Cert.AttnRefIdeal.main_arg2))

def preserves_Dnorm_DnormIdeal : Prop :=
  True

def algebraic_DnormIdeal_DnormRefIdeal [hDnormIdeal : Cert.DnormIdeal.Facts] [hDnormRefIdeal : Cert.DnormRefIdeal.Facts] : Prop :=
  ∀ (m : (ℓ : Loc Cert.DnormIdeal.nD Cert.DnormIdeal.τ Cert.DnormIdeal.sig) → Buf (Elt Ideal) ℓ) (g : Dev Cert.DnormIdeal.nD → PrngReg)
    (m' : (ℓ : Loc Cert.DnormRefIdeal.nD Cert.DnormRefIdeal.τ Cert.DnormRefIdeal.sig) → Buf (Elt Ideal) ℓ) (g' : Dev Cert.DnormRefIdeal.nD → PrngReg), Pre_DnormIdeal m →
    (∀ c : Dev Cert.DnormIdeal.nD,
      m' ((c.tc : Thread Cert.DnormRefIdeal.nD Cert.DnormRefIdeal.τ).loc Cert.DnormRefIdeal.main_arg0) = m ((c.tc : Thread Cert.DnormIdeal.nD Cert.DnormIdeal.τ).loc Cert.DnormIdeal.main_arg0)
      ∧ m' ((c.tc : Thread Cert.DnormRefIdeal.nD Cert.DnormRefIdeal.τ).loc Cert.DnormRefIdeal.main_arg1) = m ((c.tc : Thread Cert.DnormIdeal.nD Cert.DnormIdeal.τ).loc Cert.DnormIdeal.main_arg1)
      ∧ m' ((c.tc : Thread Cert.DnormRefIdeal.nD Cert.DnormRefIdeal.τ).loc Cert.DnormRefIdeal.main_arg2) = m ((c.tc : Thread Cert.DnormIdeal.nD Cert.DnormIdeal.τ).loc Cert.DnormIdeal.main_arg2)
      ∧ m' ((c.tc : Thread Cert.DnormRefIdeal.nD Cert.DnormRefIdeal.τ).loc Cert.DnormRefIdeal.main_arg3) = m ((c.tc : Thread Cert.DnormIdeal.nD Cert.DnormIdeal.τ).loc Cert.DnormIdeal.main_arg3)) →
    ∃ (v0 : (c : Dev Cert.DnormIdeal.nD) → Buf (Elt Ideal) ((c.tc : Thread Cert.DnormIdeal.nD Cert.DnormIdeal.τ).loc Cert.DnormIdeal.main_v7_0)) (v1 : (c : Dev Cert.DnormIdeal.nD) → Buf (Elt Ideal) ((c.tc : Thread Cert.DnormIdeal.nD Cert.DnormIdeal.τ).loc Cert.DnormIdeal.main_v7_1)) (v2 : (c : Dev Cert.DnormIdeal.nD) → Buf (Elt Ideal) ((c.tc : Thread Cert.DnormIdeal.nD Cert.DnormIdeal.τ).loc Cert.DnormIdeal.main_v7_2)),
      θ_run (Cert.DnormIdeal.defs (F := Ideal)) (onTc (τ := Cert.DnormIdeal.τ) (Cert.DnormIdeal.main (F := Ideal))) ⟨m, fun _ => 0, g⟩ (fun r => ∀ c : Dev Cert.DnormIdeal.nD,
          r.2.mem ((c.tc : Thread Cert.DnormIdeal.nD Cert.DnormIdeal.τ).loc Cert.DnormIdeal.main_v7_0) = v0 c
          ∧ r.2.mem ((c.tc : Thread Cert.DnormIdeal.nD Cert.DnormIdeal.τ).loc Cert.DnormIdeal.main_v7_1) = v1 c
          ∧ r.2.mem ((c.tc : Thread Cert.DnormIdeal.nD Cert.DnormIdeal.τ).loc Cert.DnormIdeal.main_v7_2) = v2 c
          ∧ r.2.mem ((c.tc : Thread Cert.DnormIdeal.nD Cert.DnormIdeal.τ).loc Cert.DnormIdeal.main_arg0) = m ((c.tc : Thread Cert.DnormIdeal.nD Cert.DnormIdeal.τ).loc Cert.DnormIdeal.main_arg0)
          ∧ r.2.mem ((c.tc : Thread Cert.DnormIdeal.nD Cert.DnormIdeal.τ).loc Cert.DnormIdeal.main_arg1) = m ((c.tc : Thread Cert.DnormIdeal.nD Cert.DnormIdeal.τ).loc Cert.DnormIdeal.main_arg1)
          ∧ r.2.mem ((c.tc : Thread Cert.DnormIdeal.nD Cert.DnormIdeal.τ).loc Cert.DnormIdeal.main_arg2) = m ((c.tc : Thread Cert.DnormIdeal.nD Cert.DnormIdeal.τ).loc Cert.DnormIdeal.main_arg2)
          ∧ r.2.mem ((c.tc : Thread Cert.DnormIdeal.nD Cert.DnormIdeal.τ).loc Cert.DnormIdeal.main_arg3) = m ((c.tc : Thread Cert.DnormIdeal.nD Cert.DnormIdeal.τ).loc Cert.DnormIdeal.main_arg3))
      ∧ θ_run (Cert.DnormRefIdeal.defs (F := Ideal)) (onTc (τ := Cert.DnormRefIdeal.τ) (Cert.DnormRefIdeal.main (F := Ideal))) ⟨m', fun _ => 0, g'⟩ (fun r => ∀ c : Dev Cert.DnormRefIdeal.nD,
          r.2.mem ((c.tc : Thread Cert.DnormRefIdeal.nD Cert.DnormRefIdeal.τ).loc Cert.DnormRefIdeal.main_v39) = v0 c
          ∧ r.2.mem ((c.tc : Thread Cert.DnormRefIdeal.nD Cert.DnormRefIdeal.τ).loc Cert.DnormRefIdeal.main_v40) = v1 c
          ∧ r.2.mem ((c.tc : Thread Cert.DnormRefIdeal.nD Cert.DnormRefIdeal.τ).loc Cert.DnormRefIdeal.main_v41) = v2 c
          ∧ r.2.mem ((c.tc : Thread Cert.DnormRefIdeal.nD Cert.DnormRefIdeal.τ).loc Cert.DnormRefIdeal.main_arg0) = m' ((c.tc : Thread Cert.DnormRefIdeal.nD Cert.DnormRefIdeal.τ).loc Cert.DnormRefIdeal.main_arg0)
          ∧ r.2.mem ((c.tc : Thread Cert.DnormRefIdeal.nD Cert.DnormRefIdeal.τ).loc Cert.DnormRefIdeal.main_arg1) = m' ((c.tc : Thread Cert.DnormRefIdeal.nD Cert.DnormRefIdeal.τ).loc Cert.DnormRefIdeal.main_arg1)
          ∧ r.2.mem ((c.tc : Thread Cert.DnormRefIdeal.nD Cert.DnormRefIdeal.τ).loc Cert.DnormRefIdeal.main_arg2) = m' ((c.tc : Thread Cert.DnormRefIdeal.nD Cert.DnormRefIdeal.τ).loc Cert.DnormRefIdeal.main_arg2)
          ∧ r.2.mem ((c.tc : Thread Cert.DnormRefIdeal.nD Cert.DnormRefIdeal.τ).loc Cert.DnormRefIdeal.main_arg3) = m' ((c.tc : Thread Cert.DnormRefIdeal.nD Cert.DnormRefIdeal.τ).loc Cert.DnormRefIdeal.main_arg3))

def preserves_LatQ_LatQIdeal : Prop :=
  True

def algebraic_LatQIdeal_LatQRefIdeal [hLatQIdeal : Cert.LatQIdeal.Facts] [hLatQRefIdeal : Cert.LatQRefIdeal.Facts] : Prop :=
  ∀ (m : (ℓ : Loc Cert.LatQIdeal.nD Cert.LatQIdeal.τ Cert.LatQIdeal.sig) → Buf (Elt Ideal) ℓ) (g : Dev Cert.LatQIdeal.nD → PrngReg)
    (m' : (ℓ : Loc Cert.LatQRefIdeal.nD Cert.LatQRefIdeal.τ Cert.LatQRefIdeal.sig) → Buf (Elt Ideal) ℓ) (g' : Dev Cert.LatQRefIdeal.nD → PrngReg), Pre_LatQIdeal m →
    (∀ c : Dev Cert.LatQIdeal.nD,
      m' ((c.tc : Thread Cert.LatQRefIdeal.nD Cert.LatQRefIdeal.τ).loc Cert.LatQRefIdeal.main_arg0) = m ((c.tc : Thread Cert.LatQIdeal.nD Cert.LatQIdeal.τ).loc Cert.LatQIdeal.main_arg0)
      ∧ m' ((c.tc : Thread Cert.LatQRefIdeal.nD Cert.LatQRefIdeal.τ).loc Cert.LatQRefIdeal.main_arg1) = m ((c.tc : Thread Cert.LatQIdeal.nD Cert.LatQIdeal.τ).loc Cert.LatQIdeal.main_arg1)) →
    ∃ (v0 : (c : Dev Cert.LatQIdeal.nD) → Buf (Elt Ideal) ((c.tc : Thread Cert.LatQIdeal.nD Cert.LatQIdeal.τ).loc Cert.LatQIdeal.main_v3)),
      θ_run (Cert.LatQIdeal.defs (F := Ideal)) (onTc (τ := Cert.LatQIdeal.τ) (Cert.LatQIdeal.main (F := Ideal))) ⟨m, fun _ => 0, g⟩ (fun r => ∀ c : Dev Cert.LatQIdeal.nD,
          r.2.mem ((c.tc : Thread Cert.LatQIdeal.nD Cert.LatQIdeal.τ).loc Cert.LatQIdeal.main_v3) = v0 c
          ∧ r.2.mem ((c.tc : Thread Cert.LatQIdeal.nD Cert.LatQIdeal.τ).loc Cert.LatQIdeal.main_arg0) = m ((c.tc : Thread Cert.LatQIdeal.nD Cert.LatQIdeal.τ).loc Cert.LatQIdeal.main_arg0)
          ∧ r.2.mem ((c.tc : Thread Cert.LatQIdeal.nD Cert.LatQIdeal.τ).loc Cert.LatQIdeal.main_arg1) = m ((c.tc : Thread Cert.LatQIdeal.nD Cert.LatQIdeal.τ).loc Cert.LatQIdeal.main_arg1))
      ∧ θ_run (Cert.LatQRefIdeal.defs (F := Ideal)) (onTc (τ := Cert.LatQRefIdeal.τ) (Cert.LatQRefIdeal.main (F := Ideal))) ⟨m', fun _ => 0, g'⟩ (fun r => ∀ c : Dev Cert.LatQRefIdeal.nD,
          r.2.mem ((c.tc : Thread Cert.LatQRefIdeal.nD Cert.LatQRefIdeal.τ).loc Cert.LatQRefIdeal.main_v16) = v0 c
          ∧ r.2.mem ((c.tc : Thread Cert.LatQRefIdeal.nD Cert.LatQRefIdeal.τ).loc Cert.LatQRefIdeal.main_arg0) = m' ((c.tc : Thread Cert.LatQRefIdeal.nD Cert.LatQRefIdeal.τ).loc Cert.LatQRefIdeal.main_arg0)
          ∧ r.2.mem ((c.tc : Thread Cert.LatQRefIdeal.nD Cert.LatQRefIdeal.τ).loc Cert.LatQRefIdeal.main_arg1) = m' ((c.tc : Thread Cert.LatQRefIdeal.nD Cert.LatQRefIdeal.τ).loc Cert.LatQRefIdeal.main_arg1))

def preserves_LatKv_LatKvIdeal : Prop :=
  True

def algebraic_LatKvIdeal_LatKvRefIdeal [hLatKvIdeal : Cert.LatKvIdeal.Facts] [hLatKvRefIdeal : Cert.LatKvRefIdeal.Facts] : Prop :=
  ∀ (m : (ℓ : Loc Cert.LatKvIdeal.nD Cert.LatKvIdeal.τ Cert.LatKvIdeal.sig) → Buf (Elt Ideal) ℓ) (g : Dev Cert.LatKvIdeal.nD → PrngReg)
    (m' : (ℓ : Loc Cert.LatKvRefIdeal.nD Cert.LatKvRefIdeal.τ Cert.LatKvRefIdeal.sig) → Buf (Elt Ideal) ℓ) (g' : Dev Cert.LatKvRefIdeal.nD → PrngReg), Pre_LatKvIdeal m →
    (∀ c : Dev Cert.LatKvIdeal.nD,
      m' ((c.tc : Thread Cert.LatKvRefIdeal.nD Cert.LatKvRefIdeal.τ).loc Cert.LatKvRefIdeal.main_arg0) = m ((c.tc : Thread Cert.LatKvIdeal.nD Cert.LatKvIdeal.τ).loc Cert.LatKvIdeal.main_arg0)
      ∧ m' ((c.tc : Thread Cert.LatKvRefIdeal.nD Cert.LatKvRefIdeal.τ).loc Cert.LatKvRefIdeal.main_arg1) = m ((c.tc : Thread Cert.LatKvIdeal.nD Cert.LatKvIdeal.τ).loc Cert.LatKvIdeal.main_arg1)) →
    ∃ (v0 : (c : Dev Cert.LatKvIdeal.nD) → Buf (Elt Ideal) ((c.tc : Thread Cert.LatKvIdeal.nD Cert.LatKvIdeal.τ).loc Cert.LatKvIdeal.main_v3)),
      θ_run (Cert.LatKvIdeal.defs (F := Ideal)) (onTc (τ := Cert.LatKvIdeal.τ) (Cert.LatKvIdeal.main (F := Ideal))) ⟨m, fun _ => 0, g⟩ (fun r => ∀ c : Dev Cert.LatKvIdeal.nD,
          r.2.mem ((c.tc : Thread Cert.LatKvIdeal.nD Cert.LatKvIdeal.τ).loc Cert.LatKvIdeal.main_v3) = v0 c
          ∧ r.2.mem ((c.tc : Thread Cert.LatKvIdeal.nD Cert.LatKvIdeal.τ).loc Cert.LatKvIdeal.main_arg0) = m ((c.tc : Thread Cert.LatKvIdeal.nD Cert.LatKvIdeal.τ).loc Cert.LatKvIdeal.main_arg0)
          ∧ r.2.mem ((c.tc : Thread Cert.LatKvIdeal.nD Cert.LatKvIdeal.τ).loc Cert.LatKvIdeal.main_arg1) = m ((c.tc : Thread Cert.LatKvIdeal.nD Cert.LatKvIdeal.τ).loc Cert.LatKvIdeal.main_arg1))
      ∧ θ_run (Cert.LatKvRefIdeal.defs (F := Ideal)) (onTc (τ := Cert.LatKvRefIdeal.τ) (Cert.LatKvRefIdeal.main (F := Ideal))) ⟨m', fun _ => 0, g'⟩ (fun r => ∀ c : Dev Cert.LatKvRefIdeal.nD,
          r.2.mem ((c.tc : Thread Cert.LatKvRefIdeal.nD Cert.LatKvRefIdeal.τ).loc Cert.LatKvRefIdeal.main_v16) = v0 c
          ∧ r.2.mem ((c.tc : Thread Cert.LatKvRefIdeal.nD Cert.LatKvRefIdeal.τ).loc Cert.LatKvRefIdeal.main_arg0) = m' ((c.tc : Thread Cert.LatKvRefIdeal.nD Cert.LatKvRefIdeal.τ).loc Cert.LatKvRefIdeal.main_arg0)
          ∧ r.2.mem ((c.tc : Thread Cert.LatKvRefIdeal.nD Cert.LatKvRefIdeal.τ).loc Cert.LatKvRefIdeal.main_arg1) = m' ((c.tc : Thread Cert.LatKvRefIdeal.nD Cert.LatKvRefIdeal.τ).loc Cert.LatKvRefIdeal.main_arg1))

def preserves_DlatQ_DlatQIdeal : Prop :=
  True

def algebraic_DlatQIdeal_DlatQRefIdeal [hDlatQIdeal : Cert.DlatQIdeal.Facts] [hDlatQRefIdeal : Cert.DlatQRefIdeal.Facts] : Prop :=
  ∀ (m : (ℓ : Loc Cert.DlatQIdeal.nD Cert.DlatQIdeal.τ Cert.DlatQIdeal.sig) → Buf (Elt Ideal) ℓ) (g : Dev Cert.DlatQIdeal.nD → PrngReg)
    (m' : (ℓ : Loc Cert.DlatQRefIdeal.nD Cert.DlatQRefIdeal.τ Cert.DlatQRefIdeal.sig) → Buf (Elt Ideal) ℓ) (g' : Dev Cert.DlatQRefIdeal.nD → PrngReg), Pre_DlatQIdeal m →
    (∀ c : Dev Cert.DlatQIdeal.nD,
      m' ((c.tc : Thread Cert.DlatQRefIdeal.nD Cert.DlatQRefIdeal.τ).loc Cert.DlatQRefIdeal.main_arg0) = m ((c.tc : Thread Cert.DlatQIdeal.nD Cert.DlatQIdeal.τ).loc Cert.DlatQIdeal.main_arg0)
      ∧ m' ((c.tc : Thread Cert.DlatQRefIdeal.nD Cert.DlatQRefIdeal.τ).loc Cert.DlatQRefIdeal.main_arg1) = m ((c.tc : Thread Cert.DlatQIdeal.nD Cert.DlatQIdeal.τ).loc Cert.DlatQIdeal.main_arg1)
      ∧ m' ((c.tc : Thread Cert.DlatQRefIdeal.nD Cert.DlatQRefIdeal.τ).loc Cert.DlatQRefIdeal.main_arg2) = m ((c.tc : Thread Cert.DlatQIdeal.nD Cert.DlatQIdeal.τ).loc Cert.DlatQIdeal.main_arg2)) →
    ∃ (v0 : (c : Dev Cert.DlatQIdeal.nD) → Buf (Elt Ideal) ((c.tc : Thread Cert.DlatQIdeal.nD Cert.DlatQIdeal.τ).loc Cert.DlatQIdeal.main_v5_0)) (v1 : (c : Dev Cert.DlatQIdeal.nD) → Buf (Elt Ideal) ((c.tc : Thread Cert.DlatQIdeal.nD Cert.DlatQIdeal.τ).loc Cert.DlatQIdeal.main_v5_1)) (v2 : (c : Dev Cert.DlatQIdeal.nD) → Buf (Elt Ideal) ((c.tc : Thread Cert.DlatQIdeal.nD Cert.DlatQIdeal.τ).loc Cert.DlatQIdeal.main_v5_2)),
      θ_run (Cert.DlatQIdeal.defs (F := Ideal)) (onTc (τ := Cert.DlatQIdeal.τ) (Cert.DlatQIdeal.main (F := Ideal))) ⟨m, fun _ => 0, g⟩ (fun r => ∀ c : Dev Cert.DlatQIdeal.nD,
          r.2.mem ((c.tc : Thread Cert.DlatQIdeal.nD Cert.DlatQIdeal.τ).loc Cert.DlatQIdeal.main_v5_0) = v0 c
          ∧ r.2.mem ((c.tc : Thread Cert.DlatQIdeal.nD Cert.DlatQIdeal.τ).loc Cert.DlatQIdeal.main_v5_1) = v1 c
          ∧ r.2.mem ((c.tc : Thread Cert.DlatQIdeal.nD Cert.DlatQIdeal.τ).loc Cert.DlatQIdeal.main_v5_2) = v2 c
          ∧ r.2.mem ((c.tc : Thread Cert.DlatQIdeal.nD Cert.DlatQIdeal.τ).loc Cert.DlatQIdeal.main_arg0) = m ((c.tc : Thread Cert.DlatQIdeal.nD Cert.DlatQIdeal.τ).loc Cert.DlatQIdeal.main_arg0)
          ∧ r.2.mem ((c.tc : Thread Cert.DlatQIdeal.nD Cert.DlatQIdeal.τ).loc Cert.DlatQIdeal.main_arg1) = m ((c.tc : Thread Cert.DlatQIdeal.nD Cert.DlatQIdeal.τ).loc Cert.DlatQIdeal.main_arg1)
          ∧ r.2.mem ((c.tc : Thread Cert.DlatQIdeal.nD Cert.DlatQIdeal.τ).loc Cert.DlatQIdeal.main_arg2) = m ((c.tc : Thread Cert.DlatQIdeal.nD Cert.DlatQIdeal.τ).loc Cert.DlatQIdeal.main_arg2))
      ∧ θ_run (Cert.DlatQRefIdeal.defs (F := Ideal)) (onTc (τ := Cert.DlatQRefIdeal.τ) (Cert.DlatQRefIdeal.main (F := Ideal))) ⟨m', fun _ => 0, g'⟩ (fun r => ∀ c : Dev Cert.DlatQRefIdeal.nD,
          r.2.mem ((c.tc : Thread Cert.DlatQRefIdeal.nD Cert.DlatQRefIdeal.τ).loc Cert.DlatQRefIdeal.main_v39) = v0 c
          ∧ r.2.mem ((c.tc : Thread Cert.DlatQRefIdeal.nD Cert.DlatQRefIdeal.τ).loc Cert.DlatQRefIdeal.main_v40) = v1 c
          ∧ r.2.mem ((c.tc : Thread Cert.DlatQRefIdeal.nD Cert.DlatQRefIdeal.τ).loc Cert.DlatQRefIdeal.main_v41) = v2 c
          ∧ r.2.mem ((c.tc : Thread Cert.DlatQRefIdeal.nD Cert.DlatQRefIdeal.τ).loc Cert.DlatQRefIdeal.main_arg0) = m' ((c.tc : Thread Cert.DlatQRefIdeal.nD Cert.DlatQRefIdeal.τ).loc Cert.DlatQRefIdeal.main_arg0)
          ∧ r.2.mem ((c.tc : Thread Cert.DlatQRefIdeal.nD Cert.DlatQRefIdeal.τ).loc Cert.DlatQRefIdeal.main_arg1) = m' ((c.tc : Thread Cert.DlatQRefIdeal.nD Cert.DlatQRefIdeal.τ).loc Cert.DlatQRefIdeal.main_arg1)
          ∧ r.2.mem ((c.tc : Thread Cert.DlatQRefIdeal.nD Cert.DlatQRefIdeal.τ).loc Cert.DlatQRefIdeal.main_arg2) = m' ((c.tc : Thread Cert.DlatQRefIdeal.nD Cert.DlatQRefIdeal.τ).loc Cert.DlatQRefIdeal.main_arg2))

def preserves_DlatKv_DlatKvIdeal : Prop :=
  True

def algebraic_DlatKvIdeal_DlatKvRefIdeal [hDlatKvIdeal : Cert.DlatKvIdeal.Facts] [hDlatKvRefIdeal : Cert.DlatKvRefIdeal.Facts] : Prop :=
  ∀ (m : (ℓ : Loc Cert.DlatKvIdeal.nD Cert.DlatKvIdeal.τ Cert.DlatKvIdeal.sig) → Buf (Elt Ideal) ℓ) (g : Dev Cert.DlatKvIdeal.nD → PrngReg)
    (m' : (ℓ : Loc Cert.DlatKvRefIdeal.nD Cert.DlatKvRefIdeal.τ Cert.DlatKvRefIdeal.sig) → Buf (Elt Ideal) ℓ) (g' : Dev Cert.DlatKvRefIdeal.nD → PrngReg), Pre_DlatKvIdeal m →
    (∀ c : Dev Cert.DlatKvIdeal.nD,
      m' ((c.tc : Thread Cert.DlatKvRefIdeal.nD Cert.DlatKvRefIdeal.τ).loc Cert.DlatKvRefIdeal.main_arg0) = m ((c.tc : Thread Cert.DlatKvIdeal.nD Cert.DlatKvIdeal.τ).loc Cert.DlatKvIdeal.main_arg0)
      ∧ m' ((c.tc : Thread Cert.DlatKvRefIdeal.nD Cert.DlatKvRefIdeal.τ).loc Cert.DlatKvRefIdeal.main_arg1) = m ((c.tc : Thread Cert.DlatKvIdeal.nD Cert.DlatKvIdeal.τ).loc Cert.DlatKvIdeal.main_arg1)
      ∧ m' ((c.tc : Thread Cert.DlatKvRefIdeal.nD Cert.DlatKvRefIdeal.τ).loc Cert.DlatKvRefIdeal.main_arg2) = m ((c.tc : Thread Cert.DlatKvIdeal.nD Cert.DlatKvIdeal.τ).loc Cert.DlatKvIdeal.main_arg2)) →
    ∃ (v0 : (c : Dev Cert.DlatKvIdeal.nD) → Buf (Elt Ideal) ((c.tc : Thread Cert.DlatKvIdeal.nD Cert.DlatKvIdeal.τ).loc Cert.DlatKvIdeal.main_v5_0)) (v1 : (c : Dev Cert.DlatKvIdeal.nD) → Buf (Elt Ideal) ((c.tc : Thread Cert.DlatKvIdeal.nD Cert.DlatKvIdeal.τ).loc Cert.DlatKvIdeal.main_v5_1)) (v2 : (c : Dev Cert.DlatKvIdeal.nD) → Buf (Elt Ideal) ((c.tc : Thread Cert.DlatKvIdeal.nD Cert.DlatKvIdeal.τ).loc Cert.DlatKvIdeal.main_v5_2)),
      θ_run (Cert.DlatKvIdeal.defs (F := Ideal)) (onTc (τ := Cert.DlatKvIdeal.τ) (Cert.DlatKvIdeal.main (F := Ideal))) ⟨m, fun _ => 0, g⟩ (fun r => ∀ c : Dev Cert.DlatKvIdeal.nD,
          r.2.mem ((c.tc : Thread Cert.DlatKvIdeal.nD Cert.DlatKvIdeal.τ).loc Cert.DlatKvIdeal.main_v5_0) = v0 c
          ∧ r.2.mem ((c.tc : Thread Cert.DlatKvIdeal.nD Cert.DlatKvIdeal.τ).loc Cert.DlatKvIdeal.main_v5_1) = v1 c
          ∧ r.2.mem ((c.tc : Thread Cert.DlatKvIdeal.nD Cert.DlatKvIdeal.τ).loc Cert.DlatKvIdeal.main_v5_2) = v2 c
          ∧ r.2.mem ((c.tc : Thread Cert.DlatKvIdeal.nD Cert.DlatKvIdeal.τ).loc Cert.DlatKvIdeal.main_arg0) = m ((c.tc : Thread Cert.DlatKvIdeal.nD Cert.DlatKvIdeal.τ).loc Cert.DlatKvIdeal.main_arg0)
          ∧ r.2.mem ((c.tc : Thread Cert.DlatKvIdeal.nD Cert.DlatKvIdeal.τ).loc Cert.DlatKvIdeal.main_arg1) = m ((c.tc : Thread Cert.DlatKvIdeal.nD Cert.DlatKvIdeal.τ).loc Cert.DlatKvIdeal.main_arg1)
          ∧ r.2.mem ((c.tc : Thread Cert.DlatKvIdeal.nD Cert.DlatKvIdeal.τ).loc Cert.DlatKvIdeal.main_arg2) = m ((c.tc : Thread Cert.DlatKvIdeal.nD Cert.DlatKvIdeal.τ).loc Cert.DlatKvIdeal.main_arg2))
      ∧ θ_run (Cert.DlatKvRefIdeal.defs (F := Ideal)) (onTc (τ := Cert.DlatKvRefIdeal.τ) (Cert.DlatKvRefIdeal.main (F := Ideal))) ⟨m', fun _ => 0, g'⟩ (fun r => ∀ c : Dev Cert.DlatKvRefIdeal.nD,
          r.2.mem ((c.tc : Thread Cert.DlatKvRefIdeal.nD Cert.DlatKvRefIdeal.τ).loc Cert.DlatKvRefIdeal.main_v39) = v0 c
          ∧ r.2.mem ((c.tc : Thread Cert.DlatKvRefIdeal.nD Cert.DlatKvRefIdeal.τ).loc Cert.DlatKvRefIdeal.main_v40) = v1 c
          ∧ r.2.mem ((c.tc : Thread Cert.DlatKvRefIdeal.nD Cert.DlatKvRefIdeal.τ).loc Cert.DlatKvRefIdeal.main_v41) = v2 c
          ∧ r.2.mem ((c.tc : Thread Cert.DlatKvRefIdeal.nD Cert.DlatKvRefIdeal.τ).loc Cert.DlatKvRefIdeal.main_arg0) = m' ((c.tc : Thread Cert.DlatKvRefIdeal.nD Cert.DlatKvRefIdeal.τ).loc Cert.DlatKvRefIdeal.main_arg0)
          ∧ r.2.mem ((c.tc : Thread Cert.DlatKvRefIdeal.nD Cert.DlatKvRefIdeal.τ).loc Cert.DlatKvRefIdeal.main_arg1) = m' ((c.tc : Thread Cert.DlatKvRefIdeal.nD Cert.DlatKvRefIdeal.τ).loc Cert.DlatKvRefIdeal.main_arg1)
          ∧ r.2.mem ((c.tc : Thread Cert.DlatKvRefIdeal.nD Cert.DlatKvRefIdeal.τ).loc Cert.DlatKvRefIdeal.main_arg2) = m' ((c.tc : Thread Cert.DlatKvRefIdeal.nD Cert.DlatKvRefIdeal.τ).loc Cert.DlatKvRefIdeal.main_arg2))

def Claim : Prop :=
  ∃ (hKernel : Cert.Kernel.Facts) (hKernelIdeal : Cert.KernelIdeal.Facts) (hReferenceIdeal : Cert.ReferenceIdeal.Facts) (hMerge : Cert.Merge.Facts) (hMergeIdeal : Cert.MergeIdeal.Facts) (hMergeRefIdeal : Cert.MergeRefIdeal.Facts) (hAct : Cert.Act.Facts) (hActIdeal : Cert.ActIdeal.Facts) (hActRefIdeal : Cert.ActRefIdeal.Facts) (hDown : Cert.Down.Facts) (hDownIdeal : Cert.DownIdeal.Facts) (hDownRefIdeal : Cert.DownRefIdeal.Facts) (hUp : Cert.Up.Facts) (hUpIdeal : Cert.UpIdeal.Facts) (hUpRefIdeal : Cert.UpRefIdeal.Facts) (hH2 : Cert.H2.Facts) (hH2Ideal : Cert.H2Ideal.Facts) (hH2RefIdeal : Cert.H2RefIdeal.Facts) (hDo : Cert.Do.Facts) (hDoIdeal : Cert.DoIdeal.Facts) (hDoRefIdeal : Cert.DoRefIdeal.Facts) (hDa : Cert.Da.Facts) (hDaIdeal : Cert.DaIdeal.Facts) (hDaRefIdeal : Cert.DaRefIdeal.Facts) (hDkv : Cert.Dkv.Facts) (hDkvIdeal : Cert.DkvIdeal.Facts) (hDkvRefIdeal : Cert.DkvRefIdeal.Facts) (hGo : Cert.Go.Facts) (hGoIdeal : Cert.GoIdeal.Facts) (hGoRefIdeal : Cert.GoRefIdeal.Facts) (hGa : Cert.Ga.Facts) (hGaIdeal : Cert.GaIdeal.Facts) (hGaRefIdeal : Cert.GaRefIdeal.Facts) (hGkv : Cert.Gkv.Facts) (hGkvIdeal : Cert.GkvIdeal.Facts) (hGkvRefIdeal : Cert.GkvRefIdeal.Facts) (hGin : Cert.Gin.Facts) (hGinIdeal : Cert.GinIdeal.Facts) (hGinRefIdeal : Cert.GinRefIdeal.Facts) (hFb : Cert.Fb.Facts) (hFbIdeal : Cert.FbIdeal.Facts) (hFbRefIdeal : Cert.FbRefIdeal.Facts) (hFa : Cert.Fa.Facts) (hFaIdeal : Cert.FaIdeal.Facts) (hFaRefIdeal : Cert.FaRefIdeal.Facts) (hFkv : Cert.Fkv.Facts) (hFkvIdeal : Cert.FkvIdeal.Facts) (hFkvRefIdeal : Cert.FkvRefIdeal.Facts) (hFo : Cert.Fo.Facts) (hFoIdeal : Cert.FoIdeal.Facts) (hFoRefIdeal : Cert.FoRefIdeal.Facts) (hFdown : Cert.Fdown.Facts) (hFdownIdeal : Cert.FdownIdeal.Facts) (hFdownRefIdeal : Cert.FdownRefIdeal.Facts) (hFup : Cert.Fup.Facts) (hFupIdeal : Cert.FupIdeal.Facts) (hFupRefIdeal : Cert.FupRefIdeal.Facts) (hMix : Cert.Mix.Facts) (hMixIdeal : Cert.MixIdeal.Facts) (hMixRefIdeal : Cert.MixRefIdeal.Facts) (hNorm : Cert.Norm.Facts) (hNormIdeal : Cert.NormIdeal.Facts) (hNormRefIdeal : Cert.NormRefIdeal.Facts) (hAttn : Cert.Attn.Facts) (hAttnIdeal : Cert.AttnIdeal.Facts) (hAttnRefIdeal : Cert.AttnRefIdeal.Facts) (hDnorm : Cert.Dnorm.Facts) (hDnormIdeal : Cert.DnormIdeal.Facts) (hDnormRefIdeal : Cert.DnormRefIdeal.Facts) (hLatQ : Cert.LatQ.Facts) (hLatQIdeal : Cert.LatQIdeal.Facts) (hLatQRefIdeal : Cert.LatQRefIdeal.Facts) (hLatKv : Cert.LatKv.Facts) (hLatKvIdeal : Cert.LatKvIdeal.Facts) (hLatKvRefIdeal : Cert.LatKvRefIdeal.Facts) (hDlatQ : Cert.DlatQ.Facts) (hDlatQIdeal : Cert.DlatQIdeal.Facts) (hDlatQRefIdeal : Cert.DlatQRefIdeal.Facts) (hDlatKv : Cert.DlatKv.Facts) (hDlatKvIdeal : Cert.DlatKvIdeal.Facts) (hDlatKvRefIdeal : Cert.DlatKvRefIdeal.Facts) (hPre_finite_args : Cert.Pre_finite_args.Facts) (hPre_finite_qk : Cert.Pre_finite_qk.Facts),
    quiescent_Kernel (hKernel := hKernel)
    ∧ quiescent_KernelIdeal (hKernelIdeal := hKernelIdeal)
    ∧ quiescent_KernelIdeal_pre_finite_args (hKernelIdeal := hKernelIdeal) (hPre_finite_args := hPre_finite_args)
    ∧ quiescent_ReferenceIdeal (hReferenceIdeal := hReferenceIdeal)
    ∧ quiescent_ReferenceIdeal_pre_finite_args (hReferenceIdeal := hReferenceIdeal) (hPre_finite_args := hPre_finite_args)
    ∧ quiescent_Merge (hMerge := hMerge)
    ∧ quiescent_MergeIdeal (hMergeIdeal := hMergeIdeal)
    ∧ quiescent_MergeRefIdeal (hMergeRefIdeal := hMergeRefIdeal)
    ∧ quiescent_Act (hAct := hAct)
    ∧ quiescent_ActIdeal (hActIdeal := hActIdeal)
    ∧ quiescent_ActRefIdeal (hActRefIdeal := hActRefIdeal)
    ∧ quiescent_Down (hDown := hDown)
    ∧ quiescent_DownIdeal (hDownIdeal := hDownIdeal)
    ∧ quiescent_DownRefIdeal (hDownRefIdeal := hDownRefIdeal)
    ∧ quiescent_Up (hUp := hUp)
    ∧ quiescent_UpIdeal (hUpIdeal := hUpIdeal)
    ∧ quiescent_UpRefIdeal (hUpRefIdeal := hUpRefIdeal)
    ∧ quiescent_H2 (hH2 := hH2)
    ∧ quiescent_H2Ideal (hH2Ideal := hH2Ideal)
    ∧ quiescent_H2RefIdeal (hH2RefIdeal := hH2RefIdeal)
    ∧ quiescent_Do (hDo := hDo)
    ∧ quiescent_DoIdeal (hDoIdeal := hDoIdeal)
    ∧ quiescent_DoRefIdeal (hDoRefIdeal := hDoRefIdeal)
    ∧ quiescent_Da (hDa := hDa)
    ∧ quiescent_DaIdeal (hDaIdeal := hDaIdeal)
    ∧ quiescent_DaRefIdeal (hDaRefIdeal := hDaRefIdeal)
    ∧ quiescent_Dkv (hDkv := hDkv)
    ∧ quiescent_DkvIdeal (hDkvIdeal := hDkvIdeal)
    ∧ quiescent_DkvRefIdeal (hDkvRefIdeal := hDkvRefIdeal)
    ∧ quiescent_Go (hGo := hGo)
    ∧ quiescent_GoIdeal (hGoIdeal := hGoIdeal)
    ∧ quiescent_GoRefIdeal (hGoRefIdeal := hGoRefIdeal)
    ∧ quiescent_Ga (hGa := hGa)
    ∧ quiescent_GaIdeal (hGaIdeal := hGaIdeal)
    ∧ quiescent_GaRefIdeal (hGaRefIdeal := hGaRefIdeal)
    ∧ quiescent_Gkv (hGkv := hGkv)
    ∧ quiescent_GkvIdeal (hGkvIdeal := hGkvIdeal)
    ∧ quiescent_GkvRefIdeal (hGkvRefIdeal := hGkvRefIdeal)
    ∧ quiescent_Gin (hGin := hGin)
    ∧ quiescent_GinIdeal (hGinIdeal := hGinIdeal)
    ∧ quiescent_GinRefIdeal (hGinRefIdeal := hGinRefIdeal)
    ∧ quiescent_Fb (hFb := hFb)
    ∧ quiescent_FbIdeal (hFbIdeal := hFbIdeal)
    ∧ quiescent_FbRefIdeal (hFbRefIdeal := hFbRefIdeal)
    ∧ quiescent_Fa (hFa := hFa)
    ∧ quiescent_FaIdeal (hFaIdeal := hFaIdeal)
    ∧ quiescent_FaRefIdeal (hFaRefIdeal := hFaRefIdeal)
    ∧ quiescent_Fkv (hFkv := hFkv)
    ∧ quiescent_FkvIdeal (hFkvIdeal := hFkvIdeal)
    ∧ quiescent_FkvRefIdeal (hFkvRefIdeal := hFkvRefIdeal)
    ∧ quiescent_Fo (hFo := hFo)
    ∧ quiescent_FoIdeal (hFoIdeal := hFoIdeal)
    ∧ quiescent_FoRefIdeal (hFoRefIdeal := hFoRefIdeal)
    ∧ quiescent_Fdown (hFdown := hFdown)
    ∧ quiescent_FdownIdeal (hFdownIdeal := hFdownIdeal)
    ∧ quiescent_FdownRefIdeal (hFdownRefIdeal := hFdownRefIdeal)
    ∧ quiescent_Fup (hFup := hFup)
    ∧ quiescent_FupIdeal (hFupIdeal := hFupIdeal)
    ∧ quiescent_FupRefIdeal (hFupRefIdeal := hFupRefIdeal)
    ∧ quiescent_Mix (hMix := hMix)
    ∧ quiescent_MixIdeal (hMixIdeal := hMixIdeal)
    ∧ quiescent_MixRefIdeal (hMixRefIdeal := hMixRefIdeal)
    ∧ quiescent_Norm (hNorm := hNorm)
    ∧ quiescent_NormIdeal (hNormIdeal := hNormIdeal)
    ∧ quiescent_NormRefIdeal (hNormRefIdeal := hNormRefIdeal)
    ∧ quiescent_Attn (hAttn := hAttn)
    ∧ quiescent_AttnIdeal (hAttnIdeal := hAttnIdeal)
    ∧ quiescent_AttnIdeal_pre_finite_qk (hAttnIdeal := hAttnIdeal) (hPre_finite_qk := hPre_finite_qk)
    ∧ quiescent_AttnRefIdeal (hAttnRefIdeal := hAttnRefIdeal)
    ∧ quiescent_AttnRefIdeal_pre_finite_qk (hAttnRefIdeal := hAttnRefIdeal) (hPre_finite_qk := hPre_finite_qk)
    ∧ quiescent_Dnorm (hDnorm := hDnorm)
    ∧ quiescent_DnormIdeal (hDnormIdeal := hDnormIdeal)
    ∧ quiescent_DnormRefIdeal (hDnormRefIdeal := hDnormRefIdeal)
    ∧ quiescent_LatQ (hLatQ := hLatQ)
    ∧ quiescent_LatQIdeal (hLatQIdeal := hLatQIdeal)
    ∧ quiescent_LatQRefIdeal (hLatQRefIdeal := hLatQRefIdeal)
    ∧ quiescent_LatKv (hLatKv := hLatKv)
    ∧ quiescent_LatKvIdeal (hLatKvIdeal := hLatKvIdeal)
    ∧ quiescent_LatKvRefIdeal (hLatKvRefIdeal := hLatKvRefIdeal)
    ∧ quiescent_DlatQ (hDlatQ := hDlatQ)
    ∧ quiescent_DlatQIdeal (hDlatQIdeal := hDlatQIdeal)
    ∧ quiescent_DlatQRefIdeal (hDlatQRefIdeal := hDlatQRefIdeal)
    ∧ quiescent_DlatKv (hDlatKv := hDlatKv)
    ∧ quiescent_DlatKvIdeal (hDlatKvIdeal := hDlatKvIdeal)
    ∧ quiescent_DlatKvRefIdeal (hDlatKvRefIdeal := hDlatKvRefIdeal)
    ∧ preserves_Kernel_KernelIdeal
    ∧ algebraic_KernelIdeal_ReferenceIdeal_pre_finite_args (hKernelIdeal := hKernelIdeal) (hReferenceIdeal := hReferenceIdeal) (hPre_finite_args := hPre_finite_args)
    ∧ preserves_Merge_MergeIdeal
    ∧ algebraic_MergeIdeal_MergeRefIdeal (hMergeIdeal := hMergeIdeal) (hMergeRefIdeal := hMergeRefIdeal)
    ∧ preserves_Act_ActIdeal
    ∧ algebraic_ActIdeal_ActRefIdeal (hActIdeal := hActIdeal) (hActRefIdeal := hActRefIdeal)
    ∧ preserves_Down_DownIdeal
    ∧ algebraic_DownIdeal_DownRefIdeal (hDownIdeal := hDownIdeal) (hDownRefIdeal := hDownRefIdeal)
    ∧ preserves_Up_UpIdeal
    ∧ algebraic_UpIdeal_UpRefIdeal (hUpIdeal := hUpIdeal) (hUpRefIdeal := hUpRefIdeal)
    ∧ preserves_H2_H2Ideal
    ∧ algebraic_H2Ideal_H2RefIdeal (hH2Ideal := hH2Ideal) (hH2RefIdeal := hH2RefIdeal)
    ∧ preserves_Do_DoIdeal
    ∧ algebraic_DoIdeal_DoRefIdeal (hDoIdeal := hDoIdeal) (hDoRefIdeal := hDoRefIdeal)
    ∧ preserves_Da_DaIdeal
    ∧ algebraic_DaIdeal_DaRefIdeal (hDaIdeal := hDaIdeal) (hDaRefIdeal := hDaRefIdeal)
    ∧ preserves_Dkv_DkvIdeal
    ∧ algebraic_DkvIdeal_DkvRefIdeal (hDkvIdeal := hDkvIdeal) (hDkvRefIdeal := hDkvRefIdeal)
    ∧ preserves_Go_GoIdeal
    ∧ algebraic_GoIdeal_GoRefIdeal (hGoIdeal := hGoIdeal) (hGoRefIdeal := hGoRefIdeal)
    ∧ preserves_Ga_GaIdeal
    ∧ algebraic_GaIdeal_GaRefIdeal (hGaIdeal := hGaIdeal) (hGaRefIdeal := hGaRefIdeal)
    ∧ preserves_Gkv_GkvIdeal
    ∧ algebraic_GkvIdeal_GkvRefIdeal (hGkvIdeal := hGkvIdeal) (hGkvRefIdeal := hGkvRefIdeal)
    ∧ preserves_Gin_GinIdeal
    ∧ algebraic_GinIdeal_GinRefIdeal (hGinIdeal := hGinIdeal) (hGinRefIdeal := hGinRefIdeal)
    ∧ preserves_Fb_FbIdeal
    ∧ algebraic_FbIdeal_FbRefIdeal (hFbIdeal := hFbIdeal) (hFbRefIdeal := hFbRefIdeal)
    ∧ preserves_Fa_FaIdeal
    ∧ algebraic_FaIdeal_FaRefIdeal (hFaIdeal := hFaIdeal) (hFaRefIdeal := hFaRefIdeal)
    ∧ preserves_Fkv_FkvIdeal
    ∧ algebraic_FkvIdeal_FkvRefIdeal (hFkvIdeal := hFkvIdeal) (hFkvRefIdeal := hFkvRefIdeal)
    ∧ preserves_Fo_FoIdeal
    ∧ algebraic_FoIdeal_FoRefIdeal (hFoIdeal := hFoIdeal) (hFoRefIdeal := hFoRefIdeal)
    ∧ preserves_Fdown_FdownIdeal
    ∧ algebraic_FdownIdeal_FdownRefIdeal (hFdownIdeal := hFdownIdeal) (hFdownRefIdeal := hFdownRefIdeal)
    ∧ preserves_Fup_FupIdeal
    ∧ algebraic_FupIdeal_FupRefIdeal (hFupIdeal := hFupIdeal) (hFupRefIdeal := hFupRefIdeal)
    ∧ preserves_Mix_MixIdeal
    ∧ algebraic_MixIdeal_MixRefIdeal (hMixIdeal := hMixIdeal) (hMixRefIdeal := hMixRefIdeal)
    ∧ preserves_Norm_NormIdeal
    ∧ algebraic_NormIdeal_NormRefIdeal (hNormIdeal := hNormIdeal) (hNormRefIdeal := hNormRefIdeal)
    ∧ preserves_Attn_AttnIdeal
    ∧ algebraic_AttnIdeal_AttnRefIdeal_pre_finite_qk (hAttnIdeal := hAttnIdeal) (hAttnRefIdeal := hAttnRefIdeal) (hPre_finite_qk := hPre_finite_qk)
    ∧ preserves_Dnorm_DnormIdeal
    ∧ algebraic_DnormIdeal_DnormRefIdeal (hDnormIdeal := hDnormIdeal) (hDnormRefIdeal := hDnormRefIdeal)
    ∧ preserves_LatQ_LatQIdeal
    ∧ algebraic_LatQIdeal_LatQRefIdeal (hLatQIdeal := hLatQIdeal) (hLatQRefIdeal := hLatQRefIdeal)
    ∧ preserves_LatKv_LatKvIdeal
    ∧ algebraic_LatKvIdeal_LatKvRefIdeal (hLatKvIdeal := hLatKvIdeal) (hLatKvRefIdeal := hLatKvRefIdeal)
    ∧ preserves_DlatQ_DlatQIdeal
    ∧ algebraic_DlatQIdeal_DlatQRefIdeal (hDlatQIdeal := hDlatQIdeal) (hDlatQRefIdeal := hDlatQRefIdeal)
    ∧ preserves_DlatKv_DlatKvIdeal
    ∧ algebraic_DlatKvIdeal_DlatKvRefIdeal (hDlatKvIdeal := hDlatKvIdeal) (hDlatKvRefIdeal := hDlatKvRefIdeal)
-- ==== Pre_finite_args.lean ====
abbrev S1x4112x16x192 : Shape := ⟨4, ![1, 4112, 16, 192]⟩
abbrev S1x4112x16x128 : Shape := ⟨4, ![1, 4112, 16, 128]⟩
abbrev S_ : Shape := ⟨0, ![]⟩

class Facts : Prop where
  bcast_S_S1x4112x16x192 : S_.BroadcastsInDim S1x4112x16x192 (![] : Fin 0 → Fin S1x4112x16x192.rank)
  bcast_S_S1x4112x16x128 : S_.BroadcastsInDim S1x4112x16x128 (![] : Fin 0 → Fin S1x4112x16x128.rank)

variable [Facts]

def fn {F : FTy → Type} [FloatOps F] (main_arg0 : FVec F S1x4112x16x192 .f32) (main_arg1 : FVec F S1x4112x16x192 .f32) (main_arg2 : FVec F S1x4112x16x128 .f32) (main_arg3 : FVec F S1x4112x16x128 .f32) : IVec S1x4112x16x192 1 × IVec S1x4112x16x192 1 × IVec S1x4112x16x128 1 × IVec S1x4112x16x128 1 :=
  let main_v0 : FVec F S1x4112x16x192 .f32 := Host.absf main_arg0
  let main_cst : FVec F S_ .f32 := constant S_ .f32 0x7F800000#32
  let main_v1 : FVec F S1x4112x16x192 .f32 := broadcastInDim S1x4112x16x192 ![] bcast_S_S1x4112x16x192 main_cst
  let main_v2 : IVec S1x4112x16x192 1 := cmpf .olt main_v0 main_v1
  let main_v3 : FVec F S1x4112x16x192 .f32 := Host.absf main_arg1
  let main_cst_0 : FVec F S_ .f32 := constant S_ .f32 0x7F800000#32
  let main_v4 : FVec F S1x4112x16x192 .f32 := broadcastInDim S1x4112x16x192 ![] bcast_S_S1x4112x16x192 main_cst_0
  let main_v5 : IVec S1x4112x16x192 1 := cmpf .olt main_v3 main_v4
  let main_v6 : FVec F S1x4112x16x128 .f32 := Host.absf main_arg2
  let main_cst_1 : FVec F S_ .f32 := constant S_ .f32 0x7F800000#32
  let main_v7 : FVec F S1x4112x16x128 .f32 := broadcastInDim S1x4112x16x128 ![] bcast_S_S1x4112x16x128 main_cst_1
  let main_v8 : IVec S1x4112x16x128 1 := cmpf .olt main_v6 main_v7
  let main_v9 : FVec F S1x4112x16x128 .f32 := Host.absf main_arg3
  let main_cst_2 : FVec F S_ .f32 := constant S_ .f32 0x7F800000#32
  let main_v10 : FVec F S1x4112x16x128 .f32 := broadcastInDim S1x4112x16x128 ![] bcast_S_S1x4112x16x128 main_cst_2
  let main_v11 : IVec S1x4112x16x128 1 := cmpf .olt main_v9 main_v10
  (main_v2, main_v5, main_v8, main_v11)
-- ==== Pre_finite_qk.lean ====
abbrev S1x4112x16x192 : Shape := ⟨4, ![1, 4112, 16, 192]⟩
abbrev S1x4112x16x128 : Shape := ⟨4, ![1, 4112, 16, 128]⟩
abbrev S_ : Shape := ⟨0, ![]⟩

class Facts : Prop where
  bcast_S_S1x4112x16x192 : S_.BroadcastsInDim S1x4112x16x192 (![] : Fin 0 → Fin S1x4112x16x192.rank)

variable [Facts]

def fn {F : FTy → Type} [FloatOps F] (main_arg0 : FVec F S1x4112x16x192 .f32) (main_arg1 : FVec F S1x4112x16x192 .f32) (main_arg2 : FVec F S1x4112x16x128 .f32) : IVec S1x4112x16x192 1 × IVec S1x4112x16x192 1 :=
  let main_v0 : FVec F S1x4112x16x192 .f32 := Host.absf main_arg0
  let main_cst : FVec F S_ .f32 := constant S_ .f32 0x7F800000#32
  let main_v1 : FVec F S1x4112x16x192 .f32 := broadcastInDim S1x4112x16x192 ![] bcast_S_S1x4112x16x192 main_cst
  let main_v2 : IVec S1x4112x16x192 1 := cmpf .olt main_v0 main_v1
  let main_v3 : FVec F S1x4112x16x192 .f32 := Host.absf main_arg1
  let main_cst_0 : FVec F S_ .f32 := constant S_ .f32 0x7F800000#32
  let main_v4 : FVec F S1x4112x16x192 .f32 := broadcastInDim S1x4112x16x192 ![] bcast_S_S1x4112x16x192 main_cst_0
  let main_v5 : IVec S1x4112x16x192 1 := cmpf .olt main_v3 main_v4
  (main_v2, main_v5)
-- ==== Kernel.lean ====
abbrev S1x4112x16x192 : Shape := ⟨4, ![1, 4112, 16, 192]⟩
abbrev S1x4112x16x128 : Shape := ⟨4, ![1, 4112, 16, 128]⟩
abbrev S1x16x4112x4112 : Shape := ⟨4, ![1, 16, 4112, 4112]⟩
abbrev S_ : Shape := ⟨0, ![]⟩
abbrev S4112 : Shape := ⟨1, ![4112]⟩
abbrev S4112x1 : Shape := ⟨2, ![4112, 1]⟩
abbrev S1x4112 : Shape := ⟨2, ![1, 4112]⟩
abbrev S4112x4112 : Shape := ⟨2, ![4112, 4112]⟩
abbrev S1x16x4112 : Shape := ⟨3, ![1, 16, 4112]⟩
abbrev S1x16x4112x1 : Shape := ⟨4, ![1, 16, 4112, 1]⟩
abbrev S1x16x128x4112 : Shape := ⟨4, ![1, 16, 128, 4112]⟩
abbrev S16x4112 : Shape := ⟨2, ![16, 4112]⟩
abbrev S1x4112x16 : Shape := ⟨3, ![1, 4112, 16]⟩
abbrev S4112x16 : Shape := ⟨2, ![4112, 16]⟩
abbrev S4112x16x192 : Shape := ⟨3, ![4112, 16, 192]⟩
abbrev S4224x16x256 : Shape := ⟨3, ![4224, 16, 256]⟩
abbrev S4224x4096 : Shape := ⟨2, ![4224, 4096]⟩
abbrev S4112x16x128 : Shape := ⟨3, ![4112, 16, 128]⟩
abbrev S4224x16x128 : Shape := ⟨3, ![4224, 16, 128]⟩
abbrev S4224x2048 : Shape := ⟨2, ![4224, 2048]⟩
abbrev S16x4224 : Shape := ⟨2, ![16, 4224]⟩
abbrev S16x11x1x384 : Shape := ⟨4, ![16, 11, 1, 384]⟩
abbrev S4224x512 : Shape := ⟨2, ![4224, 512]⟩
abbrev S384x512 : Shape := ⟨2, ![384, 512]⟩
abbrev S384x256 : Shape := ⟨2, ![384, 256]⟩
abbrev S4224x256 : Shape := ⟨2, ![4224, 256]⟩
abbrev S2x11x1x384 : Shape := ⟨4, ![2, 11, 1, 384]⟩
abbrev S384x128 : Shape := ⟨2, ![384, 128]⟩
abbrev S384x384 : Shape := ⟨2, ![384, 384]⟩
abbrev S1x1x1x384 : Shape := ⟨4, ![1, 1, 1, 384]⟩
abbrev S1x384 : Shape := ⟨2, ![1, 384]⟩

abbrev nBuf : Space → Nat
  | .hbm => 74
  | .vmem => 16
  | .smem => 0
  | _ => 0

abbrev bufTy : (tb : Table) → Fin (tcTables nBuf tb) → BufTy
  | .hbm, ⟨0, _⟩ => ⟨S1x4112x16x192, .f32⟩
  | .hbm, ⟨1, _⟩ => ⟨S1x4112x16x192, .f32⟩
  | .hbm, ⟨2, _⟩ => ⟨S1x4112x16x128, .f32⟩
  | .hbm, ⟨3, _⟩ => ⟨S1x4112x16x128, .f32⟩
  | .hbm, ⟨4, _⟩ => ⟨S1x16x4112x4112, .f32⟩
  | .hbm, ⟨5, _⟩ => ⟨S_, .f32⟩
  | .hbm, ⟨6, _⟩ => ⟨S1x16x4112x4112, .f32⟩
  | .hbm, ⟨7, _⟩ => ⟨S1x16x4112x4112, .f32⟩
  | .hbm, ⟨8, _⟩ => ⟨S4112, .i32⟩
  | .hbm, ⟨9, _⟩ => ⟨S4112x1, .i32⟩
  | .hbm, ⟨10, _⟩ => ⟨S1x4112, .i32⟩
  | .hbm, ⟨11, _⟩ => ⟨S4112x4112, .i32⟩
  | .hbm, ⟨12, _⟩ => ⟨S4112x4112, .i32⟩
  | .hbm, ⟨13, _⟩ => ⟨S4112x4112, .i1⟩
  | .hbm, ⟨14, _⟩ => ⟨S_, .f32⟩
  | .hbm, ⟨15, _⟩ => ⟨S_, .f32⟩
  | .hbm, ⟨16, _⟩ => ⟨S1x16x4112x4112, .i1⟩
  | .hbm, ⟨17, _⟩ => ⟨S1x16x4112x4112, .f32⟩
  | .hbm, ⟨18, _⟩ => ⟨S1x16x4112x4112, .f32⟩
  | .hbm, ⟨19, _⟩ => ⟨S_, .f32⟩
  | .hbm, ⟨20, _⟩ => ⟨S1x16x4112, .f32⟩
  | .hbm, ⟨21, _⟩ => ⟨S1x16x4112x1, .f32⟩
  | .hbm, ⟨22, _⟩ => ⟨S1x16x4112x4112, .f32⟩
  | .hbm, ⟨23, _⟩ => ⟨S1x16x4112x4112, .f32⟩
  | .hbm, ⟨24, _⟩ => ⟨S1x16x4112x4112, .f32⟩
  | .hbm, ⟨25, _⟩ => ⟨S_, .f32⟩
  | .hbm, ⟨26, _⟩ => ⟨S1x16x4112, .f32⟩
  | .hbm, ⟨27, _⟩ => ⟨S1x16x4112x1, .f32⟩
  | .hbm, ⟨28, _⟩ => ⟨S1x16x4112x4112, .f32⟩
  | .hbm, ⟨29, _⟩ => ⟨S1x16x4112x4112, .f32⟩
  | .hbm, ⟨30, _⟩ => ⟨S1x16x128x4112, .f32⟩
  | .hbm, ⟨31, _⟩ => ⟨S1x4112x16x128, .f32⟩
  | .hbm, ⟨32, _⟩ => ⟨S1x16x4112x1, .f32⟩
  | .hbm, ⟨33, _⟩ => ⟨S1x16x4112x1, .f32⟩
  | .hbm, ⟨34, _⟩ => ⟨S16x4112, .f32⟩
  | .hbm, ⟨35, _⟩ => ⟨S1x4112x16x128, .f32⟩
  | .hbm, ⟨36, _⟩ => ⟨S_, .f32⟩
  | .hbm, ⟨37, _⟩ => ⟨S1x4112x16, .f32⟩
  | .hbm, ⟨38, _⟩ => ⟨S4112x16, .f32⟩
  | .hbm, ⟨39, _⟩ => ⟨S16x4112, .f32⟩
  | .hbm, ⟨40, _⟩ => ⟨S4112x16x192, .f32⟩
  | .hbm, ⟨41, _⟩ => ⟨S_, .i32⟩
  | .hbm, ⟨42, _⟩ => ⟨S_, .f32⟩
  | .hbm, ⟨43, _⟩ => ⟨S4224x16x256, .f32⟩
  | .hbm, ⟨44, _⟩ => ⟨S4224x4096, .f32⟩
  | .hbm, ⟨45, _⟩ => ⟨S4224x4096, .bf16⟩
  | .hbm, ⟨46, _⟩ => ⟨S4112x16x192, .f32⟩
  | .hbm, ⟨47, _⟩ => ⟨S_, .i32⟩
  | .hbm, ⟨48, _⟩ => ⟨S_, .f32⟩
  | .hbm, ⟨49, _⟩ => ⟨S4224x16x256, .f32⟩
  | .hbm, ⟨50, _⟩ => ⟨S4224x4096, .f32⟩
  | .hbm, ⟨51, _⟩ => ⟨S4224x4096, .bf16⟩
  | .hbm, ⟨52, _⟩ => ⟨S4112x16x128, .f32⟩
  | .hbm, ⟨53, _⟩ => ⟨S_, .i32⟩
  | .hbm, ⟨54, _⟩ => ⟨S_, .f32⟩
  | .hbm, ⟨55, _⟩ => ⟨S4224x16x128, .f32⟩
  | .hbm, ⟨56, _⟩ => ⟨S4224x2048, .f32⟩
  | .hbm, ⟨57, _⟩ => ⟨S4224x2048, .bf16⟩
  | .hbm, ⟨58, _⟩ => ⟨S4112x16x128, .f32⟩
  | .hbm, ⟨59, _⟩ => ⟨S_, .i32⟩
  | .hbm, ⟨60, _⟩ => ⟨S_, .f32⟩
  | .hbm, ⟨61, _⟩ => ⟨S4224x16x128, .f32⟩
  | .hbm, ⟨62, _⟩ => ⟨S4224x2048, .f32⟩
  | .hbm, ⟨63, _⟩ => ⟨S4224x2048, .bf16⟩
  | .hbm, ⟨64, _⟩ => ⟨S_, .i32⟩
  | .hbm, ⟨65, _⟩ => ⟨S_, .f32⟩
  | .hbm, ⟨66, _⟩ => ⟨S16x4224, .f32⟩
  | .hbm, ⟨67, _⟩ => ⟨S16x11x1x384, .f32⟩
  | .hbm, ⟨68, _⟩ => ⟨S_, .i32⟩
  | .hbm, ⟨69, _⟩ => ⟨S_, .f32⟩
  | .hbm, ⟨70, _⟩ => ⟨S16x4224, .f32⟩
  | .hbm, ⟨71, _⟩ => ⟨S16x11x1x384, .f32⟩
  | .hbm, ⟨72, _⟩ => ⟨S4224x4096, .f32⟩
  | .hbm, ⟨73, _⟩ => ⟨S4224x2048, .f32⟩
  | .local _ .vmem, ⟨0, _⟩ => ⟨S4224x512, .bf16⟩
  | .local _ .vmem, ⟨1, _⟩ => ⟨S4224x512, .bf16⟩
  | .local _ .vmem, ⟨2, _⟩ => ⟨S384x512, .bf16⟩
  | .local _ .vmem, ⟨3, _⟩ => ⟨S384x512, .bf16⟩
  | .local _ .vmem, ⟨4, _⟩ => ⟨S384x256, .bf16⟩
  | .local _ .vmem, ⟨5, _⟩ => ⟨S384x256, .bf16⟩
  | .local _ .vmem, ⟨6, _⟩ => ⟨S4224x256, .bf16⟩
  | .local _ .vmem, ⟨7, _⟩ => ⟨S4224x256, .bf16⟩
  | .local _ .vmem, ⟨8, _⟩ => ⟨S2x11x1x384, .f32⟩
  | .local _ .vmem, ⟨9, _⟩ => ⟨S2x11x1x384, .f32⟩
  | .local _ .vmem, ⟨10, _⟩ => ⟨S2x11x1x384, .f32⟩
  | .local _ .vmem, ⟨11, _⟩ => ⟨S2x11x1x384, .f32⟩
  | .local _ .vmem, ⟨12, _⟩ => ⟨S384x512, .f32⟩
  | .local _ .vmem, ⟨13, _⟩ => ⟨S384x512, .f32⟩
  | .local _ .vmem, ⟨14, _⟩ => ⟨S384x256, .f32⟩
  | .local _ .vmem, ⟨15, _⟩ => ⟨S384x256, .f32⟩
  | _, _ => ⟨S1x4112x16x192, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_cst_0 : Ref sig .tc := ⟨.hbm, 14, rfl⟩
abbrev main_call0_v0 : Ref sig .tc := ⟨.hbm, 15, rfl⟩
abbrev main_call0_v1 : Ref sig .tc := ⟨.hbm, 16, rfl⟩
abbrev main_call0_v2 : Ref sig .tc := ⟨.hbm, 17, rfl⟩
abbrev main_v9 : Ref sig .tc := ⟨.hbm, 18, rfl⟩
abbrev main_cst_1 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_cst_2 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_cst_3 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_c : Ref sig .tc := ⟨.hbm, 41, rfl⟩
abbrev main_call1_v0 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_c_4 : Ref sig .tc := ⟨.hbm, 47, rfl⟩
abbrev main_call2_v0 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_v36 : Ref sig .tc := ⟨.hbm, 52, rfl⟩
abbrev main_c_5 : Ref sig .tc := ⟨.hbm, 53, rfl⟩
abbrev main_call3_v0 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_c_6 : Ref sig .tc := ⟨.hbm, 59, rfl⟩
abbrev main_call4_v0 : Ref sig .tc := ⟨.hbm, 60, rfl⟩
abbrev main_v41 : Ref sig .tc := ⟨.hbm, 61, rfl⟩
abbrev main_v42 : Ref sig .tc := ⟨.hbm, 62, rfl⟩
abbrev main_v43 : Ref sig .tc := ⟨.hbm, 63, rfl⟩
abbrev main_c_7 : Ref sig .tc := ⟨.hbm, 64, rfl⟩
abbrev main_call5_v0 : Ref sig .tc := ⟨.hbm, 65, rfl⟩
abbrev main_v44 : Ref sig .tc := ⟨.hbm, 66, rfl⟩
abbrev main_v45 : Ref sig .tc := ⟨.hbm, 67, rfl⟩
abbrev main_c_8 : Ref sig .tc := ⟨.hbm, 68, rfl⟩
abbrev main_call6_v0 : Ref sig .tc := ⟨.hbm, 69, rfl⟩
abbrev main_v46 : Ref sig .tc := ⟨.hbm, 70, rfl⟩
abbrev main_v47 : Ref sig .tc := ⟨.hbm, 71, rfl⟩
abbrev main_v48_0 : Ref sig .tc := ⟨.hbm, 72, rfl⟩
abbrev main_v48_1 : Ref sig .tc := ⟨.hbm, 73, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨2, ![8, 11], ![false, false]⟩

def k0_mult1 (i : grid0.Coords) : BitVec 32 :=
  let arg1 : BitVec 32 := BitVec.ofNat 32 (i 1).val
  let c384_i32 : BitVec 32 := 384#32
  let v2 : BitVec 32 := Scalar.muli arg1 c384_i32
  v2
def k0_off1 (i : grid0.Coords) : Fin 2 → Nat :=
  let arg1 : BitVec 32 := BitVec.ofNat 32 (i 1).val
  let c384_i32 : BitVec 32 := 384#32
  let v2 : BitVec 32 := Scalar.muli arg1 c384_i32
  let v3 : BitVec 32 := v2
  let v6 : Index := Scalar.indexCast v3
  let c0_2 : Index := 0#32
  ![v6.toNat, 0]
def k0_off2 (i : grid0.Coords) : Fin 2 → Nat :=
  let arg1 : BitVec 32 := BitVec.ofNat 32 (i 1).val
  let c384_i32 : BitVec 32 := 384#32
  let v2 : BitVec 32 := Scalar.muli arg1 c384_i32
  let v3 : BitVec 32 := v2
  let v12 : Index := Scalar.indexCast v3
  let c256_5 : Index := 256#32
  ![v12.toNat, 256]
def k0_off3 (i : grid0.Coords) : Fin 2 → Nat :=
  let arg1 : BitVec 32 := BitVec.ofNat 32 (i 1).val
  let c384_i32 : BitVec 32 := 384#32
  let v2 : BitVec 32 := Scalar.muli arg1 c384_i32
  let v3 : BitVec 32 := v2
  let v18 : Index := Scalar.indexCast v3
  let c0_9 : Index := 0#32
  ![v18.toNat, 0]
def k0_off4 (i : grid0.Coords) : Fin 2 → Nat :=
  let arg1 : BitVec 32 := BitVec.ofNat 32 (i 1).val
  let c384_i32 : BitVec 32 := 384#32
  let v2 : BitVec 32 := Scalar.muli arg1 c384_i32
  let v3 : BitVec 32 := v2
  let v24 : Index := Scalar.indexCast v3
  let c128_12 : Index := 128#32
  ![v24.toNat, 128]
def k0_off5 (i : grid0.Coords) : Fin 4 → Nat :=
  let c0_15 : Index := 0#32
  let arg1 : BitVec 32 := BitVec.ofNat 32 (i 1).val
  let v30 : Index := Scalar.indexCast arg1
  let c0_16 : Index := 0#32
  let c0_17 : Index := 0#32
  ![0, v30.toNat, 0, 0]
def k0_off6 (i : grid0.Coords) : Fin 4 → Nat :=
  let c1 : Index := 1#32
  let arg1 : BitVec 32 := BitVec.ofNat 32 (i 1).val
  let v63 : Index := Scalar.indexCast arg1
  let c0_28 : Index := 0#32
  let c0_29 : Index := 0#32
  ![1, v63.toNat, 0, 0]
@[reducible] def k0_t1_loop (i : grid0.Coords) : Scf.Loop 32 :=
  let arg1 : BitVec 32 := BitVec.ofNat 32 (i 1).val
  let c1_i32 : BitVec 32 := 1#32
  let v94 : BitVec 32 := Scalar.addi arg1 c1_i32
  let c11_i32 : BitVec 32 := 11#32
  let v95 : BitVec 32 := Scalar.subi c11_i32 v94
  let c1_i32_39 : BitVec 32 := 1#32
  let v97 : BitVec 32 := Scalar.divsi v95 c1_i32_39
  let v98 : BitVec 32 := Scalar.muli v97 c1_i32_39
  let v99 : BitVec 32 := Scalar.addi v94 v98
  let c1_i32_40 : BitVec 32 := 1#32
  ⟨v94, v99, c1_i32_40⟩
def k0_mult2 (i : grid0.Coords) (k0_t1 : Fin (k0_t1_loop i).trips) : BitVec 32 :=
  let arg1 : BitVec 32 := BitVec.ofNat 32 (i 1).val
  let c1_i32 : BitVec 32 := 1#32
  let v94 : BitVec 32 := Scalar.addi arg1 c1_i32
  let c1_i32_40 : BitVec 32 := 1#32
  let arg10 : BitVec 32 := Scf.iv v94 c1_i32_40 k0_t1
  let c384_i32_50 : BitVec 32 := 384#32
  let v106 : BitVec 32 := Scalar.muli arg10 c384_i32_50
  v106
def k0_off7 (i : grid0.Coords) (k0_t1 : Fin (k0_t1_loop i).trips) : Fin 2 → Nat :=
  let arg1 : BitVec 32 := BitVec.ofNat 32 (i 1).val
  let c1_i32 : BitVec 32 := 1#32
  let v94 : BitVec 32 := Scalar.addi arg1 c1_i32
  let c1_i32_40 : BitVec 32 := 1#32
  let arg10 : BitVec 32 := Scf.iv v94 c1_i32_40 k0_t1
  let c384_i32_50 : BitVec 32 := 384#32
  let v106 : BitVec 32 := Scalar.muli arg10 c384_i32_50
  let v107 : BitVec 32 := v106
  let v110 : Index := Scalar.indexCast v107
  let c0_53 : Index := 0#32
  ![v110.toNat, 0]
def k0_off8 (i : grid0.Coords) (k0_t1 : Fin (k0_t1_loop i).trips) : Fin 2 → Nat :=
  let arg1 : BitVec 32 := BitVec.ofNat 32 (i 1).val
  let c1_i32 : BitVec 32 := 1#32
  let v94 : BitVec 32 := Scalar.addi arg1 c1_i32
  let c1_i32_40 : BitVec 32 := 1#32
  let arg10 : BitVec 32 := Scf.iv v94 c1_i32_40 k0_t1
  let c384_i32_50 : BitVec 32 := 384#32
  let v106 : BitVec 32 := Scalar.muli arg10 c384_i32_50
  let v107 : BitVec 32 := v106
  let v116 : Index := Scalar.indexCast v107
  let c256_57 : Index := 256#32
  ![v116.toNat, 256]
def k0_off9 (i : grid0.Coords) (k0_t1 : Fin (k0_t1_loop i).trips) : Fin 2 → Nat :=
  let arg1 : BitVec 32 := BitVec.ofNat 32 (i 1).val
  let c1_i32 : BitVec 32 := 1#32
  let v94 : BitVec 32 := Scalar.addi arg1 c1_i32
  let c1_i32_40 : BitVec 32 := 1#32
  let arg10 : BitVec 32 := Scf.iv v94 c1_i32_40 k0_t1
  let c384_i32_50 : BitVec 32 := 384#32
  let v106 : BitVec 32 := Scalar.muli arg10 c384_i32_50
  let v107 : BitVec 32 := v106
  let v122 : Index := Scalar.indexCast v107
  let c0_61 : Index := 0#32
  ![v122.toNat, 0]
def k0_off10 (i : grid0.Coords) (k0_t1 : Fin (k0_t1_loop i).trips) : Fin 2 → Nat :=
  let arg1 : BitVec 32 := BitVec.ofNat 32 (i 1).val
  let c1_i32 : BitVec 32 := 1#32
  let v94 : BitVec 32 := Scalar.addi arg1 c1_i32
  let c1_i32_40 : BitVec 32 := 1#32
  let arg10 : BitVec 32 := Scf.iv v94 c1_i32_40 k0_t1
  let c384_i32_50 : BitVec 32 := 384#32
  let v106 : BitVec 32 := Scalar.muli arg10 c384_i32_50
  let v107 : BitVec 32 := v106
  let v128 : Index := Scalar.indexCast v107
  let c128_65 : Index := 128#32
  ![v128.toNat, 128]
def k0_off11 (i : grid0.Coords) (k0_t1 : Fin (k0_t1_loop i).trips) : Fin 4 → Nat :=
  let c0_68 : Index := 0#32
  let arg1 : BitVec 32 := BitVec.ofNat 32 (i 1).val
  let c1_i32 : BitVec 32 := 1#32
  let v94 : BitVec 32 := Scalar.addi arg1 c1_i32
  let c1_i32_40 : BitVec 32 := 1#32
  let arg10 : BitVec 32 := Scf.iv v94 c1_i32_40 k0_t1
  let v134 : Index := Scalar.indexCast arg10
  let c0_69 : Index := 0#32
  let c0_70 : Index := 0#32
  ![0, v134.toNat, 0, 0]
def k0_off12 (i : grid0.Coords) (k0_t1 : Fin (k0_t1_loop i).trips) : Fin 4 → Nat :=
  let c1_80 : Index := 1#32
  let arg1 : BitVec 32 := BitVec.ofNat 32 (i 1).val
  let c1_i32 : BitVec 32 := 1#32
  let v94 : BitVec 32 := Scalar.addi arg1 c1_i32
  let c1_i32_40 : BitVec 32 := 1#32
  let arg10 : BitVec 32 := Scf.iv v94 c1_i32_40 k0_t1
  let v162 : Index := Scalar.indexCast arg10
  let c0_81 : Index := 0#32
  let c0_82 : Index := 0#32
  ![1, v162.toNat, 0, 0]
@[reducible] def k0_t2_loop (i : grid0.Coords) : Scf.Loop 32 :=
  let arg1 : BitVec 32 := BitVec.ofNat 32 (i 1).val
  let c1_i32 : BitVec 32 := 1#32
  let v94 : BitVec 32 := Scalar.addi arg1 c1_i32
  let c11_i32 : BitVec 32 := 11#32
  let v95 : BitVec 32 := Scalar.subi c11_i32 v94
  let c1_i32_39 : BitVec 32 := 1#32
  let v97 : BitVec 32 := Scalar.divsi v95 c1_i32_39
  let v98 : BitVec 32 := Scalar.muli v97 c1_i32_39
  let v99 : BitVec 32 := Scalar.addi v94 v98
  let v96 : BitVec 32 := Scalar.addi v94 v95
  let c1_i32_41 : BitVec 32 := 1#32
  ⟨v99, v96, c1_i32_41⟩
def k0_mult3 (i : grid0.Coords) (k0_t2 : Fin (k0_t2_loop i).trips) : BitVec 32 :=
  let arg1 : BitVec 32 := BitVec.ofNat 32 (i 1).val
  let c1_i32 : BitVec 32 := 1#32
  let v94 : BitVec 32 := Scalar.addi arg1 c1_i32
  let c11_i32 : BitVec 32 := 11#32
  let v95 : BitVec 32 := Scalar.subi c11_i32 v94
  let c1_i32_39 : BitVec 32 := 1#32
  let v97 : BitVec 32 := Scalar.divsi v95 c1_i32_39
  let v98 : BitVec 32 := Scalar.muli v97 c1_i32_39
  let v99 : BitVec 32 := Scalar.addi v94 v98
  let c1_i32_41 : BitVec 32 := 1#32
  let arg10 : BitVec 32 := Scf.iv v99 c1_i32_41 k0_t2
  let c384_i32_50 : BitVec 32 := 384#32
  let v106 : BitVec 32 := Scalar.muli arg10 c384_i32_50
  v106
def k0_off13 (i : grid0.Coords) (k0_t2 : Fin (k0_t2_loop i).trips) : Fin 2 → Nat :=
  let arg1 : BitVec 32 := BitVec.ofNat 32 (i 1).val
  let c1_i32 : BitVec 32 := 1#32
  let v94 : BitVec 32 := Scalar.addi arg1 c1_i32
  let c11_i32 : BitVec 32 := 11#32
  let v95 : BitVec 32 := Scalar.subi c11_i32 v94
  let c1_i32_39 : BitVec 32 := 1#32
  let v97 : BitVec 32 := Scalar.divsi v95 c1_i32_39
  let v98 : BitVec 32 := Scalar.muli v97 c1_i32_39
  let v99 : BitVec 32 := Scalar.addi v94 v98
  let c1_i32_41 : BitVec 32 := 1#32
  let arg10 : BitVec 32 := Scf.iv v99 c1_i32_41 k0_t2
  let c384_i32_50 : BitVec 32 := 384#32
  let v106 : BitVec 32 := Scalar.muli arg10 c384_i32_50
  let v107 : BitVec 32 := v106
  let v110 : Index := Scalar.indexCast v107
  let c0_53 : Index := 0#32
  ![v110.toNat, 0]
def k0_off14 (i : grid0.Coords) (k0_t2 : Fin (k0_t2_loop i).trips) : Fin 2 → Nat :=
  let arg1 : BitVec 32 := BitVec.ofNat 32 (i 1).val
  let c1_i32 : BitVec 32 := 1#32
  let v94 : BitVec 32 := Scalar.addi arg1 c1_i32
  let c11_i32 : BitVec 32 := 11#32
  let v95 : BitVec 32 := Scalar.subi c11_i32 v94
  let c1_i32_39 : BitVec 32 := 1#32
  let v97 : BitVec 32 := Scalar.divsi v95 c1_i32_39
  let v98 : BitVec 32 := Scalar.muli v97 c1_i32_39
  let v99 : BitVec 32 := Scalar.addi v94 v98
  let c1_i32_41 : BitVec 32 := 1#32
  let arg10 : BitVec 32 := Scf.iv v99 c1_i32_41 k0_t2
  let c384_i32_50 : BitVec 32 := 384#32
  let v106 : BitVec 32 := Scalar.muli arg10 c384_i32_50
  let v107 : BitVec 32 := v106
  let v116 : Index := Scalar.indexCast v107
  let c256_57 : Index := 256#32
  ![v116.toNat, 256]
def k0_off15 (i : grid0.Coords) (k0_t2 : Fin (k0_t2_loop i).trips) : Fin 2 → Nat :=
  let arg1 : BitVec 32 := BitVec.ofNat 32 (i 1).val
  let c1_i32 : BitVec 32 := 1#32
  let v94 : BitVec 32 := Scalar.addi arg1 c1_i32
  let c11_i32 : BitVec 32 := 11#32
  let v95 : BitVec 32 := Scalar.subi c11_i32 v94
  let c1_i32_39 : BitVec 32 := 1#32
  let v97 : BitVec 32 := Scalar.divsi v95 c1_i32_39
  let v98 : BitVec 32 := Scalar.muli v97 c1_i32_39
  let v99 : BitVec 32 := Scalar.addi v94 v98
  let c1_i32_41 : BitVec 32 := 1#32
  let arg10 : BitVec 32 := Scf.iv v99 c1_i32_41 k0_t2
  let c384_i32_50 : BitVec 32 := 384#32
  let v106 : BitVec 32 := Scalar.muli arg10 c384_i32_50
  let v107 : BitVec 32 := v106
  let v122 : Index := Scalar.indexCast v107
  let c0_61 : Index := 0#32
  ![v122.toNat, 0]
def k0_off16 (i : grid0.Coords) (k0_t2 : Fin (k0_t2_loop i).trips) : Fin 2 → Nat :=
  let arg1 : BitVec 32 := BitVec.ofNat 32 (i 1).val
  let c1_i32 : BitVec 32 := 1#32
  let v94 : BitVec 32 := Scalar.addi arg1 c1_i32
  let c11_i32 : BitVec 32 := 11#32
  let v95 : BitVec 32 := Scalar.subi c11_i32 v94
  let c1_i32_39 : BitVec 32 := 1#32
  let v97 : BitVec 32 := Scalar.divsi v95 c1_i32_39
  let v98 : BitVec 32 := Scalar.muli v97 c1_i32_39
  let v99 : BitVec 32 := Scalar.addi v94 v98
  let c1_i32_41 : BitVec 32 := 1#32
  let arg10 : BitVec 32 := Scf.iv v99 c1_i32_41 k0_t2
  let c384_i32_50 : BitVec 32 := 384#32
  let v106 : BitVec 32 := Scalar.muli arg10 c384_i32_50
  let v107 : BitVec 32 := v106
  let v128 : Index := Scalar.indexCast v107
  let c128_65 : Index := 128#32
  ![v128.toNat, 128]
def k0_off17 (i : grid0.Coords) (k0_t2 : Fin (k0_t2_loop i).trips) : Fin 4 → Nat :=
  let c0_68 : Index := 0#32
  let arg1 : BitVec 32 := BitVec.ofNat 32 (i 1).val
  let c1_i32 : BitVec 32 := 1#32
  let v94 : BitVec 32 := Scalar.addi arg1 c1_i32
  let c11_i32 : BitVec 32 := 11#32
  let v95 : BitVec 32 := Scalar.subi c11_i32 v94
  let c1_i32_39 : BitVec 32 := 1#32
  let v97 : BitVec 32 := Scalar.divsi v95 c1_i32_39
  let v98 : BitVec 32 := Scalar.muli v97 c1_i32_39
  let v99 : BitVec 32 := Scalar.addi v94 v98
  let c1_i32_41 : BitVec 32 := 1#32
  let arg10 : BitVec 32 := Scf.iv v99 c1_i32_41 k0_t2
  let v134 : Index := Scalar.indexCast arg10
  let c0_69 : Index := 0#32
  let c0_70 : Index := 0#32
  ![0, v134.toNat, 0, 0]
def k0_off18 (i : grid0.Coords) (k0_t2 : Fin (k0_t2_loop i).trips) : Fin 4 → Nat :=
  let c1_80 : Index := 1#32
  let arg1 : BitVec 32 := BitVec.ofNat 32 (i 1).val
  let c1_i32 : BitVec 32 := 1#32
  let v94 : BitVec 32 := Scalar.addi arg1 c1_i32
  let c11_i32 : BitVec 32 := 11#32
  let v95 : BitVec 32 := Scalar.subi c11_i32 v94
  let c1_i32_39 : BitVec 32 := 1#32
  let v97 : BitVec 32 := Scalar.divsi v95 c1_i32_39
  let v98 : BitVec 32 := Scalar.muli v97 c1_i32_39
  let v99 : BitVec 32 := Scalar.addi v94 v98
  let c1_i32_41 : BitVec 32 := 1#32
  let arg10 : BitVec 32 := Scf.iv v99 c1_i32_41 k0_t2
  let v162 : Index := Scalar.indexCast arg10
  let c0_81 : Index := 0#32
  let c0_82 : Index := 0#32
  ![1, v162.toNat, 0, 0]
def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_4 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_5 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S4224x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S384x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S384x256 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S4224x256 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S2x11x1x384 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S2x11x1x384 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 2 → Memref sig .tc .vmem S384x512 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S384x256 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]
-- ==== ReferenceIdeal.lean ====
abbrev S1x4112x16x192 : Shape := ⟨4, ![1, 4112, 16, 192]⟩
abbrev S1x4112x16x128 : Shape := ⟨4, ![1, 4112, 16, 128]⟩
abbrev S1x16x4112x4112 : Shape := ⟨4, ![1, 16, 4112, 4112]⟩
abbrev S_ : Shape := ⟨0, ![]⟩
abbrev S4112 : Shape := ⟨1, ![4112]⟩
abbrev S4112x1 : Shape := ⟨2, ![4112, 1]⟩
abbrev S1x4112 : Shape := ⟨2, ![1, 4112]⟩
abbrev S4112x4112 : Shape := ⟨2, ![4112, 4112]⟩
abbrev S1x16x4112 : Shape := ⟨3, ![1, 16, 4112]⟩
abbrev S1x16x4112x1 : Shape := ⟨4, ![1, 16, 4112, 1]⟩
abbrev S1x16x128x4112 : Shape := ⟨4, ![1, 16, 128, 4112]⟩
abbrev S16x4112 : Shape := ⟨2, ![16, 4112]⟩
abbrev S1x16x4112x192 : Shape := ⟨4, ![1, 16, 4112, 192]⟩
abbrev S4112x16x192 : Shape := ⟨3, ![4112, 16, 192]⟩
abbrev S4224x16x256 : Shape := ⟨3, ![4224, 16, 256]⟩
abbrev S4224x4096 : Shape := ⟨2, ![4224, 4096]⟩
abbrev S4112x16x128 : Shape := ⟨3, ![4112, 16, 128]⟩
abbrev S4224x16x128 : Shape := ⟨3, ![4224, 16, 128]⟩
abbrev S4224x2048 : Shape := ⟨2, ![4224, 2048]⟩

abbrev nBuf : Space → Nat
  | .hbm => 100
  | .vmem => 0
  | .smem => 0
  | _ => 0

abbrev bufTy : (tb : Table) → Fin (tcTables nBuf tb) → BufTy
  | .hbm, ⟨0, _⟩ => ⟨S1x4112x16x192, .f32⟩
  | .hbm, ⟨1, _⟩ => ⟨S1x4112x16x192, .f32⟩
  | .hbm, ⟨2, _⟩ => ⟨S1x4112x16x128, .f32⟩
  | .hbm, ⟨3, _⟩ => ⟨S1x4112x16x128, .f32⟩
  | .hbm, ⟨4, _⟩ => ⟨S1x16x4112x4112, .f32⟩
  | .hbm, ⟨5, _⟩ => ⟨S_, .f32⟩
  | .hbm, ⟨6, _⟩ => ⟨S1x16x4112x4112, .f32⟩
  | .hbm, ⟨7, _⟩ => ⟨S1x16x4112x4112, .f32⟩
  | .hbm, ⟨8, _⟩ => ⟨S4112, .i32⟩
  | .hbm, ⟨9, _⟩ => ⟨S4112x1, .i32⟩
  | .hbm, ⟨10, _⟩ => ⟨S1x4112, .i32⟩
  | .hbm, ⟨11, _⟩ => ⟨S4112x4112, .i32⟩
  | .hbm, ⟨12, _⟩ => ⟨S4112x4112, .i32⟩
  | .hbm, ⟨13, _⟩ => ⟨S4112x4112, .i1⟩
  | .hbm, ⟨14, _⟩ => ⟨S_, .f32⟩
  | .hbm, ⟨15, _⟩ => ⟨S_, .f32⟩
  | .hbm, ⟨16, _⟩ => ⟨S1x16x4112x4112, .i1⟩
  | .hbm, ⟨17, _⟩ => ⟨S1x16x4112x4112, .f32⟩
  | .hbm, ⟨18, _⟩ => ⟨S1x16x4112x4112, .f32⟩
  | .hbm, ⟨19, _⟩ => ⟨S_, .f32⟩
  | .hbm, ⟨20, _⟩ => ⟨S1x16x4112x4112, .f32⟩
  | .hbm, ⟨21, _⟩ => ⟨S_, .f32⟩
  | .hbm, ⟨22, _⟩ => ⟨S1x16x4112, .f32⟩
  | .hbm, ⟨23, _⟩ => ⟨S1x16x4112x1, .f32⟩
  | .hbm, ⟨24, _⟩ => ⟨S1x16x4112x4112, .f32⟩
  | .hbm, ⟨25, _⟩ => ⟨S1x16x4112x4112, .i1⟩
  | .hbm, ⟨26, _⟩ => ⟨S1x16x4112x4112, .f32⟩
  | .hbm, ⟨27, _⟩ => ⟨S_, .f32⟩
  | .hbm, ⟨28, _⟩ => ⟨S1x16x4112, .f32⟩
  | .hbm, ⟨29, _⟩ => ⟨S_, .f32⟩
  | .hbm, ⟨30, _⟩ => ⟨S1x16x4112, .f32⟩
  | .hbm, ⟨31, _⟩ => ⟨S1x16x4112, .f32⟩
  | .hbm, ⟨32, _⟩ => ⟨S_, .f32⟩
  | .hbm, ⟨33, _⟩ => ⟨S1x16x4112, .f32⟩
  | .hbm, ⟨34, _⟩ => ⟨S1x16x4112, .i1⟩
  | .hbm, ⟨35, _⟩ => ⟨S_, .f32⟩
  | .hbm, ⟨36, _⟩ => ⟨S1x16x4112, .f32⟩
  | .hbm, ⟨37, _⟩ => ⟨S1x16x4112, .i1⟩
  | .hbm, ⟨38, _⟩ => ⟨S_, .f32⟩
  | .hbm, ⟨39, _⟩ => ⟨S1x16x4112, .f32⟩
  | .hbm, ⟨40, _⟩ => ⟨S_, .f32⟩
  | .hbm, ⟨41, _⟩ => ⟨S1x16x4112, .f32⟩
  | .hbm, ⟨42, _⟩ => ⟨S_, .f32⟩
  | .hbm, ⟨43, _⟩ => ⟨S1x16x4112, .f32⟩
  | .hbm, ⟨44, _⟩ => ⟨S1x16x4112, .f32⟩
  | .hbm, ⟨45, _⟩ => ⟨S1x16x4112, .f32⟩
  | .hbm, ⟨46, _⟩ => ⟨S1x16x4112x1, .f32⟩
  | .hbm, ⟨47, _⟩ => ⟨S1x16x4112x4112, .f32⟩
  | .hbm, ⟨48, _⟩ => ⟨S1x16x4112x4112, .f32⟩
  | .hbm, ⟨49, _⟩ => ⟨S1x16x4112x4112, .f32⟩
  | .hbm, ⟨50, _⟩ => ⟨S_, .f32⟩
  | .hbm, ⟨51, _⟩ => ⟨S1x16x4112, .f32⟩
  | .hbm, ⟨52, _⟩ => ⟨S1x16x4112x1, .f32⟩
  | .hbm, ⟨53, _⟩ => ⟨S1x16x4112x4112, .f32⟩
  | .hbm, ⟨54, _⟩ => ⟨S1x16x4112x4112, .f32⟩
  | .hbm, ⟨55, _⟩ => ⟨S1x16x4112x1, .f32⟩
  | .hbm, ⟨56, _⟩ => ⟨S_, .f32⟩
  | .hbm, ⟨57, _⟩ => ⟨S1x16x4112x1, .f32⟩
  | .hbm, ⟨58, _⟩ => ⟨S1x16x4112x1, .f32⟩
  | .hbm, ⟨59, _⟩ => ⟨S1x16x128x4112, .f32⟩
  | .hbm, ⟨60, _⟩ => ⟨S1x4112x16x128, .f32⟩
  | .hbm, ⟨61, _⟩ => ⟨S1x16x128x4112, .f32⟩
  | .hbm, ⟨62, _⟩ => ⟨S1x16x4112x4112, .f32⟩
  | .hbm, ⟨63, _⟩ => ⟨S1x16x128x4112, .f32⟩
  | .hbm, ⟨64, _⟩ => ⟨S1x4112x16x128, .f32⟩
  | .hbm, ⟨65, _⟩ => ⟨S1x16x4112x4112, .f32⟩
  | .hbm, ⟨66, _⟩ => ⟨S1x16x4112x4112, .f32⟩
  | .hbm, ⟨67, _⟩ => ⟨S1x16x4112x4112, .f32⟩
  | .hbm, ⟨68, _⟩ => ⟨S_, .f32⟩
  | .hbm, ⟨69, _⟩ => ⟨S1x16x4112, .f32⟩
  | .hbm, ⟨70, _⟩ => ⟨S1x16x4112x1, .f32⟩
  | .hbm, ⟨71, _⟩ => ⟨S1x16x4112x1, .f32⟩
  | .hbm, ⟨72, _⟩ => ⟨S1x16x4112x4112, .f32⟩
  | .hbm, ⟨73, _⟩ => ⟨S1x16x4112x4112, .f32⟩
  | .hbm, ⟨74, _⟩ => ⟨S_, .f32⟩
  | .hbm, ⟨75, _⟩ => ⟨S16x4112, .f32⟩
  | .hbm, ⟨76, _⟩ => ⟨S1x16x4112, .f32⟩
  | .hbm, ⟨77, _⟩ => ⟨S1x16x4112x4112, .f32⟩
  | .hbm, ⟨78, _⟩ => ⟨S1x16x4112x4112, .f32⟩
  | .hbm, ⟨79, _⟩ => ⟨S1x16x4112x4112, .f32⟩
  | .hbm, ⟨80, _⟩ => ⟨S_, .f32⟩
  | .hbm, ⟨81, _⟩ => ⟨S1x16x4112x4112, .f32⟩
  | .hbm, ⟨82, _⟩ => ⟨S1x16x4112x4112, .f32⟩
  | .hbm, ⟨83, _⟩ => ⟨S_, .f32⟩
  | .hbm, ⟨84, _⟩ => ⟨S1x16x4112x4112, .f32⟩
  | .hbm, ⟨85, _⟩ => ⟨S1x16x4112x4112, .f32⟩
  | .hbm, ⟨86, _⟩ => ⟨S1x16x4112x192, .f32⟩
  | .hbm, ⟨87, _⟩ => ⟨S1x4112x16x192, .f32⟩
  | .hbm, ⟨88, _⟩ => ⟨S1x16x4112x192, .f32⟩
  | .hbm, ⟨89, _⟩ => ⟨S1x4112x16x192, .f32⟩
  | .hbm, ⟨90, _⟩ => ⟨S4112x16x192, .f32⟩
  | .hbm, ⟨91, _⟩ => ⟨S_, .i32⟩
  | .hbm, ⟨92, _⟩ => ⟨S_, .f32⟩
  | .hbm, ⟨93, _⟩ => ⟨S4224x16x256, .f32⟩
  | .hbm, ⟨94, _⟩ => ⟨S4224x4096, .f32⟩
  | .hbm, ⟨95, _⟩ => ⟨S4112x16x128, .f32⟩
  | .hbm, ⟨96, _⟩ => ⟨S_, .i32⟩
  | .hbm, ⟨97, _⟩ => ⟨S_, .f32⟩
  | .hbm, ⟨98, _⟩ => ⟨S4224x16x128, .f32⟩
  | .hbm, ⟨99, _⟩ => ⟨S4224x2048, .f32⟩
  | _, _ => ⟨S1x4112x16x192, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_cst_0 : Ref sig .tc := ⟨.hbm, 14, rfl⟩
abbrev main_call0_v0 : Ref sig .tc := ⟨.hbm, 15, rfl⟩
abbrev main_v9_1 : Ref sig .tc := ⟨.hbm, 16, rfl⟩
abbrev main_call0_v2 : Ref sig .tc := ⟨.hbm, 17, rfl⟩
abbrev main_v9_0 : Ref sig .tc := ⟨.hbm, 18, rfl⟩
abbrev main_call0_cst : Ref sig .tc := ⟨.hbm, 19, rfl⟩
abbrev main_v9_2 : Ref sig .tc := ⟨.hbm, 20, rfl⟩
abbrev main_cst_1 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_cst_2 : Ref sig .tc := ⟨.hbm, 27, rfl⟩
abbrev main_v15 : Ref sig .tc := ⟨.hbm, 28, rfl⟩
abbrev main_cst_3 : Ref sig .tc := ⟨.hbm, 29, rfl⟩
abbrev main_v16 : Ref sig .tc := ⟨.hbm, 30, rfl⟩
abbrev main_v17 : Ref sig .tc := ⟨.hbm, 31, rfl⟩
abbrev main_cst_4 : Ref sig .tc := ⟨.hbm, 32, rfl⟩
abbrev main_v18 : Ref sig .tc := ⟨.hbm, 33, rfl⟩
abbrev main_v19 : Ref sig .tc := ⟨.hbm, 34, rfl⟩
abbrev main_cst_5 : Ref sig .tc := ⟨.hbm, 35, rfl⟩
abbrev main_v20 : Ref sig .tc := ⟨.hbm, 36, rfl⟩
abbrev main_v21 : Ref sig .tc := ⟨.hbm, 37, rfl⟩
abbrev main_cst_6 : Ref sig .tc := ⟨.hbm, 38, rfl⟩
abbrev main_v22 : Ref sig .tc := ⟨.hbm, 39, rfl⟩
abbrev main_cst_7 : Ref sig .tc := ⟨.hbm, 40, rfl⟩
abbrev main_v23 : Ref sig .tc := ⟨.hbm, 41, rfl⟩
abbrev main_cst_8 : Ref sig .tc := ⟨.hbm, 42, rfl⟩
abbrev main_v24 : Ref sig .tc := ⟨.hbm, 43, rfl⟩
abbrev main_v25 : Ref sig .tc := ⟨.hbm, 44, rfl⟩
abbrev main_v26 : Ref sig .tc := ⟨.hbm, 45, rfl⟩
abbrev main_v27 : Ref sig .tc := ⟨.hbm, 46, rfl⟩
abbrev main_v28 : Ref sig .tc := ⟨.hbm, 47, rfl⟩
abbrev main_v29 : Ref sig .tc := ⟨.hbm, 48, rfl⟩
abbrev main_v30 : Ref sig .tc := ⟨.hbm, 49, rfl⟩
abbrev main_cst_9 : Ref sig .tc := ⟨.hbm, 50, rfl⟩
abbrev main_v31 : Ref sig .tc := ⟨.hbm, 51, rfl⟩
abbrev main_v32 : Ref sig .tc := ⟨.hbm, 52, rfl⟩
abbrev main_v33 : Ref sig .tc := ⟨.hbm, 53, rfl⟩
abbrev main_v34 : Ref sig .tc := ⟨.hbm, 54, rfl⟩
abbrev main_v35 : Ref sig .tc := ⟨.hbm, 55, rfl⟩
abbrev main_cst_10 : Ref sig .tc := ⟨.hbm, 56, rfl⟩
abbrev main_v36 : Ref sig .tc := ⟨.hbm, 57, rfl⟩
abbrev main_v37 : Ref sig .tc := ⟨.hbm, 58, rfl⟩
abbrev main_v38 : Ref sig .tc := ⟨.hbm, 59, rfl⟩
abbrev main_v39 : Ref sig .tc := ⟨.hbm, 60, rfl⟩
abbrev main_v40 : Ref sig .tc := ⟨.hbm, 61, rfl⟩
abbrev main_v41 : Ref sig .tc := ⟨.hbm, 62, rfl⟩
abbrev main_v42 : Ref sig .tc := ⟨.hbm, 63, rfl⟩
abbrev main_v43 : Ref sig .tc := ⟨.hbm, 64, rfl⟩
abbrev main_v44 : Ref sig .tc := ⟨.hbm, 65, rfl⟩
abbrev main_v45 : Ref sig .tc := ⟨.hbm, 66, rfl⟩
abbrev main_v46 : Ref sig .tc := ⟨.hbm, 67, rfl⟩
abbrev main_cst_11 : Ref sig .tc := ⟨.hbm, 68, rfl⟩
abbrev main_v47 : Ref sig .tc := ⟨.hbm, 69, rfl⟩
abbrev main_v48 : Ref sig .tc := ⟨.hbm, 70, rfl⟩
abbrev main_v49 : Ref sig .tc := ⟨.hbm, 71, rfl⟩
abbrev main_v50 : Ref sig .tc := ⟨.hbm, 72, rfl⟩
abbrev main_v51 : Ref sig .tc := ⟨.hbm, 73, rfl⟩
abbrev main_cst_12 : Ref sig .tc := ⟨.hbm, 74, rfl⟩
abbrev main_v52 : Ref sig .tc := ⟨.hbm, 75, rfl⟩
abbrev main_v53 : Ref sig .tc := ⟨.hbm, 76, rfl⟩
abbrev main_v54 : Ref sig .tc := ⟨.hbm, 77, rfl⟩
abbrev main_v55 : Ref sig .tc := ⟨.hbm, 78, rfl⟩
abbrev main_v56 : Ref sig .tc := ⟨.hbm, 79, rfl⟩
abbrev main_call1_cst : Ref sig .tc := ⟨.hbm, 80, rfl⟩
abbrev main_call1_v0 : Ref sig .tc := ⟨.hbm, 81, rfl⟩
abbrev main_v57 : Ref sig .tc := ⟨.hbm, 82, rfl⟩
abbrev main_cst_13 : Ref sig .tc := ⟨.hbm, 83, rfl⟩
abbrev main_v58 : Ref sig .tc := ⟨.hbm, 84, rfl⟩
abbrev main_v59 : Ref sig .tc := ⟨.hbm, 85, rfl⟩
abbrev main_v60 : Ref sig .tc := ⟨.hbm, 86, rfl⟩
abbrev main_v61 : Ref sig .tc := ⟨.hbm, 87, rfl⟩
abbrev main_v62 : Ref sig .tc := ⟨.hbm, 88, rfl⟩
abbrev main_v63 : Ref sig .tc := ⟨.hbm, 89, rfl⟩
abbrev main_v64 : Ref sig .tc := ⟨.hbm, 90, rfl⟩
abbrev main_c : Ref sig .tc := ⟨.hbm, 91, rfl⟩
abbrev main_call2_v0 : Ref sig .tc := ⟨.hbm, 92, rfl⟩
abbrev main_v65 : Ref sig .tc := ⟨.hbm, 93, rfl⟩
abbrev main_v66 : Ref sig .tc := ⟨.hbm, 94, rfl⟩
abbrev main_v67 : Ref sig .tc := ⟨.hbm, 95, rfl⟩
abbrev main_c_14 : Ref sig .tc := ⟨.hbm, 96, rfl⟩
abbrev main_call3_v0 : Ref sig .tc := ⟨.hbm, 97, rfl⟩
abbrev main_v68 : Ref sig .tc := ⟨.hbm, 98, rfl⟩
abbrev main_v69 : Ref sig .tc := ⟨.hbm, 99, rfl⟩

abbrev nD : Nat := 1
abbrev τ : Topo := Topo.v7x

variable {F : FTy → Type} [FloatOps F]
-- ==== Merge.lean ====
abbrev S1x4112x6144 : Shape := ⟨3, ![1, 4112, 6144]⟩
abbrev S1x4112x2048 : Shape := ⟨3, ![1, 4112, 2048]⟩
abbrev S4112x6144 : Shape := ⟨2, ![4112, 6144]⟩
abbrev S_ : Shape := ⟨0, ![]⟩
abbrev S4224x11520 : Shape := ⟨2, ![4224, 11520]⟩
abbrev S4112x2048 : Shape := ⟨2, ![4112, 2048]⟩
abbrev S4224x2048 : Shape := ⟨2, ![4224, 2048]⟩
abbrev S384x512 : Shape := ⟨2, ![384, 512]⟩

abbrev nBuf : Space → Nat
  | .hbm => 31
  | .vmem => 26
  | .smem => 0
  | _ => 0

abbrev bufTy : (tb : Table) → Fin (tcTables nBuf tb) → BufTy
  | .hbm, ⟨0, _⟩ => ⟨S1x4112x6144, .f32⟩
  | .hbm, ⟨1, _⟩ => ⟨S1x4112x2048, .f32⟩
  | .hbm, ⟨2, _⟩ => ⟨S1x4112x2048, .f32⟩
  | .hbm, ⟨3, _⟩ => ⟨S1x4112x2048, .f32⟩
  | .hbm, ⟨4, _⟩ => ⟨S1x4112x2048, .f32⟩
  | .hbm, ⟨5, _⟩ => ⟨S4112x6144, .f32⟩
  | .hbm, ⟨6, _⟩ => ⟨S_, .i32⟩
  | .hbm, ⟨7, _⟩ => ⟨S_, .f32⟩
  | .hbm, ⟨8, _⟩ => ⟨S4224x11520, .f32⟩
  | .hbm, ⟨9, _⟩ => ⟨S4112x2048, .f32⟩
  | .hbm, ⟨10, _⟩ => ⟨S_, .i32⟩
  | .hbm, ⟨11, _⟩ => ⟨S_, .f32⟩
  | .hbm, ⟨12, _⟩ => ⟨S4224x2048, .f32⟩
  | .hbm, ⟨13, _⟩ => ⟨S4112x2048, .f32⟩
  | .hbm, ⟨14, _⟩ => ⟨S_, .i32⟩
  | .hbm, ⟨15, _⟩ => ⟨S_, .f32⟩
  | .hbm, ⟨16, _⟩ => ⟨S4224x2048, .f32⟩
  | .hbm, ⟨17, _⟩ => ⟨S4112x2048, .f32⟩
  | .hbm, ⟨18, _⟩ => ⟨S_, .i32⟩
  | .hbm, ⟨19, _⟩ => ⟨S_, .f32⟩
  | .hbm, ⟨20, _⟩ => ⟨S4224x2048, .f32⟩
  | .hbm, ⟨21, _⟩ => ⟨S4112x2048, .f32⟩
  | .hbm, ⟨22, _⟩ => ⟨S_, .i32⟩
  | .hbm, ⟨23, _⟩ => ⟨S_, .f32⟩
  | .hbm, ⟨24, _⟩ => ⟨S4224x2048, .f32⟩
  | .hbm, ⟨25, _⟩ => ⟨S4224x2048, .bf16⟩
  | .hbm, ⟨26, _⟩ => ⟨S4224x2048, .bf16⟩
  | .hbm, ⟨27, _⟩ => ⟨S4224x2048, .bf16⟩
  | .hbm, ⟨28, _⟩ => ⟨S4224x2048, .bf16⟩
  | .hbm, ⟨29, _⟩ => ⟨S4224x2048, .bf16⟩
  | .hbm, ⟨30, _⟩ => ⟨S4224x2048, .bf16⟩
  | .local _ .vmem, ⟨0, _⟩ => ⟨S384x512, .f32⟩
  | .local _ .vmem, ⟨1, _⟩ => ⟨S384x512, .f32⟩
  | .local _ .vmem, ⟨2, _⟩ => ⟨S384x512, .f32⟩
  | .local _ .vmem, ⟨3, _⟩ => ⟨S384x512, .f32⟩
  | .local _ .vmem, ⟨4, _⟩ => ⟨S384x512, .f32⟩
  | .local _ .vmem, ⟨5, _⟩ => ⟨S384x512, .f32⟩
  | .local _ .vmem, ⟨6, _⟩ => ⟨S384x512, .f32⟩
  | .local _ .vmem, ⟨7, _⟩ => ⟨S384x512, .f32⟩
  | .local _ .vmem, ⟨8, _⟩ => ⟨S384x512, .f32⟩
  | .local _ .vmem, ⟨9, _⟩ => ⟨S384x512, .f32⟩
  | .local _ .vmem, ⟨10, _⟩ => ⟨S384x512, .f32⟩
  | .local _ .vmem, ⟨11, _⟩ => ⟨S384x512, .f32⟩
  | .local _ .vmem, ⟨12, _⟩ => ⟨S384x512, .f32⟩
  | .local _ .vmem, ⟨13, _⟩ => ⟨S384x512, .f32⟩
  | .local _ .vmem, ⟨14, _⟩ => ⟨S384x512, .bf16⟩
  | .local _ .vmem, ⟨15, _⟩ => ⟨S384x512, .bf16⟩
  | .local _ .vmem, ⟨16, _⟩ => ⟨S384x512, .bf16⟩
  | .local _ .vmem, ⟨17, _⟩ => ⟨S384x512, .bf16⟩
  | .local _ .vmem, ⟨18, _⟩ => ⟨S384x512, .bf16⟩
  | .local _ .vmem, ⟨19, _⟩ => ⟨S384x512, .bf16⟩
  | .local _ .vmem, ⟨20, _⟩ => ⟨S384x512, .bf16⟩
  | .local _ .vmem, ⟨21, _⟩ => ⟨S384x512, .bf16⟩
  | .local _ .vmem, ⟨22, _⟩ => ⟨S384x512, .bf16⟩
  | .local _ .vmem, ⟨23, _⟩ => ⟨S384x512, .bf16⟩
  | .local _ .vmem, ⟨24, _⟩ => ⟨S384x512, .bf16⟩
  | .local _ .vmem, ⟨25, _⟩ => ⟨S384x512, .bf16⟩
  | _, _ => ⟨S1x4112x6144, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | _, _ => false

abbrev semScoped : Fin 0 → Bool
  | ⟨_, h⟩ => absurd h (Nat.not_lt_zero _)

abbrev dmaSemScoped : Fin 26 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | _ => false

abbrev sig : RefSig :=
  ofTc nBuf bufTy 0 26 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_c : Ref sig .tc := ⟨.hbm, 6, rfl⟩
abbrev main_call0_v0 : Ref sig .tc := ⟨.hbm, 7, rfl⟩
abbrev main_v1 : Ref sig .tc := ⟨.hbm, 8, rfl⟩
abbrev main_v2 : Ref sig .tc := ⟨.hbm, 9, rfl⟩
abbrev main_c_0 : Ref sig .tc := ⟨.hbm, 10, rfl⟩
abbrev main_call1_v0 : Ref sig .tc := ⟨.hbm, 11, rfl⟩
abbrev main_v3 : Ref sig .tc := ⟨.hbm, 12, rfl⟩
abbrev main_v4 : Ref sig .tc := ⟨.hbm, 13, rfl⟩
abbrev main_c_1 : Ref sig .tc := ⟨.hbm, 14, rfl⟩
abbrev main_call2_v0 : Ref sig .tc := ⟨.hbm, 15, rfl⟩
abbrev main_v5 : Ref sig .tc := ⟨.hbm, 16, rfl⟩
abbrev main_v6 : Ref sig .tc := ⟨.hbm, 17, rfl⟩
abbrev main_c_2 : Ref sig .tc := ⟨.hbm, 18, rfl⟩
abbrev main_call3_v0 : Ref sig .tc := ⟨.hbm, 19, rfl⟩
abbrev main_v7 : Ref sig .tc := ⟨.hbm, 20, rfl⟩
abbrev main_v8 : Ref sig .tc := ⟨.hbm, 21, rfl⟩
abbrev main_c_3 : Ref sig .tc := ⟨.hbm, 22, rfl⟩
abbrev main_call4_v0 : Ref sig .tc := ⟨.hbm, 23, rfl⟩
abbrev main_v9 : Ref sig .tc := ⟨.hbm, 24, rfl⟩
abbrev main_v10_0 : Ref sig .tc := ⟨.hbm, 25, rfl⟩
abbrev main_v10_1 : Ref sig .tc := ⟨.hbm, 26, rfl⟩
abbrev main_v10_2 : Ref sig .tc := ⟨.hbm, 27, rfl⟩
abbrev main_v10_3 : Ref sig .tc := ⟨.hbm, 28, rfl⟩
abbrev main_v10_4 : Ref sig .tc := ⟨.hbm, 29, rfl⟩
abbrev main_v10_5 : Ref sig .tc := ⟨.hbm, 30, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_stg10_0 : Ref sig .tc := ⟨.vmem, 20, rfl⟩
abbrev cc0_stg10_1 : Ref sig .tc := ⟨.vmem, 21, rfl⟩
abbrev cc0_stg11_0 : Ref sig .tc := ⟨.vmem, 22, rfl⟩
abbrev cc0_stg11_1 : Ref sig .tc := ⟨.vmem, 23, rfl⟩
abbrev cc0_stg12_0 : Ref sig .tc := ⟨.vmem, 24, rfl⟩
abbrev cc0_stg12_1 : Ref sig .tc := ⟨.vmem, 25, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19
abbrev cc0_sem10_0 : DmaSem sig := 20
abbrev cc0_sem10_1 : DmaSem sig := 21
abbrev cc0_sem11_0 : DmaSem sig := 22
abbrev cc0_sem11_1 : DmaSem sig := 23
abbrev cc0_sem12_0 : DmaSem sig := 24
abbrev cc0_sem12_1 : DmaSem sig := 25

abbrev nD : Nat := 1
abbrev τ : Topo := Topo.v7x

variable {F : FTy → Type} [FloatOps F]

abbrev grid0 : Pipeline.Grid := ⟨2, ![11, 4], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg1
  let c0_i32_0 : BitVec 32 := 0#32
  ![arg0.toNat, v0.toNat]

def cc0_transform_1 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.addi c4_i32 arg1
  let c0_i32 : BitVec 32 := 0#32
  ![arg0.toNat, v0.toNat]

def cc0_transform_2 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.addi c8_i32 arg1
  let c0_i32 : BitVec 32 := 0#32
  ![arg0.toNat, v0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_11 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_12 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S384x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S384x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S384x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S384x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S384x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S384x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S384x512 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S384x512 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S384x512 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 2 → Memref sig .tc .vmem S384x512 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]

abbrev stage0_10 : Fin 2 → Memref sig .tc .vmem S384x512 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true]

abbrev stage0_11 : Fin 2 → Memref sig .tc .vmem S384x512 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, true]

abbrev stage0_12 : Fin 2 → Memref sig .tc .vmem S384x512 .bf16 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true, true]
-- ==== MergeRefIdeal.lean ====
abbrev S1x4112x6144 : Shape := ⟨3, ![1, 4112, 6144]⟩
abbrev S1x4112x2048 : Shape := ⟨3, ![1, 4112, 2048]⟩
abbrev S_ : Shape := ⟨0, ![]⟩
abbrev S1x4112x3x2048 : Shape := ⟨4, ![1, 4112, 3, 2048]⟩
abbrev S1x4112x1x2048 : Shape := ⟨4, ![1, 4112, 1, 2048]⟩
abbrev S4112x2048 : Shape := ⟨2, ![4112, 2048]⟩
abbrev S4224x2048 : Shape := ⟨2, ![4224, 2048]⟩

abbrev nBuf : Space → Nat
  | .hbm => 83
  | .vmem => 0
  | .smem => 0
  | _ => 0

abbrev bufTy : (tb : Table) → Fin (tcTables nBuf tb) → BufTy
  | .hbm, ⟨0, _⟩ => ⟨S1x4112x6144, .f32⟩
  | .hbm, ⟨1, _⟩ => ⟨S1x4112x2048, .f32⟩
  | .hbm, ⟨2, _⟩ => ⟨S1x4112x2048, .f32⟩
  | .hbm, ⟨3, _⟩ => ⟨S1x4112x2048, .f32⟩
  | .hbm, ⟨4, _⟩ => ⟨S1x4112x2048, .f32⟩
  | .hbm, ⟨5, _⟩ => ⟨S1x4112x6144, .f32⟩
  | .hbm, ⟨6, _⟩ => ⟨S1x4112x6144, .f32⟩
  | .hbm, ⟨7, _⟩ => ⟨S_, .f32⟩
  | .hbm, ⟨8, _⟩ => ⟨S1x4112x6144, .f32⟩
  | .hbm, ⟨9, _⟩ => ⟨S1x4112x6144, .f32⟩
  | .hbm, ⟨10, _⟩ => ⟨S_, .f32⟩
  | .hbm, ⟨11, _⟩ => ⟨S1x4112x6144, .f32⟩
  | .hbm, ⟨12, _⟩ => ⟨S1x4112x6144, .f32⟩
  | .hbm, ⟨13, _⟩ => ⟨S_, .f32⟩
  | .hbm, ⟨14, _⟩ => ⟨S1x4112x6144, .f32⟩
  | .hbm, ⟨15, _⟩ => ⟨S1x4112x6144, .f32⟩
  | .hbm, ⟨16, _⟩ => ⟨S1x4112x6144, .f32⟩
  | .hbm, ⟨17, _⟩ => ⟨S1x4112x3x2048, .f32⟩
  | .hbm, ⟨18, _⟩ => ⟨S1x4112x1x2048, .f32⟩
  | .hbm, ⟨19, _⟩ => ⟨S1x4112x2048, .f32⟩
  | .hbm, ⟨20, _⟩ => ⟨S1x4112x2048, .f32⟩
  | .hbm, ⟨21, _⟩ => ⟨S1x4112x1x2048, .f32⟩
  | .hbm, ⟨22, _⟩ => ⟨S1x4112x2048, .f32⟩
  | .hbm, ⟨23, _⟩ => ⟨S1x4112x2048, .f32⟩
  | .hbm, ⟨24, _⟩ => ⟨S1x4112x2048, .f32⟩
  | .hbm, ⟨25, _⟩ => ⟨S1x4112x1x2048, .f32⟩
  | .hbm, ⟨26, _⟩ => ⟨S1x4112x2048, .f32⟩
  | .hbm, ⟨27, _⟩ => ⟨S1x4112x2048, .f32⟩
  | .hbm, ⟨28, _⟩ => ⟨S1x4112x2048, .f32⟩
  | .hbm, ⟨29, _⟩ => ⟨S1x4112x2048, .f32⟩
  | .hbm, ⟨30, _⟩ => ⟨S1x4112x2048, .f32⟩
  | .hbm, ⟨31, _⟩ => ⟨S1x4112x2048, .f32⟩
  | .hbm, ⟨32, _⟩ => ⟨S1x4112x2048, .f32⟩
  | .hbm, ⟨33, _⟩ => ⟨S1x4112x1x2048, .f32⟩
  | .hbm, ⟨34, _⟩ => ⟨S_, .f32⟩
  | .hbm, ⟨35, _⟩ => ⟨S1x4112x3x2048, .f32⟩
  | .hbm, ⟨36, _⟩ => ⟨S1x4112x2048, .f32⟩
  | .hbm, ⟨37, _⟩ => ⟨S1x4112x2048, .f32⟩
  | .hbm, ⟨38, _⟩ => ⟨S1x4112x1x2048, .f32⟩
  | .hbm, ⟨39, _⟩ => ⟨S_, .f32⟩
  | .hbm, ⟨40, _⟩ => ⟨S1x4112x3x2048, .f32⟩
  | .hbm, ⟨41, _⟩ => ⟨S1x4112x3x2048, .f32⟩
  | .hbm, ⟨42, _⟩ => ⟨S1x4112x2048, .f32⟩
  | .hbm, ⟨43, _⟩ => ⟨S1x4112x2048, .f32⟩
  | .hbm, ⟨44, _⟩ => ⟨S1x4112x1x2048, .f32⟩
  | .hbm, ⟨45, _⟩ => ⟨S_, .f32⟩
  | .hbm, ⟨46, _⟩ => ⟨S1x4112x3x2048, .f32⟩
  | .hbm, ⟨47, _⟩ => ⟨S1x4112x3x2048, .f32⟩
  | .hbm, ⟨48, _⟩ => ⟨S1x4112x6144, .f32⟩
  | .hbm, ⟨49, _⟩ => ⟨S1x4112x6144, .f32⟩
  | .hbm, ⟨50, _⟩ => ⟨S4112x2048, .f32⟩
  | .hbm, ⟨51, _⟩ => ⟨S_, .i32⟩
  | .hbm, ⟨52, _⟩ => ⟨S_, .f32⟩
  | .hbm, ⟨53, _⟩ => ⟨S4224x2048, .f32⟩
  | .hbm, ⟨54, _⟩ => ⟨S4224x2048, .bf16⟩
  | .hbm, ⟨55, _⟩ => ⟨S4112x2048, .f32⟩
  | .hbm, ⟨56, _⟩ => ⟨S_, .i32⟩
  | .hbm, ⟨57, _⟩ => ⟨S_, .f32⟩
  | .hbm, ⟨58, _⟩ => ⟨S4224x2048, .f32⟩
  | .hbm, ⟨59, _⟩ => ⟨S4224x2048, .bf16⟩
  | .hbm, ⟨60, _⟩ => ⟨S4112x2048, .f32⟩
  | .hbm, ⟨61, _⟩ => ⟨S_, .i32⟩
  | .hbm, ⟨62, _⟩ => ⟨S_, .f32⟩
  | .hbm, ⟨63, _⟩ => ⟨S4224x2048, .f32⟩
  | .hbm, ⟨64, _⟩ => ⟨S4224x2048, .bf16⟩
  | .hbm, ⟨65, _⟩ => ⟨S1x4112x2048, .f32⟩
  | .hbm, ⟨66, _⟩ => ⟨S1x4112x2048, .f32⟩
  | .hbm, ⟨67, _⟩ => ⟨S1x4112x2048, .f32⟩
  | .hbm, ⟨68, _⟩ => ⟨S4112x2048, .f32⟩
  | .hbm, ⟨69, _⟩ => ⟨S_, .i32⟩
  | .hbm, ⟨70, _⟩ => ⟨S_, .f32⟩
  | .hbm, ⟨71, _⟩ => ⟨S4224x2048, .f32⟩
  | .hbm, ⟨72, _⟩ => ⟨S4224x2048, .bf16⟩
  | .hbm, ⟨73, _⟩ => ⟨S4112x2048, .f32⟩
  | .hbm, ⟨74, _⟩ => ⟨S_, .i32⟩
  | .hbm, ⟨75, _⟩ => ⟨S_, .f32⟩
  | .hbm, ⟨76, _⟩ => ⟨S4224x2048, .f32⟩
  | .hbm, ⟨77, _⟩ => ⟨S4224x2048, .bf16⟩
  | .hbm, ⟨78, _⟩ => ⟨S4112x2048, .f32⟩
  | .hbm, ⟨79, _⟩ => ⟨S_, .i32⟩
  | .hbm, ⟨80, _⟩ => ⟨S_, .f32⟩
  | .hbm, ⟨81, _⟩ => ⟨S4224x2048, .f32⟩
  | .hbm, ⟨82, _⟩ => ⟨S4224x2048, .bf16⟩
  | _, _ => ⟨S1x4112x6144, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_cst : Ref sig .tc := ⟨.hbm, 7, rfl⟩
abbrev main_v2 : Ref sig .tc := ⟨.hbm, 8, rfl⟩
abbrev main_v3 : Ref sig .tc := ⟨.hbm, 9, rfl⟩
abbrev main_cst_0 : Ref sig .tc := ⟨.hbm, 10, rfl⟩
abbrev main_v4 : Ref sig .tc := ⟨.hbm, 11, rfl⟩
abbrev main_v5 : Ref sig .tc := ⟨.hbm, 12, rfl⟩
abbrev main_cst_1 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_cst_2 : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩
abbrev main_v29 : Ref sig .tc := ⟨.hbm, 38, rfl⟩
abbrev main_cst_3 : Ref sig .tc := ⟨.hbm, 39, rfl⟩
abbrev main_v30 : Ref sig .tc := ⟨.hbm, 40, rfl⟩
abbrev main_v31 : Ref sig .tc := ⟨.hbm, 41, rfl⟩
abbrev main_v32 : Ref sig .tc := ⟨.hbm, 42, rfl⟩
abbrev main_v33 : Ref sig .tc := ⟨.hbm, 43, rfl⟩
abbrev main_v34 : Ref sig .tc := ⟨.hbm, 44, rfl⟩
abbrev main_cst_4 : Ref sig .tc := ⟨.hbm, 45, rfl⟩
abbrev main_v35 : Ref sig .tc := ⟨.hbm, 46, rfl⟩
abbrev main_v36 : Ref sig .tc := ⟨.hbm, 47, rfl⟩
abbrev main_v37 : Ref sig .tc := ⟨.hbm, 48, rfl⟩
abbrev main_v38 : Ref sig .tc := ⟨.hbm, 49, rfl⟩
abbrev main_v39 : Ref sig .tc := ⟨.hbm, 50, rfl⟩
abbrev main_c : Ref sig .tc := ⟨.hbm, 51, rfl⟩
abbrev main_call0_v0 : Ref sig .tc := ⟨.hbm, 52, rfl⟩
abbrev main_v40 : Ref sig .tc := ⟨.hbm, 53, rfl⟩
abbrev main_v41 : Ref sig .tc := ⟨.hbm, 54, rfl⟩
abbrev main_v42 : Ref sig .tc := ⟨.hbm, 55, rfl⟩
abbrev main_c_5 : Ref sig .tc := ⟨.hbm, 56, rfl⟩
abbrev main_call1_v0 : Ref sig .tc := ⟨.hbm, 57, rfl⟩
abbrev main_v43 : Ref sig .tc := ⟨.hbm, 58, rfl⟩
abbrev main_v44 : Ref sig .tc := ⟨.hbm, 59, rfl⟩
abbrev main_v45 : Ref sig .tc := ⟨.hbm, 60, rfl⟩
abbrev main_c_6 : Ref sig .tc := ⟨.hbm, 61, rfl⟩
abbrev main_call2_v0 : Ref sig .tc := ⟨.hbm, 62, rfl⟩
abbrev main_v46 : Ref sig .tc := ⟨.hbm, 63, rfl⟩
abbrev main_v47 : Ref sig .tc := ⟨.hbm, 64, rfl⟩
abbrev main_v48 : Ref sig .tc := ⟨.hbm, 65, rfl⟩
abbrev main_v49 : Ref sig .tc := ⟨.hbm, 66, rfl⟩
abbrev main_v50 : Ref sig .tc := ⟨.hbm, 67, rfl⟩
abbrev main_v51 : Ref sig .tc := ⟨.hbm, 68, rfl⟩
abbrev main_c_7 : Ref sig .tc := ⟨.hbm, 69, rfl⟩
abbrev main_call3_v0 : Ref sig .tc := ⟨.hbm, 70, rfl⟩
abbrev main_v52 : Ref sig .tc := ⟨.hbm, 71, rfl⟩
abbrev main_v53 : Ref sig .tc := ⟨.hbm, 72, rfl⟩
abbrev main_v54 : Ref sig .tc := ⟨.hbm, 73, rfl⟩
abbrev main_c_8 : Ref sig .tc := ⟨.hbm, 74, rfl⟩
abbrev main_call4_v0 : Ref sig .tc := ⟨.hbm, 75, rfl⟩
abbrev main_v55 : Ref sig .tc := ⟨.hbm, 76, rfl⟩
abbrev main_v56 : Ref sig .tc := ⟨.hbm, 77, rfl⟩
abbrev main_v57 : Ref sig .tc := ⟨.hbm, 78, rfl⟩
abbrev main_c_9 : Ref sig .tc := ⟨.hbm, 79, rfl⟩
abbrev main_call5_v0 : Ref sig .tc := ⟨.hbm, 80, rfl⟩
abbrev main_v58 : Ref sig .tc := ⟨.hbm, 81, rfl⟩
abbrev main_v59 : Ref sig .tc := ⟨.hbm, 82, rfl⟩

abbrev nD : Nat := 1
abbrev τ : Topo := Topo.v7x

variable {F : FTy → Type} [FloatOps F]
-- ==== Act.lean ====
abbrev S1x4112x8192 : Shape := ⟨3, ![1, 4112, 8192]⟩
abbrev S8192x2048 : Shape := ⟨2, ![8192, 2048]⟩
abbrev S1x4112x2048 : Shape := ⟨3, ![1, 4112, 2048]⟩
abbrev S4112x2048 : Shape := ⟨2, ![4112, 2048]⟩
abbrev S_ : Shape := ⟨0, ![]⟩
abbrev S4224x2048 : Shape := ⟨2, ![4224, 2048]⟩
abbrev S4112x8192 : Shape := ⟨2, ![4112, 8192]⟩
abbrev S4224x8192 : Shape := ⟨2, ![4224, 8192]⟩
abbrev S704x2048 : Shape := ⟨2, ![704, 2048]⟩
abbrev S2048x2048 : Shape := ⟨2, ![2048, 2048]⟩

abbrev nBuf : Space → Nat
  | .hbm => 14
  | .vmem => 8
  | .smem => 0
  | _ => 0

abbrev bufTy : (tb : Table) → Fin (tcTables nBuf tb) → BufTy
  | .hbm, ⟨0, _⟩ => ⟨S1x4112x8192, .f32⟩
  | .hbm, ⟨1, _⟩ => ⟨S8192x2048, .f32⟩
  | .hbm, ⟨2, _⟩ => ⟨S1x4112x2048, .f32⟩
  | .hbm, ⟨3, _⟩ => ⟨S4112x2048, .f32⟩
  | .hbm, ⟨4, _⟩ => ⟨S_, .i32⟩
  | .hbm, ⟨5, _⟩ => ⟨S_, .f32⟩
  | .hbm, ⟨6, _⟩ => ⟨S4224x2048, .f32⟩
  | .hbm, ⟨7, _⟩ => ⟨S4224x2048, .bf16⟩
  | .hbm, ⟨8, _⟩ => ⟨S8192x2048, .bf16⟩
  | .hbm, ⟨9, _⟩ => ⟨S4112x8192, .f32⟩
  | .hbm, ⟨10, _⟩ => ⟨S_, .i32⟩
  | .hbm, ⟨11, _⟩ => ⟨S_, .f32⟩
  | .hbm, ⟨12, _⟩ => ⟨S4224x8192, .f32⟩
  | .hbm, ⟨13, _⟩ => ⟨S4224x8192, .bf16⟩
  | .local _ .vmem, ⟨0, _⟩ => ⟨S704x2048, .bf16⟩
  | .local _ .vmem, ⟨1, _⟩ => ⟨S704x2048, .bf16⟩
  | .local _ .vmem, ⟨2, _⟩ => ⟨S2048x2048, .bf16⟩
  | .local _ .vmem, ⟨3, _⟩ => ⟨S2048x2048, .bf16⟩
  | .local _ .vmem, ⟨4, _⟩ => ⟨S704x2048, .f32⟩
  | .local _ .vmem, ⟨5, _⟩ => ⟨S704x2048, .f32⟩
  | .local _ .vmem, ⟨6, _⟩ => ⟨S704x2048, .bf16⟩
  | .local _ .vmem, ⟨7, _⟩ => ⟨S704x2048, .bf16⟩
  | _, _ => ⟨S1x4112x8192, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_c : Ref sig .tc := ⟨.hbm, 4, rfl⟩
abbrev main_call0_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_c_0 : Ref sig .tc := ⟨.hbm, 10, rfl⟩
abbrev main_call1_v0 : Ref sig .tc := ⟨.hbm, 11, rfl⟩
abbrev main_v5 : Ref sig .tc := ⟨.hbm, 12, rfl⟩
abbrev main_v6 : Ref sig .tc := ⟨.hbm, 13, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![6, 4, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S704x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S704x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S704x2048 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== ActRefIdeal.lean ====
abbrev S1x4112x8192 : Shape := ⟨3, ![1, 4112, 8192]⟩
abbrev S8192x2048 : Shape := ⟨2, ![8192, 2048]⟩
abbrev S1x4112x2048 : Shape := ⟨3, ![1, 4112, 2048]⟩
abbrev S_ : Shape := ⟨0, ![]⟩
abbrev S4112x8192 : Shape := ⟨2, ![4112, 8192]⟩
abbrev S4224x8192 : Shape := ⟨2, ![4224, 8192]⟩

abbrev nBuf : Space → Nat
  | .hbm => 26
  | .vmem => 0
  | .smem => 0
  | _ => 0

abbrev bufTy : (tb : Table) → Fin (tcTables nBuf tb) → BufTy
  | .hbm, ⟨0, _⟩ => ⟨S1x4112x8192, .f32⟩
  | .hbm, ⟨1, _⟩ => ⟨S8192x2048, .f32⟩
  | .hbm, ⟨2, _⟩ => ⟨S1x4112x2048, .f32⟩
  | .hbm, ⟨3, _⟩ => ⟨S_, .f32⟩
  | .hbm, ⟨4, _⟩ => ⟨S1x4112x8192, .f32⟩
  | .hbm, ⟨5, _⟩ => ⟨S1x4112x8192, .f32⟩
  | .hbm, ⟨6, _⟩ => ⟨S_, .f32⟩
  | .hbm, ⟨7, _⟩ => ⟨S1x4112x8192, .f32⟩
  | .hbm, ⟨8, _⟩ => ⟨S1x4112x8192, .i1⟩
  | .hbm, ⟨9, _⟩ => ⟨S_, .f32⟩
  | .hbm, ⟨10, _⟩ => ⟨S1x4112x8192, .f32⟩
  | .hbm, ⟨11, _⟩ => ⟨S1x4112x8192, .f32⟩
  | .hbm, ⟨12, _⟩ => ⟨S_, .f32⟩
  | .hbm, ⟨13, _⟩ => ⟨S1x4112x8192, .f32⟩
  | .hbm, ⟨14, _⟩ => ⟨S1x4112x8192, .f32⟩
  | .hbm, ⟨15, _⟩ => ⟨S1x4112x2048, .f32⟩
  | .hbm, ⟨16, _⟩ => ⟨S1x4112x8192, .f32⟩
  | .hbm, ⟨17, _⟩ => ⟨S1x4112x8192, .f32⟩
  | .hbm, ⟨18, _⟩ => ⟨S_, .f32⟩
  | .hbm, ⟨19, _⟩ => ⟨S1x4112x8192, .f32⟩
  | .hbm, ⟨20, _⟩ => ⟨S1x4112x8192, .f32⟩
  | .hbm, ⟨21, _⟩ => ⟨S4112x8192, .f32⟩
  | .hbm, ⟨22, _⟩ => ⟨S_, .i32⟩
  | .hbm, ⟨23, _⟩ => ⟨S_, .f32⟩
  | .hbm, ⟨24, _⟩ => ⟨S4224x8192, .f32⟩
  | .hbm, ⟨25, _⟩ => ⟨S4224x8192, .bf16⟩
  | _, _ => ⟨S1x4112x8192, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_call0_cst : Ref sig .tc := ⟨.hbm, 3, rfl⟩
abbrev main_call0_v0 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_cst_2 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_c : Ref sig .tc := ⟨.hbm, 22, rfl⟩
abbrev main_call1_v0 : Ref sig .tc := ⟨.hbm, 23, rfl⟩
abbrev main_v13 : Ref sig .tc := ⟨.hbm, 24, rfl⟩
abbrev main_v14 : Ref sig .tc := ⟨.hbm, 25, rfl⟩

abbrev nD : Nat := 1
abbrev τ : Topo := Topo.v7x

variable {F : FTy → Type} [FloatOps F]
-- ==== Down.lean ====
abbrev S1x4112x8192 : Shape := ⟨3, ![1, 4112, 8192]⟩
abbrev S1x4112x2048 : Shape := ⟨3, ![1, 4112, 2048]⟩
abbrev S_ : Shape := ⟨0, ![]⟩
abbrev S4112x8192 : Shape := ⟨2, ![4112, 8192]⟩
abbrev S4224x8192 : Shape := ⟨2, ![4224, 8192]⟩
abbrev S4112x2048 : Shape := ⟨2, ![4112, 2048]⟩
abbrev S4224x2048 : Shape := ⟨2, ![4224, 2048]⟩
abbrev S8192x2048 : Shape := ⟨2, ![8192, 2048]⟩
abbrev S4224x1024 : Shape := ⟨2, ![4224, 1024]⟩
abbrev S1024x1024 : Shape := ⟨2, ![1024, 1024]⟩

abbrev nBuf : Space → Nat
  | .hbm => 17
  | .vmem => 6
  | .smem => 0
  | _ => 0

abbrev bufTy : (tb : Table) → Fin (tcTables nBuf tb) → BufTy
  | .hbm, ⟨0, _⟩ => ⟨S1x4112x8192, .f32⟩
  | .hbm, ⟨1, _⟩ => ⟨S1x4112x2048, .f32⟩
  | .hbm, ⟨2, _⟩ => ⟨S_, .f32⟩
  | .hbm, ⟨3, _⟩ => ⟨S1x4112x8192, .f32⟩
  | .hbm, ⟨4, _⟩ => ⟨S1x4112x8192, .f32⟩
  | .hbm, ⟨5, _⟩ => ⟨S1x4112x8192, .f32⟩
  | .hbm, ⟨6, _⟩ => ⟨S4112x8192, .f32⟩
  | .hbm, ⟨7, _⟩ => ⟨S_, .i32⟩
  | .hbm, ⟨8, _⟩ => ⟨S_, .f32⟩
  | .hbm, ⟨9, _⟩ => ⟨S4224x8192, .f32⟩
  | .hbm, ⟨10, _⟩ => ⟨S4224x8192, .bf16⟩
  | .hbm, ⟨11, _⟩ => ⟨S4112x2048, .f32⟩
  | .hbm, ⟨12, _⟩ => ⟨S_, .i32⟩
  | .hbm, ⟨13, _⟩ => ⟨S_, .f32⟩
  | .hbm, ⟨14, _⟩ => ⟨S4224x2048, .f32⟩
  | .hbm, ⟨15, _⟩ => ⟨S4224x2048, .bf16⟩
  | .hbm, ⟨16, _⟩ => ⟨S8192x2048, .bf16⟩
  | .local _ .vmem, ⟨0, _⟩ => ⟨S4224x1024, .bf16⟩
  | .local _ .vmem, ⟨1, _⟩ => ⟨S4224x1024, .bf16⟩
  | .local _ .vmem, ⟨2, _⟩ => ⟨S4224x1024, .bf16⟩
  | .local _ .vmem, ⟨3, _⟩ => ⟨S4224x1024, .bf16⟩
  | .local _ .vmem, ⟨4, _⟩ => ⟨S1024x1024, .bf16⟩
  | .local _ .vmem, ⟨5, _⟩ => ⟨S1024x1024, .bf16⟩
  | _, _ => ⟨S1x4112x8192, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_call0_cst : Ref sig .tc := ⟨.hbm, 2, rfl⟩
abbrev main_call0_v0 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_c : Ref sig .tc := ⟨.hbm, 7, rfl⟩
abbrev main_call1_v0 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_c_0 : Ref sig .tc := ⟨.hbm, 12, rfl⟩
abbrev main_call2_v0 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![8, 2, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S4224x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S4224x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== DownRefIdeal.lean ====
abbrev S1x4112x8192 : Shape := ⟨3, ![1, 4112, 8192]⟩
abbrev S1x4112x2048 : Shape := ⟨3, ![1, 4112, 2048]⟩
abbrev S_ : Shape := ⟨0, ![]⟩
abbrev S8192x2048 : Shape := ⟨2, ![8192, 2048]⟩
abbrev S2048x8192 : Shape := ⟨2, ![2048, 8192]⟩

abbrev nBuf : Space → Nat
  | .hbm => 12
  | .vmem => 0
  | .smem => 0
  | _ => 0

abbrev bufTy : (tb : Table) → Fin (tcTables nBuf tb) → BufTy
  | .hbm, ⟨0, _⟩ => ⟨S1x4112x8192, .f32⟩
  | .hbm, ⟨1, _⟩ => ⟨S1x4112x2048, .f32⟩
  | .hbm, ⟨2, _⟩ => ⟨S_, .f32⟩
  | .hbm, ⟨3, _⟩ => ⟨S8192x2048, .f32⟩
  | .hbm, ⟨4, _⟩ => ⟨S_, .f32⟩
  | .hbm, ⟨5, _⟩ => ⟨S1x4112x8192, .f32⟩
  | .hbm, ⟨6, _⟩ => ⟨S1x4112x8192, .f32⟩
  | .hbm, ⟨7, _⟩ => ⟨S1x4112x8192, .f32⟩
  | .hbm, ⟨8, _⟩ => ⟨S1x4112x2048, .f32⟩
  | .hbm, ⟨9, _⟩ => ⟨S2048x8192, .f32⟩
  | .hbm, ⟨10, _⟩ => ⟨S8192x2048, .f32⟩
  | .hbm, ⟨11, _⟩ => ⟨S8192x2048, .bf16⟩
  | _, _ => ⟨S1x4112x8192, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_call0_cst : Ref sig .tc := ⟨.hbm, 4, rfl⟩
abbrev main_call0_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩

abbrev nD : Nat := 1
abbrev τ : Topo := Topo.v7x

variable {F : FTy → Type} [FloatOps F]
-- ==== Up.lean ====
abbrev S1x4112x2048 : Shape := ⟨3, ![1, 4112, 2048]⟩
abbrev S1x4112x8192 : Shape := ⟨3, ![1, 4112, 8192]⟩
abbrev S4112x2048 : Shape := ⟨2, ![4112, 2048]⟩
abbrev S_ : Shape := ⟨0, ![]⟩
abbrev S4224x2048 : Shape := ⟨2, ![4224, 2048]⟩
abbrev S4112x8192 : Shape := ⟨2, ![4112, 8192]⟩
abbrev S4224x8192 : Shape := ⟨2, ![4224, 8192]⟩
abbrev S2048x8192 : Shape := ⟨2, ![2048, 8192]⟩
abbrev S4224x1024 : Shape := ⟨2, ![4224, 1024]⟩
abbrev S1024x1024 : Shape := ⟨2, ![1024, 1024]⟩

abbrev nBuf : Space → Nat
  | .hbm => 13
  | .vmem => 6
  | .smem => 0
  | _ => 0

abbrev bufTy : (tb : Table) → Fin (tcTables nBuf tb) → BufTy
  | .hbm, ⟨0, _⟩ => ⟨S1x4112x2048, .f32⟩
  | .hbm, ⟨1, _⟩ => ⟨S1x4112x8192, .f32⟩
  | .hbm, ⟨2, _⟩ => ⟨S4112x2048, .f32⟩
  | .hbm, ⟨3, _⟩ => ⟨S_, .i32⟩
  | .hbm, ⟨4, _⟩ => ⟨S_, .f32⟩
  | .hbm, ⟨5, _⟩ => ⟨S4224x2048, .f32⟩
  | .hbm, ⟨6, _⟩ => ⟨S4224x2048, .bf16⟩
  | .hbm, ⟨7, _⟩ => ⟨S4112x8192, .f32⟩
  | .hbm, ⟨8, _⟩ => ⟨S_, .i32⟩
  | .hbm, ⟨9, _⟩ => ⟨S_, .f32⟩
  | .hbm, ⟨10, _⟩ => ⟨S4224x8192, .f32⟩
  | .hbm, ⟨11, _⟩ => ⟨S4224x8192, .bf16⟩
  | .hbm, ⟨12, _⟩ => ⟨S2048x8192, .bf16⟩
  | .local _ .vmem, ⟨0, _⟩ => ⟨S4224x1024, .bf16⟩
  | .local _ .vmem, ⟨1, _⟩ => ⟨S4224x1024, .bf16⟩
  | .local _ .vmem, ⟨2, _⟩ => ⟨S4224x1024, .bf16⟩
  | .local _ .vmem, ⟨3, _⟩ => ⟨S4224x1024, .bf16⟩
  | .local _ .vmem, ⟨4, _⟩ => ⟨S1024x1024, .bf16⟩
  | .local _ .vmem, ⟨5, _⟩ => ⟨S1024x1024, .bf16⟩
  | _, _ => ⟨S1x4112x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_c : Ref sig .tc := ⟨.hbm, 3, rfl⟩
abbrev main_call0_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_c_0 : Ref sig .tc := ⟨.hbm, 8, rfl⟩
abbrev main_call1_v0 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 8, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S4224x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S4224x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== UpRefIdeal.lean ====
abbrev S1x4112x2048 : Shape := ⟨3, ![1, 4112, 2048]⟩
abbrev S1x4112x8192 : Shape := ⟨3, ![1, 4112, 8192]⟩
abbrev S_ : Shape := ⟨0, ![]⟩
abbrev S2048x8192 : Shape := ⟨2, ![2048, 8192]⟩
abbrev S8192x2048 : Shape := ⟨2, ![8192, 2048]⟩

abbrev nBuf : Space → Nat
  | .hbm => 8
  | .vmem => 0
  | .smem => 0
  | _ => 0

abbrev bufTy : (tb : Table) → Fin (tcTables nBuf tb) → BufTy
  | .hbm, ⟨0, _⟩ => ⟨S1x4112x2048, .f32⟩
  | .hbm, ⟨1, _⟩ => ⟨S1x4112x8192, .f32⟩
  | .hbm, ⟨2, _⟩ => ⟨S_, .f32⟩
  | .hbm, ⟨3, _⟩ => ⟨S2048x8192, .f32⟩
  | .hbm, ⟨4, _⟩ => ⟨S1x4112x8192, .f32⟩
  | .hbm, ⟨5, _⟩ => ⟨S8192x2048, .f32⟩
  | .hbm, ⟨6, _⟩ => ⟨S2048x8192, .f32⟩
  | .hbm, ⟨7, _⟩ => ⟨S2048x8192, .bf16⟩
  | _, _ => ⟨S1x4112x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== H2.lean ====
abbrev S2048x8192 : Shape := ⟨2, ![2048, 8192]⟩
abbrev S1x4112x8192 : Shape := ⟨3, ![1, 4112, 8192]⟩
abbrev S4112x8192 : Shape := ⟨2, ![4112, 8192]⟩
abbrev S_ : Shape := ⟨0, ![]⟩
abbrev S4224x8192 : Shape := ⟨2, ![4224, 8192]⟩
abbrev S4224x2048 : Shape := ⟨2, ![4224, 2048]⟩
abbrev S704x8192 : Shape := ⟨2, ![704, 8192]⟩
abbrev S512x8192 : Shape := ⟨2, ![512, 8192]⟩
abbrev S704x512 : Shape := ⟨2, ![704, 512]⟩

abbrev nBuf : Space → Nat
  | .hbm => 9
  | .vmem => 6
  | .smem => 0
  | _ => 0

abbrev bufTy : (tb : Table) → Fin (tcTables nBuf tb) → BufTy
  | .hbm, ⟨0, _⟩ => ⟨S2048x8192, .f32⟩
  | .hbm, ⟨1, _⟩ => ⟨S1x4112x8192, .f32⟩
  | .hbm, ⟨2, _⟩ => ⟨S4112x8192, .f32⟩
  | .hbm, ⟨3, _⟩ => ⟨S_, .i32⟩
  | .hbm, ⟨4, _⟩ => ⟨S_, .f32⟩
  | .hbm, ⟨5, _⟩ => ⟨S4224x8192, .f32⟩
  | .hbm, ⟨6, _⟩ => ⟨S4224x8192, .bf16⟩
  | .hbm, ⟨7, _⟩ => ⟨S2048x8192, .bf16⟩
  | .hbm, ⟨8, _⟩ => ⟨S4224x2048, .f32⟩
  | .local _ .vmem, ⟨0, _⟩ => ⟨S704x8192, .bf16⟩
  | .local _ .vmem, ⟨1, _⟩ => ⟨S704x8192, .bf16⟩
  | .local _ .vmem, ⟨2, _⟩ => ⟨S512x8192, .bf16⟩
  | .local _ .vmem, ⟨3, _⟩ => ⟨S512x8192, .bf16⟩
  | .local _ .vmem, ⟨4, _⟩ => ⟨S704x512, .f32⟩
  | .local _ .vmem, ⟨5, _⟩ => ⟨S704x512, .f32⟩
  | _, _ => ⟨S2048x8192, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_c : Ref sig .tc := ⟨.hbm, 3, rfl⟩
abbrev main_call0_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![6, 4, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S704x8192 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S512x8192 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S704x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== H2RefIdeal.lean ====
abbrev S2048x8192 : Shape := ⟨2, ![2048, 8192]⟩
abbrev S1x4112x8192 : Shape := ⟨3, ![1, 4112, 8192]⟩
abbrev S_ : Shape := ⟨0, ![]⟩
abbrev S1x4112x2048 : Shape := ⟨3, ![1, 4112, 2048]⟩
abbrev S4112x2048 : Shape := ⟨2, ![4112, 2048]⟩
abbrev S4224x2048 : Shape := ⟨2, ![4224, 2048]⟩

abbrev nBuf : Space → Nat
  | .hbm => 10
  | .vmem => 0
  | .smem => 0
  | _ => 0

abbrev bufTy : (tb : Table) → Fin (tcTables nBuf tb) → BufTy
  | .hbm, ⟨0, _⟩ => ⟨S2048x8192, .f32⟩
  | .hbm, ⟨1, _⟩ => ⟨S1x4112x8192, .f32⟩
  | .hbm, ⟨2, _⟩ => ⟨S_, .f32⟩
  | .hbm, ⟨3, _⟩ => ⟨S1x4112x2048, .f32⟩
  | .hbm, ⟨4, _⟩ => ⟨S1x4112x8192, .f32⟩
  | .hbm, ⟨5, _⟩ => ⟨S1x4112x2048, .f32⟩
  | .hbm, ⟨6, _⟩ => ⟨S4112x2048, .f32⟩
  | .hbm, ⟨7, _⟩ => ⟨S_, .i32⟩
  | .hbm, ⟨8, _⟩ => ⟨S_, .f32⟩
  | .hbm, ⟨9, _⟩ => ⟨S4224x2048, .f32⟩
  | _, _ => ⟨S2048x8192, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_c : Ref sig .tc := ⟨.hbm, 7, rfl⟩
abbrev main_call0_v0 : Ref sig .tc := ⟨.hbm, 8, rfl⟩
abbrev main_v4 : Ref sig .tc := ⟨.hbm, 9, rfl⟩

abbrev nD : Nat := 1
abbrev τ : Topo := Topo.v7x

variable {F : FTy → Type} [FloatOps F]
-- ==== Do.lean ====
abbrev S2048x2048 : Shape := ⟨2, ![2048, 2048]⟩
abbrev S1x4112x2048 : Shape := ⟨3, ![1, 4112, 2048]⟩
abbrev S4112x2048 : Shape := ⟨2, ![4112, 2048]⟩
abbrev S_ : Shape := ⟨0, ![]⟩
abbrev S4224x2048 : Shape := ⟨2, ![4224, 2048]⟩
abbrev S704x2048 : Shape := ⟨2, ![704, 2048]⟩

abbrev nBuf : Space → Nat
  | .hbm => 9
  | .vmem => 5
  | .smem => 0
  | _ => 0

abbrev bufTy : (tb : Table) → Fin (tcTables nBuf tb) → BufTy
  | .hbm, ⟨0, _⟩ => ⟨S2048x2048, .f32⟩
  | .hbm, ⟨1, _⟩ => ⟨S1x4112x2048, .f32⟩
  | .hbm, ⟨2, _⟩ => ⟨S4112x2048, .f32⟩
  | .hbm, ⟨3, _⟩ => ⟨S_, .i32⟩
  | .hbm, ⟨4, _⟩ => ⟨S_, .f32⟩
  | .hbm, ⟨5, _⟩ => ⟨S4224x2048, .f32⟩
  | .hbm, ⟨6, _⟩ => ⟨S4224x2048, .bf16⟩
  | .hbm, ⟨7, _⟩ => ⟨S2048x2048, .bf16⟩
  | .hbm, ⟨8, _⟩ => ⟨S4224x2048, .f32⟩
  | .local _ .vmem, ⟨0, _⟩ => ⟨S704x2048, .bf16⟩
  | .local _ .vmem, ⟨1, _⟩ => ⟨S704x2048, .bf16⟩
  | .local _ .vmem, ⟨2, _⟩ => ⟨S2048x2048, .bf16⟩
  | .local _ .vmem, ⟨3, _⟩ => ⟨S704x2048, .f32⟩
  | .local _ .vmem, ⟨4, _⟩ => ⟨S704x2048, .f32⟩
  | _, _ => ⟨S2048x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_c : Ref sig .tc := ⟨.hbm, 3, rfl⟩
abbrev main_call0_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![6, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S704x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S2048x2048 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S704x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== DoIdeal.lean ====
abbrev S2048x2048 : Shape := ⟨2, ![2048, 2048]⟩
abbrev S1x4112x2048 : Shape := ⟨3, ![1, 4112, 2048]⟩
abbrev S4112x2048 : Shape := ⟨2, ![4112, 2048]⟩
abbrev S_ : Shape := ⟨0, ![]⟩
abbrev S4224x2048 : Shape := ⟨2, ![4224, 2048]⟩
abbrev S704x2048 : Shape := ⟨2, ![704, 2048]⟩

abbrev nBuf : Space → Nat
  | .hbm => 9
  | .vmem => 5
  | .smem => 0
  | _ => 0

abbrev bufTy : (tb : Table) → Fin (tcTables nBuf tb) → BufTy
  | .hbm, ⟨0, _⟩ => ⟨S2048x2048, .f32⟩
  | .hbm, ⟨1, _⟩ => ⟨S1x4112x2048, .f32⟩
  | .hbm, ⟨2, _⟩ => ⟨S4112x2048, .f32⟩
  | .hbm, ⟨3, _⟩ => ⟨S_, .i32⟩
  | .hbm, ⟨4, _⟩ => ⟨S_, .f32⟩
  | .hbm, ⟨5, _⟩ => ⟨S4224x2048, .f32⟩
  | .hbm, ⟨6, _⟩ => ⟨S4224x2048, .bf16⟩
  | .hbm, ⟨7, _⟩ => ⟨S2048x2048, .bf16⟩
  | .hbm, ⟨8, _⟩ => ⟨S4224x2048, .f32⟩
  | .local _ .vmem, ⟨0, _⟩ => ⟨S704x2048, .bf16⟩
  | .local _ .vmem, ⟨1, _⟩ => ⟨S704x2048, .bf16⟩
  | .local _ .vmem, ⟨2, _⟩ => ⟨S2048x2048, .bf16⟩
  | .local _ .vmem, ⟨3, _⟩ => ⟨S704x2048, .f32⟩
  | .local _ .vmem, ⟨4, _⟩ => ⟨S704x2048, .f32⟩
  | _, _ => ⟨S2048x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_c : Ref sig .tc := ⟨.hbm, 3, rfl⟩
abbrev main_call0_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![6, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S704x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S2048x2048 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S704x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== DoRefIdeal.lean ====
abbrev S2048x2048 : Shape := ⟨2, ![2048, 2048]⟩
abbrev S1x4112x2048 : Shape := ⟨3, ![1, 4112, 2048]⟩
abbrev S_ : Shape := ⟨0, ![]⟩
abbrev S4112x2048 : Shape := ⟨2, ![4112, 2048]⟩
abbrev S4224x2048 : Shape := ⟨2, ![4224, 2048]⟩

abbrev nBuf : Space → Nat
  | .hbm => 10
  | .vmem => 0
  | .smem => 0
  | _ => 0

abbrev bufTy : (tb : Table) → Fin (tcTables nBuf tb) → BufTy
  | .hbm, ⟨0, _⟩ => ⟨S2048x2048, .f32⟩
  | .hbm, ⟨1, _⟩ => ⟨S1x4112x2048, .f32⟩
  | .hbm, ⟨2, _⟩ => ⟨S_, .f32⟩
  | .hbm, ⟨3, _⟩ => ⟨S1x4112x2048, .f32⟩
  | .hbm, ⟨4, _⟩ => ⟨S1x4112x2048, .f32⟩
  | .hbm, ⟨5, _⟩ => ⟨S1x4112x2048, .f32⟩
  | .hbm, ⟨6, _⟩ => ⟨S4112x2048, .f32⟩
  | .hbm, ⟨7, _⟩ => ⟨S_, .i32⟩
  | .hbm, ⟨8, _⟩ => ⟨S_, .f32⟩
  | .hbm, ⟨9, _⟩ => ⟨S4224x2048, .f32⟩
  | _, _ => ⟨S2048x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_c : Ref sig .tc := ⟨.hbm, 7, rfl⟩
abbrev main_call0_v0 : Ref sig .tc := ⟨.hbm, 8, rfl⟩
abbrev main_v4 : Ref sig .tc := ⟨.hbm, 9, rfl⟩

abbrev nD : Nat := 1
abbrev τ : Topo := Topo.v7x

variable {F : FTy → Type} [FloatOps F]
-- ==== Da.lean ====
abbrev S1024x2048 : Shape := ⟨2, ![1024, 2048]⟩
abbrev S1x4112x2048 : Shape := ⟨3, ![1, 4112, 2048]⟩
abbrev S4112x2048 : Shape := ⟨2, ![4112, 2048]⟩
abbrev S_ : Shape := ⟨0, ![]⟩
abbrev S4224x2048 : Shape := ⟨2, ![4224, 2048]⟩
abbrev S4224x1024 : Shape := ⟨2, ![4224, 1024]⟩
abbrev S1408x2048 : Shape := ⟨2, ![1408, 2048]⟩
abbrev S1408x1024 : Shape := ⟨2, ![1408, 1024]⟩

abbrev nBuf : Space → Nat
  | .hbm => 9
  | .vmem => 5
  | .smem => 0
  | _ => 0

abbrev bufTy : (tb : Table) → Fin (tcTables nBuf tb) → BufTy
  | .hbm, ⟨0, _⟩ => ⟨S1024x2048, .f32⟩
  | .hbm, ⟨1, _⟩ => ⟨S1x4112x2048, .f32⟩
  | .hbm, ⟨2, _⟩ => ⟨S4112x2048, .f32⟩
  | .hbm, ⟨3, _⟩ => ⟨S_, .i32⟩
  | .hbm, ⟨4, _⟩ => ⟨S_, .f32⟩
  | .hbm, ⟨5, _⟩ => ⟨S4224x2048, .f32⟩
  | .hbm, ⟨6, _⟩ => ⟨S4224x2048, .bf16⟩
  | .hbm, ⟨7, _⟩ => ⟨S1024x2048, .bf16⟩
  | .hbm, ⟨8, _⟩ => ⟨S4224x1024, .f32⟩
  | .local _ .vmem, ⟨0, _⟩ => ⟨S1408x2048, .bf16⟩
  | .local _ .vmem, ⟨1, _⟩ => ⟨S1408x2048, .bf16⟩
  | .local _ .vmem, ⟨2, _⟩ => ⟨S1024x2048, .bf16⟩
  | .local _ .vmem, ⟨3, _⟩ => ⟨S1408x1024, .f32⟩
  | .local _ .vmem, ⟨4, _⟩ => ⟨S1408x1024, .f32⟩
  | _, _ => ⟨S1024x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_c : Ref sig .tc := ⟨.hbm, 3, rfl⟩
abbrev main_call0_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![3, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1408x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S1024x2048 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S1408x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== DaIdeal.lean ====
abbrev S1024x2048 : Shape := ⟨2, ![1024, 2048]⟩
abbrev S1x4112x2048 : Shape := ⟨3, ![1, 4112, 2048]⟩
abbrev S4112x2048 : Shape := ⟨2, ![4112, 2048]⟩
abbrev S_ : Shape := ⟨0, ![]⟩
abbrev S4224x2048 : Shape := ⟨2, ![4224, 2048]⟩
abbrev S4224x1024 : Shape := ⟨2, ![4224, 1024]⟩
abbrev S1408x2048 : Shape := ⟨2, ![1408, 2048]⟩
abbrev S1408x1024 : Shape := ⟨2, ![1408, 1024]⟩

abbrev nBuf : Space → Nat
  | .hbm => 9
  | .vmem => 5
  | .smem => 0
  | _ => 0

abbrev bufTy : (tb : Table) → Fin (tcTables nBuf tb) → BufTy
  | .hbm, ⟨0, _⟩ => ⟨S1024x2048, .f32⟩
  | .hbm, ⟨1, _⟩ => ⟨S1x4112x2048, .f32⟩
  | .hbm, ⟨2, _⟩ => ⟨S4112x2048, .f32⟩
  | .hbm, ⟨3, _⟩ => ⟨S_, .i32⟩
  | .hbm, ⟨4, _⟩ => ⟨S_, .f32⟩
  | .hbm, ⟨5, _⟩ => ⟨S4224x2048, .f32⟩
  | .hbm, ⟨6, _⟩ => ⟨S4224x2048, .bf16⟩
  | .hbm, ⟨7, _⟩ => ⟨S1024x2048, .bf16⟩
  | .hbm, ⟨8, _⟩ => ⟨S4224x1024, .f32⟩
  | .local _ .vmem, ⟨0, _⟩ => ⟨S1408x2048, .bf16⟩
  | .local _ .vmem, ⟨1, _⟩ => ⟨S1408x2048, .bf16⟩
  | .local _ .vmem, ⟨2, _⟩ => ⟨S1024x2048, .bf16⟩
  | .local _ .vmem, ⟨3, _⟩ => ⟨S1408x1024, .f32⟩
  | .local _ .vmem, ⟨4, _⟩ => ⟨S1408x1024, .f32⟩
  | _, _ => ⟨S1024x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_c : Ref sig .tc := ⟨.hbm, 3, rfl⟩
abbrev main_call0_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![3, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1408x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S1024x2048 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S1408x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== DaRefIdeal.lean ====
abbrev S1024x2048 : Shape := ⟨2, ![1024, 2048]⟩
abbrev S1x4112x2048 : Shape := ⟨3, ![1, 4112, 2048]⟩
abbrev S_ : Shape := ⟨0, ![]⟩
abbrev S1x4112x1024 : Shape := ⟨3, ![1, 4112, 1024]⟩
abbrev S4112x1024 : Shape := ⟨2, ![4112, 1024]⟩
abbrev S4224x1024 : Shape := ⟨2, ![4224, 1024]⟩

abbrev nBuf : Space → Nat
  | .hbm => 10
  | .vmem => 0
  | .smem => 0
  | _ => 0

abbrev bufTy : (tb : Table) → Fin (tcTables nBuf tb) → BufTy
  | .hbm, ⟨0, _⟩ => ⟨S1024x2048, .f32⟩
  | .hbm, ⟨1, _⟩ => ⟨S1x4112x2048, .f32⟩
  | .hbm, ⟨2, _⟩ => ⟨S_, .f32⟩
  | .hbm, ⟨3, _⟩ => ⟨S1x4112x1024, .f32⟩
  | .hbm, ⟨4, _⟩ => ⟨S1x4112x2048, .f32⟩
  | .hbm, ⟨5, _⟩ => ⟨S1x4112x1024, .f32⟩
  | .hbm, ⟨6, _⟩ => ⟨S4112x1024, .f32⟩
  | .hbm, ⟨7, _⟩ => ⟨S_, .i32⟩
  | .hbm, ⟨8, _⟩ => ⟨S_, .f32⟩
  | .hbm, ⟨9, _⟩ => ⟨S4224x1024, .f32⟩
  | _, _ => ⟨S1024x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_c : Ref sig .tc := ⟨.hbm, 7, rfl⟩
abbrev main_call0_v0 : Ref sig .tc := ⟨.hbm, 8, rfl⟩
abbrev main_v4 : Ref sig .tc := ⟨.hbm, 9, rfl⟩

abbrev nD : Nat := 1
abbrev τ : Topo := Topo.v7x

variable {F : FTy → Type} [FloatOps F]
-- ==== Dkv.lean ====
abbrev S512x4096 : Shape := ⟨2, ![512, 4096]⟩
abbrev S1x4112x4096 : Shape := ⟨3, ![1, 4112, 4096]⟩
abbrev S4112x4096 : Shape := ⟨2, ![4112, 4096]⟩
abbrev S_ : Shape := ⟨0, ![]⟩
abbrev S4224x4096 : Shape := ⟨2, ![4224, 4096]⟩
abbrev S4224x512 : Shape := ⟨2, ![4224, 512]⟩
abbrev S1408x4096 : Shape := ⟨2, ![1408, 4096]⟩
abbrev S1408x512 : Shape := ⟨2, ![1408, 512]⟩

abbrev nBuf : Space → Nat
  | .hbm => 9
  | .vmem => 5
  | .smem => 0
  | _ => 0

abbrev bufTy : (tb : Table) → Fin (tcTables nBuf tb) → BufTy
  | .hbm, ⟨0, _⟩ => ⟨S512x4096, .f32⟩
  | .hbm, ⟨1, _⟩ => ⟨S1x4112x4096, .f32⟩
  | .hbm, ⟨2, _⟩ => ⟨S4112x4096, .f32⟩
  | .hbm, ⟨3, _⟩ => ⟨S_, .i32⟩
  | .hbm, ⟨4, _⟩ => ⟨S_, .f32⟩
  | .hbm, ⟨5, _⟩ => ⟨S4224x4096, .f32⟩
  | .hbm, ⟨6, _⟩ => ⟨S4224x4096, .bf16⟩
  | .hbm, ⟨7, _⟩ => ⟨S512x4096, .bf16⟩
  | .hbm, ⟨8, _⟩ => ⟨S4224x512, .f32⟩
  | .local _ .vmem, ⟨0, _⟩ => ⟨S1408x4096, .bf16⟩
  | .local _ .vmem, ⟨1, _⟩ => ⟨S1408x4096, .bf16⟩
  | .local _ .vmem, ⟨2, _⟩ => ⟨S512x4096, .bf16⟩
  | .local _ .vmem, ⟨3, _⟩ => ⟨S1408x512, .f32⟩
  | .local _ .vmem, ⟨4, _⟩ => ⟨S1408x512, .f32⟩
  | _, _ => ⟨S512x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_c : Ref sig .tc := ⟨.hbm, 3, rfl⟩
abbrev main_call0_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![3, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1408x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S512x4096 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S1408x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== DkvRefIdeal.lean ====
abbrev S512x4096 : Shape := ⟨2, ![512, 4096]⟩
abbrev S1x4112x4096 : Shape := ⟨3, ![1, 4112, 4096]⟩
abbrev S_ : Shape := ⟨0, ![]⟩
abbrev S1x4112x512 : Shape := ⟨3, ![1, 4112, 512]⟩
abbrev S4112x512 : Shape := ⟨2, ![4112, 512]⟩
abbrev S4224x512 : Shape := ⟨2, ![4224, 512]⟩

abbrev nBuf : Space → Nat
  | .hbm => 10
  | .vmem => 0
  | .smem => 0
  | _ => 0

abbrev bufTy : (tb : Table) → Fin (tcTables nBuf tb) → BufTy
  | .hbm, ⟨0, _⟩ => ⟨S512x4096, .f32⟩
  | .hbm, ⟨1, _⟩ => ⟨S1x4112x4096, .f32⟩
  | .hbm, ⟨2, _⟩ => ⟨S_, .f32⟩
  | .hbm, ⟨3, _⟩ => ⟨S1x4112x512, .f32⟩
  | .hbm, ⟨4, _⟩ => ⟨S1x4112x4096, .f32⟩
  | .hbm, ⟨5, _⟩ => ⟨S1x4112x512, .f32⟩
  | .hbm, ⟨6, _⟩ => ⟨S4112x512, .f32⟩
  | .hbm, ⟨7, _⟩ => ⟨S_, .i32⟩
  | .hbm, ⟨8, _⟩ => ⟨S_, .f32⟩
  | .hbm, ⟨9, _⟩ => ⟨S4224x512, .f32⟩
  | _, _ => ⟨S512x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_c : Ref sig .tc := ⟨.hbm, 7, rfl⟩
abbrev main_call0_v0 : Ref sig .tc := ⟨.hbm, 8, rfl⟩
abbrev main_v4 : Ref sig .tc := ⟨.hbm, 9, rfl⟩

abbrev nD : Nat := 1
abbrev τ : Topo := Topo.v7x

variable {F : FTy → Type} [FloatOps F]
-- ==== Go.lean ====
abbrev S1x4112x2048 : Shape := ⟨3, ![1, 4112, 2048]⟩
abbrev S4112x2048 : Shape := ⟨2, ![4112, 2048]⟩
abbrev S_ : Shape := ⟨0, ![]⟩
abbrev S4224x2048 : Shape := ⟨2, ![4224, 2048]⟩
abbrev S2048x2048 : Shape := ⟨2, ![2048, 2048]⟩
abbrev S4224x1024 : Shape := ⟨2, ![4224, 1024]⟩
abbrev S1024x1024 : Shape := ⟨2, ![1024, 1024]⟩

abbrev nBuf : Space → Nat
  | .hbm => 13
  | .vmem => 6
  | .smem => 0
  | _ => 0

abbrev bufTy : (tb : Table) → Fin (tcTables nBuf tb) → BufTy
  | .hbm, ⟨0, _⟩ => ⟨S1x4112x2048, .f32⟩
  | .hbm, ⟨1, _⟩ => ⟨S1x4112x2048, .f32⟩
  | .hbm, ⟨2, _⟩ => ⟨S4112x2048, .f32⟩
  | .hbm, ⟨3, _⟩ => ⟨S_, .i32⟩
  | .hbm, ⟨4, _⟩ => ⟨S_, .f32⟩
  | .hbm, ⟨5, _⟩ => ⟨S4224x2048, .f32⟩
  | .hbm, ⟨6, _⟩ => ⟨S4224x2048, .bf16⟩
  | .hbm, ⟨7, _⟩ => ⟨S4112x2048, .f32⟩
  | .hbm, ⟨8, _⟩ => ⟨S_, .i32⟩
  | .hbm, ⟨9, _⟩ => ⟨S_, .f32⟩
  | .hbm, ⟨10, _⟩ => ⟨S4224x2048, .f32⟩
  | .hbm, ⟨11, _⟩ => ⟨S4224x2048, .bf16⟩
  | .hbm, ⟨12, _⟩ => ⟨S2048x2048, .bf16⟩
  | .local _ .vmem, ⟨0, _⟩ => ⟨S4224x1024, .bf16⟩
  | .local _ .vmem, ⟨1, _⟩ => ⟨S4224x1024, .bf16⟩
  | .local _ .vmem, ⟨2, _⟩ => ⟨S4224x1024, .bf16⟩
  | .local _ .vmem, ⟨3, _⟩ => ⟨S4224x1024, .bf16⟩
  | .local _ .vmem, ⟨4, _⟩ => ⟨S1024x1024, .bf16⟩
  | .local _ .vmem, ⟨5, _⟩ => ⟨S1024x1024, .bf16⟩
  | _, _ => ⟨S1x4112x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_c : Ref sig .tc := ⟨.hbm, 3, rfl⟩
abbrev main_call0_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_c_0 : Ref sig .tc := ⟨.hbm, 8, rfl⟩
abbrev main_call1_v0 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 2, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S4224x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S4224x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== GoIdeal.lean ====
abbrev S1x4112x2048 : Shape := ⟨3, ![1, 4112, 2048]⟩
abbrev S4112x2048 : Shape := ⟨2, ![4112, 2048]⟩
abbrev S_ : Shape := ⟨0, ![]⟩
abbrev S4224x2048 : Shape := ⟨2, ![4224, 2048]⟩
abbrev S2048x2048 : Shape := ⟨2, ![2048, 2048]⟩
abbrev S4224x1024 : Shape := ⟨2, ![4224, 1024]⟩
abbrev S1024x1024 : Shape := ⟨2, ![1024, 1024]⟩

abbrev nBuf : Space → Nat
  | .hbm => 13
  | .vmem => 6
  | .smem => 0
  | _ => 0

abbrev bufTy : (tb : Table) → Fin (tcTables nBuf tb) → BufTy
  | .hbm, ⟨0, _⟩ => ⟨S1x4112x2048, .f32⟩
  | .hbm, ⟨1, _⟩ => ⟨S1x4112x2048, .f32⟩
  | .hbm, ⟨2, _⟩ => ⟨S4112x2048, .f32⟩
  | .hbm, ⟨3, _⟩ => ⟨S_, .i32⟩
  | .hbm, ⟨4, _⟩ => ⟨S_, .f32⟩
  | .hbm, ⟨5, _⟩ => ⟨S4224x2048, .f32⟩
  | .hbm, ⟨6, _⟩ => ⟨S4224x2048, .bf16⟩
  | .hbm, ⟨7, _⟩ => ⟨S4112x2048, .f32⟩
  | .hbm, ⟨8, _⟩ => ⟨S_, .i32⟩
  | .hbm, ⟨9, _⟩ => ⟨S_, .f32⟩
  | .hbm, ⟨10, _⟩ => ⟨S4224x2048, .f32⟩
  | .hbm, ⟨11, _⟩ => ⟨S4224x2048, .bf16⟩
  | .hbm, ⟨12, _⟩ => ⟨S2048x2048, .bf16⟩
  | .local _ .vmem, ⟨0, _⟩ => ⟨S4224x1024, .bf16⟩
  | .local _ .vmem, ⟨1, _⟩ => ⟨S4224x1024, .bf16⟩
  | .local _ .vmem, ⟨2, _⟩ => ⟨S4224x1024, .bf16⟩
  | .local _ .vmem, ⟨3, _⟩ => ⟨S4224x1024, .bf16⟩
  | .local _ .vmem, ⟨4, _⟩ => ⟨S1024x1024, .bf16⟩
  | .local _ .vmem, ⟨5, _⟩ => ⟨S1024x1024, .bf16⟩
  | _, _ => ⟨S1x4112x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_c : Ref sig .tc := ⟨.hbm, 3, rfl⟩
abbrev main_call0_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_c_0 : Ref sig .tc := ⟨.hbm, 8, rfl⟩
abbrev main_call1_v0 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 2, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S4224x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S4224x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== GoRefIdeal.lean ====
abbrev S1x4112x2048 : Shape := ⟨3, ![1, 4112, 2048]⟩
abbrev S_ : Shape := ⟨0, ![]⟩
abbrev S2048x2048 : Shape := ⟨2, ![2048, 2048]⟩

abbrev nBuf : Space → Nat
  | .hbm => 8
  | .vmem => 0
  | .smem => 0
  | _ => 0

abbrev bufTy : (tb : Table) → Fin (tcTables nBuf tb) → BufTy
  | .hbm, ⟨0, _⟩ => ⟨S1x4112x2048, .f32⟩
  | .hbm, ⟨1, _⟩ => ⟨S1x4112x2048, .f32⟩
  | .hbm, ⟨2, _⟩ => ⟨S_, .f32⟩
  | .hbm, ⟨3, _⟩ => ⟨S2048x2048, .f32⟩
  | .hbm, ⟨4, _⟩ => ⟨S1x4112x2048, .f32⟩
  | .hbm, ⟨5, _⟩ => ⟨S2048x2048, .f32⟩
  | .hbm, ⟨6, _⟩ => ⟨S2048x2048, .f32⟩
  | .hbm, ⟨7, _⟩ => ⟨S2048x2048, .bf16⟩
  | _, _ => ⟨S1x4112x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== Ga.lean ====
abbrev S1x4112x1024 : Shape := ⟨3, ![1, 4112, 1024]⟩
abbrev S1x4112x2048 : Shape := ⟨3, ![1, 4112, 2048]⟩
abbrev S4112x1024 : Shape := ⟨2, ![4112, 1024]⟩
abbrev S_ : Shape := ⟨0, ![]⟩
abbrev S4224x1024 : Shape := ⟨2, ![4224, 1024]⟩
abbrev S4112x2048 : Shape := ⟨2, ![4112, 2048]⟩
abbrev S4224x2048 : Shape := ⟨2, ![4224, 2048]⟩
abbrev S1024x2048 : Shape := ⟨2, ![1024, 2048]⟩
abbrev S1024x1024 : Shape := ⟨2, ![1024, 1024]⟩

abbrev nBuf : Space → Nat
  | .hbm => 13
  | .vmem => 5
  | .smem => 0
  | _ => 0

abbrev bufTy : (tb : Table) → Fin (tcTables nBuf tb) → BufTy
  | .hbm, ⟨0, _⟩ => ⟨S1x4112x1024, .f32⟩
  | .hbm, ⟨1, _⟩ => ⟨S1x4112x2048, .f32⟩
  | .hbm, ⟨2, _⟩ => ⟨S4112x1024, .f32⟩
  | .hbm, ⟨3, _⟩ => ⟨S_, .i32⟩
  | .hbm, ⟨4, _⟩ => ⟨S_, .f32⟩
  | .hbm, ⟨5, _⟩ => ⟨S4224x1024, .f32⟩
  | .hbm, ⟨6, _⟩ => ⟨S4224x1024, .bf16⟩
  | .hbm, ⟨7, _⟩ => ⟨S4112x2048, .f32⟩
  | .hbm, ⟨8, _⟩ => ⟨S_, .i32⟩
  | .hbm, ⟨9, _⟩ => ⟨S_, .f32⟩
  | .hbm, ⟨10, _⟩ => ⟨S4224x2048, .f32⟩
  | .hbm, ⟨11, _⟩ => ⟨S4224x2048, .bf16⟩
  | .hbm, ⟨12, _⟩ => ⟨S1024x2048, .bf16⟩
  | .local _ .vmem, ⟨0, _⟩ => ⟨S4224x1024, .bf16⟩
  | .local _ .vmem, ⟨1, _⟩ => ⟨S4224x1024, .bf16⟩
  | .local _ .vmem, ⟨2, _⟩ => ⟨S4224x1024, .bf16⟩
  | .local _ .vmem, ⟨3, _⟩ => ⟨S1024x1024, .bf16⟩
  | .local _ .vmem, ⟨4, _⟩ => ⟨S1024x1024, .bf16⟩
  | _, _ => ⟨S1x4112x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_c : Ref sig .tc := ⟨.hbm, 3, rfl⟩
abbrev main_call0_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_c_0 : Ref sig .tc := ⟨.hbm, 8, rfl⟩
abbrev main_call1_v0 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![1, 2, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 1 → Memref sig .tc .vmem S4224x1024 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, false, true]

abbrev stage0_1 : Fin 2 → Memref sig .tc .vmem S4224x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== GaIdeal.lean ====
abbrev S1x4112x1024 : Shape := ⟨3, ![1, 4112, 1024]⟩
abbrev S1x4112x2048 : Shape := ⟨3, ![1, 4112, 2048]⟩
abbrev S4112x1024 : Shape := ⟨2, ![4112, 1024]⟩
abbrev S_ : Shape := ⟨0, ![]⟩
abbrev S4224x1024 : Shape := ⟨2, ![4224, 1024]⟩
abbrev S4112x2048 : Shape := ⟨2, ![4112, 2048]⟩
abbrev S4224x2048 : Shape := ⟨2, ![4224, 2048]⟩
abbrev S1024x2048 : Shape := ⟨2, ![1024, 2048]⟩
abbrev S1024x1024 : Shape := ⟨2, ![1024, 1024]⟩

abbrev nBuf : Space → Nat
  | .hbm => 13
  | .vmem => 5
  | .smem => 0
  | _ => 0

abbrev bufTy : (tb : Table) → Fin (tcTables nBuf tb) → BufTy
  | .hbm, ⟨0, _⟩ => ⟨S1x4112x1024, .f32⟩
  | .hbm, ⟨1, _⟩ => ⟨S1x4112x2048, .f32⟩
  | .hbm, ⟨2, _⟩ => ⟨S4112x1024, .f32⟩
  | .hbm, ⟨3, _⟩ => ⟨S_, .i32⟩
  | .hbm, ⟨4, _⟩ => ⟨S_, .f32⟩
  | .hbm, ⟨5, _⟩ => ⟨S4224x1024, .f32⟩
  | .hbm, ⟨6, _⟩ => ⟨S4224x1024, .bf16⟩
  | .hbm, ⟨7, _⟩ => ⟨S4112x2048, .f32⟩
  | .hbm, ⟨8, _⟩ => ⟨S_, .i32⟩
  | .hbm, ⟨9, _⟩ => ⟨S_, .f32⟩
  | .hbm, ⟨10, _⟩ => ⟨S4224x2048, .f32⟩
  | .hbm, ⟨11, _⟩ => ⟨S4224x2048, .bf16⟩
  | .hbm, ⟨12, _⟩ => ⟨S1024x2048, .bf16⟩
  | .local _ .vmem, ⟨0, _⟩ => ⟨S4224x1024, .bf16⟩
  | .local _ .vmem, ⟨1, _⟩ => ⟨S4224x1024, .bf16⟩
  | .local _ .vmem, ⟨2, _⟩ => ⟨S4224x1024, .bf16⟩
  | .local _ .vmem, ⟨3, _⟩ => ⟨S1024x1024, .bf16⟩
  | .local _ .vmem, ⟨4, _⟩ => ⟨S1024x1024, .bf16⟩
  | _, _ => ⟨S1x4112x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_c : Ref sig .tc := ⟨.hbm, 3, rfl⟩
abbrev main_call0_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_c_0 : Ref sig .tc := ⟨.hbm, 8, rfl⟩
abbrev main_call1_v0 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![1, 2, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 1 → Memref sig .tc .vmem S4224x1024 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, false, true]

abbrev stage0_1 : Fin 2 → Memref sig .tc .vmem S4224x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== GaRefIdeal.lean ====
abbrev S1x4112x1024 : Shape := ⟨3, ![1, 4112, 1024]⟩
abbrev S1x4112x2048 : Shape := ⟨3, ![1, 4112, 2048]⟩
abbrev S_ : Shape := ⟨0, ![]⟩
abbrev S1024x2048 : Shape := ⟨2, ![1024, 2048]⟩
abbrev S2048x1024 : Shape := ⟨2, ![2048, 1024]⟩

abbrev nBuf : Space → Nat
  | .hbm => 8
  | .vmem => 0
  | .smem => 0
  | _ => 0

abbrev bufTy : (tb : Table) → Fin (tcTables nBuf tb) → BufTy
  | .hbm, ⟨0, _⟩ => ⟨S1x4112x1024, .f32⟩
  | .hbm, ⟨1, _⟩ => ⟨S1x4112x2048, .f32⟩
  | .hbm, ⟨2, _⟩ => ⟨S_, .f32⟩
  | .hbm, ⟨3, _⟩ => ⟨S1024x2048, .f32⟩
  | .hbm, ⟨4, _⟩ => ⟨S1x4112x2048, .f32⟩
  | .hbm, ⟨5, _⟩ => ⟨S2048x1024, .f32⟩
  | .hbm, ⟨6, _⟩ => ⟨S1024x2048, .f32⟩
  | .hbm, ⟨7, _⟩ => ⟨S1024x2048, .bf16⟩
  | _, _ => ⟨S1x4112x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== Gkv.lean ====
abbrev S1x4112x512 : Shape := ⟨3, ![1, 4112, 512]⟩
abbrev S1x4112x4096 : Shape := ⟨3, ![1, 4112, 4096]⟩
abbrev S4112x512 : Shape := ⟨2, ![4112, 512]⟩
abbrev S_ : Shape := ⟨0, ![]⟩
abbrev S4224x512 : Shape := ⟨2, ![4224, 512]⟩
abbrev S4112x4096 : Shape := ⟨2, ![4112, 4096]⟩
abbrev S4224x4096 : Shape := ⟨2, ![4224, 4096]⟩
abbrev S512x4096 : Shape := ⟨2, ![512, 4096]⟩
abbrev S4224x1024 : Shape := ⟨2, ![4224, 1024]⟩
abbrev S512x1024 : Shape := ⟨2, ![512, 1024]⟩

abbrev nBuf : Space → Nat
  | .hbm => 13
  | .vmem => 5
  | .smem => 0
  | _ => 0

abbrev bufTy : (tb : Table) → Fin (tcTables nBuf tb) → BufTy
  | .hbm, ⟨0, _⟩ => ⟨S1x4112x512, .f32⟩
  | .hbm, ⟨1, _⟩ => ⟨S1x4112x4096, .f32⟩
  | .hbm, ⟨2, _⟩ => ⟨S4112x512, .f32⟩
  | .hbm, ⟨3, _⟩ => ⟨S_, .i32⟩
  | .hbm, ⟨4, _⟩ => ⟨S_, .f32⟩
  | .hbm, ⟨5, _⟩ => ⟨S4224x512, .f32⟩
  | .hbm, ⟨6, _⟩ => ⟨S4224x512, .bf16⟩
  | .hbm, ⟨7, _⟩ => ⟨S4112x4096, .f32⟩
  | .hbm, ⟨8, _⟩ => ⟨S_, .i32⟩
  | .hbm, ⟨9, _⟩ => ⟨S_, .f32⟩
  | .hbm, ⟨10, _⟩ => ⟨S4224x4096, .f32⟩
  | .hbm, ⟨11, _⟩ => ⟨S4224x4096, .bf16⟩
  | .hbm, ⟨12, _⟩ => ⟨S512x4096, .bf16⟩
  | .local _ .vmem, ⟨0, _⟩ => ⟨S4224x512, .bf16⟩
  | .local _ .vmem, ⟨1, _⟩ => ⟨S4224x1024, .bf16⟩
  | .local _ .vmem, ⟨2, _⟩ => ⟨S4224x1024, .bf16⟩
  | .local _ .vmem, ⟨3, _⟩ => ⟨S512x1024, .bf16⟩
  | .local _ .vmem, ⟨4, _⟩ => ⟨S512x1024, .bf16⟩
  | _, _ => ⟨S1x4112x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_c : Ref sig .tc := ⟨.hbm, 3, rfl⟩
abbrev main_call0_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_c_0 : Ref sig .tc := ⟨.hbm, 8, rfl⟩
abbrev main_call1_v0 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![1, 4, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 1 → Memref sig .tc .vmem S4224x512 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, false, true]

abbrev stage0_1 : Fin 2 → Memref sig .tc .vmem S4224x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S512x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== GkvIdeal.lean ====
abbrev S1x4112x512 : Shape := ⟨3, ![1, 4112, 512]⟩
abbrev S1x4112x4096 : Shape := ⟨3, ![1, 4112, 4096]⟩
abbrev S4112x512 : Shape := ⟨2, ![4112, 512]⟩
abbrev S_ : Shape := ⟨0, ![]⟩
abbrev S4224x512 : Shape := ⟨2, ![4224, 512]⟩
abbrev S4112x4096 : Shape := ⟨2, ![4112, 4096]⟩
abbrev S4224x4096 : Shape := ⟨2, ![4224, 4096]⟩
abbrev S512x4096 : Shape := ⟨2, ![512, 4096]⟩
abbrev S4224x1024 : Shape := ⟨2, ![4224, 1024]⟩
abbrev S512x1024 : Shape := ⟨2, ![512, 1024]⟩

abbrev nBuf : Space → Nat
  | .hbm => 13
  | .vmem => 5
  | .smem => 0
  | _ => 0

abbrev bufTy : (tb : Table) → Fin (tcTables nBuf tb) → BufTy
  | .hbm, ⟨0, _⟩ => ⟨S1x4112x512, .f32⟩
  | .hbm, ⟨1, _⟩ => ⟨S1x4112x4096, .f32⟩
  | .hbm, ⟨2, _⟩ => ⟨S4112x512, .f32⟩
  | .hbm, ⟨3, _⟩ => ⟨S_, .i32⟩
  | .hbm, ⟨4, _⟩ => ⟨S_, .f32⟩
  | .hbm, ⟨5, _⟩ => ⟨S4224x512, .f32⟩
  | .hbm, ⟨6, _⟩ => ⟨S4224x512, .bf16⟩
  | .hbm, ⟨7, _⟩ => ⟨S4112x4096, .f32⟩
  | .hbm, ⟨8, _⟩ => ⟨S_, .i32⟩
  | .hbm, ⟨9, _⟩ => ⟨S_, .f32⟩
  | .hbm, ⟨10, _⟩ => ⟨S4224x4096, .f32⟩
  | .hbm, ⟨11, _⟩ => ⟨S4224x4096, .bf16⟩
  | .hbm, ⟨12, _⟩ => ⟨S512x4096, .bf16⟩
  | .local _ .vmem, ⟨0, _⟩ => ⟨S4224x512, .bf16⟩
  | .local _ .vmem, ⟨1, _⟩ => ⟨S4224x1024, .bf16⟩
  | .local _ .vmem, ⟨2, _⟩ => ⟨S4224x1024, .bf16⟩
  | .local _ .vmem, ⟨3, _⟩ => ⟨S512x1024, .bf16⟩
  | .local _ .vmem, ⟨4, _⟩ => ⟨S512x1024, .bf16⟩
  | _, _ => ⟨S1x4112x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_c : Ref sig .tc := ⟨.hbm, 3, rfl⟩
abbrev main_call0_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_c_0 : Ref sig .tc := ⟨.hbm, 8, rfl⟩
abbrev main_call1_v0 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![1, 4, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 1 → Memref sig .tc .vmem S4224x512 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, false, true]

abbrev stage0_1 : Fin 2 → Memref sig .tc .vmem S4224x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S512x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== GkvRefIdeal.lean ====
abbrev S1x4112x512 : Shape := ⟨3, ![1, 4112, 512]⟩
abbrev S1x4112x4096 : Shape := ⟨3, ![1, 4112, 4096]⟩
abbrev S_ : Shape := ⟨0, ![]⟩
abbrev S512x4096 : Shape := ⟨2, ![512, 4096]⟩
abbrev S4096x512 : Shape := ⟨2, ![4096, 512]⟩

abbrev nBuf : Space → Nat
  | .hbm => 8
  | .vmem => 0
  | .smem => 0
  | _ => 0

abbrev bufTy : (tb : Table) → Fin (tcTables nBuf tb) → BufTy
  | .hbm, ⟨0, _⟩ => ⟨S1x4112x512, .f32⟩
  | .hbm, ⟨1, _⟩ => ⟨S1x4112x4096, .f32⟩
  | .hbm, ⟨2, _⟩ => ⟨S_, .f32⟩
  | .hbm, ⟨3, _⟩ => ⟨S512x4096, .f32⟩
  | .hbm, ⟨4, _⟩ => ⟨S1x4112x4096, .f32⟩
  | .hbm, ⟨5, _⟩ => ⟨S4096x512, .f32⟩
  | .hbm, ⟨6, _⟩ => ⟨S512x4096, .f32⟩
  | .hbm, ⟨7, _⟩ => ⟨S512x4096, .bf16⟩
  | _, _ => ⟨S1x4112x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== Gin.lean ====
abbrev S1x4112x2048 : Shape := ⟨3, ![1, 4112, 2048]⟩
abbrev S1x4112x11520 : Shape := ⟨3, ![1, 4112, 11520]⟩
abbrev S4112x2048 : Shape := ⟨2, ![4112, 2048]⟩
abbrev S_ : Shape := ⟨0, ![]⟩
abbrev S4224x2048 : Shape := ⟨2, ![4224, 2048]⟩
abbrev S4112x11520 : Shape := ⟨2, ![4112, 11520]⟩
abbrev S4224x11520 : Shape := ⟨2, ![4224, 11520]⟩
abbrev S2048x11520 : Shape := ⟨2, ![2048, 11520]⟩
abbrev S4224x1024 : Shape := ⟨2, ![4224, 1024]⟩
abbrev S4224x1280 : Shape := ⟨2, ![4224, 1280]⟩
abbrev S1024x1280 : Shape := ⟨2, ![1024, 1280]⟩

abbrev nBuf : Space → Nat
  | .hbm => 13
  | .vmem => 6
  | .smem => 0
  | _ => 0

abbrev bufTy : (tb : Table) → Fin (tcTables nBuf tb) → BufTy
  | .hbm, ⟨0, _⟩ => ⟨S1x4112x2048, .f32⟩
  | .hbm, ⟨1, _⟩ => ⟨S1x4112x11520, .f32⟩
  | .hbm, ⟨2, _⟩ => ⟨S4112x2048, .f32⟩
  | .hbm, ⟨3, _⟩ => ⟨S_, .i32⟩
  | .hbm, ⟨4, _⟩ => ⟨S_, .f32⟩
  | .hbm, ⟨5, _⟩ => ⟨S4224x2048, .f32⟩
  | .hbm, ⟨6, _⟩ => ⟨S4224x2048, .bf16⟩
  | .hbm, ⟨7, _⟩ => ⟨S4112x11520, .f32⟩
  | .hbm, ⟨8, _⟩ => ⟨S_, .i32⟩
  | .hbm, ⟨9, _⟩ => ⟨S_, .f32⟩
  | .hbm, ⟨10, _⟩ => ⟨S4224x11520, .f32⟩
  | .hbm, ⟨11, _⟩ => ⟨S4224x11520, .bf16⟩
  | .hbm, ⟨12, _⟩ => ⟨S2048x11520, .bf16⟩
  | .local _ .vmem, ⟨0, _⟩ => ⟨S4224x1024, .bf16⟩
  | .local _ .vmem, ⟨1, _⟩ => ⟨S4224x1024, .bf16⟩
  | .local _ .vmem, ⟨2, _⟩ => ⟨S4224x1280, .bf16⟩
  | .local _ .vmem, ⟨3, _⟩ => ⟨S4224x1280, .bf16⟩
  | .local _ .vmem, ⟨4, _⟩ => ⟨S1024x1280, .bf16⟩
  | .local _ .vmem, ⟨5, _⟩ => ⟨S1024x1280, .bf16⟩
  | _, _ => ⟨S1x4112x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_c : Ref sig .tc := ⟨.hbm, 3, rfl⟩
abbrev main_call0_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_c_0 : Ref sig .tc := ⟨.hbm, 8, rfl⟩
abbrev main_call1_v0 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 9, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S4224x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S4224x1280 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1280 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== GinRefIdeal.lean ====
abbrev S1x4112x2048 : Shape := ⟨3, ![1, 4112, 2048]⟩
abbrev S1x4112x11520 : Shape := ⟨3, ![1, 4112, 11520]⟩
abbrev S_ : Shape := ⟨0, ![]⟩
abbrev S2048x11520 : Shape := ⟨2, ![2048, 11520]⟩
abbrev S11520x2048 : Shape := ⟨2, ![11520, 2048]⟩

abbrev nBuf : Space → Nat
  | .hbm => 8
  | .vmem => 0
  | .smem => 0
  | _ => 0

abbrev bufTy : (tb : Table) → Fin (tcTables nBuf tb) → BufTy
  | .hbm, ⟨0, _⟩ => ⟨S1x4112x2048, .f32⟩
  | .hbm, ⟨1, _⟩ => ⟨S1x4112x11520, .f32⟩
  | .hbm, ⟨2, _⟩ => ⟨S_, .f32⟩
  | .hbm, ⟨3, _⟩ => ⟨S2048x11520, .f32⟩
  | .hbm, ⟨4, _⟩ => ⟨S1x4112x11520, .f32⟩
  | .hbm, ⟨5, _⟩ => ⟨S11520x2048, .f32⟩
  | .hbm, ⟨6, _⟩ => ⟨S2048x11520, .f32⟩
  | .hbm, ⟨7, _⟩ => ⟨S2048x11520, .bf16⟩
  | _, _ => ⟨S1x4112x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== Fb.lean ====
abbrev S1x4112x2048 : Shape := ⟨3, ![1, 4112, 2048]⟩
abbrev S2048x2048 : Shape := ⟨2, ![2048, 2048]⟩
abbrev S4112x2048 : Shape := ⟨2, ![4112, 2048]⟩
abbrev S_ : Shape := ⟨0, ![]⟩
abbrev S4224x2048 : Shape := ⟨2, ![4224, 2048]⟩
abbrev S704x2048 : Shape := ⟨2, ![704, 2048]⟩

abbrev nBuf : Space → Nat
  | .hbm => 9
  | .vmem => 5
  | .smem => 0
  | _ => 0

abbrev bufTy : (tb : Table) → Fin (tcTables nBuf tb) → BufTy
  | .hbm, ⟨0, _⟩ => ⟨S1x4112x2048, .f32⟩
  | .hbm, ⟨1, _⟩ => ⟨S2048x2048, .f32⟩
  | .hbm, ⟨2, _⟩ => ⟨S4112x2048, .f32⟩
  | .hbm, ⟨3, _⟩ => ⟨S_, .i32⟩
  | .hbm, ⟨4, _⟩ => ⟨S_, .f32⟩
  | .hbm, ⟨5, _⟩ => ⟨S4224x2048, .f32⟩
  | .hbm, ⟨6, _⟩ => ⟨S4224x2048, .bf16⟩
  | .hbm, ⟨7, _⟩ => ⟨S2048x2048, .bf16⟩
  | .hbm, ⟨8, _⟩ => ⟨S4224x2048, .f32⟩
  | .local _ .vmem, ⟨0, _⟩ => ⟨S704x2048, .bf16⟩
  | .local _ .vmem, ⟨1, _⟩ => ⟨S704x2048, .bf16⟩
  | .local _ .vmem, ⟨2, _⟩ => ⟨S2048x2048, .bf16⟩
  | .local _ .vmem, ⟨3, _⟩ => ⟨S704x2048, .f32⟩
  | .local _ .vmem, ⟨4, _⟩ => ⟨S704x2048, .f32⟩
  | _, _ => ⟨S1x4112x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_c : Ref sig .tc := ⟨.hbm, 3, rfl⟩
abbrev main_call0_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![6, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S704x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S2048x2048 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S704x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== FbIdeal.lean ====
abbrev S1x4112x2048 : Shape := ⟨3, ![1, 4112, 2048]⟩
abbrev S2048x2048 : Shape := ⟨2, ![2048, 2048]⟩
abbrev S4112x2048 : Shape := ⟨2, ![4112, 2048]⟩
abbrev S_ : Shape := ⟨0, ![]⟩
abbrev S4224x2048 : Shape := ⟨2, ![4224, 2048]⟩
abbrev S704x2048 : Shape := ⟨2, ![704, 2048]⟩

abbrev nBuf : Space → Nat
  | .hbm => 9
  | .vmem => 5
  | .smem => 0
  | _ => 0

abbrev bufTy : (tb : Table) → Fin (tcTables nBuf tb) → BufTy
  | .hbm, ⟨0, _⟩ => ⟨S1x4112x2048, .f32⟩
  | .hbm, ⟨1, _⟩ => ⟨S2048x2048, .f32⟩
  | .hbm, ⟨2, _⟩ => ⟨S4112x2048, .f32⟩
  | .hbm, ⟨3, _⟩ => ⟨S_, .i32⟩
  | .hbm, ⟨4, _⟩ => ⟨S_, .f32⟩
  | .hbm, ⟨5, _⟩ => ⟨S4224x2048, .f32⟩
  | .hbm, ⟨6, _⟩ => ⟨S4224x2048, .bf16⟩
  | .hbm, ⟨7, _⟩ => ⟨S2048x2048, .bf16⟩
  | .hbm, ⟨8, _⟩ => ⟨S4224x2048, .f32⟩
  | .local _ .vmem, ⟨0, _⟩ => ⟨S704x2048, .bf16⟩
  | .local _ .vmem, ⟨1, _⟩ => ⟨S704x2048, .bf16⟩
  | .local _ .vmem, ⟨2, _⟩ => ⟨S2048x2048, .bf16⟩
  | .local _ .vmem, ⟨3, _⟩ => ⟨S704x2048, .f32⟩
  | .local _ .vmem, ⟨4, _⟩ => ⟨S704x2048, .f32⟩
  | _, _ => ⟨S1x4112x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_c : Ref sig .tc := ⟨.hbm, 3, rfl⟩
abbrev main_call0_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![6, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S704x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S2048x2048 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S704x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== FbRefIdeal.lean ====
abbrev S1x4112x2048 : Shape := ⟨3, ![1, 4112, 2048]⟩
abbrev S2048x2048 : Shape := ⟨2, ![2048, 2048]⟩
abbrev S4112x2048 : Shape := ⟨2, ![4112, 2048]⟩
abbrev S_ : Shape := ⟨0, ![]⟩
abbrev S4224x2048 : Shape := ⟨2, ![4224, 2048]⟩

abbrev nBuf : Space → Nat
  | .hbm => 7
  | .vmem => 0
  | .smem => 0
  | _ => 0

abbrev bufTy : (tb : Table) → Fin (tcTables nBuf tb) → BufTy
  | .hbm, ⟨0, _⟩ => ⟨S1x4112x2048, .f32⟩
  | .hbm, ⟨1, _⟩ => ⟨S2048x2048, .f32⟩
  | .hbm, ⟨2, _⟩ => ⟨S1x4112x2048, .f32⟩
  | .hbm, ⟨3, _⟩ => ⟨S4112x2048, .f32⟩
  | .hbm, ⟨4, _⟩ => ⟨S_, .i32⟩
  | .hbm, ⟨5, _⟩ => ⟨S_, .f32⟩
  | .hbm, ⟨6, _⟩ => ⟨S4224x2048, .f32⟩
  | _, _ => ⟨S1x4112x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_c : Ref sig .tc := ⟨.hbm, 4, rfl⟩
abbrev main_call0_v0 : Ref sig .tc := ⟨.hbm, 5, rfl⟩
abbrev main_v2 : Ref sig .tc := ⟨.hbm, 6, rfl⟩

abbrev nD : Nat := 1
abbrev τ : Topo := Topo.v7x

variable {F : FTy → Type} [FloatOps F]
-- ==== Fa.lean ====
abbrev S1x4112x1024 : Shape := ⟨3, ![1, 4112, 1024]⟩
abbrev S1024x2048 : Shape := ⟨2, ![1024, 2048]⟩
abbrev S4112x1024 : Shape := ⟨2, ![4112, 1024]⟩
abbrev S_ : Shape := ⟨0, ![]⟩
abbrev S4224x1024 : Shape := ⟨2, ![4224, 1024]⟩
abbrev S4224x2048 : Shape := ⟨2, ![4224, 2048]⟩
abbrev S1408x1024 : Shape := ⟨2, ![1408, 1024]⟩
abbrev S1408x2048 : Shape := ⟨2, ![1408, 2048]⟩

abbrev nBuf : Space → Nat
  | .hbm => 9
  | .vmem => 5
  | .smem => 0
  | _ => 0

abbrev bufTy : (tb : Table) → Fin (tcTables nBuf tb) → BufTy
  | .hbm, ⟨0, _⟩ => ⟨S1x4112x1024, .f32⟩
  | .hbm, ⟨1, _⟩ => ⟨S1024x2048, .f32⟩
  | .hbm, ⟨2, _⟩ => ⟨S4112x1024, .f32⟩
  | .hbm, ⟨3, _⟩ => ⟨S_, .i32⟩
  | .hbm, ⟨4, _⟩ => ⟨S_, .f32⟩
  | .hbm, ⟨5, _⟩ => ⟨S4224x1024, .f32⟩
  | .hbm, ⟨6, _⟩ => ⟨S4224x1024, .bf16⟩
  | .hbm, ⟨7, _⟩ => ⟨S1024x2048, .bf16⟩
  | .hbm, ⟨8, _⟩ => ⟨S4224x2048, .f32⟩
  | .local _ .vmem, ⟨0, _⟩ => ⟨S1408x1024, .bf16⟩
  | .local _ .vmem, ⟨1, _⟩ => ⟨S1408x1024, .bf16⟩
  | .local _ .vmem, ⟨2, _⟩ => ⟨S1024x2048, .bf16⟩
  | .local _ .vmem, ⟨3, _⟩ => ⟨S1408x2048, .f32⟩
  | .local _ .vmem, ⟨4, _⟩ => ⟨S1408x2048, .f32⟩
  | _, _ => ⟨S1x4112x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_c : Ref sig .tc := ⟨.hbm, 3, rfl⟩
abbrev main_call0_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![3, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1408x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S1024x2048 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S1408x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== FaIdeal.lean ====
abbrev S1x4112x1024 : Shape := ⟨3, ![1, 4112, 1024]⟩
abbrev S1024x2048 : Shape := ⟨2, ![1024, 2048]⟩
abbrev S4112x1024 : Shape := ⟨2, ![4112, 1024]⟩
abbrev S_ : Shape := ⟨0, ![]⟩
abbrev S4224x1024 : Shape := ⟨2, ![4224, 1024]⟩
abbrev S4224x2048 : Shape := ⟨2, ![4224, 2048]⟩
abbrev S1408x1024 : Shape := ⟨2, ![1408, 1024]⟩
abbrev S1408x2048 : Shape := ⟨2, ![1408, 2048]⟩

abbrev nBuf : Space → Nat
  | .hbm => 9
  | .vmem => 5
  | .smem => 0
  | _ => 0

abbrev bufTy : (tb : Table) → Fin (tcTables nBuf tb) → BufTy
  | .hbm, ⟨0, _⟩ => ⟨S1x4112x1024, .f32⟩
  | .hbm, ⟨1, _⟩ => ⟨S1024x2048, .f32⟩
  | .hbm, ⟨2, _⟩ => ⟨S4112x1024, .f32⟩
  | .hbm, ⟨3, _⟩ => ⟨S_, .i32⟩
  | .hbm, ⟨4, _⟩ => ⟨S_, .f32⟩
  | .hbm, ⟨5, _⟩ => ⟨S4224x1024, .f32⟩
  | .hbm, ⟨6, _⟩ => ⟨S4224x1024, .bf16⟩
  | .hbm, ⟨7, _⟩ => ⟨S1024x2048, .bf16⟩
  | .hbm, ⟨8, _⟩ => ⟨S4224x2048, .f32⟩
  | .local _ .vmem, ⟨0, _⟩ => ⟨S1408x1024, .bf16⟩
  | .local _ .vmem, ⟨1, _⟩ => ⟨S1408x1024, .bf16⟩
  | .local _ .vmem, ⟨2, _⟩ => ⟨S1024x2048, .bf16⟩
  | .local _ .vmem, ⟨3, _⟩ => ⟨S1408x2048, .f32⟩
  | .local _ .vmem, ⟨4, _⟩ => ⟨S1408x2048, .f32⟩
  | _, _ => ⟨S1x4112x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_c : Ref sig .tc := ⟨.hbm, 3, rfl⟩
abbrev main_call0_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![3, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1408x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S1024x2048 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S1408x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== FaRefIdeal.lean ====
abbrev S1x4112x1024 : Shape := ⟨3, ![1, 4112, 1024]⟩
abbrev S1024x2048 : Shape := ⟨2, ![1024, 2048]⟩
abbrev S1x4112x2048 : Shape := ⟨3, ![1, 4112, 2048]⟩
abbrev S4112x2048 : Shape := ⟨2, ![4112, 2048]⟩
abbrev S_ : Shape := ⟨0, ![]⟩
abbrev S4224x2048 : Shape := ⟨2, ![4224, 2048]⟩

abbrev nBuf : Space → Nat
  | .hbm => 7
  | .vmem => 0
  | .smem => 0
  | _ => 0

abbrev bufTy : (tb : Table) → Fin (tcTables nBuf tb) → BufTy
  | .hbm, ⟨0, _⟩ => ⟨S1x4112x1024, .f32⟩
  | .hbm, ⟨1, _⟩ => ⟨S1024x2048, .f32⟩
  | .hbm, ⟨2, _⟩ => ⟨S1x4112x2048, .f32⟩
  | .hbm, ⟨3, _⟩ => ⟨S4112x2048, .f32⟩
  | .hbm, ⟨4, _⟩ => ⟨S_, .i32⟩
  | .hbm, ⟨5, _⟩ => ⟨S_, .f32⟩
  | .hbm, ⟨6, _⟩ => ⟨S4224x2048, .f32⟩
  | _, _ => ⟨S1x4112x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_c : Ref sig .tc := ⟨.hbm, 4, rfl⟩
abbrev main_call0_v0 : Ref sig .tc := ⟨.hbm, 5, rfl⟩
abbrev main_v2 : Ref sig .tc := ⟨.hbm, 6, rfl⟩

abbrev nD : Nat := 1
abbrev τ : Topo := Topo.v7x

variable {F : FTy → Type} [FloatOps F]
-- ==== Fkv.lean ====
abbrev S1x4112x512 : Shape := ⟨3, ![1, 4112, 512]⟩
abbrev S512x4096 : Shape := ⟨2, ![512, 4096]⟩
abbrev S4112x512 : Shape := ⟨2, ![4112, 512]⟩
abbrev S_ : Shape := ⟨0, ![]⟩
abbrev S4224x512 : Shape := ⟨2, ![4224, 512]⟩
abbrev S4224x4096 : Shape := ⟨2, ![4224, 4096]⟩
abbrev S1408x512 : Shape := ⟨2, ![1408, 512]⟩
abbrev S512x2048 : Shape := ⟨2, ![512, 2048]⟩
abbrev S1408x2048 : Shape := ⟨2, ![1408, 2048]⟩

abbrev nBuf : Space → Nat
  | .hbm => 9
  | .vmem => 6
  | .smem => 0
  | _ => 0

abbrev bufTy : (tb : Table) → Fin (tcTables nBuf tb) → BufTy
  | .hbm, ⟨0, _⟩ => ⟨S1x4112x512, .f32⟩
  | .hbm, ⟨1, _⟩ => ⟨S512x4096, .f32⟩
  | .hbm, ⟨2, _⟩ => ⟨S4112x512, .f32⟩
  | .hbm, ⟨3, _⟩ => ⟨S_, .i32⟩
  | .hbm, ⟨4, _⟩ => ⟨S_, .f32⟩
  | .hbm, ⟨5, _⟩ => ⟨S4224x512, .f32⟩
  | .hbm, ⟨6, _⟩ => ⟨S4224x512, .bf16⟩
  | .hbm, ⟨7, _⟩ => ⟨S512x4096, .bf16⟩
  | .hbm, ⟨8, _⟩ => ⟨S4224x4096, .f32⟩
  | .local _ .vmem, ⟨0, _⟩ => ⟨S1408x512, .bf16⟩
  | .local _ .vmem, ⟨1, _⟩ => ⟨S1408x512, .bf16⟩
  | .local _ .vmem, ⟨2, _⟩ => ⟨S512x2048, .bf16⟩
  | .local _ .vmem, ⟨3, _⟩ => ⟨S512x2048, .bf16⟩
  | .local _ .vmem, ⟨4, _⟩ => ⟨S1408x2048, .f32⟩
  | .local _ .vmem, ⟨5, _⟩ => ⟨S1408x2048, .f32⟩
  | _, _ => ⟨S1x4112x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_c : Ref sig .tc := ⟨.hbm, 3, rfl⟩
abbrev main_call0_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![3, 2, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1408x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S512x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1408x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== FkvRefIdeal.lean ====
abbrev S1x4112x512 : Shape := ⟨3, ![1, 4112, 512]⟩
abbrev S512x4096 : Shape := ⟨2, ![512, 4096]⟩
abbrev S1x4112x4096 : Shape := ⟨3, ![1, 4112, 4096]⟩
abbrev S4112x4096 : Shape := ⟨2, ![4112, 4096]⟩
abbrev S_ : Shape := ⟨0, ![]⟩
abbrev S4224x4096 : Shape := ⟨2, ![4224, 4096]⟩

abbrev nBuf : Space → Nat
  | .hbm => 7
  | .vmem => 0
  | .smem => 0
  | _ => 0

abbrev bufTy : (tb : Table) → Fin (tcTables nBuf tb) → BufTy
  | .hbm, ⟨0, _⟩ => ⟨S1x4112x512, .f32⟩
  | .hbm, ⟨1, _⟩ => ⟨S512x4096, .f32⟩
  | .hbm, ⟨2, _⟩ => ⟨S1x4112x4096, .f32⟩
  | .hbm, ⟨3, _⟩ => ⟨S4112x4096, .f32⟩
  | .hbm, ⟨4, _⟩ => ⟨S_, .i32⟩
  | .hbm, ⟨5, _⟩ => ⟨S_, .f32⟩
  | .hbm, ⟨6, _⟩ => ⟨S4224x4096, .f32⟩
  | _, _ => ⟨S1x4112x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_c : Ref sig .tc := ⟨.hbm, 4, rfl⟩
abbrev main_call0_v0 : Ref sig .tc := ⟨.hbm, 5, rfl⟩
abbrev main_v2 : Ref sig .tc := ⟨.hbm, 6, rfl⟩

abbrev nD : Nat := 1
abbrev τ : Topo := Topo.v7x

variable {F : FTy → Type} [FloatOps F]
-- ==== Fo.lean ====
abbrev S1x4112x2048 : Shape := ⟨3, ![1, 4112, 2048]⟩
abbrev S2048x2048 : Shape := ⟨2, ![2048, 2048]⟩
abbrev S4112x2048 : Shape := ⟨2, ![4112, 2048]⟩
abbrev S_ : Shape := ⟨0, ![]⟩
abbrev S4224x2048 : Shape := ⟨2, ![4224, 2048]⟩
abbrev S1408x2048 : Shape := ⟨2, ![1408, 2048]⟩
abbrev S2048x1024 : Shape := ⟨2, ![2048, 1024]⟩
abbrev S1408x1024 : Shape := ⟨2, ![1408, 1024]⟩

abbrev nBuf : Space → Nat
  | .hbm => 14
  | .vmem => 8
  | .smem => 0
  | _ => 0

abbrev bufTy : (tb : Table) → Fin (tcTables nBuf tb) → BufTy
  | .hbm, ⟨0, _⟩ => ⟨S1x4112x2048, .f32⟩
  | .hbm, ⟨1, _⟩ => ⟨S2048x2048, .f32⟩
  | .hbm, ⟨2, _⟩ => ⟨S1x4112x2048, .f32⟩
  | .hbm, ⟨3, _⟩ => ⟨S4112x2048, .f32⟩
  | .hbm, ⟨4, _⟩ => ⟨S_, .i32⟩
  | .hbm, ⟨5, _⟩ => ⟨S_, .f32⟩
  | .hbm, ⟨6, _⟩ => ⟨S4224x2048, .f32⟩
  | .hbm, ⟨7, _⟩ => ⟨S4224x2048, .bf16⟩
  | .hbm, ⟨8, _⟩ => ⟨S2048x2048, .bf16⟩
  | .hbm, ⟨9, _⟩ => ⟨S4112x2048, .f32⟩
  | .hbm, ⟨10, _⟩ => ⟨S_, .i32⟩
  | .hbm, ⟨11, _⟩ => ⟨S_, .f32⟩
  | .hbm, ⟨12, _⟩ => ⟨S4224x2048, .f32⟩
  | .hbm, ⟨13, _⟩ => ⟨S4224x2048, .f32⟩
  | .local _ .vmem, ⟨0, _⟩ => ⟨S1408x2048, .bf16⟩
  | .local _ .vmem, ⟨1, _⟩ => ⟨S1408x2048, .bf16⟩
  | .local _ .vmem, ⟨2, _⟩ => ⟨S2048x1024, .bf16⟩
  | .local _ .vmem, ⟨3, _⟩ => ⟨S2048x1024, .bf16⟩
  | .local _ .vmem, ⟨4, _⟩ => ⟨S1408x1024, .f32⟩
  | .local _ .vmem, ⟨5, _⟩ => ⟨S1408x1024, .f32⟩
  | .local _ .vmem, ⟨6, _⟩ => ⟨S1408x1024, .f32⟩
  | .local _ .vmem, ⟨7, _⟩ => ⟨S1408x1024, .f32⟩
  | _, _ => ⟨S1x4112x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_c : Ref sig .tc := ⟨.hbm, 4, rfl⟩
abbrev main_call0_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_c_0 : Ref sig .tc := ⟨.hbm, 10, rfl⟩
abbrev main_call1_v0 : Ref sig .tc := ⟨.hbm, 11, rfl⟩
abbrev main_v5 : Ref sig .tc := ⟨.hbm, 12, rfl⟩
abbrev main_v6 : Ref sig .tc := ⟨.hbm, 13, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![3, 2, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1408x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1408x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1408x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== FoIdeal.lean ====
abbrev S1x4112x2048 : Shape := ⟨3, ![1, 4112, 2048]⟩
abbrev S2048x2048 : Shape := ⟨2, ![2048, 2048]⟩
abbrev S4112x2048 : Shape := ⟨2, ![4112, 2048]⟩
abbrev S_ : Shape := ⟨0, ![]⟩
abbrev S4224x2048 : Shape := ⟨2, ![4224, 2048]⟩
abbrev S1408x2048 : Shape := ⟨2, ![1408, 2048]⟩
abbrev S2048x1024 : Shape := ⟨2, ![2048, 1024]⟩
abbrev S1408x1024 : Shape := ⟨2, ![1408, 1024]⟩

abbrev nBuf : Space → Nat
  | .hbm => 14
  | .vmem => 8
  | .smem => 0
  | _ => 0

abbrev bufTy : (tb : Table) → Fin (tcTables nBuf tb) → BufTy
  | .hbm, ⟨0, _⟩ => ⟨S1x4112x2048, .f32⟩
  | .hbm, ⟨1, _⟩ => ⟨S2048x2048, .f32⟩
  | .hbm, ⟨2, _⟩ => ⟨S1x4112x2048, .f32⟩
  | .hbm, ⟨3, _⟩ => ⟨S4112x2048, .f32⟩
  | .hbm, ⟨4, _⟩ => ⟨S_, .i32⟩
  | .hbm, ⟨5, _⟩ => ⟨S_, .f32⟩
  | .hbm, ⟨6, _⟩ => ⟨S4224x2048, .f32⟩
  | .hbm, ⟨7, _⟩ => ⟨S4224x2048, .bf16⟩
  | .hbm, ⟨8, _⟩ => ⟨S2048x2048, .bf16⟩
  | .hbm, ⟨9, _⟩ => ⟨S4112x2048, .f32⟩
  | .hbm, ⟨10, _⟩ => ⟨S_, .i32⟩
  | .hbm, ⟨11, _⟩ => ⟨S_, .f32⟩
  | .hbm, ⟨12, _⟩ => ⟨S4224x2048, .f32⟩
  | .hbm, ⟨13, _⟩ => ⟨S4224x2048, .f32⟩
  | .local _ .vmem, ⟨0, _⟩ => ⟨S1408x2048, .bf16⟩
  | .local _ .vmem, ⟨1, _⟩ => ⟨S1408x2048, .bf16⟩
  | .local _ .vmem, ⟨2, _⟩ => ⟨S2048x1024, .bf16⟩
  | .local _ .vmem, ⟨3, _⟩ => ⟨S2048x1024, .bf16⟩
  | .local _ .vmem, ⟨4, _⟩ => ⟨S1408x1024, .f32⟩
  | .local _ .vmem, ⟨5, _⟩ => ⟨S1408x1024, .f32⟩
  | .local _ .vmem, ⟨6, _⟩ => ⟨S1408x1024, .f32⟩
  | .local _ .vmem, ⟨7, _⟩ => ⟨S1408x1024, .f32⟩
  | _, _ => ⟨S1x4112x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_c : Ref sig .tc := ⟨.hbm, 4, rfl⟩
abbrev main_call0_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_c_0 : Ref sig .tc := ⟨.hbm, 10, rfl⟩
abbrev main_call1_v0 : Ref sig .tc := ⟨.hbm, 11, rfl⟩
abbrev main_v5 : Ref sig .tc := ⟨.hbm, 12, rfl⟩
abbrev main_v6 : Ref sig .tc := ⟨.hbm, 13, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![3, 2, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1408x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1408x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1408x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== FoRefIdeal.lean ====
abbrev S1x4112x2048 : Shape := ⟨3, ![1, 4112, 2048]⟩
abbrev S2048x2048 : Shape := ⟨2, ![2048, 2048]⟩
abbrev S4112x2048 : Shape := ⟨2, ![4112, 2048]⟩
abbrev S_ : Shape := ⟨0, ![]⟩
abbrev S4224x2048 : Shape := ⟨2, ![4224, 2048]⟩

abbrev nBuf : Space → Nat
  | .hbm => 9
  | .vmem => 0
  | .smem => 0
  | _ => 0

abbrev bufTy : (tb : Table) → Fin (tcTables nBuf tb) → BufTy
  | .hbm, ⟨0, _⟩ => ⟨S1x4112x2048, .f32⟩
  | .hbm, ⟨1, _⟩ => ⟨S2048x2048, .f32⟩
  | .hbm, ⟨2, _⟩ => ⟨S1x4112x2048, .f32⟩
  | .hbm, ⟨3, _⟩ => ⟨S1x4112x2048, .f32⟩
  | .hbm, ⟨4, _⟩ => ⟨S1x4112x2048, .f32⟩
  | .hbm, ⟨5, _⟩ => ⟨S4112x2048, .f32⟩
  | .hbm, ⟨6, _⟩ => ⟨S_, .i32⟩
  | .hbm, ⟨7, _⟩ => ⟨S_, .f32⟩
  | .hbm, ⟨8, _⟩ => ⟨S4224x2048, .f32⟩
  | _, _ => ⟨S1x4112x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_c : Ref sig .tc := ⟨.hbm, 6, rfl⟩
abbrev main_call0_v0 : Ref sig .tc := ⟨.hbm, 7, rfl⟩
abbrev main_v3 : Ref sig .tc := ⟨.hbm, 8, rfl⟩

abbrev nD : Nat := 1
abbrev τ : Topo := Topo.v7x

variable {F : FTy → Type} [FloatOps F]
-- ==== Fdown.lean ====
abbrev S1x4112x8192 : Shape := ⟨3, ![1, 4112, 8192]⟩
abbrev S8192x2048 : Shape := ⟨2, ![8192, 2048]⟩
abbrev S1x4112x2048 : Shape := ⟨3, ![1, 4112, 2048]⟩
abbrev S4112x8192 : Shape := ⟨2, ![4112, 8192]⟩
abbrev S_ : Shape := ⟨0, ![]⟩
abbrev S4224x8192 : Shape := ⟨2, ![4224, 8192]⟩
abbrev S4112x2048 : Shape := ⟨2, ![4112, 2048]⟩
abbrev S4224x2048 : Shape := ⟨2, ![4224, 2048]⟩
abbrev S704x8192 : Shape := ⟨2, ![704, 8192]⟩
abbrev S8192x512 : Shape := ⟨2, ![8192, 512]⟩
abbrev S704x512 : Shape := ⟨2, ![704, 512]⟩

abbrev nBuf : Space → Nat
  | .hbm => 14
  | .vmem => 8
  | .smem => 0
  | _ => 0

abbrev bufTy : (tb : Table) → Fin (tcTables nBuf tb) → BufTy
  | .hbm, ⟨0, _⟩ => ⟨S1x4112x8192, .f32⟩
  | .hbm, ⟨1, _⟩ => ⟨S8192x2048, .f32⟩
  | .hbm, ⟨2, _⟩ => ⟨S1x4112x2048, .f32⟩
  | .hbm, ⟨3, _⟩ => ⟨S4112x8192, .f32⟩
  | .hbm, ⟨4, _⟩ => ⟨S_, .i32⟩
  | .hbm, ⟨5, _⟩ => ⟨S_, .f32⟩
  | .hbm, ⟨6, _⟩ => ⟨S4224x8192, .f32⟩
  | .hbm, ⟨7, _⟩ => ⟨S4224x8192, .bf16⟩
  | .hbm, ⟨8, _⟩ => ⟨S8192x2048, .bf16⟩
  | .hbm, ⟨9, _⟩ => ⟨S4112x2048, .f32⟩
  | .hbm, ⟨10, _⟩ => ⟨S_, .i32⟩
  | .hbm, ⟨11, _⟩ => ⟨S_, .f32⟩
  | .hbm, ⟨12, _⟩ => ⟨S4224x2048, .f32⟩
  | .hbm, ⟨13, _⟩ => ⟨S4224x2048, .f32⟩
  | .local _ .vmem, ⟨0, _⟩ => ⟨S704x8192, .bf16⟩
  | .local _ .vmem, ⟨1, _⟩ => ⟨S704x8192, .bf16⟩
  | .local _ .vmem, ⟨2, _⟩ => ⟨S8192x512, .bf16⟩
  | .local _ .vmem, ⟨3, _⟩ => ⟨S8192x512, .bf16⟩
  | .local _ .vmem, ⟨4, _⟩ => ⟨S704x512, .f32⟩
  | .local _ .vmem, ⟨5, _⟩ => ⟨S704x512, .f32⟩
  | .local _ .vmem, ⟨6, _⟩ => ⟨S704x512, .f32⟩
  | .local _ .vmem, ⟨7, _⟩ => ⟨S704x512, .f32⟩
  | _, _ => ⟨S1x4112x8192, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_c : Ref sig .tc := ⟨.hbm, 4, rfl⟩
abbrev main_call0_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_c_0 : Ref sig .tc := ⟨.hbm, 10, rfl⟩
abbrev main_call1_v0 : Ref sig .tc := ⟨.hbm, 11, rfl⟩
abbrev main_v5 : Ref sig .tc := ⟨.hbm, 12, rfl⟩
abbrev main_v6 : Ref sig .tc := ⟨.hbm, 13, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![6, 4, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S704x8192 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S8192x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S704x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S704x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== FdownRefIdeal.lean ====
abbrev S1x4112x8192 : Shape := ⟨3, ![1, 4112, 8192]⟩
abbrev S8192x2048 : Shape := ⟨2, ![8192, 2048]⟩
abbrev S1x4112x2048 : Shape := ⟨3, ![1, 4112, 2048]⟩
abbrev S4112x2048 : Shape := ⟨2, ![4112, 2048]⟩
abbrev S_ : Shape := ⟨0, ![]⟩
abbrev S4224x2048 : Shape := ⟨2, ![4224, 2048]⟩

abbrev nBuf : Space → Nat
  | .hbm => 9
  | .vmem => 0
  | .smem => 0
  | _ => 0

abbrev bufTy : (tb : Table) → Fin (tcTables nBuf tb) → BufTy
  | .hbm, ⟨0, _⟩ => ⟨S1x4112x8192, .f32⟩
  | .hbm, ⟨1, _⟩ => ⟨S8192x2048, .f32⟩
  | .hbm, ⟨2, _⟩ => ⟨S1x4112x2048, .f32⟩
  | .hbm, ⟨3, _⟩ => ⟨S1x4112x2048, .f32⟩
  | .hbm, ⟨4, _⟩ => ⟨S1x4112x2048, .f32⟩
  | .hbm, ⟨5, _⟩ => ⟨S4112x2048, .f32⟩
  | .hbm, ⟨6, _⟩ => ⟨S_, .i32⟩
  | .hbm, ⟨7, _⟩ => ⟨S_, .f32⟩
  | .hbm, ⟨8, _⟩ => ⟨S4224x2048, .f32⟩
  | _, _ => ⟨S1x4112x8192, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_c : Ref sig .tc := ⟨.hbm, 6, rfl⟩
abbrev main_call0_v0 : Ref sig .tc := ⟨.hbm, 7, rfl⟩
abbrev main_v3 : Ref sig .tc := ⟨.hbm, 8, rfl⟩

abbrev nD : Nat := 1
abbrev τ : Topo := Topo.v7x

variable {F : FTy → Type} [FloatOps F]
-- ==== Fup.lean ====
abbrev S1x4112x2048 : Shape := ⟨3, ![1, 4112, 2048]⟩
abbrev S2048x8192 : Shape := ⟨2, ![2048, 8192]⟩
abbrev S4112x2048 : Shape := ⟨2, ![4112, 2048]⟩
abbrev S_ : Shape := ⟨0, ![]⟩
abbrev S4224x2048 : Shape := ⟨2, ![4224, 2048]⟩
abbrev S4224x8192 : Shape := ⟨2, ![4224, 8192]⟩
abbrev S704x2048 : Shape := ⟨2, ![704, 2048]⟩
abbrev S2048x2048 : Shape := ⟨2, ![2048, 2048]⟩

abbrev nBuf : Space → Nat
  | .hbm => 10
  | .vmem => 8
  | .smem => 0
  | _ => 0

abbrev bufTy : (tb : Table) → Fin (tcTables nBuf tb) → BufTy
  | .hbm, ⟨0, _⟩ => ⟨S1x4112x2048, .f32⟩
  | .hbm, ⟨1, _⟩ => ⟨S2048x8192, .f32⟩
  | .hbm, ⟨2, _⟩ => ⟨S4112x2048, .f32⟩
  | .hbm, ⟨3, _⟩ => ⟨S_, .i32⟩
  | .hbm, ⟨4, _⟩ => ⟨S_, .f32⟩
  | .hbm, ⟨5, _⟩ => ⟨S4224x2048, .f32⟩
  | .hbm, ⟨6, _⟩ => ⟨S4224x2048, .bf16⟩
  | .hbm, ⟨7, _⟩ => ⟨S2048x8192, .bf16⟩
  | .hbm, ⟨8, _⟩ => ⟨S4224x8192, .f32⟩
  | .hbm, ⟨9, _⟩ => ⟨S4224x8192, .bf16⟩
  | .local _ .vmem, ⟨0, _⟩ => ⟨S704x2048, .bf16⟩
  | .local _ .vmem, ⟨1, _⟩ => ⟨S704x2048, .bf16⟩
  | .local _ .vmem, ⟨2, _⟩ => ⟨S2048x2048, .bf16⟩
  | .local _ .vmem, ⟨3, _⟩ => ⟨S2048x2048, .bf16⟩
  | .local _ .vmem, ⟨4, _⟩ => ⟨S704x2048, .f32⟩
  | .local _ .vmem, ⟨5, _⟩ => ⟨S704x2048, .f32⟩
  | .local _ .vmem, ⟨6, _⟩ => ⟨S704x2048, .bf16⟩
  | .local _ .vmem, ⟨7, _⟩ => ⟨S704x2048, .bf16⟩
  | _, _ => ⟨S1x4112x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_c : Ref sig .tc := ⟨.hbm, 3, rfl⟩
abbrev main_call0_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4_0 : Ref sig .tc := ⟨.hbm, 8, rfl⟩
abbrev main_v4_1 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![6, 4, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S704x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S704x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S704x2048 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== FupRefIdeal.lean ====
abbrev S1x4112x2048 : Shape := ⟨3, ![1, 4112, 2048]⟩
abbrev S2048x8192 : Shape := ⟨2, ![2048, 8192]⟩
abbrev S1x4112x8192 : Shape := ⟨3, ![1, 4112, 8192]⟩
abbrev S4112x8192 : Shape := ⟨2, ![4112, 8192]⟩
abbrev S_ : Shape := ⟨0, ![]⟩
abbrev S4224x8192 : Shape := ⟨2, ![4224, 8192]⟩

abbrev nBuf : Space → Nat
  | .hbm => 16
  | .vmem => 0
  | .smem => 0
  | _ => 0

abbrev bufTy : (tb : Table) → Fin (tcTables nBuf tb) → BufTy
  | .hbm, ⟨0, _⟩ => ⟨S1x4112x2048, .f32⟩
  | .hbm, ⟨1, _⟩ => ⟨S2048x8192, .f32⟩
  | .hbm, ⟨2, _⟩ => ⟨S1x4112x8192, .f32⟩
  | .hbm, ⟨3, _⟩ => ⟨S4112x8192, .f32⟩
  | .hbm, ⟨4, _⟩ => ⟨S_, .i32⟩
  | .hbm, ⟨5, _⟩ => ⟨S_, .f32⟩
  | .hbm, ⟨6, _⟩ => ⟨S4224x8192, .f32⟩
  | .hbm, ⟨7, _⟩ => ⟨S_, .f32⟩
  | .hbm, ⟨8, _⟩ => ⟨S1x4112x8192, .f32⟩
  | .hbm, ⟨9, _⟩ => ⟨S1x4112x8192, .f32⟩
  | .hbm, ⟨10, _⟩ => ⟨S1x4112x8192, .f32⟩
  | .hbm, ⟨11, _⟩ => ⟨S4112x8192, .f32⟩
  | .hbm, ⟨12, _⟩ => ⟨S_, .i32⟩
  | .hbm, ⟨13, _⟩ => ⟨S_, .f32⟩
  | .hbm, ⟨14, _⟩ => ⟨S4224x8192, .f32⟩
  | .hbm, ⟨15, _⟩ => ⟨S4224x8192, .bf16⟩
  | _, _ => ⟨S1x4112x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_c : Ref sig .tc := ⟨.hbm, 4, rfl⟩
abbrev main_call0_v0 : Ref sig .tc := ⟨.hbm, 5, rfl⟩
abbrev main_v2 : Ref sig .tc := ⟨.hbm, 6, rfl⟩
abbrev main_call1_cst : Ref sig .tc := ⟨.hbm, 7, rfl⟩
abbrev main_call1_v0 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_c_0 : Ref sig .tc := ⟨.hbm, 12, rfl⟩
abbrev main_call2_v0 : Ref sig .tc := ⟨.hbm, 13, rfl⟩
abbrev main_v6 : Ref sig .tc := ⟨.hbm, 14, rfl⟩
abbrev main_v7 : Ref sig .tc := ⟨.hbm, 15, rfl⟩

abbrev nD : Nat := 1
abbrev τ : Topo := Topo.v7x

variable {F : FTy → Type} [FloatOps F]
-- ==== Mix.lean ====
abbrev S1x4112x6144 : Shape := ⟨3, ![1, 4112, 6144]⟩
abbrev S1x4112x2048 : Shape := ⟨3, ![1, 4112, 2048]⟩
abbrev S4112x6144 : Shape := ⟨2, ![4112, 6144]⟩
abbrev S_ : Shape := ⟨0, ![]⟩
abbrev S4224x11520 : Shape := ⟨2, ![4224, 11520]⟩
abbrev S4112x2048 : Shape := ⟨2, ![4112, 2048]⟩
abbrev S4224x2048 : Shape := ⟨2, ![4224, 2048]⟩
abbrev S384x512 : Shape := ⟨2, ![384, 512]⟩

abbrev nBuf : Space → Nat
  | .hbm => 21
  | .vmem => 14
  | .smem => 0
  | _ => 0

abbrev bufTy : (tb : Table) → Fin (tcTables nBuf tb) → BufTy
  | .hbm, ⟨0, _⟩ => ⟨S1x4112x6144, .f32⟩
  | .hbm, ⟨1, _⟩ => ⟨S1x4112x2048, .f32⟩
  | .hbm, ⟨2, _⟩ => ⟨S1x4112x2048, .f32⟩
  | .hbm, ⟨3, _⟩ => ⟨S1x4112x2048, .f32⟩
  | .hbm, ⟨4, _⟩ => ⟨S4112x6144, .f32⟩
  | .hbm, ⟨5, _⟩ => ⟨S_, .i32⟩
  | .hbm, ⟨6, _⟩ => ⟨S_, .f32⟩
  | .hbm, ⟨7, _⟩ => ⟨S4224x11520, .f32⟩
  | .hbm, ⟨8, _⟩ => ⟨S4112x2048, .f32⟩
  | .hbm, ⟨9, _⟩ => ⟨S_, .i32⟩
  | .hbm, ⟨10, _⟩ => ⟨S_, .f32⟩
  | .hbm, ⟨11, _⟩ => ⟨S4224x2048, .f32⟩
  | .hbm, ⟨12, _⟩ => ⟨S4112x2048, .f32⟩
  | .hbm, ⟨13, _⟩ => ⟨S_, .i32⟩
  | .hbm, ⟨14, _⟩ => ⟨S_, .f32⟩
  | .hbm, ⟨15, _⟩ => ⟨S4224x2048, .f32⟩
  | .hbm, ⟨16, _⟩ => ⟨S4112x2048, .f32⟩
  | .hbm, ⟨17, _⟩ => ⟨S_, .i32⟩
  | .hbm, ⟨18, _⟩ => ⟨S_, .f32⟩
  | .hbm, ⟨19, _⟩ => ⟨S4224x2048, .f32⟩
  | .hbm, ⟨20, _⟩ => ⟨S4224x2048, .bf16⟩
  | .local _ .vmem, ⟨0, _⟩ => ⟨S384x512, .f32⟩
  | .local _ .vmem, ⟨1, _⟩ => ⟨S384x512, .f32⟩
  | .local _ .vmem, ⟨2, _⟩ => ⟨S384x512, .f32⟩
  | .local _ .vmem, ⟨3, _⟩ => ⟨S384x512, .f32⟩
  | .local _ .vmem, ⟨4, _⟩ => ⟨S384x512, .f32⟩
  | .local _ .vmem, ⟨5, _⟩ => ⟨S384x512, .f32⟩
  | .local _ .vmem, ⟨6, _⟩ => ⟨S384x512, .f32⟩
  | .local _ .vmem, ⟨7, _⟩ => ⟨S384x512, .f32⟩
  | .local _ .vmem, ⟨8, _⟩ => ⟨S384x512, .f32⟩
  | .local _ .vmem, ⟨9, _⟩ => ⟨S384x512, .f32⟩
  | .local _ .vmem, ⟨10, _⟩ => ⟨S384x512, .f32⟩
  | .local _ .vmem, ⟨11, _⟩ => ⟨S384x512, .f32⟩
  | .local _ .vmem, ⟨12, _⟩ => ⟨S384x512, .bf16⟩
  | .local _ .vmem, ⟨13, _⟩ => ⟨S384x512, .bf16⟩
  | _, _ => ⟨S1x4112x6144, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_c : Ref sig .tc := ⟨.hbm, 5, rfl⟩
abbrev main_call0_v0 : Ref sig .tc := ⟨.hbm, 6, rfl⟩
abbrev main_v1 : Ref sig .tc := ⟨.hbm, 7, rfl⟩
abbrev main_v2 : Ref sig .tc := ⟨.hbm, 8, rfl⟩
abbrev main_c_0 : Ref sig .tc := ⟨.hbm, 9, rfl⟩
abbrev main_call1_v0 : Ref sig .tc := ⟨.hbm, 10, rfl⟩
abbrev main_v3 : Ref sig .tc := ⟨.hbm, 11, rfl⟩
abbrev main_v4 : Ref sig .tc := ⟨.hbm, 12, rfl⟩
abbrev main_c_1 : Ref sig .tc := ⟨.hbm, 13, rfl⟩
abbrev main_call2_v0 : Ref sig .tc := ⟨.hbm, 14, rfl⟩
abbrev main_v5 : Ref sig .tc := ⟨.hbm, 15, rfl⟩
abbrev main_v6 : Ref sig .tc := ⟨.hbm, 16, rfl⟩
abbrev main_c_2 : Ref sig .tc := ⟨.hbm, 17, rfl⟩
abbrev main_call3_v0 : Ref sig .tc := ⟨.hbm, 18, rfl⟩
abbrev main_v7 : Ref sig .tc := ⟨.hbm, 19, rfl⟩
abbrev main_v8 : Ref sig .tc := ⟨.hbm, 20, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨2, ![11, 4], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg1
  let c0_i32_0 : BitVec 32 := 0#32
  ![arg0.toNat, v0.toNat]

def cc0_transform_1 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.addi c4_i32 arg1
  let c0_i32 : BitVec 32 := 0#32
  ![arg0.toNat, v0.toNat]

def cc0_transform_2 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.addi c8_i32 arg1
  let c0_i32 : BitVec 32 := 0#32
  ![arg0.toNat, v0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S384x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S384x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S384x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S384x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S384x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S384x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S384x512 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]
-- ==== MixRefIdeal.lean ====
abbrev S1x4112x6144 : Shape := ⟨3, ![1, 4112, 6144]⟩
abbrev S1x4112x2048 : Shape := ⟨3, ![1, 4112, 2048]⟩
abbrev S_ : Shape := ⟨0, ![]⟩
abbrev S1x4112x3x2048 : Shape := ⟨4, ![1, 4112, 3, 2048]⟩
abbrev S1x4112x1x2048 : Shape := ⟨4, ![1, 4112, 1, 2048]⟩
abbrev S4112x2048 : Shape := ⟨2, ![4112, 2048]⟩
abbrev S4224x2048 : Shape := ⟨2, ![4224, 2048]⟩

abbrev nBuf : Space → Nat
  | .hbm => 29
  | .vmem => 0
  | .smem => 0
  | _ => 0

abbrev bufTy : (tb : Table) → Fin (tcTables nBuf tb) → BufTy
  | .hbm, ⟨0, _⟩ => ⟨S1x4112x6144, .f32⟩
  | .hbm, ⟨1, _⟩ => ⟨S1x4112x2048, .f32⟩
  | .hbm, ⟨2, _⟩ => ⟨S1x4112x2048, .f32⟩
  | .hbm, ⟨3, _⟩ => ⟨S1x4112x2048, .f32⟩
  | .hbm, ⟨4, _⟩ => ⟨S1x4112x6144, .f32⟩
  | .hbm, ⟨5, _⟩ => ⟨S1x4112x6144, .f32⟩
  | .hbm, ⟨6, _⟩ => ⟨S_, .f32⟩
  | .hbm, ⟨7, _⟩ => ⟨S1x4112x6144, .f32⟩
  | .hbm, ⟨8, _⟩ => ⟨S1x4112x6144, .f32⟩
  | .hbm, ⟨9, _⟩ => ⟨S_, .f32⟩
  | .hbm, ⟨10, _⟩ => ⟨S1x4112x6144, .f32⟩
  | .hbm, ⟨11, _⟩ => ⟨S1x4112x6144, .f32⟩
  | .hbm, ⟨12, _⟩ => ⟨S1x4112x3x2048, .f32⟩
  | .hbm, ⟨13, _⟩ => ⟨S1x4112x1x2048, .f32⟩
  | .hbm, ⟨14, _⟩ => ⟨S1x4112x2048, .f32⟩
  | .hbm, ⟨15, _⟩ => ⟨S1x4112x2048, .f32⟩
  | .hbm, ⟨16, _⟩ => ⟨S1x4112x1x2048, .f32⟩
  | .hbm, ⟨17, _⟩ => ⟨S1x4112x2048, .f32⟩
  | .hbm, ⟨18, _⟩ => ⟨S1x4112x2048, .f32⟩
  | .hbm, ⟨19, _⟩ => ⟨S1x4112x2048, .f32⟩
  | .hbm, ⟨20, _⟩ => ⟨S1x4112x1x2048, .f32⟩
  | .hbm, ⟨21, _⟩ => ⟨S1x4112x2048, .f32⟩
  | .hbm, ⟨22, _⟩ => ⟨S1x4112x2048, .f32⟩
  | .hbm, ⟨23, _⟩ => ⟨S1x4112x2048, .f32⟩
  | .hbm, ⟨24, _⟩ => ⟨S4112x2048, .f32⟩
  | .hbm, ⟨25, _⟩ => ⟨S_, .i32⟩
  | .hbm, ⟨26, _⟩ => ⟨S_, .f32⟩
  | .hbm, ⟨27, _⟩ => ⟨S4224x2048, .f32⟩
  | .hbm, ⟨28, _⟩ => ⟨S4224x2048, .bf16⟩
  | _, _ => ⟨S1x4112x6144, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_cst : Ref sig .tc := ⟨.hbm, 6, rfl⟩
abbrev main_v2 : Ref sig .tc := ⟨.hbm, 7, rfl⟩
abbrev main_v3 : Ref sig .tc := ⟨.hbm, 8, rfl⟩
abbrev main_cst_0 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_c : Ref sig .tc := ⟨.hbm, 25, rfl⟩
abbrev main_call0_v0 : Ref sig .tc := ⟨.hbm, 26, rfl⟩
abbrev main_v19 : Ref sig .tc := ⟨.hbm, 27, rfl⟩
abbrev main_v20 : Ref sig .tc := ⟨.hbm, 28, rfl⟩

abbrev nD : Nat := 1
abbrev τ : Topo := Topo.v7x

variable {F : FTy → Type} [FloatOps F]
-- ==== Norm.lean ====
abbrev S1x4112x2048 : Shape := ⟨3, ![1, 4112, 2048]⟩
abbrev S2048 : Shape := ⟨1, ![2048]⟩
abbrev S4112x2048 : Shape := ⟨2, ![4112, 2048]⟩
abbrev S_ : Shape := ⟨0, ![]⟩
abbrev S4224x2048 : Shape := ⟨2, ![4224, 2048]⟩
abbrev S1x2048 : Shape := ⟨2, ![1, 2048]⟩
abbrev S384x2048 : Shape := ⟨2, ![384, 2048]⟩
abbrev S384 : Shape := ⟨1, ![384]⟩
abbrev S384x1 : Shape := ⟨2, ![384, 1]⟩

abbrev nBuf : Space → Nat
  | .hbm => 8
  | .vmem => 5
  | .smem => 0
  | _ => 0

abbrev bufTy : (tb : Table) → Fin (tcTables nBuf tb) → BufTy
  | .hbm, ⟨0, _⟩ => ⟨S1x4112x2048, .f32⟩
  | .hbm, ⟨1, _⟩ => ⟨S2048, .f32⟩
  | .hbm, ⟨2, _⟩ => ⟨S4112x2048, .f32⟩
  | .hbm, ⟨3, _⟩ => ⟨S_, .i32⟩
  | .hbm, ⟨4, _⟩ => ⟨S_, .f32⟩
  | .hbm, ⟨5, _⟩ => ⟨S4224x2048, .f32⟩
  | .hbm, ⟨6, _⟩ => ⟨S1x2048, .f32⟩
  | .hbm, ⟨7, _⟩ => ⟨S4224x2048, .bf16⟩
  | .local _ .vmem, ⟨0, _⟩ => ⟨S384x2048, .f32⟩
  | .local _ .vmem, ⟨1, _⟩ => ⟨S384x2048, .f32⟩
  | .local _ .vmem, ⟨2, _⟩ => ⟨S1x2048, .f32⟩
  | .local _ .vmem, ⟨3, _⟩ => ⟨S384x2048, .bf16⟩
  | .local _ .vmem, ⟨4, _⟩ => ⟨S384x2048, .bf16⟩
  | _, _ => ⟨S1x4112x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_c : Ref sig .tc := ⟨.hbm, 3, rfl⟩
abbrev main_call0_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![11], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S384x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S384x2048 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== NormRefIdeal.lean ====
abbrev S1x4112x2048 : Shape := ⟨3, ![1, 4112, 2048]⟩
abbrev S2048 : Shape := ⟨1, ![2048]⟩
abbrev S_ : Shape := ⟨0, ![]⟩
abbrev S1x4112 : Shape := ⟨2, ![1, 4112]⟩
abbrev S1x4112x1 : Shape := ⟨3, ![1, 4112, 1]⟩
abbrev S1x1x2048 : Shape := ⟨3, ![1, 1, 2048]⟩
abbrev S4112x2048 : Shape := ⟨2, ![4112, 2048]⟩
abbrev S4224x2048 : Shape := ⟨2, ![4224, 2048]⟩

abbrev nBuf : Space → Nat
  | .hbm => 23
  | .vmem => 0
  | .smem => 0
  | _ => 0

abbrev bufTy : (tb : Table) → Fin (tcTables nBuf tb) → BufTy
  | .hbm, ⟨0, _⟩ => ⟨S1x4112x2048, .f32⟩
  | .hbm, ⟨1, _⟩ => ⟨S2048, .f32⟩
  | .hbm, ⟨2, _⟩ => ⟨S1x4112x2048, .f32⟩
  | .hbm, ⟨3, _⟩ => ⟨S_, .f32⟩
  | .hbm, ⟨4, _⟩ => ⟨S1x4112, .f32⟩
  | .hbm, ⟨5, _⟩ => ⟨S1x4112x1, .f32⟩
  | .hbm, ⟨6, _⟩ => ⟨S_, .f32⟩
  | .hbm, ⟨7, _⟩ => ⟨S1x4112x1, .f32⟩
  | .hbm, ⟨8, _⟩ => ⟨S1x4112x1, .f32⟩
  | .hbm, ⟨9, _⟩ => ⟨S_, .f32⟩
  | .hbm, ⟨10, _⟩ => ⟨S1x4112x1, .f32⟩
  | .hbm, ⟨11, _⟩ => ⟨S1x4112x1, .f32⟩
  | .hbm, ⟨12, _⟩ => ⟨S1x4112x1, .f32⟩
  | .hbm, ⟨13, _⟩ => ⟨S1x4112x2048, .f32⟩
  | .hbm, ⟨14, _⟩ => ⟨S1x4112x2048, .f32⟩
  | .hbm, ⟨15, _⟩ => ⟨S1x1x2048, .f32⟩
  | .hbm, ⟨16, _⟩ => ⟨S1x4112x2048, .f32⟩
  | .hbm, ⟨17, _⟩ => ⟨S1x4112x2048, .f32⟩
  | .hbm, ⟨18, _⟩ => ⟨S4112x2048, .f32⟩
  | .hbm, ⟨19, _⟩ => ⟨S_, .i32⟩
  | .hbm, ⟨20, _⟩ => ⟨S_, .f32⟩
  | .hbm, ⟨21, _⟩ => ⟨S4224x2048, .f32⟩
  | .hbm, ⟨22, _⟩ => ⟨S4224x2048, .bf16⟩
  | _, _ => ⟨S1x4112x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_cst_0 : Ref sig .tc := ⟨.hbm, 6, rfl⟩
abbrev main_v3 : Ref sig .tc := ⟨.hbm, 7, rfl⟩
abbrev main_v4 : Ref sig .tc := ⟨.hbm, 8, rfl⟩
abbrev main_cst_1 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_c : Ref sig .tc := ⟨.hbm, 19, rfl⟩
abbrev main_call0_v0 : Ref sig .tc := ⟨.hbm, 20, rfl⟩
abbrev main_v14 : Ref sig .tc := ⟨.hbm, 21, rfl⟩
abbrev main_v15 : Ref sig .tc := ⟨.hbm, 22, rfl⟩

abbrev nD : Nat := 1
abbrev τ : Topo := Topo.v7x

variable {F : FTy → Type} [FloatOps F]
-- ==== Attn.lean ====
abbrev S1x4112x16x192 : Shape := ⟨4, ![1, 4112, 16, 192]⟩
abbrev S1x4112x16x128 : Shape := ⟨4, ![1, 4112, 16, 128]⟩
abbrev S4112x16x192 : Shape := ⟨3, ![4112, 16, 192]⟩
abbrev S_ : Shape := ⟨0, ![]⟩
abbrev S4224x16x256 : Shape := ⟨3, ![4224, 16, 256]⟩
abbrev S4224x4096 : Shape := ⟨2, ![4224, 4096]⟩
abbrev S4112x16x128 : Shape := ⟨3, ![4112, 16, 128]⟩
abbrev S4224x16x128 : Shape := ⟨3, ![4224, 16, 128]⟩
abbrev S4224x2048 : Shape := ⟨2, ![4224, 2048]⟩
abbrev S16x4224x1 : Shape := ⟨3, ![16, 4224, 1]⟩
abbrev S384x512 : Shape := ⟨2, ![384, 512]⟩
abbrev S4224x512 : Shape := ⟨2, ![4224, 512]⟩
abbrev S4224x256 : Shape := ⟨2, ![4224, 256]⟩
abbrev S384x256 : Shape := ⟨2, ![384, 256]⟩
abbrev S2x384x1 : Shape := ⟨3, ![2, 384, 1]⟩
abbrev S384x1 : Shape := ⟨2, ![384, 1]⟩
abbrev S384x128 : Shape := ⟨2, ![384, 128]⟩
abbrev S384x384 : Shape := ⟨2, ![384, 384]⟩
abbrev S384 : Shape := ⟨1, ![384]⟩
abbrev S1x384x1 : Shape := ⟨3, ![1, 384, 1]⟩

abbrev nBuf : Space → Nat
  | .hbm => 24
  | .vmem => 12
  | .smem => 0
  | _ => 0

abbrev bufTy : (tb : Table) → Fin (tcTables nBuf tb) → BufTy
  | .hbm, ⟨0, _⟩ => ⟨S1x4112x16x192, .f32⟩
  | .hbm, ⟨1, _⟩ => ⟨S1x4112x16x192, .f32⟩
  | .hbm, ⟨2, _⟩ => ⟨S1x4112x16x128, .f32⟩
  | .hbm, ⟨3, _⟩ => ⟨S4112x16x192, .f32⟩
  | .hbm, ⟨4, _⟩ => ⟨S_, .i32⟩
  | .hbm, ⟨5, _⟩ => ⟨S_, .f32⟩
  | .hbm, ⟨6, _⟩ => ⟨S4224x16x256, .f32⟩
  | .hbm, ⟨7, _⟩ => ⟨S4224x4096, .f32⟩
  | .hbm, ⟨8, _⟩ => ⟨S4224x4096, .bf16⟩
  | .hbm, ⟨9, _⟩ => ⟨S4112x16x192, .f32⟩
  | .hbm, ⟨10, _⟩ => ⟨S_, .i32⟩
  | .hbm, ⟨11, _⟩ => ⟨S_, .f32⟩
  | .hbm, ⟨12, _⟩ => ⟨S4224x16x256, .f32⟩
  | .hbm, ⟨13, _⟩ => ⟨S4224x4096, .f32⟩
  | .hbm, ⟨14, _⟩ => ⟨S4224x4096, .bf16⟩
  | .hbm, ⟨15, _⟩ => ⟨S4112x16x128, .f32⟩
  | .hbm, ⟨16, _⟩ => ⟨S_, .i32⟩
  | .hbm, ⟨17, _⟩ => ⟨S_, .f32⟩
  | .hbm, ⟨18, _⟩ => ⟨S4224x16x128, .f32⟩
  | .hbm, ⟨19, _⟩ => ⟨S4224x2048, .f32⟩
  | .hbm, ⟨20, _⟩ => ⟨S4224x2048, .bf16⟩
  | .hbm, ⟨21, _⟩ => ⟨S4224x2048, .f32⟩
  | .hbm, ⟨22, _⟩ => ⟨S4224x2048, .bf16⟩
  | .hbm, ⟨23, _⟩ => ⟨S16x4224x1, .f32⟩
  | .local _ .vmem, ⟨0, _⟩ => ⟨S384x512, .bf16⟩
  | .local _ .vmem, ⟨1, _⟩ => ⟨S384x512, .bf16⟩
  | .local _ .vmem, ⟨2, _⟩ => ⟨S4224x512, .bf16⟩
  | .local _ .vmem, ⟨3, _⟩ => ⟨S4224x512, .bf16⟩
  | .local _ .vmem, ⟨4, _⟩ => ⟨S4224x256, .bf16⟩
  | .local _ .vmem, ⟨5, _⟩ => ⟨S4224x256, .bf16⟩
  | .local _ .vmem, ⟨6, _⟩ => ⟨S384x256, .f32⟩
  | .local _ .vmem, ⟨7, _⟩ => ⟨S384x256, .f32⟩
  | .local _ .vmem, ⟨8, _⟩ => ⟨S384x256, .bf16⟩
  | .local _ .vmem, ⟨9, _⟩ => ⟨S384x256, .bf16⟩
  | .local _ .vmem, ⟨10, _⟩ => ⟨S2x384x1, .f32⟩
  | .local _ .vmem, ⟨11, _⟩ => ⟨S2x384x1, .f32⟩
  | _, _ => ⟨S1x4112x16x192, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_c : Ref sig .tc := ⟨.hbm, 4, rfl⟩
abbrev main_call0_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_c_0 : Ref sig .tc := ⟨.hbm, 10, rfl⟩
abbrev main_call1_v0 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_c_1 : Ref sig .tc := ⟨.hbm, 16, rfl⟩
abbrev main_call2_v0 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12_0 : Ref sig .tc := ⟨.hbm, 21, rfl⟩
abbrev main_v12_1 : Ref sig .tc := ⟨.hbm, 22, rfl⟩
abbrev main_v12_2 : Ref sig .tc := ⟨.hbm, 23, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨2, ![8, 11], ![false, false]⟩

@[reducible] def k0_t1_loop (i : grid0.Coords) : Scf.Loop 32 :=
  let c0_i32 : BitVec 32 := 0#32
  let arg1 : BitVec 32 := BitVec.ofNat 32 (i 1).val
  let v3 : BitVec 32 := Scalar.subi arg1 c0_i32
  let c1_i32 : BitVec 32 := 1#32
  let v5 : BitVec 32 := Scalar.divsi v3 c1_i32
  let v6 : BitVec 32 := Scalar.muli v5 c1_i32
  let v7 : BitVec 32 := Scalar.addi c0_i32 v6
  let c1_i32_2 : BitVec 32 := 1#32
  ⟨c0_i32, v7, c1_i32_2⟩
def k0_mult1 (i : grid0.Coords) (k0_t1 : Fin (k0_t1_loop i).trips) : BitVec 32 :=
  let c0_i32 : BitVec 32 := 0#32
  let c1_i32_2 : BitVec 32 := 1#32
  let arg8 : BitVec 32 := Scf.iv c0_i32 c1_i32_2 k0_t1
  let c384_i32_34 : BitVec 32 := 384#32
  let v98 : BitVec 32 := Scalar.muli arg8 c384_i32_34
  v98
def k0_off1 (i : grid0.Coords) (k0_t1 : Fin (k0_t1_loop i).trips) : Fin 2 → Nat :=
  let c0_i32 : BitVec 32 := 0#32
  let c1_i32_2 : BitVec 32 := 1#32
  let arg8 : BitVec 32 := Scf.iv c0_i32 c1_i32_2 k0_t1
  let c384_i32_34 : BitVec 32 := 384#32
  let v98 : BitVec 32 := Scalar.muli arg8 c384_i32_34
  let v99 : BitVec 32 := v98
  let v102 : Index := Scalar.indexCast v99
  let c0_37 : Index := 0#32
  ![v102.toNat, 0]
def k0_off2 (i : grid0.Coords) (k0_t1 : Fin (k0_t1_loop i).trips) : Fin 2 → Nat :=
  let c0_i32 : BitVec 32 := 0#32
  let c1_i32_2 : BitVec 32 := 1#32
  let arg8 : BitVec 32 := Scf.iv c0_i32 c1_i32_2 k0_t1
  let c384_i32_34 : BitVec 32 := 384#32
  let v98 : BitVec 32 := Scalar.muli arg8 c384_i32_34
  let v99 : BitVec 32 := v98
  let v108 : Index := Scalar.indexCast v99
  let c256_41 : Index := 256#32
  ![v108.toNat, 256]
def k0_off3 (i : grid0.Coords) (k0_t1 : Fin (k0_t1_loop i).trips) : Fin 2 → Nat :=
  let c0_i32 : BitVec 32 := 0#32
  let c1_i32_2 : BitVec 32 := 1#32
  let arg8 : BitVec 32 := Scf.iv c0_i32 c1_i32_2 k0_t1
  let c384_i32_34 : BitVec 32 := 384#32
  let v98 : BitVec 32 := Scalar.muli arg8 c384_i32_34
  let v99 : BitVec 32 := v98
  let v129 : Index := Scalar.indexCast v99
  let c0_46 : Index := 0#32
  ![v129.toNat, 0]
def k0_off4 (i : grid0.Coords) (k0_t1 : Fin (k0_t1_loop i).trips) : Fin 2 → Nat :=
  let c0_i32 : BitVec 32 := 0#32
  let c1_i32_2 : BitVec 32 := 1#32
  let arg8 : BitVec 32 := Scf.iv c0_i32 c1_i32_2 k0_t1
  let c384_i32_34 : BitVec 32 := 384#32
  let v98 : BitVec 32 := Scalar.muli arg8 c384_i32_34
  let v99 : BitVec 32 := v98
  let v151 : Index := Scalar.indexCast v99
  let c128_51 : Index := 128#32
  ![v151.toNat, 128]
@[reducible] def k0_t2_loop (i : grid0.Coords) : Scf.Loop 32 :=
  let c0_i32 : BitVec 32 := 0#32
  let arg1 : BitVec 32 := BitVec.ofNat 32 (i 1).val
  let v3 : BitVec 32 := Scalar.subi arg1 c0_i32
  let c1_i32 : BitVec 32 := 1#32
  let v5 : BitVec 32 := Scalar.divsi v3 c1_i32
  let v6 : BitVec 32 := Scalar.muli v5 c1_i32
  let v7 : BitVec 32 := Scalar.addi c0_i32 v6
  let v4 : BitVec 32 := Scalar.addi c0_i32 v3
  let c1_i32_3 : BitVec 32 := 1#32
  ⟨v7, v4, c1_i32_3⟩
def k0_mult2 (i : grid0.Coords) (k0_t2 : Fin (k0_t2_loop i).trips) : BitVec 32 :=
  let c0_i32 : BitVec 32 := 0#32
  let arg1 : BitVec 32 := BitVec.ofNat 32 (i 1).val
  let v3 : BitVec 32 := Scalar.subi arg1 c0_i32
  let c1_i32 : BitVec 32 := 1#32
  let v5 : BitVec 32 := Scalar.divsi v3 c1_i32
  let v6 : BitVec 32 := Scalar.muli v5 c1_i32
  let v7 : BitVec 32 := Scalar.addi c0_i32 v6
  let c1_i32_3 : BitVec 32 := 1#32
  let arg8 : BitVec 32 := Scf.iv v7 c1_i32_3 k0_t2
  let c384_i32_34 : BitVec 32 := 384#32
  let v98 : BitVec 32 := Scalar.muli arg8 c384_i32_34
  v98
def k0_off5 (i : grid0.Coords) (k0_t2 : Fin (k0_t2_loop i).trips) : Fin 2 → Nat :=
  let c0_i32 : BitVec 32 := 0#32
  let arg1 : BitVec 32 := BitVec.ofNat 32 (i 1).val
  let v3 : BitVec 32 := Scalar.subi arg1 c0_i32
  let c1_i32 : BitVec 32 := 1#32
  let v5 : BitVec 32 := Scalar.divsi v3 c1_i32
  let v6 : BitVec 32 := Scalar.muli v5 c1_i32
  let v7 : BitVec 32 := Scalar.addi c0_i32 v6
  let c1_i32_3 : BitVec 32 := 1#32
  let arg8 : BitVec 32 := Scf.iv v7 c1_i32_3 k0_t2
  let c384_i32_34 : BitVec 32 := 384#32
  let v98 : BitVec 32 := Scalar.muli arg8 c384_i32_34
  let v99 : BitVec 32 := v98
  let v102 : Index := Scalar.indexCast v99
  let c0_37 : Index := 0#32
  ![v102.toNat, 0]
def k0_off6 (i : grid0.Coords) (k0_t2 : Fin (k0_t2_loop i).trips) : Fin 2 → Nat :=
  let c0_i32 : BitVec 32 := 0#32
  let arg1 : BitVec 32 := BitVec.ofNat 32 (i 1).val
  let v3 : BitVec 32 := Scalar.subi arg1 c0_i32
  let c1_i32 : BitVec 32 := 1#32
  let v5 : BitVec 32 := Scalar.divsi v3 c1_i32
  let v6 : BitVec 32 := Scalar.muli v5 c1_i32
  let v7 : BitVec 32 := Scalar.addi c0_i32 v6
  let c1_i32_3 : BitVec 32 := 1#32
  let arg8 : BitVec 32 := Scf.iv v7 c1_i32_3 k0_t2
  let c384_i32_34 : BitVec 32 := 384#32
  let v98 : BitVec 32 := Scalar.muli arg8 c384_i32_34
  let v99 : BitVec 32 := v98
  let v108 : Index := Scalar.indexCast v99
  let c256_41 : Index := 256#32
  ![v108.toNat, 256]
def k0_off7 (i : grid0.Coords) (k0_t2 : Fin (k0_t2_loop i).trips) : Fin 2 → Nat :=
  let c0_i32 : BitVec 32 := 0#32
  let arg1 : BitVec 32 := BitVec.ofNat 32 (i 1).val
  let v3 : BitVec 32 := Scalar.subi arg1 c0_i32
  let c1_i32 : BitVec 32 := 1#32
  let v5 : BitVec 32 := Scalar.divsi v3 c1_i32
  let v6 : BitVec 32 := Scalar.muli v5 c1_i32
  let v7 : BitVec 32 := Scalar.addi c0_i32 v6
  let c1_i32_3 : BitVec 32 := 1#32
  let arg8 : BitVec 32 := Scf.iv v7 c1_i32_3 k0_t2
  let c384_i32_34 : BitVec 32 := 384#32
  let v98 : BitVec 32 := Scalar.muli arg8 c384_i32_34
  let v99 : BitVec 32 := v98
  let v129 : Index := Scalar.indexCast v99
  let c0_46 : Index := 0#32
  ![v129.toNat, 0]
def k0_off8 (i : grid0.Coords) (k0_t2 : Fin (k0_t2_loop i).trips) : Fin 2 → Nat :=
  let c0_i32 : BitVec 32 := 0#32
  let arg1 : BitVec 32 := BitVec.ofNat 32 (i 1).val
  let v3 : BitVec 32 := Scalar.subi arg1 c0_i32
  let c1_i32 : BitVec 32 := 1#32
  let v5 : BitVec 32 := Scalar.divsi v3 c1_i32
  let v6 : BitVec 32 := Scalar.muli v5 c1_i32
  let v7 : BitVec 32 := Scalar.addi c0_i32 v6
  let c1_i32_3 : BitVec 32 := 1#32
  let arg8 : BitVec 32 := Scf.iv v7 c1_i32_3 k0_t2
  let c384_i32_34 : BitVec 32 := 384#32
  let v98 : BitVec 32 := Scalar.muli arg8 c384_i32_34
  let v99 : BitVec 32 := v98
  let v151 : Index := Scalar.indexCast v99
  let c128_51 : Index := 128#32
  ![v151.toNat, 128]
def k0_mult3 (i : grid0.Coords) : BitVec 32 :=
  let arg1 : BitVec 32 := BitVec.ofNat 32 (i 1).val
  let c384_i32 : BitVec 32 := 384#32
  let v10 : BitVec 32 := Scalar.muli arg1 c384_i32
  v10
def k0_off9 (i : grid0.Coords) : Fin 2 → Nat :=
  let arg1 : BitVec 32 := BitVec.ofNat 32 (i 1).val
  let c384_i32 : BitVec 32 := 384#32
  let v10 : BitVec 32 := Scalar.muli arg1 c384_i32
  let v11 : BitVec 32 := v10
  let v14 : Index := Scalar.indexCast v11
  let c0_5 : Index := 0#32
  ![v14.toNat, 0]
def k0_off10 (i : grid0.Coords) : Fin 2 → Nat :=
  let arg1 : BitVec 32 := BitVec.ofNat 32 (i 1).val
  let c384_i32 : BitVec 32 := 384#32
  let v10 : BitVec 32 := Scalar.muli arg1 c384_i32
  let v11 : BitVec 32 := v10
  let v20 : Index := Scalar.indexCast v11
  let c256_8 : Index := 256#32
  ![v20.toNat, 256]
def k0_off11 (i : grid0.Coords) : Fin 2 → Nat :=
  let arg1 : BitVec 32 := BitVec.ofNat 32 (i 1).val
  let c384_i32 : BitVec 32 := 384#32
  let v10 : BitVec 32 := Scalar.muli arg1 c384_i32
  let v11 : BitVec 32 := v10
  let v46 : Index := Scalar.indexCast v11
  let c0_14 : Index := 0#32
  ![v46.toNat, 0]
def k0_off12 (i : grid0.Coords) : Fin 2 → Nat :=
  let arg1 : BitVec 32 := BitVec.ofNat 32 (i 1).val
  let c384_i32 : BitVec 32 := 384#32
  let v10 : BitVec 32 := Scalar.muli arg1 c384_i32
  let v11 : BitVec 32 := v10
  let v73 : Index := Scalar.indexCast v11
  let c128 : Index := 128#32
  ![v73.toNat, 128]
def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S384x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S4224x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S4224x256 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S384x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S384x256 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S2x384x1 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]
-- ==== AttnRefIdeal.lean ====
abbrev S1x4112x16x192 : Shape := ⟨4, ![1, 4112, 16, 192]⟩
abbrev S1x4112x16x128 : Shape := ⟨4, ![1, 4112, 16, 128]⟩
abbrev S_ : Shape := ⟨0, ![]⟩
abbrev S1x4224x16x192 : Shape := ⟨4, ![1, 4224, 16, 192]⟩
abbrev S1x4224x16x128 : Shape := ⟨4, ![1, 4224, 16, 128]⟩
abbrev S1x16x4224x4224 : Shape := ⟨4, ![1, 16, 4224, 4224]⟩
abbrev S4224 : Shape := ⟨1, ![4224]⟩
abbrev S4224x1 : Shape := ⟨2, ![4224, 1]⟩
abbrev S1x4224 : Shape := ⟨2, ![1, 4224]⟩
abbrev S4224x4224 : Shape := ⟨2, ![4224, 4224]⟩
abbrev S1x16x4224 : Shape := ⟨3, ![1, 16, 4224]⟩
abbrev S1x16x4224x1 : Shape := ⟨4, ![1, 16, 4224, 1]⟩
abbrev S1x16x128x4224 : Shape := ⟨4, ![1, 16, 128, 4224]⟩
abbrev S4224x16x128 : Shape := ⟨3, ![4224, 16, 128]⟩
abbrev S4224x2048 : Shape := ⟨2, ![4224, 2048]⟩
abbrev S16x4224x1 : Shape := ⟨3, ![16, 4224, 1]⟩

abbrev nBuf : Space → Nat
  | .hbm => 73
  | .vmem => 0
  | .smem => 0
  | _ => 0

abbrev bufTy : (tb : Table) → Fin (tcTables nBuf tb) → BufTy
  | .hbm, ⟨0, _⟩ => ⟨S1x4112x16x192, .f32⟩
  | .hbm, ⟨1, _⟩ => ⟨S1x4112x16x192, .f32⟩
  | .hbm, ⟨2, _⟩ => ⟨S1x4112x16x128, .f32⟩
  | .hbm, ⟨3, _⟩ => ⟨S_, .i32⟩
  | .hbm, ⟨4, _⟩ => ⟨S_, .f32⟩
  | .hbm, ⟨5, _⟩ => ⟨S1x4224x16x192, .f32⟩
  | .hbm, ⟨6, _⟩ => ⟨S_, .i32⟩
  | .hbm, ⟨7, _⟩ => ⟨S_, .f32⟩
  | .hbm, ⟨8, _⟩ => ⟨S1x4224x16x192, .f32⟩
  | .hbm, ⟨9, _⟩ => ⟨S_, .i32⟩
  | .hbm, ⟨10, _⟩ => ⟨S_, .f32⟩
  | .hbm, ⟨11, _⟩ => ⟨S1x4224x16x128, .f32⟩
  | .hbm, ⟨12, _⟩ => ⟨S1x16x4224x4224, .f32⟩
  | .hbm, ⟨13, _⟩ => ⟨S_, .f32⟩
  | .hbm, ⟨14, _⟩ => ⟨S1x16x4224x4224, .f32⟩
  | .hbm, ⟨15, _⟩ => ⟨S1x16x4224x4224, .f32⟩
  | .hbm, ⟨16, _⟩ => ⟨S4224, .i32⟩
  | .hbm, ⟨17, _⟩ => ⟨S4224x1, .i32⟩
  | .hbm, ⟨18, _⟩ => ⟨S1x4224, .i32⟩
  | .hbm, ⟨19, _⟩ => ⟨S4224x4224, .i32⟩
  | .hbm, ⟨20, _⟩ => ⟨S4224x4224, .i32⟩
  | .hbm, ⟨21, _⟩ => ⟨S4224x4224, .i1⟩
  | .hbm, ⟨22, _⟩ => ⟨S_, .f32⟩
  | .hbm, ⟨23, _⟩ => ⟨S_, .f32⟩
  | .hbm, ⟨24, _⟩ => ⟨S1x16x4224x4224, .i1⟩
  | .hbm, ⟨25, _⟩ => ⟨S1x16x4224x4224, .f32⟩
  | .hbm, ⟨26, _⟩ => ⟨S1x16x4224x4224, .f32⟩
  | .hbm, ⟨27, _⟩ => ⟨S_, .f32⟩
  | .hbm, ⟨28, _⟩ => ⟨S1x16x4224, .f32⟩
  | .hbm, ⟨29, _⟩ => ⟨S_, .f32⟩
  | .hbm, ⟨30, _⟩ => ⟨S1x16x4224, .f32⟩
  | .hbm, ⟨31, _⟩ => ⟨S1x16x4224, .f32⟩
  | .hbm, ⟨32, _⟩ => ⟨S1x16x4224x1, .f32⟩
  | .hbm, ⟨33, _⟩ => ⟨S1x16x4224x4224, .f32⟩
  | .hbm, ⟨34, _⟩ => ⟨S1x16x4224x4224, .f32⟩
  | .hbm, ⟨35, _⟩ => ⟨S1x16x4224x4224, .f32⟩
  | .hbm, ⟨36, _⟩ => ⟨S_, .f32⟩
  | .hbm, ⟨37, _⟩ => ⟨S1x16x4224, .f32⟩
  | .hbm, ⟨38, _⟩ => ⟨S1x16x4224x1, .f32⟩
  | .hbm, ⟨39, _⟩ => ⟨S1x16x4224x4224, .f32⟩
  | .hbm, ⟨40, _⟩ => ⟨S1x16x4224x4224, .f32⟩
  | .hbm, ⟨41, _⟩ => ⟨S1x16x128x4224, .f32⟩
  | .hbm, ⟨42, _⟩ => ⟨S1x4224x16x128, .f32⟩
  | .hbm, ⟨43, _⟩ => ⟨S4224x16x128, .f32⟩
  | .hbm, ⟨44, _⟩ => ⟨S4224x2048, .f32⟩
  | .hbm, ⟨45, _⟩ => ⟨S1x16x4224x4224, .f32⟩
  | .hbm, ⟨46, _⟩ => ⟨S_, .f32⟩
  | .hbm, ⟨47, _⟩ => ⟨S1x16x4224x4224, .f32⟩
  | .hbm, ⟨48, _⟩ => ⟨S1x16x4224x4224, .f32⟩
  | .hbm, ⟨49, _⟩ => ⟨S4224, .i32⟩
  | .hbm, ⟨50, _⟩ => ⟨S4224x1, .i32⟩
  | .hbm, ⟨51, _⟩ => ⟨S1x4224, .i32⟩
  | .hbm, ⟨52, _⟩ => ⟨S4224x4224, .i32⟩
  | .hbm, ⟨53, _⟩ => ⟨S4224x4224, .i32⟩
  | .hbm, ⟨54, _⟩ => ⟨S4224x4224, .i1⟩
  | .hbm, ⟨55, _⟩ => ⟨S_, .f32⟩
  | .hbm, ⟨56, _⟩ => ⟨S_, .f32⟩
  | .hbm, ⟨57, _⟩ => ⟨S1x16x4224x4224, .i1⟩
  | .hbm, ⟨58, _⟩ => ⟨S1x16x4224x4224, .f32⟩
  | .hbm, ⟨59, _⟩ => ⟨S1x16x4224x4224, .f32⟩
  | .hbm, ⟨60, _⟩ => ⟨S_, .f32⟩
  | .hbm, ⟨61, _⟩ => ⟨S1x16x4224, .f32⟩
  | .hbm, ⟨62, _⟩ => ⟨S1x16x4224x1, .f32⟩
  | .hbm, ⟨63, _⟩ => ⟨S1x16x4224x4224, .f32⟩
  | .hbm, ⟨64, _⟩ => ⟨S1x16x4224x4224, .f32⟩
  | .hbm, ⟨65, _⟩ => ⟨S1x16x4224x4224, .f32⟩
  | .hbm, ⟨66, _⟩ => ⟨S_, .f32⟩
  | .hbm, ⟨67, _⟩ => ⟨S1x16x4224, .f32⟩
  | .hbm, ⟨68, _⟩ => ⟨S1x16x4224x1, .f32⟩
  | .hbm, ⟨69, _⟩ => ⟨S1x16x4224x1, .f32⟩
  | .hbm, ⟨70, _⟩ => ⟨S1x16x4224x1, .f32⟩
  | .hbm, ⟨71, _⟩ => ⟨S4224x2048, .bf16⟩
  | .hbm, ⟨72, _⟩ => ⟨S16x4224x1, .f32⟩
  | _, _ => ⟨S1x4112x16x192, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_c : Ref sig .tc := ⟨.hbm, 3, rfl⟩
abbrev main_call0_v0 : Ref sig .tc := ⟨.hbm, 4, rfl⟩
abbrev main_v0 : Ref sig .tc := ⟨.hbm, 5, rfl⟩
abbrev main_c_0 : Ref sig .tc := ⟨.hbm, 6, rfl⟩
abbrev main_call1_v0 : Ref sig .tc := ⟨.hbm, 7, rfl⟩
abbrev main_v1 : Ref sig .tc := ⟨.hbm, 8, rfl⟩
abbrev main_c_1 : Ref sig .tc := ⟨.hbm, 9, rfl⟩
abbrev main_call2_v0 : Ref sig .tc := ⟨.hbm, 10, rfl⟩
abbrev main_v2 : Ref sig .tc := ⟨.hbm, 11, rfl⟩
abbrev main_v3 : Ref sig .tc := ⟨.hbm, 12, rfl⟩
abbrev main_cst : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_cst_2 : Ref sig .tc := ⟨.hbm, 22, rfl⟩
abbrev main_call3_v0 : Ref sig .tc := ⟨.hbm, 23, rfl⟩
abbrev main_call3_v1 : Ref sig .tc := ⟨.hbm, 24, rfl⟩
abbrev main_call3_v2 : Ref sig .tc := ⟨.hbm, 25, rfl⟩
abbrev main_v12 : Ref sig .tc := ⟨.hbm, 26, rfl⟩
abbrev main_cst_3 : Ref sig .tc := ⟨.hbm, 27, rfl⟩
abbrev main_v13 : Ref sig .tc := ⟨.hbm, 28, rfl⟩
abbrev main_cst_4 : Ref sig .tc := ⟨.hbm, 29, rfl⟩
abbrev main_v14 : Ref sig .tc := ⟨.hbm, 30, rfl⟩
abbrev main_v15 : Ref sig .tc := ⟨.hbm, 31, rfl⟩
abbrev main_v16 : Ref sig .tc := ⟨.hbm, 32, rfl⟩
abbrev main_v17 : Ref sig .tc := ⟨.hbm, 33, rfl⟩
abbrev main_v18 : Ref sig .tc := ⟨.hbm, 34, rfl⟩
abbrev main_v19 : Ref sig .tc := ⟨.hbm, 35, rfl⟩
abbrev main_cst_5 : Ref sig .tc := ⟨.hbm, 36, rfl⟩
abbrev main_v20 : Ref sig .tc := ⟨.hbm, 37, rfl⟩
abbrev main_v21 : Ref sig .tc := ⟨.hbm, 38, rfl⟩
abbrev main_v22 : Ref sig .tc := ⟨.hbm, 39, rfl⟩
abbrev main_v23 : Ref sig .tc := ⟨.hbm, 40, rfl⟩
abbrev main_v24 : Ref sig .tc := ⟨.hbm, 41, rfl⟩
abbrev main_v25 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_cst_6 : Ref sig .tc := ⟨.hbm, 46, rfl⟩
abbrev main_v29 : Ref sig .tc := ⟨.hbm, 47, rfl⟩
abbrev main_v30 : Ref sig .tc := ⟨.hbm, 48, rfl⟩
abbrev main_v31 : Ref sig .tc := ⟨.hbm, 49, rfl⟩
abbrev main_v32 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_cst_7 : Ref sig .tc := ⟨.hbm, 55, rfl⟩
abbrev main_call4_v0 : Ref sig .tc := ⟨.hbm, 56, rfl⟩
abbrev main_call4_v1 : Ref sig .tc := ⟨.hbm, 57, rfl⟩
abbrev main_call4_v2 : Ref sig .tc := ⟨.hbm, 58, rfl⟩
abbrev main_v37 : Ref sig .tc := ⟨.hbm, 59, rfl⟩
abbrev main_cst_8 : Ref sig .tc := ⟨.hbm, 60, rfl⟩
abbrev main_v38 : Ref sig .tc := ⟨.hbm, 61, rfl⟩
abbrev main_v39 : Ref sig .tc := ⟨.hbm, 62, rfl⟩
abbrev main_v40 : Ref sig .tc := ⟨.hbm, 63, rfl⟩
abbrev main_v41 : Ref sig .tc := ⟨.hbm, 64, rfl⟩
abbrev main_v42 : Ref sig .tc := ⟨.hbm, 65, rfl⟩
abbrev main_cst_9 : Ref sig .tc := ⟨.hbm, 66, rfl⟩
abbrev main_v43 : Ref sig .tc := ⟨.hbm, 67, rfl⟩
abbrev main_v44 : Ref sig .tc := ⟨.hbm, 68, rfl⟩
abbrev main_v45 : Ref sig .tc := ⟨.hbm, 69, rfl⟩
abbrev main_v46 : Ref sig .tc := ⟨.hbm, 70, rfl⟩
abbrev main_v47 : Ref sig .tc := ⟨.hbm, 71, rfl⟩
abbrev main_v48 : Ref sig .tc := ⟨.hbm, 72, rfl⟩

abbrev nD : Nat := 1
abbrev τ : Topo := Topo.v7x

variable {F : FTy → Type} [FloatOps F]
-- ==== Dnorm.lean ====
abbrev S1x4112x2048 : Shape := ⟨3, ![1, 4112, 2048]⟩
abbrev S2048 : Shape := ⟨1, ![2048]⟩
abbrev S4112x2048 : Shape := ⟨2, ![4112, 2048]⟩
abbrev S_ : Shape := ⟨0, ![]⟩
abbrev S4224x2048 : Shape := ⟨2, ![4224, 2048]⟩
abbrev S1x2048 : Shape := ⟨2, ![1, 2048]⟩
abbrev S384x2048 : Shape := ⟨2, ![384, 2048]⟩
abbrev S384 : Shape := ⟨1, ![384]⟩
abbrev S384x1 : Shape := ⟨2, ![384, 1]⟩

abbrev nBuf : Space → Nat
  | .hbm => 20
  | .vmem => 12
  | .smem => 0
  | _ => 0

abbrev bufTy : (tb : Table) → Fin (tcTables nBuf tb) → BufTy
  | .hbm, ⟨0, _⟩ => ⟨S1x4112x2048, .f32⟩
  | .hbm, ⟨1, _⟩ => ⟨S2048, .f32⟩
  | .hbm, ⟨2, _⟩ => ⟨S1x4112x2048, .f32⟩
  | .hbm, ⟨3, _⟩ => ⟨S1x4112x2048, .f32⟩
  | .hbm, ⟨4, _⟩ => ⟨S4112x2048, .f32⟩
  | .hbm, ⟨5, _⟩ => ⟨S_, .i32⟩
  | .hbm, ⟨6, _⟩ => ⟨S_, .f32⟩
  | .hbm, ⟨7, _⟩ => ⟨S4224x2048, .f32⟩
  | .hbm, ⟨8, _⟩ => ⟨S4112x2048, .f32⟩
  | .hbm, ⟨9, _⟩ => ⟨S_, .i32⟩
  | .hbm, ⟨10, _⟩ => ⟨S_, .f32⟩
  | .hbm, ⟨11, _⟩ => ⟨S4224x2048, .f32⟩
  | .hbm, ⟨12, _⟩ => ⟨S4112x2048, .f32⟩
  | .hbm, ⟨13, _⟩ => ⟨S_, .i32⟩
  | .hbm, ⟨14, _⟩ => ⟨S_, .f32⟩
  | .hbm, ⟨15, _⟩ => ⟨S4224x2048, .f32⟩
  | .hbm, ⟨16, _⟩ => ⟨S1x2048, .f32⟩
  | .hbm, ⟨17, _⟩ => ⟨S4224x2048, .f32⟩
  | .hbm, ⟨18, _⟩ => ⟨S4224x2048, .bf16⟩
  | .hbm, ⟨19, _⟩ => ⟨S1x2048, .f32⟩
  | .local _ .vmem, ⟨0, _⟩ => ⟨S384x2048, .f32⟩
  | .local _ .vmem, ⟨1, _⟩ => ⟨S384x2048, .f32⟩
  | .local _ .vmem, ⟨2, _⟩ => ⟨S1x2048, .f32⟩
  | .local _ .vmem, ⟨3, _⟩ => ⟨S384x2048, .f32⟩
  | .local _ .vmem, ⟨4, _⟩ => ⟨S384x2048, .f32⟩
  | .local _ .vmem, ⟨5, _⟩ => ⟨S384x2048, .f32⟩
  | .local _ .vmem, ⟨6, _⟩ => ⟨S384x2048, .f32⟩
  | .local _ .vmem, ⟨7, _⟩ => ⟨S384x2048, .f32⟩
  | .local _ .vmem, ⟨8, _⟩ => ⟨S384x2048, .f32⟩
  | .local _ .vmem, ⟨9, _⟩ => ⟨S384x2048, .bf16⟩
  | .local _ .vmem, ⟨10, _⟩ => ⟨S384x2048, .bf16⟩
  | .local _ .vmem, ⟨11, _⟩ => ⟨S1x2048, .f32⟩
  | _, _ => ⟨S1x4112x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_c : Ref sig .tc := ⟨.hbm, 5, rfl⟩
abbrev main_call0_v0 : Ref sig .tc := ⟨.hbm, 6, rfl⟩
abbrev main_v1 : Ref sig .tc := ⟨.hbm, 7, rfl⟩
abbrev main_v2 : Ref sig .tc := ⟨.hbm, 8, rfl⟩
abbrev main_c_0 : Ref sig .tc := ⟨.hbm, 9, rfl⟩
abbrev main_call1_v0 : Ref sig .tc := ⟨.hbm, 10, rfl⟩
abbrev main_v3 : Ref sig .tc := ⟨.hbm, 11, rfl⟩
abbrev main_v4 : Ref sig .tc := ⟨.hbm, 12, rfl⟩
abbrev main_c_1 : Ref sig .tc := ⟨.hbm, 13, rfl⟩
abbrev main_call2_v0 : Ref sig .tc := ⟨.hbm, 14, rfl⟩
abbrev main_v5 : Ref sig .tc := ⟨.hbm, 15, rfl⟩
abbrev main_v6 : Ref sig .tc := ⟨.hbm, 16, rfl⟩
abbrev main_v7_0 : Ref sig .tc := ⟨.hbm, 17, rfl⟩
abbrev main_v7_1 : Ref sig .tc := ⟨.hbm, 18, rfl⟩
abbrev main_v7_2 : Ref sig .tc := ⟨.hbm, 19, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11

abbrev nD : Nat := 1
abbrev τ : Topo := Topo.v7x

variable {F : FTy → Type} [FloatOps F]

abbrev grid0 : Pipeline.Grid := ⟨1, ![11], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S384x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S384x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S384x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S384x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S384x2048 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S1x2048 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]
-- ==== DnormRefIdeal.lean ====
abbrev S1x4112x2048 : Shape := ⟨3, ![1, 4112, 2048]⟩
abbrev S2048 : Shape := ⟨1, ![2048]⟩
abbrev S_ : Shape := ⟨0, ![]⟩
abbrev S1x4112 : Shape := ⟨2, ![1, 4112]⟩
abbrev S1x4112x1 : Shape := ⟨3, ![1, 4112, 1]⟩
abbrev S1x1x2048 : Shape := ⟨3, ![1, 1, 2048]⟩
abbrev S1x2048 : Shape := ⟨2, ![1, 2048]⟩
abbrev S4112 : Shape := ⟨1, ![4112]⟩
abbrev S4112x2048 : Shape := ⟨2, ![4112, 2048]⟩
abbrev S4224x2048 : Shape := ⟨2, ![4224, 2048]⟩

abbrev nBuf : Space → Nat
  | .hbm => 57
  | .vmem => 0
  | .smem => 0
  | _ => 0

abbrev bufTy : (tb : Table) → Fin (tcTables nBuf tb) → BufTy
  | .hbm, ⟨0, _⟩ => ⟨S1x4112x2048, .f32⟩
  | .hbm, ⟨1, _⟩ => ⟨S2048, .f32⟩
  | .hbm, ⟨2, _⟩ => ⟨S1x4112x2048, .f32⟩
  | .hbm, ⟨3, _⟩ => ⟨S1x4112x2048, .f32⟩
  | .hbm, ⟨4, _⟩ => ⟨S1x4112x2048, .f32⟩
  | .hbm, ⟨5, _⟩ => ⟨S_, .f32⟩
  | .hbm, ⟨6, _⟩ => ⟨S1x4112, .f32⟩
  | .hbm, ⟨7, _⟩ => ⟨S1x4112x1, .f32⟩
  | .hbm, ⟨8, _⟩ => ⟨S_, .f32⟩
  | .hbm, ⟨9, _⟩ => ⟨S1x4112x1, .f32⟩
  | .hbm, ⟨10, _⟩ => ⟨S1x4112x1, .f32⟩
  | .hbm, ⟨11, _⟩ => ⟨S_, .f32⟩
  | .hbm, ⟨12, _⟩ => ⟨S1x4112x1, .f32⟩
  | .hbm, ⟨13, _⟩ => ⟨S1x4112x1, .f32⟩
  | .hbm, ⟨14, _⟩ => ⟨S1x4112x1, .f32⟩
  | .hbm, ⟨15, _⟩ => ⟨S1x4112x1, .f32⟩
  | .hbm, ⟨16, _⟩ => ⟨S_, .f32⟩
  | .hbm, ⟨17, _⟩ => ⟨S1x4112x1, .f32⟩
  | .hbm, ⟨18, _⟩ => ⟨S1x4112x1, .f32⟩
  | .hbm, ⟨19, _⟩ => ⟨S1x4112x2048, .f32⟩
  | .hbm, ⟨20, _⟩ => ⟨S1x4112x2048, .f32⟩
  | .hbm, ⟨21, _⟩ => ⟨S1x1x2048, .f32⟩
  | .hbm, ⟨22, _⟩ => ⟨S1x4112x2048, .f32⟩
  | .hbm, ⟨23, _⟩ => ⟨S1x4112x2048, .f32⟩
  | .hbm, ⟨24, _⟩ => ⟨S1x4112x2048, .f32⟩
  | .hbm, ⟨25, _⟩ => ⟨S_, .f32⟩
  | .hbm, ⟨26, _⟩ => ⟨S1x2048, .f32⟩
  | .hbm, ⟨27, _⟩ => ⟨S1x1x2048, .f32⟩
  | .hbm, ⟨28, _⟩ => ⟨S1x4112x2048, .f32⟩
  | .hbm, ⟨29, _⟩ => ⟨S1x4112x2048, .f32⟩
  | .hbm, ⟨30, _⟩ => ⟨S_, .f32⟩
  | .hbm, ⟨31, _⟩ => ⟨S2048, .f32⟩
  | .hbm, ⟨32, _⟩ => ⟨S1x4112x2048, .f32⟩
  | .hbm, ⟨33, _⟩ => ⟨S_, .f32⟩
  | .hbm, ⟨34, _⟩ => ⟨S1x4112, .f32⟩
  | .hbm, ⟨35, _⟩ => ⟨S1x4112x1, .f32⟩
  | .hbm, ⟨36, _⟩ => ⟨S1x4112x2048, .f32⟩
  | .hbm, ⟨37, _⟩ => ⟨S1x4112x2048, .f32⟩
  | .hbm, ⟨38, _⟩ => ⟨S1x4112x1, .f32⟩
  | .hbm, ⟨39, _⟩ => ⟨S_, .f32⟩
  | .hbm, ⟨40, _⟩ => ⟨S1x4112x1, .f32⟩
  | .hbm, ⟨41, _⟩ => ⟨S1x4112x1, .f32⟩
  | .hbm, ⟨42, _⟩ => ⟨S_, .f32⟩
  | .hbm, ⟨43, _⟩ => ⟨S4112, .f32⟩
  | .hbm, ⟨44, _⟩ => ⟨S1x4112, .f32⟩
  | .hbm, ⟨45, _⟩ => ⟨S1x4112x2048, .f32⟩
  | .hbm, ⟨46, _⟩ => ⟨S1x4112x2048, .f32⟩
  | .hbm, ⟨47, _⟩ => ⟨S1x4112x2048, .f32⟩
  | .hbm, ⟨48, _⟩ => ⟨S1x4112x2048, .f32⟩
  | .hbm, ⟨49, _⟩ => ⟨S1x4112x2048, .f32⟩
  | .hbm, ⟨50, _⟩ => ⟨S1x4112x2048, .f32⟩
  | .hbm, ⟨51, _⟩ => ⟨S4112x2048, .f32⟩
  | .hbm, ⟨52, _⟩ => ⟨S_, .i32⟩
  | .hbm, ⟨53, _⟩ => ⟨S_, .f32⟩
  | .hbm, ⟨54, _⟩ => ⟨S4224x2048, .f32⟩
  | .hbm, ⟨55, _⟩ => ⟨S4224x2048, .bf16⟩
  | .hbm, ⟨56, _⟩ => ⟨S1x2048, .f32⟩
  | _, _ => ⟨S1x4112x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_cst_2 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_cst_3 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_cst_4 : Ref sig .tc := ⟨.hbm, 30, rfl⟩
abbrev main_v21 : Ref sig .tc := ⟨.hbm, 31, rfl⟩
abbrev main_v22 : Ref sig .tc := ⟨.hbm, 32, rfl⟩
abbrev main_cst_5 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_cst_6 : Ref sig .tc := ⟨.hbm, 39, rfl⟩
abbrev main_v28 : Ref sig .tc := ⟨.hbm, 40, rfl⟩
abbrev main_v29 : Ref sig .tc := ⟨.hbm, 41, rfl⟩
abbrev main_cst_7 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩
abbrev main_v38 : Ref sig .tc := ⟨.hbm, 51, rfl⟩
abbrev main_c : Ref sig .tc := ⟨.hbm, 52, rfl⟩
abbrev main_call0_v0 : Ref sig .tc := ⟨.hbm, 53, rfl⟩
abbrev main_v39 : Ref sig .tc := ⟨.hbm, 54, rfl⟩
abbrev main_v40 : Ref sig .tc := ⟨.hbm, 55, rfl⟩
abbrev main_v41 : Ref sig .tc := ⟨.hbm, 56, rfl⟩

abbrev nD : Nat := 1
abbrev τ : Topo := Topo.v7x

variable {F : FTy → Type} [FloatOps F]
-- ==== LatQ.lean ====
abbrev S1x4112x11520 : Shape := ⟨3, ![1, 4112, 11520]⟩
abbrev S512 : Shape := ⟨1, ![512]⟩
abbrev S4112x11520 : Shape := ⟨2, ![4112, 11520]⟩
abbrev S_ : Shape := ⟨0, ![]⟩
abbrev S4224x11520 : Shape := ⟨2, ![4224, 11520]⟩
abbrev S1x512 : Shape := ⟨2, ![1, 512]⟩
abbrev S4224x512 : Shape := ⟨2, ![4224, 512]⟩
abbrev S384x512 : Shape := ⟨2, ![384, 512]⟩
abbrev S384 : Shape := ⟨1, ![384]⟩
abbrev S384x1 : Shape := ⟨2, ![384, 1]⟩

abbrev nBuf : Space → Nat
  | .hbm => 8
  | .vmem => 5
  | .smem => 0
  | _ => 0

abbrev bufTy : (tb : Table) → Fin (tcTables nBuf tb) → BufTy
  | .hbm, ⟨0, _⟩ => ⟨S1x4112x11520, .f32⟩
  | .hbm, ⟨1, _⟩ => ⟨S512, .f32⟩
  | .hbm, ⟨2, _⟩ => ⟨S4112x11520, .f32⟩
  | .hbm, ⟨3, _⟩ => ⟨S_, .i32⟩
  | .hbm, ⟨4, _⟩ => ⟨S_, .f32⟩
  | .hbm, ⟨5, _⟩ => ⟨S4224x11520, .f32⟩
  | .hbm, ⟨6, _⟩ => ⟨S1x512, .f32⟩
  | .hbm, ⟨7, _⟩ => ⟨S4224x512, .bf16⟩
  | .local _ .vmem, ⟨0, _⟩ => ⟨S384x512, .f32⟩
  | .local _ .vmem, ⟨1, _⟩ => ⟨S384x512, .f32⟩
  | .local _ .vmem, ⟨2, _⟩ => ⟨S1x512, .f32⟩
  | .local _ .vmem, ⟨3, _⟩ => ⟨S384x512, .bf16⟩
  | .local _ .vmem, ⟨4, _⟩ => ⟨S384x512, .bf16⟩
  | _, _ => ⟨S1x4112x11520, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_c : Ref sig .tc := ⟨.hbm, 3, rfl⟩
abbrev main_call0_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![11], ![false]⟩

def cc0_transform_0 (i : grid0.Coords) : Fin 2 → Nat :=
  let arg0 : BitVec 32 := BitVec.ofNat 32 (i 0).val
  let c18_i32 : BitVec 32 := 18#32
  let c0_i32 : BitVec 32 := 0#32
  ![arg0.toNat, c18_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S384x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x512 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S384x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== LatQRefIdeal.lean ====
abbrev S1x4112x11520 : Shape := ⟨3, ![1, 4112, 11520]⟩
abbrev S512 : Shape := ⟨1, ![512]⟩
abbrev S1x4112x512 : Shape := ⟨3, ![1, 4112, 512]⟩
abbrev S_ : Shape := ⟨0, ![]⟩
abbrev S1x4112 : Shape := ⟨2, ![1, 4112]⟩
abbrev S1x4112x1 : Shape := ⟨3, ![1, 4112, 1]⟩
abbrev S1x1x512 : Shape := ⟨3, ![1, 1, 512]⟩
abbrev S4112x512 : Shape := ⟨2, ![4112, 512]⟩
abbrev S4224x512 : Shape := ⟨2, ![4224, 512]⟩

abbrev nBuf : Space → Nat
  | .hbm => 24
  | .vmem => 0
  | .smem => 0
  | _ => 0

abbrev bufTy : (tb : Table) → Fin (tcTables nBuf tb) → BufTy
  | .hbm, ⟨0, _⟩ => ⟨S1x4112x11520, .f32⟩
  | .hbm, ⟨1, _⟩ => ⟨S512, .f32⟩
  | .hbm, ⟨2, _⟩ => ⟨S1x4112x512, .f32⟩
  | .hbm, ⟨3, _⟩ => ⟨S1x4112x512, .f32⟩
  | .hbm, ⟨4, _⟩ => ⟨S_, .f32⟩
  | .hbm, ⟨5, _⟩ => ⟨S1x4112, .f32⟩
  | .hbm, ⟨6, _⟩ => ⟨S1x4112x1, .f32⟩
  | .hbm, ⟨7, _⟩ => ⟨S_, .f32⟩
  | .hbm, ⟨8, _⟩ => ⟨S1x4112x1, .f32⟩
  | .hbm, ⟨9, _⟩ => ⟨S1x4112x1, .f32⟩
  | .hbm, ⟨10, _⟩ => ⟨S_, .f32⟩
  | .hbm, ⟨11, _⟩ => ⟨S1x4112x1, .f32⟩
  | .hbm, ⟨12, _⟩ => ⟨S1x4112x1, .f32⟩
  | .hbm, ⟨13, _⟩ => ⟨S1x4112x1, .f32⟩
  | .hbm, ⟨14, _⟩ => ⟨S1x4112x512, .f32⟩
  | .hbm, ⟨15, _⟩ => ⟨S1x4112x512, .f32⟩
  | .hbm, ⟨16, _⟩ => ⟨S1x1x512, .f32⟩
  | .hbm, ⟨17, _⟩ => ⟨S1x4112x512, .f32⟩
  | .hbm, ⟨18, _⟩ => ⟨S1x4112x512, .f32⟩
  | .hbm, ⟨19, _⟩ => ⟨S4112x512, .f32⟩
  | .hbm, ⟨20, _⟩ => ⟨S_, .i32⟩
  | .hbm, ⟨21, _⟩ => ⟨S_, .f32⟩
  | .hbm, ⟨22, _⟩ => ⟨S4224x512, .f32⟩
  | .hbm, ⟨23, _⟩ => ⟨S4224x512, .bf16⟩
  | _, _ => ⟨S1x4112x11520, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_cst_0 : Ref sig .tc := ⟨.hbm, 7, rfl⟩
abbrev main_v4 : Ref sig .tc := ⟨.hbm, 8, rfl⟩
abbrev main_v5 : Ref sig .tc := ⟨.hbm, 9, rfl⟩
abbrev main_cst_1 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_c : Ref sig .tc := ⟨.hbm, 20, rfl⟩
abbrev main_call0_v0 : Ref sig .tc := ⟨.hbm, 21, rfl⟩
abbrev main_v15 : Ref sig .tc := ⟨.hbm, 22, rfl⟩
abbrev main_v16 : Ref sig .tc := ⟨.hbm, 23, rfl⟩

abbrev nD : Nat := 1
abbrev τ : Topo := Topo.v7x

variable {F : FTy → Type} [FloatOps F]
-- ==== LatKv.lean ====
abbrev S1x4112x11520 : Shape := ⟨3, ![1, 4112, 11520]⟩
abbrev S512 : Shape := ⟨1, ![512]⟩
abbrev S4112x11520 : Shape := ⟨2, ![4112, 11520]⟩
abbrev S_ : Shape := ⟨0, ![]⟩
abbrev S4224x11520 : Shape := ⟨2, ![4224, 11520]⟩
abbrev S1x512 : Shape := ⟨2, ![1, 512]⟩
abbrev S4224x512 : Shape := ⟨2, ![4224, 512]⟩
abbrev S384x512 : Shape := ⟨2, ![384, 512]⟩
abbrev S384 : Shape := ⟨1, ![384]⟩
abbrev S384x1 : Shape := ⟨2, ![384, 1]⟩

abbrev nBuf : Space → Nat
  | .hbm => 8
  | .vmem => 5
  | .smem => 0
  | _ => 0

abbrev bufTy : (tb : Table) → Fin (tcTables nBuf tb) → BufTy
  | .hbm, ⟨0, _⟩ => ⟨S1x4112x11520, .f32⟩
  | .hbm, ⟨1, _⟩ => ⟨S512, .f32⟩
  | .hbm, ⟨2, _⟩ => ⟨S4112x11520, .f32⟩
  | .hbm, ⟨3, _⟩ => ⟨S_, .i32⟩
  | .hbm, ⟨4, _⟩ => ⟨S_, .f32⟩
  | .hbm, ⟨5, _⟩ => ⟨S4224x11520, .f32⟩
  | .hbm, ⟨6, _⟩ => ⟨S1x512, .f32⟩
  | .hbm, ⟨7, _⟩ => ⟨S4224x512, .bf16⟩
  | .local _ .vmem, ⟨0, _⟩ => ⟨S384x512, .f32⟩
  | .local _ .vmem, ⟨1, _⟩ => ⟨S384x512, .f32⟩
  | .local _ .vmem, ⟨2, _⟩ => ⟨S1x512, .f32⟩
  | .local _ .vmem, ⟨3, _⟩ => ⟨S384x512, .bf16⟩
  | .local _ .vmem, ⟨4, _⟩ => ⟨S384x512, .bf16⟩
  | _, _ => ⟨S1x4112x11520, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_c : Ref sig .tc := ⟨.hbm, 3, rfl⟩
abbrev main_call0_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![11], ![false]⟩

def cc0_transform_0 (i : grid0.Coords) : Fin 2 → Nat :=
  let arg0 : BitVec 32 := BitVec.ofNat 32 (i 0).val
  let c19_i32 : BitVec 32 := 19#32
  let c0_i32 : BitVec 32 := 0#32
  ![arg0.toNat, c19_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S384x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x512 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S384x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== LatKvRefIdeal.lean ====
abbrev S1x4112x11520 : Shape := ⟨3, ![1, 4112, 11520]⟩
abbrev S512 : Shape := ⟨1, ![512]⟩
abbrev S1x4112x512 : Shape := ⟨3, ![1, 4112, 512]⟩
abbrev S_ : Shape := ⟨0, ![]⟩
abbrev S1x4112 : Shape := ⟨2, ![1, 4112]⟩
abbrev S1x4112x1 : Shape := ⟨3, ![1, 4112, 1]⟩
abbrev S1x1x512 : Shape := ⟨3, ![1, 1, 512]⟩
abbrev S4112x512 : Shape := ⟨2, ![4112, 512]⟩
abbrev S4224x512 : Shape := ⟨2, ![4224, 512]⟩

abbrev nBuf : Space → Nat
  | .hbm => 24
  | .vmem => 0
  | .smem => 0
  | _ => 0

abbrev bufTy : (tb : Table) → Fin (tcTables nBuf tb) → BufTy
  | .hbm, ⟨0, _⟩ => ⟨S1x4112x11520, .f32⟩
  | .hbm, ⟨1, _⟩ => ⟨S512, .f32⟩
  | .hbm, ⟨2, _⟩ => ⟨S1x4112x512, .f32⟩
  | .hbm, ⟨3, _⟩ => ⟨S1x4112x512, .f32⟩
  | .hbm, ⟨4, _⟩ => ⟨S_, .f32⟩
  | .hbm, ⟨5, _⟩ => ⟨S1x4112, .f32⟩
  | .hbm, ⟨6, _⟩ => ⟨S1x4112x1, .f32⟩
  | .hbm, ⟨7, _⟩ => ⟨S_, .f32⟩
  | .hbm, ⟨8, _⟩ => ⟨S1x4112x1, .f32⟩
  | .hbm, ⟨9, _⟩ => ⟨S1x4112x1, .f32⟩
  | .hbm, ⟨10, _⟩ => ⟨S_, .f32⟩
  | .hbm, ⟨11, _⟩ => ⟨S1x4112x1, .f32⟩
  | .hbm, ⟨12, _⟩ => ⟨S1x4112x1, .f32⟩
  | .hbm, ⟨13, _⟩ => ⟨S1x4112x1, .f32⟩
  | .hbm, ⟨14, _⟩ => ⟨S1x4112x512, .f32⟩
  | .hbm, ⟨15, _⟩ => ⟨S1x4112x512, .f32⟩
  | .hbm, ⟨16, _⟩ => ⟨S1x1x512, .f32⟩
  | .hbm, ⟨17, _⟩ => ⟨S1x4112x512, .f32⟩
  | .hbm, ⟨18, _⟩ => ⟨S1x4112x512, .f32⟩
  | .hbm, ⟨19, _⟩ => ⟨S4112x512, .f32⟩
  | .hbm, ⟨20, _⟩ => ⟨S_, .i32⟩
  | .hbm, ⟨21, _⟩ => ⟨S_, .f32⟩
  | .hbm, ⟨22, _⟩ => ⟨S4224x512, .f32⟩
  | .hbm, ⟨23, _⟩ => ⟨S4224x512, .bf16⟩
  | _, _ => ⟨S1x4112x11520, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_cst_0 : Ref sig .tc := ⟨.hbm, 7, rfl⟩
abbrev main_v4 : Ref sig .tc := ⟨.hbm, 8, rfl⟩
abbrev main_v5 : Ref sig .tc := ⟨.hbm, 9, rfl⟩
abbrev main_cst_1 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_c : Ref sig .tc := ⟨.hbm, 20, rfl⟩
abbrev main_call0_v0 : Ref sig .tc := ⟨.hbm, 21, rfl⟩
abbrev main_v15 : Ref sig .tc := ⟨.hbm, 22, rfl⟩
abbrev main_v16 : Ref sig .tc := ⟨.hbm, 23, rfl⟩

abbrev nD : Nat := 1
abbrev τ : Topo := Topo.v7x

variable {F : FTy → Type} [FloatOps F]
-- ==== DlatQ.lean ====
abbrev S1x4112x11520 : Shape := ⟨3, ![1, 4112, 11520]⟩
abbrev S512 : Shape := ⟨1, ![512]⟩
abbrev S1x4112x512 : Shape := ⟨3, ![1, 4112, 512]⟩
abbrev S4112x11520 : Shape := ⟨2, ![4112, 11520]⟩
abbrev S_ : Shape := ⟨0, ![]⟩
abbrev S4224x11520 : Shape := ⟨2, ![4224, 11520]⟩
abbrev S4112x512 : Shape := ⟨2, ![4112, 512]⟩
abbrev S4224x512 : Shape := ⟨2, ![4224, 512]⟩
abbrev S1x512 : Shape := ⟨2, ![1, 512]⟩
abbrev S384x512 : Shape := ⟨2, ![384, 512]⟩
abbrev S384 : Shape := ⟨1, ![384]⟩
abbrev S384x1 : Shape := ⟨2, ![384, 1]⟩

abbrev nBuf : Space → Nat
  | .hbm => 15
  | .vmem => 10
  | .smem => 0
  | _ => 0

abbrev bufTy : (tb : Table) → Fin (tcTables nBuf tb) → BufTy
  | .hbm, ⟨0, _⟩ => ⟨S1x4112x11520, .f32⟩
  | .hbm, ⟨1, _⟩ => ⟨S512, .f32⟩
  | .hbm, ⟨2, _⟩ => ⟨S1x4112x512, .f32⟩
  | .hbm, ⟨3, _⟩ => ⟨S4112x11520, .f32⟩
  | .hbm, ⟨4, _⟩ => ⟨S_, .i32⟩
  | .hbm, ⟨5, _⟩ => ⟨S_, .f32⟩
  | .hbm, ⟨6, _⟩ => ⟨S4224x11520, .f32⟩
  | .hbm, ⟨7, _⟩ => ⟨S4112x512, .f32⟩
  | .hbm, ⟨8, _⟩ => ⟨S_, .i32⟩
  | .hbm, ⟨9, _⟩ => ⟨S_, .f32⟩
  | .hbm, ⟨10, _⟩ => ⟨S4224x512, .f32⟩
  | .hbm, ⟨11, _⟩ => ⟨S1x512, .f32⟩
  | .hbm, ⟨12, _⟩ => ⟨S4224x512, .f32⟩
  | .hbm, ⟨13, _⟩ => ⟨S4224x512, .bf16⟩
  | .hbm, ⟨14, _⟩ => ⟨S1x512, .f32⟩
  | .local _ .vmem, ⟨0, _⟩ => ⟨S384x512, .f32⟩
  | .local _ .vmem, ⟨1, _⟩ => ⟨S384x512, .f32⟩
  | .local _ .vmem, ⟨2, _⟩ => ⟨S1x512, .f32⟩
  | .local _ .vmem, ⟨3, _⟩ => ⟨S384x512, .f32⟩
  | .local _ .vmem, ⟨4, _⟩ => ⟨S384x512, .f32⟩
  | .local _ .vmem, ⟨5, _⟩ => ⟨S384x512, .f32⟩
  | .local _ .vmem, ⟨6, _⟩ => ⟨S384x512, .f32⟩
  | .local _ .vmem, ⟨7, _⟩ => ⟨S384x512, .bf16⟩
  | .local _ .vmem, ⟨8, _⟩ => ⟨S384x512, .bf16⟩
  | .local _ .vmem, ⟨9, _⟩ => ⟨S1x512, .f32⟩
  | _, _ => ⟨S1x4112x11520, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_c : Ref sig .tc := ⟨.hbm, 4, rfl⟩
abbrev main_call0_v0 : Ref sig .tc := ⟨.hbm, 5, rfl⟩
abbrev main_v1 : Ref sig .tc := ⟨.hbm, 6, rfl⟩
abbrev main_v2 : Ref sig .tc := ⟨.hbm, 7, rfl⟩
abbrev main_c_0 : Ref sig .tc := ⟨.hbm, 8, rfl⟩
abbrev main_call1_v0 : Ref sig .tc := ⟨.hbm, 9, rfl⟩
abbrev main_v3 : Ref sig .tc := ⟨.hbm, 10, rfl⟩
abbrev main_v4 : Ref sig .tc := ⟨.hbm, 11, rfl⟩
abbrev main_v5_0 : Ref sig .tc := ⟨.hbm, 12, rfl⟩
abbrev main_v5_1 : Ref sig .tc := ⟨.hbm, 13, rfl⟩
abbrev main_v5_2 : Ref sig .tc := ⟨.hbm, 14, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9

abbrev nD : Nat := 1
abbrev τ : Topo := Topo.v7x

variable {F : FTy → Type} [FloatOps F]

abbrev grid0 : Pipeline.Grid := ⟨1, ![11], ![false]⟩

def cc0_transform_0 (i : grid0.Coords) : Fin 2 → Nat :=
  let arg0 : BitVec 32 := BitVec.ofNat 32 (i 0).val
  let c18_i32 : BitVec 32 := 18#32
  let c0_i32 : BitVec 32 := 0#32
  ![arg0.toNat, c18_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S384x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x512 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S384x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S384x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S384x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S1x512 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]
-- ==== DlatQRefIdeal.lean ====
abbrev S1x4112x11520 : Shape := ⟨3, ![1, 4112, 11520]⟩
abbrev S512 : Shape := ⟨1, ![512]⟩
abbrev S1x4112x512 : Shape := ⟨3, ![1, 4112, 512]⟩
abbrev S_ : Shape := ⟨0, ![]⟩
abbrev S1x4112 : Shape := ⟨2, ![1, 4112]⟩
abbrev S1x4112x1 : Shape := ⟨3, ![1, 4112, 1]⟩
abbrev S1x1x512 : Shape := ⟨3, ![1, 1, 512]⟩
abbrev S1x512 : Shape := ⟨2, ![1, 512]⟩
abbrev S4112 : Shape := ⟨1, ![4112]⟩
abbrev S4112x512 : Shape := ⟨2, ![4112, 512]⟩
abbrev S4224x512 : Shape := ⟨2, ![4224, 512]⟩

abbrev nBuf : Space → Nat
  | .hbm => 56
  | .vmem => 0
  | .smem => 0
  | _ => 0

abbrev bufTy : (tb : Table) → Fin (tcTables nBuf tb) → BufTy
  | .hbm, ⟨0, _⟩ => ⟨S1x4112x11520, .f32⟩
  | .hbm, ⟨1, _⟩ => ⟨S512, .f32⟩
  | .hbm, ⟨2, _⟩ => ⟨S1x4112x512, .f32⟩
  | .hbm, ⟨3, _⟩ => ⟨S1x4112x512, .f32⟩
  | .hbm, ⟨4, _⟩ => ⟨S1x4112x512, .f32⟩
  | .hbm, ⟨5, _⟩ => ⟨S_, .f32⟩
  | .hbm, ⟨6, _⟩ => ⟨S1x4112, .f32⟩
  | .hbm, ⟨7, _⟩ => ⟨S1x4112x1, .f32⟩
  | .hbm, ⟨8, _⟩ => ⟨S_, .f32⟩
  | .hbm, ⟨9, _⟩ => ⟨S1x4112x1, .f32⟩
  | .hbm, ⟨10, _⟩ => ⟨S1x4112x1, .f32⟩
  | .hbm, ⟨11, _⟩ => ⟨S_, .f32⟩
  | .hbm, ⟨12, _⟩ => ⟨S1x4112x1, .f32⟩
  | .hbm, ⟨13, _⟩ => ⟨S1x4112x1, .f32⟩
  | .hbm, ⟨14, _⟩ => ⟨S1x4112x1, .f32⟩
  | .hbm, ⟨15, _⟩ => ⟨S1x4112x1, .f32⟩
  | .hbm, ⟨16, _⟩ => ⟨S_, .f32⟩
  | .hbm, ⟨17, _⟩ => ⟨S1x4112x1, .f32⟩
  | .hbm, ⟨18, _⟩ => ⟨S1x4112x1, .f32⟩
  | .hbm, ⟨19, _⟩ => ⟨S1x4112x512, .f32⟩
  | .hbm, ⟨20, _⟩ => ⟨S1x4112x512, .f32⟩
  | .hbm, ⟨21, _⟩ => ⟨S1x1x512, .f32⟩
  | .hbm, ⟨22, _⟩ => ⟨S1x4112x512, .f32⟩
  | .hbm, ⟨23, _⟩ => ⟨S1x4112x512, .f32⟩
  | .hbm, ⟨24, _⟩ => ⟨S1x4112x512, .f32⟩
  | .hbm, ⟨25, _⟩ => ⟨S_, .f32⟩
  | .hbm, ⟨26, _⟩ => ⟨S1x512, .f32⟩
  | .hbm, ⟨27, _⟩ => ⟨S1x1x512, .f32⟩
  | .hbm, ⟨28, _⟩ => ⟨S1x4112x512, .f32⟩
  | .hbm, ⟨29, _⟩ => ⟨S1x4112x512, .f32⟩
  | .hbm, ⟨30, _⟩ => ⟨S_, .f32⟩
  | .hbm, ⟨31, _⟩ => ⟨S512, .f32⟩
  | .hbm, ⟨32, _⟩ => ⟨S1x4112x512, .f32⟩
  | .hbm, ⟨33, _⟩ => ⟨S_, .f32⟩
  | .hbm, ⟨34, _⟩ => ⟨S1x4112, .f32⟩
  | .hbm, ⟨35, _⟩ => ⟨S1x4112x1, .f32⟩
  | .hbm, ⟨36, _⟩ => ⟨S1x4112x512, .f32⟩
  | .hbm, ⟨37, _⟩ => ⟨S1x4112x512, .f32⟩
  | .hbm, ⟨38, _⟩ => ⟨S1x4112x1, .f32⟩
  | .hbm, ⟨39, _⟩ => ⟨S_, .f32⟩
  | .hbm, ⟨40, _⟩ => ⟨S1x4112x1, .f32⟩
  | .hbm, ⟨41, _⟩ => ⟨S1x4112x1, .f32⟩
  | .hbm, ⟨42, _⟩ => ⟨S_, .f32⟩
  | .hbm, ⟨43, _⟩ => ⟨S4112, .f32⟩
  | .hbm, ⟨44, _⟩ => ⟨S1x4112, .f32⟩
  | .hbm, ⟨45, _⟩ => ⟨S1x4112x512, .f32⟩
  | .hbm, ⟨46, _⟩ => ⟨S1x4112x512, .f32⟩
  | .hbm, ⟨47, _⟩ => ⟨S1x4112x512, .f32⟩
  | .hbm, ⟨48, _⟩ => ⟨S1x4112x512, .f32⟩
  | .hbm, ⟨49, _⟩ => ⟨S1x4112x512, .f32⟩
  | .hbm, ⟨50, _⟩ => ⟨S4112x512, .f32⟩
  | .hbm, ⟨51, _⟩ => ⟨S_, .i32⟩
  | .hbm, ⟨52, _⟩ => ⟨S_, .f32⟩
  | .hbm, ⟨53, _⟩ => ⟨S4224x512, .f32⟩
  | .hbm, ⟨54, _⟩ => ⟨S4224x512, .bf16⟩
  | .hbm, ⟨55, _⟩ => ⟨S1x512, .f32⟩
  | _, _ => ⟨S1x4112x11520, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_cst : Ref sig .tc := ⟨.hbm, 5, rfl⟩
abbrev main_v2 : Ref sig .tc := ⟨.hbm, 6, rfl⟩
abbrev main_v3 : Ref sig .tc := ⟨.hbm, 7, rfl⟩
abbrev main_cst_0 : Ref sig .tc := ⟨.hbm, 8, rfl⟩
abbrev main_v4 : Ref sig .tc := ⟨.hbm, 9, rfl⟩
abbrev main_v5 : Ref sig .tc := ⟨.hbm, 10, rfl⟩
abbrev main_cst_1 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_cst_2 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_cst_3 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_cst_4 : Ref sig .tc := ⟨.hbm, 30, rfl⟩
abbrev main_v22 : Ref sig .tc := ⟨.hbm, 31, rfl⟩
abbrev main_v23 : Ref sig .tc := ⟨.hbm, 32, rfl⟩
abbrev main_cst_5 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_cst_6 : Ref sig .tc := ⟨.hbm, 39, rfl⟩
abbrev main_v29 : Ref sig .tc := ⟨.hbm, 40, rfl⟩
abbrev main_v30 : Ref sig .tc := ⟨.hbm, 41, rfl⟩
abbrev main_cst_7 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_v35 : Ref sig .tc := ⟨.hbm, 47, rfl⟩
abbrev main_v36 : Ref sig .tc := ⟨.hbm, 48, rfl⟩
abbrev main_v37 : Ref sig .tc := ⟨.hbm, 49, rfl⟩
abbrev main_v38 : Ref sig .tc := ⟨.hbm, 50, rfl⟩
abbrev main_c : Ref sig .tc := ⟨.hbm, 51, rfl⟩
abbrev main_call0_v0 : Ref sig .tc := ⟨.hbm, 52, rfl⟩
abbrev main_v39 : Ref sig .tc := ⟨.hbm, 53, rfl⟩
abbrev main_v40 : Ref sig .tc := ⟨.hbm, 54, rfl⟩
abbrev main_v41 : Ref sig .tc := ⟨.hbm, 55, rfl⟩

abbrev nD : Nat := 1
abbrev τ : Topo := Topo.v7x

variable {F : FTy → Type} [FloatOps F]
-- ==== DlatKv.lean ====
abbrev S1x4112x11520 : Shape := ⟨3, ![1, 4112, 11520]⟩
abbrev S512 : Shape := ⟨1, ![512]⟩
abbrev S1x4112x512 : Shape := ⟨3, ![1, 4112, 512]⟩
abbrev S4112x11520 : Shape := ⟨2, ![4112, 11520]⟩
abbrev S_ : Shape := ⟨0, ![]⟩
abbrev S4224x11520 : Shape := ⟨2, ![4224, 11520]⟩
abbrev S4112x512 : Shape := ⟨2, ![4112, 512]⟩
abbrev S4224x512 : Shape := ⟨2, ![4224, 512]⟩
abbrev S1x512 : Shape := ⟨2, ![1, 512]⟩
abbrev S384x512 : Shape := ⟨2, ![384, 512]⟩
abbrev S384 : Shape := ⟨1, ![384]⟩
abbrev S384x1 : Shape := ⟨2, ![384, 1]⟩

abbrev nBuf : Space → Nat
  | .hbm => 15
  | .vmem => 10
  | .smem => 0
  | _ => 0

abbrev bufTy : (tb : Table) → Fin (tcTables nBuf tb) → BufTy
  | .hbm, ⟨0, _⟩ => ⟨S1x4112x11520, .f32⟩
  | .hbm, ⟨1, _⟩ => ⟨S512, .f32⟩
  | .hbm, ⟨2, _⟩ => ⟨S1x4112x512, .f32⟩
  | .hbm, ⟨3, _⟩ => ⟨S4112x11520, .f32⟩
  | .hbm, ⟨4, _⟩ => ⟨S_, .i32⟩
  | .hbm, ⟨5, _⟩ => ⟨S_, .f32⟩
  | .hbm, ⟨6, _⟩ => ⟨S4224x11520, .f32⟩
  | .hbm, ⟨7, _⟩ => ⟨S4112x512, .f32⟩
  | .hbm, ⟨8, _⟩ => ⟨S_, .i32⟩
  | .hbm, ⟨9, _⟩ => ⟨S_, .f32⟩
  | .hbm, ⟨10, _⟩ => ⟨S4224x512, .f32⟩
  | .hbm, ⟨11, _⟩ => ⟨S1x512, .f32⟩
  | .hbm, ⟨12, _⟩ => ⟨S4224x512, .f32⟩
  | .hbm, ⟨13, _⟩ => ⟨S4224x512, .bf16⟩
  | .hbm, ⟨14, _⟩ => ⟨S1x512, .f32⟩
  | .local _ .vmem, ⟨0, _⟩ => ⟨S384x512, .f32⟩
  | .local _ .vmem, ⟨1, _⟩ => ⟨S384x512, .f32⟩
  | .local _ .vmem, ⟨2, _⟩ => ⟨S1x512, .f32⟩
  | .local _ .vmem, ⟨3, _⟩ => ⟨S384x512, .f32⟩
  | .local _ .vmem, ⟨4, _⟩ => ⟨S384x512, .f32⟩
  | .local _ .vmem, ⟨5, _⟩ => ⟨S384x512, .f32⟩
  | .local _ .vmem, ⟨6, _⟩ => ⟨S384x512, .f32⟩
  | .local _ .vmem, ⟨7, _⟩ => ⟨S384x512, .bf16⟩
  | .local _ .vmem, ⟨8, _⟩ => ⟨S384x512, .bf16⟩
  | .local _ .vmem, ⟨9, _⟩ => ⟨S1x512, .f32⟩
  | _, _ => ⟨S1x4112x11520, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_c : Ref sig .tc := ⟨.hbm, 4, rfl⟩
abbrev main_call0_v0 : Ref sig .tc := ⟨.hbm, 5, rfl⟩
abbrev main_v1 : Ref sig .tc := ⟨.hbm, 6, rfl⟩
abbrev main_v2 : Ref sig .tc := ⟨.hbm, 7, rfl⟩
abbrev main_c_0 : Ref sig .tc := ⟨.hbm, 8, rfl⟩
abbrev main_call1_v0 : Ref sig .tc := ⟨.hbm, 9, rfl⟩
abbrev main_v3 : Ref sig .tc := ⟨.hbm, 10, rfl⟩
abbrev main_v4 : Ref sig .tc := ⟨.hbm, 11, rfl⟩
abbrev main_v5_0 : Ref sig .tc := ⟨.hbm, 12, rfl⟩
abbrev main_v5_1 : Ref sig .tc := ⟨.hbm, 13, rfl⟩
abbrev main_v5_2 : Ref sig .tc := ⟨.hbm, 14, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9

abbrev nD : Nat := 1
abbrev τ : Topo := Topo.v7x

variable {F : FTy → Type} [FloatOps F]

abbrev grid0 : Pipeline.Grid := ⟨1, ![11], ![false]⟩

def cc0_transform_0 (i : grid0.Coords) : Fin 2 → Nat :=
  let arg0 : BitVec 32 := BitVec.ofNat 32 (i 0).val
  let c19_i32 : BitVec 32 := 19#32
  let c0_i32 : BitVec 32 := 0#32
  ![arg0.toNat, c19_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S384x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x512 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S384x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S384x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S384x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S1x512 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]
-- ==== DlatKvRefIdeal.lean ====
abbrev S1x4112x11520 : Shape := ⟨3, ![1, 4112, 11520]⟩
abbrev S512 : Shape := ⟨1, ![512]⟩
abbrev S1x4112x512 : Shape := ⟨3, ![1, 4112, 512]⟩
abbrev S_ : Shape := ⟨0, ![]⟩
abbrev S1x4112 : Shape := ⟨2, ![1, 4112]⟩
abbrev S1x4112x1 : Shape := ⟨3, ![1, 4112, 1]⟩
abbrev S1x1x512 : Shape := ⟨3, ![1, 1, 512]⟩
abbrev S1x512 : Shape := ⟨2, ![1, 512]⟩
abbrev S4112 : Shape := ⟨1, ![4112]⟩
abbrev S4112x512 : Shape := ⟨2, ![4112, 512]⟩
abbrev S4224x512 : Shape := ⟨2, ![4224, 512]⟩

abbrev nBuf : Space → Nat
  | .hbm => 56
  | .vmem => 0
  | .smem => 0
  | _ => 0

abbrev bufTy : (tb : Table) → Fin (tcTables nBuf tb) → BufTy
  | .hbm, ⟨0, _⟩ => ⟨S1x4112x11520, .f32⟩
  | .hbm, ⟨1, _⟩ => ⟨S512, .f32⟩
  | .hbm, ⟨2, _⟩ => ⟨S1x4112x512, .f32⟩
  | .hbm, ⟨3, _⟩ => ⟨S1x4112x512, .f32⟩
  | .hbm, ⟨4, _⟩ => ⟨S1x4112x512, .f32⟩
  | .hbm, ⟨5, _⟩ => ⟨S_, .f32⟩
  | .hbm, ⟨6, _⟩ => ⟨S1x4112, .f32⟩
  | .hbm, ⟨7, _⟩ => ⟨S1x4112x1, .f32⟩
  | .hbm, ⟨8, _⟩ => ⟨S_, .f32⟩
  | .hbm, ⟨9, _⟩ => ⟨S1x4112x1, .f32⟩
  | .hbm, ⟨10, _⟩ => ⟨S1x4112x1, .f32⟩
  | .hbm, ⟨11, _⟩ => ⟨S_, .f32⟩
  | .hbm, ⟨12, _⟩ => ⟨S1x4112x1, .f32⟩
  | .hbm, ⟨13, _⟩ => ⟨S1x4112x1, .f32⟩
  | .hbm, ⟨14, _⟩ => ⟨S1x4112x1, .f32⟩
  | .hbm, ⟨15, _⟩ => ⟨S1x4112x1, .f32⟩
  | .hbm, ⟨16, _⟩ => ⟨S_, .f32⟩
  | .hbm, ⟨17, _⟩ => ⟨S1x4112x1, .f32⟩
  | .hbm, ⟨18, _⟩ => ⟨S1x4112x1, .f32⟩
  | .hbm, ⟨19, _⟩ => ⟨S1x4112x512, .f32⟩
  | .hbm, ⟨20, _⟩ => ⟨S1x4112x512, .f32⟩
  | .hbm, ⟨21, _⟩ => ⟨S1x1x512, .f32⟩
  | .hbm, ⟨22, _⟩ => ⟨S1x4112x512, .f32⟩
  | .hbm, ⟨23, _⟩ => ⟨S1x4112x512, .f32⟩
  | .hbm, ⟨24, _⟩ => ⟨S1x4112x512, .f32⟩
  | .hbm, ⟨25, _⟩ => ⟨S_, .f32⟩
  | .hbm, ⟨26, _⟩ => ⟨S1x512, .f32⟩
  | .hbm, ⟨27, _⟩ => ⟨S1x1x512, .f32⟩
  | .hbm, ⟨28, _⟩ => ⟨S1x4112x512, .f32⟩
  | .hbm, ⟨29, _⟩ => ⟨S1x4112x512, .f32⟩
  | .hbm, ⟨30, _⟩ => ⟨S_, .f32⟩
  | .hbm, ⟨31, _⟩ => ⟨S512, .f32⟩
  | .hbm, ⟨32, _⟩ => ⟨S1x4112x512, .f32⟩
  | .hbm, ⟨33, _⟩ => ⟨S_, .f32⟩
  | .hbm, ⟨34, _⟩ => ⟨S1x4112, .f32⟩
  | .hbm, ⟨35, _⟩ => ⟨S1x4112x1, .f32⟩
  | .hbm, ⟨36, _⟩ => ⟨S1x4112x512, .f32⟩
  | .hbm, ⟨37, _⟩ => ⟨S1x4112x512, .f32⟩
  | .hbm, ⟨38, _⟩ => ⟨S1x4112x1, .f32⟩
  | .hbm, ⟨39, _⟩ => ⟨S_, .f32⟩
  | .hbm, ⟨40, _⟩ => ⟨S1x4112x1, .f32⟩
  | .hbm, ⟨41, _⟩ => ⟨S1x4112x1, .f32⟩
  | .hbm, ⟨42, _⟩ => ⟨S_, .f32⟩
  | .hbm, ⟨43, _⟩ => ⟨S4112, .f32⟩
  | .hbm, ⟨44, _⟩ => ⟨S1x4112, .f32⟩
  | .hbm, ⟨45, _⟩ => ⟨S1x4112x512, .f32⟩
  | .hbm, ⟨46, _⟩ => ⟨S1x4112x512, .f32⟩
  | .hbm, ⟨47, _⟩ => ⟨S1x4112x512, .f32⟩
  | .hbm, ⟨48, _⟩ => ⟨S1x4112x512, .f32⟩
  | .hbm, ⟨49, _⟩ => ⟨S1x4112x512, .f32⟩
  | .hbm, ⟨50, _⟩ => ⟨S4112x512, .f32⟩
  | .hbm, ⟨51, _⟩ => ⟨S_, .i32⟩
  | .hbm, ⟨52, _⟩ => ⟨S_, .f32⟩
  | .hbm, ⟨53, _⟩ => ⟨S4224x512, .f32⟩
  | .hbm, ⟨54, _⟩ => ⟨S4224x512, .bf16⟩
  | .hbm, ⟨55, _⟩ => ⟨S1x512, .f32⟩
  | _, _ => ⟨S1x4112x11520, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_cst : Ref sig .tc := ⟨.hbm, 5, rfl⟩
abbrev main_v2 : Ref sig .tc := ⟨.hbm, 6, rfl⟩
abbrev main_v3 : Ref sig .tc := ⟨.hbm, 7, rfl⟩
abbrev main_cst_0 : Ref sig .tc := ⟨.hbm, 8, rfl⟩
abbrev main_v4 : Ref sig .tc := ⟨.hbm, 9, rfl⟩
abbrev main_v5 : Ref sig .tc := ⟨.hbm, 10, rfl⟩
abbrev main_cst_1 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_cst_2 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_cst_3 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_cst_4 : Ref sig .tc := ⟨.hbm, 30, rfl⟩
abbrev main_v22 : Ref sig .tc := ⟨.hbm, 31, rfl⟩
abbrev main_v23 : Ref sig .tc := ⟨.hbm, 32, rfl⟩
abbrev main_cst_5 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_cst_6 : Ref sig .tc := ⟨.hbm, 39, rfl⟩
abbrev main_v29 : Ref sig .tc := ⟨.hbm, 40, rfl⟩
abbrev main_v30 : Ref sig .tc := ⟨.hbm, 41, rfl⟩
abbrev main_cst_7 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_v35 : Ref sig .tc := ⟨.hbm, 47, rfl⟩
abbrev main_v36 : Ref sig .tc := ⟨.hbm, 48, rfl⟩
abbrev main_v37 : Ref sig .tc := ⟨.hbm, 49, rfl⟩
abbrev main_v38 : Ref sig .tc := ⟨.hbm, 50, rfl⟩
abbrev main_c : Ref sig .tc := ⟨.hbm, 51, rfl⟩
abbrev main_call0_v0 : Ref sig .tc := ⟨.hbm, 52, rfl⟩
abbrev main_v39 : Ref sig .tc := ⟨.hbm, 53, rfl⟩
abbrev main_v40 : Ref sig .tc := ⟨.hbm, 54, rfl⟩
abbrev main_v41 : Ref sig .tc := ⟨.hbm, 55, rfl⟩

abbrev nD : Nat := 1
abbrev τ : Topo := Topo.v7x

variable {F : FTy → Type} [FloatOps F]
-- ==== Proof.Tile.lean ====
module

public import proofs.«01_k».proof.Proof.Gen.KernelIdeal.Skeleton
public import Idealize.ShloMosaic.Lib.Pipeline.Value
public import Idealize.ShloMosaic.Lib.ValueIdx
public import Idealize.ShloMosaic.Lib.WordCmp
public import Idealize.ShloMosaic.PureOps.Ideal.Laws

@[expose] public section

noncomputable section

/-! Each pure value of the kernel's body, read at one place of its tile over the extended reals. -/
namespace Cert.KernelIdeal.Tile

open Cert.KernelIdeal Cert.KernelIdeal.Gen Idealize.ShloMosaic Idealize.ShloMosaic.ValueIdx

/-- The scale of the scores, as the kernel's constant word. -/
abbrev scE : EReal := Ideal.ofBits .f32 0x3D93CD3A#32

/-- The zero word is zero. -/
theorem zeroW : Ideal.ofBits .f32 0x00000000#32 = 0 := by
  simp [Ideal.ofBits, Ideal.ieee, -EReal.coe_mul]

/-- A product of two tiles over their last axes (keys by queries, 256 wide). -/
theorem mmT256 (a b : FVec Ideal S384x256 .bf16) (j i : Fin 384) :
    matmul (F := Ideal) dot_S384x256_S384x256_S384x384_1_1_0_0_n_n none a b (constant (F := Ideal) S384x384 .f32 0x00000000#32) (ix2 j i)
      = ∑ d : Fin 256, a (ix2 j d) * b (ix2 i d) := by
  unfold matmul
  rw [Ideal.matmul_constant_zero_apply, ← Equiv.sum_comp (contrEquiv1 dot_S384x256_S384x256_S384x384_1_1_0_0_n_n 256 rfl rfl).symm]
  refine Finset.sum_congr rfl fun k _ => ?_
  have hk := contrEquiv1_symm_val dot_S384x256_S384x256_S384x384_1_1_0_0_n_n 256 rfl rfl k
  congr 2
  · funext d
    match d with
    | ⟨0, _⟩ => rfl
    | ⟨1, _⟩ => exact Fin.ext ((DotDims.lhsIdx_val_of_single _ rfl _ _).trans hk)
  · funext d
    match d with
    | ⟨0, _⟩ => rfl
    | ⟨1, _⟩ => exact Fin.ext ((DotDims.rhsIdx_val_of_single _ rfl _ _).trans hk)

/-- A product of two tiles over their last axes (keys by queries, 128 wide). -/
theorem mmT128 (a b : FVec Ideal S384x128 .bf16) (j i : Fin 384) :
    matmul (F := Ideal) dot_S384x128_S384x128_S384x384_1_1_0_0_n_n none a b (constant (F := Ideal) S384x384 .f32 0x00000000#32) (ix2 j i)
      = ∑ d : Fin 128, a (ix2 j d) * b (ix2 i d) := by
  unfold matmul
  rw [Ideal.matmul_constant_zero_apply, ← Equiv.sum_comp (contrEquiv1 dot_S384x128_S384x128_S384x384_1_1_0_0_n_n 128 rfl rfl).symm]
  refine Finset.sum_congr rfl fun k _ => ?_
  have hk := contrEquiv1_symm_val dot_S384x128_S384x128_S384x384_1_1_0_0_n_n 128 rfl rfl k
  congr 2
  · funext d
    match d with
    | ⟨0, _⟩ => rfl
    | ⟨1, _⟩ => exact Fin.ext ((DotDims.lhsIdx_val_of_single _ rfl _ _).trans hk)
  · funext d
    match d with
    | ⟨0, _⟩ => rfl
    | ⟨1, _⟩ => exact Fin.ext ((DotDims.rhsIdx_val_of_single _ rfl _ _).trans hk)

/-- A tile of weights times the queries' rows, 256 wide. -/
theorem mmN256 (p : FVec Ideal S384x384 .bf16) (b : FVec Ideal S384x256 .bf16) (j : Fin 384) (d : Fin 256) :
    matmul (F := Ideal) dot_S384x384_S384x256_S384x256_1_0_0_1_n_n none p b (constant (F := Ideal) S384x256 .f32 0x00000000#32) (ix2 j d)
      = ∑ i : Fin 384, p (ix2 j i) * b (ix2 i d) := by
  unfold matmul
  rw [Ideal.matmul_constant_zero_apply, ← Equiv.sum_comp (contrEquiv1 dot_S384x384_S384x256_S384x256_1_0_0_1_n_n 384 rfl rfl).symm]
  refine Finset.sum_congr rfl fun k _ => ?_
  have hk := contrEquiv1_symm_val dot_S384x384_S384x256_S384x256_1_0_0_1_n_n 384 rfl rfl k
  congr 2
  · funext d
    match d with
    | ⟨0, _⟩ => rfl
    | ⟨1, _⟩ => exact Fin.ext ((DotDims.lhsIdx_val_of_single _ rfl _ _).trans hk)
  · funext d
    match d with
    | ⟨0, _⟩ => exact Fin.ext ((DotDims.rhsIdx_val_of_single _ rfl _ _).trans hk)
    | ⟨1, _⟩ => rfl

/-- A tile of weights times the queries' rows, 128 wide. -/
theorem mmN128 (p : FVec Ideal S384x384 .bf16) (b : FVec Ideal S384x128 .bf16) (j : Fin 384) (d : Fin 128) :
    matmul (F := Ideal) dot_S384x384_S384x128_S384x128_1_0_0_1_n_n none p b (constant (F := Ideal) S384x128 .f32 0x00000000#32) (ix2 j d)
      = ∑ i : Fin 384, p (ix2 j i) * b (ix2 i d) := by
  unfold matmul
  rw [Ideal.matmul_constant_zero_apply, ← Equiv.sum_comp (contrEquiv1 dot_S384x384_S384x128_S384x128_1_0_0_1_n_n 384 rfl rfl).symm]
  refine Finset.sum_congr rfl fun k _ => ?_
  have hk := contrEquiv1_symm_val dot_S384x384_S384x128_S384x128_1_0_0_1_n_n 384 rfl rfl k
  congr 2
  · funext d
    match d with
    | ⟨0, _⟩ => rfl
    | ⟨1, _⟩ => exact Fin.ext ((DotDims.lhsIdx_val_of_single _ rfl _ _).trans hk)
  · funext d
    match d with
    | ⟨0, _⟩ => exact Fin.ext ((DotDims.rhsIdx_val_of_single _ rfl _ _).trans hk)
    | ⟨1, _⟩ => rfl

/-- A row of statistics, spread over the keys: place `(j, i)` holds the row's `i`. -/
theorem rowAt (x : FVec Ideal S1x1x1x384 .f32) (j i : Fin 384) :
    broadcastTo S384x384 (shapeCast S1x384 x shapeCasts_S1x1x1x384_S1x384) broadcasts_S1x384_S384x384 (ix2 j i)
      = x (ix4 0 0 0 i) := by
  rw [broadcastTo_apply _ _ _ (ix2 (0 : Fin 1) i) (fun b => by match b with | ⟨0, _⟩ => rfl | ⟨1, _⟩ => rfl)]
  exact shapeCast_apply _ _ _ _ (by
    rw [Shape.rowMajor_val_four, Shape.rowMajor_val_two]; rfl)

/-- The causal mask of a diagonal tile: key row at most query row. -/
theorem maskAt (j i : Fin 384) :
    cmpi .sle (iota .tc S384x384 32 [0] iota_S384x384_d0_w32) (iota .tc S384x384 32 [1] iota_S384x384_d1_w32) (ix2 j i)
      = BitVec.ofBool (decide (j.val ≤ i.val)) := by
  show IntOp.cmpi .sle (iota .tc S384x384 32 [0] iota_S384x384_d0_w32 (ix2 j i)) (iota .tc S384x384 32 [1] iota_S384x384_d1_w32 (ix2 j i)) = _
  rw [iota_single_apply, iota_single_apply]
  show BitVec.ofBool (BitVec.sle (BitVec.ofNat 32 j.val) (BitVec.ofNat 32 i.val)) = _
  congr 1
  have hj := j.isLt
  have hi := i.isLt
  rw [BitVec.sle_eq_decide, BitVec.toInt_ofNat', BitVec.toInt_ofNat']
  congr 1
  apply propext
  simp only [Int.bmod]
  constructor <;> intro h <;> split at * <;> split at * <;> omega

/-- Choosing by a decided condition. -/
theorem sel (p : Prop) [Decidable p] (a b : EReal) : Scalar.select (BitVec.ofBool (decide p)) a b = if p then a else b := by
  by_cases h : p <;> simp [h, Scalar.select]

section At
variable (K Q : FVec Ideal S384x256 .bf16) (V D : FVec Ideal S384x128 .bf16) (L : FVec Ideal S1x1x1x384 .f32)
  (s dp p : FVec Ideal S384x384 .f32) (pb : FVec Ideal S384x384 .bf16)
  (a256 : FVec Ideal S384x256 .f32) (a128 : FVec Ideal S384x128 .f32) (j i : Fin 384) (d : Fin 256) (e : Fin 128)

theorem pay1_at (b : FVec Ideal S384x128 .f32) (x : S384x128.Idx) : k0_pay1 (F := Ideal) a128 b x = a128 x + b x := rfl

theorem pay2_at : k0_pay2 (F := Ideal) a256 dp p L Q (ix2 j d)
    = a256 (ix2 j d) + ∑ i : Fin 384, p (ix2 j i) * (dp (ix2 j i) - L (ix4 0 0 0 i)) * scE * Q (ix2 i d) := by
  show a256 (ix2 j d) + matmul (F := Ideal) dot_S384x384_S384x256_S384x256_1_0_0_1_n_n none _ _ _ (ix2 j d) = _
  rw [mmN256, shapeCast_self]
  congr 1
  refine Finset.sum_congr rfl fun i _ => ?_
  congr 1
  show p (ix2 j i) * (dp (ix2 j i) - broadcastTo S384x384 _ _ (ix2 j i)) * scE = _
  rw [rowAt]

theorem pay3_at : k0_pay3 (F := Ideal) a256 pb Q (ix2 j d) = a256 (ix2 j d) + ∑ i : Fin 384, pb (ix2 j i) * Q (ix2 i d) := by
  show a256 (ix2 j d) + matmul (F := Ideal) dot_S384x384_S384x256_S384x256_1_0_0_1_n_n none _ _ _ (ix2 j d) = _
  rw [mmN256, shapeCast_self]

theorem pay5_at : k0_pay5 (F := Ideal) K Q (ix2 j i) = ∑ d : Fin 256, K (ix2 j d) * Q (ix2 i d) := by
  show matmul (F := Ideal) dot_S384x256_S384x256_S384x384_1_1_0_0_n_n none _ _ _ (ix2 j i) = _
  rw [mmT256, shapeCast_self, shapeCast_self]

theorem pay27_at : k0_pay27 (F := Ideal) K Q (ix2 j i) = ∑ d : Fin 256, K (ix2 j d) * Q (ix2 i d) := pay5_at K Q j i

theorem pay6_at : k0_pay6 (F := Ideal) V D (ix2 j i) = ∑ d : Fin 128, V (ix2 j d) * D (ix2 i d) := by
  show matmul (F := Ideal) dot_S384x128_S384x128_S384x384_1_1_0_0_n_n none _ _ _ (ix2 j i) = _
  rw [mmT128, shapeCast_self, shapeCast_self]

theorem pay7_at : k0_pay7 (F := Ideal) V D (ix2 j i) = ∑ d : Fin 128, V (ix2 j d) * D (ix2 i d) := pay6_at V D j i
theorem pay28_at : k0_pay28 (F := Ideal) V D (ix2 j i) = ∑ d : Fin 128, V (ix2 j d) * D (ix2 i d) := pay6_at V D j i
theorem pay29_at : k0_pay29 (F := Ideal) V D (ix2 j i) = ∑ d : Fin 128, V (ix2 j d) * D (ix2 i d) := pay6_at V D j i

theorem pay12_at : k0_pay12 (F := Ideal) s L (ix2 j i) = Ideal.exp (s (ix2 j i) * scE - L (ix4 0 0 0 i)) := by
  show Ideal.exp (s (ix2 j i) * scE - broadcastTo S384x384 _ _ (ix2 j i)) = _
  rw [rowAt]

theorem pay8_at : k0_pay8 (F := Ideal) K Q L (ix2 j i) = Ideal.exp ((∑ d : Fin 256, K (ix2 j d) * Q (ix2 i d)) * scE - L (ix4 0 0 0 i)) := by
  rw [← pay5_at]; exact pay12_at L (k0_pay5 (F := Ideal) K Q) j i

theorem pay9_at (x : S384x384.Idx) : k0_pay9 (F := Ideal) K Q L x = k0_pay8 (F := Ideal) K Q L x := rfl

theorem pay10_at : k0_pay10 (F := Ideal) a128 pb D (ix2 j e) = a128 (ix2 j e) + ∑ i : Fin 384, pb (ix2 j i) * D (ix2 i e) := by
  show a128 (ix2 j e) + matmul (F := Ideal) dot_S384x384_S384x128_S384x128_1_0_0_1_n_n none _ _ _ (ix2 j e) = _
  rw [mmN128, shapeCast_self]

theorem pay11_at : k0_pay11 (F := Ideal) a256 dp p L Q (ix2 j d)
    = a256 (ix2 j d) + ∑ i : Fin 384, p (ix2 j i) * (dp (ix2 j i) - L (ix4 0 0 0 i)) * scE * Q (ix2 i d) := pay2_at Q L dp p a256 j d

theorem pay13_at : k0_pay13 (F := Ideal) a128 s L D (ix2 j e)
    = a128 (ix2 j e) + ∑ i : Fin 384, Ideal.exp (s (ix2 j i) * scE - L (ix4 0 0 0 i)) * D (ix2 i e) := by
  rw [show k0_pay13 (F := Ideal) a128 s L D = k0_pay10 (F := Ideal) a128 (k0_pay12 (F := Ideal) s L) D from rfl, pay10_at]
  simp only [pay12_at]

theorem pay14_at (R : FVec Ideal S1x1x1x384 .f32) : k0_pay14 (F := Ideal) s dp L R (ix2 j i)
    = Ideal.exp (s (ix2 j i) * scE - L (ix4 0 0 0 i)) * (dp (ix2 j i) - R (ix4 0 0 0 i)) * scE := by
  show k0_pay12 (F := Ideal) s L (ix2 j i) * (dp (ix2 j i) - broadcastTo S384x384 _ _ (ix2 j i)) * scE = _
  rw [pay12_at, rowAt]

theorem pay30_at : k0_pay30 (F := Ideal) K Q L (ix2 j i) = (∑ d : Fin 256, K (ix2 j d) * Q (ix2 i d)) * scE - L (ix4 0 0 0 i) := by
  rw [← pay5_at]
  show k0_pay5 (F := Ideal) K Q (ix2 j i) * scE - broadcastTo S384x384 _ _ (ix2 j i) = _
  rw [rowAt]

theorem pay31_at : k0_pay31 (F := Ideal) s (ix2 j i) = if j.val ≤ i.val then Ideal.exp (s (ix2 j i)) else 0 := by
  show Scalar.select (cmpi .sle _ _ (ix2 j i)) (Ideal.exp (s (ix2 j i))) (Ideal.ofBits .f32 0x00000000#32) = _
  rw [maskAt, sel, zeroW]

theorem pay34_at : k0_pay34 (F := Ideal) s L (ix2 j i) = if j.val ≤ i.val then Ideal.exp (s (ix2 j i) * scE - L (ix4 0 0 0 i)) else 0 := by
  show Scalar.select (cmpi .sle _ _ (ix2 j i)) (k0_pay12 (F := Ideal) s L (ix2 j i)) (Ideal.ofBits .f32 0x00000000#32) = _
  rw [maskAt, sel, zeroW, pay12_at]

theorem pay32_at : k0_pay32 (F := Ideal) a128 s D (ix2 j e) = a128 (ix2 j e) + ∑ i : Fin 384, k0_pay31 (F := Ideal) s (ix2 j i) * D (ix2 i e) :=
  pay10_at D (k0_pay31 (F := Ideal) s) a128 j e

theorem pay33_at : k0_pay33 (F := Ideal) a256 dp s L Q (ix2 j d)
    = a256 (ix2 j d) + ∑ i : Fin 384, k0_pay31 (F := Ideal) s (ix2 j i) * (dp (ix2 j i) - L (ix4 0 0 0 i)) * scE * Q (ix2 i d) :=
  pay2_at Q L dp (k0_pay31 (F := Ideal) s) a256 j d

theorem pay35_at : k0_pay35 (F := Ideal) s L D (ix2 j e) = ∑ i : Fin 384, k0_pay34 (F := Ideal) s L (ix2 j i) * D (ix2 i e) := by
  show matmul (F := Ideal) dot_S384x384_S384x128_S384x128_1_0_0_1_n_n none _ _ _ (ix2 j e) = _
  rw [mmN128, shapeCast_self]
  rfl

theorem pay25_at (x : S384x256.Idx) : k0_pay25 (F := Ideal) x = 0 := zeroW
theorem pay26_at (x : S384x128.Idx) : k0_pay26 (F := Ideal) x = 0 := zeroW

end At

end Cert.KernelIdeal.Tile

end
-- ==== Proof.Head.lean ====
module

public import proofs.«01_k».proof.Proof.Tile

@[expose] public section

noncomputable section

/-! One head's gradient rows over the reals: what one tile of queries adds to the sums for `k` and for `v`. -/
namespace Cert.KernelIdeal.Head

open Cert.KernelIdeal Cert.KernelIdeal.Gen Cert.KernelIdeal.Tile Idealize.ShloMosaic Idealize.ShloMosaic.ValueIdx

/-- The scale of the scores as a real number. -/
def scR : ℝ := scE.toReal

theorem scE_eq : scE = ((scR : ℝ) : EReal) := by
  have h : ∃ r : ℝ, scE = (r : EReal) := by
    simp only [scE, Ideal.ofBits, Ideal.ieee]
    exact ⟨_, rfl⟩
  obtain ⟨r, hr⟩ := h
  rw [scR, hr, EReal.toReal_coe]

/-- A finite sum of reals, cast. -/
theorem coe_sum {ι : Type*} (s : Finset ι) (f : ι → ℝ) : ((∑ i ∈ s, f i : ℝ) : EReal) = ∑ i ∈ s, ((f i : ℝ) : EReal) := by
  classical
  induction s using Finset.induction_on with
  | empty => simp
  | insert a s ha ih => rw [Finset.sum_insert ha, Finset.sum_insert ha, EReal.coe_add, ih]

section
variable (q : ℕ → Fin 256 → ℝ) (k : Fin 384 → Fin 256 → ℝ) (v : Fin 384 → Fin 128 → ℝ) (o : ℕ → Fin 128 → ℝ)
  (l δ : ℕ → ℝ) (κ : ℕ)

/-- The weight of key `j` for the query of row `I`. -/
def wt (j : Fin 384) (I : ℕ) : ℝ := Real.exp ((∑ d, k j d * q I d) * scR - l I)

/-- The gradient of the score of key `j` and the query of row `I`. -/
def ds (j : Fin 384) (I : ℕ) : ℝ := wt q k l j I * ((∑ e, v j e * o I e) - δ I) * scR

/-- The gradient of the key's row `j`, from the queries of the first `n` rows. -/
def accK (n : ℕ) (j : Fin 384) (d : Fin 256) : ℝ :=
  ∑ I ∈ Finset.range n, if 384 * κ + j.val ≤ I then ds q k v o l δ j I * q I d else 0

/-- The gradient of the value's row `j`, from the queries of the first `n` rows. -/
def accV (n : ℕ) (j : Fin 384) (e : Fin 128) : ℝ :=
  ∑ I ∈ Finset.range n, if 384 * κ + j.val ≤ I then wt q k l j I * o I e else 0

theorem range_step (f : ℕ → ℝ) (T : ℕ) (j : Fin 384) (h : κ + 1 ≤ T) :
    (∑ I ∈ Finset.range (384 * (T + 1)), if 384 * κ + j.val ≤ I then f I else 0)
      = (∑ I ∈ Finset.range (384 * T), if 384 * κ + j.val ≤ I then f I else 0) + ∑ i : Fin 384, f (384 * T + i.val) := by
  rw [Nat.mul_succ, Finset.sum_range_add, Finset.sum_range]
  congr 1
  rw [Finset.sum_range]
  refine Finset.sum_congr rfl fun i _ => if_pos ?_
  have := j.isLt
  omega

theorem range_first (f : ℕ → ℝ) (j : Fin 384) :
    (∑ I ∈ Finset.range (384 * (κ + 1)), if 384 * κ + j.val ≤ I then f I else 0)
      = ∑ i : Fin 384, if j.val ≤ i.val then f (384 * κ + i.val) else 0 := by
  rw [Nat.mul_succ, Finset.sum_range_add, Finset.sum_eq_zero, zero_add, Finset.sum_range]
  · refine Finset.sum_congr rfl fun i _ => ?_
    simp
  · intro x hx
    rw [Finset.mem_range] at hx
    exact if_neg (by omega)

theorem accK_step (T : ℕ) (j : Fin 384) (d : Fin 256) (h : κ + 1 ≤ T) : accK q k v o l δ κ (384 * (T + 1)) j d
    = accK q k v o l δ κ (384 * T) j d + ∑ i : Fin 384, ds q k v o l δ j (384 * T + i.val) * q (384 * T + i.val) d :=
  range_step κ (fun I => ds q k v o l δ j I * q I d) T j h

theorem accV_step (T : ℕ) (j : Fin 384) (e : Fin 128) (h : κ + 1 ≤ T) : accV q k o l κ (384 * (T + 1)) j e
    = accV q k o l κ (384 * T) j e + ∑ i : Fin 384, wt q k l j (384 * T + i.val) * o (384 * T + i.val) e :=
  range_step κ (fun I => wt q k l j I * o I e) T j h

theorem accK_first (j : Fin 384) (d : Fin 256) : accK q k v o l δ κ (384 * (κ + 1)) j d
    = ∑ i : Fin 384, if j.val ≤ i.val then ds q k v o l δ j (384 * κ + i.val) * q (384 * κ + i.val) d else 0 :=
  range_first κ (fun I => ds q k v o l δ j I * q I d) j

theorem accV_first (j : Fin 384) (e : Fin 128) : accV q k o l κ (384 * (κ + 1)) j e
    = ∑ i : Fin 384, if j.val ≤ i.val then wt q k l j (384 * κ + i.val) * o (384 * κ + i.val) e else 0 :=
  range_first κ (fun I => wt q k l j I * o I e) j

variable {q k v o l δ κ}
variable {K Q : FVec Ideal S384x256 .bf16} {V D : FVec Ideal S384x128 .bf16} {L R : FVec Ideal S1x1x1x384 .f32} {T : ℕ}
  (hK : ∀ j d, K (ix2 j d) = ((k j d : ℝ) : EReal)) (hQ : ∀ i d, Q (ix2 i d) = ((q (384 * T + i.val) d : ℝ) : EReal))
  (hV : ∀ j e, V (ix2 j e) = ((v j e : ℝ) : EReal)) (hD : ∀ i e, D (ix2 i e) = ((o (384 * T + i.val) e : ℝ) : EReal))
  (hL : ∀ i : Fin 384, L (ix4 0 0 0 i) = ((l (384 * T + i.val) : ℝ) : EReal))
  (hR : ∀ i : Fin 384, R (ix4 0 0 0 i) = ((δ (384 * T + i.val) : ℝ) : EReal))

include hK hQ in
theorem score_real (j i : Fin 384) : (∑ d : Fin 256, K (ix2 j d) * Q (ix2 i d))
    = ((∑ d, k j d * q (384 * T + i.val) d : ℝ) : EReal) := by
  simp only [hK, hQ, ← EReal.coe_mul, ← coe_sum]

include hV hD in
theorem dp_real (j i : Fin 384) : (∑ e : Fin 128, V (ix2 j e) * D (ix2 i e))
    = ((∑ e, v j e * o (384 * T + i.val) e : ℝ) : EReal) := by
  simp only [hV, hD, ← EReal.coe_mul, ← coe_sum]

include hK hQ hL in
theorem wt_real (j i : Fin 384) : Ideal.exp ((∑ d : Fin 256, K (ix2 j d) * Q (ix2 i d)) * scE - L (ix4 0 0 0 i))
    = ((wt q k l j (384 * T + i.val) : ℝ) : EReal) := by
  rw [score_real hK hQ, hL, scE_eq, ← EReal.coe_mul, ← EReal.coe_sub, Ideal.exp_coe]
  rfl

include hK hQ hL hV hD hR in
theorem ds_real (j i : Fin 384) : Ideal.exp ((∑ d : Fin 256, K (ix2 j d) * Q (ix2 i d)) * scE - L (ix4 0 0 0 i))
      * ((∑ e : Fin 128, V (ix2 j e) * D (ix2 i e)) - R (ix4 0 0 0 i)) * scE
    = ((ds q k v o l δ j (384 * T + i.val) : ℝ) : EReal) := by
  rw [wt_real hK hQ hL, dp_real hV hD, hR, scE_eq, ← EReal.coe_sub, ← EReal.coe_mul, ← EReal.coe_mul]
  rfl

section trips
variable {a : FVec Ideal S384x256 .f32} {b : FVec Ideal S384x128 .f32} (hT : κ + 1 ≤ T)
  (ha : ∀ j d, a (ix2 j d) = ((accK q k v o l δ κ (384 * T) j d : ℝ) : EReal))
  (hb : ∀ j e, b (ix2 j e) = ((accV q k o l κ (384 * T) j e : ℝ) : EReal))

include hK hQ hL hV hD hR hT ha in
/-- One more tile of queries for the even head's keys. -/
theorem stepK0 (j : Fin 384) (d : Fin 256) :
    k0_pay11 (F := Ideal) a (k0_pay6 V D) (k0_pay8 K Q L) R Q (ix2 j d)
      = ((accK q k v o l δ κ (384 * (T + 1)) j d : ℝ) : EReal) := by
  rw [pay11_at, ha, accK_step _ _ _ _ _ _ _ _ _ _ hT, EReal.coe_add, coe_sum]
  refine congrArg₂ (· + ·) rfl (Finset.sum_congr rfl fun i _ => ?_)
  rw [pay8_at, pay6_at, ds_real hK hQ hV hD hL hR, hQ, ← EReal.coe_mul]

include hK hQ hL hV hD hR hT ha in
/-- One more tile of queries for the odd head's keys. -/
theorem stepK1 (j : Fin 384) (d : Fin 256) :
    k0_pay3 (F := Ideal) a (k0_pay14 (k0_pay5 K Q) (k0_pay7 V D) L R) Q (ix2 j d)
      = ((accK q k v o l δ κ (384 * (T + 1)) j d : ℝ) : EReal) := by
  rw [pay3_at, ha, accK_step _ _ _ _ _ _ _ _ _ _ hT, EReal.coe_add, coe_sum]
  refine congrArg₂ (· + ·) rfl (Finset.sum_congr rfl fun i _ => ?_)
  rw [pay14_at, pay5_at, pay7_at, ds_real hK hQ hV hD hL hR, hQ, ← EReal.coe_mul]

include hK hQ hL hD hT hb in
/-- One more tile of queries for the even head's values. -/
theorem stepV0 (j : Fin 384) (e : Fin 128) :
    k0_pay10 (F := Ideal) b (k0_pay9 K Q L) D (ix2 j e) = ((accV q k o l κ (384 * (T + 1)) j e : ℝ) : EReal) := by
  rw [pay10_at, hb, accV_step _ _ _ _ _ _ _ _ hT, EReal.coe_add, coe_sum]
  refine congrArg₂ (· + ·) rfl (Finset.sum_congr rfl fun i _ => ?_)
  rw [pay9_at, pay8_at, wt_real hK hQ hL, hD, ← EReal.coe_mul]

include hK hQ hL hD hT hb in
/-- One more tile of queries for the odd head's values. -/
theorem stepV1 (j : Fin 384) (e : Fin 128) :
    k0_pay13 (F := Ideal) b (k0_pay5 K Q) L D (ix2 j e) = ((accV q k o l κ (384 * (T + 1)) j e : ℝ) : EReal) := by
  rw [pay13_at, hb, accV_step _ _ _ _ _ _ _ _ hT, EReal.coe_add, coe_sum]
  refine congrArg₂ (· + ·) rfl (Finset.sum_congr rfl fun i _ => ?_)
  rw [pay5_at, wt_real hK hQ hL, hD, ← EReal.coe_mul]

end trips

include hK hQ hL in
theorem mask_real (j i : Fin 384) :
    (if j.val ≤ i.val then Ideal.exp ((∑ d : Fin 256, K (ix2 j d) * Q (ix2 i d)) * scE - L (ix4 0 0 0 i)) else 0)
      = ((if j.val ≤ i.val then wt q k l j (384 * T + i.val) else 0 : ℝ) : EReal) := by
  rw [wt_real hK hQ hL]
  split <;> simp

include hK hQ hL hV hD hR in
theorem masked_ds (j i : Fin 384) (d : Fin 256) :
    (if j.val ≤ i.val then Ideal.exp ((∑ d : Fin 256, K (ix2 j d) * Q (ix2 i d)) * scE - L (ix4 0 0 0 i)) else 0)
      * ((∑ e : Fin 128, V (ix2 j e) * D (ix2 i e)) - R (ix4 0 0 0 i)) * scE * Q (ix2 i d)
      = ((if j.val ≤ i.val then ds q k v o l δ j (384 * T + i.val) * q (384 * T + i.val) d else 0 : ℝ) : EReal) := by
  rw [mask_real hK hQ hL, dp_real hV hD, hR, scE_eq, hQ, ← EReal.coe_sub, ← EReal.coe_mul, ← EReal.coe_mul, ← EReal.coe_mul]
  congr 1
  split
  · rfl
  · simp

include hK hQ hL hD in
theorem masked_wt (j i : Fin 384) (e : Fin 128) :
    (if j.val ≤ i.val then Ideal.exp ((∑ d : Fin 256, K (ix2 j d) * Q (ix2 i d)) * scE - L (ix4 0 0 0 i)) else 0) * D (ix2 i e)
      = ((if j.val ≤ i.val then wt q k l j (384 * T + i.val) * o (384 * T + i.val) e else 0 : ℝ) : EReal) := by
  rw [mask_real hK hQ hL, hD, ← EReal.coe_mul]
  congr 1
  split
  · rfl
  · simp

include hK hQ hL hV hD hR in
/-- The diagonal tile for the even head's keys. -/
theorem initK0 (hT : T = κ) (j : Fin 384) (d : Fin 256) :
    k0_pay33 (F := Ideal) k0_pay25 (k0_pay28 V D) (k0_pay30 K Q L) R Q (ix2 j d)
      = ((accK q k v o l δ κ (384 * (κ + 1)) j d : ℝ) : EReal) := by
  subst hT
  rw [pay33_at, pay25_at, zero_add, accK_first, coe_sum]
  refine Finset.sum_congr rfl fun i _ => ?_
  rw [pay31_at, pay30_at, pay28_at]
  exact masked_ds hK hQ hV hD hL hR j i d

include hK hQ hL hV hD hR in
/-- The diagonal tile for the odd head's keys. -/
theorem initK1 (hT : T = κ) (j : Fin 384) (d : Fin 256) :
    k0_pay2 (F := Ideal) k0_pay25 (k0_pay29 V D) (k0_pay34 (k0_pay27 K Q) L) R Q (ix2 j d)
      = ((accK q k v o l δ κ (384 * (κ + 1)) j d : ℝ) : EReal) := by
  subst hT
  rw [pay2_at, pay25_at, zero_add, accK_first, coe_sum]
  refine Finset.sum_congr rfl fun i _ => ?_
  rw [pay34_at, pay27_at, pay29_at]
  exact masked_ds hK hQ hV hD hL hR j i d

include hK hQ hL hD in
/-- The diagonal tile for the even head's values. -/
theorem initV0 (hT : T = κ) (j : Fin 384) (e : Fin 128) :
    k0_pay32 (F := Ideal) k0_pay26 (k0_pay30 K Q L) D (ix2 j e) = ((accV q k o l κ (384 * (κ + 1)) j e : ℝ) : EReal) := by
  subst hT
  rw [pay32_at, pay26_at, zero_add, accV_first, coe_sum]
  refine Finset.sum_congr rfl fun i _ => ?_
  rw [pay31_at, pay30_at]
  exact masked_wt hK hQ hD hL j i e

include hK hQ hL hD in
/-- The diagonal tile for the odd head's values. -/
theorem initV1 (hT : T = κ) (j : Fin 384) (e : Fin 128) :
    k0_pay1 (F := Ideal) k0_pay26 (k0_pay35 (k0_pay27 K Q) L D) (ix2 j e) = ((accV q k o l κ (384 * (κ + 1)) j e : ℝ) : EReal) := by
  subst hT
  rw [pay1_at, pay35_at, pay26_at, zero_add, accV_first, coe_sum]
  refine Finset.sum_congr rfl fun i _ => ?_
  rw [pay34_at, pay27_at]
  exact masked_wt hK hQ hD hL j i e

end
end Cert.KernelIdeal.Head
end
-- ==== Proof.Rows.lean ====
module

public import proofs.«01_k».proof.Proof.Head
public import Idealize.ShloMosaic.Lib.KernelVsHost

@[expose] public section

noncomputable section

/-! The causal softmax of real scores, over the reals and as the extended reals compute it. -/
namespace Cert.Rows

open Idealize.ShloMosaic Idealize.ShloMosaic.ValueIdx Cert.KernelIdeal.Head Cert.KernelIdeal.Tile

/-- The word of −∞ is the bottom of the extended reals. -/
theorem botW : Ideal.ofBits .f32 0xFF800000#32 = ⊥ := by simp [Ideal.ofBits, Ideal.ieee]
/-- The word of +∞ is the top. -/
theorem topW : Ideal.ofBits .f32 0x7F800000#32 = ⊤ := by simp [Ideal.ofBits, Ideal.ieee]
/-- The word of one is one. -/
theorem oneW : Ideal.ofBits .f32 0x3F800000#32 = 1 := by
  simp [Ideal.ofBits, Ideal.ieee]
  rw [← EReal.coe_mul, ← EReal.coe_one]
  congr 1
  norm_num

/-- A quotient of reals by a nonzero real is the reals' quotient. -/
theorem div_real (x y : ℝ) (h : y ≠ 0) : Ideal.div (x : EReal) (y : EReal) = ((x / y : ℝ) : EReal) := by
  rw [Ideal.div_coe h, ← EReal.coe_mul]
  congr 1
  field_simp

/-- A maximum from −∞ over finitely many values below ⊤, one of them real, is real. -/
theorem fold_max_real {ι : Type*} (S : Finset ι) (f : ι → EReal) (ht : ∀ i ∈ S, f i < ⊤) (i₀ : ι) (h₀ : i₀ ∈ S) (hb : ⊥ < f i₀) :
    ∃ r : ℝ, S.fold max ⊥ f = (r : EReal) := by
  have h1 : S.fold max ⊥ f < ⊤ := (Finset.fold_max_lt _).mpr ⟨bot_lt_top, ht⟩
  have h2 : ⊥ < S.fold max ⊥ f := (Finset.lt_fold_max _).mpr (Or.inr ⟨i₀, h₀, hb⟩)
  exact ⟨_, (EReal.coe_toReal h1.ne h2.ne').symm⟩

abbrev SS : Shape := ⟨4, ![1, 16, 4112, 4112]⟩
abbrev SR : Shape := ⟨3, ![1, 16, 4112]⟩

/-- The maximum over the keys of a causal row of real scores is real. -/
theorem max_real (x : FVec Ideal SS .f32) (sr : Fin 16 → Fin 4112 → Fin 4112 → ℝ)
    (hx : ∀ h I J, x (ix4 0 h I J) = if J.val ≤ I.val then ((sr h I J : ℝ) : EReal) else ⊥)
    (hr : SS.ReducesTo [3] SR) (hu : 0 < (⟨0, ![]⟩ : Shape).numel) (h : Fin 16) (I : Fin 4112) :
    ∃ r : ℝ, Host.reduce (FloatOps.maximumf (F := Ideal) (φ := .f32)) x (constant (F := Ideal) ⟨0, ![]⟩ .f32 0xFF800000#32) hr hu (ix3 0 h I) = (r : EReal) := by
  rw [Host.reduce_eq_fold]
  rw [show (constant (F := Ideal) ⟨0, ![]⟩ .f32 0xFF800000#32) (Shape.Idx.first hu) = (⊥ : EReal) from botW]
  refine fold_max_real _ x (fun i _ => ?_) (ix4 0 h I I) ?_ ?_
  · have e : i = ix4 0 (i 1) (i 2) (i 3) := by
      refine (eq_ix4 i).trans ?_
      congr 1
      exact Subsingleton.elim (α := Fin 1) _ _
    refine lt_of_eq_of_lt ((congrArg x e).trans (hx _ _ _)) ?_
    split
    · exact EReal.coe_lt_top _
    · exact bot_lt_top
  · rw [Finset.mem_filter]
    refine ⟨Finset.mem_univ _, ?_⟩
    rw [eq_ix3 (hr.drop (ix4 0 h I I))]
    congr 1
  · rw [hx, if_pos le_rfl]
    exact EReal.bot_lt_coe _

section reals
variable (q k : Fin 4112 → Fin 16 → Fin 192 → ℝ) (v o : Fin 4112 → Fin 16 → Fin 128 → ℝ) (M : Fin 16 → Fin 4112 → ℝ)

/-- The score of query row `I` and key row `J`. -/
def sR (h : Fin 16) (I J : Fin 4112) : ℝ := (∑ d, q I h d * k J h d) * scR

/-- The masked exponential, less the row's `M`. -/
def eR (h : Fin 16) (I J : Fin 4112) : ℝ := if J.val ≤ I.val then Real.exp (sR q k h I J - M h I) else 0

/-- The row's sum of exponentials. -/
def zR (h : Fin 16) (I : Fin 4112) : ℝ := ∑ J, eR q k M h I J

theorem zR_pos (h : Fin 16) (I : Fin 4112) : 0 < zR q k M h I := by
  refine Finset.sum_pos' (fun J _ => ?_) ⟨I, Finset.mem_univ _, ?_⟩
  · unfold eR; split
    · exact (Real.exp_pos _).le
    · exact le_rfl
  · unfold eR; rw [if_pos le_rfl]; exact Real.exp_pos _

/-- The gradient of a weight: the cotangent's row against the value's row. -/
def dpR (h : Fin 16) (I J : Fin 4112) : ℝ := ∑ e, o I h e * v J h e

/-- The softmax's weights. -/
def pR (h : Fin 16) (I J : Fin 4112) : ℝ := eR q k M h I J / zR q k M h I

/-- The gradient of a score. -/
def dsR (h : Fin 16) (I J : Fin 4112) : ℝ := pR q k M h I J * (dpR v o h I J - ∑ L, pR q k M h I L * dpR v o h I L) * scR

/-- The gradient of the key's row. -/
def dkR (J : Fin 4112) (h : Fin 16) (d : Fin 192) : ℝ := ∑ I, dsR q k v o M h I J * q I h d

/-- The gradient of the value's row. -/
def dvR (J : Fin 4112) (h : Fin 16) (e : Fin 128) : ℝ := ∑ I, pR q k M h I J * o I h e
end reals

end Cert.Rows
end
-- ==== Proof.Ref.lean ====
module

public import proofs.«01_k».proof.Proof.Gen.ReferenceIdeal.Read
public import proofs.«01_k».proof.Proof.Rows
public import Idealize.ShloMosaic.Lib.IdealHost
public import Idealize.ShloMosaic.Lib.WordCmp

@[expose] public section

noncomputable section

/-! The reference's two gradients at an index, for real arguments. -/
namespace Cert.Ref

open Idealize.ShloMosaic Idealize.ShloMosaic.ValueIdx Cert.KernelIdeal.Head Cert.KernelIdeal.Tile Cert.Rows
open Cert.ReferenceIdeal Cert.ReferenceIdeal.Gen Cert.ReferenceIdeal.Read

variable {x0 x1 : (⟨S1x4112x16x192, .f32⟩ : BufTy).Contents (Elt Ideal)} {x2 x3 : (⟨S1x4112x16x128, .f32⟩ : BufTy).Contents (Elt Ideal)}
  {q k : Fin 4112 → Fin 16 → Fin 192 → ℝ} {v o : Fin 4112 → Fin 16 → Fin 128 → ℝ} {M : Fin 16 → Fin 4112 → ℝ}
  (hq : ∀ I h d, x0 (ix4 0 I h d) = ((q I h d : ℝ) : EReal)) (hk : ∀ I h d, x1 (ix4 0 I h d) = ((k I h d : ℝ) : EReal))
  (hv : ∀ I h e, x2 (ix4 0 I h e) = ((v I h e : ℝ) : EReal)) (ho : ∀ I h e, x3 (ix4 0 I h e) = ((o I h e : ℝ) : EReal))

/-- The causal mask. -/
theorem mask_at (h : Fin 16) (I J : Fin 4112) : val_main_v9_1 (F := Ideal) (ix4 0 h I J) = BitVec.ofBool (decide (J.val ≤ I.val)) := by
  rw [val_main_v9_1_apply, val_main_v8_apply, val_main_v6_apply, val_main_v4_apply, val_main_v3_apply, val_main_v7_apply, val_main_v5_apply, val_main_v3_apply]
  exact WordCmp.cmpi_sge_ofNat (by have := I.isLt; show I.val < _; omega) (by have := J.isLt; show J.val < _; omega)

include hq hk in
/-- The masked scores. -/
theorem score_at (h : Fin 16) (I J : Fin 4112) :
    val_main_v9_0 (F := Ideal) x0 x1 (ix4 0 h I J) = if J.val ≤ I.val then ((sR q k h I J : ℝ) : EReal) else ⊥ := by
  rw [val_main_v9_0_apply, mask_at, sel]
  have hs : val_main_v2 (F := Ideal) x0 x1 (ix4 0 h I J) = ((sR q k h I J : ℝ) : EReal) := by
    rw [val_main_v2_apply, val_main_v1_apply, val_main_cst_apply]
    show val_main_v0 (F := Ideal) x0 x1 (ix4 0 h I J) * scE = _
    rw [val_main_v0_apply, scE_eq, sR, EReal.coe_mul, coe_sum]
    congr 1
    refine Finset.sum_congr rfl fun d _ => ?_
    rw [show lidx_main_v0 (ix4 0 h I J) d = ix4 0 I h d from eq_ix4 _, show ridx_main_v0 (ix4 0 h I J) d = ix4 0 J h d from eq_ix4 _, hq, hk,
      ← EReal.coe_mul]
  have hb : val_main_call0_v2 (F := Ideal) (ix4 0 h I J) = ⊥ := by
    rw [val_main_call0_v2_apply, val_main_call0_v0_apply, val_main_cst_0_apply]
    exact botW
  rw [hs, hb]

include hq hk in
/-- The row maximum the exponentials are taken against is real. -/
theorem rowmax : ∃ M : Fin 16 → Fin 4112 → ℝ, ∀ h I, val_main_v17 (F := Ideal) x0 x1 (ix3 0 h I) = ((M h I : ℝ) : EReal) := by
  have e : ∀ h I, ∃ r : ℝ, val_main_v17 (F := Ideal) x0 x1 (ix3 0 h I) = (r : EReal) := fun h I => by
    obtain ⟨r, hr⟩ := max_real (val_main_v9_0 (F := Ideal) x0 x1) (sR q k) (score_at hq hk) reducesTo_S1x16x4112x4112_S1x16x4112_d3 h_S_ h I
    refine ⟨r, ?_⟩
    rw [val_main_v17_apply, val_main_v16_apply, val_main_cst_3_apply]
    show max (Ideal.ofBits .f32 0xFF800000#32) (val_main_v10 (F := Ideal) x0 x1 (ix3 0 h I)) = _
    rw [botW, max_eq_right bot_le]
    exact hr
  exact ⟨fun h I => (e h I).choose, fun h I => (e h I).choose_spec⟩

section rows
variable (hM : ∀ h I, val_main_v17 (F := Ideal) x0 x1 (ix3 0 h I) = ((M h I : ℝ) : EReal))

include hq hk hM in
theorem exp_at (h : Fin 16) (I J : Fin 4112) : val_main_v30 (F := Ideal) x0 x1 (ix4 0 h I J) = ((eR q k M h I J : ℝ) : EReal) := by
  rw [val_main_v30_apply, val_main_v29_apply, val_main_v28_apply, val_main_v27_apply, score_at hq hk]
  rw [show idx_main_v27 (idx_main_v28 (ix4 0 h I J)) = ix3 0 h I from eq_ix3 _, hM]
  show Ideal.exp ((if J.val ≤ I.val then ((sR q k h I J : ℝ) : EReal) else ⊥) - ((M h I : ℝ) : EReal)) = _
  unfold eR
  split
  · rw [← EReal.coe_sub, Ideal.exp_coe]
  · rw [EReal.bot_sub, Ideal.exp_bot]; rfl

include hq hk hM in
theorem sum_at (h : Fin 16) (I : Fin 4112) : val_main_v31 (F := Ideal) x0 x1 (ix3 0 h I) = ((zR q k M h I : ℝ) : EReal) := by
  rw [val_main_v31_apply, val_main_cst_9_apply, zR, coe_sum]
  show Ideal.ofBits .f32 0x00000000#32 + _ = _
  rw [zeroW, zero_add]
  refine Finset.sum_congr rfl fun J _ => ?_
  rw [show idx_main_v31 (ix3 0 h I) J = ix4 0 h I J from eq_ix4 _, exp_at hq hk hM]

include hq hk hM in
theorem sum1_at (h : Fin 16) (I : Fin 4112) : val_main_v32 (F := Ideal) x0 x1 (ix4 0 h I 0) = ((zR q k M h I : ℝ) : EReal) := by
  rw [val_main_v32_apply, show idx_main_v32 (ix4 0 h I 0) = ix3 0 h I from eq_ix3 _, sum_at hq hk hM]

include hq hk hM in
theorem prob_at (h : Fin 16) (I J : Fin 4112) : val_main_v34 (F := Ideal) x0 x1 (ix4 0 h I J) = ((pR q k M h I J : ℝ) : EReal) := by
  rw [val_main_v34_apply, val_main_v33_apply, show idx_main_v33 (ix4 0 h I J) = ix4 0 h I 0 from eq_ix4 _, sum1_at hq hk hM, exp_at hq hk hM]
  exact div_real _ _ (zR_pos q k M h I).ne'

include ho in
theorem ct_at (h : Fin 16) (e : Fin 128) (I : Fin 4112) : val_main_v40 (F := Ideal) x3 (ix4 0 h e I) = ((o I h e : ℝ) : EReal) := by
  rw [val_main_v40_apply, show idx_main_v40 (ix4 0 h e I) = ix4 0 I h e from eq_ix4 _, ho]

include hv ho in
theorem dp_at (h : Fin 16) (I J : Fin 4112) : val_main_v41 (F := Ideal) x2 x3 (ix4 0 h I J) = ((dpR v o h I J : ℝ) : EReal) := by
  rw [val_main_v41_apply, dpR, coe_sum]
  refine Finset.sum_congr rfl fun e _ => ?_
  rw [show lidx_main_v41 (ix4 0 h I J) e = ix4 0 h e I from eq_ix4 _, show ridx_main_v41 (ix4 0 h I J) e = ix4 0 J h e from eq_ix4 _,
    ct_at ho, hv, ← EReal.coe_mul]

include hq hk hM ho in
/-- The gradient of the values. -/
theorem dv_at (J : Fin 4112) (h : Fin 16) (e : Fin 128) :
    val_main_v43 (F := Ideal) x0 x1 x3 (ix4 0 J h e) = ((dvR q k o M J h e : ℝ) : EReal) := by
  rw [val_main_v43_apply, show idx_main_v43 (ix4 0 J h e) = ix4 0 h e J from eq_ix4 _, val_main_v42_apply, dvR, coe_sum]
  refine Finset.sum_congr rfl fun I _ => ?_
  rw [show lidx_main_v42 (ix4 0 h e J) I = ix4 0 h e I from eq_ix4 _, show ridx_main_v42 (ix4 0 h e J) I = ix4 0 h I J from eq_ix4 _,
    ct_at ho, prob_at hq hk hM, ← EReal.coe_mul, mul_comm]

include hq hk hM hv ho in
/-- The sum the quotient's rule subtracts. -/
theorem corr_at (h : Fin 16) (I : Fin 4112) : val_main_v47 (F := Ideal) x0 x1 x2 x3 (ix3 0 h I)
    = ((∑ J, dpR v o h I J * (1 / (zR q k M h I * zR q k M h I)) * eR q k M h I J : ℝ) : EReal) := by
  rw [val_main_v47_apply, val_main_cst_11_apply, coe_sum]
  show Ideal.ofBits .f32 0x00000000#32 + _ = _
  rw [zeroW, zero_add]
  refine Finset.sum_congr rfl fun J _ => ?_
  rw [show idx_main_v47 (ix3 0 h I) J = ix4 0 h I J from eq_ix4 _, val_main_v46_apply, val_main_v45_apply, val_main_v44_apply,
    show idx_main_v44 (ix4 0 h I J) = ix4 0 h I 0 from eq_ix4 _, val_main_v37_apply, val_main_v36_apply, val_main_cst_10_apply, val_main_v35_apply,
    sum1_at hq hk hM, exp_at hq hk hM, dp_at hv ho]
  show _ * Ideal.div (Ideal.ofBits .f32 0x3F800000#32) (((zR q k M h I : ℝ) : EReal) * ((zR q k M h I : ℝ) : EReal)) * _ = _
  have hz := (zR_pos q k M h I).ne'
  rw [oneW, ← EReal.coe_mul, ← EReal.coe_one, div_real _ _ (mul_ne_zero hz hz), ← EReal.coe_mul, ← EReal.coe_mul]

theorem idx48 (h : Fin 16) (I : Fin 4112) : idx_main_v48 (ix4 0 h I 0) = ix3 0 h I := funext fun a => Fin.ext (by
  have h1 := h.isLt
  have h2 := I.isLt
  match a with
  | ⟨0, _⟩ => rfl
  | ⟨1, _⟩ => show ((((0 * 16 + h.val) * 4112 + I.val) * 1 + 0) / 4112 % 16) = h.val; omega
  | ⟨2, _⟩ => show ((((0 * 16 + h.val) * 4112 + I.val) * 1 + 0) % 4112) = I.val; omega)

include hq hk hM hv ho in
theorem negsum_at (h : Fin 16) (I : Fin 4112) : val_main_v52 (F := Ideal) x0 x1 x2 x3 (ix2 h I)
    = ((-∑ J, dpR v o h I J * (1 / (zR q k M h I * zR q k M h I)) * eR q k M h I J : ℝ) : EReal) := by
  unfold val_main_v52
  rw [hostReduceAdd_apply]
  unfold Ideal.hostReduceAdd
  rw [show val_main_cst_12 (F := Ideal) (Shape.Idx.first h_S_) = (0 : EReal) from zeroW, zero_add]
  rw [Finset.sum_eq_single_of_mem (ix4 0 h I 0 : S1x16x4112x1.Idx)]
  · rw [val_main_v49_apply, val_main_v48_apply, idx48, corr_at hq hk hv ho hM, EReal.coe_neg]
    rfl
  · rw [Finset.mem_filter]
    refine ⟨Finset.mem_univ _, ?_⟩
    rw [eq_ix2 (Shape.ReducesTo.drop _ (ix4 0 h I 0))]
    congr 1
  · intro i hi hne
    exfalso; apply hne
    rw [Finset.mem_filter] at hi
    have hi := hi.2
    rw [eq_ix4 i]
    have a0 := congrArg Fin.val (congrFun hi 0)
    have a1 := congrArg Fin.val (congrFun hi 1)
    rw [Shape.ReducesTo.drop_apply_val_of_eq _ i 0 1] at a0
    rw [Shape.ReducesTo.drop_apply_val_of_eq _ i 1 2] at a1
    congr 1
    · exact Subsingleton.elim (α := Fin 1) _ _
    · exact Fin.ext a0
    · exact Fin.ext a1
    · exact Subsingleton.elim (α := Fin 1) _ _

include hq hk hM hv ho in
/-- The gradient of the scores. -/
theorem ds_at (h : Fin 16) (I J : Fin 4112) : val_main_v59 (F := Ideal) x0 x1 x2 x3 (ix4 0 h I J) = ((dsR q k v o M h I J : ℝ) : EReal) := by
  have hz := (zR_pos q k M h I).ne'
  have h56 : val_main_v56 (F := Ideal) x0 x1 x2 x3 (ix4 0 h I J)
      = (((dpR v o h I J / zR q k M h I + -∑ J, dpR v o h I J * (1 / (zR q k M h I * zR q k M h I)) * eR q k M h I J) * eR q k M h I J : ℝ) : EReal) := by
    rw [val_main_v56_apply, val_main_v55_apply, val_main_v51_apply, val_main_v54_apply, val_main_v53_apply, val_main_v50_apply, exp_at hq hk hM, dp_at hv ho,
      show idx_main_v53 (idx_main_v54 (ix4 0 h I J)) = ix2 h I from eq_ix2 _, show idx_main_v50 (ix4 0 h I J) = ix4 0 h I 0 from eq_ix4 _,
      negsum_at hq hk hv ho hM, sum1_at hq hk hM]
    show (Ideal.div _ _ + _) * _ = _
    rw [div_real _ _ hz, ← EReal.coe_add, ← EReal.coe_mul]
  have h0 : val_main_call1_v0 (F := Ideal) (ix4 0 h I J) = ((0 : ℝ) : EReal) := by
    rw [val_main_call1_v0_apply, val_main_call1_cst_apply]; exact zeroW
  have h58 : val_main_v58 (F := Ideal) (ix4 0 h I J) = ((scR : ℝ) : EReal) := by
    rw [val_main_v58_apply, val_main_cst_13_apply]; exact scE_eq
  rw [val_main_v59_apply, val_main_v57_apply, mask_at, sel, h56, h0, h58]
  show (if J.val ≤ I.val then _ else _) * _ = _
  have key : (dpR v o h I J / zR q k M h I + -∑ J, dpR v o h I J * (1 / (zR q k M h I * zR q k M h I)) * eR q k M h I J) * eR q k M h I J * scR
      = dsR q k v o M h I J := by
    have e : ∑ J, dpR v o h I J * (1 / (zR q k M h I * zR q k M h I)) * eR q k M h I J = (∑ L, pR q k M h I L * dpR v o h I L) / zR q k M h I := by
      rw [Finset.sum_div]
      refine Finset.sum_congr rfl fun L _ => ?_
      unfold pR
      field_simp
    rw [e]
    unfold dsR
    rw [pR]
    field_simp
    ring
  by_cases hm : J.val ≤ I.val
  · rw [if_pos hm, ← EReal.coe_mul, key]
  · rw [if_neg hm, ← EReal.coe_mul]
    have : eR q k M h I J = 0 := if_neg hm
    unfold dsR pR
    rw [this]
    simp

include hq hk hM hv ho in
/-- The gradient of the keys. -/
theorem dk_at (J : Fin 4112) (h : Fin 16) (d : Fin 192) :
    val_main_v61 (F := Ideal) x0 x1 x2 x3 (ix4 0 J h d) = ((dkR q k v o M J h d : ℝ) : EReal) := by
  rw [val_main_v61_apply, show idx_main_v61 (ix4 0 J h d) = ix4 0 h J d from eq_ix4 _, val_main_v60_apply, dkR, coe_sum]
  refine Finset.sum_congr rfl fun I _ => ?_
  rw [show lidx_main_v60 (ix4 0 h J d) I = ix4 0 h I J from eq_ix4 _, show ridx_main_v60 (ix4 0 h J d) I = ix4 0 I h d from eq_ix4 _,
    ds_at hq hk hv ho hM, hq, ← EReal.coe_mul]

/-- A pad's filler, the integer zero converted, is zero. -/
theorem filler2 (i : S_.Idx) : val_main_call2_v0 (F := Ideal) i = 0 := by
  rw [val_main_call2_v0_apply, val_main_c_apply]; simp [FloatOps.sitofp]
theorem filler3 (i : S_.Idx) : val_main_call3_v0 (F := Ideal) i = 0 := by
  rw [val_main_call3_v0_apply, val_main_c_14_apply]; simp [FloatOps.sitofp]

include hq hk hM hv ho in
/-- The first result: the gradient of the keys, zero in the padding rows and lanes. -/
theorem res66_at (R : Fin 4224) (h : Fin 16) (d : Fin 256) : val_main_v66 (F := Ideal) x0 x1 x2 x3 (ix2 R ⟨256 * h.val + d.val, by omega⟩)
    = ((if hR : R.val < 4112 ∧ d.val < 192 then dkR q k v o M ⟨R.val, hR.1⟩ h ⟨d.val, hR.2⟩ else 0 : ℝ) : EReal) := by
  have hi : idx_main_v66 (ix2 R ⟨256 * h.val + d.val, by omega⟩) = ix3 R h d := funext fun a => Fin.ext (by
    have h1 := h.isLt
    have h2 := d.isLt
    match a with
    | ⟨0, _⟩ => show (R.val * 4096 + (256 * h.val + d.val)) / 4096 = R.val; omega
    | ⟨1, _⟩ => show (R.val * 4096 + (256 * h.val + d.val)) / 256 % 16 = h.val; omega
    | ⟨2, _⟩ => show (R.val * 4096 + (256 * h.val + d.val)) % 256 = d.val; omega)
  rw [val_main_v66_apply, hi]
  unfold val_main_v65
  split
  · rename_i hR
    refine (pad_apply_of_inside _ _ _ _ _ _ _ _ (ix3 (⟨R.val, hR.1⟩ : Fin 4112) h (⟨d.val, hR.2⟩ : Fin 192)) (fun a => match a with
      | ⟨0, _⟩ => show R.val = 0 + R.val * 1 by omega
      | ⟨1, _⟩ => show h.val = 0 + h.val * 1 by omega
      | ⟨2, _⟩ => show d.val = 0 + d.val * 1 by omega)).trans ?_
    rw [val_main_v64_apply]
    refine Eq.trans (congrArg _ ?_) (dk_at hq hk hv ho hM ⟨R.val, hR.1⟩ h ⟨d.val, hR.2⟩)
    refine funext fun a => Fin.ext ?_
    have h1 := h.isLt
    have h2 := hR.1
    have h3 := hR.2
    match a with
    | ⟨0, _⟩ => rfl
    | ⟨1, _⟩ => show ((R.val * 16 + h.val) * 192 + d.val) / 3072 % 4112 = R.val; omega
    | ⟨2, _⟩ => show ((R.val * 16 + h.val) * 192 + d.val) / 192 % 16 = h.val; omega
    | ⟨3, _⟩ => show ((R.val * 16 + h.val) * 192 + d.val) % 192 = d.val; omega
  · rename_i hR
    by_cases hR1 : R.val < 4112
    · refine (pad_apply_of_not_inside _ _ _ _ _ _ _ _ 2 ?_).trans (filler2 _)
      show ¬(0 ≤ d.val ∧ (d.val - 0) % 1 = 0 ∧ (d.val - 0) / 1 < 192)
      omega
    · refine (pad_apply_of_not_inside _ _ _ _ _ _ _ _ 0 ?_).trans (filler2 _)
      show ¬(0 ≤ R.val ∧ (R.val - 0) % 1 = 0 ∧ (R.val - 0) / 1 < 4112)
      omega

include hq hk hM ho in
/-- The second result: the gradient of the values, zero in the padding rows. -/
theorem res69_at (R : Fin 4224) (h : Fin 16) (d : Fin 128) : val_main_v69 (F := Ideal) x0 x1 x3 (ix2 R ⟨128 * h.val + d.val, by omega⟩)
    = ((if hR : R.val < 4112 then dvR q k o M ⟨R.val, hR⟩ h d else 0 : ℝ) : EReal) := by
  have hi : idx_main_v69 (ix2 R ⟨128 * h.val + d.val, by omega⟩) = ix3 R h d := funext fun a => Fin.ext (by
    have h1 := h.isLt
    have h2 := d.isLt
    match a with
    | ⟨0, _⟩ => show (R.val * 2048 + (128 * h.val + d.val)) / 2048 = R.val; omega
    | ⟨1, _⟩ => show (R.val * 2048 + (128 * h.val + d.val)) / 128 % 16 = h.val; omega
    | ⟨2, _⟩ => show (R.val * 2048 + (128 * h.val + d.val)) % 128 = d.val; omega)
  rw [val_main_v69_apply, hi]
  unfold val_main_v68
  split
  · rename_i hR
    refine (pad_apply_of_inside _ _ _ _ _ _ _ _ (ix3 (⟨R.val, hR⟩ : Fin 4112) h d) (fun a => match a with
      | ⟨0, _⟩ => show R.val = 0 + R.val * 1 by omega
      | ⟨1, _⟩ => show h.val = 0 + h.val * 1 by omega
      | ⟨2, _⟩ => show d.val = 0 + d.val * 1 by omega)).trans ?_
    rw [val_main_v67_apply]
    refine Eq.trans (congrArg _ ?_) (dv_at hq hk ho hM ⟨R.val, hR⟩ h d)
    refine funext fun a => Fin.ext ?_
    have h1 := h.isLt
    have h3 := d.isLt
    match a with
    | ⟨0, _⟩ => rfl
    | ⟨1, _⟩ => show ((R.val * 16 + h.val) * 128 + d.val) / 2048 % 4112 = R.val; omega
    | ⟨2, _⟩ => show ((R.val * 16 + h.val) * 128 + d.val) / 128 % 16 = h.val; omega
    | ⟨3, _⟩ => show ((R.val * 16 + h.val) * 128 + d.val) % 128 = d.val; omega
  · rename_i hR
    refine (pad_apply_of_not_inside _ _ _ _ _ _ _ _ 0 ?_).trans (filler3 _)
    show ¬(0 ≤ R.val ∧ (R.val - 0) % 1 = 0 ∧ (R.val - 0) / 1 < 4112)
    omega

end rows
end Cert.Ref
end
-- ==== Proof.Prelude.lean ====
module

public import proofs.«01_k».proof.Proof.Gen.KernelIdeal.Value
public import proofs.«01_k».proof.Proof.Ref

@[expose] public section

noncomputable section

/-! What the host hands the kernel's windows, at an index, for real arguments. -/
namespace Cert.KernelIdeal.Prelude

open Idealize.ShloMosaic Idealize.ShloMosaic.ValueIdx Cert.KernelIdeal.Head Cert.KernelIdeal.Tile Cert.Rows
open Cert.KernelIdeal Cert.KernelIdeal.Gen Idealize.ShloMosaic.TcCoe Idealize.ShloMosaic.Tactic Idealize.SL.Sem

abbrev B4 := (⟨S1x4112x16x192, .f32⟩ : BufTy).Contents (Elt Ideal)
abbrev C4 := (⟨S1x4112x16x128, .f32⟩ : BufTy).Contents (Elt Ideal)

/-- Rows padded to 4224, heads padded to 256 lanes with `z`. -/
def wideOf (x : (⟨S4112x16x192, .f32⟩ : BufTy).Contents (Elt Ideal)) (z : (⟨S_, .i32⟩ : BufTy).Contents (Elt Ideal)) : (⟨S4224x4096, .bf16⟩ : BufTy).Contents (Elt Ideal) :=
  truncf (F := Ideal) (φ := .f32) .bf16 (shapeCast S4224x4096 (pad S4224x16x256 ![0, 0, 0] ![112, 0, 64] ![0, 0, 0] x
    (sitofp (F := Ideal) .f32 z) pads_S4112x16x192_S4224x16x256_01120_000_0640 h_S_) shapeCasts_S4224x16x256_S4224x4096) bitsLt_bf16_f32

/-- Queries or keys laid out for the call: rows padded to 4224, heads padded to 256 lanes. -/
def wide (x : B4) : (⟨S4224x4096, .bf16⟩ : BufTy).Contents (Elt Ideal) :=
  truncf (F := Ideal) (φ := .f32) .bf16 (shapeCast S4224x4096 (pad S4224x16x256 ![0, 0, 0] ![112, 0, 64] ![0, 0, 0] (shapeCast S4112x16x192 x shapeCasts_S1x4112x16x192_S4112x16x192)
    (sitofp (F := Ideal) .f32 (constantI S_ 32 0#32)) pads_S4112x16x192_S4224x16x256_01120_000_0640 h_S_) shapeCasts_S4224x16x256_S4224x4096) bitsLt_bf16_f32

/-- Values or cotangents laid out for the call: rows padded to 4224. -/
def narrow (x : C4) : (⟨S4224x2048, .bf16⟩ : BufTy).Contents (Elt Ideal) :=
  truncf (F := Ideal) (φ := .f32) .bf16 (shapeCast S4224x2048 (pad S4224x16x128 ![0, 0, 0] ![112, 0, 0] ![0, 0, 0] (shapeCast S4112x16x128 x shapeCasts_S1x4112x16x128_S4112x16x128)
    (sitofp (F := Ideal) .f32 (constantI S_ 32 0#32)) pads_S4112x16x128_S4224x16x128_01120_000_000 h_S_) shapeCasts_S4224x16x128_S4224x2048) bitsLt_bf16_f32

/-- A row statistic laid out for the call: query rows padded to eleven tiles of 384. -/
def tiles (x : (⟨S16x4112, .f32⟩ : BufTy).Contents (Elt Ideal)) : (⟨S16x11x1x384, .f32⟩ : BufTy).Contents (Elt Ideal) :=
  shapeCast S16x11x1x384 (pad S16x4224 ![0, 0] ![0, 112] ![0, 0] x (sitofp (F := Ideal) .f32 (constantI S_ 32 0#32)) pads_S16x4112_S16x4224_000_01120 h_S_) shapeCasts_S16x4224_S16x11x1x384

/-- The masked scores, the host's lines. -/
def score (x0 x1 : B4) : (⟨S1x16x4112x4112, .f32⟩ : BufTy).Contents (Elt Ideal) := Cert.ReferenceIdeal.Read.val_main_v9_0 (F := Ideal) x0 x1

abbrev SC := (⟨S1x16x4112x4112, .f32⟩ : BufTy).Contents (Elt Ideal)

/-- The row maxima. -/
def rmax (s : SC) : (⟨S1x16x4112x1, .f32⟩ : BufTy).Contents (Elt Ideal) :=
  broadcastInDim S1x16x4112x1 ![0, 1, 2] bcast_S1x16x4112_S1x16x4112x1_0_1_2
    (Host.reduce (FloatOps.maximumf (F := Ideal) (φ := .f32)) s (constant (F := Ideal) S_ .f32 0xFF800000#32) reducesTo_S1x16x4112x4112_S1x16x4112_d3 h_S_)

/-- The exponentials. -/
def expo (s : SC) : (⟨S1x16x4112x4112, .f32⟩ : BufTy).Contents (Elt Ideal) :=
  Host.exp (F := Ideal) (φ := .f32) (subf s (broadcastInDim S1x16x4112x4112 ![0, 1, 2, 3] bcast_S1x16x4112x1_S1x16x4112x4112_0_1_2_3 (rmax s)))

/-- Their row sums. -/
def rsum (s : SC) : (⟨S1x16x4112x1, .f32⟩ : BufTy).Contents (Elt Ideal) :=
  broadcastInDim S1x16x4112x1 ![0, 1, 2] bcast_S1x16x4112_S1x16x4112x1_0_1_2
    (Host.reduceAdd (F := Ideal) (φ := .f32) (expo s) (constant (F := Ideal) S_ .f32 0x00000000#32) reducesTo_S1x16x4112x4112_S1x16x4112_d3 h_S_)

/-- The log of the sum of exponentials of every row. -/
def lse (s : SC) : (⟨S16x4112, .f32⟩ : BufTy).Contents (Elt Ideal) :=
  shapeCast S16x4112 (addf (F := Ideal) (φ := .f32) (rmax s) (Host.log (F := Ideal) (φ := .f32) (rsum s))) shapeCasts_S1x16x4112x1_S16x4112

/-- The softmax's weights. -/
def prob (s : SC) : (⟨S1x16x4112x4112, .f32⟩ : BufTy).Contents (Elt Ideal) :=
  Host.divf (F := Ideal) (φ := .f32) (expo s) (broadcastInDim S1x16x4112x4112 ![0, 1, 2, 3] bcast_S1x16x4112x1_S1x16x4112x4112_0_1_2_3 (rsum s))

/-- The attention's output. -/
def outp (s : SC) (x2 : C4) : C4 :=
  transpose S1x4112x16x128 [0, 3, 1, 2] (Host.dotGeneral (F := Ideal) (φ₁ := .f32) (φ₂ := .f32) dot_S1x4112x16x128_S1x16x4112x4112_S1x16x128x4112_1_3_3_2_02_01 none x2 (prob s)) transposes_S1x16x128x4112_S1x4112x16x128_0_3_1_2

/-- The cotangent against the output, row by row. -/
def delta (s : SC) (x2 x3 : C4) : (⟨S16x4112, .f32⟩ : BufTy).Contents (Elt Ideal) :=
  transpose S16x4112 [1, 0] (shapeCast S4112x16 (Host.reduceAdd (F := Ideal) (φ := .f32) (mulf (F := Ideal) (φ := .f32) x3 (outp s x2)) (constant (F := Ideal) S_ .f32 0x00000000#32) reducesTo_S1x4112x16x128_S1x4112x16_d3 h_S_) shapeCasts_S1x4112x16_S4112x16) transposes_S4112x16_S16x4112_1_0

/-- Two lines of host operations, one after the other. -/
theorem after_app (l₁ l₂ : List (HloOp τ sig (Elt Ideal))) (W : Valuation τ sig (Elt Ideal)) :
    StableHlo.after (l₁ ++ l₂) W = StableHlo.after l₂ (StableHlo.after l₁ W) := by
  induction l₁ generalizing W with
  | nil => rfl
  | cons op l ih => exact ih _

section
variable (W : Valuation τ sig (Elt Ideal))
abbrev opsA : List (HloOp τ sig (Elt Ideal)) := hostOps0 ++ hostOps0_1
abbrev opsC : List (HloOp τ sig (Elt Ideal)) := hostOps0_3 ++ (hostOps0_4 ++ (hostOps0_5 ++ (hostOps0_6 ++ (hostOps0_7 ++ (hostOps0_8 ++ (hostOps0_9 ++ (hostOps0_10 ++ (hostOps0_11 ++ (hostOps0_12 ++ (hostOps0_13 ++ hostOps0_14))))))))))
set_option maxRecDepth 8000
theorem A9 : (StableHlo.after opsA W main_v9 : SC) = score (W main_arg0) (W main_arg1) := by
  simp only [opsA, hostOps0, hostOps0_1, List.cons_append, List.nil_append]
  after_results
  rfl
theorem A0 : (StableHlo.after opsA W main_arg0 : B4) = W main_arg0 := by
  simp only [opsA, hostOps0, hostOps0_1, List.cons_append, List.nil_append]
  after_results
theorem A1 : (StableHlo.after opsA W main_arg1 : B4) = W main_arg1 := by
  simp only [opsA, hostOps0, hostOps0_1, List.cons_append, List.nil_append]
  after_results
theorem A2 : (StableHlo.after opsA W main_arg2 : C4) = W main_arg2 := by
  simp only [opsA, hostOps0, hostOps0_1, List.cons_append, List.nil_append]
  after_results
theorem A3 : (StableHlo.after opsA W main_arg3 : C4) = W main_arg3 := by
  simp only [opsA, hostOps0, hostOps0_1, List.cons_append, List.nil_append]
  after_results
theorem B23 : (StableHlo.after hostOps0_2 W main_v23 : (⟨S16x4112, .f32⟩ : BufTy).Contents (Elt Ideal)) = lse (W main_v9) := by
  dsimp only [hostOps0_2]
  after_results
  rfl
theorem B27 : (StableHlo.after hostOps0_2 W main_v27 : (⟨S16x4112, .f32⟩ : BufTy).Contents (Elt Ideal)) = delta (W main_v9) (W main_arg2) (W main_arg3) := by
  dsimp only [hostOps0_2]
  after_results
  rfl
theorem B28 : (StableHlo.after hostOps0_2 W main_v28 : (⟨S4112x16x192, .f32⟩ : BufTy).Contents (Elt Ideal)) = shapeCast S4112x16x192 (W main_arg0 : B4) shapeCasts_S1x4112x16x192_S4112x16x192 := by
  dsimp only [hostOps0_2]
  after_results
  rfl
theorem Bc : (StableHlo.after hostOps0_2 W main_c : (⟨S_, .i32⟩ : BufTy).Contents (Elt Ideal)) = constantI S_ 32 0#32 := by
  dsimp only [hostOps0_2]
  after_results
theorem B1 : (StableHlo.after hostOps0_2 W main_arg1 : B4) = W main_arg1 := by
  dsimp only [hostOps0_2]
  after_results
theorem B2 : (StableHlo.after hostOps0_2 W main_arg2 : C4) = W main_arg2 := by
  dsimp only [hostOps0_2]
  after_results
theorem B3 : (StableHlo.after hostOps0_2 W main_arg3 : C4) = W main_arg3 := by
  dsimp only [hostOps0_2]
  after_results
theorem C31 : (StableHlo.after opsC W main_v31 : (⟨S4224x4096, .bf16⟩ : BufTy).Contents (Elt Ideal)) = wideOf (W main_v28) (W main_c) := by
  simp only [opsC, hostOps0_3, hostOps0_4, hostOps0_5, hostOps0_6, hostOps0_7, hostOps0_8, hostOps0_9, hostOps0_10, hostOps0_11, hostOps0_12, hostOps0_13, hostOps0_14, List.cons_append, List.nil_append]
  after_results
  rfl
theorem C35 : (StableHlo.after opsC W main_v35 : (⟨S4224x4096, .bf16⟩ : BufTy).Contents (Elt Ideal)) = wide (W main_arg1) := by
  simp only [opsC, hostOps0_3, hostOps0_4, hostOps0_5, hostOps0_6, hostOps0_7, hostOps0_8, hostOps0_9, hostOps0_10, hostOps0_11, hostOps0_12, hostOps0_13, hostOps0_14, List.cons_append, List.nil_append]
  after_results
  rfl
theorem C39 : (StableHlo.after opsC W main_v39 : (⟨S4224x2048, .bf16⟩ : BufTy).Contents (Elt Ideal)) = narrow (W main_arg2) := by
  simp only [opsC, hostOps0_3, hostOps0_4, hostOps0_5, hostOps0_6, hostOps0_7, hostOps0_8, hostOps0_9, hostOps0_10, hostOps0_11, hostOps0_12, hostOps0_13, hostOps0_14, List.cons_append, List.nil_append]
  after_results
  rfl
theorem C43 : (StableHlo.after opsC W main_v43 : (⟨S4224x2048, .bf16⟩ : BufTy).Contents (Elt Ideal)) = narrow (W main_arg3) := by
  simp only [opsC, hostOps0_3, hostOps0_4, hostOps0_5, hostOps0_6, hostOps0_7, hostOps0_8, hostOps0_9, hostOps0_10, hostOps0_11, hostOps0_12, hostOps0_13, hostOps0_14, List.cons_append, List.nil_append]
  after_results
  rfl
theorem C45 : (StableHlo.after opsC W main_v45 : (⟨S16x11x1x384, .f32⟩ : BufTy).Contents (Elt Ideal)) = tiles (W main_v23) := by
  simp only [opsC, hostOps0_3, hostOps0_4, hostOps0_5, hostOps0_6, hostOps0_7, hostOps0_8, hostOps0_9, hostOps0_10, hostOps0_11, hostOps0_12, hostOps0_13, hostOps0_14, List.cons_append, List.nil_append]
  after_results
  rfl
theorem C47 : (StableHlo.after opsC W main_v47 : (⟨S16x11x1x384, .f32⟩ : BufTy).Contents (Elt Ideal)) = tiles (W main_v27) := by
  simp only [opsC, hostOps0_3, hostOps0_4, hostOps0_5, hostOps0_6, hostOps0_7, hostOps0_8, hostOps0_9, hostOps0_10, hostOps0_11, hostOps0_12, hostOps0_13, hostOps0_14, List.cons_append, List.nil_append]
  after_results
  rfl
end

section
variable (m : (ℓ : Loc nD τ sig) → Buf (Elt Ideal) ℓ) (c : Dev nD)
/-- Argument 0 as launched. -/
abbrev a0 : B4 := m ((c : Thread nD τ).loc main_arg0)
/-- Argument 1 as launched. -/
abbrev a1 : B4 := m ((c : Thread nD τ).loc main_arg1)
/-- Argument 2 as launched. -/
abbrev a2 : C4 := m ((c : Thread nD τ).loc main_arg2)
/-- Argument 3 as launched. -/
abbrev a3 : C4 := m ((c : Thread nD τ).loc main_arg3)
theorem V_split (b : Ref sig .tc) : V m c b = StableHlo.after opsC (StableHlo.after hostOps0_2 (StableHlo.after opsA (fun b => m (c, b)))) b := by
  rw [← after_app, ← after_app]
  rfl
/-- The call's queries. -/
theorem V31 : (V m c main_v31 : (⟨S4224x4096, .bf16⟩ : BufTy).Contents (Elt Ideal)) = wide (a0 m c) := by
  refine (V_split m c main_v31).trans ((C31 _).trans ?_)
  rw [B28, Bc, A0]; rfl
/-- The call's keys. -/
theorem V35 : (V m c main_v35 : (⟨S4224x4096, .bf16⟩ : BufTy).Contents (Elt Ideal)) = wide (a1 m c) := by
  refine (V_split m c main_v35).trans ((C35 _).trans ?_)
  rw [B1, A1]
/-- The call's values. -/
theorem V39 : (V m c main_v39 : (⟨S4224x2048, .bf16⟩ : BufTy).Contents (Elt Ideal)) = narrow (a2 m c) := by
  refine (V_split m c main_v39).trans ((C39 _).trans ?_)
  rw [B2, A2]
/-- The call's cotangents. -/
theorem V43 : (V m c main_v43 : (⟨S4224x2048, .bf16⟩ : BufTy).Contents (Elt Ideal)) = narrow (a3 m c) := by
  refine (V_split m c main_v43).trans ((C43 _).trans ?_)
  rw [B3, A3]
/-- The call's logs of sums. -/
theorem V45 : (V m c main_v45 : (⟨S16x11x1x384, .f32⟩ : BufTy).Contents (Elt Ideal)) = tiles (lse (score (a0 m c) (a1 m c))) := by
  refine (V_split m c main_v45).trans ((C45 _).trans ?_)
  rw [B23, A9]
/-- The call's row sums of the cotangent against the output. -/
theorem V47 : (V m c main_v47 : (⟨S16x11x1x384, .f32⟩ : BufTy).Contents (Elt Ideal)) = tiles (delta (score (a0 m c) (a1 m c)) (a2 m c) (a3 m c)) := by
  refine (V_split m c main_v47).trans ((C47 _).trans ?_)
  rw [B27, A9, A2, A3]
end

end Cert.KernelIdeal.Prelude
end
-- ==== Proof.PreludeAt.lean ====
module

public import proofs.«01_k».proof.Proof.Prelude

@[expose] public section

noncomputable section

/-! The host's arrays at an index, for real arguments. -/
namespace Cert.KernelIdeal.Prelude

open Idealize.ShloMosaic Idealize.ShloMosaic.ValueIdx Cert.KernelIdeal.Head Cert.KernelIdeal.Tile Cert.Rows
open Cert.KernelIdeal Cert.KernelIdeal.Gen

/-- The filler of every pad is zero. -/
theorem filler (i : S_.Idx) : sitofp (F := Ideal) .f32 (constantI S_ 32 0#32) i = 0 := by
  show ((((0#32 : BitVec 32).toInt : ℝ)) : EReal) = 0
  simp

/-- A cast keeps every entry. -/
theorem trunc_at {t : Shape} (x : FVec Ideal t .f32) (i : t.Idx) : truncf (F := Ideal) .bf16 x bitsLt_bf16_f32 i = x i := rfl

/-- The wide layout at an index. -/
theorem wide_at {x : B4} {q : Fin 4112 → Fin 16 → Fin 192 → ℝ} (hq : ∀ I h d, x (ix4 0 I h d) = ((q I h d : ℝ) : EReal))
    (R : Fin 4224) (h : Fin 16) (d : Fin 256) : wide x (ix2 R ⟨256 * h.val + d.val, by omega⟩)
      = ((if hR : R.val < 4112 ∧ d.val < 192 then q ⟨R.val, hR.1⟩ h ⟨d.val, hR.2⟩ else 0 : ℝ) : EReal) := by
  unfold wide
  refine (trunc_at _ _).trans ((shapeCast_apply _ shapeCasts_S4224x16x256_S4224x4096 _ (ix3 R h d) ?_).trans ?_)
  · rw [Shape.rowMajor_val_three, Shape.rowMajor_val_two]
    show (R.val * 16 + h.val) * 256 + d.val = R.val * 4096 + (256 * h.val + d.val)
    omega
  split
  · rename_i hR
    refine (pad_apply_of_inside _ _ _ _ _ _ _ _ (ix3 (⟨R.val, hR.1⟩ : Fin 4112) h (⟨d.val, hR.2⟩ : Fin 192)) (fun a => match a with
      | ⟨0, _⟩ => show R.val = 0 + R.val * 1 by omega
      | ⟨1, _⟩ => show h.val = 0 + h.val * 1 by omega
      | ⟨2, _⟩ => show d.val = 0 + d.val * 1 by omega)).trans ?_
    refine (shapeCast_apply _ shapeCasts_S1x4112x16x192_S4112x16x192 _ (ix4 0 (⟨R.val, hR.1⟩ : Fin 4112) h (⟨d.val, hR.2⟩ : Fin 192)) ?_).trans (hq _ _ _)
    rw [Shape.rowMajor_val_three, Shape.rowMajor_val_four]
    show ((0 * 4112 + R.val) * 16 + h.val) * 192 + d.val = (R.val * 16 + h.val) * 192 + d.val
    omega
  · rename_i hR
    by_cases hR1 : R.val < 4112
    · refine (pad_apply_of_not_inside _ _ _ _ _ _ _ _ 2 ?_).trans (filler _)
      show ¬(0 ≤ d.val ∧ (d.val - 0) % 1 = 0 ∧ (d.val - 0) / 1 < 192)
      omega
    · refine (pad_apply_of_not_inside _ _ _ _ _ _ _ _ 0 ?_).trans (filler _)
      show ¬(0 ≤ R.val ∧ (R.val - 0) % 1 = 0 ∧ (R.val - 0) / 1 < 4112)
      omega

/-- The narrow layout at an index. -/
theorem narrow_at {x : C4} {v : Fin 4112 → Fin 16 → Fin 128 → ℝ} (hv : ∀ I h d, x (ix4 0 I h d) = ((v I h d : ℝ) : EReal))
    (R : Fin 4224) (h : Fin 16) (d : Fin 128) : narrow x (ix2 R ⟨128 * h.val + d.val, by omega⟩)
      = ((if hR : R.val < 4112 then v ⟨R.val, hR⟩ h d else 0 : ℝ) : EReal) := by
  unfold narrow
  refine (trunc_at _ _).trans ((shapeCast_apply _ shapeCasts_S4224x16x128_S4224x2048 _ (ix3 R h d) ?_).trans ?_)
  · rw [Shape.rowMajor_val_three, Shape.rowMajor_val_two]
    show (R.val * 16 + h.val) * 128 + d.val = R.val * 2048 + (128 * h.val + d.val)
    omega
  split
  · rename_i hR
    refine (pad_apply_of_inside _ _ _ _ _ _ _ _ (ix3 (⟨R.val, hR⟩ : Fin 4112) h d) (fun a => match a with
      | ⟨0, _⟩ => show R.val = 0 + R.val * 1 by omega
      | ⟨1, _⟩ => show h.val = 0 + h.val * 1 by omega
      | ⟨2, _⟩ => show d.val = 0 + d.val * 1 by omega)).trans ?_
    refine (shapeCast_apply _ shapeCasts_S1x4112x16x128_S4112x16x128 _ (ix4 0 (⟨R.val, hR⟩ : Fin 4112) h d) ?_).trans (hv _ _ _)
    rw [Shape.rowMajor_val_three, Shape.rowMajor_val_four]
    show ((0 * 4112 + R.val) * 16 + h.val) * 128 + d.val = (R.val * 16 + h.val) * 128 + d.val
    omega
  · rename_i hR
    refine (pad_apply_of_not_inside _ _ _ _ _ _ _ _ 0 ?_).trans (filler _)
    show ¬(0 ≤ R.val ∧ (R.val - 0) % 1 = 0 ∧ (R.val - 0) / 1 < 4112)
    omega

/-- The tiled layout at an index. -/
theorem tiles_at {x : (⟨S16x4112, .f32⟩ : BufTy).Contents (Elt Ideal)} {l : Fin 16 → Fin 4112 → ℝ} (hl : ∀ h I, x (ix2 h I) = ((l h I : ℝ) : EReal))
    (h : Fin 16) (T : Fin 11) (n : Fin 384) : tiles x (ix4 h T 0 n)
      = ((if hR : 384 * T.val + n.val < 4112 then l h ⟨384 * T.val + n.val, hR⟩ else 0 : ℝ) : EReal) := by
  have hT := T.isLt
  have hn := n.isLt
  unfold tiles
  refine (shapeCast_apply _ shapeCasts_S16x4224_S16x11x1x384 _ (ix2 h (⟨384 * T.val + n.val, by omega⟩ : Fin 4224)) ?_).trans ?_
  · rw [Shape.rowMajor_val_two, Shape.rowMajor_val_four]
    show h.val * 4224 + (384 * T.val + n.val) = ((h.val * 11 + T.val) * 1 + 0) * 384 + n.val
    omega
  split
  · rename_i hR
    exact (pad_apply_of_inside _ _ _ _ _ _ _ _ (ix2 h (⟨384 * T.val + n.val, hR⟩ : Fin 4112)) (fun a => match a with
      | ⟨0, _⟩ => show h.val = 0 + h.val * 1 by omega
      | ⟨1, _⟩ => show 384 * T.val + n.val = 0 + (384 * T.val + n.val) * 1 by omega)).trans (hl _ _)
  · rename_i hR
    refine (pad_apply_of_not_inside _ _ _ _ _ _ _ _ 1 ?_).trans (filler _)
    show ¬(0 ≤ 384 * T.val + n.val ∧ (384 * T.val + n.val - 0) % 1 = 0 ∧ (384 * T.val + n.val - 0) / 1 < 4112)
    omega

theorem add_log (A B : (⟨S1x16x4112x1, .f32⟩ : BufTy).Contents (Elt Ideal)) (i : S1x16x4112x1.Idx) :
    addf (F := Ideal) (φ := .f32) A (Host.log (F := Ideal) (φ := .f32) B) i = A i + Ideal.log (B i) := rfl

theorem sub_exp (A B : SC) (i : S1x16x4112x4112.Idx) :
    Host.exp (F := Ideal) (φ := .f32) (subf (F := Ideal) (φ := .f32) A B) i = Ideal.exp (A i - B i) := rfl

theorem div_at (A B : SC) (i : S1x16x4112x4112.Idx) :
    Host.divf (F := Ideal) (φ := .f32) A B i = Ideal.div (A i) (B i) := rfl

theorem mul_at (A B : C4) (i : S1x4112x16x128.Idx) :
    mulf (F := Ideal) (φ := .f32) A B i = A i * B i := rfl

/-! The product of the weights and the values reads these indices. -/
theorem pv_lhs0 (i : S1x16x128x4112.Idx) (r : dot_S1x4112x16x128_S1x16x4112x4112_S1x16x128x4112_1_3_3_2_02_01.contr.Idx) : (dot_S1x4112x16x128_S1x16x4112x4112_S1x16x128x4112_1_3_3_2_02_01.lhsIdx i r 0).val = (i 0).val := by
  unfold DotDims.lhsIdx
  rw [dif_pos (show (0 : Fin S1x4112x16x128.rank) ∈ dot_S1x4112x16x128_S1x16x4112x4112_S1x16x128x4112_1_3_3_2_02_01.lhsBatch by decide)]
  rfl
theorem pv_lhs2 (i : S1x16x128x4112.Idx) (r : dot_S1x4112x16x128_S1x16x4112x4112_S1x16x128x4112_1_3_3_2_02_01.contr.Idx) : (dot_S1x4112x16x128_S1x16x4112x4112_S1x16x128x4112_1_3_3_2_02_01.lhsIdx i r 2).val = (i 1).val := by
  unfold DotDims.lhsIdx
  rw [dif_pos (show (2 : Fin S1x4112x16x128.rank) ∈ dot_S1x4112x16x128_S1x16x4112x4112_S1x16x128x4112_1_3_3_2_02_01.lhsBatch by decide)]
  rfl
theorem pv_lhs3 (i : S1x16x128x4112.Idx) (r : dot_S1x4112x16x128_S1x16x4112x4112_S1x16x128x4112_1_3_3_2_02_01.contr.Idx) : (dot_S1x4112x16x128_S1x16x4112x4112_S1x16x128x4112_1_3_3_2_02_01.lhsIdx i r 3).val = (i 2).val := by
  unfold DotDims.lhsIdx
  rw [dif_neg (show ¬(3 : Fin S1x4112x16x128.rank) ∈ dot_S1x4112x16x128_S1x16x4112x4112_S1x16x128x4112_1_3_3_2_02_01.lhsBatch by decide), dif_pos (show (3 : Fin S1x4112x16x128.rank) ∈ dot_S1x4112x16x128_S1x16x4112x4112_S1x16x128x4112_1_3_3_2_02_01.lhsNonContracting by decide)]
  rfl
theorem pv_rhs0 (i : S1x16x128x4112.Idx) (r : dot_S1x4112x16x128_S1x16x4112x4112_S1x16x128x4112_1_3_3_2_02_01.contr.Idx) : (dot_S1x4112x16x128_S1x16x4112x4112_S1x16x128x4112_1_3_3_2_02_01.rhsIdx i r 0).val = (i 0).val := by
  unfold DotDims.rhsIdx
  rw [dif_pos (show (0 : Fin S1x16x4112x4112.rank) ∈ dot_S1x4112x16x128_S1x16x4112x4112_S1x16x128x4112_1_3_3_2_02_01.rhsBatch by decide)]
  rfl
theorem pv_rhs1 (i : S1x16x128x4112.Idx) (r : dot_S1x4112x16x128_S1x16x4112x4112_S1x16x128x4112_1_3_3_2_02_01.contr.Idx) : (dot_S1x4112x16x128_S1x16x4112x4112_S1x16x128x4112_1_3_3_2_02_01.rhsIdx i r 1).val = (i 1).val := by
  unfold DotDims.rhsIdx
  rw [dif_pos (show (1 : Fin S1x16x4112x4112.rank) ∈ dot_S1x4112x16x128_S1x16x4112x4112_S1x16x128x4112_1_3_3_2_02_01.rhsBatch by decide)]
  rfl
theorem pv_rhs2 (i : S1x16x128x4112.Idx) (r : dot_S1x4112x16x128_S1x16x4112x4112_S1x16x128x4112_1_3_3_2_02_01.contr.Idx) : (dot_S1x4112x16x128_S1x16x4112x4112_S1x16x128x4112_1_3_3_2_02_01.rhsIdx i r 2).val = (i 3).val := by
  unfold DotDims.rhsIdx
  rw [dif_neg (show ¬(2 : Fin S1x16x4112x4112.rank) ∈ dot_S1x4112x16x128_S1x16x4112x4112_S1x16x128x4112_1_3_3_2_02_01.rhsBatch by decide), dif_pos (show (2 : Fin S1x16x4112x4112.rank) ∈ dot_S1x4112x16x128_S1x16x4112x4112_S1x16x128x4112_1_3_3_2_02_01.rhsNonContracting by decide)]
  rfl

section rows
variable {s : SC} {q k : Fin 4112 → Fin 16 → Fin 192 → ℝ} {v o : Fin 4112 → Fin 16 → Fin 128 → ℝ} {M : Fin 16 → Fin 4112 → ℝ} {x2 x3 : C4}
  (hs : ∀ h I J, s (ix4 0 h I J) = if J.val ≤ I.val then ((sR q k h I J : ℝ) : EReal) else ⊥)
  (hM : ∀ h I, Host.reduce (FloatOps.maximumf (F := Ideal) (φ := .f32)) s (constant (F := Ideal) S_ .f32 0xFF800000#32) reducesTo_S1x16x4112x4112_S1x16x4112_d3 h_S_ (ix3 0 h I) = ((M h I : ℝ) : EReal))
  (hv : ∀ I h e, x2 (ix4 0 I h e) = ((v I h e : ℝ) : EReal)) (ho : ∀ I h e, x3 (ix4 0 I h e) = ((o I h e : ℝ) : EReal))

/-- A row statistic broadcast to a column of its own. -/
theorem col_at (y : (⟨S1x16x4112, .f32⟩ : BufTy).Contents (Elt Ideal)) (h : Fin 16) (I : Fin 4112) :
    broadcastInDim S1x16x4112x1 ![0, 1, 2] bcast_S1x16x4112_S1x16x4112x1_0_1_2 y (ix4 0 h I 0) = y (ix3 0 h I) :=
  broadcastInDim_apply _ bcast_S1x16x4112_S1x16x4112x1_0_1_2 y _ (ix3 0 h I) (fun a => match a with
    | ⟨0, _⟩ => by show 0 = if (1 : Nat) = 1 then 0 else _; rw [if_pos rfl]
    | ⟨1, _⟩ => by show h.val = if (16 : Nat) = 1 then 0 else h.val; rw [if_neg (by decide)]
    | ⟨2, _⟩ => by show I.val = if (4112 : Nat) = 1 then 0 else I.val; rw [if_neg (by decide)])

/-- A column broadcast along its row. -/
theorem row_at (y : (⟨S1x16x4112x1, .f32⟩ : BufTy).Contents (Elt Ideal)) (h : Fin 16) (I J : Fin 4112) :
    broadcastInDim S1x16x4112x4112 ![0, 1, 2, 3] bcast_S1x16x4112x1_S1x16x4112x4112_0_1_2_3 y (ix4 0 h I J) = y (ix4 0 h I 0) :=
  broadcastInDim_apply _ bcast_S1x16x4112x1_S1x16x4112x4112_0_1_2_3 y _ (ix4 0 h I 0) (fun a => match a with
    | ⟨0, _⟩ => by show 0 = if (1 : Nat) = 1 then 0 else _; rw [if_pos rfl]
    | ⟨1, _⟩ => by show h.val = if (16 : Nat) = 1 then 0 else h.val; rw [if_neg (by decide)]
    | ⟨2, _⟩ => by show I.val = if (4112 : Nat) = 1 then 0 else I.val; rw [if_neg (by decide)]
    | ⟨3, _⟩ => by show 0 = if (1 : Nat) = 1 then 0 else _; rw [if_pos rfl])

include hM in
theorem rmax_at (h : Fin 16) (I : Fin 4112) : rmax s (ix4 0 h I 0) = ((M h I : ℝ) : EReal) := by
  unfold rmax; rw [col_at, hM]

include hs hM in
theorem expo_at (h : Fin 16) (I J : Fin 4112) : expo s (ix4 0 h I J) = ((eR q k M h I J : ℝ) : EReal) := by
  unfold expo
  rw [sub_exp, row_at, rmax_at hM, hs]
  unfold eR
  split
  · rw [← EReal.coe_sub, Ideal.exp_coe]
  · rw [EReal.bot_sub, Ideal.exp_bot]; rfl

include hs hM in
theorem rsum_at (h : Fin 16) (I : Fin 4112) : rsum s (ix4 0 h I 0) = ((zR q k M h I : ℝ) : EReal) := by
  unfold rsum
  rw [col_at]
  simp only [Host.reduceAdd, Ideal.hostReduceAdd_def]
  rw [Ideal.hostReduceAdd_single reducesTo_S1x16x4112x4112_S1x16x4112_d3 (by decide)]
  rw [show (constant (F := Ideal) S_ .f32 0x00000000#32) (Shape.Idx.first h_S_) = (0 : EReal) from zeroW, zero_add, zR, coe_sum]
  refine Finset.sum_congr rfl fun J _ => ?_
  refine Eq.trans (congrArg (expo s) (funext fun a => Fin.ext ?_)) (expo_at hs hM h I J)
  match a with | ⟨0, _⟩ => rfl | ⟨1, _⟩ => rfl | ⟨2, _⟩ => rfl | ⟨3, _⟩ => rfl

include hs hM in
/-- The log of the sum of exponentials, at an index. -/
theorem lse_at (h : Fin 16) (I : Fin 4112) : lse s (ix2 h I) = ((M h I + Real.log (zR q k M h I) : ℝ) : EReal) := by
  unfold lse
  refine (shapeCast_apply _ shapeCasts_S1x16x4112x1_S16x4112 _ (ix4 0 h I 0) ?_).trans ?_
  · rw [Shape.rowMajor_val_four, Shape.rowMajor_val_two]
    show ((0 * 16 + h.val) * 4112 + I.val) * 1 + 0 = h.val * 4112 + I.val
    omega
  · rw [add_log, rmax_at hM, rsum_at hs hM, Ideal.log_coe, if_neg (not_le.mpr (zR_pos q k M h I)), ← EReal.coe_add]

include hs hM in
theorem prob_at (h : Fin 16) (I J : Fin 4112) : prob s (ix4 0 h I J) = ((pR q k M h I J : ℝ) : EReal) := by
  unfold prob
  rw [div_at, row_at, expo_at hs hM, rsum_at hs hM]
  exact div_real _ _ (zR_pos q k M h I).ne'

include hs hM hv in
/-- The attention's output, at an index. -/
theorem outp_at (I : Fin 4112) (h : Fin 16) (e : Fin 128) : outp s x2 (ix4 0 I h e) = ((∑ J, v J h e * pR q k M h I J : ℝ) : EReal) := by
  unfold outp
  refine (transpose_apply [0, 3, 1, 2] _ transposes_S1x16x128x4112_S1x4112x16x128_0_3_1_2 _ (ix4 0 h e I) (fun b => match b with
    | ⟨0, _⟩ => rfl
    | ⟨1, _⟩ => rfl
    | ⟨2, _⟩ => rfl
    | ⟨3, _⟩ => rfl)).trans ?_
  simp only [Host.dotGeneral]
  rw [Ideal.dotGeneral_apply, ← Equiv.sum_comp (ValueIdx.contrEquiv1 dot_S1x4112x16x128_S1x16x4112x4112_S1x16x128x4112_1_3_3_2_02_01 4112 rfl rfl).symm, coe_sum]
  refine Finset.sum_congr rfl fun J _ => ?_
  have hk := ValueIdx.contrEquiv1_symm_val dot_S1x4112x16x128_S1x16x4112x4112_S1x16x128x4112_1_3_3_2_02_01 4112 rfl rfl J
  have el : dot_S1x4112x16x128_S1x16x4112x4112_S1x16x128x4112_1_3_3_2_02_01.lhsIdx (ix4 0 h e I) ((ValueIdx.contrEquiv1 dot_S1x4112x16x128_S1x16x4112x4112_S1x16x128x4112_1_3_3_2_02_01 4112 rfl rfl).symm J) = ix4 0 J h e := funext fun a => Fin.ext (by
    match a with
    | ⟨0, _⟩ => exact pv_lhs0 _ _
    | ⟨1, _⟩ => exact (DotDims.lhsIdx_val_of_single _ rfl _ _).trans hk
    | ⟨2, _⟩ => exact pv_lhs2 _ _
    | ⟨3, _⟩ => exact pv_lhs3 _ _)
  have er : dot_S1x4112x16x128_S1x16x4112x4112_S1x16x128x4112_1_3_3_2_02_01.rhsIdx (ix4 0 h e I) ((ValueIdx.contrEquiv1 dot_S1x4112x16x128_S1x16x4112x4112_S1x16x128x4112_1_3_3_2_02_01 4112 rfl rfl).symm J) = ix4 0 h I J := funext fun a => Fin.ext (by
    match a with
    | ⟨0, _⟩ => exact pv_rhs0 _ _
    | ⟨1, _⟩ => exact pv_rhs1 _ _
    | ⟨2, _⟩ => exact pv_rhs2 _ _
    | ⟨3, _⟩ => exact (DotDims.rhsIdx_val_of_single _ rfl _ _).trans hk)
  rw [el, er, hv, prob_at hs hM, ← EReal.coe_mul]

include hs hM hv ho in
/-- The cotangent against the output, at an index. -/
theorem delta_at (h : Fin 16) (I : Fin 4112) : delta s x2 x3 (ix2 h I) = ((∑ e, o I h e * ∑ J, v J h e * pR q k M h I J : ℝ) : EReal) := by
  unfold delta
  refine (transpose_apply [1, 0] _ transposes_S4112x16_S16x4112_1_0 _ (ix2 I h) (fun b => match b with
    | ⟨0, _⟩ => rfl
    | ⟨1, _⟩ => rfl)).trans ?_
  refine (shapeCast_apply _ shapeCasts_S1x4112x16_S4112x16 _ (ix3 0 I h) ?_).trans ?_
  · rw [Shape.rowMajor_val_three, Shape.rowMajor_val_two]
    show (0 * 4112 + I.val) * 16 + h.val = I.val * 16 + h.val
    omega
  simp only [Host.reduceAdd, Ideal.hostReduceAdd_def]
  rw [Ideal.hostReduceAdd_single reducesTo_S1x4112x16x128_S1x4112x16_d3 (by decide)]
  rw [show (constant (F := Ideal) S_ .f32 0x00000000#32) (Shape.Idx.first h_S_) = (0 : EReal) from zeroW, zero_add, coe_sum]
  refine Finset.sum_congr rfl fun e _ => ?_
  refine Eq.trans (congrArg (mulf (F := Ideal) (φ := .f32) x3 (outp s x2)) (funext fun a => Fin.ext ?_ : _ = ix4 0 I h e)) ?_
  · match a with | ⟨0, _⟩ => rfl | ⟨1, _⟩ => rfl | ⟨2, _⟩ => rfl | ⟨3, _⟩ => rfl
  · refine (mul_at _ _ _).trans ?_
    refine (congrArg₂ (· * ·) (ho I h e) (outp_at hs hM hv I h e)).trans ?_
    exact (EReal.coe_mul _ _).symm

end rows
end Cert.KernelIdeal.Prelude
end
-- ==== Proof.Body.lean ====
module

public import proofs.«01_k».proof.Proof.Gen.KernelIdeal.Value
public import proofs.«01_k».proof.Proof.Head
public import Idealize.ShloMosaic.Lib.Pipeline.ValueKit.Tiles

@[expose] public section

noncomputable section

/-! What the kernel's body stores at a grid point, from the entries of its six blocks. -/
namespace Cert.KernelIdeal.Body

open Cert.KernelIdeal Cert.KernelIdeal.Gen Cert.KernelIdeal.Head Idealize.ShloMosaic Idealize.ShloMosaic.ValueIdx
open Idealize.ShloMosaic.TcCoe Idealize.ShloMosaic.Tactic Idealize.SL.Sem

/-- The loop over the later tiles of queries makes one trip for each of them. -/
theorem trips_eq (i : grid0.Coords) : (k0_t1_loop i).trips = 10 - (i 1).val := by
  have h : ∀ x : Fin 11, (Scf.Loop.mk (Scalar.addi (BitVec.ofNat 32 x.val) 1#32) (Scalar.addi (Scalar.addi (BitVec.ofNat 32 x.val) 1#32)
      (Scalar.muli (Scalar.divsi (Scalar.subi 11#32 (Scalar.addi (BitVec.ofNat 32 x.val) 1#32)) 1#32) 1#32)) 1#32).trips = 10 - x.val := by
    decide +kernel
  exact h (i 1)

/-- The loop after it makes no trip. -/
theorem no_trips (i : grid0.Coords) : (k0_t2_loop i).trips = 0 := by
  have h : ∀ x : Fin 11, (Scf.Loop.mk (Scalar.addi (Scalar.addi (BitVec.ofNat 32 x.val) 1#32)
      (Scalar.muli (Scalar.divsi (Scalar.subi 11#32 (Scalar.addi (BitVec.ofNat 32 x.val) 1#32)) 1#32) 1#32)) (Scalar.addi (Scalar.addi (BitVec.ofNat 32 x.val) 1#32)
      (Scalar.subi 11#32 (Scalar.addi (BitVec.ofNat 32 x.val) 1#32))) 1#32).trips = 0 := by
    decide +kernel
  exact h (i 1)

/-- A trip's tile of queries, as the kernel computes its number. -/
theorem tile_no (x : Fin 11) (t : Fin 11) :
    (Scf.iv (Scalar.addi (BitVec.ofNat 32 x.val) 1#32) 1#32 t.val : BitVec 32).toNat = x.val + 1 + t.val := by
  revert x t; decide +kernel

/-- A trip's first row of queries, as the kernel computes it. -/
theorem tile_row (x : Fin 11) (t : Fin 11) :
    (Scalar.muli (Scf.iv (Scalar.addi (BitVec.ofNat 32 x.val) 1#32) 1#32 t.val : BitVec 32) 384#32).toNat = 384 * (x.val + 1 + t.val) := by
  revert x t; decide +kernel

theorem first_row (x : Fin 11) : (Scalar.muli (BitVec.ofNat 32 x.val) 384#32).toNat = 384 * x.val := by
  revert x; decide +kernel

theorem first_no (x : Fin 11) : (BitVec.ofNat 32 x.val).toNat = x.val := by
  revert x; decide +kernel

theorem trip_lt {i : grid0.Coords} (t : Fin (k0_t1_loop i).trips) : t.val < 11 ∧ (i 1).val + 1 + t.val < 11 := by
  have h := t.isLt
  have h2 := trips_eq i
  omega

section trip
variable (c : Dev nD) (i : grid0.Coords) (arg2 : Memref sig .tc .vmem S4224x512 .bf16) (harg2 : arg2.IsWhole) (arg3 : Memref sig .tc .vmem S384x512 .bf16) (harg3 : arg3.IsWhole) (arg4 : Memref sig .tc .vmem S384x256 .bf16) (harg4 : arg4.IsWhole) (arg5 : Memref sig .tc .vmem S4224x256 .bf16) (harg5 : arg5.IsWhole) (arg6 : Memref sig .tc .vmem S2x11x1x384 .f32) (harg6 : arg6.IsWhole) (arg7 : Memref sig .tc .vmem S2x11x1x384 .f32) (harg7 : arg7.IsWhole) (arg8 : Memref sig .tc .vmem S384x512 .f32) (harg8 : arg8.IsWhole) (arg9 : Memref sig .tc .vmem S384x256 .f32) (harg9 : arg9.IsWhole)
    (x0 : Vec Ideal S4224x512 .bf16) (x1 : Vec Ideal S384x512 .bf16) (x2 : Vec Ideal S384x256 .bf16) (x3 : Vec Ideal S4224x256 .bf16) (x4 : Vec Ideal S2x11x1x384 .f32) (x5 : Vec Ideal S2x11x1x384 .f32)

/-- The four sums after a trip, from the tiles it loads. -/
theorem trip_eq (v94 : BitVec 32) (t : Fin (k0_t1_loop i).trips) (acc : FVec Ideal S384x256 .f32 × FVec Ideal S384x128 .f32 × FVec Ideal S384x256 .f32 × FVec Ideal S384x128 .f32) :
   tripR_k0_t1 (F := Ideal) Variants.none c none i arg2 harg2 arg3 harg3 arg4 harg4 arg5 harg5 arg6 harg6 arg7 harg7 arg8 harg8 arg9 harg9 v94 (harg2.unread x0) (harg3.unread x1) (harg4.unread x2) (harg5.unread x3) (harg6.unread x4) (harg7.unread x5) t acc
    = (k0_pay11 (F := Ideal) acc.1
        (k0_pay6 (View.ld x2 (Rect.unit ![0, 0] S384x128.size inb_S384x256_S384x128_0_0)) (View.ld x3 (Rect.unit (k0_off9 i t) S384x128.size (k0_off9_inb i t))))
        (k0_pay8 (View.ld x1 (Rect.unit ![0, 0] S384x256.size inb_S384x512_S384x256_0_0)) (View.ld x0 (Rect.unit (k0_off7 i t) S384x256.size (k0_off7_inb i t))) (View.ld x4 (Rect.unit (k0_off11 i t) S1x1x1x384.size (k0_off11_inb i t))))
        (View.ld x5 (Rect.unit (k0_off11 i t) S1x1x1x384.size (k0_off11_inb i t))) (View.ld x0 (Rect.unit (k0_off7 i t) S384x256.size (k0_off7_inb i t))),
       k0_pay10 (F := Ideal) acc.2.1
        (k0_pay9 (View.ld x1 (Rect.unit ![0, 0] S384x256.size inb_S384x512_S384x256_0_0)) (View.ld x0 (Rect.unit (k0_off7 i t) S384x256.size (k0_off7_inb i t))) (View.ld x4 (Rect.unit (k0_off11 i t) S1x1x1x384.size (k0_off11_inb i t))))
        (View.ld x3 (Rect.unit (k0_off9 i t) S384x128.size (k0_off9_inb i t))),
       k0_pay3 (F := Ideal) acc.2.2.1
        (k0_pay14 (k0_pay5 (View.ld x1 (Rect.unit ![0, 256] S384x256.size inb_S384x512_S384x256_0_256)) (View.ld x0 (Rect.unit (k0_off8 i t) S384x256.size (k0_off8_inb i t))))
          (k0_pay7 (View.ld x2 (Rect.unit ![0, 128] S384x128.size inb_S384x256_S384x128_0_128)) (View.ld x3 (Rect.unit (k0_off10 i t) S384x128.size (k0_off10_inb i t))))
          (View.ld x4 (Rect.unit (k0_off12 i t) S1x1x1x384.size (k0_off12_inb i t))) (View.ld x5 (Rect.unit (k0_off12 i t) S1x1x1x384.size (k0_off12_inb i t))))
        (View.ld x0 (Rect.unit (k0_off8 i t) S384x256.size (k0_off8_inb i t))),
       k0_pay13 (F := Ideal) acc.2.2.2
        (k0_pay5 (View.ld x1 (Rect.unit ![0, 256] S384x256.size inb_S384x512_S384x256_0_256)) (View.ld x0 (Rect.unit (k0_off8 i t) S384x256.size (k0_off8_inb i t))))
        (View.ld x4 (Rect.unit (k0_off12 i t) S1x1x1x384.size (k0_off12_inb i t)))
        (View.ld x3 (Rect.unit (k0_off10 i t) S384x128.size (k0_off10_inb i t)))) := by
  unfold tripR_k0_t1 trip_k0_t1
  dsimp only
  sl_unfold_words
  simp only [View.readAt_eq_ld, harg2.read_unread, harg3.read_unread, harg4.read_unread, harg5.read_unread, harg6.read_unread, harg7.read_unread]

/-- The four sums after the diagonal tile. -/
def initAcc : FVec Ideal S384x256 .f32 × FVec Ideal S384x128 .f32 × FVec Ideal S384x256 .f32 × FVec Ideal S384x128 .f32 :=
  (k0_pay33 (F := Ideal) k0_pay25 (k0_pay28 (View.ld x2 (Rect.unit ![0, 0] S384x128.size inb_S384x256_S384x128_0_0)) (View.ld x3 (Rect.unit (k0_off3 i) S384x128.size (k0_off3_inb i)))) (k0_pay30 (View.ld x1 (Rect.unit ![0, 0] S384x256.size inb_S384x512_S384x256_0_0)) (View.ld x0 (Rect.unit (k0_off1 i) S384x256.size (k0_off1_inb i))) (View.ld x4 (Rect.unit (k0_off5 i) S1x1x1x384.size (k0_off5_inb i)))) (View.ld x5 (Rect.unit (k0_off5 i) S1x1x1x384.size (k0_off5_inb i))) (View.ld x0 (Rect.unit (k0_off1 i) S384x256.size (k0_off1_inb i))),
   k0_pay32 (F := Ideal) k0_pay26 (k0_pay30 (View.ld x1 (Rect.unit ![0, 0] S384x256.size inb_S384x512_S384x256_0_0)) (View.ld x0 (Rect.unit (k0_off1 i) S384x256.size (k0_off1_inb i))) (View.ld x4 (Rect.unit (k0_off5 i) S1x1x1x384.size (k0_off5_inb i)))) (View.ld x3 (Rect.unit (k0_off3 i) S384x128.size (k0_off3_inb i))),
   k0_pay2 (F := Ideal) k0_pay25 (k0_pay29 (View.ld x2 (Rect.unit ![0, 128] S384x128.size inb_S384x256_S384x128_0_128)) (View.ld x3 (Rect.unit (k0_off4 i) S384x128.size (k0_off4_inb i)))) (k0_pay34 (k0_pay27 (View.ld x1 (Rect.unit ![0, 256] S384x256.size inb_S384x512_S384x256_0_256)) (View.ld x0 (Rect.unit (k0_off2 i) S384x256.size (k0_off2_inb i)))) (View.ld x4 (Rect.unit (k0_off6 i) S1x1x1x384.size (k0_off6_inb i)))) (View.ld x5 (Rect.unit (k0_off6 i) S1x1x1x384.size (k0_off6_inb i))) (View.ld x0 (Rect.unit (k0_off2 i) S384x256.size (k0_off2_inb i))),
   k0_pay1 (F := Ideal) k0_pay26 (k0_pay35 (k0_pay27 (View.ld x1 (Rect.unit ![0, 256] S384x256.size inb_S384x512_S384x256_0_256)) (View.ld x0 (Rect.unit (k0_off2 i) S384x256.size (k0_off2_inb i)))) (View.ld x4 (Rect.unit (k0_off6 i) S1x1x1x384.size (k0_off6_inb i))) (View.ld x3 (Rect.unit (k0_off4 i) S384x128.size (k0_off4_inb i)))))

/-- The four sums after `n` of the later tiles. -/
def accAt (n : ℕ) : FVec Ideal S384x256 .f32 × FVec Ideal S384x128 .f32 × FVec Ideal S384x256 .f32 × FVec Ideal S384x128 .f32 :=
  st_k0_t1 (F := Ideal) Variants.none c none i arg2 harg2 arg3 harg3 arg4 harg4 arg5 harg5 arg6 harg6 arg7 harg7 arg8 harg8 arg9 harg9 (Scalar.addi (BitVec.ofNat 32 (i 1).val) 1#32) (harg2.unread x0) (harg3.unread x1) (harg4.unread x2) (harg5.unread x3) (harg6.unread x4) (harg7.unread x5) (initAcc i x0 x1 x2 x3 x4 x5) n

/-- The key block's stores are the two heads' sums. -/
theorem out6_canon : out0_A_6 (F := Ideal) c i arg2 harg2 arg3 harg3 arg4 harg4 arg5 harg5 arg6 harg6 arg7 harg7 arg8 harg8 arg9 harg9 x0 x1 x2 x3 x4 x5
    = View.canon (Val := Elt Ideal) (s := S384x512) (e := .f32) [⟨Rect.unit ![0, 256] S384x256.size inb_S384x512_S384x256_0_256, (accAt c i arg2 harg2 arg3 harg3 arg4 harg4 arg5 harg5 arg6 harg6 arg7 harg7 arg8 harg8 arg9 harg9 x0 x1 x2 x3 x4 x5 (k0_t1_loop i).trips).2.2.1⟩,
        ⟨Rect.unit ![0, 0] S384x256.size inb_S384x512_S384x256_0_0, (accAt c i arg2 harg2 arg3 harg3 arg4 harg4 arg5 harg5 arg6 harg6 arg7 harg7 arg8 harg8 arg9 harg9 x0 x1 x2 x3 x4 x5 (k0_t1_loop i).trips).1⟩] := by
  have h2 := no_trips i
  unfold out0_A_6
  rw [View.read_writes_eq_canon _ _ _ (cover0_A_6 c i arg2 harg2 arg3 harg3 arg4 harg4 arg5 harg5 arg6 harg6 arg7 harg7 arg8 harg8 arg9 harg9 x0 x1 x2 x3 x4 x5)]
  unfold kernelRun0_A
  dsimp only
  sl_unfold_words
  simp only [View.readAt_eq_ld, harg2.read_unread, harg3.read_unread, harg4.read_unread, harg5.read_unread, harg6.read_unread, harg7.read_unread]
  dsimp only [k0_t2_loop, Scf.Loop.trips] at h2
  rw [h2, st_k0_t2_zero]
  dsimp only [accAt, initAcc, k0_t1_loop, Scf.Loop.trips, k0_off1, k0_off2, k0_off3, k0_off4, k0_off5, k0_off6]

/-- The value block's stores are the two heads' sums. -/
theorem out7_canon : out0_A_7 (F := Ideal) c i arg2 harg2 arg3 harg3 arg4 harg4 arg5 harg5 arg6 harg6 arg7 harg7 arg8 harg8 arg9 harg9 x0 x1 x2 x3 x4 x5
    = View.canon (Val := Elt Ideal) (s := S384x256) (e := .f32) [⟨Rect.unit ![0, 128] S384x128.size inb_S384x256_S384x128_0_128, (accAt c i arg2 harg2 arg3 harg3 arg4 harg4 arg5 harg5 arg6 harg6 arg7 harg7 arg8 harg8 arg9 harg9 x0 x1 x2 x3 x4 x5 (k0_t1_loop i).trips).2.2.2⟩,
        ⟨Rect.unit ![0, 0] S384x128.size inb_S384x256_S384x128_0_0, (accAt c i arg2 harg2 arg3 harg3 arg4 harg4 arg5 harg5 arg6 harg6 arg7 harg7 arg8 harg8 arg9 harg9 x0 x1 x2 x3 x4 x5 (k0_t1_loop i).trips).2.1⟩] := by
  have h2 := no_trips i
  unfold out0_A_7
  rw [View.read_writes_eq_canon _ _ _ (cover0_A_7 c i arg2 harg2 arg3 harg3 arg4 harg4 arg5 harg5 arg6 harg6 arg7 harg7 arg8 harg8 arg9 harg9 x0 x1 x2 x3 x4 x5)]
  unfold kernelRun0_A
  dsimp only
  sl_unfold_words
  simp only [View.readAt_eq_ld, harg2.read_unread, harg3.read_unread, harg4.read_unread, harg5.read_unread, harg6.read_unread, harg7.read_unread]
  dsimp only [k0_t2_loop, Scf.Loop.trips] at h2
  rw [h2, st_k0_t2_zero]
  dsimp only [accAt, initAcc, k0_t1_loop, Scf.Loop.trips, k0_off1, k0_off2, k0_off3, k0_off4, k0_off5, k0_off6]

section values
variable (q : Fin 2 → ℕ → Fin 256 → ℝ) (k : Fin 2 → Fin 384 → Fin 256 → ℝ) (v : Fin 2 → Fin 384 → Fin 128 → ℝ) (o : Fin 2 → ℕ → Fin 128 → ℝ)
  (l δ : Fin 2 → ℕ → ℝ)

/-- The blocks hold the entries of two heads' rows. -/
structure Holds : Prop where
  hq : ∀ (a : Fin 2) (I : Fin 4224) (d : Fin 256), x0 (ix2 I ⟨256 * a.val + d.val, by omega⟩) = ((q a I.val d : ℝ) : EReal)
  hk : ∀ (a : Fin 2) (j : Fin 384) (d : Fin 256), x1 (ix2 j ⟨256 * a.val + d.val, by omega⟩) = ((k a j d : ℝ) : EReal)
  hv : ∀ (a : Fin 2) (j : Fin 384) (e : Fin 128), x2 (ix2 j ⟨128 * a.val + e.val, by omega⟩) = ((v a j e : ℝ) : EReal)
  ho : ∀ (a : Fin 2) (I : Fin 4224) (e : Fin 128), x3 (ix2 I ⟨128 * a.val + e.val, by omega⟩) = ((o a I.val e : ℝ) : EReal)
  hl : ∀ (a : Fin 2) (T : Fin 11) (n : Fin 384), x4 (ix4 a T 0 n) = ((l a (384 * T.val + n.val) : ℝ) : EReal)
  hδ : ∀ (a : Fin 2) (T : Fin 11) (n : Fin 384), x5 (ix4 a T 0 n) = ((δ a (384 * T.val + n.val) : ℝ) : EReal)

/-- The four sums hold the gradients from the queries of the first `n` rows. -/
def Inv (n : ℕ) (acc : FVec Ideal S384x256 .f32 × FVec Ideal S384x128 .f32 × FVec Ideal S384x256 .f32 × FVec Ideal S384x128 .f32) : Prop :=
  (∀ j d, acc.1 (ix2 j d) = ((accK (q 0) (k 0) (v 0) (o 0) (l 0) (δ 0) (i 1).val n j d : ℝ) : EReal))
  ∧ (∀ j e, acc.2.1 (ix2 j e) = ((accV (q 0) (k 0) (o 0) (l 0) (i 1).val n j e : ℝ) : EReal))
  ∧ (∀ j d, acc.2.2.1 (ix2 j d) = ((accK (q 1) (k 1) (v 1) (o 1) (l 1) (δ 1) (i 1).val n j d : ℝ) : EReal))
  ∧ (∀ j e, acc.2.2.2 (ix2 j e) = ((accV (q 1) (k 1) (o 1) (l 1) (i 1).val n j e : ℝ) : EReal))

variable {q k v o l δ x0 x1 x2 x3 x4 x5}

section loads
variable (H : Holds x0 x1 x2 x3 x4 x5 q k v o l δ) {T : ℕ} (hT : T < 11)
include H

theorem ldK (a : Fin 2) (off : Fin 2 → ℕ) (inb) (h : off = ![0, 256 * a.val]) (j : Fin 384) (d : Fin 256) :
    View.ld x1 (Rect.unit off S384x256.size inb) (ix2 j d) = ((k a j d : ℝ) : EReal) := by
  subst h
  rw [← H.hk]
  refine View.ld_unit_apply_of _ _ _ _ _ _ fun b => ?_
  match b with
  | ⟨0, _⟩ => exact (Nat.zero_add _).symm
  | ⟨1, _⟩ => rfl

theorem ldV (a : Fin 2) (off : Fin 2 → ℕ) (inb) (h : off = ![0, 128 * a.val]) (j : Fin 384) (d : Fin 128) :
    View.ld x2 (Rect.unit off S384x128.size inb) (ix2 j d) = ((v a j d : ℝ) : EReal) := by
  subst h
  rw [← H.hv]
  refine View.ld_unit_apply_of _ _ _ _ _ _ fun b => ?_
  match b with
  | ⟨0, _⟩ => exact (Nat.zero_add _).symm
  | ⟨1, _⟩ => rfl

include hT in
theorem ldQ (a : Fin 2) (off : Fin 2 → ℕ) (inb) (h : off = ![384 * T, 256 * a.val]) (n : Fin 384) (d : Fin 256) :
    View.ld x0 (Rect.unit off S384x256.size inb) (ix2 n d) = ((q a (384 * T + n.val) d : ℝ) : EReal) := by
  subst h
  rw [← H.hq a ⟨384 * T + n.val, by omega⟩ d]
  refine View.ld_unit_apply_of _ _ _ _ _ _ fun b => ?_
  match b with
  | ⟨0, _⟩ => rfl
  | ⟨1, _⟩ => rfl

include hT in
theorem ldO (a : Fin 2) (off : Fin 2 → ℕ) (inb) (h : off = ![384 * T, 128 * a.val]) (n : Fin 384) (d : Fin 128) :
    View.ld x3 (Rect.unit off S384x128.size inb) (ix2 n d) = ((o a (384 * T + n.val) d : ℝ) : EReal) := by
  subst h
  rw [← H.ho a ⟨384 * T + n.val, by omega⟩ d]
  refine View.ld_unit_apply_of _ _ _ _ _ _ fun b => ?_
  match b with
  | ⟨0, _⟩ => rfl
  | ⟨1, _⟩ => rfl

include hT in
theorem ldL (a : Fin 2) (off : Fin 4 → ℕ) (inb) (h : off = ![a.val, T, 0, 0]) (n : Fin 384) :
    View.ld x4 (Rect.unit off S1x1x1x384.size inb) (ix4 0 0 0 n) = ((l a (384 * T + n.val) : ℝ) : EReal) := by
  subst h
  rw [← H.hl a ⟨T, hT⟩ n]
  refine View.ld_unit_apply_of _ _ _ _ _ _ fun b => ?_
  match b with
  | ⟨0, _⟩ => rfl
  | ⟨1, _⟩ => rfl
  | ⟨2, _⟩ => rfl
  | ⟨3, _⟩ => exact (Nat.zero_add _).symm

include hT in
theorem ldR (a : Fin 2) (off : Fin 4 → ℕ) (inb) (h : off = ![a.val, T, 0, 0]) (n : Fin 384) :
    View.ld x5 (Rect.unit off S1x1x1x384.size inb) (ix4 0 0 0 n) = ((δ a (384 * T + n.val) : ℝ) : EReal) := by
  subst h
  rw [← H.hδ a ⟨T, hT⟩ n]
  refine View.ld_unit_apply_of _ _ _ _ _ _ fun b => ?_
  match b with
  | ⟨0, _⟩ => rfl
  | ⟨1, _⟩ => rfl
  | ⟨2, _⟩ => rfl
  | ⟨3, _⟩ => exact (Nat.zero_add _).symm

end loads

theorem off_row (w : ℕ) (x : BitVec 32) (n : ℕ) (h : x.toNat = n) : (![x.toNat, w] : Fin 2 → ℕ) = ![n, w] := by rw [h]
theorem off_no (w : ℕ) (x : BitVec 32) (n : ℕ) (h : x.toNat = n) : (![w, x.toNat, 0, 0] : Fin 4 → ℕ) = ![w, n, 0, 0] := by rw [h]

/-- After the diagonal tile the sums hold the rows up to its end. -/
theorem inv_init (H : Holds x0 x1 x2 x3 x4 x5 q k v o l δ) : Inv i q k v o l δ (384 * ((i 1).val + 1)) (initAcc i x0 x1 x2 x3 x4 x5) := by
  have hT : (i 1).val < 11 := (i 1).isLt
  have r := first_row (i 1)
  have n := first_no (i 1)
  have hK0 := ldK H 0 _ inb_S384x512_S384x256_0_0 rfl
  have hK1 := ldK H 1 _ inb_S384x512_S384x256_0_256 rfl
  have hV0 := ldV H 0 _ inb_S384x256_S384x128_0_0 rfl
  have hV1 := ldV H 1 _ inb_S384x256_S384x128_0_128 rfl
  have hQ0 := ldQ H hT 0 _ (k0_off1_inb i) (off_row 0 _ _ r)
  have hQ1 := ldQ H hT 1 _ (k0_off2_inb i) (off_row 256 _ _ r)
  have hO0 := ldO H hT 0 _ (k0_off3_inb i) (off_row 0 _ _ r)
  have hO1 := ldO H hT 1 _ (k0_off4_inb i) (off_row 128 _ _ r)
  have hL0 := ldL H hT 0 _ (k0_off5_inb i) (off_no 0 _ _ n)
  have hL1 := ldL H hT 1 _ (k0_off6_inb i) (off_no 1 _ _ n)
  have hR0 := ldR H hT 0 _ (k0_off5_inb i) (off_no 0 _ _ n)
  have hR1 := ldR H hT 1 _ (k0_off6_inb i) (off_no 1 _ _ n)
  exact ⟨initK0 hK0 hQ0 hV0 hO0 hL0 hR0 rfl, initV0 hK0 hQ0 hO0 hL0 rfl, initK1 hK1 hQ1 hV1 hO1 hL1 hR1 rfl, initV1 hK1 hQ1 hO1 hL1 rfl⟩

/-- Each later tile adds its rows. -/
theorem inv_acc (H : Holds x0 x1 x2 x3 x4 x5 q k v o l δ) (n : ℕ) (hn : n ≤ (k0_t1_loop i).trips) :
    Inv i q k v o l δ (384 * ((i 1).val + 1 + n)) (accAt c i arg2 harg2 arg3 harg3 arg4 harg4 arg5 harg5 arg6 harg6 arg7 harg7 arg8 harg8 arg9 harg9 x0 x1 x2 x3 x4 x5 n) := by
  induction n with
  | zero => exact inv_init i H
  | succ n ih =>
    obtain ⟨a0, b0, a1, b1⟩ := ih (by omega)
    have hs : accAt c i arg2 harg2 arg3 harg3 arg4 harg4 arg5 harg5 arg6 harg6 arg7 harg7 arg8 harg8 arg9 harg9 x0 x1 x2 x3 x4 x5 (n + 1) = _ :=
      (st_k0_t1_succ (F := Ideal) Variants.none c none i arg2 harg2 arg3 harg3 arg4 harg4 arg5 harg5 arg6 harg6 arg7 harg7 arg8 harg8 arg9 harg9 (Scalar.addi (BitVec.ofNat 32 (i 1).val) 1#32) (harg2.unread x0) (harg3.unread x1) (harg4.unread x2) (harg5.unread x3) (harg6.unread x4) (harg7.unread x5) (initAcc i x0 x1 x2 x3 x4 x5) ⟨n, hn⟩).trans (trip_eq c i arg2 harg2 arg3 harg3 arg4 harg4 arg5 harg5 arg6 harg6 arg7 harg7 arg8 harg8 arg9 harg9 x0 x1 x2 x3 x4 x5 _ ⟨n, hn⟩ _)
    rw [hs]
    obtain ⟨t11, hT⟩ := trip_lt (i := i) ⟨n, hn⟩
    have r := tile_row (i 1) ⟨n, t11⟩
    have m := tile_no (i 1) ⟨n, t11⟩
    have hK0 := ldK H 0 _ inb_S384x512_S384x256_0_0 rfl
    have hK1 := ldK H 1 _ inb_S384x512_S384x256_0_256 rfl
    have hV0 := ldV H 0 _ inb_S384x256_S384x128_0_0 rfl
    have hV1 := ldV H 1 _ inb_S384x256_S384x128_0_128 rfl
    have hQ0 := ldQ H hT 0 _ (k0_off7_inb i ⟨n, hn⟩) (off_row 0 _ _ r)
    have hQ1 := ldQ H hT 1 _ (k0_off8_inb i ⟨n, hn⟩) (off_row 256 _ _ r)
    have hO0 := ldO H hT 0 _ (k0_off9_inb i ⟨n, hn⟩) (off_row 0 _ _ r)
    have hO1 := ldO H hT 1 _ (k0_off10_inb i ⟨n, hn⟩) (off_row 128 _ _ r)
    have hL0 := ldL H hT 0 _ (k0_off11_inb i ⟨n, hn⟩) (off_no 0 _ _ m)
    have hL1 := ldL H hT 1 _ (k0_off12_inb i ⟨n, hn⟩) (off_no 1 _ _ m)
    have hR0 := ldR H hT 0 _ (k0_off11_inb i ⟨n, hn⟩) (off_no 0 _ _ m)
    have hR1 := ldR H hT 1 _ (k0_off12_inb i ⟨n, hn⟩) (off_no 1 _ _ m)
    have le : (i 1).val + 1 ≤ (i 1).val + 1 + n := Nat.le_add_right _ _
    exact ⟨stepK0 hK0 hQ0 hV0 hO0 hL0 hR0 le a0, stepV0 hK0 hQ0 hO0 hL0 le b0, stepK1 hK1 hQ1 hV1 hO1 hL1 hR1 le a1, stepV1 hK1 hQ1 hO1 hL1 le b1⟩

/-- At the end the sums hold all 4224 rows. -/
theorem inv_last (H : Holds x0 x1 x2 x3 x4 x5 q k v o l δ) : Inv i q k v o l δ 4224 (accAt c i arg2 harg2 arg3 harg3 arg4 harg4 arg5 harg5 arg6 harg6 arg7 harg7 arg8 harg8 arg9 harg9 x0 x1 x2 x3 x4 x5 (k0_t1_loop i).trips) := by
  have h := inv_acc c i arg2 harg2 arg3 harg3 arg4 harg4 arg5 harg5 arg6 harg6 arg7 harg7 arg8 harg8 arg9 harg9 H _ le_rfl
  have hi : (i 1).val < 11 := (i 1).isLt
  rw [show 384 * ((i 1).val + 1 + (k0_t1_loop i).trips) = 4224 by rw [trips_eq]; omega] at h
  exact h

/-- The key block: column `256 a + d` holds head `a`'s gradient at `d`. -/
theorem out6_at (H : Holds x0 x1 x2 x3 x4 x5 q k v o l δ) (j : Fin 384) (a : Fin 2) (d : Fin 256) :
    out0_A_6 (F := Ideal) c i arg2 harg2 arg3 harg3 arg4 harg4 arg5 harg5 arg6 harg6 arg7 harg7 arg8 harg8 arg9 harg9 x0 x1 x2 x3 x4 x5 (ix2 j ⟨256 * a.val + d.val, by omega⟩)
      = ((accK (q a) (k a) (v a) (o a) (l a) (δ a) (i 1).val 4224 j d : ℝ) : EReal) := by
  obtain ⟨h0, -, h1, -⟩ := inv_last c i arg2 harg2 arg3 harg3 arg4 harg4 arg5 harg5 arg6 harg6 arg7 harg7 arg8 harg8 arg9 harg9 H
  rw [out6_canon]
  match a with
  | ⟨0, _⟩ =>
    rw [View.canon_cons_of_not_mem _ _ (by
      rw [Rect.mem_set_unit]; intro hm; have := (hm 1).1; have h3 : 256 ≤ 256 * 0 + d.val := this; omega)]
    refine Eq.trans ?_ (h0 j d)
    convert View.canon_cons_emb (Val := Elt Ideal) (s := S384x512) (e := .f32) (Rect.unit ![0, 0] S384x256.size inb_S384x512_S384x256_0_0) _ _ (ix2 j d) using 2
    funext b
    match b with
    | ⟨0, _⟩ => exact Fin.ext (by rw [Rect.emb_apply]; show j.val = 0 + 1 * j.val; omega)
    | ⟨1, _⟩ => exact Fin.ext (by rw [Rect.emb_apply]; show 256 * 0 + d.val = 0 + 1 * d.val; omega)
  | ⟨1, _⟩ =>
    refine Eq.trans ?_ (h1 j d)
    convert View.canon_cons_emb (Val := Elt Ideal) (s := S384x512) (e := .f32) (Rect.unit ![0, 256] S384x256.size inb_S384x512_S384x256_0_256) _ _ (ix2 j d) using 2
    funext b
    match b with
    | ⟨0, _⟩ => exact Fin.ext (by rw [Rect.emb_apply]; show j.val = 0 + 1 * j.val; omega)
    | ⟨1, _⟩ => exact Fin.ext (by rw [Rect.emb_apply]; show 256 * 1 + d.val = 256 + 1 * d.val; omega)

/-- The value block: column `128 a + e` holds head `a`'s gradient at `e`. -/
theorem out7_at (H : Holds x0 x1 x2 x3 x4 x5 q k v o l δ) (j : Fin 384) (a : Fin 2) (e : Fin 128) :
    out0_A_7 (F := Ideal) c i arg2 harg2 arg3 harg3 arg4 harg4 arg5 harg5 arg6 harg6 arg7 harg7 arg8 harg8 arg9 harg9 x0 x1 x2 x3 x4 x5 (ix2 j ⟨128 * a.val + e.val, by omega⟩)
      = ((accV (q a) (k a) (o a) (l a) (i 1).val 4224 j e : ℝ) : EReal) := by
  obtain ⟨-, h0, -, h1⟩ := inv_last c i arg2 harg2 arg3 harg3 arg4 harg4 arg5 harg5 arg6 harg6 arg7 harg7 arg8 harg8 arg9 harg9 H
  rw [out7_canon]
  match a with
  | ⟨0, _⟩ =>
    rw [View.canon_cons_of_not_mem _ _ (by
      rw [Rect.mem_set_unit]; intro hm; have := (hm 1).1; have h3 : 128 ≤ 128 * 0 + e.val := this; omega)]
    refine Eq.trans ?_ (h0 j e)
    convert View.canon_cons_emb (Val := Elt Ideal) (s := S384x256) (e := .f32) (Rect.unit ![0, 0] S384x128.size inb_S384x256_S384x128_0_0) _ _ (ix2 j e) using 2
    funext b
    match b with
    | ⟨0, _⟩ => exact Fin.ext (by rw [Rect.emb_apply]; show j.val = 0 + 1 * j.val; omega)
    | ⟨1, _⟩ => exact Fin.ext (by rw [Rect.emb_apply]; show 128 * 0 + e.val = 0 + 1 * e.val; omega)
  | ⟨1, _⟩ =>
    refine Eq.trans ?_ (h1 j e)
    convert View.canon_cons_emb (Val := Elt Ideal) (s := S384x256) (e := .f32) (Rect.unit ![0, 128] S384x128.size inb_S384x256_S384x128_0_128) _ _ (ix2 j e) using 2
    funext b
    match b with
    | ⟨0, _⟩ => exact Fin.ext (by rw [Rect.emb_apply]; show j.val = 0 + 1 * j.val; omega)
    | ⟨1, _⟩ => exact Fin.ext (by rw [Rect.emb_apply]; show 128 * 1 + e.val = 128 + 1 * e.val; omega)

end values
end trip
end Cert.KernelIdeal.Body
end
-- ==== Proof.Join.lean ====
module

public import proofs.«01_k».proof.Proof.Rows

@[expose] public section

noncomputable section

/-! The body's sums over padded rows are the gradients' sums over the rows there are. -/
namespace Cert.Join

open Cert.KernelIdeal.Head Cert.Rows

variable (q k : Fin 4112 → Fin 16 → Fin 192 → ℝ) (v o : Fin 4112 → Fin 16 → Fin 128 → ℝ) (M : Fin 16 → Fin 4112 → ℝ) (h : Fin 16)

/-- A head's rows, padded with zeros in rows and lanes. -/
def wideP (I : ℕ) (d : Fin 256) : ℝ := if hR : I < 4112 ∧ d.val < 192 then q ⟨I, hR.1⟩ h ⟨d.val, hR.2⟩ else 0
/-- A head's rows, padded with zero rows. -/
def narrowP (I : ℕ) (e : Fin 128) : ℝ := if hR : I < 4112 then v ⟨I, hR⟩ h e else 0
/-- A head's row statistic, padded with zeros. -/
def rowP (l : Fin 16 → Fin 4112 → ℝ) (I : ℕ) : ℝ := if hR : I < 4112 then l h ⟨I, hR⟩ else 0
/-- The log of a row's sum of exponentials. -/
def lR (h : Fin 16) (I : Fin 4112) : ℝ := M h I + Real.log (zR q k M h I)
/-- The cotangent's row against the output's row. -/
def δR (h : Fin 16) (I : Fin 4112) : ℝ := ∑ e, o I h e * ∑ J, v J h e * pR q k M h I J

/-- Zero lanes add nothing to a sum over lanes. -/
theorem sum_lanes (f : Fin 256 → ℝ) (h0 : ∀ d, ¬d.val < 192 → f d = 0) : ∑ d, f d = ∑ d : Fin 192, f ⟨d.val, by omega⟩ := by
  have := Fin.sum_univ_add (a := 192) (b := 64) (f : Fin (192 + 64) → ℝ)
  refine this.trans ?_
  rw [show ∑ i : Fin 64, f (Fin.natAdd 192 i) = 0 from Finset.sum_eq_zero fun i _ => h0 _ (by simp), add_zero]
  rfl

/-- Zero rows add nothing to a sum over rows. -/
theorem sum_rows (f : ℕ → ℝ) (h0 : ∀ I, ¬I < 4112 → f I = 0) : ∑ I ∈ Finset.range 4224, f I = ∑ I : Fin 4112, f I.val := by
  rw [← Finset.sum_range f]
  symm
  refine Finset.sum_subset (Finset.range_subset_range.mpr (by norm_num)) fun I _ hI => h0 I ?_
  simpa using hI

/-- The row sums of the cotangent against the output are the weights' own correction. -/
theorem δR_eq (I : Fin 4112) : δR q k v o M h I = ∑ L, pR q k M h I L * dpR v o h I L := by
  unfold δR dpR
  simp only [Finset.mul_sum]
  rw [Finset.sum_comm]
  refine Finset.sum_congr rfl fun J _ => Finset.sum_congr rfl fun e _ => ?_
  ring

variable (κ : ℕ) (j : Fin 384)

/-- The body's weight is the softmax's. -/
theorem wt_eq (hR : 384 * κ + j.val < 4112) (I : Fin 4112) (hI : 384 * κ + j.val ≤ I.val) :
    wt (wideP q h) (fun j => wideP k h (384 * κ + j.val)) (rowP h (lR q k M)) j I.val = pR q k M h I ⟨384 * κ + j.val, hR⟩ := by
  have hz := zR_pos q k M h I
  have e1 : ∑ d, wideP k h (384 * κ + j.val) d * wideP q h I.val d = ∑ d, q I h d * k ⟨384 * κ + j.val, hR⟩ h d := by
    rw [sum_lanes _ (fun d hd => by unfold wideP; rw [dif_neg (fun hh => hd hh.2)]; ring)]
    refine Finset.sum_congr rfl fun d _ => ?_
    unfold wideP
    rw [dif_pos ⟨hR, d.isLt⟩, dif_pos ⟨I.isLt, d.isLt⟩, mul_comm]
  unfold wt pR eR
  rw [e1, if_pos hI, rowP, dif_pos I.isLt, lR]
  rw [show (∑ d, q I h d * k ⟨384 * κ + j.val, hR⟩ h d) * scR - (M h I + Real.log (zR q k M h I))
    = (sR q k h I ⟨384 * κ + j.val, hR⟩ - M h I) - Real.log (zR q k M h I) by unfold sR; ring, Real.exp_sub, Real.exp_log hz]

/-- The first result's sum. -/
theorem accK_eq (d : Fin 256) : accK (wideP q h) (fun j => wideP k h (384 * κ + j.val)) (fun j => narrowP v h (384 * κ + j.val)) (narrowP o h)
      (rowP h (lR q k M)) (rowP h (δR q k v o M)) κ 4224 j d
    = if hR : 384 * κ + j.val < 4112 ∧ d.val < 192 then dkR q k v o M ⟨384 * κ + j.val, hR.1⟩ h ⟨d.val, hR.2⟩ else 0 := by
  unfold accK
  rw [sum_rows _ (fun I hI => by
    rw [show wideP q h I d = 0 from dif_neg fun hh => hI hh.1, mul_zero, ite_self])]
  split
  · rename_i hR
    unfold dkR
    refine Finset.sum_congr rfl fun I _ => ?_
    have hq : wideP q h I.val d = q I h ⟨d.val, hR.2⟩ := dif_pos ⟨I.isLt, hR.2⟩
    split
    · rename_i hI
      rw [hq]
      congr 1
      unfold ds
      rw [wt_eq q k M h κ j hR.1 I hI, rowP, dif_pos I.isLt, δR_eq]
      unfold dsR
      congr 3
      unfold dpR
      refine Finset.sum_congr rfl fun e _ => ?_
      unfold narrowP
      beta_reduce
      rw [dif_pos hR.1, dif_pos I.isLt, mul_comm]
    · rename_i hI
      have : eR q k M h I ⟨384 * κ + j.val, hR.1⟩ = 0 := if_neg hI
      unfold dsR pR
      rw [this]
      ring
  · rename_i hR
    refine Finset.sum_eq_zero fun I _ => ?_
    split
    · rename_i hI
      rw [show wideP q h I.val d = 0 from dif_neg fun hh => hR ⟨by omega, hh.2⟩, mul_zero]
    · rfl

/-- The second result's sum. -/
theorem accV_eq (e : Fin 128) : accV (wideP q h) (fun j => wideP k h (384 * κ + j.val)) (narrowP o h)
      (rowP h (lR q k M)) κ 4224 j e
    = if hR : 384 * κ + j.val < 4112 then dvR q k o M ⟨384 * κ + j.val, hR⟩ h e else 0 := by
  unfold accV
  rw [sum_rows _ (fun I hI => by
    rw [show narrowP o h I e = 0 from dif_neg fun hh => hI hh, mul_zero, ite_self])]
  split
  · rename_i hR
    unfold dvR
    refine Finset.sum_congr rfl fun I _ => ?_
    have ho : narrowP o h I.val e = o I h e := dif_pos I.isLt
    split
    · rename_i hI
      rw [ho, wt_eq q k M h κ j hR I hI]
    · rename_i hI
      have : eR q k M h I ⟨384 * κ + j.val, hR⟩ = 0 := if_neg hI
      unfold pR
      rw [this]
      ring
  · rename_i hR
    refine Finset.sum_eq_zero fun I _ => ?_
    have := I.isLt
    rw [if_neg (by omega)]

end Cert.Join
end
-- ==== Proof.Array.lean ====
module

public import proofs.«01_k».proof.Proof.PreludeAt
public import proofs.«01_k».proof.Proof.Body
public import proofs.«01_k».proof.Proof.Join
public import Idealize.ShloMosaic.Lib.Pipeline.ValueKit.Geometry
public import Idealize.ShloMosaic.Lib.Pipeline.ValueKit.Tiles

@[expose] public section

noncomputable section

/-! The kernel's two result arrays, from the blocks its points write. -/
namespace Cert.KernelIdeal.Arr

open Idealize.ShloMosaic Idealize.ShloMosaic.ValueIdx Cert.KernelIdeal.Head Cert.KernelIdeal.Tile Cert.Rows Cert.Join
open Cert.KernelIdeal Cert.KernelIdeal.Gen Cert.KernelIdeal.Prelude Cert.KernelIdeal.Body
open Idealize.ShloMosaic.TcCoe Idealize.ShloMosaic.Tactic Idealize.SL.Sem

theorem e0 : ∀ t : Fin cfg0.N, win0_0.index t = ![0, (grid0.coords t 0).val] := (by decide +kernel : ∀ t : Fin grid0.N, _)
theorem e1 : ∀ t : Fin cfg0.N, win0_1.index t = ![(grid0.coords t 1).val, (grid0.coords t 0).val] := (by decide +kernel : ∀ t : Fin grid0.N, _)
theorem e2 : ∀ t : Fin cfg0.N, win0_2.index t = ![(grid0.coords t 1).val, (grid0.coords t 0).val] := (by decide +kernel : ∀ t : Fin grid0.N, _)
theorem e3 : ∀ t : Fin cfg0.N, win0_3.index t = ![0, (grid0.coords t 0).val] := (by decide +kernel : ∀ t : Fin grid0.N, _)
theorem e4 : ∀ t : Fin cfg0.N, win0_4.index t = ![(grid0.coords t 0).val, 0, 0, 0] := (by decide +kernel : ∀ t : Fin grid0.N, _)
theorem e5 : ∀ t : Fin cfg0.N, win0_5.index t = ![(grid0.coords t 0).val, 0, 0, 0] := (by decide +kernel : ∀ t : Fin grid0.N, _)
theorem e6 : ∀ t : Fin cfg0.N, win0_6.index t = ![(grid0.coords t 1).val, (grid0.coords t 0).val] := (by decide +kernel : ∀ t : Fin grid0.N, _)
theorem e7 : ∀ t : Fin cfg0.N, win0_7.index t = ![(grid0.coords t 1).val, (grid0.coords t 0).val] := (by decide +kernel : ∀ t : Fin grid0.N, _)
theorem c0lt : ∀ t : Fin cfg0.N, (grid0.coords t 0).val < 8 := fun t => (grid0.coords t 0).isLt
theorem c1lt : ∀ t : Fin cfg0.N, (grid0.coords t 1).val < 11 := fun t => (grid0.coords t 1).isLt

section
variable (m : (ℓ : Loc nD τ sig) → Buf (Elt Ideal) ℓ) (c : Dev nD) (t : Fin cfg0.N)

/-- The head of lane group `a` at point `t`. -/
def hd (a : Fin 2) : Fin 16 := ⟨2 * (grid0.coords t 0).val + a.val, by have := c0lt t; omega⟩
/-- The array row of a key block's row `j`. -/
def rowOf (j : Fin 384) : Fin 4224 := ⟨384 * (grid0.coords t 1).val + j.val, by have := c1lt t; omega⟩

/-- The queries' block. -/
theorem blk0 (a : Fin 2) (I : Fin 4224) (d : Fin 256) : iblk m c 0 t (ix2 I ⟨256 * a.val + d.val, by omega⟩)
    = V m c main_v31 (ix2 I ⟨256 * (hd t a).val + d.val, by have := (hd t a).isLt; omega⟩) := by
  have := c0lt t
  have := c1lt t
  blk_simp [iblk]
  congr 1
  blk_ext [e0, hd]

/-- The keys' block. -/
theorem blk1 (a : Fin 2) (j : Fin 384) (d : Fin 256) : iblk m c 1 t (ix2 j ⟨256 * a.val + d.val, by omega⟩)
    = V m c main_v35 (ix2 (rowOf t j) ⟨256 * (hd t a).val + d.val, by have := (hd t a).isLt; omega⟩) := by
  have := c0lt t
  have := c1lt t
  blk_simp [iblk]
  congr 1
  blk_ext [e1, hd, rowOf]
  change (grid0.coords t 1).val * 384 + j.val = _
  omega

/-- The values' block. -/
theorem blk2 (a : Fin 2) (j : Fin 384) (d : Fin 128) : iblk m c 2 t (ix2 j ⟨128 * a.val + d.val, by omega⟩)
    = V m c main_v39 (ix2 (rowOf t j) ⟨128 * (hd t a).val + d.val, by have := (hd t a).isLt; omega⟩) := by
  have := c0lt t
  have := c1lt t
  blk_simp [iblk]
  congr 1
  blk_ext [e2, hd, rowOf]
  change (grid0.coords t 1).val * 384 + j.val = _
  omega

/-- The cotangents' block. -/
theorem blk3 (a : Fin 2) (I : Fin 4224) (d : Fin 128) : iblk m c 3 t (ix2 I ⟨128 * a.val + d.val, by omega⟩)
    = V m c main_v43 (ix2 I ⟨128 * (hd t a).val + d.val, by have := (hd t a).isLt; omega⟩) := by
  have := c0lt t
  have := c1lt t
  blk_simp [iblk]
  congr 1
  blk_ext [e3, hd]

/-- The logs of sums' block. -/
theorem blk4 (a : Fin 2) (T : Fin 11) (n : Fin 384) : iblk m c 4 t (ix4 a T 0 n) = V m c main_v45 (ix4 (hd t a) T 0 n) := by
  have := c0lt t
  blk_simp [iblk]
  congr 1
  blk_ext [e4, hd]
  change (grid0.coords t 0).val * 2 + a.val = _
  omega

/-- The corrections' block. -/
theorem blk5 (a : Fin 2) (T : Fin 11) (n : Fin 384) : iblk m c 5 t (ix4 a T 0 n) = V m c main_v47 (ix4 (hd t a) T 0 n) := by
  have := c0lt t
  blk_simp [iblk]
  congr 1
  blk_ext [e5, hd]
  change (grid0.coords t 0).val * 2 + a.val = _
  omega

section held
variable {q k : Fin 4112 → Fin 16 → Fin 192 → ℝ} {v o : Fin 4112 → Fin 16 → Fin 128 → ℝ} {M : Fin 16 → Fin 4112 → ℝ}
  (hq : ∀ I h d, a0 m c (ix4 0 I h d) = ((q I h d : ℝ) : EReal)) (hk : ∀ I h d, a1 m c (ix4 0 I h d) = ((k I h d : ℝ) : EReal))
  (hv : ∀ I h e, a2 m c (ix4 0 I h e) = ((v I h e : ℝ) : EReal)) (ho : ∀ I h e, a3 m c (ix4 0 I h e) = ((o I h e : ℝ) : EReal))
  (hM : ∀ h I, Host.reduce (FloatOps.maximumf (F := Ideal) (φ := .f32)) (score (a0 m c) (a1 m c)) (constant (F := Ideal) S_ .f32 0xFF800000#32) reducesTo_S1x16x4112x4112_S1x16x4112_d3 h_S_ (ix3 0 h I) = ((M h I : ℝ) : EReal))
include hq hk hv ho hM

/-- The blocks at a point hold the padded rows of the point's two heads. -/
theorem holds : Holds (iblk m c 0 t) (iblk m c 1 t) (iblk m c 2 t) (iblk m c 3 t) (iblk m c 4 t) (iblk m c 5 t)
    (fun a => wideP q (hd t a)) (fun a j => wideP k (hd t a) (384 * (grid0.coords t 1).val + j.val))
    (fun a j => narrowP v (hd t a) (384 * (grid0.coords t 1).val + j.val)) (fun a => narrowP o (hd t a))
    (fun a => rowP (hd t a) (lR q k M)) (fun a => rowP (hd t a) (δR q k v o M)) where
  hq a I d := (blk0 m c t a I d).trans ((congrFun (V31 m c) _).trans (wide_at hq I (hd t a) d))
  hk a j d := (blk1 m c t a j d).trans ((congrFun (V35 m c) _).trans (wide_at hk (rowOf t j) (hd t a) d))
  hv a j d := (blk2 m c t a j d).trans ((congrFun (V39 m c) _).trans (narrow_at hv (rowOf t j) (hd t a) d))
  ho a I d := (blk3 m c t a I d).trans ((congrFun (V43 m c) _).trans (narrow_at ho I (hd t a) d))
  hl a T n := (blk4 m c t a T n).trans ((congrFun (V45 m c) _).trans
    (tiles_at (fun h I => lse_at (Cert.Ref.score_at hq hk) hM h I) (hd t a) T n))
  hδ a T n := (blk5 m c t a T n).trans ((congrFun (V47 m c) _).trans
    (tiles_at (fun h I => delta_at (Cert.Ref.score_at hq hk) hM hv ho h I) (hd t a) T n))

/-- The reference's row maxima are the kernel's. -/
theorem refM (h : Fin 16) (I : Fin 4112) : Cert.ReferenceIdeal.Read.val_main_v17 (F := Ideal) (a0 m c) (a1 m c) (ix3 0 h I) = ((M h I : ℝ) : EReal) := by
  rw [Cert.ReferenceIdeal.Read.val_main_v17_apply, Cert.ReferenceIdeal.Read.val_main_v16_apply, Cert.ReferenceIdeal.Read.val_main_cst_3_apply]
  show max (Ideal.ofBits .f32 0xFF800000#32) (Cert.ReferenceIdeal.Read.val_main_v10 (F := Ideal) (a0 m c) (a1 m c) (ix3 0 h I)) = _
  rw [botW, max_eq_right bot_le]
  exact hM h I

/-- The key block a point writes. -/
theorem pt6 (j : Fin 384) (a : Fin 2) (d : Fin 256) :
    out0_A_6 (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (iblk m c 0 t) (iblk m c 1 t) (iblk m c 2 t) (iblk m c 3 t) (iblk m c 4 t) (iblk m c 5 t) (ix2 j ⟨256 * a.val + d.val, by omega⟩)
    = ((accK (wideP q (hd t a)) (fun j => wideP k (hd t a) (384 * (grid0.coords t 1).val + j.val)) (fun j => narrowP v (hd t a) (384 * (grid0.coords t 1).val + j.val)) (narrowP o (hd t a)) (rowP (hd t a) (lR q k M)) (rowP (hd t a) (δR q k v o M)) (grid0.coords t 1).val 4224 j d : ℝ) : EReal) :=
  out6_at c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (holds m c t hq hk hv ho hM) j a d

/-- The value block a point writes. -/
theorem pt7 (j : Fin 384) (a : Fin 2) (d : Fin 128) :
    out0_A_7 (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (iblk m c 0 t) (iblk m c 1 t) (iblk m c 2 t) (iblk m c 3 t) (iblk m c 4 t) (iblk m c 5 t) (ix2 j ⟨128 * a.val + d.val, by omega⟩)
    = ((accV (wideP q (hd t a)) (fun j => wideP k (hd t a) (384 * (grid0.coords t 1).val + j.val)) (narrowP o (hd t a)) (rowP (hd t a) (lR q k M)) (grid0.coords t 1).val 4224 j d : ℝ) : EReal) :=
  out7_at c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (holds m c t hq hk hv ho hM) j a d

/-- An array that holds the gradient of the keys of every head is the kernel's result. -/
theorem arr6 (G : (⟨S4224x4096, .f32⟩ : BufTy).Contents (Elt Ideal))
    (hG : ∀ (R : Fin 4224) (h : Fin 16) (d : Fin 256), G (ix2 R ⟨256 * h.val + d.val, by omega⟩) = ((if hR : R.val < 4112 ∧ d.val < 192 then dkR q k v o M ⟨R.val, hR.1⟩ h ⟨d.val, hR.2⟩ else 0 : ℝ) : EReal)) :
    (dats m 0 c).arrAt 6 cfg0.N = G := by
  refine (dats m 0 c).arrAt_eq_of_covers 6 G (by decide +kernel) fun t hf y => ?_
  have h0 := c0lt t
  have h1 := c1lt t
  blk_simp
  rw [after0_6]
  simp only [outsAt0]
  obtain ⟨j, w, rfl⟩ : ∃ (j : Fin 384) (w : Fin 512), y = ix2 j w := ⟨y 0, y 1, eq_ix2 y⟩
  obtain ⟨a, d, rfl⟩ : ∃ (a : Fin 2) (d : Fin 256), w = ⟨256 * a.val + d.val, by omega⟩ :=
    ⟨⟨w.val / 256, by omega⟩, ⟨w.val % 256, by omega⟩, Fin.ext (by show w.val = 256 * (w.val / 256) + w.val % 256; omega)⟩
  rw [pt6 m c t hq hk hv ho hM j a d]
  rw [accK_eq]
  refine (hG (rowOf t j) (hd t a) d).symm.trans ?_
  congr 1
  blk_ext [e6, hd, rowOf]
  change _ = (grid0.coords t 1).val * 384 + j.val
  omega

/-- An array that holds the gradient of the values of every head is the kernel's result. -/
theorem arr7 (G : (⟨S4224x2048, .f32⟩ : BufTy).Contents (Elt Ideal))
    (hG : ∀ (R : Fin 4224) (h : Fin 16) (d : Fin 128), G (ix2 R ⟨128 * h.val + d.val, by omega⟩) = ((if hR : R.val < 4112 then dvR q k o M ⟨R.val, hR⟩ h d else 0 : ℝ) : EReal)) :
    (dats m 0 c).arrAt 7 cfg0.N = G := by
  refine (dats m 0 c).arrAt_eq_of_covers 7 G (by decide +kernel) fun t hf y => ?_
  have h0 := c0lt t
  have h1 := c1lt t
  blk_simp
  rw [after0_7]
  simp only [outsAt0]
  obtain ⟨j, w, rfl⟩ : ∃ (j : Fin 384) (w : Fin 256), y = ix2 j w := ⟨y 0, y 1, eq_ix2 y⟩
  obtain ⟨a, d, rfl⟩ : ∃ (a : Fin 2) (d : Fin 128), w = ⟨128 * a.val + d.val, by omega⟩ :=
    ⟨⟨w.val / 128, by omega⟩, ⟨w.val % 128, by omega⟩, Fin.ext (by show w.val = 128 * (w.val / 128) + w.val % 128; omega)⟩
  rw [pt7 m c t hq hk hv ho hM j a d]
  rw [accV_eq]
  refine (hG (rowOf t j) (hd t a) d).symm.trans ?_
  congr 1
  blk_ext [e7, hd, rowOf]
  change _ = (grid0.coords t 1).val * 384 + j.val
  omega

/-- The gradient of the keys, as the kernel's result holds it, is the reference's. -/
theorem out6 : (dats m 0 c).arrAt 6 cfg0.N = Cert.ReferenceIdeal.Read.val_main_v66 (F := Ideal) (a0 m c) (a1 m c) (a2 m c) (a3 m c) :=
  arr6 m c hq hk hv ho hM _ (Cert.Ref.res66_at hq hk hv ho (refM m c hq hk hv ho hM))

/-- The gradient of the values, as the kernel's result holds it, is the reference's. -/
theorem out7 : (dats m 0 c).arrAt 7 cfg0.N = Cert.ReferenceIdeal.Read.val_main_v69 (F := Ideal) (a0 m c) (a1 m c) (a3 m c) :=
  arr7 m c hq hk hv ho hM _ (Cert.Ref.res69_at hq hk ho (refM m c hq hk hv ho hM))
end held
end
end Cert.KernelIdeal.Arr
end
-- ==== Proof.Block.lean ====
module

public import Idealize.ShloMosaic.Lib.Pipeline.ValueKit
public import Idealize.ShloMosaic.Lib.KernelVsHost

@[expose] public section

noncomputable section

/-! Rows padded from 4112 to 4224: what the host hands the products' calls, and what their sums over the padded rows come to. -/
namespace Cert.Block

open Idealize.ShloMosaic

/-- The rows of `x` as the calls hold them: 4224 of them, zero from row 4112 on. -/
def held {C : ℕ} (x : (⟨3, ![1, 4112, C]⟩ : Shape).Idx → EReal) (R : Fin 4224) (k : Fin C) : EReal :=
  if h : R.val < 4112 then x (ix3 (0 : Fin 1) (⟨R.val, h⟩ : Fin 4112) k) else 0

/-- The same of an array already without its leading axis. -/
theorem pad_at {C : ℕ} (x : (⟨2, ![4112, C]⟩ : Shape).Idx → EReal) (z : (⟨0, ![]⟩ : Shape).Idx → EReal) (hz : ∀ i, z i = 0)
    (hp : (⟨2, ![4112, C]⟩ : Shape).Pads ![0, 0] ![112, 0] ![0, 0] (⟨2, ![4224, C]⟩ : Shape)) (h_ : 0 < (⟨0, ![]⟩ : Shape).numel) (R : Fin 4224) (k : Fin C) :
    pad (⟨2, ![4224, C]⟩ : Shape) ![0, 0] ![112, 0] ![0, 0] x z hp h_ (ix2 R k)
      = if h : R.val < 4112 then x (ix2 (⟨R.val, h⟩ : Fin 4112) k) else 0 := by
  split
  · rename_i hR
    exact pad_apply_of_inside _ _ _ _ _ _ _ _ (ix2 (⟨R.val, hR⟩ : Fin 4112) k) (fun a => match a with
      | ⟨0, _⟩ => show R.val = 0 + R.val * 1 by omega
      | ⟨1, _⟩ => show k.val = 0 + k.val * 1 by omega)
  · rename_i hR
    refine (pad_apply_of_not_inside _ _ _ _ _ _ _ _ 0 ?_).trans (hz _)
    show ¬(0 ≤ R.val ∧ (R.val - 0) % 1 = 0 ∧ (R.val - 0) / 1 < 4112)
    omega

/-- A host array's rows without the leading axis. -/
theorem flat_at {C : ℕ} (x : (⟨3, ![1, 4112, C]⟩ : Shape).Idx → EReal) (hc : (⟨3, ![1, 4112, C]⟩ : Shape).ShapeCasts (⟨2, ![4112, C]⟩ : Shape))
    (R : Fin 4112) (k : Fin C) : shapeCast (⟨2, ![4112, C]⟩ : Shape) x hc (ix2 R k) = x (ix3 (0 : Fin 1) R k) := by
  refine shapeCast_apply x hc (ix2 R k) (ix3 (0 : Fin 1) R k) ?_
  rw [Shape.rowMajor_val_three, Shape.rowMajor_val_two]
  show (0 * 4112 + R.val) * C + k.val = R.val * C + k.val
  rw [Nat.zero_mul, Nat.zero_add]

/-- The filler of the padding is zero. -/
theorem filler (i : (⟨0, ![]⟩ : Shape).Idx) : sitofp (F := Ideal) .f32 (constantI (⟨0, ![]⟩ : Shape) 32 0#32) i = (0 : EReal) := by
  show ((BitVec.toInt (0#32 : BitVec 32) : ℝ) : EReal) = 0
  simp

/-- The rows of `x` padded. -/
theorem held_at {C : ℕ} (x : (⟨3, ![1, 4112, C]⟩ : Shape).Idx → EReal) (hc : (⟨3, ![1, 4112, C]⟩ : Shape).ShapeCasts (⟨2, ![4112, C]⟩ : Shape))
    (hp : (⟨2, ![4112, C]⟩ : Shape).Pads ![0, 0] ![112, 0] ![0, 0] (⟨2, ![4224, C]⟩ : Shape)) (h_ : 0 < (⟨0, ![]⟩ : Shape).numel) (R : Fin 4224) (k : Fin C) :
    pad (⟨2, ![4224, C]⟩ : Shape) ![0, 0] ![112, 0] ![0, 0] (shapeCast (⟨2, ![4112, C]⟩ : Shape) x hc) (sitofp (F := Ideal) .f32 (constantI (⟨0, ![]⟩ : Shape) 32 0#32)) hp h_ (ix2 R k)
      = held x R k := by
  rw [pad_at _ _ filler _ _ R k]
  unfold held
  split
  · exact flat_at x hc _ k
  · rfl

/-- A row of a product of padded rows. -/
theorem held_sum {C K : ℕ} (x : (⟨3, ![1, 4112, K]⟩ : Shape).Idx → EReal) (w : Fin K → EReal) (y : (⟨3, ![1, 4112, C]⟩ : Shape).Idx → EReal) (j : Fin C)
    (hy : ∀ R : Fin 4112, y (ix3 (0 : Fin 1) R j) = ∑ k : Fin K, x (ix3 (0 : Fin 1) R k) * w k) (R : Fin 4224) :
    ∑ k : Fin K, held x R k * w k = held y R j := by
  unfold held
  split
  · exact (hy _).symm
  · simp

/-- A sum over the padded rows is the sum over the rows. -/
theorem sum_rows (f : Fin 4112 → EReal) : (∑ R : Fin 4224, if h : R.val < 4112 then f ⟨R.val, h⟩ else 0) = ∑ R : Fin 4112, f R := by
  refine (Fin.sum_univ_add (a := 4112) (b := 112) (fun R : Fin (4112 + 112) => if h : R.val < 4112 then f ⟨R.val, h⟩ else 0)).trans ?_
  rw [Finset.sum_eq_zero (s := (Finset.univ : Finset (Fin 112))), add_zero]
  · exact Finset.sum_congr rfl fun i _ => dif_pos i.isLt
  · intro i _
    refine dif_neg ?_
    show ¬(4112 + i.val < 4112)
    omega

/-- A product contracted over the padded rows. -/
theorem held_dot {A B : ℕ} (x : (⟨3, ![1, 4112, A]⟩ : Shape).Idx → EReal) (y : (⟨3, ![1, 4112, B]⟩ : Shape).Idx → EReal) (a : Fin A) (b : Fin B) :
    ∑ R : Fin 4224, held x R a * held y R b = ∑ R : Fin 4112, x (ix3 (0 : Fin 1) R a) * y (ix3 (0 : Fin 1) R b) := by
  rw [← sum_rows]
  refine Finset.sum_congr rfl fun R _ => ?_
  unfold held
  split
  · rfl
  · simp

/-- A row of a sum. -/
theorem held_add {C : ℕ} (x y z : (⟨3, ![1, 4112, C]⟩ : Shape).Idx → EReal) (j : Fin C)
    (hz : ∀ R : Fin 4112, z (ix3 (0 : Fin 1) R j) = x (ix3 (0 : Fin 1) R j) + y (ix3 (0 : Fin 1) R j)) (R : Fin 4224) :
    held z R j = held y R j + held x R j := by
  unfold held
  split
  · rw [hz, add_comm]
  · simp

/-- A row of a function of the rows that keeps zero. -/
theorem held_map {C : ℕ} (f : EReal → EReal) (hf : f 0 = 0) (x z : (⟨3, ![1, 4112, C]⟩ : Shape).Idx → EReal) (j : Fin C)
    (hz : ∀ R : Fin 4112, z (ix3 (0 : Fin 1) R j) = f (x (ix3 (0 : Fin 1) R j))) (R : Fin 4224) : held z R j = f (held x R j) := by
  unfold held
  split
  · exact hz _
  · exact hf.symm

/-- The same of a function of the rows of two arrays. -/
theorem held_map₂ {C : ℕ} (f : EReal → EReal → EReal) (hf : f 0 0 = 0) (x y z : (⟨3, ![1, 4112, C]⟩ : Shape).Idx → EReal) (j : Fin C)
    (hz : ∀ R : Fin 4112, z (ix3 (0 : Fin 1) R j) = f (x (ix3 (0 : Fin 1) R j)) (y (ix3 (0 : Fin 1) R j))) (R : Fin 4224) :
    held z R j = f (held x R j) (held y R j) := by
  unfold held
  split
  · exact hz _
  · exact hf.symm

/-- The square of the positive part. -/
def relu2 (x : EReal) : EReal := max x 0 * max x 0

theorem relu2_zero : relu2 0 = 0 := by simp [relu2]

end Cert.Block

end
-- ==== Proof.MergeCall.lean ====
module

public import proofs.«01_k».proof.Proof.Gen.Merge
public import proofs.«01_k».proof.Proof.Gen.Merge.Frame
public import proofs.«01_k».proof.Proof.Gen.MergeIdeal
public import proofs.«01_k».proof.Proof.Gen.MergeIdeal.Value
public import proofs.«01_k».proof.Proof.Gen.MergeRefIdeal
public import proofs.«01_k».proof.Proof.Gen.MergeRefIdeal.Run
public import proofs.«01_k».proof.Proof.Gen.MergeRefIdeal.Read
public import proofs.«01_k».proof.Proof.Block

@[expose] public section

set_option maxRecDepth 16384

noncomputable section

/-! The gradient of the merge of the branches by their gates: the call's arrays are the reference's. -/
namespace Cert.MergeIdeal.Call

open Idealize.ShloMosaic Cert.Block
open Cert.MergeIdeal Cert.MergeIdeal.Gen Idealize.ShloMosaic.TcCoe Idealize.ShloMosaic.Tactic Idealize.SL.Sem

theorem e0 : ∀ t : Fin cfg0.N, win0_0.index t = ![(grid0.coords t 0).val, (grid0.coords t 1).val] := (by decide +kernel : ∀ t : Fin grid0.N, _)
theorem e1 : ∀ t : Fin cfg0.N, win0_1.index t = ![(grid0.coords t 0).val, 4 + (grid0.coords t 1).val] := (by decide +kernel : ∀ t : Fin grid0.N, _)
theorem e2 : ∀ t : Fin cfg0.N, win0_2.index t = ![(grid0.coords t 0).val, 8 + (grid0.coords t 1).val] := (by decide +kernel : ∀ t : Fin grid0.N, _)
theorem e3 : ∀ t : Fin cfg0.N, win0_3.index t = ![(grid0.coords t 0).val, (grid0.coords t 1).val] := (by decide +kernel : ∀ t : Fin grid0.N, _)
theorem e4 : ∀ t : Fin cfg0.N, win0_4.index t = ![(grid0.coords t 0).val, (grid0.coords t 1).val] := (by decide +kernel : ∀ t : Fin grid0.N, _)
theorem e5 : ∀ t : Fin cfg0.N, win0_5.index t = ![(grid0.coords t 0).val, (grid0.coords t 1).val] := (by decide +kernel : ∀ t : Fin grid0.N, _)
theorem e6 : ∀ t : Fin cfg0.N, win0_6.index t = ![(grid0.coords t 0).val, (grid0.coords t 1).val] := (by decide +kernel : ∀ t : Fin grid0.N, _)
theorem e7 : ∀ t : Fin cfg0.N, win0_7.index t = ![(grid0.coords t 0).val, (grid0.coords t 1).val] := (by decide +kernel : ∀ t : Fin grid0.N, _)
theorem e8 : ∀ t : Fin cfg0.N, win0_8.index t = ![(grid0.coords t 0).val, (grid0.coords t 1).val] := (by decide +kernel : ∀ t : Fin grid0.N, _)
theorem e9 : ∀ t : Fin cfg0.N, win0_9.index t = ![(grid0.coords t 0).val, (grid0.coords t 1).val] := (by decide +kernel : ∀ t : Fin grid0.N, _)
theorem e10 : ∀ t : Fin cfg0.N, win0_10.index t = ![(grid0.coords t 0).val, (grid0.coords t 1).val] := (by decide +kernel : ∀ t : Fin grid0.N, _)
theorem e11 : ∀ t : Fin cfg0.N, win0_11.index t = ![(grid0.coords t 0).val, (grid0.coords t 1).val] := (by decide +kernel : ∀ t : Fin grid0.N, _)
theorem e12 : ∀ t : Fin cfg0.N, win0_12.index t = ![(grid0.coords t 0).val, (grid0.coords t 1).val] := (by decide +kernel : ∀ t : Fin grid0.N, _)

/-- A gate of its logit, as the kernel writes it. -/
def sg (x : EReal) : EReal := Ideal.div 1 (1 + Ideal.exp (0 - x))

/-- The gradient of a gate's logit: of the cotangent `d`, the branch `y` and the gate `s`. -/
def lg (d y s : EReal) : EReal := d * y * s * (1 - s)

theorem lg_zero (y s : EReal) : lg 0 y s = 0 := by simp [lg]

theorem pay2_at (g : Vec Ideal S384x512 .f32) (i : Fin 384) (j : Fin 512) : k0_pay2 (F := Ideal) g (ix2 i j) = sg (g (ix2 i j)) := by
  unfold k0_pay2
  pointwise
  rfl

theorem pay6_at (g : Vec Ideal S384x512 .f32) (i : Fin 384) (j : Fin 512) : k0_pay6 (F := Ideal) g (ix2 i j) = sg (g (ix2 i j)) := by
  unfold k0_pay6
  pointwise
  rfl

theorem pay9_at (g : Vec Ideal S384x512 .f32) (i : Fin 384) (j : Fin 512) : k0_pay9 (F := Ideal) g (ix2 i j) = sg (g (ix2 i j)) := by
  unfold k0_pay9
  pointwise
  rfl

theorem pay5_at (d : Vec Ideal S384x512 .f32) (i : Fin 384) (j : Fin 512) : k0_pay5 (F := Ideal) d (ix2 i j) = d (ix2 i j) := by
  unfold k0_pay5
  pointwise

theorem pay7_at (d g : Vec Ideal S384x512 .f32) (i : Fin 384) (j : Fin 512) : k0_pay7 (F := Ideal) d g (ix2 i j) = d (ix2 i j) * sg (g (ix2 i j)) := by
  refine Eq.trans (b := k0_pay5 (F := Ideal) d (ix2 i j) * k0_pay6 (F := Ideal) g (ix2 i j)) ?_ ?_
  · unfold k0_pay7
    pointwise
    try rfl
  · rw [pay5_at, pay6_at]

theorem pay10_at (d g : Vec Ideal S384x512 .f32) (i : Fin 384) (j : Fin 512) : k0_pay10 (F := Ideal) d g (ix2 i j) = d (ix2 i j) * sg (g (ix2 i j)) := by
  refine Eq.trans (b := k0_pay5 (F := Ideal) d (ix2 i j) * k0_pay9 (F := Ideal) g (ix2 i j)) ?_ ?_
  · unfold k0_pay10
    pointwise
    try rfl
  · rw [pay5_at, pay9_at]

theorem pay3_at (d g : Vec Ideal S384x512 .f32) (i : Fin 384) (j : Fin 512) : k0_pay3 (F := Ideal) d g (ix2 i j) = d (ix2 i j) * sg (g (ix2 i j)) := by
  refine Eq.trans (b := d (ix2 i j) * k0_pay2 (F := Ideal) g (ix2 i j)) ?_ ?_
  · unfold k0_pay3
    pointwise
    try rfl
  · rw [pay2_at]

theorem pay8_at (d g y : Vec Ideal S384x512 .f32) (i : Fin 384) (j : Fin 512) : k0_pay8 (F := Ideal) d g y (ix2 i j) = lg (d (ix2 i j)) (y (ix2 i j)) (sg (g (ix2 i j))) := by
  refine Eq.trans (b := lg (k0_pay5 (F := Ideal) d (ix2 i j)) (y (ix2 i j)) (k0_pay6 (F := Ideal) g (ix2 i j))) ?_ ?_
  · unfold k0_pay8
    pointwise
    try rfl
  · rw [pay5_at, pay6_at]

theorem pay4_at (d g y : Vec Ideal S384x512 .f32) (i : Fin 384) (j : Fin 512) : k0_pay4 (F := Ideal) d g y (ix2 i j) = lg (d (ix2 i j)) (y (ix2 i j)) (sg (g (ix2 i j))) := by
  refine Eq.trans (b := lg (d (ix2 i j)) (y (ix2 i j)) (k0_pay2 (F := Ideal) g (ix2 i j))) ?_ ?_
  · unfold k0_pay4
    pointwise
    try rfl
  · rw [pay2_at]

theorem pay1_at (d g y : Vec Ideal S384x512 .f32) (i : Fin 384) (j : Fin 512) : k0_pay1 (F := Ideal) d g y (ix2 i j) = lg (d (ix2 i j)) (y (ix2 i j)) (g (ix2 i j)) := by
  refine Eq.trans (b := lg (d (ix2 i j)) (y (ix2 i j)) (g (ix2 i j))) ?_ ?_
  · unfold k0_pay1
    pointwise
    try rfl
  · rfl

/-! ## The reference -/
section
variable (x0 : (⟨S1x4112x6144, .f32⟩ : BufTy).Contents (Elt Ideal)) (x1 x2 x3 x4 : (⟨S1x4112x2048, .f32⟩ : BufTy).Contents (Elt Ideal))

/-- A gate's column among the logits. -/
abbrev gc (k : Fin 3) (j : Fin 2048) : Fin 6144 := ⟨2048 * k.val + j.val, by omega⟩

theorem ref5 (R : Fin 4112) (j : Fin 6144) : Cert.MergeRefIdeal.Read.val_main_v5 (F := Ideal) x0 (ix3 0 R j) = sg (x0 (ix3 0 R j)) := by
  unfold Cert.MergeRefIdeal.Read.val_main_v5 Cert.MergeRefIdeal.Read.val_main_v4 Cert.MergeRefIdeal.Read.val_main_cst_0 Cert.MergeRefIdeal.Read.val_main_v3 Cert.MergeRefIdeal.Read.val_main_v2 Cert.MergeRefIdeal.Read.val_main_cst Cert.MergeRefIdeal.Read.val_main_v1 Cert.MergeRefIdeal.Read.val_main_v0
  pointwise
  unfold sg
  rw [zero_sub]

theorem ref8 (R : Fin 4112) (j : Fin 6144) : Cert.MergeRefIdeal.Read.val_main_v8 (F := Ideal) x0 (ix3 0 R j) = sg (x0 (ix3 0 R j)) * (1 - sg (x0 (ix3 0 R j))) := by
  rw [← ref5]
  unfold Cert.MergeRefIdeal.Read.val_main_v8 Cert.MergeRefIdeal.Read.val_main_v7 Cert.MergeRefIdeal.Read.val_main_v6 Cert.MergeRefIdeal.Read.val_main_cst_1
  pointwise

theorem ref9 (R : Fin 4112) (k : Fin 3) (j : Fin 2048) : Cert.MergeRefIdeal.Read.val_main_v9 (F := Ideal) x0 (ix4 0 R k j) = sg (x0 (ix3 0 R (gc k j))) := by
  rw [← ref5]
  refine shapeCast_apply _ Cert.MergeRefIdeal.Gen.facts.shapeCasts_S1x4112x6144_S1x4112x3x2048 (ix4 0 R k j) (ix3 0 R (gc k j)) ?_
  rw [Shape.rowMajor_val_three, Shape.rowMajor_val_four]
  show (0 * 4112 + R.val) * 6144 + (2048 * k.val + j.val) = ((0 * 4112 + R.val) * 3 + k.val) * 2048 + j.val
  omega

/-- The one branch of an array with a branch axis of one. -/
theorem one_at (y : (⟨Cert.MergeRefIdeal.S1x4112x1x2048, .f32⟩ : BufTy).Contents (Elt Ideal)) (h : Cert.MergeRefIdeal.S1x4112x1x2048.ShapeCasts S1x4112x2048) (R : Fin 4112) (j : Fin 2048) :
    shapeCast S1x4112x2048 y h (ix3 0 R j) = y (ix4 0 R 0 j) := by
  refine shapeCast_apply y h (ix3 0 R j) (ix4 0 R 0 j) ?_
  rw [Shape.rowMajor_val_three, Shape.rowMajor_val_four]
  show ((0 * 4112 + R.val) * 1 + 0) * 2048 + j.val = (0 * 4112 + R.val) * 2048 + j.val
  omega

theorem gate0 (R : Fin 4112) (j : Fin 2048) : Cert.MergeRefIdeal.Read.val_main_v11 (F := Ideal) x0 (ix3 0 R j) = sg (x0 (ix3 0 R (gc 0 j))) := by
  refine (one_at (Cert.MergeRefIdeal.Read.val_main_v10 (F := Ideal) x0) Cert.MergeRefIdeal.Gen.facts.shapeCasts_S1x4112x1x2048_S1x4112x2048 R j).trans ((Eq.trans ?_ (ref9 x0 R 0 j)))
  rw [Cert.MergeRefIdeal.Read.val_main_v10_apply]
  congr 1
  funext a
  match a with
  | ⟨0, _⟩ => rfl
  | ⟨1, _⟩ => rfl
  | ⟨2, _⟩ => rfl
  | ⟨3, _⟩ => rfl

theorem gate1 (R : Fin 4112) (j : Fin 2048) : Cert.MergeRefIdeal.Read.val_main_v14 (F := Ideal) x0 (ix3 0 R j) = sg (x0 (ix3 0 R (gc 1 j))) := by
  refine (one_at (Cert.MergeRefIdeal.Read.val_main_v13 (F := Ideal) x0) Cert.MergeRefIdeal.Gen.facts.shapeCasts_S1x4112x1x2048_S1x4112x2048 R j).trans ((Eq.trans ?_ (ref9 x0 R 1 j)))
  rw [Cert.MergeRefIdeal.Read.val_main_v13_apply]
  congr 1
  funext a
  match a with
  | ⟨0, _⟩ => rfl
  | ⟨1, _⟩ => rfl
  | ⟨2, _⟩ => rfl
  | ⟨3, _⟩ => rfl

theorem gate2 (R : Fin 4112) (j : Fin 2048) : Cert.MergeRefIdeal.Read.val_main_v18 (F := Ideal) x0 (ix3 0 R j) = sg (x0 (ix3 0 R (gc 2 j))) := by
  refine (one_at (Cert.MergeRefIdeal.Read.val_main_v17 (F := Ideal) x0) Cert.MergeRefIdeal.Gen.facts.shapeCasts_S1x4112x1x2048_S1x4112x2048 R j).trans ((Eq.trans ?_ (ref9 x0 R 2 j)))
  rw [Cert.MergeRefIdeal.Read.val_main_v17_apply]
  congr 1
  funext a
  match a with
  | ⟨0, _⟩ => rfl
  | ⟨1, _⟩ => rfl
  | ⟨2, _⟩ => rfl
  | ⟨3, _⟩ => rfl

theorem ref21 (R : Fin 4112) (j : Fin 2048) : Cert.MergeRefIdeal.Read.val_main_v21 (F := Ideal) x4 (ix3 0 R j) = x4 (ix3 0 R j) :=
  shapeCast_apply x4 Cert.MergeRefIdeal.Gen.facts.shapeCasts_S1x4112x2048_S1x4112x2048 (ix3 0 R j) (ix3 0 R j) rfl

theorem ref22 (R : Fin 4112) (j : Fin 2048) : Cert.MergeRefIdeal.Read.val_main_v22 (F := Ideal) x4 (ix3 0 R j) = x4 (ix3 0 R j) :=
  shapeCast_apply x4 Cert.MergeRefIdeal.Gen.facts.shapeCasts_S1x4112x2048_S1x4112x2048 (ix3 0 R j) (ix3 0 R j) rfl

theorem branch0 (R : Fin 4112) (j : Fin 2048) : Cert.MergeRefIdeal.Read.val_main_v32 (F := Ideal) x0 x4 (ix3 0 R j) = x4 (ix3 0 R j) * sg (x0 (ix3 0 R (gc 0 j))) := by
  rw [Cert.MergeRefIdeal.Read.val_main_v32_apply, gate0, ref21]
  exact mul_comm (G := EReal) _ _

theorem branch1 (R : Fin 4112) (j : Fin 2048) : Cert.MergeRefIdeal.Read.val_main_v27 (F := Ideal) x0 x4 (ix3 0 R j) = x4 (ix3 0 R j) * sg (x0 (ix3 0 R (gc 1 j))) := by
  rw [Cert.MergeRefIdeal.Read.val_main_v27_apply, gate1, ref21]
  exact mul_comm (G := EReal) _ _

theorem branch2 (R : Fin 4112) (j : Fin 2048) : Cert.MergeRefIdeal.Read.val_main_v23 (F := Ideal) x0 x4 (ix3 0 R j) = x4 (ix3 0 R j) * sg (x0 (ix3 0 R (gc 2 j))) := by
  rw [Cert.MergeRefIdeal.Read.val_main_v23_apply, gate2, ref22]
  exact mul_comm (G := EReal) _ _

/-- What the transpose of taking branch `l` of an array puts on branch `k`. -/
theorem put_at (y : (⟨S1x4112x2048, .f32⟩ : BufTy).Contents (Elt Ideal)) (l k : Fin 3) (z : (⟨S_, .f32⟩ : BufTy).Contents (Elt Ideal)) (hz : ∀ i, z i = (0 : EReal)) (hi : ℕ)
    (hb : S1x4112x2048.BroadcastsInDim Cert.MergeRefIdeal.S1x4112x1x2048 (![0, 1, 3] : Fin 3 → Fin 4))
    (hp : Cert.MergeRefIdeal.S1x4112x1x2048.Pads (![0, 0, l.val, 0] : Fin 4 → Nat) ![0, 0, hi, 0] ![0, 0, 0, 0] Cert.MergeRefIdeal.S1x4112x3x2048) (h_ : 0 < S_.numel) (R : Fin 4112) (j : Fin 2048) :
    pad Cert.MergeRefIdeal.S1x4112x3x2048 ![0, 0, l.val, 0] ![0, 0, hi, 0] ![0, 0, 0, 0] (broadcastInDim Cert.MergeRefIdeal.S1x4112x1x2048 ![0, 1, 3] hb y) z hp h_ (ix4 0 R k j)
      = if k = l then y (ix3 0 R j) else 0 := by
  split
  · rename_i hk
    subst hk
    refine (pad_apply_of_inside _ _ _ _ _ _ _ _ (ix4 0 R 0 j) (fun a => match a with
      | ⟨0, _⟩ => rfl
      | ⟨1, _⟩ => show R.val = 0 + R.val * 1 by omega
      | ⟨2, _⟩ => show k.val = k.val + 0 * 1 by omega
      | ⟨3, _⟩ => show j.val = 0 + j.val * 1 by omega)).trans ?_
    refine broadcastInDim_apply _ hb y (ix4 0 R 0 j) (ix3 0 R j) (fun a => match a with
      | ⟨0, _⟩ => ?_
      | ⟨1, _⟩ => ?_
      | ⟨2, _⟩ => ?_)
    · show 0 = if (1 : Nat) = 1 then 0 else 0
      rw [if_pos rfl]
    · show R.val = if (4112 : Nat) = 1 then 0 else R.val
      rw [if_neg (by omega)]
    · show j.val = if (2048 : Nat) = 1 then 0 else j.val
      rw [if_neg (by omega)]
  · rename_i hk
    refine (pad_apply_of_not_inside _ _ _ _ _ _ _ _ 2 ?_).trans (hz _)
    show ¬(l.val ≤ k.val ∧ (k.val - l.val) % 1 = 0 ∧ (k.val - l.val) / 1 < 1)
    intro h
    exact hk (Fin.ext (by omega))

theorem zero_word (i : S_.Idx) : constant (F := Ideal) S_ .f32 0x00000000#32 i = (0 : EReal) := by
  pointwise

theorem put0 (R : Fin 4112) (k : Fin 3) (j : Fin 2048) : Cert.MergeRefIdeal.Read.val_main_v35 (F := Ideal) x1 x4 (ix4 0 R k j) = if k = 0 then x4 (ix3 0 R j) * x1 (ix3 0 R j) else 0 := by
  refine (put_at (Cert.MergeRefIdeal.Read.val_main_v33 (F := Ideal) x1 x4) 0 k (Cert.MergeRefIdeal.Read.val_main_cst_4 (F := Ideal)) zero_word 2 Cert.MergeRefIdeal.Gen.facts.bcast_S1x4112x2048_S1x4112x1x2048_0_1_3
    Cert.MergeRefIdeal.Gen.facts.pads_S1x4112x1x2048_S1x4112x3x2048_000_000_020_000 Cert.MergeRefIdeal.Gen.facts.h_S_ R j).trans ?_
  rw [Cert.MergeRefIdeal.Read.val_main_v33_apply, ref21]
  rfl

theorem put1 (R : Fin 4112) (k : Fin 3) (j : Fin 2048) : Cert.MergeRefIdeal.Read.val_main_v30 (F := Ideal) x2 x4 (ix4 0 R k j) = if k = 1 then x4 (ix3 0 R j) * x2 (ix3 0 R j) else 0 := by
  refine (put_at (Cert.MergeRefIdeal.Read.val_main_v28 (F := Ideal) x2 x4) 1 k (Cert.MergeRefIdeal.Read.val_main_cst_3 (F := Ideal)) zero_word 1 Cert.MergeRefIdeal.Gen.facts.bcast_S1x4112x2048_S1x4112x1x2048_0_1_3
    Cert.MergeRefIdeal.Gen.facts.pads_S1x4112x1x2048_S1x4112x3x2048_000_000_110_000 Cert.MergeRefIdeal.Gen.facts.h_S_ R j).trans ?_
  rw [Cert.MergeRefIdeal.Read.val_main_v28_apply, ref21]
  rfl

theorem put2 (R : Fin 4112) (k : Fin 3) (j : Fin 2048) : Cert.MergeRefIdeal.Read.val_main_v26 (F := Ideal) x3 x4 (ix4 0 R k j) = if k = 2 then x4 (ix3 0 R j) * x3 (ix3 0 R j) else 0 := by
  refine (put_at (Cert.MergeRefIdeal.Read.val_main_v24 (F := Ideal) x3 x4) 2 k (Cert.MergeRefIdeal.Read.val_main_cst_2 (F := Ideal)) zero_word 0 Cert.MergeRefIdeal.Gen.facts.bcast_S1x4112x2048_S1x4112x1x2048_0_1_3
    Cert.MergeRefIdeal.Gen.facts.pads_S1x4112x1x2048_S1x4112x3x2048_000_000_200_000 Cert.MergeRefIdeal.Gen.facts.h_S_ R j).trans ?_
  rw [Cert.MergeRefIdeal.Read.val_main_v24_apply, ref22]
  rfl

theorem cot0 (R : Fin 4112) (j : Fin 2048) : Cert.MergeRefIdeal.Read.val_main_v37 (F := Ideal) x1 x2 x3 x4 (ix3 0 R (gc 0 j)) = x4 (ix3 0 R j) * x1 (ix3 0 R j) := by
  refine (shapeCast_apply _ Cert.MergeRefIdeal.Gen.facts.shapeCasts_S1x4112x3x2048_S1x4112x6144 (ix3 0 R (gc 0 j)) (ix4 0 R 0 j) ?_).trans ?_
  · rw [Shape.rowMajor_val_three, Shape.rowMajor_val_four]
    show ((0 * 4112 + R.val) * 3 + 0) * 2048 + j.val = (0 * 4112 + R.val) * 6144 + (2048 * 0 + j.val)
    omega
  · rw [Cert.MergeRefIdeal.Read.val_main_v36_apply, Cert.MergeRefIdeal.Read.val_main_v31_apply, put0, put1, put2]
    show ((if (0 : Fin 3) = 2 then _ else (0 : EReal)) + (if (0 : Fin 3) = 1 then _ else (0 : EReal))) + (if (0 : Fin 3) = 0 then _ else (0 : EReal)) = _
    simp

theorem cot1 (R : Fin 4112) (j : Fin 2048) : Cert.MergeRefIdeal.Read.val_main_v37 (F := Ideal) x1 x2 x3 x4 (ix3 0 R (gc 1 j)) = x4 (ix3 0 R j) * x2 (ix3 0 R j) := by
  refine (shapeCast_apply _ Cert.MergeRefIdeal.Gen.facts.shapeCasts_S1x4112x3x2048_S1x4112x6144 (ix3 0 R (gc 1 j)) (ix4 0 R 1 j) ?_).trans ?_
  · rw [Shape.rowMajor_val_three, Shape.rowMajor_val_four]
    show ((0 * 4112 + R.val) * 3 + 1) * 2048 + j.val = (0 * 4112 + R.val) * 6144 + (2048 * 1 + j.val)
    omega
  · rw [Cert.MergeRefIdeal.Read.val_main_v36_apply, Cert.MergeRefIdeal.Read.val_main_v31_apply, put0, put1, put2]
    show ((if (1 : Fin 3) = 2 then _ else (0 : EReal)) + (if (1 : Fin 3) = 1 then _ else (0 : EReal))) + (if (1 : Fin 3) = 0 then _ else (0 : EReal)) = _
    simp

theorem cot2 (R : Fin 4112) (j : Fin 2048) : Cert.MergeRefIdeal.Read.val_main_v37 (F := Ideal) x1 x2 x3 x4 (ix3 0 R (gc 2 j)) = x4 (ix3 0 R j) * x3 (ix3 0 R j) := by
  refine (shapeCast_apply _ Cert.MergeRefIdeal.Gen.facts.shapeCasts_S1x4112x3x2048_S1x4112x6144 (ix3 0 R (gc 2 j)) (ix4 0 R 2 j) ?_).trans ?_
  · rw [Shape.rowMajor_val_three, Shape.rowMajor_val_four]
    show ((0 * 4112 + R.val) * 3 + 2) * 2048 + j.val = (0 * 4112 + R.val) * 6144 + (2048 * 2 + j.val)
    omega
  · rw [Cert.MergeRefIdeal.Read.val_main_v36_apply, Cert.MergeRefIdeal.Read.val_main_v31_apply, put0, put1, put2]
    show ((if (2 : Fin 3) = 2 then _ else (0 : EReal)) + (if (2 : Fin 3) = 1 then _ else (0 : EReal))) + (if (2 : Fin 3) = 0 then _ else (0 : EReal)) = _
    simp

theorem logit0 (R : Fin 4112) (j : Fin 2048) : Cert.MergeRefIdeal.Read.val_main_v48 (F := Ideal) x0 x1 x2 x3 x4 (ix3 0 R j) = lg (x4 (ix3 0 R j)) (x1 (ix3 0 R j)) (sg (x0 (ix3 0 R (gc 0 j)))) := by
  rw [Cert.MergeRefIdeal.Read.val_main_v48_apply]
  have e : Cert.MergeRefIdeal.Read.idx_main_v48 (ix3 0 R j) = ix3 0 R (gc 0 j) := by
    funext a
    match a with
    | ⟨0, _⟩ => rfl
    | ⟨1, _⟩ => rfl
    | ⟨2, _⟩ => exact Fin.ext (by show j.val = 2048 * 0 + j.val; omega)
  rw [e, Cert.MergeRefIdeal.Read.val_main_v38_apply, cot0, ref8]
  exact (mul_assoc (G := EReal) _ _ _).symm

theorem logit1 (R : Fin 4112) (j : Fin 2048) : Cert.MergeRefIdeal.Read.val_main_v49 (F := Ideal) x0 x1 x2 x3 x4 (ix3 0 R j) = lg (x4 (ix3 0 R j)) (x2 (ix3 0 R j)) (sg (x0 (ix3 0 R (gc 1 j)))) := by
  rw [Cert.MergeRefIdeal.Read.val_main_v49_apply]
  have e : Cert.MergeRefIdeal.Read.idx_main_v49 (ix3 0 R j) = ix3 0 R (gc 1 j) := by
    funext a
    match a with
    | ⟨0, _⟩ => rfl
    | ⟨1, _⟩ => rfl
    | ⟨2, _⟩ => exact Fin.ext (by show 2048 + j.val = 2048 * 1 + j.val; omega)
  rw [e, Cert.MergeRefIdeal.Read.val_main_v38_apply, cot1, ref8]
  exact (mul_assoc (G := EReal) _ _ _).symm

theorem logit2 (R : Fin 4112) (j : Fin 2048) : Cert.MergeRefIdeal.Read.val_main_v50 (F := Ideal) x0 x1 x2 x3 x4 (ix3 0 R j) = lg (x4 (ix3 0 R j)) (x3 (ix3 0 R j)) (sg (x0 (ix3 0 R (gc 2 j)))) := by
  rw [Cert.MergeRefIdeal.Read.val_main_v50_apply]
  have e : Cert.MergeRefIdeal.Read.idx_main_v50 (ix3 0 R j) = ix3 0 R (gc 2 j) := by
    funext a
    match a with
    | ⟨0, _⟩ => rfl
    | ⟨1, _⟩ => rfl
    | ⟨2, _⟩ => exact Fin.ext (by show 4096 + j.val = 2048 * 2 + j.val; omega)
  rw [e, Cert.MergeRefIdeal.Read.val_main_v38_apply, cot2, ref8]
  exact (mul_assoc (G := EReal) _ _ _).symm

end

/-! ## The kernel -/
section
variable (m : (ℓ : Loc nD τ sig) → Buf (Elt Ideal) ℓ) (c : Dev nD) (t : Fin cfg0.N)

/-- The arguments. -/
abbrev a0 : (⟨S1x4112x6144, .f32⟩ : BufTy).Contents (Elt Ideal) := m ((c : Thread nD τ).loc main_arg0)
abbrev a1 : (⟨S1x4112x2048, .f32⟩ : BufTy).Contents (Elt Ideal) := m ((c : Thread nD τ).loc main_arg1)
abbrev a2 : (⟨S1x4112x2048, .f32⟩ : BufTy).Contents (Elt Ideal) := m ((c : Thread nD τ).loc main_arg2)
abbrev a3 : (⟨S1x4112x2048, .f32⟩ : BufTy).Contents (Elt Ideal) := m ((c : Thread nD τ).loc main_arg3)
abbrev a4 : (⟨S1x4112x2048, .f32⟩ : BufTy).Contents (Elt Ideal) := m ((c : Thread nD τ).loc main_arg4)

theorem V_ct (R : Fin 4224) (k : Fin 2048) : (V m c main_v9 : (⟨S4224x2048, .f32⟩ : BufTy).Contents (Elt Ideal)) (ix2 R k) = held (a4 m c) R k := by
  have h : (V m c main_v9 : (⟨S4224x2048, .f32⟩ : BufTy).Contents (Elt Ideal)) = pad S4224x2048 ![0, 0] ![112, 0] ![0, 0] (shapeCast S4112x2048 (a4 m c) shapeCasts_S1x4112x2048_S4112x2048)
      (sitofp (F := Ideal) .f32 (constantI S_ 32 0#32)) pads_S4112x2048_S4224x2048_01120_000 h_S_ := by
    simp only [V, hostOps0, hostOps0_1, hostOps0_2, hostOps0_3, hostOps0_4, hostOps0_5, hostOps0_6, hostOps0_7, hostOps0_8, hostOps0_9, List.flatten_cons, List.flatten_nil, List.append_nil, List.cons_append, List.nil_append]
    after_results
    rfl
  rw [h]
  exact held_at (a4 m c) shapeCasts_S1x4112x2048_S4112x2048 pads_S4112x2048_S4224x2048_01120_000 h_S_ R k

theorem V_y0 (R : Fin 4224) (k : Fin 2048) : (V m c main_v3 : (⟨S4224x2048, .f32⟩ : BufTy).Contents (Elt Ideal)) (ix2 R k) = held (a1 m c) R k := by
  have h : (V m c main_v3 : (⟨S4224x2048, .f32⟩ : BufTy).Contents (Elt Ideal)) = pad S4224x2048 ![0, 0] ![112, 0] ![0, 0] (shapeCast S4112x2048 (a1 m c) shapeCasts_S1x4112x2048_S4112x2048)
      (sitofp (F := Ideal) .f32 (constantI S_ 32 0#32)) pads_S4112x2048_S4224x2048_01120_000 h_S_ := by
    simp only [V, hostOps0, hostOps0_1, hostOps0_2, hostOps0_3, hostOps0_4, hostOps0_5, hostOps0_6, hostOps0_7, hostOps0_8, hostOps0_9, List.flatten_cons, List.flatten_nil, List.append_nil, List.cons_append, List.nil_append]
    after_results
    rfl
  rw [h]
  exact held_at (a1 m c) shapeCasts_S1x4112x2048_S4112x2048 pads_S4112x2048_S4224x2048_01120_000 h_S_ R k

theorem V_y1 (R : Fin 4224) (k : Fin 2048) : (V m c main_v5 : (⟨S4224x2048, .f32⟩ : BufTy).Contents (Elt Ideal)) (ix2 R k) = held (a2 m c) R k := by
  have h : (V m c main_v5 : (⟨S4224x2048, .f32⟩ : BufTy).Contents (Elt Ideal)) = pad S4224x2048 ![0, 0] ![112, 0] ![0, 0] (shapeCast S4112x2048 (a2 m c) shapeCasts_S1x4112x2048_S4112x2048)
      (sitofp (F := Ideal) .f32 (constantI S_ 32 0#32)) pads_S4112x2048_S4224x2048_01120_000 h_S_ := by
    simp only [V, hostOps0, hostOps0_1, hostOps0_2, hostOps0_3, hostOps0_4, hostOps0_5, hostOps0_6, hostOps0_7, hostOps0_8, hostOps0_9, List.flatten_cons, List.flatten_nil, List.append_nil, List.cons_append, List.nil_append]
    after_results
    rfl
  rw [h]
  exact held_at (a2 m c) shapeCasts_S1x4112x2048_S4112x2048 pads_S4112x2048_S4224x2048_01120_000 h_S_ R k

theorem V_y2 (R : Fin 4224) (k : Fin 2048) : (V m c main_v7 : (⟨S4224x2048, .f32⟩ : BufTy).Contents (Elt Ideal)) (ix2 R k) = held (a3 m c) R k := by
  have h : (V m c main_v7 : (⟨S4224x2048, .f32⟩ : BufTy).Contents (Elt Ideal)) = pad S4224x2048 ![0, 0] ![112, 0] ![0, 0] (shapeCast S4112x2048 (a3 m c) shapeCasts_S1x4112x2048_S4112x2048)
      (sitofp (F := Ideal) .f32 (constantI S_ 32 0#32)) pads_S4112x2048_S4224x2048_01120_000 h_S_ := by
    simp only [V, hostOps0, hostOps0_1, hostOps0_2, hostOps0_3, hostOps0_4, hostOps0_5, hostOps0_6, hostOps0_7, hostOps0_8, hostOps0_9, List.flatten_cons, List.flatten_nil, List.append_nil, List.cons_append, List.nil_append]
    after_results
    rfl
  rw [h]
  exact held_at (a3 m c) shapeCasts_S1x4112x2048_S4112x2048 pads_S4112x2048_S4224x2048_01120_000 h_S_ R k

/-- The logits' column as the call's array of them holds it. -/
abbrev gw (j : Fin 6144) : Fin 11520 := ⟨j.val, by omega⟩

/-- The logits on a row the cotangent reaches. -/
theorem V_g (R : Fin 4112) (j : Fin 6144) : (V m c main_v1 : (⟨S4224x11520, .f32⟩ : BufTy).Contents (Elt Ideal)) (ix2 ⟨R.val, by omega⟩ (gw j)) = a0 m c (ix3 0 R j) := by
  have h : (V m c main_v1 : (⟨S4224x11520, .f32⟩ : BufTy).Contents (Elt Ideal)) = pad S4224x11520 ![0, 0] ![112, 5376] ![0, 0] (shapeCast S4112x6144 (a0 m c) shapeCasts_S1x4112x6144_S4112x6144)
      (sitofp (F := Ideal) .f32 (constantI S_ 32 0#32)) pads_S4112x6144_S4224x11520_01120_053760 h_S_ := by
    simp only [V, hostOps0, hostOps0_1, hostOps0_2, hostOps0_3, hostOps0_4, hostOps0_5, hostOps0_6, hostOps0_7, hostOps0_8, hostOps0_9, List.flatten_cons, List.flatten_nil, List.append_nil, List.cons_append, List.nil_append]
    after_results
    rfl
  rw [h]
  refine (pad_apply_of_inside _ _ _ _ _ _ _ _ (ix2 R j) (fun a => match a with
      | ⟨0, _⟩ => show R.val = 0 + R.val * 1 by omega
      | ⟨1, _⟩ => show j.val = 0 + j.val * 1 by omega)).trans ?_
  exact flat_at (a0 m c) shapeCasts_S1x4112x6144_S4112x6144 R j

/-- The array row of a block's row, and its column. -/
def row (i : Fin 384) : Fin 4224 := ⟨384 * (grid0.coords t 0).val + i.val, by have h : (grid0.coords t 0).val < 11 := (grid0.coords t 0).isLt; omega⟩
def col (j : Fin 512) : Fin 2048 := ⟨512 * (grid0.coords t 1).val + j.val, by have h : (grid0.coords t 1).val < 4 := (grid0.coords t 1).isLt; omega⟩

theorem blk0 (i : Fin 384) (j : Fin 512) : X0_0 m c t (ix2 i j) = V m c main_v1 (ix2 (row t i) (gw (gc 0 (col t j)))) := by
  unfold X0_0 Pipeline.Window.fill
  rw [dif_pos (moved0_0 t _)]
  blk_simp [iblk]
  congr 1
  blk_ext [e0, row, col]

theorem blk1 (i : Fin 384) (j : Fin 512) : X0_1 m c t (ix2 i j) = V m c main_v1 (ix2 (row t i) (gw (gc 1 (col t j)))) := by
  unfold X0_1 Pipeline.Window.fill
  rw [dif_pos (moved0_1 t _)]
  blk_simp [iblk]
  congr 1
  blk_ext [e1, row, col]

theorem blk2 (i : Fin 384) (j : Fin 512) : X0_2 m c t (ix2 i j) = V m c main_v1 (ix2 (row t i) (gw (gc 2 (col t j)))) := by
  unfold X0_2 Pipeline.Window.fill
  rw [dif_pos (moved0_2 t _)]
  blk_simp [iblk]
  congr 1
  blk_ext [e2, row, col]

theorem blk3 (i : Fin 384) (j : Fin 512) : iblk m c 3 t (ix2 i j) = held (a1 m c) (row t i) (col t j) := by
  refine Eq.trans ?_ (V_y0 m c (row t i) (col t j))
  blk_simp [iblk]
  congr 1
  blk_ext [e3, row, col]

theorem blk4 (i : Fin 384) (j : Fin 512) : iblk m c 4 t (ix2 i j) = held (a2 m c) (row t i) (col t j) := by
  refine Eq.trans ?_ (V_y1 m c (row t i) (col t j))
  blk_simp [iblk]
  congr 1
  blk_ext [e4, row, col]

theorem blk5 (i : Fin 384) (j : Fin 512) : iblk m c 5 t (ix2 i j) = held (a3 m c) (row t i) (col t j) := by
  refine Eq.trans ?_ (V_y2 m c (row t i) (col t j))
  blk_simp [iblk]
  congr 1
  blk_ext [e5, row, col]

theorem blk6 (i : Fin 384) (j : Fin 512) : iblk m c 6 t (ix2 i j) = held (a4 m c) (row t i) (col t j) := by
  refine Eq.trans ?_ (V_ct m c (row t i) (col t j))
  blk_simp [iblk]
  congr 1
  blk_ext [e6, row, col]

/-- The same of a branch besides. -/
theorem gated₂ (f : EReal → EReal → EReal → EReal) (hf : ∀ y s, f 0 y s = 0) (k : Fin 3) (x y z : (⟨3, ![1, 4112, 2048]⟩ : Shape).Idx → EReal) (j : Fin 2048)
    (hz : ∀ R : Fin 4112, z (ix3 (0 : Fin 1) R j) = f (x (ix3 (0 : Fin 1) R j)) (y (ix3 (0 : Fin 1) R j)) (sg (a0 m c (ix3 0 R (gc k j))))) (R : Fin 4224) :
    held z R j = f (held x R j) (held y R j) (sg (V m c main_v1 (ix2 R (gw (gc k j))))) := by
  unfold held
  split
  · rename_i h
    rw [hz]
    exact congrArg (fun g => f _ _ (sg g)) (V_g m c ⟨R.val, h⟩ (gc k j)).symm
  · exact (hf _ _).symm

/-- Where the cotangent's row is padding nothing is read of the gate; elsewhere the gate is that row's. -/
theorem gated (f : EReal → EReal → EReal) (hf : ∀ s, f 0 s = 0) (k : Fin 3) (x z : (⟨3, ![1, 4112, 2048]⟩ : Shape).Idx → EReal) (j : Fin 2048)
    (hz : ∀ R : Fin 4112, z (ix3 (0 : Fin 1) R j) = f (x (ix3 (0 : Fin 1) R j)) (sg (a0 m c (ix3 0 R (gc k j))))) (R : Fin 4224) :
    held z R j = f (held x R j) (sg (V m c main_v1 (ix2 R (gw (gc k j))))) := by
  unfold held
  split
  · rename_i h
    rw [hz]
    exact congrArg (fun g => f _ (sg g)) (V_g m c ⟨R.val, h⟩ (gc k j)).symm
  · exact (hf _).symm

theorem pt7 (i : Fin 384) (j : Fin 512) : out0_A_7 (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (X0_0 m c t) (X0_1 m c t) (X0_2 m c t) (iblk m c 3 t) (iblk m c 4 t) (iblk m c 5 t) (iblk m c 6 t) (ix2 i j)
    = held (a4 m c) (row t i) (col t j) * sg (V m c main_v1 (ix2 (row t i) (gw (gc 0 (col t j))))) := by
  frame_out
  rw [pay7_at, blk6 m c t i j, blk0 m c t i j]

/-- An array that holds these values is the call's result. -/
theorem arr7 (G : (⟨S4224x2048, .bf16⟩ : BufTy).Contents (Elt Ideal))
    (hG : ∀ (R : Fin 4224) (j : Fin 2048), G (ix2 R j) = held (a4 m c) R j * sg (V m c main_v1 (ix2 (R) (gw (gc 0 (j)))))) :
    (dats m 0 c).arrAt 7 cfg0.N = G := by
  refine (dats m 0 c).arrAt_eq_of_covers 7 G (by decide +kernel) fun t hf y => ?_
  blk_simp
  rw [after0_7]
  simp only [outsAt0]
  obtain ⟨i, j, rfl⟩ : ∃ (i : Fin 384) (j : Fin 512), y = ix2 i j := ⟨y 0, y 1, eq_ix2 y⟩
  rw [pt7 m c t i j]
  refine (hG (row t i) (col t j)).symm.trans ?_
  congr 1
  blk_ext [e7, row, col]

theorem out7 : (dats m 0 c).arrAt 7 cfg0.N = Cert.MergeRefIdeal.Read.val_main_v41 (F := Ideal) (a0 m c) (a4 m c) :=
  arr7 m c _ fun R j => (held_at (Cert.MergeRefIdeal.Read.val_main_v32 (F := Ideal) (a0 m c) (a4 m c)) Cert.MergeRefIdeal.Gen.facts.shapeCasts_S1x4112x2048_S4112x2048
    Cert.MergeRefIdeal.Gen.facts.pads_S4112x2048_S4224x2048_01120_000 Cert.MergeRefIdeal.Gen.facts.h_S_ R j).trans
    (gated m c (fun d s => d * s) zero_mul 0 (a4 m c) _ j (fun R => branch0 (a0 m c) (a4 m c) R j) R)

theorem pt8 (i : Fin 384) (j : Fin 512) : out0_A_8 (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (X0_0 m c t) (X0_1 m c t) (X0_2 m c t) (iblk m c 3 t) (iblk m c 4 t) (iblk m c 5 t) (iblk m c 6 t) (ix2 i j)
    = held (a4 m c) (row t i) (col t j) * sg (V m c main_v1 (ix2 (row t i) (gw (gc 1 (col t j))))) := by
  frame_out
  rw [pay10_at, blk6 m c t i j, blk1 m c t i j]

/-- An array that holds these values is the call's result. -/
theorem arr8 (G : (⟨S4224x2048, .bf16⟩ : BufTy).Contents (Elt Ideal))
    (hG : ∀ (R : Fin 4224) (j : Fin 2048), G (ix2 R j) = held (a4 m c) R j * sg (V m c main_v1 (ix2 (R) (gw (gc 1 (j)))))) :
    (dats m 0 c).arrAt 8 cfg0.N = G := by
  refine (dats m 0 c).arrAt_eq_of_covers 8 G (by decide +kernel) fun t hf y => ?_
  blk_simp
  rw [after0_8]
  simp only [outsAt0]
  obtain ⟨i, j, rfl⟩ : ∃ (i : Fin 384) (j : Fin 512), y = ix2 i j := ⟨y 0, y 1, eq_ix2 y⟩
  rw [pt8 m c t i j]
  refine (hG (row t i) (col t j)).symm.trans ?_
  congr 1
  blk_ext [e8, row, col]

theorem out8 : (dats m 0 c).arrAt 8 cfg0.N = Cert.MergeRefIdeal.Read.val_main_v44 (F := Ideal) (a0 m c) (a4 m c) :=
  arr8 m c _ fun R j => (held_at (Cert.MergeRefIdeal.Read.val_main_v27 (F := Ideal) (a0 m c) (a4 m c)) Cert.MergeRefIdeal.Gen.facts.shapeCasts_S1x4112x2048_S4112x2048
    Cert.MergeRefIdeal.Gen.facts.pads_S4112x2048_S4224x2048_01120_000 Cert.MergeRefIdeal.Gen.facts.h_S_ R j).trans
    (gated m c (fun d s => d * s) zero_mul 1 (a4 m c) _ j (fun R => branch1 (a0 m c) (a4 m c) R j) R)

theorem pt9 (i : Fin 384) (j : Fin 512) : out0_A_9 (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (X0_0 m c t) (X0_1 m c t) (X0_2 m c t) (iblk m c 3 t) (iblk m c 4 t) (iblk m c 5 t) (iblk m c 6 t) (ix2 i j)
    = held (a4 m c) (row t i) (col t j) * sg (V m c main_v1 (ix2 (row t i) (gw (gc 2 (col t j))))) := by
  frame_out
  rw [pay3_at, pay5_at, blk6 m c t i j, blk2 m c t i j]

/-- An array that holds these values is the call's result. -/
theorem arr9 (G : (⟨S4224x2048, .bf16⟩ : BufTy).Contents (Elt Ideal))
    (hG : ∀ (R : Fin 4224) (j : Fin 2048), G (ix2 R j) = held (a4 m c) R j * sg (V m c main_v1 (ix2 (R) (gw (gc 2 (j)))))) :
    (dats m 0 c).arrAt 9 cfg0.N = G := by
  refine (dats m 0 c).arrAt_eq_of_covers 9 G (by decide +kernel) fun t hf y => ?_
  blk_simp
  rw [after0_9]
  simp only [outsAt0]
  obtain ⟨i, j, rfl⟩ : ∃ (i : Fin 384) (j : Fin 512), y = ix2 i j := ⟨y 0, y 1, eq_ix2 y⟩
  rw [pt9 m c t i j]
  refine (hG (row t i) (col t j)).symm.trans ?_
  congr 1
  blk_ext [e9, row, col]

theorem out9 : (dats m 0 c).arrAt 9 cfg0.N = Cert.MergeRefIdeal.Read.val_main_v47 (F := Ideal) (a0 m c) (a4 m c) :=
  arr9 m c _ fun R j => (held_at (Cert.MergeRefIdeal.Read.val_main_v23 (F := Ideal) (a0 m c) (a4 m c)) Cert.MergeRefIdeal.Gen.facts.shapeCasts_S1x4112x2048_S4112x2048
    Cert.MergeRefIdeal.Gen.facts.pads_S4112x2048_S4224x2048_01120_000 Cert.MergeRefIdeal.Gen.facts.h_S_ R j).trans
    (gated m c (fun d s => d * s) zero_mul 2 (a4 m c) _ j (fun R => branch2 (a0 m c) (a4 m c) R j) R)

theorem pt10 (i : Fin 384) (j : Fin 512) : out0_A_10 (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (X0_0 m c t) (X0_1 m c t) (X0_2 m c t) (iblk m c 3 t) (iblk m c 4 t) (iblk m c 5 t) (iblk m c 6 t) (ix2 i j)
    = lg (held (a4 m c) (row t i) (col t j)) (held (a1 m c) (row t i) (col t j)) (sg (V m c main_v1 (ix2 (row t i) (gw (gc 0 (col t j)))))) := by
  frame_out
  rw [pay8_at, blk6 m c t i j, blk0 m c t i j, blk3 m c t i j]

/-- An array that holds these values is the call's result. -/
theorem arr10 (G : (⟨S4224x2048, .bf16⟩ : BufTy).Contents (Elt Ideal))
    (hG : ∀ (R : Fin 4224) (j : Fin 2048), G (ix2 R j) = lg (held (a4 m c) R j) (held (a1 m c) R j) (sg (V m c main_v1 (ix2 (R) (gw (gc 0 (j))))))) :
    (dats m 0 c).arrAt 10 cfg0.N = G := by
  refine (dats m 0 c).arrAt_eq_of_covers 10 G (by decide +kernel) fun t hf y => ?_
  blk_simp
  rw [after0_10]
  simp only [outsAt0]
  obtain ⟨i, j, rfl⟩ : ∃ (i : Fin 384) (j : Fin 512), y = ix2 i j := ⟨y 0, y 1, eq_ix2 y⟩
  rw [pt10 m c t i j]
  refine (hG (row t i) (col t j)).symm.trans ?_
  congr 1
  blk_ext [e10, row, col]

theorem out10 : (dats m 0 c).arrAt 10 cfg0.N = Cert.MergeRefIdeal.Read.val_main_v53 (F := Ideal) (a0 m c) (a1 m c) (a2 m c) (a3 m c) (a4 m c) :=
  arr10 m c _ fun R j => (held_at (Cert.MergeRefIdeal.Read.val_main_v48 (F := Ideal) (a0 m c) (a1 m c) (a2 m c) (a3 m c) (a4 m c)) Cert.MergeRefIdeal.Gen.facts.shapeCasts_S1x4112x2048_S4112x2048
    Cert.MergeRefIdeal.Gen.facts.pads_S4112x2048_S4224x2048_01120_000 Cert.MergeRefIdeal.Gen.facts.h_S_ R j).trans
    (gated₂ m c lg lg_zero 0 (a4 m c) (a1 m c) _ j (fun R => logit0 (a0 m c) (a1 m c) (a2 m c) (a3 m c) (a4 m c) R j) R)

theorem pt11 (i : Fin 384) (j : Fin 512) : out0_A_11 (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (X0_0 m c t) (X0_1 m c t) (X0_2 m c t) (iblk m c 3 t) (iblk m c 4 t) (iblk m c 5 t) (iblk m c 6 t) (ix2 i j)
    = lg (held (a4 m c) (row t i) (col t j)) (held (a2 m c) (row t i) (col t j)) (sg (V m c main_v1 (ix2 (row t i) (gw (gc 1 (col t j)))))) := by
  frame_out
  rw [pay1_at, pay5_at, pay9_at, blk6 m c t i j, blk1 m c t i j, blk4 m c t i j]

/-- An array that holds these values is the call's result. -/
theorem arr11 (G : (⟨S4224x2048, .bf16⟩ : BufTy).Contents (Elt Ideal))
    (hG : ∀ (R : Fin 4224) (j : Fin 2048), G (ix2 R j) = lg (held (a4 m c) R j) (held (a2 m c) R j) (sg (V m c main_v1 (ix2 (R) (gw (gc 1 (j))))))) :
    (dats m 0 c).arrAt 11 cfg0.N = G := by
  refine (dats m 0 c).arrAt_eq_of_covers 11 G (by decide +kernel) fun t hf y => ?_
  blk_simp
  rw [after0_11]
  simp only [outsAt0]
  obtain ⟨i, j, rfl⟩ : ∃ (i : Fin 384) (j : Fin 512), y = ix2 i j := ⟨y 0, y 1, eq_ix2 y⟩
  rw [pt11 m c t i j]
  refine (hG (row t i) (col t j)).symm.trans ?_
  congr 1
  blk_ext [e11, row, col]

theorem out11 : (dats m 0 c).arrAt 11 cfg0.N = Cert.MergeRefIdeal.Read.val_main_v56 (F := Ideal) (a0 m c) (a1 m c) (a2 m c) (a3 m c) (a4 m c) :=
  arr11 m c _ fun R j => (held_at (Cert.MergeRefIdeal.Read.val_main_v49 (F := Ideal) (a0 m c) (a1 m c) (a2 m c) (a3 m c) (a4 m c)) Cert.MergeRefIdeal.Gen.facts.shapeCasts_S1x4112x2048_S4112x2048
    Cert.MergeRefIdeal.Gen.facts.pads_S4112x2048_S4224x2048_01120_000 Cert.MergeRefIdeal.Gen.facts.h_S_ R j).trans
    (gated₂ m c lg lg_zero 1 (a4 m c) (a2 m c) _ j (fun R => logit1 (a0 m c) (a1 m c) (a2 m c) (a3 m c) (a4 m c) R j) R)

theorem pt12 (i : Fin 384) (j : Fin 512) : out0_A_12 (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (X0_0 m c t) (X0_1 m c t) (X0_2 m c t) (iblk m c 3 t) (iblk m c 4 t) (iblk m c 5 t) (iblk m c 6 t) (ix2 i j)
    = lg (held (a4 m c) (row t i) (col t j)) (held (a3 m c) (row t i) (col t j)) (sg (V m c main_v1 (ix2 (row t i) (gw (gc 2 (col t j)))))) := by
  frame_out
  rw [pay4_at, pay5_at, blk6 m c t i j, blk2 m c t i j, blk5 m c t i j]

/-- An array that holds these values is the call's result. -/
theorem arr12 (G : (⟨S4224x2048, .bf16⟩ : BufTy).Contents (Elt Ideal))
    (hG : ∀ (R : Fin 4224) (j : Fin 2048), G (ix2 R j) = lg (held (a4 m c) R j) (held (a3 m c) R j) (sg (V m c main_v1 (ix2 (R) (gw (gc 2 (j))))))) :
    (dats m 0 c).arrAt 12 cfg0.N = G := by
  refine (dats m 0 c).arrAt_eq_of_covers 12 G (by decide +kernel) fun t hf y => ?_
  blk_simp
  rw [after0_12]
  simp only [outsAt0]
  obtain ⟨i, j, rfl⟩ : ∃ (i : Fin 384) (j : Fin 512), y = ix2 i j := ⟨y 0, y 1, eq_ix2 y⟩
  rw [pt12 m c t i j]
  refine (hG (row t i) (col t j)).symm.trans ?_
  congr 1
  blk_ext [e12, row, col]

theorem out12 : (dats m 0 c).arrAt 12 cfg0.N = Cert.MergeRefIdeal.Read.val_main_v59 (F := Ideal) (a0 m c) (a1 m c) (a2 m c) (a3 m c) (a4 m c) :=
  arr12 m c _ fun R j => (held_at (Cert.MergeRefIdeal.Read.val_main_v50 (F := Ideal) (a0 m c) (a1 m c) (a2 m c) (a3 m c) (a4 m c)) Cert.MergeRefIdeal.Gen.facts.shapeCasts_S1x4112x2048_S4112x2048
    Cert.MergeRefIdeal.Gen.facts.pads_S4112x2048_S4224x2048_01120_000 Cert.MergeRefIdeal.Gen.facts.h_S_ R j).trans
    (gated₂ m c lg lg_zero 2 (a4 m c) (a3 m c) _ j (fun R => logit2 (a0 m c) (a1 m c) (a2 m c) (a3 m c) (a4 m c) R j) R)

end
end Cert.MergeIdeal.Call
end
-- ==== Proof.ActCall.lean ====
module

public import proofs.«01_k».proof.Proof.Gen.Act
public import proofs.«01_k».proof.Proof.Gen.Act.Frame
public import proofs.«01_k».proof.Proof.Gen.ActIdeal
public import proofs.«01_k».proof.Proof.Gen.ActIdeal.Value
public import proofs.«01_k».proof.Proof.Gen.ActRefIdeal
public import proofs.«01_k».proof.Proof.Gen.ActRefIdeal.Run
public import proofs.«01_k».proof.Proof.Gen.ActRefIdeal.Read
public import proofs.«01_k».proof.Proof.Block

@[expose] public section

set_option maxRecDepth 16384

noncomputable section

/-! The gradient through the square of the positive part: the call's array is the reference's. -/
namespace Cert.ActIdeal.Call

open Idealize.ShloMosaic Cert.Block
open Cert.ActIdeal Cert.ActIdeal.Gen Idealize.ShloMosaic.TcCoe Idealize.ShloMosaic.Tactic Idealize.SL.Sem

theorem e0 : ∀ t : Fin cfg0.N, win0_0.index t = ![(grid0.coords t 0).val, 0] := (by decide +kernel : ∀ t : Fin grid0.N, _)
theorem e1 : ∀ t : Fin cfg0.N, win0_1.index t = ![(grid0.coords t 1).val, 0] := (by decide +kernel : ∀ t : Fin grid0.N, _)
theorem e2 : ∀ t : Fin cfg0.N, win0_2.index t = ![(grid0.coords t 0).val, (grid0.coords t 1).val] := (by decide +kernel : ∀ t : Fin grid0.N, _)
theorem e3 : ∀ t : Fin cfg0.N, win0_3.index t = ![(grid0.coords t 0).val, (grid0.coords t 1).val] := (by decide +kernel : ∀ t : Fin grid0.N, _)

/-- Two, as the programs write it. -/
abbrev two : Ideal .f32 := FloatOps.ofBits .f32 0x40000000#32

/-- A cotangent `a` of the square of the positive part of `u`, taken back to `u`. -/
def back (a u : EReal) : EReal := a * (two * max u 0)

theorem back_zero : back 0 0 = 0 := by simp [back]

/-- Where `u` is not positive the gradient is zero. -/
theorem back_of_not_pos (a u : EReal) (h : ¬0 < u) : back a u = 0 := by
  unfold back
  rw [max_eq_right (not_lt.1 h), mul_zero, mul_zero]

/-- The block at an index. -/
theorem pay_at (a : Vec Ideal S704x2048 .bf16) (b : Vec Ideal S2048x2048 .bf16) (u : Vec Ideal S704x2048 .f32) (i : Fin 704) (j : Fin 2048) :
    k0_pay1 (F := Ideal) a b u (ix2 i j) = back (∑ k : Fin 2048, a (ix2 i k) * b (ix2 j k)) (u (ix2 i j)) := by
  unfold k0_pay1
  pointwise
  rfl

section
variable (m : (ℓ : Loc nD τ sig) → Buf (Elt Ideal) ℓ) (c : Dev nD) (t : Fin cfg0.N)

/-- The arguments. -/
abbrev a0 : (⟨S1x4112x8192, .f32⟩ : BufTy).Contents (Elt Ideal) := m ((c : Thread nD τ).loc main_arg0)
abbrev a1 : (⟨S8192x2048, .f32⟩ : BufTy).Contents (Elt Ideal) := m ((c : Thread nD τ).loc main_arg1)
abbrev a2 : (⟨S1x4112x2048, .f32⟩ : BufTy).Contents (Elt Ideal) := m ((c : Thread nD τ).loc main_arg2)

theorem V_ct (R : Fin 4224) (k : Fin 2048) : (V m c main_v2 : (⟨S4224x2048, .bf16⟩ : BufTy).Contents (Elt Ideal)) (ix2 R k) = held (a2 m c) R k := by
  have h : (V m c main_v2 : (⟨S4224x2048, .bf16⟩ : BufTy).Contents (Elt Ideal)) = truncf (F := Ideal) (φ := .f32) .bf16 (pad S4224x2048 ![0, 0] ![112, 0] ![0, 0] (shapeCast S4112x2048 (a2 m c) shapeCasts_S1x4112x2048_S4112x2048)
      (sitofp (F := Ideal) .f32 (constantI S_ 32 0#32)) pads_S4112x2048_S4224x2048_01120_000 h_S_) bitsLt_bf16_f32 := by
    simp only [V, hostOps0, hostOps0_1, hostOps0_2, hostOps0_3, List.flatten_cons, List.flatten_nil, List.append_nil, List.cons_append, List.nil_append]
    after_results
    rfl
  rw [h]
  exact held_at (a2 m c) shapeCasts_S1x4112x2048_S4112x2048 pads_S4112x2048_S4224x2048_01120_000 h_S_ R k

theorem V_w : (V m c main_v3 : (⟨S8192x2048, .bf16⟩ : BufTy).Contents (Elt Ideal)) = a1 m c := by
  simp only [V, hostOps0, hostOps0_1, hostOps0_2, hostOps0_3, List.flatten_cons, List.flatten_nil, List.append_nil, List.cons_append, List.nil_append]
  after_results
  rfl

theorem V_u (R : Fin 4224) (k : Fin 8192) : (V m c main_v5 : (⟨S4224x8192, .f32⟩ : BufTy).Contents (Elt Ideal)) (ix2 R k) = held (a0 m c) R k := by
  have h : (V m c main_v5 : (⟨S4224x8192, .f32⟩ : BufTy).Contents (Elt Ideal)) = pad S4224x8192 ![0, 0] ![112, 0] ![0, 0] (shapeCast S4112x8192 (a0 m c) shapeCasts_S1x4112x8192_S4112x8192)
      (sitofp (F := Ideal) .f32 (constantI S_ 32 0#32)) pads_S4112x8192_S4224x8192_01120_000 h_S_ := by
    simp only [V, hostOps0, hostOps0_1, hostOps0_2, hostOps0_3, List.flatten_cons, List.flatten_nil, List.append_nil, List.cons_append, List.nil_append]
    after_results
    rfl
  rw [h]
  exact held_at (a0 m c) shapeCasts_S1x4112x8192_S4112x8192 pads_S4112x8192_S4224x8192_01120_000 h_S_ R k

/-- The array row of a block's row, and its column. -/
def row (i : Fin 704) : Fin 4224 := ⟨704 * (grid0.coords t 0).val + i.val, by have h : (grid0.coords t 0).val < 6 := (grid0.coords t 0).isLt; omega⟩
def col (j : Fin 2048) : Fin 8192 := ⟨2048 * (grid0.coords t 1).val + j.val, by have h : (grid0.coords t 1).val < 4 := (grid0.coords t 1).isLt; omega⟩

theorem blk0 (i : Fin 704) (k : Fin 2048) : iblk m c 0 t (ix2 i k) = held (a2 m c) (row t i) k := by
  refine Eq.trans ?_ (V_ct m c (row t i) k)
  blk_simp [iblk]
  congr 1
  blk_ext [e0, row]

theorem blk1 (j : Fin 2048) (k : Fin 2048) : iblk m c 1 t (ix2 j k) = a1 m c (ix2 (col t j) k) := by
  refine Eq.trans ?_ (congrFun (V_w m c) (ix2 (col t j) k))
  blk_simp [iblk]
  congr 1
  blk_ext [e1, col]

theorem blk2 (i : Fin 704) (j : Fin 2048) : iblk m c 2 t (ix2 i j) = held (a0 m c) (row t i) (col t j) := by
  refine Eq.trans ?_ (V_u m c (row t i) (col t j))
  blk_simp [iblk]
  congr 1
  blk_ext [e2, row, col]

/-- The block a point writes. -/
theorem pt (i : Fin 704) (j : Fin 2048) : out0_3 (F := Ideal) (iblk m c 0 t) (iblk m c 1 t) (iblk m c 2 t) (ix2 i j)
    = back (∑ k : Fin 2048, held (a2 m c) (row t i) k * a1 m c (ix2 (col t j) k)) (held (a0 m c) (row t i) (col t j)) := by
  frame_out
  rw [pay_at, blk2 m c t i j]
  refine congrArg (fun x => back x (held (a0 m c) (row t i) (col t j))) (Finset.sum_congr rfl fun k _ => ?_)
  rw [blk0 m c t i k, blk1 m c t j k]

/-- An array that holds these values is the call's result. -/
theorem arr (G : (⟨S4224x8192, .bf16⟩ : BufTy).Contents (Elt Ideal))
    (hG : ∀ (R : Fin 4224) (j : Fin 8192), G (ix2 R j) = back (∑ k : Fin 2048, held (a2 m c) R k * a1 m c (ix2 j k)) (held (a0 m c) R j)) :
    (dats m 0 c).arrAt 3 cfg0.N = G := by
  refine (dats m 0 c).arrAt_eq_of_covers 3 G (by decide +kernel) fun t hf y => ?_
  blk_simp
  rw [after0_3]
  obtain ⟨i, j, rfl⟩ : ∃ (i : Fin 704) (j : Fin 2048), y = ix2 i j := ⟨y 0, y 1, eq_ix2 y⟩
  rw [pt m c t i j]
  refine (hG (row t i) (col t j)).symm.trans ?_
  congr 1
  blk_ext [e3, row, col]

/-- The reference's product at an index. -/
theorem ref_at (R : Fin 4112) (j : Fin 8192) : Cert.ActRefIdeal.Read.val_main_v8 (F := Ideal) (a1 m c) (a2 m c) (ix3 0 R j)
    = ∑ k : Fin 2048, a2 m c (ix3 0 R k) * a1 m c (ix2 j k) := by
  unfold Cert.ActRefIdeal.Read.val_main_v8
  pointwise

theorem back_at (R : Fin 4112) (j : Fin 8192) : Cert.ActRefIdeal.Read.val_main_v11 (F := Ideal) (a0 m c) (a1 m c) (a2 m c) (ix3 0 R j)
    = back (Cert.ActRefIdeal.Read.val_main_v8 (F := Ideal) (a1 m c) (a2 m c) (ix3 0 R j)) (a0 m c (ix3 0 R j)) := by
  unfold Cert.ActRefIdeal.Read.val_main_v11 Cert.ActRefIdeal.Read.val_main_v10 Cert.ActRefIdeal.Read.val_main_cst_2 Cert.ActRefIdeal.Read.val_main_v9 Cert.ActRefIdeal.Read.val_main_v6 Cert.ActRefIdeal.Read.val_main_v5 Cert.ActRefIdeal.Read.val_main_cst_1 Cert.ActRefIdeal.Read.val_main_v2 Cert.ActRefIdeal.Read.val_main_v1 Cert.ActRefIdeal.Read.val_main_cst Cert.ActRefIdeal.Read.val_main_v0 Cert.ActRefIdeal.Read.val_main_call0_v0 Cert.ActRefIdeal.Read.val_main_call0_cst
  pointwise
  split
  · rfl
  · rename_i h
    exact (back_of_not_pos _ _ h).symm

/-- The call's array is the reference's. -/
theorem out : (dats m 0 c).arrAt 3 cfg0.N = Cert.ActRefIdeal.Read.val_main_v14 (F := Ideal) (a0 m c) (a1 m c) (a2 m c) :=
  arr m c _ fun R j => (held_at (Cert.ActRefIdeal.Read.val_main_v11 (F := Ideal) (a0 m c) (a1 m c) (a2 m c)) Cert.ActRefIdeal.Gen.facts.shapeCasts_S1x4112x8192_S4112x8192
    Cert.ActRefIdeal.Gen.facts.pads_S4112x8192_S4224x8192_01120_000 Cert.ActRefIdeal.Gen.facts.h_S_ R j).trans
    ((held_map₂ back back_zero (Cert.ActRefIdeal.Read.val_main_v8 (F := Ideal) (a1 m c) (a2 m c)) (a0 m c) _ j (fun R => back_at m c R j) R).trans
      (congrArg (fun x => back x (held (a0 m c) R j)) (held_sum (a2 m c) (fun k => a1 m c (ix2 j k)) _ j (fun R => ref_at m c R j) R).symm))

end
end Cert.ActIdeal.Call
end
-- ==== Proof.DownCall.lean ====
module

public import proofs.«01_k».proof.Proof.Gen.Down
public import proofs.«01_k».proof.Proof.Gen.Down.Frame
public import proofs.«01_k».proof.Proof.Gen.DownIdeal
public import proofs.«01_k».proof.Proof.Gen.DownIdeal.Value
public import proofs.«01_k».proof.Proof.Gen.DownRefIdeal
public import proofs.«01_k».proof.Proof.Gen.DownRefIdeal.Run
public import proofs.«01_k».proof.Proof.Gen.DownRefIdeal.Read
public import proofs.«01_k».proof.Proof.Block

@[expose] public section

set_option maxRecDepth 16384

noncomputable section

/-! The product of rows, transposed, with a cotangent, the gradient of a weight: the call's array is the reference's. -/
namespace Cert.DownIdeal.Call

open Idealize.ShloMosaic Cert.Block
open Cert.DownIdeal Cert.DownIdeal.Gen Idealize.ShloMosaic.TcCoe Idealize.ShloMosaic.Tactic Idealize.SL.Sem

theorem e0 : ∀ t : Fin cfg0.N, win0_0.index t = ![0, (grid0.coords t 0).val] := (by decide +kernel : ∀ t : Fin grid0.N, _)
theorem e1 : ∀ t : Fin cfg0.N, win0_1.index t = ![0, (grid0.coords t 1).val] := (by decide +kernel : ∀ t : Fin grid0.N, _)
theorem e2 : ∀ t : Fin cfg0.N, win0_2.index t = ![(grid0.coords t 0).val, (grid0.coords t 1).val] := (by decide +kernel : ∀ t : Fin grid0.N, _)

/-- The block product at an index. -/
theorem pay_at (a : Vec Ideal S4224x1024 .bf16) (b : Vec Ideal S4224x1024 .bf16) (i : Fin 1024) (j : Fin 1024) :
    k0_pay1 (F := Ideal) a b (ix2 i j) = ∑ R : Fin 4224, a (ix2 R i) * b (ix2 R j) := by
  unfold k0_pay1
  pointwise

section
variable (m : (ℓ : Loc nD τ sig) → Buf (Elt Ideal) ℓ) (c : Dev nD) (t : Fin cfg0.N)

/-- The arguments. -/
abbrev a0 : (⟨S1x4112x8192, .f32⟩ : BufTy).Contents (Elt Ideal) := m ((c : Thread nD τ).loc main_arg0)
abbrev a1 : (⟨S1x4112x2048, .f32⟩ : BufTy).Contents (Elt Ideal) := m ((c : Thread nD τ).loc main_arg1)

/-- The square of the positive part, as the host hands it to the call and as the reference takes it. -/
abbrev act : (⟨S1x4112x8192, .f32⟩ : BufTy).Contents (Elt Ideal) := Cert.DownRefIdeal.Read.val_main_v2 (F := Ideal) (a0 m c)

theorem V_x (R : Fin 4224) (k : Fin 8192) : (V m c main_v4 : (⟨S4224x8192, .bf16⟩ : BufTy).Contents (Elt Ideal)) (ix2 R k) = held (act m c) R k := by
  have h : (V m c main_v4 : (⟨S4224x8192, .bf16⟩ : BufTy).Contents (Elt Ideal)) = truncf (F := Ideal) (φ := .f32) .bf16 (pad S4224x8192 ![0, 0] ![112, 0] ![0, 0] (shapeCast S4112x8192 (act m c) shapeCasts_S1x4112x8192_S4112x8192)
      (sitofp (F := Ideal) .f32 (constantI S_ 32 0#32)) pads_S4112x8192_S4224x8192_01120_000 h_S_) bitsLt_bf16_f32 := by
    simp only [V, hostOps0, hostOps0_1, hostOps0_2, hostOps0_3, hostOps0_4, hostOps0_5, List.flatten_cons, List.flatten_nil, List.append_nil, List.cons_append, List.nil_append]
    after_results
    rfl
  rw [h]
  exact held_at (act m c) shapeCasts_S1x4112x8192_S4112x8192 pads_S4112x8192_S4224x8192_01120_000 h_S_ R k

theorem V_ct (R : Fin 4224) (k : Fin 2048) : (V m c main_v7 : (⟨S4224x2048, .bf16⟩ : BufTy).Contents (Elt Ideal)) (ix2 R k) = held (a1 m c) R k := by
  have h : (V m c main_v7 : (⟨S4224x2048, .bf16⟩ : BufTy).Contents (Elt Ideal)) = truncf (F := Ideal) (φ := .f32) .bf16 (pad S4224x2048 ![0, 0] ![112, 0] ![0, 0] (shapeCast S4112x2048 (a1 m c) shapeCasts_S1x4112x2048_S4112x2048)
      (sitofp (F := Ideal) .f32 (constantI S_ 32 0#32)) pads_S4112x2048_S4224x2048_01120_000 h_S_) bitsLt_bf16_f32 := by
    simp only [V, hostOps0, hostOps0_1, hostOps0_2, hostOps0_3, hostOps0_4, hostOps0_5, List.flatten_cons, List.flatten_nil, List.append_nil, List.cons_append, List.nil_append]
    after_results
    rfl
  rw [h]
  exact held_at (a1 m c) shapeCasts_S1x4112x2048_S4112x2048 pads_S4112x2048_S4224x2048_01120_000 h_S_ R k

/-- The array row of a block's row, and its column. -/
def row (i : Fin 1024) : Fin 8192 := ⟨1024 * (grid0.coords t 0).val + i.val, by have h : (grid0.coords t 0).val < 8 := (grid0.coords t 0).isLt; omega⟩
def col (j : Fin 1024) : Fin 2048 := ⟨1024 * (grid0.coords t 1).val + j.val, by have h : (grid0.coords t 1).val < 2 := (grid0.coords t 1).isLt; omega⟩

theorem blk0 (R : Fin 4224) (i : Fin 1024) : iblk m c 0 t (ix2 R i) = held (act m c) R (row t i) := by
  refine Eq.trans ?_ (V_x m c R (row t i))
  blk_simp [iblk]
  congr 1
  blk_ext [e0, row]

theorem blk1 (R : Fin 4224) (j : Fin 1024) : iblk m c 1 t (ix2 R j) = held (a1 m c) R (col t j) := by
  refine Eq.trans ?_ (V_ct m c R (col t j))
  blk_simp [iblk]
  congr 1
  blk_ext [e1, col]

/-- The block a point writes. -/
theorem pt (i : Fin 1024) (j : Fin 1024) : out0_2 (F := Ideal) (iblk m c 0 t) (iblk m c 1 t) (ix2 i j)
    = ∑ R : Fin 4112, (act m c) (ix3 0 R (row t i)) * a1 m c (ix3 0 R (col t j)) := by
  frame_out
  rw [pay_at]
  refine (Finset.sum_congr rfl fun R _ => ?_).trans (held_dot (act m c) (a1 m c) (row t i) (col t j))
  rw [blk0 m c t R i, blk1 m c t R j]

/-- An array that holds these values is the call's result. -/
theorem arr (G : (⟨S8192x2048, .bf16⟩ : BufTy).Contents (Elt Ideal))
    (hG : ∀ (i : Fin 8192) (j : Fin 2048), G (ix2 i j) = ∑ R : Fin 4112, (act m c) (ix3 0 R i) * a1 m c (ix3 0 R j)) :
    (dats m 0 c).arrAt 2 cfg0.N = G := by
  refine (dats m 0 c).arrAt_eq_of_covers 2 G (by decide +kernel) fun t hf y => ?_
  blk_simp
  rw [after0_2]
  obtain ⟨i, j, rfl⟩ : ∃ (i : Fin 1024) (j : Fin 1024), y = ix2 i j := ⟨y 0, y 1, eq_ix2 y⟩
  rw [pt m c t i j]
  refine (hG (row t i) (col t j)).symm.trans ?_
  congr 1
  blk_ext [e2, row, col]

/-- The call's array is the reference's. -/
theorem out : (dats m 0 c).arrAt 2 cfg0.N = Cert.DownRefIdeal.Read.val_main_v6 (F := Ideal) (a0 m c) (a1 m c) :=
  arr m c _ fun i j => by
    unfold Cert.DownRefIdeal.Read.val_main_v6 Cert.DownRefIdeal.Read.val_main_v5 Cert.DownRefIdeal.Read.val_main_v4
    pointwise
    refine (Fin.sum_univ_one _).trans ?_
    exact Finset.sum_congr rfl fun R _ => mul_comm (G := EReal) _ _

end
end Cert.DownIdeal.Call
end
-- ==== Proof.UpCall.lean ====
module

public import proofs.«01_k».proof.Proof.Gen.Up
public import proofs.«01_k».proof.Proof.Gen.Up.Frame
public import proofs.«01_k».proof.Proof.Gen.UpIdeal
public import proofs.«01_k».proof.Proof.Gen.UpIdeal.Value
public import proofs.«01_k».proof.Proof.Gen.UpRefIdeal
public import proofs.«01_k».proof.Proof.Gen.UpRefIdeal.Run
public import proofs.«01_k».proof.Proof.Gen.UpRefIdeal.Read
public import proofs.«01_k».proof.Proof.Block

@[expose] public section

set_option maxRecDepth 16384

noncomputable section

/-! The product of rows, transposed, with a cotangent, the gradient of a weight: the call's array is the reference's. -/
namespace Cert.UpIdeal.Call

open Idealize.ShloMosaic Cert.Block
open Cert.UpIdeal Cert.UpIdeal.Gen Idealize.ShloMosaic.TcCoe Idealize.ShloMosaic.Tactic Idealize.SL.Sem

theorem e0 : ∀ t : Fin cfg0.N, win0_0.index t = ![0, (grid0.coords t 0).val] := (by decide +kernel : ∀ t : Fin grid0.N, _)
theorem e1 : ∀ t : Fin cfg0.N, win0_1.index t = ![0, (grid0.coords t 1).val] := (by decide +kernel : ∀ t : Fin grid0.N, _)
theorem e2 : ∀ t : Fin cfg0.N, win0_2.index t = ![(grid0.coords t 0).val, (grid0.coords t 1).val] := (by decide +kernel : ∀ t : Fin grid0.N, _)

/-- The block product at an index. -/
theorem pay_at (a : Vec Ideal S4224x1024 .bf16) (b : Vec Ideal S4224x1024 .bf16) (i : Fin 1024) (j : Fin 1024) :
    k0_pay1 (F := Ideal) a b (ix2 i j) = ∑ R : Fin 4224, a (ix2 R i) * b (ix2 R j) := by
  unfold k0_pay1
  pointwise

section
variable (m : (ℓ : Loc nD τ sig) → Buf (Elt Ideal) ℓ) (c : Dev nD) (t : Fin cfg0.N)

/-- The arguments. -/
abbrev a0 : (⟨S1x4112x2048, .f32⟩ : BufTy).Contents (Elt Ideal) := m ((c : Thread nD τ).loc main_arg0)
abbrev a1 : (⟨S1x4112x8192, .f32⟩ : BufTy).Contents (Elt Ideal) := m ((c : Thread nD τ).loc main_arg1)

theorem V_x (R : Fin 4224) (k : Fin 2048) : (V m c main_v2 : (⟨S4224x2048, .bf16⟩ : BufTy).Contents (Elt Ideal)) (ix2 R k) = held (a0 m c) R k := by
  have h : (V m c main_v2 : (⟨S4224x2048, .bf16⟩ : BufTy).Contents (Elt Ideal)) = truncf (F := Ideal) (φ := .f32) .bf16 (pad S4224x2048 ![0, 0] ![112, 0] ![0, 0] (shapeCast S4112x2048 (a0 m c) shapeCasts_S1x4112x2048_S4112x2048)
      (sitofp (F := Ideal) .f32 (constantI S_ 32 0#32)) pads_S4112x2048_S4224x2048_01120_000 h_S_) bitsLt_bf16_f32 := by
    simp only [V, hostOps0, hostOps0_1, hostOps0_2, hostOps0_3, hostOps0_4, List.flatten_cons, List.flatten_nil, List.append_nil, List.cons_append, List.nil_append]
    after_results
    rfl
  rw [h]
  exact held_at (a0 m c) shapeCasts_S1x4112x2048_S4112x2048 pads_S4112x2048_S4224x2048_01120_000 h_S_ R k

theorem V_ct (R : Fin 4224) (k : Fin 8192) : (V m c main_v5 : (⟨S4224x8192, .bf16⟩ : BufTy).Contents (Elt Ideal)) (ix2 R k) = held (a1 m c) R k := by
  have h : (V m c main_v5 : (⟨S4224x8192, .bf16⟩ : BufTy).Contents (Elt Ideal)) = truncf (F := Ideal) (φ := .f32) .bf16 (pad S4224x8192 ![0, 0] ![112, 0] ![0, 0] (shapeCast S4112x8192 (a1 m c) shapeCasts_S1x4112x8192_S4112x8192)
      (sitofp (F := Ideal) .f32 (constantI S_ 32 0#32)) pads_S4112x8192_S4224x8192_01120_000 h_S_) bitsLt_bf16_f32 := by
    simp only [V, hostOps0, hostOps0_1, hostOps0_2, hostOps0_3, hostOps0_4, List.flatten_cons, List.flatten_nil, List.append_nil, List.cons_append, List.nil_append]
    after_results
    rfl
  rw [h]
  exact held_at (a1 m c) shapeCasts_S1x4112x8192_S4112x8192 pads_S4112x8192_S4224x8192_01120_000 h_S_ R k

/-- The array row of a block's row, and its column. -/
def row (i : Fin 1024) : Fin 2048 := ⟨1024 * (grid0.coords t 0).val + i.val, by have h : (grid0.coords t 0).val < 2 := (grid0.coords t 0).isLt; omega⟩
def col (j : Fin 1024) : Fin 8192 := ⟨1024 * (grid0.coords t 1).val + j.val, by have h : (grid0.coords t 1).val < 8 := (grid0.coords t 1).isLt; omega⟩

theorem blk0 (R : Fin 4224) (i : Fin 1024) : iblk m c 0 t (ix2 R i) = held (a0 m c) R (row t i) := by
  refine Eq.trans ?_ (V_x m c R (row t i))
  blk_simp [iblk]
  congr 1
  blk_ext [e0, row]

theorem blk1 (R : Fin 4224) (j : Fin 1024) : iblk m c 1 t (ix2 R j) = held (a1 m c) R (col t j) := by
  refine Eq.trans ?_ (V_ct m c R (col t j))
  blk_simp [iblk]
  congr 1
  blk_ext [e1, col]

/-- The block a point writes. -/
theorem pt (i : Fin 1024) (j : Fin 1024) : out0_2 (F := Ideal) (iblk m c 0 t) (iblk m c 1 t) (ix2 i j)
    = ∑ R : Fin 4112, (a0 m c) (ix3 0 R (row t i)) * a1 m c (ix3 0 R (col t j)) := by
  frame_out
  rw [pay_at]
  refine (Finset.sum_congr rfl fun R _ => ?_).trans (held_dot (a0 m c) (a1 m c) (row t i) (col t j))
  rw [blk0 m c t R i, blk1 m c t R j]

/-- An array that holds these values is the call's result. -/
theorem arr (G : (⟨S2048x8192, .bf16⟩ : BufTy).Contents (Elt Ideal))
    (hG : ∀ (i : Fin 2048) (j : Fin 8192), G (ix2 i j) = ∑ R : Fin 4112, (a0 m c) (ix3 0 R i) * a1 m c (ix3 0 R j)) :
    (dats m 0 c).arrAt 2 cfg0.N = G := by
  refine (dats m 0 c).arrAt_eq_of_covers 2 G (by decide +kernel) fun t hf y => ?_
  blk_simp
  rw [after0_2]
  obtain ⟨i, j, rfl⟩ : ∃ (i : Fin 1024) (j : Fin 1024), y = ix2 i j := ⟨y 0, y 1, eq_ix2 y⟩
  rw [pt m c t i j]
  refine (hG (row t i) (col t j)).symm.trans ?_
  congr 1
  blk_ext [e2, row, col]

/-- The call's array is the reference's. -/
theorem out : (dats m 0 c).arrAt 2 cfg0.N = Cert.UpRefIdeal.Read.val_main_v4 (F := Ideal) (a0 m c) (a1 m c) :=
  arr m c _ fun i j => by
    unfold Cert.UpRefIdeal.Read.val_main_v4 Cert.UpRefIdeal.Read.val_main_v3 Cert.UpRefIdeal.Read.val_main_v2
    pointwise
    refine (Fin.sum_univ_one _).trans ?_
    exact Finset.sum_congr rfl fun R _ => mul_comm (G := EReal) _ _

end
end Cert.UpIdeal.Call
end
-- ==== Proof.H2Call.lean ====
module

public import proofs.«01_k».proof.Proof.Gen.H2
public import proofs.«01_k».proof.Proof.Gen.H2.Frame
public import proofs.«01_k».proof.Proof.Gen.H2Ideal
public import proofs.«01_k».proof.Proof.Gen.H2Ideal.Value
public import proofs.«01_k».proof.Proof.Gen.H2RefIdeal
public import proofs.«01_k».proof.Proof.Gen.H2RefIdeal.Run
public import proofs.«01_k».proof.Proof.Gen.H2RefIdeal.Read
public import proofs.«01_k».proof.Proof.Block

@[expose] public section

set_option maxRecDepth 16384

noncomputable section

/-! The product of a cotangent with the transpose of a weight: the call's array is the reference's. -/
namespace Cert.H2Ideal.Call

open Idealize.ShloMosaic Cert.Block
open Cert.H2Ideal Cert.H2Ideal.Gen Idealize.ShloMosaic.TcCoe Idealize.ShloMosaic.Tactic Idealize.SL.Sem

theorem e0 : ∀ t : Fin cfg0.N, win0_0.index t = ![(grid0.coords t 0).val, 0] := (by decide +kernel : ∀ t : Fin grid0.N, _)
theorem e1 : ∀ t : Fin cfg0.N, win0_1.index t = ![(grid0.coords t 1).val, 0] := (by decide +kernel : ∀ t : Fin grid0.N, _)
theorem e2 : ∀ t : Fin cfg0.N, win0_2.index t = ![(grid0.coords t 0).val, (grid0.coords t 1).val] := (by decide +kernel : ∀ t : Fin grid0.N, _)

/-- The block product at an index. -/
theorem pay_at (a : Vec Ideal S704x8192 .bf16) (b : Vec Ideal S512x8192 .bf16) (i : Fin 704) (j : Fin 512) :
    k0_pay1 (F := Ideal) a b (ix2 i j) = ∑ k : Fin 8192, a (ix2 i k) * b (ix2 j k) := by
  unfold k0_pay1
  pointwise

section
variable (m : (ℓ : Loc nD τ sig) → Buf (Elt Ideal) ℓ) (c : Dev nD) (t : Fin cfg0.N)

/-- The weight and the cotangent. -/
abbrev a0 : (⟨S2048x8192, .f32⟩ : BufTy).Contents (Elt Ideal) := m ((c : Thread nD τ).loc main_arg0)
abbrev a1 : (⟨S1x4112x8192, .f32⟩ : BufTy).Contents (Elt Ideal) := m ((c : Thread nD τ).loc main_arg1)

theorem V_ct (R : Fin 4224) (k : Fin 8192) : (V m c main_v2 : (⟨S4224x8192, .bf16⟩ : BufTy).Contents (Elt Ideal)) (ix2 R k) = held (a1 m c) R k := by
  have h : (V m c main_v2 : (⟨S4224x8192, .bf16⟩ : BufTy).Contents (Elt Ideal)) = truncf (F := Ideal) (φ := .f32) .bf16 (pad S4224x8192 ![0, 0] ![112, 0] ![0, 0] (shapeCast S4112x8192 (a1 m c) shapeCasts_S1x4112x8192_S4112x8192)
      (sitofp (F := Ideal) .f32 (constantI S_ 32 0#32)) pads_S4112x8192_S4224x8192_01120_000 h_S_) bitsLt_bf16_f32 := by
    simp only [V, hostOps0, hostOps0_1, hostOps0_2, List.flatten_cons, List.flatten_nil, List.append_nil, List.cons_append, List.nil_append]
    after_results
    rfl
  rw [h]
  exact held_at (a1 m c) shapeCasts_S1x4112x8192_S4112x8192 pads_S4112x8192_S4224x8192_01120_000 h_S_ R k

theorem V_w : (V m c main_v3 : (⟨S2048x8192, .bf16⟩ : BufTy).Contents (Elt Ideal)) = a0 m c := by
  simp only [V, hostOps0, hostOps0_1, hostOps0_2, List.flatten_cons, List.flatten_nil, List.append_nil, List.cons_append, List.nil_append]
  after_results
  rfl

/-- The array row of a block's row, and its column. -/
def row (i : Fin 704) : Fin 4224 := ⟨704 * (grid0.coords t 0).val + i.val, by have h : (grid0.coords t 0).val < 6 := (grid0.coords t 0).isLt; omega⟩
def col (j : Fin 512) : Fin 2048 := ⟨512 * (grid0.coords t 1).val + j.val, by have h : (grid0.coords t 1).val < 4 := (grid0.coords t 1).isLt; omega⟩

theorem blk0 (i : Fin 704) (k : Fin 8192) : iblk m c 0 t (ix2 i k) = held (a1 m c) (row t i) k := by
  refine Eq.trans ?_ (V_ct m c (row t i) k)
  blk_simp [iblk]
  congr 1
  blk_ext [e0, row]

theorem blk1 (j : Fin 512) (k : Fin 8192) : iblk m c 1 t (ix2 j k) = a0 m c (ix2 (col t j) k) := by
  refine Eq.trans ?_ (congrFun (V_w m c) (ix2 (col t j) k))
  blk_simp [iblk]
  congr 1
  blk_ext [e1, col]

/-- The block a point writes. -/
theorem pt (i : Fin 704) (j : Fin 512) : out0_2 (F := Ideal) (iblk m c 0 t) (iblk m c 1 t) (ix2 i j)
    = ∑ k : Fin 8192, held (a1 m c) (row t i) k * a0 m c (ix2 (col t j) k) := by
  frame_out
  rw [pay_at]
  refine Finset.sum_congr rfl fun k _ => ?_
  rw [blk0 m c t i k, blk1 m c t j k]

/-- An array that holds the products is the call's result. -/
theorem arr (G : (⟨S4224x2048, .f32⟩ : BufTy).Contents (Elt Ideal))
    (hG : ∀ (R : Fin 4224) (j : Fin 2048), G (ix2 R j) = ∑ k : Fin 8192, held (a1 m c) R k * a0 m c (ix2 j k)) :
    (dats m 0 c).arrAt 2 cfg0.N = G := by
  refine (dats m 0 c).arrAt_eq_of_covers 2 G (by decide +kernel) fun t hf y => ?_
  blk_simp
  rw [after0_2]
  obtain ⟨i, j, rfl⟩ : ∃ (i : Fin 704) (j : Fin 512), y = ix2 i j := ⟨y 0, y 1, eq_ix2 y⟩
  rw [pt m c t i j]
  refine (hG (row t i) (col t j)).symm.trans ?_
  congr 1
  blk_ext [e2, row, col]

/-- The reference's product at an index. -/
theorem ref_at (R : Fin 4112) (j : Fin 2048) : Cert.H2RefIdeal.Read.val_main_v2 (F := Ideal) (a0 m c) (a1 m c) (ix3 0 R j)
    = ∑ k : Fin 8192, a1 m c (ix3 0 R k) * a0 m c (ix2 j k) := by
  unfold Cert.H2RefIdeal.Read.val_main_v2
  pointwise

/-- The call's array is the reference's. -/
theorem out : (dats m 0 c).arrAt 2 cfg0.N = Cert.H2RefIdeal.Read.val_main_v4 (F := Ideal) (a0 m c) (a1 m c) :=
  arr m c _ fun R j => (held_at (Cert.H2RefIdeal.Read.val_main_v2 (F := Ideal) (a0 m c) (a1 m c)) Cert.H2RefIdeal.Gen.facts.shapeCasts_S1x4112x2048_S4112x2048
    Cert.H2RefIdeal.Gen.facts.pads_S4112x2048_S4224x2048_01120_000 Cert.H2RefIdeal.Gen.facts.h_S_ R j).trans
    (held_sum (a1 m c) (fun k => a0 m c (ix2 j k)) _ j (fun R => ref_at m c R j) R).symm

end
end Cert.H2Ideal.Call
end
-- ==== Proof.DoCall.lean ====
module

public import proofs.«01_k».proof.Proof.Gen.Do
public import proofs.«01_k».proof.Proof.Gen.Do.Frame
public import proofs.«01_k».proof.Proof.Gen.DoIdeal
public import proofs.«01_k».proof.Proof.Gen.DoIdeal.Value
public import proofs.«01_k».proof.Proof.Gen.DoRefIdeal
public import proofs.«01_k».proof.Proof.Gen.DoRefIdeal.Run
public import proofs.«01_k».proof.Proof.Gen.DoRefIdeal.Read
public import proofs.«01_k».proof.Proof.Block

@[expose] public section

set_option maxRecDepth 16384

noncomputable section

/-! The product of a cotangent with the transpose of a weight: the call's array is the reference's. -/
namespace Cert.DoIdeal.Call

open Idealize.ShloMosaic Cert.Block
open Cert.DoIdeal Cert.DoIdeal.Gen Idealize.ShloMosaic.TcCoe Idealize.ShloMosaic.Tactic Idealize.SL.Sem

theorem e0 : ∀ t : Fin cfg0.N, win0_0.index t = ![(grid0.coords t 0).val, 0] := (by decide +kernel : ∀ t : Fin grid0.N, _)
theorem e1 : ∀ t : Fin cfg0.N, win0_1.index t = ![(grid0.coords t 1).val, 0] := (by decide +kernel : ∀ t : Fin grid0.N, _)
theorem e2 : ∀ t : Fin cfg0.N, win0_2.index t = ![(grid0.coords t 0).val, (grid0.coords t 1).val] := (by decide +kernel : ∀ t : Fin grid0.N, _)

/-- The block product at an index. -/
theorem pay_at (a : Vec Ideal S704x2048 .bf16) (b : Vec Ideal S2048x2048 .bf16) (i : Fin 704) (j : Fin 2048) :
    k0_pay1 (F := Ideal) a b (ix2 i j) = ∑ k : Fin 2048, a (ix2 i k) * b (ix2 j k) := by
  unfold k0_pay1
  pointwise

section
variable (m : (ℓ : Loc nD τ sig) → Buf (Elt Ideal) ℓ) (c : Dev nD) (t : Fin cfg0.N)

/-- The arguments. -/
abbrev a0 : (⟨S2048x2048, .f32⟩ : BufTy).Contents (Elt Ideal) := m ((c : Thread nD τ).loc main_arg0)
abbrev a1 : (⟨S1x4112x2048, .f32⟩ : BufTy).Contents (Elt Ideal) := m ((c : Thread nD τ).loc main_arg1)

theorem V_ct (R : Fin 4224) (k : Fin 2048) : (V m c main_v2 : (⟨S4224x2048, .bf16⟩ : BufTy).Contents (Elt Ideal)) (ix2 R k) = held (a1 m c) R k := by
  have h : (V m c main_v2 : (⟨S4224x2048, .bf16⟩ : BufTy).Contents (Elt Ideal)) = truncf (F := Ideal) (φ := .f32) .bf16 (pad S4224x2048 ![0, 0] ![112, 0] ![0, 0] (shapeCast S4112x2048 (a1 m c) shapeCasts_S1x4112x2048_S4112x2048)
      (sitofp (F := Ideal) .f32 (constantI S_ 32 0#32)) pads_S4112x2048_S4224x2048_01120_000 h_S_) bitsLt_bf16_f32 := by
    simp only [V, hostOps0, hostOps0_1, hostOps0_2, List.flatten_cons, List.flatten_nil, List.append_nil, List.cons_append, List.nil_append]
    after_results
    rfl
  rw [h]
  exact held_at (a1 m c) shapeCasts_S1x4112x2048_S4112x2048 pads_S4112x2048_S4224x2048_01120_000 h_S_ R k

theorem V_w : (V m c main_v3 : (⟨S2048x2048, .bf16⟩ : BufTy).Contents (Elt Ideal)) = a0 m c := by
  simp only [V, hostOps0, hostOps0_1, hostOps0_2, List.flatten_cons, List.flatten_nil, List.append_nil, List.cons_append, List.nil_append]
  after_results
  rfl

/-- The array row of a block's row, and its column. -/
def row (i : Fin 704) : Fin 4224 := ⟨704 * (grid0.coords t 0).val + i.val, by have h : (grid0.coords t 0).val < 6 := (grid0.coords t 0).isLt; omega⟩
def col (j : Fin 2048) : Fin 2048 := ⟨2048 * (grid0.coords t 1).val + j.val, by have h : (grid0.coords t 1).val < 1 := (grid0.coords t 1).isLt; omega⟩

theorem blk0 (i : Fin 704) (k : Fin 2048) : iblk m c 0 t (ix2 i k) = held (a1 m c) (row t i) k := by
  refine Eq.trans ?_ (V_ct m c (row t i) k)
  blk_simp [iblk]
  congr 1
  blk_ext [e0, row]

theorem blk1 (j : Fin 2048) (k : Fin 2048) : iblk m c 1 t (ix2 j k) = a0 m c (ix2 (col t j) k) := by
  refine Eq.trans ?_ (congrFun (V_w m c) (ix2 (col t j) k))
  blk_simp [iblk]
  congr 1
  blk_ext [e1, col]

/-- The block a point writes. -/
theorem pt (i : Fin 704) (j : Fin 2048) : out0_2 (F := Ideal) (iblk m c 0 t) (iblk m c 1 t) (ix2 i j)
    = ∑ k : Fin 2048, held (a1 m c) (row t i) k * a0 m c (ix2 (col t j) k) := by
  frame_out
  rw [pay_at]
  refine Finset.sum_congr rfl fun k _ => ?_
  rw [blk0 m c t i k, blk1 m c t j k]

/-- An array that holds these values is the call's result. -/
theorem arr (G : (⟨S4224x2048, .f32⟩ : BufTy).Contents (Elt Ideal))
    (hG : ∀ (R : Fin 4224) (j : Fin 2048), G (ix2 R j) = ∑ k : Fin 2048, held (a1 m c) R k * a0 m c (ix2 j k)) :
    (dats m 0 c).arrAt 2 cfg0.N = G := by
  refine (dats m 0 c).arrAt_eq_of_covers 2 G (by decide +kernel) fun t hf y => ?_
  blk_simp
  rw [after0_2]
  obtain ⟨i, j, rfl⟩ : ∃ (i : Fin 704) (j : Fin 2048), y = ix2 i j := ⟨y 0, y 1, eq_ix2 y⟩
  rw [pt m c t i j]
  refine (hG (row t i) (col t j)).symm.trans ?_
  congr 1
  blk_ext [e2, row, col]

/-- The reference's product at an index. -/
theorem ref_at (R : Fin 4112) (j : Fin 2048) : Cert.DoRefIdeal.Read.val_main_v2 (F := Ideal) (a0 m c) (a1 m c) (ix3 0 R j)
    = ∑ k : Fin 2048, a1 m c (ix3 0 R k) * a0 m c (ix2 j k) := by
  unfold Cert.DoRefIdeal.Read.val_main_v2
  pointwise

/-- The call's array is the reference's. -/
theorem out : (dats m 0 c).arrAt 2 cfg0.N = Cert.DoRefIdeal.Read.val_main_v4 (F := Ideal) (a0 m c) (a1 m c) :=
  arr m c _ fun R j => (held_at (Cert.DoRefIdeal.Read.val_main_v2 (F := Ideal) (a0 m c) (a1 m c)) Cert.DoRefIdeal.Gen.facts.shapeCasts_S1x4112x2048_S4112x2048
    Cert.DoRefIdeal.Gen.facts.pads_S4112x2048_S4224x2048_01120_000 Cert.DoRefIdeal.Gen.facts.h_S_ R j).trans
    (held_sum (a1 m c) (fun k => a0 m c (ix2 j k)) _ j (fun R => ref_at m c R j) R).symm

end
end Cert.DoIdeal.Call
end
-- ==== Proof.DaCall.lean ====
module

public import proofs.«01_k».proof.Proof.Gen.Da
public import proofs.«01_k».proof.Proof.Gen.Da.Frame
public import proofs.«01_k».proof.Proof.Gen.DaIdeal
public import proofs.«01_k».proof.Proof.Gen.DaIdeal.Value
public import proofs.«01_k».proof.Proof.Gen.DaRefIdeal
public import proofs.«01_k».proof.Proof.Gen.DaRefIdeal.Run
public import proofs.«01_k».proof.Proof.Gen.DaRefIdeal.Read
public import proofs.«01_k».proof.Proof.Block

@[expose] public section

set_option maxRecDepth 16384

noncomputable section

/-! The product of a cotangent with the transpose of a weight: the call's array is the reference's. -/
namespace Cert.DaIdeal.Call

open Idealize.ShloMosaic Cert.Block
open Cert.DaIdeal Cert.DaIdeal.Gen Idealize.ShloMosaic.TcCoe Idealize.ShloMosaic.Tactic Idealize.SL.Sem

theorem e0 : ∀ t : Fin cfg0.N, win0_0.index t = ![(grid0.coords t 0).val, 0] := (by decide +kernel : ∀ t : Fin grid0.N, _)
theorem e1 : ∀ t : Fin cfg0.N, win0_1.index t = ![(grid0.coords t 1).val, 0] := (by decide +kernel : ∀ t : Fin grid0.N, _)
theorem e2 : ∀ t : Fin cfg0.N, win0_2.index t = ![(grid0.coords t 0).val, (grid0.coords t 1).val] := (by decide +kernel : ∀ t : Fin grid0.N, _)

/-- The block product at an index. -/
theorem pay_at (a : Vec Ideal S1408x2048 .bf16) (b : Vec Ideal S1024x2048 .bf16) (i : Fin 1408) (j : Fin 1024) :
    k0_pay1 (F := Ideal) a b (ix2 i j) = ∑ k : Fin 2048, a (ix2 i k) * b (ix2 j k) := by
  unfold k0_pay1
  pointwise

section
variable (m : (ℓ : Loc nD τ sig) → Buf (Elt Ideal) ℓ) (c : Dev nD) (t : Fin cfg0.N)

/-- The arguments. -/
abbrev a0 : (⟨S1024x2048, .f32⟩ : BufTy).Contents (Elt Ideal) := m ((c : Thread nD τ).loc main_arg0)
abbrev a1 : (⟨S1x4112x2048, .f32⟩ : BufTy).Contents (Elt Ideal) := m ((c : Thread nD τ).loc main_arg1)

theorem V_ct (R : Fin 4224) (k : Fin 2048) : (V m c main_v2 : (⟨S4224x2048, .bf16⟩ : BufTy).Contents (Elt Ideal)) (ix2 R k) = held (a1 m c) R k := by
  have h : (V m c main_v2 : (⟨S4224x2048, .bf16⟩ : BufTy).Contents (Elt Ideal)) = truncf (F := Ideal) (φ := .f32) .bf16 (pad S4224x2048 ![0, 0] ![112, 0] ![0, 0] (shapeCast S4112x2048 (a1 m c) shapeCasts_S1x4112x2048_S4112x2048)
      (sitofp (F := Ideal) .f32 (constantI S_ 32 0#32)) pads_S4112x2048_S4224x2048_01120_000 h_S_) bitsLt_bf16_f32 := by
    simp only [V, hostOps0, hostOps0_1, hostOps0_2, List.flatten_cons, List.flatten_nil, List.append_nil, List.cons_append, List.nil_append]
    after_results
    rfl
  rw [h]
  exact held_at (a1 m c) shapeCasts_S1x4112x2048_S4112x2048 pads_S4112x2048_S4224x2048_01120_000 h_S_ R k

theorem V_w : (V m c main_v3 : (⟨S1024x2048, .bf16⟩ : BufTy).Contents (Elt Ideal)) = a0 m c := by
  simp only [V, hostOps0, hostOps0_1, hostOps0_2, List.flatten_cons, List.flatten_nil, List.append_nil, List.cons_append, List.nil_append]
  after_results
  rfl

/-- The array row of a block's row, and its column. -/
def row (i : Fin 1408) : Fin 4224 := ⟨1408 * (grid0.coords t 0).val + i.val, by have h : (grid0.coords t 0).val < 3 := (grid0.coords t 0).isLt; omega⟩
def col (j : Fin 1024) : Fin 1024 := ⟨1024 * (grid0.coords t 1).val + j.val, by have h : (grid0.coords t 1).val < 1 := (grid0.coords t 1).isLt; omega⟩

theorem blk0 (i : Fin 1408) (k : Fin 2048) : iblk m c 0 t (ix2 i k) = held (a1 m c) (row t i) k := by
  refine Eq.trans ?_ (V_ct m c (row t i) k)
  blk_simp [iblk]
  congr 1
  blk_ext [e0, row]

theorem blk1 (j : Fin 1024) (k : Fin 2048) : iblk m c 1 t (ix2 j k) = a0 m c (ix2 (col t j) k) := by
  refine Eq.trans ?_ (congrFun (V_w m c) (ix2 (col t j) k))
  blk_simp [iblk]
  congr 1
  blk_ext [e1, col]

/-- The block a point writes. -/
theorem pt (i : Fin 1408) (j : Fin 1024) : out0_2 (F := Ideal) (iblk m c 0 t) (iblk m c 1 t) (ix2 i j)
    = ∑ k : Fin 2048, held (a1 m c) (row t i) k * a0 m c (ix2 (col t j) k) := by
  frame_out
  rw [pay_at]
  refine Finset.sum_congr rfl fun k _ => ?_
  rw [blk0 m c t i k, blk1 m c t j k]

/-- An array that holds these values is the call's result. -/
theorem arr (G : (⟨S4224x1024, .f32⟩ : BufTy).Contents (Elt Ideal))
    (hG : ∀ (R : Fin 4224) (j : Fin 1024), G (ix2 R j) = ∑ k : Fin 2048, held (a1 m c) R k * a0 m c (ix2 j k)) :
    (dats m 0 c).arrAt 2 cfg0.N = G := by
  refine (dats m 0 c).arrAt_eq_of_covers 2 G (by decide +kernel) fun t hf y => ?_
  blk_simp
  rw [after0_2]
  obtain ⟨i, j, rfl⟩ : ∃ (i : Fin 1408) (j : Fin 1024), y = ix2 i j := ⟨y 0, y 1, eq_ix2 y⟩
  rw [pt m c t i j]
  refine (hG (row t i) (col t j)).symm.trans ?_
  congr 1
  blk_ext [e2, row, col]

/-- The reference's product at an index. -/
theorem ref_at (R : Fin 4112) (j : Fin 1024) : Cert.DaRefIdeal.Read.val_main_v2 (F := Ideal) (a0 m c) (a1 m c) (ix3 0 R j)
    = ∑ k : Fin 2048, a1 m c (ix3 0 R k) * a0 m c (ix2 j k) := by
  unfold Cert.DaRefIdeal.Read.val_main_v2
  pointwise

/-- The call's array is the reference's. -/
theorem out : (dats m 0 c).arrAt 2 cfg0.N = Cert.DaRefIdeal.Read.val_main_v4 (F := Ideal) (a0 m c) (a1 m c) :=
  arr m c _ fun R j => (held_at (Cert.DaRefIdeal.Read.val_main_v2 (F := Ideal) (a0 m c) (a1 m c)) Cert.DaRefIdeal.Gen.facts.shapeCasts_S1x4112x1024_S4112x1024
    Cert.DaRefIdeal.Gen.facts.pads_S4112x1024_S4224x1024_01120_000 Cert.DaRefIdeal.Gen.facts.h_S_ R j).trans
    (held_sum (a1 m c) (fun k => a0 m c (ix2 j k)) _ j (fun R => ref_at m c R j) R).symm

end
end Cert.DaIdeal.Call
end
-- ==== Proof.DkvCall.lean ====
module

public import proofs.«01_k».proof.Proof.Gen.Dkv
public import proofs.«01_k».proof.Proof.Gen.Dkv.Frame
public import proofs.«01_k».proof.Proof.Gen.DkvIdeal
public import proofs.«01_k».proof.Proof.Gen.DkvIdeal.Value
public import proofs.«01_k».proof.Proof.Gen.DkvRefIdeal
public import proofs.«01_k».proof.Proof.Gen.DkvRefIdeal.Run
public import proofs.«01_k».proof.Proof.Gen.DkvRefIdeal.Read
public import proofs.«01_k».proof.Proof.Block

@[expose] public section

set_option maxRecDepth 16384

noncomputable section

/-! The product of a cotangent with the transpose of a weight: the call's array is the reference's. -/
namespace Cert.DkvIdeal.Call

open Idealize.ShloMosaic Cert.Block
open Cert.DkvIdeal Cert.DkvIdeal.Gen Idealize.ShloMosaic.TcCoe Idealize.ShloMosaic.Tactic Idealize.SL.Sem

theorem e0 : ∀ t : Fin cfg0.N, win0_0.index t = ![(grid0.coords t 0).val, 0] := (by decide +kernel : ∀ t : Fin grid0.N, _)
theorem e1 : ∀ t : Fin cfg0.N, win0_1.index t = ![(grid0.coords t 1).val, 0] := (by decide +kernel : ∀ t : Fin grid0.N, _)
theorem e2 : ∀ t : Fin cfg0.N, win0_2.index t = ![(grid0.coords t 0).val, (grid0.coords t 1).val] := (by decide +kernel : ∀ t : Fin grid0.N, _)

/-- The block product at an index. -/
theorem pay_at (a : Vec Ideal S1408x4096 .bf16) (b : Vec Ideal S512x4096 .bf16) (i : Fin 1408) (j : Fin 512) :
    k0_pay1 (F := Ideal) a b (ix2 i j) = ∑ k : Fin 4096, a (ix2 i k) * b (ix2 j k) := by
  unfold k0_pay1
  pointwise

section
variable (m : (ℓ : Loc nD τ sig) → Buf (Elt Ideal) ℓ) (c : Dev nD) (t : Fin cfg0.N)

/-- The arguments. -/
abbrev a0 : (⟨S512x4096, .f32⟩ : BufTy).Contents (Elt Ideal) := m ((c : Thread nD τ).loc main_arg0)
abbrev a1 : (⟨S1x4112x4096, .f32⟩ : BufTy).Contents (Elt Ideal) := m ((c : Thread nD τ).loc main_arg1)

theorem V_ct (R : Fin 4224) (k : Fin 4096) : (V m c main_v2 : (⟨S4224x4096, .bf16⟩ : BufTy).Contents (Elt Ideal)) (ix2 R k) = held (a1 m c) R k := by
  have h : (V m c main_v2 : (⟨S4224x4096, .bf16⟩ : BufTy).Contents (Elt Ideal)) = truncf (F := Ideal) (φ := .f32) .bf16 (pad S4224x4096 ![0, 0] ![112, 0] ![0, 0] (shapeCast S4112x4096 (a1 m c) shapeCasts_S1x4112x4096_S4112x4096)
      (sitofp (F := Ideal) .f32 (constantI S_ 32 0#32)) pads_S4112x4096_S4224x4096_01120_000 h_S_) bitsLt_bf16_f32 := by
    simp only [V, hostOps0, hostOps0_1, hostOps0_2, List.flatten_cons, List.flatten_nil, List.append_nil, List.cons_append, List.nil_append]
    after_results
    rfl
  rw [h]
  exact held_at (a1 m c) shapeCasts_S1x4112x4096_S4112x4096 pads_S4112x4096_S4224x4096_01120_000 h_S_ R k

theorem V_w : (V m c main_v3 : (⟨S512x4096, .bf16⟩ : BufTy).Contents (Elt Ideal)) = a0 m c := by
  simp only [V, hostOps0, hostOps0_1, hostOps0_2, List.flatten_cons, List.flatten_nil, List.append_nil, List.cons_append, List.nil_append]
  after_results
  rfl

/-- The array row of a block's row, and its column. -/
def row (i : Fin 1408) : Fin 4224 := ⟨1408 * (grid0.coords t 0).val + i.val, by have h : (grid0.coords t 0).val < 3 := (grid0.coords t 0).isLt; omega⟩
def col (j : Fin 512) : Fin 512 := ⟨512 * (grid0.coords t 1).val + j.val, by have h : (grid0.coords t 1).val < 1 := (grid0.coords t 1).isLt; omega⟩

theorem blk0 (i : Fin 1408) (k : Fin 4096) : iblk m c 0 t (ix2 i k) = held (a1 m c) (row t i) k := by
  refine Eq.trans ?_ (V_ct m c (row t i) k)
  blk_simp [iblk]
  congr 1
  blk_ext [e0, row]

theorem blk1 (j : Fin 512) (k : Fin 4096) : iblk m c 1 t (ix2 j k) = a0 m c (ix2 (col t j) k) := by
  refine Eq.trans ?_ (congrFun (V_w m c) (ix2 (col t j) k))
  blk_simp [iblk]
  congr 1
  blk_ext [e1, col]

/-- The block a point writes. -/
theorem pt (i : Fin 1408) (j : Fin 512) : out0_2 (F := Ideal) (iblk m c 0 t) (iblk m c 1 t) (ix2 i j)
    = ∑ k : Fin 4096, held (a1 m c) (row t i) k * a0 m c (ix2 (col t j) k) := by
  frame_out
  rw [pay_at]
  refine Finset.sum_congr rfl fun k _ => ?_
  rw [blk0 m c t i k, blk1 m c t j k]

/-- An array that holds these values is the call's result. -/
theorem arr (G : (⟨S4224x512, .f32⟩ : BufTy).Contents (Elt Ideal))
    (hG : ∀ (R : Fin 4224) (j : Fin 512), G (ix2 R j) = ∑ k : Fin 4096, held (a1 m c) R k * a0 m c (ix2 j k)) :
    (dats m 0 c).arrAt 2 cfg0.N = G := by
  refine (dats m 0 c).arrAt_eq_of_covers 2 G (by decide +kernel) fun t hf y => ?_
  blk_simp
  rw [after0_2]
  obtain ⟨i, j, rfl⟩ : ∃ (i : Fin 1408) (j : Fin 512), y = ix2 i j := ⟨y 0, y 1, eq_ix2 y⟩
  rw [pt m c t i j]
  refine (hG (row t i) (col t j)).symm.trans ?_
  congr 1
  blk_ext [e2, row, col]

/-- The reference's product at an index. -/
theorem ref_at (R : Fin 4112) (j : Fin 512) : Cert.DkvRefIdeal.Read.val_main_v2 (F := Ideal) (a0 m c) (a1 m c) (ix3 0 R j)
    = ∑ k : Fin 4096, a1 m c (ix3 0 R k) * a0 m c (ix2 j k) := by
  unfold Cert.DkvRefIdeal.Read.val_main_v2
  pointwise

/-- The call's array is the reference's. -/
theorem out : (dats m 0 c).arrAt 2 cfg0.N = Cert.DkvRefIdeal.Read.val_main_v4 (F := Ideal) (a0 m c) (a1 m c) :=
  arr m c _ fun R j => (held_at (Cert.DkvRefIdeal.Read.val_main_v2 (F := Ideal) (a0 m c) (a1 m c)) Cert.DkvRefIdeal.Gen.facts.shapeCasts_S1x4112x512_S4112x512
    Cert.DkvRefIdeal.Gen.facts.pads_S4112x512_S4224x512_01120_000 Cert.DkvRefIdeal.Gen.facts.h_S_ R j).trans
    (held_sum (a1 m c) (fun k => a0 m c (ix2 j k)) _ j (fun R => ref_at m c R j) R).symm

end
end Cert.DkvIdeal.Call
end
-- ==== Proof.GoCall.lean ====
module

public import proofs.«01_k».proof.Proof.Gen.Go
public import proofs.«01_k».proof.Proof.Gen.Go.Frame
public import proofs.«01_k».proof.Proof.Gen.GoIdeal
public import proofs.«01_k».proof.Proof.Gen.GoIdeal.Value
public import proofs.«01_k».proof.Proof.Gen.GoRefIdeal
public import proofs.«01_k».proof.Proof.Gen.GoRefIdeal.Run
public import proofs.«01_k».proof.Proof.Gen.GoRefIdeal.Read
public import proofs.«01_k».proof.Proof.Block

@[expose] public section

set_option maxRecDepth 16384

noncomputable section

/-! The product of rows, transposed, with a cotangent, the gradient of a weight: the call's array is the reference's. -/
namespace Cert.GoIdeal.Call

open Idealize.ShloMosaic Cert.Block
open Cert.GoIdeal Cert.GoIdeal.Gen Idealize.ShloMosaic.TcCoe Idealize.ShloMosaic.Tactic Idealize.SL.Sem

theorem e0 : ∀ t : Fin cfg0.N, win0_0.index t = ![0, (grid0.coords t 0).val] := (by decide +kernel : ∀ t : Fin grid0.N, _)
theorem e1 : ∀ t : Fin cfg0.N, win0_1.index t = ![0, (grid0.coords t 1).val] := (by decide +kernel : ∀ t : Fin grid0.N, _)
theorem e2 : ∀ t : Fin cfg0.N, win0_2.index t = ![(grid0.coords t 0).val, (grid0.coords t 1).val] := (by decide +kernel : ∀ t : Fin grid0.N, _)

/-- The block product at an index. -/
theorem pay_at (a : Vec Ideal S4224x1024 .bf16) (b : Vec Ideal S4224x1024 .bf16) (i : Fin 1024) (j : Fin 1024) :
    k0_pay1 (F := Ideal) a b (ix2 i j) = ∑ R : Fin 4224, a (ix2 R i) * b (ix2 R j) := by
  unfold k0_pay1
  pointwise

section
variable (m : (ℓ : Loc nD τ sig) → Buf (Elt Ideal) ℓ) (c : Dev nD) (t : Fin cfg0.N)

/-- The arguments. -/
abbrev a0 : (⟨S1x4112x2048, .f32⟩ : BufTy).Contents (Elt Ideal) := m ((c : Thread nD τ).loc main_arg0)
abbrev a1 : (⟨S1x4112x2048, .f32⟩ : BufTy).Contents (Elt Ideal) := m ((c : Thread nD τ).loc main_arg1)

theorem V_x (R : Fin 4224) (k : Fin 2048) : (V m c main_v2 : (⟨S4224x2048, .bf16⟩ : BufTy).Contents (Elt Ideal)) (ix2 R k) = held (a0 m c) R k := by
  have h : (V m c main_v2 : (⟨S4224x2048, .bf16⟩ : BufTy).Contents (Elt Ideal)) = truncf (F := Ideal) (φ := .f32) .bf16 (pad S4224x2048 ![0, 0] ![112, 0] ![0, 0] (shapeCast S4112x2048 (a0 m c) shapeCasts_S1x4112x2048_S4112x2048)
      (sitofp (F := Ideal) .f32 (constantI S_ 32 0#32)) pads_S4112x2048_S4224x2048_01120_000 h_S_) bitsLt_bf16_f32 := by
    simp only [V, hostOps0, hostOps0_1, hostOps0_2, hostOps0_3, hostOps0_4, List.flatten_cons, List.flatten_nil, List.append_nil, List.cons_append, List.nil_append]
    after_results
    rfl
  rw [h]
  exact held_at (a0 m c) shapeCasts_S1x4112x2048_S4112x2048 pads_S4112x2048_S4224x2048_01120_000 h_S_ R k

theorem V_ct (R : Fin 4224) (k : Fin 2048) : (V m c main_v5 : (⟨S4224x2048, .bf16⟩ : BufTy).Contents (Elt Ideal)) (ix2 R k) = held (a1 m c) R k := by
  have h : (V m c main_v5 : (⟨S4224x2048, .bf16⟩ : BufTy).Contents (Elt Ideal)) = truncf (F := Ideal) (φ := .f32) .bf16 (pad S4224x2048 ![0, 0] ![112, 0] ![0, 0] (shapeCast S4112x2048 (a1 m c) shapeCasts_S1x4112x2048_S4112x2048)
      (sitofp (F := Ideal) .f32 (constantI S_ 32 0#32)) pads_S4112x2048_S4224x2048_01120_000 h_S_) bitsLt_bf16_f32 := by
    simp only [V, hostOps0, hostOps0_1, hostOps0_2, hostOps0_3, hostOps0_4, List.flatten_cons, List.flatten_nil, List.append_nil, List.cons_append, List.nil_append]
    after_results
    rfl
  rw [h]
  exact held_at (a1 m c) shapeCasts_S1x4112x2048_S4112x2048 pads_S4112x2048_S4224x2048_01120_000 h_S_ R k

/-- The array row of a block's row, and its column. -/
def row (i : Fin 1024) : Fin 2048 := ⟨1024 * (grid0.coords t 0).val + i.val, by have h : (grid0.coords t 0).val < 2 := (grid0.coords t 0).isLt; omega⟩
def col (j : Fin 1024) : Fin 2048 := ⟨1024 * (grid0.coords t 1).val + j.val, by have h : (grid0.coords t 1).val < 2 := (grid0.coords t 1).isLt; omega⟩

theorem blk0 (R : Fin 4224) (i : Fin 1024) : iblk m c 0 t (ix2 R i) = held (a0 m c) R (row t i) := by
  refine Eq.trans ?_ (V_x m c R (row t i))
  blk_simp [iblk]
  congr 1
  blk_ext [e0, row]

theorem blk1 (R : Fin 4224) (j : Fin 1024) : iblk m c 1 t (ix2 R j) = held (a1 m c) R (col t j) := by
  refine Eq.trans ?_ (V_ct m c R (col t j))
  blk_simp [iblk]
  congr 1
  blk_ext [e1, col]

/-- The block a point writes. -/
theorem pt (i : Fin 1024) (j : Fin 1024) : out0_2 (F := Ideal) (iblk m c 0 t) (iblk m c 1 t) (ix2 i j)
    = ∑ R : Fin 4112, (a0 m c) (ix3 0 R (row t i)) * a1 m c (ix3 0 R (col t j)) := by
  frame_out
  rw [pay_at]
  refine (Finset.sum_congr rfl fun R _ => ?_).trans (held_dot (a0 m c) (a1 m c) (row t i) (col t j))
  rw [blk0 m c t R i, blk1 m c t R j]

/-- An array that holds these values is the call's result. -/
theorem arr (G : (⟨S2048x2048, .bf16⟩ : BufTy).Contents (Elt Ideal))
    (hG : ∀ (i : Fin 2048) (j : Fin 2048), G (ix2 i j) = ∑ R : Fin 4112, (a0 m c) (ix3 0 R i) * a1 m c (ix3 0 R j)) :
    (dats m 0 c).arrAt 2 cfg0.N = G := by
  refine (dats m 0 c).arrAt_eq_of_covers 2 G (by decide +kernel) fun t hf y => ?_
  blk_simp
  rw [after0_2]
  obtain ⟨i, j, rfl⟩ : ∃ (i : Fin 1024) (j : Fin 1024), y = ix2 i j := ⟨y 0, y 1, eq_ix2 y⟩
  rw [pt m c t i j]
  refine (hG (row t i) (col t j)).symm.trans ?_
  congr 1
  blk_ext [e2, row, col]

/-- The call's array is the reference's. -/
theorem out : (dats m 0 c).arrAt 2 cfg0.N = Cert.GoRefIdeal.Read.val_main_v4 (F := Ideal) (a0 m c) (a1 m c) :=
  arr m c _ fun i j => by
    unfold Cert.GoRefIdeal.Read.val_main_v4 Cert.GoRefIdeal.Read.val_main_v3 Cert.GoRefIdeal.Read.val_main_v2
    pointwise
    refine (Fin.sum_univ_one _).trans ?_
    exact Finset.sum_congr rfl fun R _ => mul_comm (G := EReal) _ _

end
end Cert.GoIdeal.Call
end
-- ==== Proof.GaCall.lean ====
module

public import proofs.«01_k».proof.Proof.Gen.Ga
public import proofs.«01_k».proof.Proof.Gen.Ga.Frame
public import proofs.«01_k».proof.Proof.Gen.GaIdeal
public import proofs.«01_k».proof.Proof.Gen.GaIdeal.Value
public import proofs.«01_k».proof.Proof.Gen.GaRefIdeal
public import proofs.«01_k».proof.Proof.Gen.GaRefIdeal.Run
public import proofs.«01_k».proof.Proof.Gen.GaRefIdeal.Read
public import proofs.«01_k».proof.Proof.Block

@[expose] public section

set_option maxRecDepth 16384

noncomputable section

/-! The product of rows, transposed, with a cotangent, the gradient of a weight: the call's array is the reference's. -/
namespace Cert.GaIdeal.Call

open Idealize.ShloMosaic Cert.Block
open Cert.GaIdeal Cert.GaIdeal.Gen Idealize.ShloMosaic.TcCoe Idealize.ShloMosaic.Tactic Idealize.SL.Sem

theorem e0 : ∀ t : Fin cfg0.N, win0_0.index t = ![0, (grid0.coords t 0).val] := (by decide +kernel : ∀ t : Fin grid0.N, _)
theorem e1 : ∀ t : Fin cfg0.N, win0_1.index t = ![0, (grid0.coords t 1).val] := (by decide +kernel : ∀ t : Fin grid0.N, _)
theorem e2 : ∀ t : Fin cfg0.N, win0_2.index t = ![(grid0.coords t 0).val, (grid0.coords t 1).val] := (by decide +kernel : ∀ t : Fin grid0.N, _)

/-- The block product at an index. -/
theorem pay_at (a : Vec Ideal S4224x1024 .bf16) (b : Vec Ideal S4224x1024 .bf16) (i : Fin 1024) (j : Fin 1024) :
    k0_pay1 (F := Ideal) a b (ix2 i j) = ∑ R : Fin 4224, a (ix2 R i) * b (ix2 R j) := by
  unfold k0_pay1
  pointwise

section
variable (m : (ℓ : Loc nD τ sig) → Buf (Elt Ideal) ℓ) (c : Dev nD) (t : Fin cfg0.N)

/-- The arguments. -/
abbrev a0 : (⟨S1x4112x1024, .f32⟩ : BufTy).Contents (Elt Ideal) := m ((c : Thread nD τ).loc main_arg0)
abbrev a1 : (⟨S1x4112x2048, .f32⟩ : BufTy).Contents (Elt Ideal) := m ((c : Thread nD τ).loc main_arg1)

theorem V_x (R : Fin 4224) (k : Fin 1024) : (V m c main_v2 : (⟨S4224x1024, .bf16⟩ : BufTy).Contents (Elt Ideal)) (ix2 R k) = held (a0 m c) R k := by
  have h : (V m c main_v2 : (⟨S4224x1024, .bf16⟩ : BufTy).Contents (Elt Ideal)) = truncf (F := Ideal) (φ := .f32) .bf16 (pad S4224x1024 ![0, 0] ![112, 0] ![0, 0] (shapeCast S4112x1024 (a0 m c) shapeCasts_S1x4112x1024_S4112x1024)
      (sitofp (F := Ideal) .f32 (constantI S_ 32 0#32)) pads_S4112x1024_S4224x1024_01120_000 h_S_) bitsLt_bf16_f32 := by
    simp only [V, hostOps0, hostOps0_1, hostOps0_2, hostOps0_3, hostOps0_4, List.flatten_cons, List.flatten_nil, List.append_nil, List.cons_append, List.nil_append]
    after_results
    rfl
  rw [h]
  exact held_at (a0 m c) shapeCasts_S1x4112x1024_S4112x1024 pads_S4112x1024_S4224x1024_01120_000 h_S_ R k

theorem V_ct (R : Fin 4224) (k : Fin 2048) : (V m c main_v5 : (⟨S4224x2048, .bf16⟩ : BufTy).Contents (Elt Ideal)) (ix2 R k) = held (a1 m c) R k := by
  have h : (V m c main_v5 : (⟨S4224x2048, .bf16⟩ : BufTy).Contents (Elt Ideal)) = truncf (F := Ideal) (φ := .f32) .bf16 (pad S4224x2048 ![0, 0] ![112, 0] ![0, 0] (shapeCast S4112x2048 (a1 m c) shapeCasts_S1x4112x2048_S4112x2048)
      (sitofp (F := Ideal) .f32 (constantI S_ 32 0#32)) pads_S4112x2048_S4224x2048_01120_000 h_S_) bitsLt_bf16_f32 := by
    simp only [V, hostOps0, hostOps0_1, hostOps0_2, hostOps0_3, hostOps0_4, List.flatten_cons, List.flatten_nil, List.append_nil, List.cons_append, List.nil_append]
    after_results
    rfl
  rw [h]
  exact held_at (a1 m c) shapeCasts_S1x4112x2048_S4112x2048 pads_S4112x2048_S4224x2048_01120_000 h_S_ R k

/-- The array row of a block's row, and its column. -/
def row (i : Fin 1024) : Fin 1024 := ⟨1024 * (grid0.coords t 0).val + i.val, by have h : (grid0.coords t 0).val < 1 := (grid0.coords t 0).isLt; omega⟩
def col (j : Fin 1024) : Fin 2048 := ⟨1024 * (grid0.coords t 1).val + j.val, by have h : (grid0.coords t 1).val < 2 := (grid0.coords t 1).isLt; omega⟩

theorem blk0 (R : Fin 4224) (i : Fin 1024) : iblk m c 0 t (ix2 R i) = held (a0 m c) R (row t i) := by
  refine Eq.trans ?_ (V_x m c R (row t i))
  blk_simp [iblk]
  congr 1
  blk_ext [e0, row]

theorem blk1 (R : Fin 4224) (j : Fin 1024) : iblk m c 1 t (ix2 R j) = held (a1 m c) R (col t j) := by
  refine Eq.trans ?_ (V_ct m c R (col t j))
  blk_simp [iblk]
  congr 1
  blk_ext [e1, col]

/-- The block a point writes. -/
theorem pt (i : Fin 1024) (j : Fin 1024) : out0_2 (F := Ideal) (iblk m c 0 t) (iblk m c 1 t) (ix2 i j)
    = ∑ R : Fin 4112, (a0 m c) (ix3 0 R (row t i)) * a1 m c (ix3 0 R (col t j)) := by
  frame_out
  rw [pay_at]
  refine (Finset.sum_congr rfl fun R _ => ?_).trans (held_dot (a0 m c) (a1 m c) (row t i) (col t j))
  rw [blk0 m c t R i, blk1 m c t R j]

/-- An array that holds these values is the call's result. -/
theorem arr (G : (⟨S1024x2048, .bf16⟩ : BufTy).Contents (Elt Ideal))
    (hG : ∀ (i : Fin 1024) (j : Fin 2048), G (ix2 i j) = ∑ R : Fin 4112, (a0 m c) (ix3 0 R i) * a1 m c (ix3 0 R j)) :
    (dats m 0 c).arrAt 2 cfg0.N = G := by
  refine (dats m 0 c).arrAt_eq_of_covers 2 G (by decide +kernel) fun t hf y => ?_
  blk_simp
  rw [after0_2]
  obtain ⟨i, j, rfl⟩ : ∃ (i : Fin 1024) (j : Fin 1024), y = ix2 i j := ⟨y 0, y 1, eq_ix2 y⟩
  rw [pt m c t i j]
  refine (hG (row t i) (col t j)).symm.trans ?_
  congr 1
  blk_ext [e2, row, col]

/-- The call's array is the reference's. -/
theorem out : (dats m 0 c).arrAt 2 cfg0.N = Cert.GaRefIdeal.Read.val_main_v4 (F := Ideal) (a0 m c) (a1 m c) :=
  arr m c _ fun i j => by
    unfold Cert.GaRefIdeal.Read.val_main_v4 Cert.GaRefIdeal.Read.val_main_v3 Cert.GaRefIdeal.Read.val_main_v2
    pointwise
    refine (Fin.sum_univ_one _).trans ?_
    exact Finset.sum_congr rfl fun R _ => mul_comm (G := EReal) _ _

end
end Cert.GaIdeal.Call
end
-- ==== Proof.GkvCall.lean ====
module

public import proofs.«01_k».proof.Proof.Gen.Gkv
public import proofs.«01_k».proof.Proof.Gen.Gkv.Frame
public import proofs.«01_k».proof.Proof.Gen.GkvIdeal
public import proofs.«01_k».proof.Proof.Gen.GkvIdeal.Value
public import proofs.«01_k».proof.Proof.Gen.GkvRefIdeal
public import proofs.«01_k».proof.Proof.Gen.GkvRefIdeal.Run
public import proofs.«01_k».proof.Proof.Gen.GkvRefIdeal.Read
public import proofs.«01_k».proof.Proof.Block

@[expose] public section

set_option maxRecDepth 16384

noncomputable section

/-! The product of rows, transposed, with a cotangent, the gradient of a weight: the call's array is the reference's. -/
namespace Cert.GkvIdeal.Call

open Idealize.ShloMosaic Cert.Block
open Cert.GkvIdeal Cert.GkvIdeal.Gen Idealize.ShloMosaic.TcCoe Idealize.ShloMosaic.Tactic Idealize.SL.Sem

theorem e0 : ∀ t : Fin cfg0.N, win0_0.index t = ![0, (grid0.coords t 0).val] := (by decide +kernel : ∀ t : Fin grid0.N, _)
theorem e1 : ∀ t : Fin cfg0.N, win0_1.index t = ![0, (grid0.coords t 1).val] := (by decide +kernel : ∀ t : Fin grid0.N, _)
theorem e2 : ∀ t : Fin cfg0.N, win0_2.index t = ![(grid0.coords t 0).val, (grid0.coords t 1).val] := (by decide +kernel : ∀ t : Fin grid0.N, _)

/-- The block product at an index. -/
theorem pay_at (a : Vec Ideal S4224x512 .bf16) (b : Vec Ideal S4224x1024 .bf16) (i : Fin 512) (j : Fin 1024) :
    k0_pay1 (F := Ideal) a b (ix2 i j) = ∑ R : Fin 4224, a (ix2 R i) * b (ix2 R j) := by
  unfold k0_pay1
  pointwise

section
variable (m : (ℓ : Loc nD τ sig) → Buf (Elt Ideal) ℓ) (c : Dev nD) (t : Fin cfg0.N)

/-- The arguments. -/
abbrev a0 : (⟨S1x4112x512, .f32⟩ : BufTy).Contents (Elt Ideal) := m ((c : Thread nD τ).loc main_arg0)
abbrev a1 : (⟨S1x4112x4096, .f32⟩ : BufTy).Contents (Elt Ideal) := m ((c : Thread nD τ).loc main_arg1)

theorem V_x (R : Fin 4224) (k : Fin 512) : (V m c main_v2 : (⟨S4224x512, .bf16⟩ : BufTy).Contents (Elt Ideal)) (ix2 R k) = held (a0 m c) R k := by
  have h : (V m c main_v2 : (⟨S4224x512, .bf16⟩ : BufTy).Contents (Elt Ideal)) = truncf (F := Ideal) (φ := .f32) .bf16 (pad S4224x512 ![0, 0] ![112, 0] ![0, 0] (shapeCast S4112x512 (a0 m c) shapeCasts_S1x4112x512_S4112x512)
      (sitofp (F := Ideal) .f32 (constantI S_ 32 0#32)) pads_S4112x512_S4224x512_01120_000 h_S_) bitsLt_bf16_f32 := by
    simp only [V, hostOps0, hostOps0_1, hostOps0_2, hostOps0_3, hostOps0_4, List.flatten_cons, List.flatten_nil, List.append_nil, List.cons_append, List.nil_append]
    after_results
    rfl
  rw [h]
  exact held_at (a0 m c) shapeCasts_S1x4112x512_S4112x512 pads_S4112x512_S4224x512_01120_000 h_S_ R k

theorem V_ct (R : Fin 4224) (k : Fin 4096) : (V m c main_v5 : (⟨S4224x4096, .bf16⟩ : BufTy).Contents (Elt Ideal)) (ix2 R k) = held (a1 m c) R k := by
  have h : (V m c main_v5 : (⟨S4224x4096, .bf16⟩ : BufTy).Contents (Elt Ideal)) = truncf (F := Ideal) (φ := .f32) .bf16 (pad S4224x4096 ![0, 0] ![112, 0] ![0, 0] (shapeCast S4112x4096 (a1 m c) shapeCasts_S1x4112x4096_S4112x4096)
      (sitofp (F := Ideal) .f32 (constantI S_ 32 0#32)) pads_S4112x4096_S4224x4096_01120_000 h_S_) bitsLt_bf16_f32 := by
    simp only [V, hostOps0, hostOps0_1, hostOps0_2, hostOps0_3, hostOps0_4, List.flatten_cons, List.flatten_nil, List.append_nil, List.cons_append, List.nil_append]
    after_results
    rfl
  rw [h]
  exact held_at (a1 m c) shapeCasts_S1x4112x4096_S4112x4096 pads_S4112x4096_S4224x4096_01120_000 h_S_ R k

/-- The array row of a block's row, and its column. -/
def row (i : Fin 512) : Fin 512 := ⟨512 * (grid0.coords t 0).val + i.val, by have h : (grid0.coords t 0).val < 1 := (grid0.coords t 0).isLt; omega⟩
def col (j : Fin 1024) : Fin 4096 := ⟨1024 * (grid0.coords t 1).val + j.val, by have h : (grid0.coords t 1).val < 4 := (grid0.coords t 1).isLt; omega⟩

theorem blk0 (R : Fin 4224) (i : Fin 512) : iblk m c 0 t (ix2 R i) = held (a0 m c) R (row t i) := by
  refine Eq.trans ?_ (V_x m c R (row t i))
  blk_simp [iblk]
  congr 1
  blk_ext [e0, row]

theorem blk1 (R : Fin 4224) (j : Fin 1024) : iblk m c 1 t (ix2 R j) = held (a1 m c) R (col t j) := by
  refine Eq.trans ?_ (V_ct m c R (col t j))
  blk_simp [iblk]
  congr 1
  blk_ext [e1, col]

/-- The block a point writes. -/
theorem pt (i : Fin 512) (j : Fin 1024) : out0_2 (F := Ideal) (iblk m c 0 t) (iblk m c 1 t) (ix2 i j)
    = ∑ R : Fin 4112, (a0 m c) (ix3 0 R (row t i)) * a1 m c (ix3 0 R (col t j)) := by
  frame_out
  rw [pay_at]
  refine (Finset.sum_congr rfl fun R _ => ?_).trans (held_dot (a0 m c) (a1 m c) (row t i) (col t j))
  rw [blk0 m c t R i, blk1 m c t R j]

/-- An array that holds these values is the call's result. -/
theorem arr (G : (⟨S512x4096, .bf16⟩ : BufTy).Contents (Elt Ideal))
    (hG : ∀ (i : Fin 512) (j : Fin 4096), G (ix2 i j) = ∑ R : Fin 4112, (a0 m c) (ix3 0 R i) * a1 m c (ix3 0 R j)) :
    (dats m 0 c).arrAt 2 cfg0.N = G := by
  refine (dats m 0 c).arrAt_eq_of_covers 2 G (by decide +kernel) fun t hf y => ?_
  blk_simp
  rw [after0_2]
  obtain ⟨i, j, rfl⟩ : ∃ (i : Fin 512) (j : Fin 1024), y = ix2 i j := ⟨y 0, y 1, eq_ix2 y⟩
  rw [pt m c t i j]
  refine (hG (row t i) (col t j)).symm.trans ?_
  congr 1
  blk_ext [e2, row, col]

/-- The call's array is the reference's. -/
theorem out : (dats m 0 c).arrAt 2 cfg0.N = Cert.GkvRefIdeal.Read.val_main_v4 (F := Ideal) (a0 m c) (a1 m c) :=
  arr m c _ fun i j => by
    unfold Cert.GkvRefIdeal.Read.val_main_v4 Cert.GkvRefIdeal.Read.val_main_v3 Cert.GkvRefIdeal.Read.val_main_v2
    pointwise
    refine (Fin.sum_univ_one _).trans ?_
    exact Finset.sum_congr rfl fun R _ => mul_comm (G := EReal) _ _

end
end Cert.GkvIdeal.Call
end
-- ==== Proof.GinCall.lean ====
module

public import proofs.«01_k».proof.Proof.Gen.Gin
public import proofs.«01_k».proof.Proof.Gen.Gin.Frame
public import proofs.«01_k».proof.Proof.Gen.GinIdeal
public import proofs.«01_k».proof.Proof.Gen.GinIdeal.Value
public import proofs.«01_k».proof.Proof.Gen.GinRefIdeal
public import proofs.«01_k».proof.Proof.Gen.GinRefIdeal.Run
public import proofs.«01_k».proof.Proof.Gen.GinRefIdeal.Read
public import proofs.«01_k».proof.Proof.Block

@[expose] public section

set_option maxRecDepth 16384

noncomputable section

/-! The product of rows, transposed, with a cotangent, the gradient of a weight: the call's array is the reference's. -/
namespace Cert.GinIdeal.Call

open Idealize.ShloMosaic Cert.Block
open Cert.GinIdeal Cert.GinIdeal.Gen Idealize.ShloMosaic.TcCoe Idealize.ShloMosaic.Tactic Idealize.SL.Sem

theorem e0 : ∀ t : Fin cfg0.N, win0_0.index t = ![0, (grid0.coords t 0).val] := (by decide +kernel : ∀ t : Fin grid0.N, _)
theorem e1 : ∀ t : Fin cfg0.N, win0_1.index t = ![0, (grid0.coords t 1).val] := (by decide +kernel : ∀ t : Fin grid0.N, _)
theorem e2 : ∀ t : Fin cfg0.N, win0_2.index t = ![(grid0.coords t 0).val, (grid0.coords t 1).val] := (by decide +kernel : ∀ t : Fin grid0.N, _)

/-- The block product at an index. -/
theorem pay_at (a : Vec Ideal S4224x1024 .bf16) (b : Vec Ideal S4224x1280 .bf16) (i : Fin 1024) (j : Fin 1280) :
    k0_pay1 (F := Ideal) a b (ix2 i j) = ∑ R : Fin 4224, a (ix2 R i) * b (ix2 R j) := by
  unfold k0_pay1
  pointwise

section
variable (m : (ℓ : Loc nD τ sig) → Buf (Elt Ideal) ℓ) (c : Dev nD) (t : Fin cfg0.N)

/-- The arguments. -/
abbrev a0 : (⟨S1x4112x2048, .f32⟩ : BufTy).Contents (Elt Ideal) := m ((c : Thread nD τ).loc main_arg0)
abbrev a1 : (⟨S1x4112x11520, .f32⟩ : BufTy).Contents (Elt Ideal) := m ((c : Thread nD τ).loc main_arg1)

theorem V_x (R : Fin 4224) (k : Fin 2048) : (V m c main_v2 : (⟨S4224x2048, .bf16⟩ : BufTy).Contents (Elt Ideal)) (ix2 R k) = held (a0 m c) R k := by
  have h : (V m c main_v2 : (⟨S4224x2048, .bf16⟩ : BufTy).Contents (Elt Ideal)) = truncf (F := Ideal) (φ := .f32) .bf16 (pad S4224x2048 ![0, 0] ![112, 0] ![0, 0] (shapeCast S4112x2048 (a0 m c) shapeCasts_S1x4112x2048_S4112x2048)
      (sitofp (F := Ideal) .f32 (constantI S_ 32 0#32)) pads_S4112x2048_S4224x2048_01120_000 h_S_) bitsLt_bf16_f32 := by
    simp only [V, hostOps0, hostOps0_1, hostOps0_2, hostOps0_3, hostOps0_4, List.flatten_cons, List.flatten_nil, List.append_nil, List.cons_append, List.nil_append]
    after_results
    rfl
  rw [h]
  exact held_at (a0 m c) shapeCasts_S1x4112x2048_S4112x2048 pads_S4112x2048_S4224x2048_01120_000 h_S_ R k

theorem V_ct (R : Fin 4224) (k : Fin 11520) : (V m c main_v5 : (⟨S4224x11520, .bf16⟩ : BufTy).Contents (Elt Ideal)) (ix2 R k) = held (a1 m c) R k := by
  have h : (V m c main_v5 : (⟨S4224x11520, .bf16⟩ : BufTy).Contents (Elt Ideal)) = truncf (F := Ideal) (φ := .f32) .bf16 (pad S4224x11520 ![0, 0] ![112, 0] ![0, 0] (shapeCast S4112x11520 (a1 m c) shapeCasts_S1x4112x11520_S4112x11520)
      (sitofp (F := Ideal) .f32 (constantI S_ 32 0#32)) pads_S4112x11520_S4224x11520_01120_000 h_S_) bitsLt_bf16_f32 := by
    simp only [V, hostOps0, hostOps0_1, hostOps0_2, hostOps0_3, hostOps0_4, List.flatten_cons, List.flatten_nil, List.append_nil, List.cons_append, List.nil_append]
    after_results
    rfl
  rw [h]
  exact held_at (a1 m c) shapeCasts_S1x4112x11520_S4112x11520 pads_S4112x11520_S4224x11520_01120_000 h_S_ R k

/-- The array row of a block's row, and its column. -/
def row (i : Fin 1024) : Fin 2048 := ⟨1024 * (grid0.coords t 0).val + i.val, by have h : (grid0.coords t 0).val < 2 := (grid0.coords t 0).isLt; omega⟩
def col (j : Fin 1280) : Fin 11520 := ⟨1280 * (grid0.coords t 1).val + j.val, by have h : (grid0.coords t 1).val < 9 := (grid0.coords t 1).isLt; omega⟩

theorem blk0 (R : Fin 4224) (i : Fin 1024) : iblk m c 0 t (ix2 R i) = held (a0 m c) R (row t i) := by
  refine Eq.trans ?_ (V_x m c R (row t i))
  blk_simp [iblk]
  congr 1
  blk_ext [e0, row]

theorem blk1 (R : Fin 4224) (j : Fin 1280) : iblk m c 1 t (ix2 R j) = held (a1 m c) R (col t j) := by
  refine Eq.trans ?_ (V_ct m c R (col t j))
  blk_simp [iblk]
  congr 1
  blk_ext [e1, col]

/-- The block a point writes. -/
theorem pt (i : Fin 1024) (j : Fin 1280) : out0_2 (F := Ideal) (iblk m c 0 t) (iblk m c 1 t) (ix2 i j)
    = ∑ R : Fin 4112, (a0 m c) (ix3 0 R (row t i)) * a1 m c (ix3 0 R (col t j)) := by
  frame_out
  rw [pay_at]
  refine (Finset.sum_congr rfl fun R _ => ?_).trans (held_dot (a0 m c) (a1 m c) (row t i) (col t j))
  rw [blk0 m c t R i, blk1 m c t R j]

/-- An array that holds these values is the call's result. -/
theorem arr (G : (⟨S2048x11520, .bf16⟩ : BufTy).Contents (Elt Ideal))
    (hG : ∀ (i : Fin 2048) (j : Fin 11520), G (ix2 i j) = ∑ R : Fin 4112, (a0 m c) (ix3 0 R i) * a1 m c (ix3 0 R j)) :
    (dats m 0 c).arrAt 2 cfg0.N = G := by
  refine (dats m 0 c).arrAt_eq_of_covers 2 G (by decide +kernel) fun t hf y => ?_
  blk_simp
  rw [after0_2]
  obtain ⟨i, j, rfl⟩ : ∃ (i : Fin 1024) (j : Fin 1280), y = ix2 i j := ⟨y 0, y 1, eq_ix2 y⟩
  rw [pt m c t i j]
  refine (hG (row t i) (col t j)).symm.trans ?_
  congr 1
  blk_ext [e2, row, col]

/-- The call's array is the reference's. -/
theorem out : (dats m 0 c).arrAt 2 cfg0.N = Cert.GinRefIdeal.Read.val_main_v4 (F := Ideal) (a0 m c) (a1 m c) :=
  arr m c _ fun i j => by
    unfold Cert.GinRefIdeal.Read.val_main_v4 Cert.GinRefIdeal.Read.val_main_v3 Cert.GinRefIdeal.Read.val_main_v2
    pointwise
    refine (Fin.sum_univ_one _).trans ?_
    exact Finset.sum_congr rfl fun R _ => mul_comm (G := EReal) _ _

end
end Cert.GinIdeal.Call
end
-- ==== Proof.FbCall.lean ====
module

public import proofs.«01_k».proof.Proof.Gen.Fb
public import proofs.«01_k».proof.Proof.Gen.Fb.Frame
public import proofs.«01_k».proof.Proof.Gen.FbIdeal
public import proofs.«01_k».proof.Proof.Gen.FbIdeal.Value
public import proofs.«01_k».proof.Proof.Gen.FbRefIdeal
public import proofs.«01_k».proof.Proof.Gen.FbRefIdeal.Run
public import proofs.«01_k».proof.Proof.Gen.FbRefIdeal.Read
public import proofs.«01_k».proof.Proof.Block

@[expose] public section

set_option maxRecDepth 16384

noncomputable section

/-! The product of rows with a weight: the call's array is the reference's. -/
namespace Cert.FbIdeal.Call

open Idealize.ShloMosaic Cert.Block
open Cert.FbIdeal Cert.FbIdeal.Gen Idealize.ShloMosaic.TcCoe Idealize.ShloMosaic.Tactic Idealize.SL.Sem

theorem e0 : ∀ t : Fin cfg0.N, win0_0.index t = ![(grid0.coords t 0).val, 0] := (by decide +kernel : ∀ t : Fin grid0.N, _)
theorem e1 : ∀ t : Fin cfg0.N, win0_1.index t = ![0, (grid0.coords t 1).val] := (by decide +kernel : ∀ t : Fin grid0.N, _)
theorem e2 : ∀ t : Fin cfg0.N, win0_2.index t = ![(grid0.coords t 0).val, (grid0.coords t 1).val] := (by decide +kernel : ∀ t : Fin grid0.N, _)

/-- The block product at an index. -/
theorem pay_at (a : Vec Ideal S704x2048 .bf16) (b : Vec Ideal S2048x2048 .bf16) (i : Fin 704) (j : Fin 2048) :
    k0_pay1 (F := Ideal) a b (ix2 i j) = (∑ k : Fin 2048, a (ix2 i k) * b (ix2 k j)) := by
  unfold k0_pay1
  pointwise

section
variable (m : (ℓ : Loc nD τ sig) → Buf (Elt Ideal) ℓ) (c : Dev nD) (t : Fin cfg0.N)

/-- The arguments. -/
abbrev a0 : (⟨S1x4112x2048, .f32⟩ : BufTy).Contents (Elt Ideal) := m ((c : Thread nD τ).loc main_arg0)
abbrev a1 : (⟨S2048x2048, .f32⟩ : BufTy).Contents (Elt Ideal) := m ((c : Thread nD τ).loc main_arg1)

theorem V_x (R : Fin 4224) (k : Fin 2048) : (V m c main_v2 : (⟨S4224x2048, .bf16⟩ : BufTy).Contents (Elt Ideal)) (ix2 R k) = held (a0 m c) R k := by
  have h : (V m c main_v2 : (⟨S4224x2048, .bf16⟩ : BufTy).Contents (Elt Ideal)) = truncf (F := Ideal) (φ := .f32) .bf16 (pad S4224x2048 ![0, 0] ![112, 0] ![0, 0] (shapeCast S4112x2048 (a0 m c) shapeCasts_S1x4112x2048_S4112x2048)
      (sitofp (F := Ideal) .f32 (constantI S_ 32 0#32)) pads_S4112x2048_S4224x2048_01120_000 h_S_) bitsLt_bf16_f32 := by
    simp only [V, hostOps0, hostOps0_1, hostOps0_2, List.flatten_cons, List.flatten_nil, List.append_nil, List.cons_append, List.nil_append]
    after_results
    rfl
  rw [h]
  exact held_at (a0 m c) shapeCasts_S1x4112x2048_S4112x2048 pads_S4112x2048_S4224x2048_01120_000 h_S_ R k

theorem V_w : (V m c main_v3 : (⟨S2048x2048, .bf16⟩ : BufTy).Contents (Elt Ideal)) = a1 m c := by
  simp only [V, hostOps0, hostOps0_1, hostOps0_2, List.flatten_cons, List.flatten_nil, List.append_nil, List.cons_append, List.nil_append]
  after_results
  rfl

/-- The array row of a block's row, and its column. -/
def row (i : Fin 704) : Fin 4224 := ⟨704 * (grid0.coords t 0).val + i.val, by have h : (grid0.coords t 0).val < 6 := (grid0.coords t 0).isLt; omega⟩
def col (j : Fin 2048) : Fin 2048 := ⟨2048 * (grid0.coords t 1).val + j.val, by have h : (grid0.coords t 1).val < 1 := (grid0.coords t 1).isLt; omega⟩

theorem blk0 (i : Fin 704) (k : Fin 2048) : iblk m c 0 t (ix2 i k) = held (a0 m c) (row t i) k := by
  refine Eq.trans ?_ (V_x m c (row t i) k)
  blk_simp [iblk]
  congr 1
  blk_ext [e0, row]

theorem blk1 (k : Fin 2048) (j : Fin 2048) : iblk m c 1 t (ix2 k j) = a1 m c (ix2 k (col t j)) := by
  refine Eq.trans ?_ (congrFun (V_w m c) (ix2 k (col t j)))
  blk_simp [iblk]
  congr 1
  blk_ext [e1, col]

/-- The block a point writes. -/
theorem pt (i : Fin 704) (j : Fin 2048) : out0_2 (F := Ideal) (iblk m c 0 t) (iblk m c 1 t) (ix2 i j)
    = (∑ k : Fin 2048, held (a0 m c) (row t i) k * a1 m c (ix2 k (col t j))) := by
  frame_out
  rw [pay_at]
  refine Finset.sum_congr rfl fun k _ => ?_
  rw [blk0 m c t i k, blk1 m c t k j]

/-- An array that holds these values is the call's result. -/
theorem arr (G : (⟨S4224x2048, .f32⟩ : BufTy).Contents (Elt Ideal))
    (hG : ∀ (R : Fin 4224) (j : Fin 2048), G (ix2 R j) = (∑ k : Fin 2048, held (a0 m c) R k * a1 m c (ix2 k j))) :
    (dats m 0 c).arrAt 2 cfg0.N = G := by
  refine (dats m 0 c).arrAt_eq_of_covers 2 G (by decide +kernel) fun t hf y => ?_
  blk_simp
  rw [after0_2]
  obtain ⟨i, j, rfl⟩ : ∃ (i : Fin 704) (j : Fin 2048), y = ix2 i j := ⟨y 0, y 1, eq_ix2 y⟩
  rw [pt m c t i j]
  refine (hG (row t i) (col t j)).symm.trans ?_
  congr 1
  blk_ext [e2, row, col]

/-- The reference's product at an index. -/
theorem ref_at (R : Fin 4112) (j : Fin 2048) : Cert.FbRefIdeal.Read.val_main_v0 (F := Ideal) (a0 m c) (a1 m c) (ix3 0 R j)
    = ∑ k : Fin 2048, a0 m c (ix3 0 R k) * a1 m c (ix2 k j) := by
  unfold Cert.FbRefIdeal.Read.val_main_v0
  pointwise

/-- The call's array is the reference's. -/
theorem out : (dats m 0 c).arrAt 2 cfg0.N = Cert.FbRefIdeal.Read.val_main_v2 (F := Ideal) (a0 m c) (a1 m c) :=
  arr m c _ fun R j => (held_at (Cert.FbRefIdeal.Read.val_main_v0 (F := Ideal) (a0 m c) (a1 m c)) Cert.FbRefIdeal.Gen.facts.shapeCasts_S1x4112x2048_S4112x2048
    Cert.FbRefIdeal.Gen.facts.pads_S4112x2048_S4224x2048_01120_000 Cert.FbRefIdeal.Gen.facts.h_S_ R j).trans
    (held_sum (a0 m c) (fun k => a1 m c (ix2 k j)) _ j (fun R => ref_at m c R j) R).symm

end
end Cert.FbIdeal.Call
end
-- ==== Proof.FaCall.lean ====
module

public import proofs.«01_k».proof.Proof.Gen.Fa
public import proofs.«01_k».proof.Proof.Gen.Fa.Frame
public import proofs.«01_k».proof.Proof.Gen.FaIdeal
public import proofs.«01_k».proof.Proof.Gen.FaIdeal.Value
public import proofs.«01_k».proof.Proof.Gen.FaRefIdeal
public import proofs.«01_k».proof.Proof.Gen.FaRefIdeal.Run
public import proofs.«01_k».proof.Proof.Gen.FaRefIdeal.Read
public import proofs.«01_k».proof.Proof.Block

@[expose] public section

set_option maxRecDepth 16384

noncomputable section

/-! The product of rows with a weight: the call's array is the reference's. -/
namespace Cert.FaIdeal.Call

open Idealize.ShloMosaic Cert.Block
open Cert.FaIdeal Cert.FaIdeal.Gen Idealize.ShloMosaic.TcCoe Idealize.ShloMosaic.Tactic Idealize.SL.Sem

theorem e0 : ∀ t : Fin cfg0.N, win0_0.index t = ![(grid0.coords t 0).val, 0] := (by decide +kernel : ∀ t : Fin grid0.N, _)
theorem e1 : ∀ t : Fin cfg0.N, win0_1.index t = ![0, (grid0.coords t 1).val] := (by decide +kernel : ∀ t : Fin grid0.N, _)
theorem e2 : ∀ t : Fin cfg0.N, win0_2.index t = ![(grid0.coords t 0).val, (grid0.coords t 1).val] := (by decide +kernel : ∀ t : Fin grid0.N, _)

/-- The block product at an index. -/
theorem pay_at (a : Vec Ideal S1408x1024 .bf16) (b : Vec Ideal S1024x2048 .bf16) (i : Fin 1408) (j : Fin 2048) :
    k0_pay1 (F := Ideal) a b (ix2 i j) = (∑ k : Fin 1024, a (ix2 i k) * b (ix2 k j)) := by
  unfold k0_pay1
  pointwise

section
variable (m : (ℓ : Loc nD τ sig) → Buf (Elt Ideal) ℓ) (c : Dev nD) (t : Fin cfg0.N)

/-- The arguments. -/
abbrev a0 : (⟨S1x4112x1024, .f32⟩ : BufTy).Contents (Elt Ideal) := m ((c : Thread nD τ).loc main_arg0)
abbrev a1 : (⟨S1024x2048, .f32⟩ : BufTy).Contents (Elt Ideal) := m ((c : Thread nD τ).loc main_arg1)

theorem V_x (R : Fin 4224) (k : Fin 1024) : (V m c main_v2 : (⟨S4224x1024, .bf16⟩ : BufTy).Contents (Elt Ideal)) (ix2 R k) = held (a0 m c) R k := by
  have h : (V m c main_v2 : (⟨S4224x1024, .bf16⟩ : BufTy).Contents (Elt Ideal)) = truncf (F := Ideal) (φ := .f32) .bf16 (pad S4224x1024 ![0, 0] ![112, 0] ![0, 0] (shapeCast S4112x1024 (a0 m c) shapeCasts_S1x4112x1024_S4112x1024)
      (sitofp (F := Ideal) .f32 (constantI S_ 32 0#32)) pads_S4112x1024_S4224x1024_01120_000 h_S_) bitsLt_bf16_f32 := by
    simp only [V, hostOps0, hostOps0_1, hostOps0_2, List.flatten_cons, List.flatten_nil, List.append_nil, List.cons_append, List.nil_append]
    after_results
    rfl
  rw [h]
  exact held_at (a0 m c) shapeCasts_S1x4112x1024_S4112x1024 pads_S4112x1024_S4224x1024_01120_000 h_S_ R k

theorem V_w : (V m c main_v3 : (⟨S1024x2048, .bf16⟩ : BufTy).Contents (Elt Ideal)) = a1 m c := by
  simp only [V, hostOps0, hostOps0_1, hostOps0_2, List.flatten_cons, List.flatten_nil, List.append_nil, List.cons_append, List.nil_append]
  after_results
  rfl

/-- The array row of a block's row, and its column. -/
def row (i : Fin 1408) : Fin 4224 := ⟨1408 * (grid0.coords t 0).val + i.val, by have h : (grid0.coords t 0).val < 3 := (grid0.coords t 0).isLt; omega⟩
def col (j : Fin 2048) : Fin 2048 := ⟨2048 * (grid0.coords t 1).val + j.val, by have h : (grid0.coords t 1).val < 1 := (grid0.coords t 1).isLt; omega⟩

theorem blk0 (i : Fin 1408) (k : Fin 1024) : iblk m c 0 t (ix2 i k) = held (a0 m c) (row t i) k := by
  refine Eq.trans ?_ (V_x m c (row t i) k)
  blk_simp [iblk]
  congr 1
  blk_ext [e0, row]

theorem blk1 (k : Fin 1024) (j : Fin 2048) : iblk m c 1 t (ix2 k j) = a1 m c (ix2 k (col t j)) := by
  refine Eq.trans ?_ (congrFun (V_w m c) (ix2 k (col t j)))
  blk_simp [iblk]
  congr 1
  blk_ext [e1, col]

/-- The block a point writes. -/
theorem pt (i : Fin 1408) (j : Fin 2048) : out0_2 (F := Ideal) (iblk m c 0 t) (iblk m c 1 t) (ix2 i j)
    = (∑ k : Fin 1024, held (a0 m c) (row t i) k * a1 m c (ix2 k (col t j))) := by
  frame_out
  rw [pay_at]
  refine Finset.sum_congr rfl fun k _ => ?_
  rw [blk0 m c t i k, blk1 m c t k j]

/-- An array that holds these values is the call's result. -/
theorem arr (G : (⟨S4224x2048, .f32⟩ : BufTy).Contents (Elt Ideal))
    (hG : ∀ (R : Fin 4224) (j : Fin 2048), G (ix2 R j) = (∑ k : Fin 1024, held (a0 m c) R k * a1 m c (ix2 k j))) :
    (dats m 0 c).arrAt 2 cfg0.N = G := by
  refine (dats m 0 c).arrAt_eq_of_covers 2 G (by decide +kernel) fun t hf y => ?_
  blk_simp
  rw [after0_2]
  obtain ⟨i, j, rfl⟩ : ∃ (i : Fin 1408) (j : Fin 2048), y = ix2 i j := ⟨y 0, y 1, eq_ix2 y⟩
  rw [pt m c t i j]
  refine (hG (row t i) (col t j)).symm.trans ?_
  congr 1
  blk_ext [e2, row, col]

/-- The reference's product at an index. -/
theorem ref_at (R : Fin 4112) (j : Fin 2048) : Cert.FaRefIdeal.Read.val_main_v0 (F := Ideal) (a0 m c) (a1 m c) (ix3 0 R j)
    = ∑ k : Fin 1024, a0 m c (ix3 0 R k) * a1 m c (ix2 k j) := by
  unfold Cert.FaRefIdeal.Read.val_main_v0
  pointwise

/-- The call's array is the reference's. -/
theorem out : (dats m 0 c).arrAt 2 cfg0.N = Cert.FaRefIdeal.Read.val_main_v2 (F := Ideal) (a0 m c) (a1 m c) :=
  arr m c _ fun R j => (held_at (Cert.FaRefIdeal.Read.val_main_v0 (F := Ideal) (a0 m c) (a1 m c)) Cert.FaRefIdeal.Gen.facts.shapeCasts_S1x4112x2048_S4112x2048
    Cert.FaRefIdeal.Gen.facts.pads_S4112x2048_S4224x2048_01120_000 Cert.FaRefIdeal.Gen.facts.h_S_ R j).trans
    (held_sum (a0 m c) (fun k => a1 m c (ix2 k j)) _ j (fun R => ref_at m c R j) R).symm

end
end Cert.FaIdeal.Call
end
-- ==== Proof.FkvCall.lean ====
module

public import proofs.«01_k».proof.Proof.Gen.Fkv
public import proofs.«01_k».proof.Proof.Gen.Fkv.Frame
public import proofs.«01_k».proof.Proof.Gen.FkvIdeal
public import proofs.«01_k».proof.Proof.Gen.FkvIdeal.Value
public import proofs.«01_k».proof.Proof.Gen.FkvRefIdeal
public import proofs.«01_k».proof.Proof.Gen.FkvRefIdeal.Run
public import proofs.«01_k».proof.Proof.Gen.FkvRefIdeal.Read
public import proofs.«01_k».proof.Proof.Block

@[expose] public section

set_option maxRecDepth 16384

noncomputable section

/-! The product of rows with a weight: the call's array is the reference's. -/
namespace Cert.FkvIdeal.Call

open Idealize.ShloMosaic Cert.Block
open Cert.FkvIdeal Cert.FkvIdeal.Gen Idealize.ShloMosaic.TcCoe Idealize.ShloMosaic.Tactic Idealize.SL.Sem

theorem e0 : ∀ t : Fin cfg0.N, win0_0.index t = ![(grid0.coords t 0).val, 0] := (by decide +kernel : ∀ t : Fin grid0.N, _)
theorem e1 : ∀ t : Fin cfg0.N, win0_1.index t = ![0, (grid0.coords t 1).val] := (by decide +kernel : ∀ t : Fin grid0.N, _)
theorem e2 : ∀ t : Fin cfg0.N, win0_2.index t = ![(grid0.coords t 0).val, (grid0.coords t 1).val] := (by decide +kernel : ∀ t : Fin grid0.N, _)

/-- The block product at an index. -/
theorem pay_at (a : Vec Ideal S1408x512 .bf16) (b : Vec Ideal S512x2048 .bf16) (i : Fin 1408) (j : Fin 2048) :
    k0_pay1 (F := Ideal) a b (ix2 i j) = (∑ k : Fin 512, a (ix2 i k) * b (ix2 k j)) := by
  unfold k0_pay1
  pointwise

section
variable (m : (ℓ : Loc nD τ sig) → Buf (Elt Ideal) ℓ) (c : Dev nD) (t : Fin cfg0.N)

/-- The arguments. -/
abbrev a0 : (⟨S1x4112x512, .f32⟩ : BufTy).Contents (Elt Ideal) := m ((c : Thread nD τ).loc main_arg0)
abbrev a1 : (⟨S512x4096, .f32⟩ : BufTy).Contents (Elt Ideal) := m ((c : Thread nD τ).loc main_arg1)

theorem V_x (R : Fin 4224) (k : Fin 512) : (V m c main_v2 : (⟨S4224x512, .bf16⟩ : BufTy).Contents (Elt Ideal)) (ix2 R k) = held (a0 m c) R k := by
  have h : (V m c main_v2 : (⟨S4224x512, .bf16⟩ : BufTy).Contents (Elt Ideal)) = truncf (F := Ideal) (φ := .f32) .bf16 (pad S4224x512 ![0, 0] ![112, 0] ![0, 0] (shapeCast S4112x512 (a0 m c) shapeCasts_S1x4112x512_S4112x512)
      (sitofp (F := Ideal) .f32 (constantI S_ 32 0#32)) pads_S4112x512_S4224x512_01120_000 h_S_) bitsLt_bf16_f32 := by
    simp only [V, hostOps0, hostOps0_1, hostOps0_2, List.flatten_cons, List.flatten_nil, List.append_nil, List.cons_append, List.nil_append]
    after_results
    rfl
  rw [h]
  exact held_at (a0 m c) shapeCasts_S1x4112x512_S4112x512 pads_S4112x512_S4224x512_01120_000 h_S_ R k

theorem V_w : (V m c main_v3 : (⟨S512x4096, .bf16⟩ : BufTy).Contents (Elt Ideal)) = a1 m c := by
  simp only [V, hostOps0, hostOps0_1, hostOps0_2, List.flatten_cons, List.flatten_nil, List.append_nil, List.cons_append, List.nil_append]
  after_results
  rfl

/-- The array row of a block's row, and its column. -/
def row (i : Fin 1408) : Fin 4224 := ⟨1408 * (grid0.coords t 0).val + i.val, by have h : (grid0.coords t 0).val < 3 := (grid0.coords t 0).isLt; omega⟩
def col (j : Fin 2048) : Fin 4096 := ⟨2048 * (grid0.coords t 1).val + j.val, by have h : (grid0.coords t 1).val < 2 := (grid0.coords t 1).isLt; omega⟩

theorem blk0 (i : Fin 1408) (k : Fin 512) : iblk m c 0 t (ix2 i k) = held (a0 m c) (row t i) k := by
  refine Eq.trans ?_ (V_x m c (row t i) k)
  blk_simp [iblk]
  congr 1
  blk_ext [e0, row]

theorem blk1 (k : Fin 512) (j : Fin 2048) : iblk m c 1 t (ix2 k j) = a1 m c (ix2 k (col t j)) := by
  refine Eq.trans ?_ (congrFun (V_w m c) (ix2 k (col t j)))
  blk_simp [iblk]
  congr 1
  blk_ext [e1, col]

/-- The block a point writes. -/
theorem pt (i : Fin 1408) (j : Fin 2048) : out0_2 (F := Ideal) (iblk m c 0 t) (iblk m c 1 t) (ix2 i j)
    = (∑ k : Fin 512, held (a0 m c) (row t i) k * a1 m c (ix2 k (col t j))) := by
  frame_out
  rw [pay_at]
  refine Finset.sum_congr rfl fun k _ => ?_
  rw [blk0 m c t i k, blk1 m c t k j]

/-- An array that holds these values is the call's result. -/
theorem arr (G : (⟨S4224x4096, .f32⟩ : BufTy).Contents (Elt Ideal))
    (hG : ∀ (R : Fin 4224) (j : Fin 4096), G (ix2 R j) = (∑ k : Fin 512, held (a0 m c) R k * a1 m c (ix2 k j))) :
    (dats m 0 c).arrAt 2 cfg0.N = G := by
  refine (dats m 0 c).arrAt_eq_of_covers 2 G (by decide +kernel) fun t hf y => ?_
  blk_simp
  rw [after0_2]
  obtain ⟨i, j, rfl⟩ : ∃ (i : Fin 1408) (j : Fin 2048), y = ix2 i j := ⟨y 0, y 1, eq_ix2 y⟩
  rw [pt m c t i j]
  refine (hG (row t i) (col t j)).symm.trans ?_
  congr 1
  blk_ext [e2, row, col]

/-- The reference's product at an index. -/
theorem ref_at (R : Fin 4112) (j : Fin 4096) : Cert.FkvRefIdeal.Read.val_main_v0 (F := Ideal) (a0 m c) (a1 m c) (ix3 0 R j)
    = ∑ k : Fin 512, a0 m c (ix3 0 R k) * a1 m c (ix2 k j) := by
  unfold Cert.FkvRefIdeal.Read.val_main_v0
  pointwise

/-- The call's array is the reference's. -/
theorem out : (dats m 0 c).arrAt 2 cfg0.N = Cert.FkvRefIdeal.Read.val_main_v2 (F := Ideal) (a0 m c) (a1 m c) :=
  arr m c _ fun R j => (held_at (Cert.FkvRefIdeal.Read.val_main_v0 (F := Ideal) (a0 m c) (a1 m c)) Cert.FkvRefIdeal.Gen.facts.shapeCasts_S1x4112x4096_S4112x4096
    Cert.FkvRefIdeal.Gen.facts.pads_S4112x4096_S4224x4096_01120_000 Cert.FkvRefIdeal.Gen.facts.h_S_ R j).trans
    (held_sum (a0 m c) (fun k => a1 m c (ix2 k j)) _ j (fun R => ref_at m c R j) R).symm

end
end Cert.FkvIdeal.Call
end
-- ==== Proof.FoCall.lean ====
module

public import proofs.«01_k».proof.Proof.Gen.Fo
public import proofs.«01_k».proof.Proof.Gen.Fo.Frame
public import proofs.«01_k».proof.Proof.Gen.FoIdeal
public import proofs.«01_k».proof.Proof.Gen.FoIdeal.Value
public import proofs.«01_k».proof.Proof.Gen.FoRefIdeal
public import proofs.«01_k».proof.Proof.Gen.FoRefIdeal.Run
public import proofs.«01_k».proof.Proof.Gen.FoRefIdeal.Read
public import proofs.«01_k».proof.Proof.Block

@[expose] public section

set_option maxRecDepth 16384

noncomputable section

/-! The product of rows with a weight, added to what it branched from: the call's array is the reference's. -/
namespace Cert.FoIdeal.Call

open Idealize.ShloMosaic Cert.Block
open Cert.FoIdeal Cert.FoIdeal.Gen Idealize.ShloMosaic.TcCoe Idealize.ShloMosaic.Tactic Idealize.SL.Sem

theorem e0 : ∀ t : Fin cfg0.N, win0_0.index t = ![(grid0.coords t 0).val, 0] := (by decide +kernel : ∀ t : Fin grid0.N, _)
theorem e1 : ∀ t : Fin cfg0.N, win0_1.index t = ![0, (grid0.coords t 1).val] := (by decide +kernel : ∀ t : Fin grid0.N, _)
theorem e2 : ∀ t : Fin cfg0.N, win0_2.index t = ![(grid0.coords t 0).val, (grid0.coords t 1).val] := (by decide +kernel : ∀ t : Fin grid0.N, _)
theorem e3 : ∀ t : Fin cfg0.N, win0_3.index t = ![(grid0.coords t 0).val, (grid0.coords t 1).val] := (by decide +kernel : ∀ t : Fin grid0.N, _)

/-- The block product at an index. -/
theorem pay_at (a : Vec Ideal S1408x2048 .bf16) (b : Vec Ideal S2048x1024 .bf16) (r : Vec Ideal S1408x1024 .f32) (i : Fin 1408) (j : Fin 1024) :
    k0_pay1 (F := Ideal) a b r (ix2 i j) = (∑ k : Fin 2048, a (ix2 i k) * b (ix2 k j)) + r (ix2 i j) := by
  unfold k0_pay1
  pointwise

section
variable (m : (ℓ : Loc nD τ sig) → Buf (Elt Ideal) ℓ) (c : Dev nD) (t : Fin cfg0.N)

/-- The arguments. -/
abbrev a0 : (⟨S1x4112x2048, .f32⟩ : BufTy).Contents (Elt Ideal) := m ((c : Thread nD τ).loc main_arg0)
abbrev a1 : (⟨S2048x2048, .f32⟩ : BufTy).Contents (Elt Ideal) := m ((c : Thread nD τ).loc main_arg1)
abbrev a2 : (⟨S1x4112x2048, .f32⟩ : BufTy).Contents (Elt Ideal) := m ((c : Thread nD τ).loc main_arg2)

theorem V_x (R : Fin 4224) (k : Fin 2048) : (V m c main_v2 : (⟨S4224x2048, .bf16⟩ : BufTy).Contents (Elt Ideal)) (ix2 R k) = held (a0 m c) R k := by
  have h : (V m c main_v2 : (⟨S4224x2048, .bf16⟩ : BufTy).Contents (Elt Ideal)) = truncf (F := Ideal) (φ := .f32) .bf16 (pad S4224x2048 ![0, 0] ![112, 0] ![0, 0] (shapeCast S4112x2048 (a0 m c) shapeCasts_S1x4112x2048_S4112x2048)
      (sitofp (F := Ideal) .f32 (constantI S_ 32 0#32)) pads_S4112x2048_S4224x2048_01120_000 h_S_) bitsLt_bf16_f32 := by
    simp only [V, hostOps0, hostOps0_1, hostOps0_2, hostOps0_3, List.flatten_cons, List.flatten_nil, List.append_nil, List.cons_append, List.nil_append]
    after_results
    rfl
  rw [h]
  exact held_at (a0 m c) shapeCasts_S1x4112x2048_S4112x2048 pads_S4112x2048_S4224x2048_01120_000 h_S_ R k

theorem V_w : (V m c main_v3 : (⟨S2048x2048, .bf16⟩ : BufTy).Contents (Elt Ideal)) = a1 m c := by
  simp only [V, hostOps0, hostOps0_1, hostOps0_2, hostOps0_3, List.flatten_cons, List.flatten_nil, List.append_nil, List.cons_append, List.nil_append]
  after_results
  rfl

theorem V_r (R : Fin 4224) (k : Fin 2048) : (V m c main_v5 : (⟨S4224x2048, .f32⟩ : BufTy).Contents (Elt Ideal)) (ix2 R k) = held (a2 m c) R k := by
  have h : (V m c main_v5 : (⟨S4224x2048, .f32⟩ : BufTy).Contents (Elt Ideal)) = pad S4224x2048 ![0, 0] ![112, 0] ![0, 0] (shapeCast S4112x2048 (a2 m c) shapeCasts_S1x4112x2048_S4112x2048)
      (sitofp (F := Ideal) .f32 (constantI S_ 32 0#32)) pads_S4112x2048_S4224x2048_01120_000 h_S_ := by
    simp only [V, hostOps0, hostOps0_1, hostOps0_2, hostOps0_3, List.flatten_cons, List.flatten_nil, List.append_nil, List.cons_append, List.nil_append]
    after_results
    rfl
  rw [h]
  exact held_at (a2 m c) shapeCasts_S1x4112x2048_S4112x2048 pads_S4112x2048_S4224x2048_01120_000 h_S_ R k

/-- The array row of a block's row, and its column. -/
def row (i : Fin 1408) : Fin 4224 := ⟨1408 * (grid0.coords t 0).val + i.val, by have h : (grid0.coords t 0).val < 3 := (grid0.coords t 0).isLt; omega⟩
def col (j : Fin 1024) : Fin 2048 := ⟨1024 * (grid0.coords t 1).val + j.val, by have h : (grid0.coords t 1).val < 2 := (grid0.coords t 1).isLt; omega⟩

theorem blk0 (i : Fin 1408) (k : Fin 2048) : iblk m c 0 t (ix2 i k) = held (a0 m c) (row t i) k := by
  refine Eq.trans ?_ (V_x m c (row t i) k)
  blk_simp [iblk]
  congr 1
  blk_ext [e0, row]

theorem blk1 (k : Fin 2048) (j : Fin 1024) : iblk m c 1 t (ix2 k j) = a1 m c (ix2 k (col t j)) := by
  refine Eq.trans ?_ (congrFun (V_w m c) (ix2 k (col t j)))
  blk_simp [iblk]
  congr 1
  blk_ext [e1, col]

theorem blk2 (i : Fin 1408) (j : Fin 1024) : iblk m c 2 t (ix2 i j) = held (a2 m c) (row t i) (col t j) := by
  refine Eq.trans ?_ (V_r m c (row t i) (col t j))
  blk_simp [iblk]
  congr 1
  blk_ext [e2, row, col]

/-- The block a point writes. -/
theorem pt (i : Fin 1408) (j : Fin 1024) : out0_3 (F := Ideal) (iblk m c 0 t) (iblk m c 1 t) (iblk m c 2 t) (ix2 i j)
    = (∑ k : Fin 2048, held (a0 m c) (row t i) k * a1 m c (ix2 k (col t j))) + held (a2 m c) (row t i) (col t j) := by
  frame_out
  rw [pay_at, blk2 m c t i j]
  congr 1
  refine Finset.sum_congr rfl fun k _ => ?_
  rw [blk0 m c t i k, blk1 m c t k j]

/-- An array that holds these values is the call's result. -/
theorem arr (G : (⟨S4224x2048, .f32⟩ : BufTy).Contents (Elt Ideal))
    (hG : ∀ (R : Fin 4224) (j : Fin 2048), G (ix2 R j) = (∑ k : Fin 2048, held (a0 m c) R k * a1 m c (ix2 k j)) + held (a2 m c) R j) :
    (dats m 0 c).arrAt 3 cfg0.N = G := by
  refine (dats m 0 c).arrAt_eq_of_covers 3 G (by decide +kernel) fun t hf y => ?_
  blk_simp
  rw [after0_3]
  obtain ⟨i, j, rfl⟩ : ∃ (i : Fin 1408) (j : Fin 1024), y = ix2 i j := ⟨y 0, y 1, eq_ix2 y⟩
  rw [pt m c t i j]
  refine (hG (row t i) (col t j)).symm.trans ?_
  congr 1
  blk_ext [e3, row, col]

/-- The reference's product at an index. -/
theorem ref_at (R : Fin 4112) (j : Fin 2048) : Cert.FoRefIdeal.Read.val_main_v0 (F := Ideal) (a0 m c) (a1 m c) (ix3 0 R j)
    = ∑ k : Fin 2048, a0 m c (ix3 0 R k) * a1 m c (ix2 k j) := by
  unfold Cert.FoRefIdeal.Read.val_main_v0
  pointwise

/-- The call's array is the reference's. -/
theorem out : (dats m 0 c).arrAt 3 cfg0.N = Cert.FoRefIdeal.Read.val_main_v3 (F := Ideal) (a0 m c) (a1 m c) (a2 m c) :=
  arr m c _ fun R j => (held_at (Cert.FoRefIdeal.Read.val_main_v1 (F := Ideal) (a0 m c) (a1 m c) (a2 m c)) Cert.FoRefIdeal.Gen.facts.shapeCasts_S1x4112x2048_S4112x2048
    Cert.FoRefIdeal.Gen.facts.pads_S4112x2048_S4224x2048_01120_000 Cert.FoRefIdeal.Gen.facts.h_S_ R j).trans
    ((held_add (a2 m c) (Cert.FoRefIdeal.Read.val_main_v0 (F := Ideal) (a0 m c) (a1 m c)) _ j (fun R => rfl) R).trans
      (congrArg (· + held (a2 m c) R j) (held_sum (a0 m c) (fun k => a1 m c (ix2 k j)) _ j (fun R => ref_at m c R j) R).symm))

end
end Cert.FoIdeal.Call
end
-- ==== Proof.FdownCall.lean ====
module

public import proofs.«01_k».proof.Proof.Gen.Fdown
public import proofs.«01_k».proof.Proof.Gen.Fdown.Frame
public import proofs.«01_k».proof.Proof.Gen.FdownIdeal
public import proofs.«01_k».proof.Proof.Gen.FdownIdeal.Value
public import proofs.«01_k».proof.Proof.Gen.FdownRefIdeal
public import proofs.«01_k».proof.Proof.Gen.FdownRefIdeal.Run
public import proofs.«01_k».proof.Proof.Gen.FdownRefIdeal.Read
public import proofs.«01_k».proof.Proof.Block

@[expose] public section

set_option maxRecDepth 16384

noncomputable section

/-! The product of rows with a weight, added to what it branched from: the call's array is the reference's. -/
namespace Cert.FdownIdeal.Call

open Idealize.ShloMosaic Cert.Block
open Cert.FdownIdeal Cert.FdownIdeal.Gen Idealize.ShloMosaic.TcCoe Idealize.ShloMosaic.Tactic Idealize.SL.Sem

theorem e0 : ∀ t : Fin cfg0.N, win0_0.index t = ![(grid0.coords t 0).val, 0] := (by decide +kernel : ∀ t : Fin grid0.N, _)
theorem e1 : ∀ t : Fin cfg0.N, win0_1.index t = ![0, (grid0.coords t 1).val] := (by decide +kernel : ∀ t : Fin grid0.N, _)
theorem e2 : ∀ t : Fin cfg0.N, win0_2.index t = ![(grid0.coords t 0).val, (grid0.coords t 1).val] := (by decide +kernel : ∀ t : Fin grid0.N, _)
theorem e3 : ∀ t : Fin cfg0.N, win0_3.index t = ![(grid0.coords t 0).val, (grid0.coords t 1).val] := (by decide +kernel : ∀ t : Fin grid0.N, _)

/-- The block product at an index. -/
theorem pay_at (a : Vec Ideal S704x8192 .bf16) (b : Vec Ideal S8192x512 .bf16) (r : Vec Ideal S704x512 .f32) (i : Fin 704) (j : Fin 512) :
    k0_pay1 (F := Ideal) a b r (ix2 i j) = (∑ k : Fin 8192, a (ix2 i k) * b (ix2 k j)) + r (ix2 i j) := by
  unfold k0_pay1
  pointwise

section
variable (m : (ℓ : Loc nD τ sig) → Buf (Elt Ideal) ℓ) (c : Dev nD) (t : Fin cfg0.N)

/-- The arguments. -/
abbrev a0 : (⟨S1x4112x8192, .f32⟩ : BufTy).Contents (Elt Ideal) := m ((c : Thread nD τ).loc main_arg0)
abbrev a1 : (⟨S8192x2048, .f32⟩ : BufTy).Contents (Elt Ideal) := m ((c : Thread nD τ).loc main_arg1)
abbrev a2 : (⟨S1x4112x2048, .f32⟩ : BufTy).Contents (Elt Ideal) := m ((c : Thread nD τ).loc main_arg2)

theorem V_x (R : Fin 4224) (k : Fin 8192) : (V m c main_v2 : (⟨S4224x8192, .bf16⟩ : BufTy).Contents (Elt Ideal)) (ix2 R k) = held (a0 m c) R k := by
  have h : (V m c main_v2 : (⟨S4224x8192, .bf16⟩ : BufTy).Contents (Elt Ideal)) = truncf (F := Ideal) (φ := .f32) .bf16 (pad S4224x8192 ![0, 0] ![112, 0] ![0, 0] (shapeCast S4112x8192 (a0 m c) shapeCasts_S1x4112x8192_S4112x8192)
      (sitofp (F := Ideal) .f32 (constantI S_ 32 0#32)) pads_S4112x8192_S4224x8192_01120_000 h_S_) bitsLt_bf16_f32 := by
    simp only [V, hostOps0, hostOps0_1, hostOps0_2, hostOps0_3, List.flatten_cons, List.flatten_nil, List.append_nil, List.cons_append, List.nil_append]
    after_results
    rfl
  rw [h]
  exact held_at (a0 m c) shapeCasts_S1x4112x8192_S4112x8192 pads_S4112x8192_S4224x8192_01120_000 h_S_ R k

theorem V_w : (V m c main_v3 : (⟨S8192x2048, .bf16⟩ : BufTy).Contents (Elt Ideal)) = a1 m c := by
  simp only [V, hostOps0, hostOps0_1, hostOps0_2, hostOps0_3, List.flatten_cons, List.flatten_nil, List.append_nil, List.cons_append, List.nil_append]
  after_results
  rfl

theorem V_r (R : Fin 4224) (k : Fin 2048) : (V m c main_v5 : (⟨S4224x2048, .f32⟩ : BufTy).Contents (Elt Ideal)) (ix2 R k) = held (a2 m c) R k := by
  have h : (V m c main_v5 : (⟨S4224x2048, .f32⟩ : BufTy).Contents (Elt Ideal)) = pad S4224x2048 ![0, 0] ![112, 0] ![0, 0] (shapeCast S4112x2048 (a2 m c) shapeCasts_S1x4112x2048_S4112x2048)
      (sitofp (F := Ideal) .f32 (constantI S_ 32 0#32)) pads_S4112x2048_S4224x2048_01120_000 h_S_ := by
    simp only [V, hostOps0, hostOps0_1, hostOps0_2, hostOps0_3, List.flatten_cons, List.flatten_nil, List.append_nil, List.cons_append, List.nil_append]
    after_results
    rfl
  rw [h]
  exact held_at (a2 m c) shapeCasts_S1x4112x2048_S4112x2048 pads_S4112x2048_S4224x2048_01120_000 h_S_ R k

/-- The array row of a block's row, and its column. -/
def row (i : Fin 704) : Fin 4224 := ⟨704 * (grid0.coords t 0).val + i.val, by have h : (grid0.coords t 0).val < 6 := (grid0.coords t 0).isLt; omega⟩
def col (j : Fin 512) : Fin 2048 := ⟨512 * (grid0.coords t 1).val + j.val, by have h : (grid0.coords t 1).val < 4 := (grid0.coords t 1).isLt; omega⟩

theorem blk0 (i : Fin 704) (k : Fin 8192) : iblk m c 0 t (ix2 i k) = held (a0 m c) (row t i) k := by
  refine Eq.trans ?_ (V_x m c (row t i) k)
  blk_simp [iblk]
  congr 1
  blk_ext [e0, row]

theorem blk1 (k : Fin 8192) (j : Fin 512) : iblk m c 1 t (ix2 k j) = a1 m c (ix2 k (col t j)) := by
  refine Eq.trans ?_ (congrFun (V_w m c) (ix2 k (col t j)))
  blk_simp [iblk]
  congr 1
  blk_ext [e1, col]

theorem blk2 (i : Fin 704) (j : Fin 512) : iblk m c 2 t (ix2 i j) = held (a2 m c) (row t i) (col t j) := by
  refine Eq.trans ?_ (V_r m c (row t i) (col t j))
  blk_simp [iblk]
  congr 1
  blk_ext [e2, row, col]

/-- The block a point writes. -/
theorem pt (i : Fin 704) (j : Fin 512) : out0_3 (F := Ideal) (iblk m c 0 t) (iblk m c 1 t) (iblk m c 2 t) (ix2 i j)
    = (∑ k : Fin 8192, held (a0 m c) (row t i) k * a1 m c (ix2 k (col t j))) + held (a2 m c) (row t i) (col t j) := by
  frame_out
  rw [pay_at, blk2 m c t i j]
  congr 1
  refine Finset.sum_congr rfl fun k _ => ?_
  rw [blk0 m c t i k, blk1 m c t k j]

/-- An array that holds these values is the call's result. -/
theorem arr (G : (⟨S4224x2048, .f32⟩ : BufTy).Contents (Elt Ideal))
    (hG : ∀ (R : Fin 4224) (j : Fin 2048), G (ix2 R j) = (∑ k : Fin 8192, held (a0 m c) R k * a1 m c (ix2 k j)) + held (a2 m c) R j) :
    (dats m 0 c).arrAt 3 cfg0.N = G := by
  refine (dats m 0 c).arrAt_eq_of_covers 3 G (by decide +kernel) fun t hf y => ?_
  blk_simp
  rw [after0_3]
  obtain ⟨i, j, rfl⟩ : ∃ (i : Fin 704) (j : Fin 512), y = ix2 i j := ⟨y 0, y 1, eq_ix2 y⟩
  rw [pt m c t i j]
  refine (hG (row t i) (col t j)).symm.trans ?_
  congr 1
  blk_ext [e3, row, col]

/-- The reference's product at an index. -/
theorem ref_at (R : Fin 4112) (j : Fin 2048) : Cert.FdownRefIdeal.Read.val_main_v0 (F := Ideal) (a0 m c) (a1 m c) (ix3 0 R j)
    = ∑ k : Fin 8192, a0 m c (ix3 0 R k) * a1 m c (ix2 k j) := by
  unfold Cert.FdownRefIdeal.Read.val_main_v0
  pointwise

/-- The call's array is the reference's. -/
theorem out : (dats m 0 c).arrAt 3 cfg0.N = Cert.FdownRefIdeal.Read.val_main_v3 (F := Ideal) (a0 m c) (a1 m c) (a2 m c) :=
  arr m c _ fun R j => (held_at (Cert.FdownRefIdeal.Read.val_main_v1 (F := Ideal) (a0 m c) (a1 m c) (a2 m c)) Cert.FdownRefIdeal.Gen.facts.shapeCasts_S1x4112x2048_S4112x2048
    Cert.FdownRefIdeal.Gen.facts.pads_S4112x2048_S4224x2048_01120_000 Cert.FdownRefIdeal.Gen.facts.h_S_ R j).trans
    ((held_add (a2 m c) (Cert.FdownRefIdeal.Read.val_main_v0 (F := Ideal) (a0 m c) (a1 m c)) _ j (fun R => rfl) R).trans
      (congrArg (· + held (a2 m c) R j) (held_sum (a0 m c) (fun k => a1 m c (ix2 k j)) _ j (fun R => ref_at m c R j) R).symm))

end
end Cert.FdownIdeal.Call
end
-- ==== Proof.FupCall.lean ====
module

public import proofs.«01_k».proof.Proof.Gen.Fup
public import proofs.«01_k».proof.Proof.Gen.Fup.Frame
public import proofs.«01_k».proof.Proof.Gen.FupIdeal
public import proofs.«01_k».proof.Proof.Gen.FupIdeal.Value
public import proofs.«01_k».proof.Proof.Gen.FupRefIdeal
public import proofs.«01_k».proof.Proof.Gen.FupRefIdeal.Run
public import proofs.«01_k».proof.Proof.Gen.FupRefIdeal.Read
public import proofs.«01_k».proof.Proof.Block

@[expose] public section

set_option maxRecDepth 16384

noncomputable section

/-! The product of rows with a weight, and the square of its positive part: the call's arrays are the reference's. -/
namespace Cert.FupIdeal.Call

open Idealize.ShloMosaic Cert.Block
open Cert.FupIdeal Cert.FupIdeal.Gen Idealize.ShloMosaic.TcCoe Idealize.ShloMosaic.Tactic Idealize.SL.Sem

theorem e0 : ∀ t : Fin cfg0.N, win0_0.index t = ![(grid0.coords t 0).val, 0] := (by decide +kernel : ∀ t : Fin grid0.N, _)
theorem e1 : ∀ t : Fin cfg0.N, win0_1.index t = ![0, (grid0.coords t 1).val] := (by decide +kernel : ∀ t : Fin grid0.N, _)
theorem e2 : ∀ t : Fin cfg0.N, win0_2.index t = ![(grid0.coords t 0).val, (grid0.coords t 1).val] := (by decide +kernel : ∀ t : Fin grid0.N, _)
theorem e3 : ∀ t : Fin cfg0.N, win0_3.index t = ![(grid0.coords t 0).val, (grid0.coords t 1).val] := (by decide +kernel : ∀ t : Fin grid0.N, _)

/-- The block product at an index. -/
theorem pay_at (a : Vec Ideal S704x2048 .bf16) (b : Vec Ideal S2048x2048 .bf16) (i : Fin 704) (j : Fin 2048) :
    k0_pay1 (F := Ideal) a b (ix2 i j) = (∑ k : Fin 2048, a (ix2 i k) * b (ix2 k j)) := by
  unfold k0_pay1
  pointwise

section
variable (m : (ℓ : Loc nD τ sig) → Buf (Elt Ideal) ℓ) (c : Dev nD) (t : Fin cfg0.N)

/-- The arguments. -/
abbrev a0 : (⟨S1x4112x2048, .f32⟩ : BufTy).Contents (Elt Ideal) := m ((c : Thread nD τ).loc main_arg0)
abbrev a1 : (⟨S2048x8192, .f32⟩ : BufTy).Contents (Elt Ideal) := m ((c : Thread nD τ).loc main_arg1)

theorem V_x (R : Fin 4224) (k : Fin 2048) : (V m c main_v2 : (⟨S4224x2048, .bf16⟩ : BufTy).Contents (Elt Ideal)) (ix2 R k) = held (a0 m c) R k := by
  have h : (V m c main_v2 : (⟨S4224x2048, .bf16⟩ : BufTy).Contents (Elt Ideal)) = truncf (F := Ideal) (φ := .f32) .bf16 (pad S4224x2048 ![0, 0] ![112, 0] ![0, 0] (shapeCast S4112x2048 (a0 m c) shapeCasts_S1x4112x2048_S4112x2048)
      (sitofp (F := Ideal) .f32 (constantI S_ 32 0#32)) pads_S4112x2048_S4224x2048_01120_000 h_S_) bitsLt_bf16_f32 := by
    simp only [V, hostOps0, hostOps0_1, hostOps0_2, List.flatten_cons, List.flatten_nil, List.append_nil, List.cons_append, List.nil_append]
    after_results
    rfl
  rw [h]
  exact held_at (a0 m c) shapeCasts_S1x4112x2048_S4112x2048 pads_S4112x2048_S4224x2048_01120_000 h_S_ R k

theorem V_w : (V m c main_v3 : (⟨S2048x8192, .bf16⟩ : BufTy).Contents (Elt Ideal)) = a1 m c := by
  simp only [V, hostOps0, hostOps0_1, hostOps0_2, List.flatten_cons, List.flatten_nil, List.append_nil, List.cons_append, List.nil_append]
  after_results
  rfl

/-- The array row of a block's row, and its column. -/
def row (i : Fin 704) : Fin 4224 := ⟨704 * (grid0.coords t 0).val + i.val, by have h : (grid0.coords t 0).val < 6 := (grid0.coords t 0).isLt; omega⟩
def col (j : Fin 2048) : Fin 8192 := ⟨2048 * (grid0.coords t 1).val + j.val, by have h : (grid0.coords t 1).val < 4 := (grid0.coords t 1).isLt; omega⟩

theorem blk0 (i : Fin 704) (k : Fin 2048) : iblk m c 0 t (ix2 i k) = held (a0 m c) (row t i) k := by
  refine Eq.trans ?_ (V_x m c (row t i) k)
  blk_simp [iblk]
  congr 1
  blk_ext [e0, row]

theorem blk1 (k : Fin 2048) (j : Fin 2048) : iblk m c 1 t (ix2 k j) = a1 m c (ix2 k (col t j)) := by
  refine Eq.trans ?_ (congrFun (V_w m c) (ix2 k (col t j)))
  blk_simp [iblk]
  congr 1
  blk_ext [e1, col]

/-- The block a point writes. -/
theorem pt (i : Fin 704) (j : Fin 2048) : out0_2 (F := Ideal) (iblk m c 0 t) (iblk m c 1 t) (ix2 i j)
    = (∑ k : Fin 2048, held (a0 m c) (row t i) k * a1 m c (ix2 k (col t j))) := by
  frame_out
  rw [pay_at]
  refine Finset.sum_congr rfl fun k _ => ?_
  rw [blk0 m c t i k, blk1 m c t k j]

/-- An array that holds these values is the call's result. -/
theorem arr (G : (⟨S4224x8192, .f32⟩ : BufTy).Contents (Elt Ideal))
    (hG : ∀ (R : Fin 4224) (j : Fin 8192), G (ix2 R j) = (∑ k : Fin 2048, held (a0 m c) R k * a1 m c (ix2 k j))) :
    (dats m 0 c).arrAt 2 cfg0.N = G := by
  refine (dats m 0 c).arrAt_eq_of_covers 2 G (by decide +kernel) fun t hf y => ?_
  blk_simp
  rw [after0_2]
  obtain ⟨i, j, rfl⟩ : ∃ (i : Fin 704) (j : Fin 2048), y = ix2 i j := ⟨y 0, y 1, eq_ix2 y⟩
  rw [pt m c t i j]
  refine (hG (row t i) (col t j)).symm.trans ?_
  congr 1
  blk_ext [e2, row, col]

/-- The reference's product at an index. -/
theorem ref_at (R : Fin 4112) (j : Fin 8192) : Cert.FupRefIdeal.Read.val_main_v0 (F := Ideal) (a0 m c) (a1 m c) (ix3 0 R j)
    = ∑ k : Fin 2048, a0 m c (ix3 0 R k) * a1 m c (ix2 k j) := by
  unfold Cert.FupRefIdeal.Read.val_main_v0
  pointwise

/-- The call's array is the reference's. -/
theorem out : (dats m 0 c).arrAt 2 cfg0.N = Cert.FupRefIdeal.Read.val_main_v2 (F := Ideal) (a0 m c) (a1 m c) :=
  arr m c _ fun R j => (held_at (Cert.FupRefIdeal.Read.val_main_v0 (F := Ideal) (a0 m c) (a1 m c)) Cert.FupRefIdeal.Gen.facts.shapeCasts_S1x4112x8192_S4112x8192
    Cert.FupRefIdeal.Gen.facts.pads_S4112x8192_S4224x8192_01120_000 Cert.FupRefIdeal.Gen.facts.h_S_ R j).trans
    (held_sum (a0 m c) (fun k => a1 m c (ix2 k j)) _ j (fun R => ref_at m c R j) R).symm

/-- The second result's block at an index. -/
theorem pay2_at (a : Vec Ideal S704x2048 .bf16) (b : Vec Ideal S2048x2048 .bf16) (i : Fin 704) (j : Fin 2048) :
    k0_pay2 (F := Ideal) a b (ix2 i j) = relu2 (k0_pay1 (F := Ideal) a b (ix2 i j)) := by
  unfold k0_pay2
  pointwise
  rfl

theorem pt2 (i : Fin 704) (j : Fin 2048) : out0_3 (F := Ideal) (iblk m c 0 t) (iblk m c 1 t) (ix2 i j)
    = relu2 (∑ k : Fin 2048, held (a0 m c) (row t i) k * a1 m c (ix2 k (col t j))) := by
  frame_out
  rw [pay2_at, pay_at]
  refine congrArg relu2 (Finset.sum_congr rfl fun k _ => ?_)
  rw [blk0 m c t i k, blk1 m c t k j]

/-- An array that holds these values is the call's result. -/
theorem arr2 (G : (⟨S4224x8192, .bf16⟩ : BufTy).Contents (Elt Ideal))
    (hG : ∀ (R : Fin 4224) (j : Fin 8192), G (ix2 R j) = relu2 (∑ k : Fin 2048, held (a0 m c) R k * a1 m c (ix2 k j))) :
    (dats m 0 c).arrAt 3 cfg0.N = G := by
  refine (dats m 0 c).arrAt_eq_of_covers 3 G (by decide +kernel) fun t hf y => ?_
  blk_simp
  rw [after0_3]
  obtain ⟨i, j, rfl⟩ : ∃ (i : Fin 704) (j : Fin 2048), y = ix2 i j := ⟨y 0, y 1, eq_ix2 y⟩
  rw [pt2 m c t i j]
  refine (hG (row t i) (col t j)).symm.trans ?_
  congr 1
  blk_ext [e3, row, col]

theorem relu2_at (R : Fin 4112) (j : Fin 8192) : Cert.FupRefIdeal.Read.val_main_v4 (F := Ideal) (a0 m c) (a1 m c) (ix3 0 R j)
    = relu2 (Cert.FupRefIdeal.Read.val_main_v0 (F := Ideal) (a0 m c) (a1 m c) (ix3 0 R j)) := by
  unfold Cert.FupRefIdeal.Read.val_main_v4 Cert.FupRefIdeal.Read.val_main_v3 Cert.FupRefIdeal.Read.val_main_call1_v0 Cert.FupRefIdeal.Read.val_main_call1_cst
  pointwise
  rfl

/-- The call's second array is the reference's. -/
theorem out2 : (dats m 0 c).arrAt 3 cfg0.N = Cert.FupRefIdeal.Read.val_main_v7 (F := Ideal) (a0 m c) (a1 m c) :=
  arr2 m c _ fun R j => (held_at (Cert.FupRefIdeal.Read.val_main_v4 (F := Ideal) (a0 m c) (a1 m c)) Cert.FupRefIdeal.Gen.facts.shapeCasts_S1x4112x8192_S4112x8192
    Cert.FupRefIdeal.Gen.facts.pads_S4112x8192_S4224x8192_01120_000 Cert.FupRefIdeal.Gen.facts.h_S_ R j).trans
    ((held_map relu2 relu2_zero (Cert.FupRefIdeal.Read.val_main_v0 (F := Ideal) (a0 m c) (a1 m c)) _ j (fun R => relu2_at m c R j) R).trans
      (congrArg relu2 (held_sum (a0 m c) (fun k => a1 m c (ix2 k j)) _ j (fun R => ref_at m c R j) R).symm))

end
end Cert.FupIdeal.Call
end
-- ==== Proof.MixCall.lean ====
module

public import proofs.«01_k».proof.Proof.Gen.Mix
public import proofs.«01_k».proof.Proof.Gen.Mix.Frame
public import proofs.«01_k».proof.Proof.Gen.MixIdeal
public import proofs.«01_k».proof.Proof.Gen.MixIdeal.Value
public import proofs.«01_k».proof.Proof.Gen.MixRefIdeal
public import proofs.«01_k».proof.Proof.Gen.MixRefIdeal.Run
public import proofs.«01_k».proof.Proof.Gen.MixRefIdeal.Read
public import proofs.«01_k».proof.Proof.Block

@[expose] public section

set_option maxRecDepth 16384

noncomputable section

/-! The branches merged by their gates: the call's array is the reference's. -/
namespace Cert.MixIdeal.Call

open Idealize.ShloMosaic Cert.Block
open Cert.MixIdeal Cert.MixIdeal.Gen Idealize.ShloMosaic.TcCoe Idealize.ShloMosaic.Tactic Idealize.SL.Sem

theorem e0 : ∀ t : Fin cfg0.N, win0_0.index t = ![(grid0.coords t 0).val, (grid0.coords t 1).val] := (by decide +kernel : ∀ t : Fin grid0.N, _)
theorem e1 : ∀ t : Fin cfg0.N, win0_1.index t = ![(grid0.coords t 0).val, 4 + (grid0.coords t 1).val] := (by decide +kernel : ∀ t : Fin grid0.N, _)
theorem e2 : ∀ t : Fin cfg0.N, win0_2.index t = ![(grid0.coords t 0).val, 8 + (grid0.coords t 1).val] := (by decide +kernel : ∀ t : Fin grid0.N, _)
theorem e3 : ∀ t : Fin cfg0.N, win0_3.index t = ![(grid0.coords t 0).val, (grid0.coords t 1).val] := (by decide +kernel : ∀ t : Fin grid0.N, _)
theorem e4 : ∀ t : Fin cfg0.N, win0_4.index t = ![(grid0.coords t 0).val, (grid0.coords t 1).val] := (by decide +kernel : ∀ t : Fin grid0.N, _)
theorem e5 : ∀ t : Fin cfg0.N, win0_5.index t = ![(grid0.coords t 0).val, (grid0.coords t 1).val] := (by decide +kernel : ∀ t : Fin grid0.N, _)
theorem e6 : ∀ t : Fin cfg0.N, win0_6.index t = ![(grid0.coords t 0).val, (grid0.coords t 1).val] := (by decide +kernel : ∀ t : Fin grid0.N, _)

/-- A gate of its logit, as the kernel writes it. -/
def sg (x : EReal) : EReal := Ideal.div 1 (1 + Ideal.exp (0 - x))

theorem pay3_at (g y : Vec Ideal S384x512 .f32) (i : Fin 384) (j : Fin 512) : k0_pay3 (F := Ideal) g y (ix2 i j) = sg (g (ix2 i j)) * y (ix2 i j) := by
  unfold k0_pay3
  pointwise
  rfl

theorem pay2_at (g y h z : Vec Ideal S384x512 .f32) (i : Fin 384) (j : Fin 512) : k0_pay2 (F := Ideal) g y h z (ix2 i j) = sg (g (ix2 i j)) * y (ix2 i j) + sg (h (ix2 i j)) * z (ix2 i j) := by
  unfold k0_pay2
  pointwise
  rfl

theorem pay1_at (a b : FVec Ideal S384x512 .f32) (i : Fin 384) (j : Fin 512) : k0_pay1 (F := Ideal) a b (ix2 i j) = a (ix2 i j) + b (ix2 i j) := by
  unfold k0_pay1
  pointwise
  try rfl

/-! ## The reference -/
section
variable (x0 : (⟨S1x4112x6144, .f32⟩ : BufTy).Contents (Elt Ideal)) (x1 x2 x3 : (⟨S1x4112x2048, .f32⟩ : BufTy).Contents (Elt Ideal))

/-- A gate's column among the logits. -/
abbrev gc (k : Fin 3) (j : Fin 2048) : Fin 6144 := ⟨2048 * k.val + j.val, by omega⟩

theorem ref5 (R : Fin 4112) (j : Fin 6144) : Cert.MixRefIdeal.Read.val_main_v5 (F := Ideal) x0 (ix3 0 R j) = sg (x0 (ix3 0 R j)) := by
  unfold Cert.MixRefIdeal.Read.val_main_v5 Cert.MixRefIdeal.Read.val_main_v4 Cert.MixRefIdeal.Read.val_main_cst_0 Cert.MixRefIdeal.Read.val_main_v3 Cert.MixRefIdeal.Read.val_main_v2 Cert.MixRefIdeal.Read.val_main_cst Cert.MixRefIdeal.Read.val_main_v1 Cert.MixRefIdeal.Read.val_main_v0
  pointwise
  unfold sg
  rw [zero_sub]

theorem ref6 (R : Fin 4112) (k : Fin 3) (j : Fin 2048) : Cert.MixRefIdeal.Read.val_main_v6 (F := Ideal) x0 (ix4 0 R k j) = sg (x0 (ix3 0 R (gc k j))) := by
  rw [← ref5]
  refine shapeCast_apply _ Cert.MixRefIdeal.Gen.facts.shapeCasts_S1x4112x6144_S1x4112x3x2048 (ix4 0 R k j) (ix3 0 R (gc k j)) ?_
  rw [Shape.rowMajor_val_three, Shape.rowMajor_val_four]
  show (0 * 4112 + R.val) * 6144 + (2048 * k.val + j.val) = ((0 * 4112 + R.val) * 3 + k.val) * 2048 + j.val
  omega

/-- The one branch of an array with a branch axis of one. -/
theorem one_at (y : (⟨Cert.MixRefIdeal.S1x4112x1x2048, .f32⟩ : BufTy).Contents (Elt Ideal)) (h : Cert.MixRefIdeal.S1x4112x1x2048.ShapeCasts S1x4112x2048) (R : Fin 4112) (j : Fin 2048) :
    shapeCast S1x4112x2048 y h (ix3 0 R j) = y (ix4 0 R 0 j) := by
  refine shapeCast_apply y h (ix3 0 R j) (ix4 0 R 0 j) ?_
  rw [Shape.rowMajor_val_three, Shape.rowMajor_val_four]
  show ((0 * 4112 + R.val) * 1 + 0) * 2048 + j.val = (0 * 4112 + R.val) * 2048 + j.val
  omega

theorem gate0 (R : Fin 4112) (j : Fin 2048) : Cert.MixRefIdeal.Read.val_main_v8 (F := Ideal) x0 (ix3 0 R j) = sg (x0 (ix3 0 R (gc 0 j))) := by
  refine (one_at (Cert.MixRefIdeal.Read.val_main_v7 (F := Ideal) x0) Cert.MixRefIdeal.Gen.facts.shapeCasts_S1x4112x1x2048_S1x4112x2048 R j).trans ((Eq.trans ?_ (ref6 x0 R 0 j)))
  rw [Cert.MixRefIdeal.Read.val_main_v7_apply]
  congr 1
  funext a
  match a with
  | ⟨0, _⟩ => rfl
  | ⟨1, _⟩ => rfl
  | ⟨2, _⟩ => rfl
  | ⟨3, _⟩ => rfl

theorem gate1 (R : Fin 4112) (j : Fin 2048) : Cert.MixRefIdeal.Read.val_main_v11 (F := Ideal) x0 (ix3 0 R j) = sg (x0 (ix3 0 R (gc 1 j))) := by
  refine (one_at (Cert.MixRefIdeal.Read.val_main_v10 (F := Ideal) x0) Cert.MixRefIdeal.Gen.facts.shapeCasts_S1x4112x1x2048_S1x4112x2048 R j).trans ((Eq.trans ?_ (ref6 x0 R 1 j)))
  rw [Cert.MixRefIdeal.Read.val_main_v10_apply]
  congr 1
  funext a
  match a with
  | ⟨0, _⟩ => rfl
  | ⟨1, _⟩ => rfl
  | ⟨2, _⟩ => rfl
  | ⟨3, _⟩ => rfl

theorem gate2 (R : Fin 4112) (j : Fin 2048) : Cert.MixRefIdeal.Read.val_main_v15 (F := Ideal) x0 (ix3 0 R j) = sg (x0 (ix3 0 R (gc 2 j))) := by
  refine (one_at (Cert.MixRefIdeal.Read.val_main_v14 (F := Ideal) x0) Cert.MixRefIdeal.Gen.facts.shapeCasts_S1x4112x1x2048_S1x4112x2048 R j).trans ((Eq.trans ?_ (ref6 x0 R 2 j)))
  rw [Cert.MixRefIdeal.Read.val_main_v14_apply]
  congr 1
  funext a
  match a with
  | ⟨0, _⟩ => rfl
  | ⟨1, _⟩ => rfl
  | ⟨2, _⟩ => rfl
  | ⟨3, _⟩ => rfl

theorem merged_at (R : Fin 4112) (j : Fin 2048) : Cert.MixRefIdeal.Read.val_main_v17 (F := Ideal) x0 x1 x2 x3 (ix3 0 R j)
    = sg (x0 (ix3 0 R (gc 0 j))) * x1 (ix3 0 R j) + sg (x0 (ix3 0 R (gc 1 j))) * x2 (ix3 0 R j) + sg (x0 (ix3 0 R (gc 2 j))) * x3 (ix3 0 R j) := by
  rw [Cert.MixRefIdeal.Read.val_main_v17_apply, Cert.MixRefIdeal.Read.val_main_v13_apply, Cert.MixRefIdeal.Read.val_main_v9_apply, Cert.MixRefIdeal.Read.val_main_v12_apply, Cert.MixRefIdeal.Read.val_main_v16_apply,
    gate0, gate1, gate2]
  rfl

end

/-! ## The kernel -/
section
variable (m : (ℓ : Loc nD τ sig) → Buf (Elt Ideal) ℓ) (c : Dev nD) (t : Fin cfg0.N)

/-- The arguments. -/
abbrev a0 : (⟨S1x4112x6144, .f32⟩ : BufTy).Contents (Elt Ideal) := m ((c : Thread nD τ).loc main_arg0)
abbrev a1 : (⟨S1x4112x2048, .f32⟩ : BufTy).Contents (Elt Ideal) := m ((c : Thread nD τ).loc main_arg1)
abbrev a2 : (⟨S1x4112x2048, .f32⟩ : BufTy).Contents (Elt Ideal) := m ((c : Thread nD τ).loc main_arg2)
abbrev a3 : (⟨S1x4112x2048, .f32⟩ : BufTy).Contents (Elt Ideal) := m ((c : Thread nD τ).loc main_arg3)

theorem V_y0 (R : Fin 4224) (k : Fin 2048) : (V m c main_v3 : (⟨S4224x2048, .f32⟩ : BufTy).Contents (Elt Ideal)) (ix2 R k) = held (a1 m c) R k := by
  have h : (V m c main_v3 : (⟨S4224x2048, .f32⟩ : BufTy).Contents (Elt Ideal)) = pad S4224x2048 ![0, 0] ![112, 0] ![0, 0] (shapeCast S4112x2048 (a1 m c) shapeCasts_S1x4112x2048_S4112x2048)
      (sitofp (F := Ideal) .f32 (constantI S_ 32 0#32)) pads_S4112x2048_S4224x2048_01120_000 h_S_ := by
    simp only [V, hostOps0, hostOps0_1, hostOps0_2, hostOps0_3, hostOps0_4, hostOps0_5, hostOps0_6, hostOps0_7, List.flatten_cons, List.flatten_nil, List.append_nil, List.cons_append, List.nil_append]
    after_results
    rfl
  rw [h]
  exact held_at (a1 m c) shapeCasts_S1x4112x2048_S4112x2048 pads_S4112x2048_S4224x2048_01120_000 h_S_ R k

theorem V_y1 (R : Fin 4224) (k : Fin 2048) : (V m c main_v5 : (⟨S4224x2048, .f32⟩ : BufTy).Contents (Elt Ideal)) (ix2 R k) = held (a2 m c) R k := by
  have h : (V m c main_v5 : (⟨S4224x2048, .f32⟩ : BufTy).Contents (Elt Ideal)) = pad S4224x2048 ![0, 0] ![112, 0] ![0, 0] (shapeCast S4112x2048 (a2 m c) shapeCasts_S1x4112x2048_S4112x2048)
      (sitofp (F := Ideal) .f32 (constantI S_ 32 0#32)) pads_S4112x2048_S4224x2048_01120_000 h_S_ := by
    simp only [V, hostOps0, hostOps0_1, hostOps0_2, hostOps0_3, hostOps0_4, hostOps0_5, hostOps0_6, hostOps0_7, List.flatten_cons, List.flatten_nil, List.append_nil, List.cons_append, List.nil_append]
    after_results
    rfl
  rw [h]
  exact held_at (a2 m c) shapeCasts_S1x4112x2048_S4112x2048 pads_S4112x2048_S4224x2048_01120_000 h_S_ R k

theorem V_y2 (R : Fin 4224) (k : Fin 2048) : (V m c main_v7 : (⟨S4224x2048, .f32⟩ : BufTy).Contents (Elt Ideal)) (ix2 R k) = held (a3 m c) R k := by
  have h : (V m c main_v7 : (⟨S4224x2048, .f32⟩ : BufTy).Contents (Elt Ideal)) = pad S4224x2048 ![0, 0] ![112, 0] ![0, 0] (shapeCast S4112x2048 (a3 m c) shapeCasts_S1x4112x2048_S4112x2048)
      (sitofp (F := Ideal) .f32 (constantI S_ 32 0#32)) pads_S4112x2048_S4224x2048_01120_000 h_S_ := by
    simp only [V, hostOps0, hostOps0_1, hostOps0_2, hostOps0_3, hostOps0_4, hostOps0_5, hostOps0_6, hostOps0_7, List.flatten_cons, List.flatten_nil, List.append_nil, List.cons_append, List.nil_append]
    after_results
    rfl
  rw [h]
  exact held_at (a3 m c) shapeCasts_S1x4112x2048_S4112x2048 pads_S4112x2048_S4224x2048_01120_000 h_S_ R k

/-- The logits' column as the call's array of them holds it. -/
abbrev gw (j : Fin 6144) : Fin 11520 := ⟨j.val, by omega⟩

/-- The logits on a row that is not padding. -/
theorem V_g (R : Fin 4112) (j : Fin 6144) : (V m c main_v1 : (⟨S4224x11520, .f32⟩ : BufTy).Contents (Elt Ideal)) (ix2 ⟨R.val, by omega⟩ (gw j)) = a0 m c (ix3 0 R j) := by
  have h : (V m c main_v1 : (⟨S4224x11520, .f32⟩ : BufTy).Contents (Elt Ideal)) = pad S4224x11520 ![0, 0] ![112, 5376] ![0, 0] (shapeCast S4112x6144 (a0 m c) shapeCasts_S1x4112x6144_S4112x6144)
      (sitofp (F := Ideal) .f32 (constantI S_ 32 0#32)) pads_S4112x6144_S4224x11520_01120_053760 h_S_ := by
    simp only [V, hostOps0, hostOps0_1, hostOps0_2, hostOps0_3, hostOps0_4, hostOps0_5, hostOps0_6, hostOps0_7, List.flatten_cons, List.flatten_nil, List.append_nil, List.cons_append, List.nil_append]
    after_results
    rfl
  rw [h]
  refine (pad_apply_of_inside _ _ _ _ _ _ _ _ (ix2 R j) (fun a => match a with
      | ⟨0, _⟩ => show R.val = 0 + R.val * 1 by omega
      | ⟨1, _⟩ => show j.val = 0 + j.val * 1 by omega)).trans ?_
  exact flat_at (a0 m c) shapeCasts_S1x4112x6144_S4112x6144 R j

/-- The array row of a block's row, and its column. -/
def row (i : Fin 384) : Fin 4224 := ⟨384 * (grid0.coords t 0).val + i.val, by have h : (grid0.coords t 0).val < 11 := (grid0.coords t 0).isLt; omega⟩
def col (j : Fin 512) : Fin 2048 := ⟨512 * (grid0.coords t 1).val + j.val, by have h : (grid0.coords t 1).val < 4 := (grid0.coords t 1).isLt; omega⟩

theorem blk0 (i : Fin 384) (j : Fin 512) : X0_0 m c t (ix2 i j) = V m c main_v1 (ix2 (row t i) (gw (gc 0 (col t j)))) := by
  unfold X0_0 Pipeline.Window.fill
  rw [dif_pos (moved0_0 t _)]
  blk_simp [iblk]
  congr 1
  blk_ext [e0, row, col]

theorem blk1 (i : Fin 384) (j : Fin 512) : X0_1 m c t (ix2 i j) = V m c main_v1 (ix2 (row t i) (gw (gc 1 (col t j)))) := by
  unfold X0_1 Pipeline.Window.fill
  rw [dif_pos (moved0_1 t _)]
  blk_simp [iblk]
  congr 1
  blk_ext [e1, row, col]

theorem blk2 (i : Fin 384) (j : Fin 512) : X0_2 m c t (ix2 i j) = V m c main_v1 (ix2 (row t i) (gw (gc 2 (col t j)))) := by
  unfold X0_2 Pipeline.Window.fill
  rw [dif_pos (moved0_2 t _)]
  blk_simp [iblk]
  congr 1
  blk_ext [e2, row, col]

theorem blk3 (i : Fin 384) (j : Fin 512) : iblk m c 3 t (ix2 i j) = held (a1 m c) (row t i) (col t j) := by
  refine Eq.trans ?_ (V_y0 m c (row t i) (col t j))
  blk_simp [iblk]
  congr 1
  blk_ext [e3, row, col]

theorem blk4 (i : Fin 384) (j : Fin 512) : iblk m c 4 t (ix2 i j) = held (a2 m c) (row t i) (col t j) := by
  refine Eq.trans ?_ (V_y1 m c (row t i) (col t j))
  blk_simp [iblk]
  congr 1
  blk_ext [e4, row, col]

theorem blk5 (i : Fin 384) (j : Fin 512) : iblk m c 5 t (ix2 i j) = held (a3 m c) (row t i) (col t j) := by
  refine Eq.trans ?_ (V_y2 m c (row t i) (col t j))
  blk_simp [iblk]
  congr 1
  blk_ext [e5, row, col]

/-- Where the row is padding the branches are zero; elsewhere the gates are that row's. -/
theorem gated (z : (⟨3, ![1, 4112, 2048]⟩ : Shape).Idx → EReal) (j : Fin 2048)
    (hz : ∀ R : Fin 4112, z (ix3 (0 : Fin 1) R j) = sg (a0 m c (ix3 0 R (gc 0 j))) * a1 m c (ix3 0 R j) + sg (a0 m c (ix3 0 R (gc 1 j))) * a2 m c (ix3 0 R j) + sg (a0 m c (ix3 0 R (gc 2 j))) * a3 m c (ix3 0 R j)) (R : Fin 4224) :
    held z R j = sg (V m c main_v1 (ix2 R (gw (gc 0 j)))) * held (a1 m c) R j + sg (V m c main_v1 (ix2 R (gw (gc 1 j)))) * held (a2 m c) R j + sg (V m c main_v1 (ix2 R (gw (gc 2 j)))) * held (a3 m c) R j := by
  by_cases h : R.val < 4112
  · have hv := fun k => V_g m c ⟨R.val, h⟩ (gc k j)
    unfold held
    rw [dif_pos h, dif_pos h, dif_pos h, dif_pos h, hz, ← hv 0, ← hv 1, ← hv 2]
  · unfold held
    rw [dif_neg h, dif_neg h, dif_neg h, dif_neg h, mul_zero, mul_zero, mul_zero, add_zero, add_zero]

theorem pt6 (i : Fin 384) (j : Fin 512) : out0_A_6 (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (X0_0 m c t) (X0_1 m c t) (X0_2 m c t) (iblk m c 3 t) (iblk m c 4 t) (iblk m c 5 t) (ix2 i j)
    = sg (V m c main_v1 (ix2 (row t i) (gw (gc 0 (col t j))))) * held (a1 m c) (row t i) (col t j) + sg (V m c main_v1 (ix2 (row t i) (gw (gc 1 (col t j))))) * held (a2 m c) (row t i) (col t j) + sg (V m c main_v1 (ix2 (row t i) (gw (gc 2 (col t j))))) * held (a3 m c) (row t i) (col t j) := by
  frame_out
  rw [pay1_at, pay2_at, pay3_at, blk0 m c t i j, blk1 m c t i j, blk2 m c t i j, blk3 m c t i j, blk4 m c t i j, blk5 m c t i j]

/-- An array that holds these values is the call's result. -/
theorem arr6 (G : (⟨S4224x2048, .bf16⟩ : BufTy).Contents (Elt Ideal))
    (hG : ∀ (R : Fin 4224) (j : Fin 2048), G (ix2 R j) = sg (V m c main_v1 (ix2 R (gw (gc 0 j)))) * held (a1 m c) R j + sg (V m c main_v1 (ix2 R (gw (gc 1 j)))) * held (a2 m c) R j + sg (V m c main_v1 (ix2 R (gw (gc 2 j)))) * held (a3 m c) R j) :
    (dats m 0 c).arrAt 6 cfg0.N = G := by
  refine (dats m 0 c).arrAt_eq_of_covers 6 G (by decide +kernel) fun t hf y => ?_
  blk_simp
  rw [after0_6]
  simp only [outsAt0]
  obtain ⟨i, j, rfl⟩ : ∃ (i : Fin 384) (j : Fin 512), y = ix2 i j := ⟨y 0, y 1, eq_ix2 y⟩
  rw [pt6 m c t i j]
  refine (hG (row t i) (col t j)).symm.trans ?_
  congr 1
  blk_ext [e6, row, col]

theorem out6 : (dats m 0 c).arrAt 6 cfg0.N = Cert.MixRefIdeal.Read.val_main_v20 (F := Ideal) (a0 m c) (a1 m c) (a2 m c) (a3 m c) :=
  arr6 m c _ fun R j => (held_at (Cert.MixRefIdeal.Read.val_main_v17 (F := Ideal) (a0 m c) (a1 m c) (a2 m c) (a3 m c)) Cert.MixRefIdeal.Gen.facts.shapeCasts_S1x4112x2048_S4112x2048
    Cert.MixRefIdeal.Gen.facts.pads_S4112x2048_S4224x2048_01120_000 Cert.MixRefIdeal.Gen.facts.h_S_ R j).trans
    (gated m c _ j (fun R => merged_at (a0 m c) (a1 m c) (a2 m c) (a3 m c) R j) R)

end

end Cert.MixIdeal.Call

end
-- ==== Proof.NormCall.lean ====
module

public import proofs.«01_k».proof.Proof.Gen.Norm
public import proofs.«01_k».proof.Proof.Gen.Norm.Frame
public import proofs.«01_k».proof.Proof.Gen.NormIdeal
public import proofs.«01_k».proof.Proof.Gen.NormIdeal.Value
public import proofs.«01_k».proof.Proof.Gen.NormRefIdeal
public import proofs.«01_k».proof.Proof.Gen.NormRefIdeal.Run
public import proofs.«01_k».proof.Proof.Gen.NormRefIdeal.Read
public import proofs.«01_k».proof.Proof.Block
public import proofs.«01_k».proof.Proof.Tile

@[expose] public section

set_option maxRecDepth 16384

noncomputable section

/-! The norm of the residual stream's rows: the call's array is the reference's. -/
namespace Cert.NormIdeal.Call

open Idealize.ShloMosaic Cert.Block
open Cert.NormIdeal Cert.NormIdeal.Gen Idealize.ShloMosaic.TcCoe Idealize.ShloMosaic.Tactic Idealize.SL.Sem

theorem e0 : ∀ t : Fin cfg0.N, win0_0.index t = ![(grid0.coords t 0).val, 0] := (by decide +kernel : ∀ t : Fin grid0.N, _)
theorem e1 : ∀ t : Fin cfg0.N, win0_1.index t = ![0, 0] := (by decide +kernel : ∀ t : Fin grid0.N, _)
theorem e2 : ∀ t : Fin cfg0.N, win0_2.index t = ![(grid0.coords t 0).val, 0] := (by decide +kernel : ∀ t : Fin grid0.N, _)

/-- What a row is scaled by, of the sum of its squares. -/
def rf (s : EReal) : EReal := Ideal.rsqrt (Ideal.div s (Ideal.ofBits .f32 0x45000000#32) + Ideal.ofBits .f32 0x358637BD#32)

theorem lift_at (i : Fin 384) (k : Fin 2048) : reduces_S384x2048_S384.lift (ix1 i) k = ix2 i k := by
  funext a
  match a with
  | ⟨0, _⟩ => rfl
  | ⟨1, _⟩ => rfl

theorem sum_at (p : FVec Ideal S384x2048 .f32) (i : Fin 384) :
    multiReduction .add [1] S384 p 0x00000000#32 reduces_S384x2048_S384 (.inl rfl) rfl (ix1 i) = ∑ k : Fin 2048, p (ix2 i k) :=
  (Ideal.multiReduction_add_single p _ reduces_S384x2048_S384 (.inl rfl) rfl (ix1 i)).trans (Finset.sum_congr rfl fun k _ => congrArg p (lift_at i k))

theorem same (x : Vec Ideal S384x2048 .f32) (i : Fin 384) (k : Fin 2048) : shapeCast S384x2048 x shapeCasts_S384x2048_S384x2048 (ix2 i k) = x (ix2 i k) :=
  shapeCast_apply x shapeCasts_S384x2048_S384x2048 (ix2 i k) (ix2 i k) rfl

/-- The body at an index of its block. -/
theorem pay_at (x : Vec Ideal S384x2048 .f32) (g : Vec Ideal S1x2048 .f32) (i : Fin 384) (k : Fin 2048) :
    k0_pay1 (F := Ideal) x g (ix2 i k) = x (ix2 i k) * rf (∑ j : Fin 2048, x (ix2 i j) * x (ix2 i j)) * g (ix2 0 k) := by
  refine (Cert.NormIdeal.Value.piece2_0 x g (ix2 i k)).trans ?_
  have h : r0_0.idx (ix2 i k) = ix2 i k := funext fun a => Fin.ext (match a with
    | ⟨0, _⟩ => show 0 + 1 * i.val = i.val by omega
    | ⟨1, _⟩ => show 0 + 1 * k.val = k.val by omega)
  rw [h]
  have h0 : Cert.NormIdeal.Value.ix2_0 (ix2 i k) = ix2 i k := funext fun a => match a with
    | ⟨0, _⟩ => rfl
    | ⟨1, _⟩ => rfl
  have h1 : Cert.NormIdeal.Value.ix2_1 (ix2 i k) = ix1 i := funext fun a => match a with
    | ⟨0, _⟩ => rfl
  have h2 : Cert.NormIdeal.Value.ix2_2 (ix2 i k) = ix2 0 k := funext fun a => match a with
    | ⟨0, _⟩ => rfl
    | ⟨1, _⟩ => rfl
  have hs := (sum_at (mulf (shapeCast S384x2048 x shapeCasts_S384x2048_S384x2048) (shapeCast S384x2048 x shapeCasts_S384x2048_S384x2048)) i).trans
    (Finset.sum_congr rfl fun j _ => congrArg₂ (fun a b : EReal => a * b) (same x i j) (same x i j))
  dsimp only [Cert.NormIdeal.Value.E2]
  rw [h0, h1, h2, hs]
  rfl

section
variable (m : (ℓ : Loc nD τ sig) → Buf (Elt Ideal) ℓ) (c : Dev nD) (t : Fin cfg0.N)

/-- The arguments. -/
abbrev a0 : (⟨S1x4112x2048, .f32⟩ : BufTy).Contents (Elt Ideal) := m ((c : Thread nD τ).loc main_arg0)
abbrev a1 : (⟨S2048, .f32⟩ : BufTy).Contents (Elt Ideal) := m ((c : Thread nD τ).loc main_arg1)

theorem V_x (R : Fin 4224) (k : Fin 2048) : (V m c main_v1 : (⟨S4224x2048, .f32⟩ : BufTy).Contents (Elt Ideal)) (ix2 R k) = held (a0 m c) R k := by
  have h : (V m c main_v1 : (⟨S4224x2048, .f32⟩ : BufTy).Contents (Elt Ideal)) = pad S4224x2048 ![0, 0] ![112, 0] ![0, 0] (shapeCast S4112x2048 (a0 m c) shapeCasts_S1x4112x2048_S4112x2048)
      (sitofp (F := Ideal) .f32 (constantI S_ 32 0#32)) pads_S4112x2048_S4224x2048_01120_000 h_S_ := by
    simp only [V, hostOps0, hostOps0_1, hostOps0_2, List.flatten_cons, List.flatten_nil, List.append_nil, List.cons_append, List.nil_append]
    after_results
    rfl
  rw [h]
  exact held_at (a0 m c) shapeCasts_S1x4112x2048_S4112x2048 pads_S4112x2048_S4224x2048_01120_000 h_S_ R k

theorem V_g (k : Fin 2048) : (V m c main_v2 : (⟨S1x2048, .f32⟩ : BufTy).Contents (Elt Ideal)) (ix2 0 k) = a1 m c (ix1 k) := by
  have h : (V m c main_v2 : (⟨S1x2048, .f32⟩ : BufTy).Contents (Elt Ideal)) = shapeCast S1x2048 (a1 m c) shapeCasts_S2048_S1x2048 := by
    simp only [V, hostOps0, hostOps0_1, hostOps0_2, List.flatten_cons, List.flatten_nil, List.append_nil, List.cons_append, List.nil_append]
    after_results
    rfl
  rw [h]
  refine shapeCast_apply (a1 m c) shapeCasts_S2048_S1x2048 (ix2 0 k) (ix1 k) ?_
  rw [Shape.rowMajor_val_one, Shape.rowMajor_val_two]
  show k.val = 0 * 2048 + k.val
  omega

/-- The array row of a block's row. -/
def row (i : Fin 384) : Fin 4224 := ⟨384 * (grid0.coords t 0).val + i.val, by have h : (grid0.coords t 0).val < 11 := (grid0.coords t 0).isLt; omega⟩

theorem blk0 (i : Fin 384) (k : Fin 2048) : iblk m c 0 t (ix2 i k) = held (a0 m c) (row t i) k := by
  refine Eq.trans ?_ (V_x m c (row t i) k)
  blk_simp [iblk]
  congr 1
  blk_ext [e0, row]

theorem blk1 (k : Fin 2048) : iblk m c 1 t (ix2 0 k) = a1 m c (ix1 k) := by
  refine Eq.trans ?_ (V_g m c k)
  blk_simp [iblk]
  congr 1
  blk_ext [e1]

/-- A row's entry of the result. -/
abbrev nrm (R : Fin 4224) (k : Fin 2048) : EReal :=
  held (a0 m c) R k * rf (∑ j : Fin 2048, held (a0 m c) R j * held (a0 m c) R j) * a1 m c (ix1 k)

/-- The block a point writes. -/
theorem pt (i : Fin 384) (k : Fin 2048) : out0_2 (F := Ideal) (iblk m c 0 t) (iblk m c 1 t) (ix2 i k) = nrm m c (row t i) k := by
  frame_out
  rw [pay_at]
  simp only [blk0 m c t, blk1 m c t]

/-- An array that holds these values is the call's result. -/
theorem arr (G : (⟨S4224x2048, .bf16⟩ : BufTy).Contents (Elt Ideal)) (hG : ∀ (R : Fin 4224) (k : Fin 2048), G (ix2 R k) = nrm m c R k) :
    (dats m 0 c).arrAt 2 cfg0.N = G := by
  refine (dats m 0 c).arrAt_eq_of_covers 2 G (by decide +kernel) fun t hf y => ?_
  blk_simp
  rw [after0_2]
  obtain ⟨i, k, rfl⟩ : ∃ (i : Fin 384) (k : Fin 2048), y = ix2 i k := ⟨y 0, y 1, eq_ix2 y⟩
  rw [pt m c t i k]
  refine (hG (row t i) k).symm.trans ?_
  congr 1
  blk_ext [e2, row]

/-- The reference at an index. -/
theorem ref_at (R : Fin 4112) (k : Fin 2048) : Cert.NormRefIdeal.Read.val_main_v12 (F := Ideal) (a0 m c) (a1 m c) (ix3 0 R k)
    = a0 m c (ix3 0 R k) * rf (∑ j : Fin 2048, a0 m c (ix3 0 R j) * a0 m c (ix3 0 R j)) * a1 m c (ix1 k) := by
  open Cert.NormRefIdeal.Read in
  rw [val_main_v12_apply, val_main_v9_apply, val_main_v8_apply, val_main_v7_apply, val_main_v6_apply, val_main_v4_apply, val_main_v2_apply, val_main_v1_apply,
    val_main_v3_apply, val_main_v5_apply, val_main_v11_apply, val_main_v10_apply]
  show a0 m c (ix3 0 R k) * rf (Ideal.ofBits .f32 0x00000000#32 + ∑ j : Fin 2048, _) * _ = _
  rw [Cert.KernelIdeal.Tile.zeroW, zero_add]
  have hg : Cert.NormRefIdeal.Read.idx_main_v10 (Cert.NormRefIdeal.Read.idx_main_v11 (ix3 0 R k)) = ix1 k := funext fun a => match a with
    | ⟨0, _⟩ => rfl
  rw [hg]
  have hx : ∀ j : Fin 2048, Cert.NormRefIdeal.Read.idx_main_v1 (Cert.NormRefIdeal.Read.idx_main_v2 (Cert.NormRefIdeal.Read.idx_main_v8 (ix3 0 R k))) j = ix3 0 R j := fun j => funext fun a => match a with
    | ⟨0, _⟩ => rfl
    | ⟨1, _⟩ => rfl
    | ⟨2, _⟩ => rfl
  simp only [Cert.NormRefIdeal.Read.val_main_v0_apply, hx]
  rfl

/-- The padding rows are zero in both. -/
theorem rows_at (z : (⟨3, ![1, 4112, 2048]⟩ : Shape).Idx → EReal) (k : Fin 2048)
    (hz : ∀ R : Fin 4112, z (ix3 (0 : Fin 1) R k) = a0 m c (ix3 0 R k) * rf (∑ j : Fin 2048, a0 m c (ix3 0 R j) * a0 m c (ix3 0 R j)) * a1 m c (ix1 k)) (R : Fin 4224) :
    held z R k = nrm m c R k := by
  unfold nrm held
  by_cases h : R.val < 4112
  · simp only [dif_pos h]
    exact hz _
  · simp only [dif_neg h]
    rw [zero_mul, zero_mul]

/-- The call's array is the reference's. -/
theorem out : (dats m 0 c).arrAt 2 cfg0.N = Cert.NormRefIdeal.Read.val_main_v15 (F := Ideal) (a0 m c) (a1 m c) :=
  arr m c _ fun R k => (held_at (Cert.NormRefIdeal.Read.val_main_v12 (F := Ideal) (a0 m c) (a1 m c)) Cert.NormRefIdeal.Gen.facts.shapeCasts_S1x4112x2048_S4112x2048
    Cert.NormRefIdeal.Gen.facts.pads_S4112x2048_S4224x2048_01120_000 Cert.NormRefIdeal.Gen.facts.h_S_ R k).trans
    (rows_at m c _ k (fun R => ref_at m c R k) R)

end
end Cert.NormIdeal.Call
end
-- ==== Proof.Online.lean ====
module

public import proofs.«01_k».proof.Proof.Rows

@[expose] public section

noncomputable section

/-! The softmax of a row taken block by block: the running maximum, the running sum and the running weighted sum. -/
namespace Cert.Online

open Idealize.ShloMosaic

/-- The greatest of the first `n` scores. -/
def mx (S : ℕ → EReal) (n : ℕ) : EReal := (Finset.range n).sup S
/-- The sum of the first `n` exponentials, less their maximum. -/
def ls (S : ℕ → EReal) (n : ℕ) : EReal := ∑ J ∈ Finset.range n, Ideal.exp (S J - mx S n)
/-- The sum of the first `n` values under those weights. -/
def ac (S V : ℕ → EReal) (n : ℕ) : EReal := ∑ J ∈ Finset.range n, Ideal.exp (S J - mx S n) * V J

theorem exp_nonneg (x : EReal) : 0 ≤ Ideal.exp x := by
  induction x with
  | bot => exact le_rfl
  | top => exact le_top
  | coe r => rw [Ideal.exp_coe]; exact EReal.coe_nonneg.mpr (Real.exp_pos r).le

/-- A step of the running maximum rescales by a factor below ⊤. -/
theorem factor_ne_top {M M' : EReal} (h : M ≤ M') : Ideal.exp (M - M') ≠ ⊤ := by
  induction M' with
  | top => rw [EReal.sub_top, Ideal.exp_bot]; exact EReal.zero_ne_top
  | bot => rw [le_bot_iff.mp h, EReal.bot_sub, Ideal.exp_bot]; exact EReal.zero_ne_top
  | coe r =>
    induction M with
    | top => exact absurd h (not_le.mpr (EReal.coe_lt_top r))
    | bot => rw [EReal.bot_sub, Ideal.exp_bot]; exact EReal.zero_ne_top
    | coe a => rw [← EReal.coe_sub, Ideal.exp_coe]; exact EReal.coe_ne_top _

/-- Rescaling an exponential moves it to the new maximum. -/
theorem rescale {s M M' : EReal} (h1 : s ≤ M) (h2 : M ≤ M') : Ideal.exp (M - M') * Ideal.exp (s - M) = Ideal.exp (s - M') := by
  induction M' with
  | top => rw [EReal.sub_top, EReal.sub_top, Ideal.exp_bot, zero_mul]
  | bot =>
    have e := le_bot_iff.mp h2
    have e' : s = ⊥ := le_bot_iff.mp (h1.trans h2)
    rw [e, e', EReal.bot_sub, Ideal.exp_bot, zero_mul]
  | coe r =>
    induction M with
    | top => exact absurd h2 (not_le.mpr (EReal.coe_lt_top r))
    | bot => rw [le_bot_iff.mp h1, EReal.bot_sub, EReal.bot_sub, Ideal.exp_bot, zero_mul]
    | coe a =>
      induction s with
      | top => exact absurd h1 (not_le.mpr (EReal.coe_lt_top a))
      | bot => rw [EReal.bot_sub, EReal.bot_sub, Ideal.exp_bot, mul_zero]
      | coe b =>
        rw [← EReal.coe_sub, ← EReal.coe_sub, ← EReal.coe_sub, Ideal.exp_coe, Ideal.exp_coe, Ideal.exp_coe, ← EReal.coe_mul, ← Real.exp_add]
        congr 2
        ring

/-- A factor between zero and ⊤ distributes over a sum. -/
theorem mul_sum_of {ι : Type*} (s : Finset ι) (f : ι → EReal) {c : EReal} (h0 : 0 ≤ c) (ht : c ≠ ⊤) : c * ∑ i ∈ s, f i = ∑ i ∈ s, c * f i := by
  classical
  induction s using Finset.induction_on with
  | empty => simp
  | insert a s ha ih => rw [Finset.sum_insert ha, Finset.sum_insert ha, EReal.left_distrib_of_nonneg_of_ne_top h0 ht, ih]

variable (S V : ℕ → EReal)

theorem mx_zero : mx S 0 = ⊥ := rfl
theorem ls_zero : ls S 0 = 0 := rfl
theorem ac_zero : ac S V 0 = 0 := rfl

theorem le_mx {n J : ℕ} (h : J < n) : S J ≤ mx S n := Finset.le_sup (f := S) (Finset.mem_range.mpr h)

theorem mx_mono {n n' : ℕ} (h : n ≤ n') : mx S n ≤ mx S n' := Finset.sup_mono (Finset.range_subset_range.mpr h)

/-- The maximum after a further block of scores. -/
theorem mx_step (n w : ℕ) : mx S (n + w) = max (mx S n) ((Finset.univ : Finset (Fin w)).fold max ⊥ fun j => S (n + j.val)) := by
  apply le_antisymm
  · refine Finset.sup_le fun J hJ => ?_
    rw [Finset.mem_range] at hJ
    by_cases h : J < n
    · exact le_max_of_le_left (le_mx S h)
    · refine le_max_of_le_right ?_
      have := Finset.le_sup (f := fun j : Fin w => S (n + j.val)) (Finset.mem_univ (⟨J - n, by omega⟩ : Fin w))
      rw [show n + (⟨J - n, by omega⟩ : Fin w).val = J by show n + (J - n) = J; omega] at this
      exact this
  · refine max_le (mx_mono S (Nat.le_add_right _ _)) ?_
    exact Finset.sup_le (f := fun j : Fin w => S (n + j.val)) fun j _ => le_mx S (by omega)

/-- The sum of exponentials after a further block of scores. -/
theorem ls_step (n w : ℕ) : ls S (n + w)
    = Ideal.exp (mx S n - mx S (n + w)) * ls S n + ∑ j : Fin w, Ideal.exp (S (n + j.val) - mx S (n + w)) := by
  have h := mx_mono S (Nat.le_add_right n w)
  unfold ls
  rw [Finset.sum_range_add, mul_sum_of _ _ (exp_nonneg _) (factor_ne_top h), Finset.sum_range (fun j => Ideal.exp (S (n + j) - mx S (n + w)))]
  congr 1
  refine Finset.sum_congr rfl fun J hJ => ?_
  rw [rescale (le_mx S (Finset.mem_range.mp hJ)) h]

/-- The weighted sum after a further block of scores. -/
theorem ac_step (n w : ℕ) : ac S V (n + w)
    = Ideal.exp (mx S n - mx S (n + w)) * ac S V n + ∑ j : Fin w, Ideal.exp (S (n + j.val) - mx S (n + w)) * V (n + j.val) := by
  have h := mx_mono S (Nat.le_add_right n w)
  unfold ac
  rw [Finset.sum_range_add, mul_sum_of _ _ (exp_nonneg _) (factor_ne_top h), Finset.sum_range (fun j => Ideal.exp (S (n + j) - mx S (n + w)) * V (n + j))]
  congr 1
  refine Finset.sum_congr rfl fun J hJ => ?_
  rw [← mul_assoc, rescale (le_mx S (Finset.mem_range.mp hJ)) h]

variable {S}

/-- Scores of −∞ do not change the maximum. -/
theorem mx_past {n n' : ℕ} (h : n ≤ n') (hb : ∀ J, n ≤ J → S J = ⊥) : mx S n' = mx S n := by
  refine le_antisymm (Finset.sup_le fun J _ => ?_) (mx_mono S h)
  by_cases hJ : J < n
  · exact le_mx S hJ
  · rw [hb J (by omega)]; exact bot_le

/-- Scores of −∞ do not change the sum of exponentials. -/
theorem ls_past {n n' : ℕ} (h : n ≤ n') (hb : ∀ J, n ≤ J → S J = ⊥) : ls S n' = ls S n := by
  unfold ls
  rw [mx_past h hb]
  symm
  refine Finset.sum_subset (Finset.range_subset_range.mpr h) fun J _ hJ => ?_
  rw [hb J (by simpa using hJ), EReal.bot_sub, Ideal.exp_bot]

/-- Scores of −∞ do not change the weighted sum. -/
theorem ac_past {n n' : ℕ} (h : n ≤ n') (hb : ∀ J, n ≤ J → S J = ⊥) : ac S V n' = ac S V n := by
  unfold ac
  rw [mx_past h hb]
  symm
  refine Finset.sum_subset (Finset.range_subset_range.mpr h) fun J _ hJ => ?_
  rw [hb J (by simpa using hJ), EReal.bot_sub, Ideal.exp_bot, zero_mul]

/-- With scores below ⊤, one of them real, the sum of exponentials is a positive real. -/
theorem ls_real {n : ℕ} (ht : ∀ J, S J < ⊤) (I : ℕ) (hI : I < n) (hr : ⊥ < S I) : ∃ z : ℝ, 0 < z ∧ ls S n = (z : EReal) := by
  obtain ⟨r, hm⟩ : ∃ r : ℝ, mx S n = (r : EReal) := Cert.Rows.fold_max_real (Finset.range n) S (fun J _ => ht J) I (Finset.mem_range.mpr hI) hr
  have e : ∀ J, ∃ x : ℝ, 0 ≤ x ∧ (S J ≠ ⊥ → 0 < x) ∧ Ideal.exp (S J - mx S n) = (x : EReal) := fun J => by
    rw [hm]
    have hJ := ht J
    generalize S J = s at hJ ⊢
    induction s with
    | bot => exact ⟨0, le_rfl, fun h => absurd rfl h, by rw [EReal.bot_sub, Ideal.exp_bot]; rfl⟩
    | top => exact absurd hJ (lt_irrefl _)
    | coe a => exact ⟨Real.exp (a - r), (Real.exp_pos _).le, fun _ => Real.exp_pos _, by rw [← EReal.coe_sub, Ideal.exp_coe]⟩
  choose x h0 h1 h2 using e
  refine ⟨∑ J ∈ Finset.range n, x J, Finset.sum_pos' (fun J _ => h0 J) ⟨I, Finset.mem_range.mpr hI, h1 I hr.ne'⟩, ?_⟩
  unfold ls
  rw [Cert.KernelIdeal.Head.coe_sum]
  exact Finset.sum_congr rfl fun J _ => h2 J

/-- Dividing the weighted sum by the sum is weighting by the quotients. -/
theorem div_ac {n : ℕ} {z : ℝ} (hz : 0 < z) : Ideal.div (ac S V n) (z : EReal)
    = ∑ J ∈ Finset.range n, V J * Ideal.div (Ideal.exp (S J - mx S n)) (z : EReal) := by
  have h0 : (0 : EReal) ≤ (((1 : ℝ) / z : ℝ) : EReal) := EReal.coe_nonneg.mpr (by positivity)
  have hd : ∀ x : EReal, Ideal.div x (z : EReal) = (((1 : ℝ) / z : ℝ) : EReal) * x := fun x => by
    rw [Ideal.div_coe hz.ne', mul_comm (G := EReal)]
  unfold ac
  rw [hd, mul_sum_of _ _ h0 (EReal.coe_ne_top _)]
  refine Finset.sum_congr rfl fun J _ => ?_
  rw [hd, mul_comm (G := EReal) (V J), mul_assoc]

end Cert.Online
end
-- ==== Proof.AttnTile.lean ====
module

public import proofs.«01_k».proof.Proof.Gen.AttnIdeal.Skeleton
public import proofs.«01_k».proof.Proof.Online

@[expose] public section

noncomputable section

/-! One tile of the forward attention: the running softmax after a further block of 384 keys. -/
namespace Cert.AttnIdeal.Tile

open Cert.AttnIdeal Cert.AttnIdeal.Gen Idealize.ShloMosaic Idealize.ShloMosaic.ValueIdx Cert.Online
open Cert.KernelIdeal.Tile (scE sel)

/-- The products of a tile of queries with a tile of keys. -/
theorem mmT (a b : FVec Ideal S384x256 .bf16) (i j : Fin 384) :
    matmul (F := Ideal) dot_S384x256_S384x256_S384x384_1_1_0_0_n_n none a b (constant (F := Ideal) S384x384 .f32 0x00000000#32) (ix2 i j)
      = ∑ d : Fin 256, a (ix2 i d) * b (ix2 j d) := by
  unfold matmul
  rw [Ideal.matmul_constant_zero_apply, ← Equiv.sum_comp (contrEquiv1 dot_S384x256_S384x256_S384x384_1_1_0_0_n_n 256 rfl rfl).symm]
  refine Finset.sum_congr rfl fun k _ => ?_
  have hk := contrEquiv1_symm_val dot_S384x256_S384x256_S384x384_1_1_0_0_n_n 256 rfl rfl k
  congr 2
  · funext d
    match d with
    | ⟨0, _⟩ => rfl
    | ⟨1, _⟩ => exact Fin.ext ((DotDims.lhsIdx_val_of_single _ rfl _ _).trans hk)
  · funext d
    match d with
    | ⟨0, _⟩ => rfl
    | ⟨1, _⟩ => exact Fin.ext ((DotDims.rhsIdx_val_of_single _ rfl _ _).trans hk)

/-- The products of a tile of weights with a tile of values. -/
theorem mmN (p : FVec Ideal S384x384 .bf16) (b : FVec Ideal S384x128 .bf16) (i : Fin 384) (e : Fin 128) :
    matmul (F := Ideal) dot_S384x384_S384x128_S384x128_1_0_0_1_n_n none p b (constant (F := Ideal) S384x128 .f32 0x00000000#32) (ix2 i e)
      = ∑ j : Fin 384, p (ix2 i j) * b (ix2 j e) := by
  unfold matmul
  rw [Ideal.matmul_constant_zero_apply, ← Equiv.sum_comp (contrEquiv1 dot_S384x384_S384x128_S384x128_1_0_0_1_n_n 384 rfl rfl).symm]
  refine Finset.sum_congr rfl fun k _ => ?_
  have hk := contrEquiv1_symm_val dot_S384x384_S384x128_S384x128_1_0_0_1_n_n 384 rfl rfl k
  congr 2
  · funext d
    match d with
    | ⟨0, _⟩ => rfl
    | ⟨1, _⟩ => exact Fin.ext ((DotDims.lhsIdx_val_of_single _ rfl _ _).trans hk)
  · funext d
    match d with
    | ⟨0, _⟩ => exact Fin.ext ((DotDims.rhsIdx_val_of_single _ rfl _ _).trans hk)
    | ⟨1, _⟩ => rfl

/-- The causal mask of a diagonal tile: key row at most query row. -/
theorem maskAt (i j : Fin 384) :
    cmpi .sge (iota .tc S384x384 32 [0] iota_S384x384_d0_w32) (iota .tc S384x384 32 [1] iota_S384x384_d1_w32) (ix2 i j)
      = BitVec.ofBool (decide (j.val ≤ i.val)) := by
  show IntOp.cmpi .sge (iota .tc S384x384 32 [0] iota_S384x384_d0_w32 (ix2 i j)) (iota .tc S384x384 32 [1] iota_S384x384_d1_w32 (ix2 i j)) = _
  rw [iota_single_apply, iota_single_apply]
  show BitVec.ofBool (BitVec.sle (BitVec.ofNat 32 j.val) (BitVec.ofNat 32 i.val)) = _
  congr 1
  have hj := j.isLt
  have hi := i.isLt
  rw [BitVec.sle_eq_decide, BitVec.toInt_ofNat', BitVec.toInt_ofNat']
  congr 1
  apply propext
  simp only [Int.bmod]
  constructor <;> intro h <;> split at * <;> split at * <;> omega

/-- A column over the rows, spread along 384 places. -/
theorem wide_at (x : FVec Ideal S384x1 .f32) (i j : Fin 384) : broadcastTo S384x384 x broadcasts_S384x1_S384x384 (ix2 i j) = x (ix2 i 0) :=
  broadcastTo_apply _ _ _ (ix2 i (0 : Fin 1)) (fun b => by match b with | ⟨0, _⟩ => rfl | ⟨1, _⟩ => rfl)

/-- A column over the rows, spread along 128 places. -/
theorem narrow_at (x : FVec Ideal S384x1 .f32) (i : Fin 384) (e : Fin 128) : broadcastTo S384x128 x broadcasts_S384x1_S384x128 (ix2 i e) = x (ix2 i 0) :=
  broadcastTo_apply _ _ _ (ix2 i (0 : Fin 1)) (fun b => by match b with | ⟨0, _⟩ => rfl | ⟨1, _⟩ => rfl)

theorem col_at (x : FVec Ideal S384 .f32) (i : Fin 384) : shapeCast S384x1 x shapeCasts_S384_S384x1 (ix2 i 0) = x (ix1 i) :=
  shapeCast_apply _ _ _ _ (by rw [Shape.rowMajor_val_one, Shape.rowMajor_val_two]; show i.val = i.val * 1 + 0; omega)

theorem lift_at (i j : Fin 384) : reduces_S384x384_S384.lift (ix1 i) j = ix2 i j := by
  funext a
  match a with
  | ⟨0, _⟩ => rfl
  | ⟨1, _⟩ => rfl

/-- The rows' sums of a tile. -/
theorem sum_at (p : FVec Ideal S384x384 .f32) (i : Fin 384) :
    shapeCast S384x1 (multiReduction .add [1] S384 p 0x00000000#32 reduces_S384x384_S384 (.inl rfl) rfl) shapeCasts_S384_S384x1 (ix2 i 0) = ∑ j : Fin 384, p (ix2 i j) := by
  refine (col_at _ i).trans ((Ideal.multiReduction_add_single p _ reduces_S384x384_S384 (.inl rfl) rfl (ix1 i)).trans ?_)
  exact Finset.sum_congr rfl fun j _ => congrArg p (lift_at i j)

/-- The rows' maxima of a tile. -/
theorem max_at (s : FVec Ideal S384x384 .f32) (i : Fin 384) :
    shapeCast S384x1 (multiReduction .maximumf [1] S384 s 0xFF800000#32 reduces_S384x384_S384 (.inl rfl) rfl) shapeCasts_S384_S384x1 (ix2 i 0)
      = (Finset.univ : Finset (Fin 384)).fold max ⊥ fun j => s (ix2 i j) := by
  refine (col_at _ i).trans ((Ideal.multiReduction_maximumf_single s _ reduces_S384x384_S384 (.inl rfl) rfl (ix1 i)).trans ?_)
  rw [show (FloatOps.ofBits (F := Ideal) .f32 (FKind.maximumf.neutral .f32 (.inl rfl)) : EReal) = ⊥ from Cert.Rows.botW]
  exact congrArg (Finset.fold max ⊥ · Finset.univ) (funext fun j => congrArg s (lift_at i j))

/-- A tile of scores: the scaled products. -/
def scores (a b : FVec Ideal S384x256 .bf16) : FVec Ideal S384x384 .f32 :=
  mulf (matmul dot_S384x256_S384x256_S384x384_1_1_0_0_n_n none (shapeCast S384x256 a shapeCasts_S384x256_S384x256) (shapeCast S384x256 b shapeCasts_S384x256_S384x256) (constant S384x384 .f32 0x00000000#32)) (broadcast S384x384 (Scalar.ofBits .f32 0x3D93CD3A#32))
/-- A diagonal tile of scores: those of later keys are −∞. -/
def masked (s : FVec Ideal S384x384 .f32) : FVec Ideal S384x384 .f32 :=
  select (cmpi .sge (iota .tc S384x384 32 [0] iota_S384x384_d0_w32) (iota .tc S384x384 32 [1] iota_S384x384_d1_w32)) s (broadcast S384x384 (Scalar.ofBits .f32 0xFF800000#32))
/-- The new maxima. -/
def nm (m : FVec Ideal S384x1 .f32) (s : FVec Ideal S384x384 .f32) : FVec Ideal S384x1 .f32 :=
  maximumf m (shapeCast S384x1 (multiReduction .maximumf [1] S384 s 0xFF800000#32 reduces_S384x384_S384 (.inl rfl) rfl) shapeCasts_S384_S384x1)
/-- The rescaling factors. -/
def al (m : FVec Ideal S384x1 .f32) (s : FVec Ideal S384x384 .f32) : FVec Ideal S384x1 .f32 := exp (subf m (nm m s))
/-- The exponentials of the tile. -/
def ex (m : FVec Ideal S384x1 .f32) (s : FVec Ideal S384x384 .f32) : FVec Ideal S384x384 .f32 :=
  exp (subf s (broadcastTo S384x384 (nm m s) broadcasts_S384x1_S384x384))
/-- The new sums. -/
def nl (m l : FVec Ideal S384x1 .f32) (s : FVec Ideal S384x384 .f32) : FVec Ideal S384x1 .f32 :=
  addf (mulf (al m s) l) (shapeCast S384x1 (multiReduction .add [1] S384 (ex m s) 0x00000000#32 reduces_S384x384_S384 (.inl rfl) rfl) shapeCasts_S384_S384x1)
/-- The new weighted sums. -/
def na (m : FVec Ideal S384x1 .f32) (a : FVec Ideal S384x128 .f32) (s : FVec Ideal S384x384 .f32) (v : FVec Ideal S384x128 .bf16) : FVec Ideal S384x128 .f32 :=
  addf (mulf (broadcastTo S384x128 (al m s) broadcasts_S384x1_S384x128) a) (matmul dot_S384x384_S384x128_S384x128_1_0_0_1_n_n none (truncf .bf16 (ex m s) bitsLt_bf16_f32) (shapeCast S384x128 v shapeCasts_S384x128_S384x128) (constant S384x128 .f32 0x00000000#32))

section At
variable (m l : FVec Ideal S384x1 .f32) (a : FVec Ideal S384x128 .f32) (s : FVec Ideal S384x384 .f32) (v : FVec Ideal S384x128 .bf16) (i j : Fin 384) (e : Fin 128)

theorem scores_at (x y : FVec Ideal S384x256 .bf16) : scores x y (ix2 i j) = (∑ d : Fin 256, x (ix2 i d) * y (ix2 j d)) * scE := by
  show matmul (F := Ideal) dot_S384x256_S384x256_S384x384_1_1_0_0_n_n none _ _ _ (ix2 i j) * _ = _
  rw [mmT, shapeCast_self, shapeCast_self]
  rfl

theorem masked_at : masked s (ix2 i j) = if j.val ≤ i.val then s (ix2 i j) else ⊥ := by
  show Scalar.select (cmpi .sge (iota .tc S384x384 32 [0] iota_S384x384_d0_w32) (iota .tc S384x384 32 [1] iota_S384x384_d1_w32) (ix2 i j)) (s (ix2 i j)) (Ideal.ofBits .f32 0xFF800000#32) = _
  rw [maskAt, sel, Cert.Rows.botW]

theorem nm_at : nm m s (ix2 i 0) = max (m (ix2 i 0)) ((Finset.univ : Finset (Fin 384)).fold max ⊥ fun j => s (ix2 i j)) := by
  rw [← max_at]; rfl

theorem al_at : al m s (ix2 i 0) = Ideal.exp (m (ix2 i 0) - nm m s (ix2 i 0)) := rfl

theorem ex_at : ex m s (ix2 i j) = Ideal.exp (s (ix2 i j) - nm m s (ix2 i 0)) := by
  rw [← wide_at (nm m s) i j]; rfl

theorem nl_at : nl m l s (ix2 i 0) = al m s (ix2 i 0) * l (ix2 i 0) + ∑ j : Fin 384, ex m s (ix2 i j) := by
  rw [← sum_at]; rfl

theorem na_at : na m a s v (ix2 i e) = al m s (ix2 i 0) * a (ix2 i e) + ∑ j : Fin 384, ex m s (ix2 i j) * v (ix2 j e) := by
  show broadcastTo S384x128 (al m s) broadcasts_S384x1_S384x128 (ix2 i e) * a (ix2 i e) + matmul (F := Ideal) dot_S384x384_S384x128_S384x128_1_0_0_1_n_n none _ _ _ (ix2 i e) = _
  rw [mmN, narrow_at, shapeCast_self]
  rfl

end At

/-- The running values of the rows of a tile after `n` keys. -/
def Run (S : Fin 384 → ℕ → EReal) (V : ℕ → Fin 128 → EReal) (n : ℕ) (m l : FVec Ideal S384x1 .f32) (a : FVec Ideal S384x128 .f32) : Prop :=
  (∀ i, m (ix2 i 0) = mx (S i) n) ∧ (∀ i, l (ix2 i 0) = ls (S i) n) ∧ ∀ i e, a (ix2 i e) = ac (S i) (fun J => V J e) n

/-- A further tile of keys moves the running values on by its 384 keys. -/
theorem run_step {S : Fin 384 → ℕ → EReal} {V : ℕ → Fin 128 → EReal} {n : ℕ} {m l : FVec Ideal S384x1 .f32} {a : FVec Ideal S384x128 .f32}
    {s : FVec Ideal S384x384 .f32} {v : FVec Ideal S384x128 .bf16} (h : Run S V n m l a)
    (hs : ∀ i j : Fin 384, s (ix2 i j) = S i (n + j.val)) (hv : ∀ (j : Fin 384) e, v (ix2 j e) = V (n + j.val) e) :
    Run S V (n + 384) (nm m s) (nl m l s) (na m a s v) := by
  obtain ⟨h0, h1, h2⟩ := h
  have e0 : ∀ i, nm m s (ix2 i 0) = mx (S i) (n + 384) := fun i => by
    rw [nm_at, mx_step, h0]
    simp only [hs]
  have e1 : ∀ i, al m s (ix2 i 0) = Ideal.exp (mx (S i) n - mx (S i) (n + 384)) := fun i => by rw [al_at, e0, h0]
  have e2 : ∀ i j : Fin 384, ex m s (ix2 i j) = Ideal.exp (S i (n + j.val) - mx (S i) (n + 384)) := fun i j => by rw [ex_at, e0, hs]
  refine ⟨e0, fun i => ?_, fun i e => ?_⟩
  · rw [nl_at, ls_step, e1, h1]
    simp only [e2]
  · rw [na_at, ac_step, e1, h2]
    simp only [e2, hv]

/-- At the start there are no keys. -/
theorem run_zero (S : Fin 384 → ℕ → EReal) (V : ℕ → Fin 128 → EReal) : Run S V 0 (k0_pay23 (F := Ideal)) (k0_pay24 (F := Ideal)) (k0_pay25 (F := Ideal)) :=
  ⟨fun _ => Cert.Rows.botW, fun _ => Cert.KernelIdeal.Tile.zeroW, fun _ _ => Cert.KernelIdeal.Tile.zeroW⟩

/-- The rows' outputs: the weighted sums over the sums. -/
theorem pay2_at (l : FVec Ideal S384x1 .f32) (a : FVec Ideal S384x128 .f32) (i : Fin 384) (e : Fin 128) :
    k0_pay2 (F := Ideal) l a (ix2 i e) = Ideal.div (a (ix2 i e)) (l (ix2 i 0)) := by
  show Ideal.div (a (ix2 i e)) (broadcastTo S384x128 l broadcasts_S384x1_S384x128 (ix2 i e)) = _
  rw [narrow_at]

/-- The rows' statistic: the maximum plus the log of the sum. -/
theorem pay4_at (m l : FVec Ideal S384x1 .f32) (i : Fin 384) :
    k0_pay4 (F := Ideal) m l (ix3 0 i 0) = m (ix2 i 0) + Ideal.log (l (ix2 i 0)) := by
  refine (shapeCast_apply (addf m (log l)) shapeCasts_S384x1_S1x384x1 (ix3 0 i 0) (ix2 i (0 : Fin 1)) ?_).trans rfl
  rw [Shape.rowMajor_val_two, Shape.rowMajor_val_three]
  show i.val * 1 + 0 = (0 * 384 + i.val) * 1 + 0
  omega

end Cert.AttnIdeal.Tile
end
-- ==== Proof.AttnBody.lean ====
module

public import proofs.«01_k».proof.Proof.Gen.AttnIdeal.Value
public import proofs.«01_k».proof.Proof.AttnTile
public import Idealize.ShloMosaic.Lib.Pipeline.ValueKit.Tiles

@[expose] public section

noncomputable section

/-! What the forward attention's body stores at a grid point, from the entries of its three blocks. -/
namespace Cert.AttnIdeal.Body

open Cert.AttnIdeal Cert.AttnIdeal.Gen Cert.AttnIdeal.Tile Cert.Online Idealize.ShloMosaic Idealize.ShloMosaic.ValueIdx
open Idealize.ShloMosaic.TcCoe Idealize.ShloMosaic.Tactic Idealize.SL.Sem
open Cert.KernelIdeal.Tile (scE)

/-- The running values of the two heads of a point. -/
abbrev Acc := FVec Ideal S384x1 .f32 × FVec Ideal S384x1 .f32 × FVec Ideal S384x128 .f32 × FVec Ideal S384x1 .f32 × FVec Ideal S384x1 .f32 × FVec Ideal S384x128 .f32

/-- The running values after a tile of keys, from its scores and values. -/
def move (s0 : FVec Ideal S384x384 .f32) (v0 : FVec Ideal S384x128 .bf16) (s1 : FVec Ideal S384x384 .f32) (v1 : FVec Ideal S384x128 .bf16) (x : Acc) : Acc :=
  (nm x.1 s0, nl x.1 x.2.1 s0, na x.1 x.2.2.1 s0 v0, nm x.2.2.2.1 s1, nl x.2.2.2.1 x.2.2.2.2.1 s1, na x.2.2.2.1 x.2.2.2.2.2 s1 v1)

/-- The loop over the earlier tiles of keys makes one trip for each of them. -/
theorem trips_eq (i : grid0.Coords) : (k0_t1_loop i).trips = (i 1).val := by
  have h : ∀ x : Fin 11, (Scf.Loop.mk 0#32 (Scalar.addi 0#32 (Scalar.muli (Scalar.divsi (Scalar.subi (BitVec.ofNat 32 x.val) 0#32) 1#32) 1#32)) 1#32).trips = x.val := by
    decide +kernel
  exact h (i 1)

/-- The loop after it makes no trip. -/
theorem no_trips (i : grid0.Coords) : (k0_t2_loop i).trips = 0 := Nat.le_zero.mp (k0_t2_abs i).2.1

section trip
variable (c : Dev nD) (i : grid0.Coords) (arg2 : Memref sig .tc .vmem S384x512 .bf16) (harg2 : arg2.IsWhole) (arg3 : Memref sig .tc .vmem S4224x512 .bf16) (harg3 : arg3.IsWhole) (arg4 : Memref sig .tc .vmem S4224x256 .bf16) (harg4 : arg4.IsWhole) (arg5 : Memref sig .tc .vmem S384x256 .f32) (harg5 : arg5.IsWhole) (arg6 : Memref sig .tc .vmem S384x256 .bf16) (harg6 : arg6.IsWhole) (arg7 : Memref sig .tc .vmem S2x384x1 .f32) (harg7 : arg7.IsWhole)
    (x0 : Vec Ideal S384x512 .bf16) (x1 : Vec Ideal S4224x512 .bf16) (x2 : Vec Ideal S4224x256 .bf16)

/-- The running values after a trip, from the tiles it loads. -/
theorem trip_eq (t : Fin (k0_t1_loop i).trips) (x : Acc) :
    tripR_k0_t1 (F := Ideal) Variants.none c none i arg2 harg2 arg3 harg3 arg4 harg4 arg5 harg5 arg6 harg6 arg7 harg7 (harg2.unread x0) (harg3.unread x1) (harg4.unread x2) t x
      = move (scores (View.ld x0 (Rect.unit ![0, 0] S384x256.size inb_S384x512_S384x256_0_0)) (View.ld x1 (Rect.unit (k0_off1 i t) S384x256.size (k0_off1_inb i t)))) (View.ld x2 (Rect.unit (k0_off3 i t) S384x128.size (k0_off3_inb i t)))
          (scores (View.ld x0 (Rect.unit ![0, 256] S384x256.size inb_S384x512_S384x256_0_256)) (View.ld x1 (Rect.unit (k0_off2 i t) S384x256.size (k0_off2_inb i t)))) (View.ld x2 (Rect.unit (k0_off4 i t) S384x128.size (k0_off4_inb i t))) x := by
  unfold tripR_k0_t1 trip_k0_t1
  dsimp only
  sl_unfold_words
  simp only [View.readAt_eq_ld, harg2.read_unread, harg3.read_unread, harg4.read_unread]
  rfl

/-- The running values before any tile. -/
def start : Acc := (k0_pay23 (F := Ideal), k0_pay24 (F := Ideal), k0_pay25 (F := Ideal), k0_pay23 (F := Ideal), k0_pay24 (F := Ideal), k0_pay25 (F := Ideal))

/-- The running values after `n` of the earlier tiles. -/
def accAt (n : ℕ) : Acc :=
  st_k0_t1 (F := Ideal) Variants.none c none i arg2 harg2 arg3 harg3 arg4 harg4 arg5 harg5 arg6 harg6 arg7 harg7 (harg2.unread x0) (harg3.unread x1) (harg4.unread x2) start n

/-- The running values after the diagonal tile. -/
def last : Acc :=
  move (masked (scores (View.ld x0 (Rect.unit ![0, 0] S384x256.size inb_S384x512_S384x256_0_0)) (View.ld x1 (Rect.unit (k0_off9 i) S384x256.size (k0_off9_inb i))))) (View.ld x2 (Rect.unit (k0_off11 i) S384x128.size (k0_off11_inb i)))
    (masked (scores (View.ld x0 (Rect.unit ![0, 256] S384x256.size inb_S384x512_S384x256_0_256)) (View.ld x1 (Rect.unit (k0_off10 i) S384x256.size (k0_off10_inb i))))) (View.ld x2 (Rect.unit (k0_off12 i) S384x128.size (k0_off12_inb i)))
    (accAt c i arg2 harg2 arg3 harg3 arg4 harg4 arg5 harg5 arg6 harg6 arg7 harg7 x0 x1 x2 (k0_t1_loop i).trips)

theorem canon3 : out0_A_3 (F := Ideal) c i arg2 harg2 arg3 harg3 arg4 harg4 arg5 harg5 arg6 harg6 arg7 harg7 x0 x1 x2
    = View.canon (Val := Elt Ideal) (s := S384x256) (e := .f32) [⟨Rect.unit ![0, 128] S384x128.size inb_S384x256_S384x128_0_128, k0_pay2 (F := Ideal) (last c i arg2 harg2 arg3 harg3 arg4 harg4 arg5 harg5 arg6 harg6 arg7 harg7 x0 x1 x2).2.2.2.2.1 (last c i arg2 harg2 arg3 harg3 arg4 harg4 arg5 harg5 arg6 harg6 arg7 harg7 x0 x1 x2).2.2.2.2.2⟩, ⟨Rect.unit ![0, 0] S384x128.size inb_S384x256_S384x128_0_0, k0_pay2 (F := Ideal) (last c i arg2 harg2 arg3 harg3 arg4 harg4 arg5 harg5 arg6 harg6 arg7 harg7 x0 x1 x2).2.1 (last c i arg2 harg2 arg3 harg3 arg4 harg4 arg5 harg5 arg6 harg6 arg7 harg7 x0 x1 x2).2.2.1⟩] := by
  have h2 := no_trips i
  unfold out0_A_3
  rw [View.read_writes_eq_canon _ _ _ (cover0_A_3 c i arg2 harg2 arg3 harg3 arg4 harg4 arg5 harg5 arg6 harg6 arg7 harg7 x0 x1 x2)]
  unfold kernelRun0_A
  dsimp only
  sl_unfold_words
  simp only [View.readAt_eq_ld, harg2.read_unread, harg3.read_unread, harg4.read_unread]
  dsimp only [k0_t2_loop, Scf.Loop.trips] at h2
  rw [h2, st_k0_t2_zero]
  rfl

theorem canon4 : out0_A_4 (F := Ideal) c i arg2 harg2 arg3 harg3 arg4 harg4 arg5 harg5 arg6 harg6 arg7 harg7 x0 x1 x2
    = View.canon (Val := Elt Ideal) (s := S384x256) (e := .bf16) [⟨Rect.unit ![0, 128] S384x128.size inb_S384x256_S384x128_0_128, k0_pay3 (F := Ideal) (last c i arg2 harg2 arg3 harg3 arg4 harg4 arg5 harg5 arg6 harg6 arg7 harg7 x0 x1 x2).2.2.2.2.1 (last c i arg2 harg2 arg3 harg3 arg4 harg4 arg5 harg5 arg6 harg6 arg7 harg7 x0 x1 x2).2.2.2.2.2⟩, ⟨Rect.unit ![0, 0] S384x128.size inb_S384x256_S384x128_0_0, k0_pay3 (F := Ideal) (last c i arg2 harg2 arg3 harg3 arg4 harg4 arg5 harg5 arg6 harg6 arg7 harg7 x0 x1 x2).2.1 (last c i arg2 harg2 arg3 harg3 arg4 harg4 arg5 harg5 arg6 harg6 arg7 harg7 x0 x1 x2).2.2.1⟩] := by
  have h2 := no_trips i
  unfold out0_A_4
  rw [View.read_writes_eq_canon _ _ _ (cover0_A_4 c i arg2 harg2 arg3 harg3 arg4 harg4 arg5 harg5 arg6 harg6 arg7 harg7 x0 x1 x2)]
  unfold kernelRun0_A
  dsimp only
  sl_unfold_words
  simp only [View.readAt_eq_ld, harg2.read_unread, harg3.read_unread, harg4.read_unread]
  dsimp only [k0_t2_loop, Scf.Loop.trips] at h2
  rw [h2, st_k0_t2_zero]
  rfl

theorem canon5 : out0_A_5 (F := Ideal) c i arg2 harg2 arg3 harg3 arg4 harg4 arg5 harg5 arg6 harg6 arg7 harg7 x0 x1 x2
    = View.canon (Val := Elt Ideal) (s := S2x384x1) (e := .f32) [⟨Rect.unit ![1, 0, 0] S1x384x1.size inb_S2x384x1_S1x384x1_1_0_0, k0_pay4 (F := Ideal) (last c i arg2 harg2 arg3 harg3 arg4 harg4 arg5 harg5 arg6 harg6 arg7 harg7 x0 x1 x2).2.2.2.1 (last c i arg2 harg2 arg3 harg3 arg4 harg4 arg5 harg5 arg6 harg6 arg7 harg7 x0 x1 x2).2.2.2.2.1⟩, ⟨Rect.unit ![0, 0, 0] S1x384x1.size inb_S2x384x1_S1x384x1_0_0_0, k0_pay4 (F := Ideal) (last c i arg2 harg2 arg3 harg3 arg4 harg4 arg5 harg5 arg6 harg6 arg7 harg7 x0 x1 x2).1 (last c i arg2 harg2 arg3 harg3 arg4 harg4 arg5 harg5 arg6 harg6 arg7 harg7 x0 x1 x2).2.1⟩] := by
  have h2 := no_trips i
  unfold out0_A_5
  rw [View.read_writes_eq_canon _ _ _ (cover0_A_5 c i arg2 harg2 arg3 harg3 arg4 harg4 arg5 harg5 arg6 harg6 arg7 harg7 x0 x1 x2)]
  unfold kernelRun0_A
  dsimp only
  sl_unfold_words
  simp only [View.readAt_eq_ld, harg2.read_unread, harg3.read_unread, harg4.read_unread]
  dsimp only [k0_t2_loop, Scf.Loop.trips] at h2
  rw [h2, st_k0_t2_zero]
  rfl

section values
variable (q : Fin 2 → Fin 384 → Fin 256 → EReal) (k : Fin 2 → ℕ → Fin 256 → EReal) (v : Fin 2 → ℕ → Fin 128 → EReal)

/-- The blocks hold the entries of two heads' rows. -/
structure Holds : Prop where
  hq : ∀ (a : Fin 2) (i : Fin 384) (d : Fin 256), x0 (ix2 i ⟨256 * a.val + d.val, by omega⟩) = q a i d
  hk : ∀ (a : Fin 2) (J : Fin 4224) (d : Fin 256), x1 (ix2 J ⟨256 * a.val + d.val, by omega⟩) = k a J.val d
  hv : ∀ (a : Fin 2) (J : Fin 4224) (e : Fin 128), x2 (ix2 J ⟨128 * a.val + e.val, by omega⟩) = v a J.val e

/-- A row's causal scores: row `i` of query tile `T` against key `J`. -/
def sc (T : ℕ) (q : Fin 384 → Fin 256 → EReal) (k : ℕ → Fin 256 → EReal) (i : Fin 384) (J : ℕ) : EReal :=
  if J ≤ 384 * T + i.val then (∑ d : Fin 256, q i d * k J d) * scE else ⊥

/-- The running values hold each head's rows after `n` keys. -/
def Inv (n : ℕ) (x : Acc) : Prop :=
  Run (sc (i 1).val (q 0) (k 0)) (v 0) n x.1 x.2.1 x.2.2.1 ∧ Run (sc (i 1).val (q 1) (k 1)) (v 1) n x.2.2.2.1 x.2.2.2.2.1 x.2.2.2.2.2

variable {q k v x0 x1 x2}

section loads
variable (H : Holds x0 x1 x2 q k v) {T : ℕ} (hT : T < 11)
include H

theorem ldQ (a : Fin 2) (off : Fin 2 → ℕ) (inb) (h : off = ![0, 256 * a.val]) (j : Fin 384) (d : Fin 256) :
    View.ld x0 (Rect.unit off S384x256.size inb) (ix2 j d) = q a j d := by
  subst h
  rw [← H.hq]
  refine View.ld_unit_apply_of _ _ _ _ _ _ fun b => ?_
  match b with
  | ⟨0, _⟩ => exact (Nat.zero_add _).symm
  | ⟨1, _⟩ => rfl

include hT in
theorem ldK (a : Fin 2) (off : Fin 2 → ℕ) (inb) (h : off = ![384 * T, 256 * a.val]) (n : Fin 384) (d : Fin 256) :
    View.ld x1 (Rect.unit off S384x256.size inb) (ix2 n d) = k a (384 * T + n.val) d := by
  subst h
  rw [← H.hk a ⟨384 * T + n.val, by omega⟩ d]
  refine View.ld_unit_apply_of _ _ _ _ _ _ fun b => ?_
  match b with
  | ⟨0, _⟩ => rfl
  | ⟨1, _⟩ => rfl

include hT in
theorem ldV (a : Fin 2) (off : Fin 2 → ℕ) (inb) (h : off = ![384 * T, 128 * a.val]) (n : Fin 384) (e : Fin 128) :
    View.ld x2 (Rect.unit off S384x128.size inb) (ix2 n e) = v a (384 * T + n.val) e := by
  subst h
  rw [← H.hv a ⟨384 * T + n.val, by omega⟩ e]
  refine View.ld_unit_apply_of _ _ _ _ _ _ fun b => ?_
  match b with
  | ⟨0, _⟩ => rfl
  | ⟨1, _⟩ => rfl

end loads

/-- An earlier tile's scores are all unmasked. -/
theorem sc_early {T t : ℕ} (h : t < T) {q : Fin 384 → Fin 256 → EReal} {k : ℕ → Fin 256 → EReal} {X Y : FVec Ideal S384x256 .bf16}
    (hX : ∀ i d, X (ix2 i d) = q i d) (hY : ∀ (j : Fin 384) d, Y (ix2 j d) = k (384 * t + j.val) d) (i j : Fin 384) :
    scores X Y (ix2 i j) = sc T q k i (384 * t + j.val) := by
  rw [scores_at]
  unfold sc
  rw [if_pos (by omega)]
  simp only [hX, hY]

/-- The diagonal tile's scores are masked after the row. -/
theorem sc_diag {T : ℕ} {q : Fin 384 → Fin 256 → EReal} {k : ℕ → Fin 256 → EReal} {X Y : FVec Ideal S384x256 .bf16}
    (hX : ∀ i d, X (ix2 i d) = q i d) (hY : ∀ (j : Fin 384) d, Y (ix2 j d) = k (384 * T + j.val) d) (i j : Fin 384) :
    masked (scores X Y) (ix2 i j) = sc T q k i (384 * T + j.val) := by
  rw [masked_at, scores_at]
  unfold sc
  simp only [hX, hY]
  by_cases h : j.val ≤ i.val
  · rw [if_pos h, if_pos (by omega)]
  · rw [if_neg h, if_neg (by omega)]

/-- Each earlier tile adds its keys. -/
theorem inv_acc (H : Holds x0 x1 x2 q k v) (n : ℕ) (hn : n ≤ (k0_t1_loop i).trips) :
    Inv i q k v (384 * n) (accAt c i arg2 harg2 arg3 harg3 arg4 harg4 arg5 harg5 arg6 harg6 arg7 harg7 x0 x1 x2 n) := by
  induction n with
  | zero => exact ⟨run_zero _ _, run_zero _ _⟩
  | succ n ih =>
    obtain ⟨r0, r1⟩ := ih (by omega)
    have hs : accAt c i arg2 harg2 arg3 harg3 arg4 harg4 arg5 harg5 arg6 harg6 arg7 harg7 x0 x1 x2 (n + 1) = _ :=
      (st_k0_t1_succ (F := Ideal) Variants.none c none i arg2 harg2 arg3 harg3 arg4 harg4 arg5 harg5 arg6 harg6 arg7 harg7 (harg2.unread x0) (harg3.unread x1) (harg4.unread x2) start ⟨n, hn⟩).trans (trip_eq c i arg2 harg2 arg3 harg3 arg4 harg4 arg5 harg5 arg6 harg6 arg7 harg7 x0 x1 x2 ⟨n, hn⟩ _)
    rw [hs]
    have hi : (i 1).val < 11 := (i 1).isLt
    have ht := trips_eq i
    have hT : n < 11 := by omega
    have lt : n < (i 1).val := by omega
    have hQ0 := ldQ H 0 _ inb_S384x512_S384x256_0_0 rfl
    have hQ1 := ldQ H 1 _ inb_S384x512_S384x256_0_256 rfl
    have hK0 := ldK H hT 0 _ (k0_off1_inb i ⟨n, hn⟩) (k0_off1_eq i ⟨n, hn⟩)
    have hK1 := ldK H hT 1 _ (k0_off2_inb i ⟨n, hn⟩) (k0_off2_eq i ⟨n, hn⟩)
    have hV0 := ldV H hT 0 _ (k0_off3_inb i ⟨n, hn⟩) (k0_off3_eq i ⟨n, hn⟩)
    have hV1 := ldV H hT 1 _ (k0_off4_inb i ⟨n, hn⟩) (k0_off4_eq i ⟨n, hn⟩)
    exact ⟨run_step r0 (sc_early lt hQ0 hK0) hV0, run_step r1 (sc_early lt hQ1 hK1) hV1⟩

/-- After the diagonal tile the running values hold every key a row may see. -/
theorem inv_last (H : Holds x0 x1 x2 q k v) : Inv i q k v (384 * (i 1).val + 384) (last c i arg2 harg2 arg3 harg3 arg4 harg4 arg5 harg5 arg6 harg6 arg7 harg7 x0 x1 x2) := by
  have h := inv_acc c i arg2 harg2 arg3 harg3 arg4 harg4 arg5 harg5 arg6 harg6 arg7 harg7 H _ le_rfl
  have hT : (i 1).val < 11 := (i 1).isLt
  rw [show 384 * (k0_t1_loop i).trips = 384 * (i 1).val by rw [trips_eq]] at h
  obtain ⟨r0, r1⟩ := h
  have hQ0 := ldQ H 0 _ inb_S384x512_S384x256_0_0 rfl
  have hQ1 := ldQ H 1 _ inb_S384x512_S384x256_0_256 rfl
  have hK0 := ldK H hT 0 _ (k0_off9_inb i) (k0_off9_eq i)
  have hK1 := ldK H hT 1 _ (k0_off10_inb i) (k0_off10_eq i)
  have hV0 := ldV H hT 0 _ (k0_off11_inb i) (k0_off11_eq i)
  have hV1 := ldV H hT 1 _ (k0_off12_inb i) (k0_off12_eq i)
  exact ⟨run_step r0 (sc_diag hQ0 hK0) hV0, run_step r1 (sc_diag hQ1 hK1) hV1⟩

/-- A row's output. -/
def rowO (S : ℕ → EReal) (V : ℕ → EReal) (n : ℕ) : EReal := Ideal.div (ac S V n) (ls S n)
/-- A row's statistic. -/
def rowL (S : ℕ → EReal) (n : ℕ) : EReal := mx S n + Ideal.log (ls S n)

theorem o_of {S : Fin 384 → ℕ → EReal} {V : ℕ → Fin 128 → EReal} {n : ℕ} {m l : FVec Ideal S384x1 .f32} {a : FVec Ideal S384x128 .f32} (h : Run S V n m l a) (i : Fin 384) (e : Fin 128) :
    k0_pay2 (F := Ideal) l a (ix2 i e) = rowO (S i) (fun J => V J e) n := by
  rw [pay2_at, h.2.1, h.2.2]; rfl

theorem o3_of {S : Fin 384 → ℕ → EReal} {V : ℕ → Fin 128 → EReal} {n : ℕ} {m l : FVec Ideal S384x1 .f32} {a : FVec Ideal S384x128 .f32} (h : Run S V n m l a) (i : Fin 384) (e : Fin 128) :
    k0_pay3 (F := Ideal) l a (ix2 i e) = rowO (S i) (fun J => V J e) n := o_of h i e

theorem l_of {S : Fin 384 → ℕ → EReal} {V : ℕ → Fin 128 → EReal} {n : ℕ} {m l : FVec Ideal S384x1 .f32} {a : FVec Ideal S384x128 .f32} (h : Run S V n m l a) (i : Fin 384) :
    k0_pay4 (F := Ideal) m l (ix3 0 i 0) = rowL (S i) n := by
  rw [pay4_at, h.1, h.2.1]; rfl

/-- An output block: column `128 a + e` holds head `a`'s output at `e`. -/
theorem out3_at (H : Holds x0 x1 x2 q k v) (j : Fin 384) (a : Fin 2) (e : Fin 128) :
    out0_A_3 (F := Ideal) c i arg2 harg2 arg3 harg3 arg4 harg4 arg5 harg5 arg6 harg6 arg7 harg7 x0 x1 x2 (ix2 j ⟨128 * a.val + e.val, by omega⟩)
      = rowO (sc (i 1).val (q a) (k a) j) (fun J => v a J e) (384 * (i 1).val + 384) := by
  obtain ⟨h0, h1⟩ := inv_last c i arg2 harg2 arg3 harg3 arg4 harg4 arg5 harg5 arg6 harg6 arg7 harg7 H
  rw [canon3]
  match a with
  | ⟨0, _⟩ =>
    rw [View.canon_cons_of_not_mem _ _ (by
      rw [Rect.mem_set_unit]; intro hm; have := (hm 1).1; have h3 : 128 ≤ 128 * 0 + e.val := this; omega)]
    refine Eq.trans ?_ (o_of h0 j e)
    convert View.canon_cons_emb (Val := Elt Ideal) (s := S384x256) (e := .f32) (Rect.unit ![0, 0] S384x128.size inb_S384x256_S384x128_0_0) _ _ (ix2 j e) using 2
    funext b
    match b with
    | ⟨0, _⟩ => exact Fin.ext (by rw [Rect.emb_apply]; show j.val = 0 + 1 * j.val; omega)
    | ⟨1, _⟩ => exact Fin.ext (by rw [Rect.emb_apply]; show 128 * 0 + e.val = 0 + 1 * e.val; omega)
  | ⟨1, _⟩ =>
    refine Eq.trans ?_ (o_of h1 j e)
    convert View.canon_cons_emb (Val := Elt Ideal) (s := S384x256) (e := .f32) (Rect.unit ![0, 128] S384x128.size inb_S384x256_S384x128_0_128) _ _ (ix2 j e) using 2
    funext b
    match b with
    | ⟨0, _⟩ => exact Fin.ext (by rw [Rect.emb_apply]; show j.val = 0 + 1 * j.val; omega)
    | ⟨1, _⟩ => exact Fin.ext (by rw [Rect.emb_apply]; show 128 * 1 + e.val = 128 + 1 * e.val; omega)

/-- An output block: column `128 a + e` holds head `a`'s output at `e`. -/
theorem out4_at (H : Holds x0 x1 x2 q k v) (j : Fin 384) (a : Fin 2) (e : Fin 128) :
    out0_A_4 (F := Ideal) c i arg2 harg2 arg3 harg3 arg4 harg4 arg5 harg5 arg6 harg6 arg7 harg7 x0 x1 x2 (ix2 j ⟨128 * a.val + e.val, by omega⟩)
      = rowO (sc (i 1).val (q a) (k a) j) (fun J => v a J e) (384 * (i 1).val + 384) := by
  obtain ⟨h0, h1⟩ := inv_last c i arg2 harg2 arg3 harg3 arg4 harg4 arg5 harg5 arg6 harg6 arg7 harg7 H
  rw [canon4]
  match a with
  | ⟨0, _⟩ =>
    rw [View.canon_cons_of_not_mem _ _ (by
      rw [Rect.mem_set_unit]; intro hm; have := (hm 1).1; have h3 : 128 ≤ 128 * 0 + e.val := this; omega)]
    refine Eq.trans ?_ (o3_of h0 j e)
    convert View.canon_cons_emb (Val := Elt Ideal) (s := S384x256) (e := .bf16) (Rect.unit ![0, 0] S384x128.size inb_S384x256_S384x128_0_0) _ _ (ix2 j e) using 2
    funext b
    match b with
    | ⟨0, _⟩ => exact Fin.ext (by rw [Rect.emb_apply]; show j.val = 0 + 1 * j.val; omega)
    | ⟨1, _⟩ => exact Fin.ext (by rw [Rect.emb_apply]; show 128 * 0 + e.val = 0 + 1 * e.val; omega)
  | ⟨1, _⟩ =>
    refine Eq.trans ?_ (o3_of h1 j e)
    convert View.canon_cons_emb (Val := Elt Ideal) (s := S384x256) (e := .bf16) (Rect.unit ![0, 128] S384x128.size inb_S384x256_S384x128_0_128) _ _ (ix2 j e) using 2
    funext b
    match b with
    | ⟨0, _⟩ => exact Fin.ext (by rw [Rect.emb_apply]; show j.val = 0 + 1 * j.val; omega)
    | ⟨1, _⟩ => exact Fin.ext (by rw [Rect.emb_apply]; show 128 * 1 + e.val = 128 + 1 * e.val; omega)

/-- The statistics' block. -/
theorem out5_at (H : Holds x0 x1 x2 q k v) (j : Fin 384) (a : Fin 2) :
    out0_A_5 (F := Ideal) c i arg2 harg2 arg3 harg3 arg4 harg4 arg5 harg5 arg6 harg6 arg7 harg7 x0 x1 x2 (ix3 a j 0) = rowL (sc (i 1).val (q a) (k a) j) (384 * (i 1).val + 384) := by
  obtain ⟨h0, h1⟩ := inv_last c i arg2 harg2 arg3 harg3 arg4 harg4 arg5 harg5 arg6 harg6 arg7 harg7 H
  rw [canon5]
  match a with
  | ⟨0, _⟩ =>
    rw [View.canon_cons_of_not_mem _ _ (by
      rw [Rect.mem_set_unit]; intro hm; have := (hm 0).1; have h3 : 1 ≤ 0 := this; omega)]
    refine Eq.trans ?_ (l_of h0 j)
    convert View.canon_cons_emb (Val := Elt Ideal) (s := S2x384x1) (e := .f32) (Rect.unit ![0, 0, 0] S1x384x1.size inb_S2x384x1_S1x384x1_0_0_0) _ _ (ix3 0 j 0) using 2
    funext b
    match b with
    | ⟨0, _⟩ => rfl
    | ⟨1, _⟩ => exact Fin.ext (by rw [Rect.emb_apply]; show j.val = 0 + 1 * j.val; omega)
    | ⟨2, _⟩ => rfl
  | ⟨1, _⟩ =>
    refine Eq.trans ?_ (l_of h1 j)
    convert View.canon_cons_emb (Val := Elt Ideal) (s := S2x384x1) (e := .f32) (Rect.unit ![1, 0, 0] S1x384x1.size inb_S2x384x1_S1x384x1_1_0_0) _ _ (ix3 0 j 0) using 2
    funext b
    match b with
    | ⟨0, _⟩ => rfl
    | ⟨1, _⟩ => exact Fin.ext (by rw [Rect.emb_apply]; show j.val = 0 + 1 * j.val; omega)
    | ⟨2, _⟩ => rfl

end values
end trip
end Cert.AttnIdeal.Body
end
-- ==== Proof.AttnRef.lean ====
module

public import proofs.«01_k».proof.Proof.Gen.AttnRefIdeal
public import proofs.«01_k».proof.Proof.Gen.AttnRefIdeal.Run
public import proofs.«01_k».proof.Proof.Gen.AttnRefIdeal.Read
public import proofs.«01_k».proof.Proof.AttnBody
public import Idealize.ShloMosaic.Lib.IdealHost
public import Idealize.ShloMosaic.Lib.WordCmp

@[expose] public section

noncomputable section

/-! The reference of the forward attention at an index, for real queries and keys. -/
namespace Cert.AttnRef

open Idealize.ShloMosaic Idealize.ShloMosaic.ValueIdx Cert.KernelIdeal.Head Cert.KernelIdeal.Tile Cert.Rows Cert.Online
open Cert.AttnRefIdeal Cert.AttnRefIdeal.Gen Cert.AttnRefIdeal.Read
open Cert.AttnIdeal.Body (rowO rowL)

abbrev Q4 := (⟨S1x4112x16x192, .f32⟩ : BufTy).Contents (Elt Ideal)
abbrev V4 := (⟨S1x4112x16x128, .f32⟩ : BufTy).Contents (Elt Ideal)

/-- A row of queries or keys, zero outside the array. -/
def wq (x : Q4) (h : Fin 16) (I d : ℕ) : EReal := if hR : I < 4112 ∧ d < 192 then x (ix4 0 ⟨I, hR.1⟩ h ⟨d, hR.2⟩) else 0
/-- A row of values, zero outside the array. -/
def wv (x : V4) (h : Fin 16) (J : ℕ) (e : Fin 128) : EReal := if hR : J < 4112 then x (ix4 0 ⟨J, hR⟩ h e) else 0

/-- The causal scores of a query's row. -/
def Sg (x0 x1 : Q4) (h : Fin 16) (I J : ℕ) : EReal := if J ≤ I then (∑ d : Fin 256, wq x0 h I d.val * wq x1 h J d.val) * scE else ⊥

/-- The padding's columns add nothing to a product. -/
theorem sum_cols (x0 x1 : Q4) (h : Fin 16) (I J : ℕ) :
    ∑ d : Fin 192, wq x0 h I d.val * wq x1 h J d.val = ∑ d : Fin 256, wq x0 h I d.val * wq x1 h J d.val := by
  rw [← Finset.sum_range (fun d => wq x0 h I d * wq x1 h J d), ← Finset.sum_range (fun d => wq x0 h I d * wq x1 h J d)]
  refine Finset.sum_subset (Finset.range_subset_range.mpr (by omega)) fun d _ hd => ?_
  have hd' : ¬d < 192 := by simpa using hd
  unfold wq
  rw [dif_neg (fun hh => hd' hh.2), zero_mul]

section real
variable {x0 x1 : Q4} (r0 : ∀ i, ∃ r : ℝ, x0 i = (r : EReal)) (r1 : ∀ i, ∃ r : ℝ, x1 i = (r : EReal))

include r0 in
theorem wq_real (h : Fin 16) (I d : ℕ) : ∃ r : ℝ, wq x0 h I d = (r : EReal) := by
  unfold wq
  split
  · exact r0 _
  · exact ⟨0, rfl⟩

include r0 r1 in
/-- A score before the mask is real. -/
theorem dot_real (h : Fin 16) (I J : ℕ) : ∃ r : ℝ, (∑ d : Fin 256, wq x0 h I d.val * wq x1 h J d.val) * scE = (r : EReal) := by
  choose f hf using fun d : Fin 256 => wq_real r0 h I d.val
  choose g hg using fun d : Fin 256 => wq_real r1 h J d.val
  refine ⟨(∑ d, f d * g d) * scR, ?_⟩
  rw [EReal.coe_mul, coe_sum, scE_eq]
  congr 1
  exact Finset.sum_congr rfl fun d _ => by rw [hf, hg, EReal.coe_mul]

include r0 r1 in
theorem Sg_lt (h : Fin 16) (I J : ℕ) : Sg x0 x1 h I J < ⊤ := by
  unfold Sg
  split
  · obtain ⟨r, hr⟩ := dot_real r0 r1 h I J
    rw [hr]; exact EReal.coe_lt_top _
  · exact bot_lt_top

include r0 r1 in
theorem Sg_diag (h : Fin 16) (I : ℕ) : ⊥ < Sg x0 x1 h I I := by
  unfold Sg
  rw [if_pos le_rfl]
  obtain ⟨r, hr⟩ := dot_real r0 r1 h I I
  rw [hr]; exact EReal.bot_lt_coe _

include r0 r1 in
/-- The sum of a row's exponentials is real and positive. -/
theorem ls_pos (h : Fin 16) (I : Fin 4224) : ∃ z : ℝ, 0 < z ∧ ls (Sg x0 x1 h I.val) 4224 = (z : EReal) :=
  ls_real (Sg_lt r0 r1 h I.val) I.val I.isLt (Sg_diag r0 r1 h I.val)
end real

section read
variable (x0 x1 : Q4) (x2 : V4)

theorem fill0 (i : S_.Idx) : val_main_call0_v0 (F := Ideal) i = 0 := by
  rw [val_main_call0_v0_apply, val_main_c_apply]; simp [FloatOps.sitofp]
theorem fill1 (i : S_.Idx) : val_main_call1_v0 (F := Ideal) i = 0 := by
  rw [val_main_call1_v0_apply, val_main_c_0_apply]; simp [FloatOps.sitofp]
theorem fill2 (i : S_.Idx) : val_main_call2_v0 (F := Ideal) i = 0 := by
  rw [val_main_call2_v0_apply, val_main_c_1_apply]; simp [FloatOps.sitofp]

/-- Padded queries or keys at an index. -/
theorem padq (x : Q4) (z : (⟨S_, .f32⟩ : BufTy).Contents (Elt Ideal)) (hz : ∀ i, z i = (0 : EReal)) (R : Fin 4224) (h : Fin 16) (d : Fin 192) :
    pad S1x4224x16x192 ![0, 0, 0, 0] ![0, 112, 0, 0] ![0, 0, 0, 0] x z pads_S1x4112x16x192_S1x4224x16x192_000_01120_000_000 h_S_ (ix4 0 R h d) = wq x h R.val d.val := by
  unfold wq
  split
  · rename_i hR
    exact pad_apply_of_inside _ _ _ _ _ _ _ _ (ix4 0 (⟨R.val, hR.1⟩ : Fin 4112) h d) (fun a => match a with
      | ⟨0, _⟩ => rfl
      | ⟨1, _⟩ => show R.val = 0 + R.val * 1 by omega
      | ⟨2, _⟩ => show h.val = 0 + h.val * 1 by omega
      | ⟨3, _⟩ => show d.val = 0 + d.val * 1 by omega)
  · rename_i hR
    refine (pad_apply_of_not_inside _ _ _ _ _ _ _ _ 1 ?_).trans (hz _)
    show ¬(0 ≤ R.val ∧ (R.val - 0) % 1 = 0 ∧ (R.val - 0) / 1 < 4112)
    have := d.isLt
    omega

/-- Padded values at an index. -/
theorem padv (R : Fin 4224) (h : Fin 16) (e : Fin 128) : val_main_v2 (F := Ideal) x2 (ix4 0 R h e) = wv x2 h R.val e := by
  unfold val_main_v2 wv
  split
  · rename_i hR
    exact pad_apply_of_inside _ _ _ _ _ _ _ _ (ix4 0 (⟨R.val, hR⟩ : Fin 4112) h e) (fun a => match a with
      | ⟨0, _⟩ => rfl
      | ⟨1, _⟩ => show R.val = 0 + R.val * 1 by omega
      | ⟨2, _⟩ => show h.val = 0 + h.val * 1 by omega
      | ⟨3, _⟩ => show e.val = 0 + e.val * 1 by omega)
  · rename_i hR
    refine (pad_apply_of_not_inside _ _ _ _ _ _ _ _ 1 ?_).trans (fill2 _)
    show ¬(0 ≤ R.val ∧ (R.val - 0) % 1 = 0 ∧ (R.val - 0) / 1 < 4112)
    omega

theorem mask_at (h : Fin 16) (I J : Fin 4224) : val_main_call3_v1 (F := Ideal) (ix4 0 h I J) = BitVec.ofBool (decide (J.val ≤ I.val)) := by
  rw [val_main_call3_v1_apply, val_main_v11_apply, val_main_v9_apply, val_main_v7_apply, val_main_v6_apply, val_main_v10_apply, val_main_v8_apply, val_main_v6_apply]
  exact WordCmp.cmpi_sge_ofNat (by have := I.isLt; show I.val < _; omega) (by have := J.isLt; show J.val < _; omega)

theorem mask2_at (h : Fin 16) (I J : Fin 4224) : val_main_call4_v1 (F := Ideal) (ix4 0 h I J) = BitVec.ofBool (decide (J.val ≤ I.val)) := by
  rw [val_main_call4_v1_apply, val_main_v36_apply, val_main_v34_apply, val_main_v32_apply, val_main_v31_apply, val_main_v35_apply, val_main_v33_apply, val_main_v31_apply]
  exact WordCmp.cmpi_sge_ofNat (by have := I.isLt; show I.val < _; omega) (by have := J.isLt; show J.val < _; omega)

/-- The masked scores. -/
theorem score_at (h : Fin 16) (I J : Fin 4224) : val_main_v12 (F := Ideal) x0 x1 (ix4 0 h I J) = Sg x0 x1 h I.val J.val := by
  rw [val_main_v12_apply, mask_at, sel]
  unfold Sg
  have hs : val_main_v5 (F := Ideal) x0 x1 (ix4 0 h I J) = (∑ d : Fin 256, wq x0 h I.val d.val * wq x1 h J.val d.val) * scE := by
    rw [val_main_v5_apply, val_main_v4_apply, val_main_cst_apply, ← sum_cols]
    show val_main_v3 (F := Ideal) x0 x1 (ix4 0 h I J) * scE = _
    rw [val_main_v3_apply]
    congr 1
    refine Finset.sum_congr rfl fun d _ => ?_
    rw [show lidx_main_v3 (ix4 0 h I J) d = ix4 0 I h d from eq_ix4 _, show ridx_main_v3 (ix4 0 h I J) d = ix4 0 J h d from eq_ix4 _]
    exact congrArg₂ (· * ·) (padq x0 _ fill0 I h d) (padq x1 _ fill1 J h d)
  have hb : val_main_call3_v2 (F := Ideal) (ix4 0 h I J) = ⊥ := by
    rw [val_main_call3_v2_apply, val_main_call3_v0_apply, val_main_cst_2_apply]
    exact botW
  rw [hs, hb]

/-- The masked scores, written a second time. -/
theorem score2_at (h : Fin 16) (I J : Fin 4224) : val_main_v37 (F := Ideal) x0 x1 (ix4 0 h I J) = Sg x0 x1 h I.val J.val := by
  rw [val_main_v37_apply, mask2_at, sel]
  unfold Sg
  have hs : val_main_v30 (F := Ideal) x0 x1 (ix4 0 h I J) = (∑ d : Fin 256, wq x0 h I.val d.val * wq x1 h J.val d.val) * scE := by
    rw [val_main_v30_apply, val_main_v29_apply, val_main_cst_6_apply, ← sum_cols]
    show val_main_v28 (F := Ideal) x0 x1 (ix4 0 h I J) * scE = _
    rw [val_main_v28_apply]
    congr 1
    refine Finset.sum_congr rfl fun d _ => ?_
    rw [show lidx_main_v28 (ix4 0 h I J) d = ix4 0 I h d from eq_ix4 _, show ridx_main_v28 (ix4 0 h I J) d = ix4 0 J h d from eq_ix4 _]
    exact congrArg₂ (· * ·) (padq x0 _ fill0 I h d) (padq x1 _ fill1 J h d)
  have hb : val_main_call4_v2 (F := Ideal) (ix4 0 h I J) = ⊥ := by
    rw [val_main_call4_v2_apply, val_main_call4_v0_apply, val_main_cst_7_apply]
    exact botW
  rw [hs, hb]

theorem reduces : S1x16x4224x4224.Reduces [3] S1x16x4224 := by decide

/-- A row's maximum is the maximum of its scores. -/
theorem max_at (x : FVec Ideal S1x16x4224x4224 .f32) (S : Fin 16 → ℕ → ℕ → EReal) (hx : ∀ h (I J : Fin 4224), x (ix4 0 h I J) = S h I.val J.val) (h : Fin 16) (I : Fin 4224) :
    Host.reduce (FloatOps.maximumf (F := Ideal) (φ := .f32)) x (constant (F := Ideal) S_ .f32 0xFF800000#32) reducesTo_S1x16x4224x4224_S1x16x4224_d3 h_S_ (ix3 0 h I) = mx (S h I.val) 4224 := by
  refine (Host.reduce_eq_fold_single (FloatOps.maximumf (F := Ideal) (φ := .f32)) x _ reducesTo_S1x16x4224x4224_S1x16x4224_d3 reduces h_S_ (ix3 0 h I)).trans ?_
  have e := mx_step (S h I.val) 0 4224
  rw [mx_zero, max_eq_right bot_le] at e
  simp only [Nat.zero_add] at e
  refine Eq.trans ?_ e.symm
  rw [show (constant (F := Ideal) S_ .f32 0xFF800000#32) (Shape.Idx.first h_S_) = (⊥ : EReal) from botW]
  have hl : ∀ J : Fin 4224, reduces.lift (ix3 0 h I) J = ix4 0 h I J := fun J => funext fun a => Fin.ext (by
    match a with
    | ⟨0, _⟩ => rfl
    | ⟨1, _⟩ => rfl
    | ⟨2, _⟩ => rfl
    | ⟨3, _⟩ => rfl)
  refine congrArg (fun f : Fin 4224 → EReal => Finset.fold max ⊥ f Finset.univ) (funext fun J => ?_)
  exact (congrArg x (hl J)).trans (hx h I J)

theorem mx_at (h : Fin 16) (I : Fin 4224) : val_main_v15 (F := Ideal) x0 x1 (ix3 0 h I) = mx (Sg x0 x1 h I.val) 4224 := by
  rw [val_main_v15_apply, val_main_v14_apply, val_main_cst_4_apply]
  show max (Ideal.ofBits .f32 0xFF800000#32) (val_main_v13 (F := Ideal) x0 x1 (ix3 0 h I)) = _
  rw [botW, max_eq_right bot_le]
  exact max_at _ (Sg x0 x1) (score_at x0 x1) h I

theorem mx2_at (h : Fin 16) (I : Fin 4224) : val_main_v38 (F := Ideal) x0 x1 (ix3 0 h I) = mx (Sg x0 x1 h I.val) 4224 :=
  max_at _ (Sg x0 x1) (score2_at x0 x1) h I

theorem exp_at (h : Fin 16) (I J : Fin 4224) : val_main_v19 (F := Ideal) x0 x1 (ix4 0 h I J) = Ideal.exp (Sg x0 x1 h I.val J.val - mx (Sg x0 x1 h I.val) 4224) := by
  rw [val_main_v19_apply, val_main_v18_apply, val_main_v17_apply, val_main_v16_apply, score_at]
  rw [show idx_main_v16 (idx_main_v17 (ix4 0 h I J)) = ix3 0 h I from eq_ix3 _, mx_at]
  rfl

theorem exp2_at (h : Fin 16) (I J : Fin 4224) : val_main_v42 (F := Ideal) x0 x1 (ix4 0 h I J) = Ideal.exp (Sg x0 x1 h I.val J.val - mx (Sg x0 x1 h I.val) 4224) := by
  rw [val_main_v42_apply, val_main_v41_apply, val_main_v40_apply, val_main_v39_apply, score2_at]
  rw [show idx_main_v39 (idx_main_v40 (ix4 0 h I J)) = ix3 0 h I from eq_ix3 _, mx2_at]
  rfl

theorem sum_at (h : Fin 16) (I : Fin 4224) : val_main_v20 (F := Ideal) x0 x1 (ix3 0 h I) = ls (Sg x0 x1 h I.val) 4224 := by
  rw [val_main_v20_apply, val_main_cst_5_apply]
  show Ideal.ofBits .f32 0x00000000#32 + _ = _
  rw [zeroW, zero_add, ls, Finset.sum_range]
  refine Finset.sum_congr rfl fun J _ => ?_
  rw [show idx_main_v20 (ix3 0 h I) J = ix4 0 h I J from eq_ix4 _, exp_at]

theorem sum2_at (h : Fin 16) (I : Fin 4224) : val_main_v43 (F := Ideal) x0 x1 (ix3 0 h I) = ls (Sg x0 x1 h I.val) 4224 := by
  rw [val_main_v43_apply, val_main_cst_9_apply]
  show Ideal.ofBits .f32 0x00000000#32 + _ = _
  rw [zeroW, zero_add, ls, Finset.sum_range]
  refine Finset.sum_congr rfl fun J _ => ?_
  rw [show idx_main_v43 (ix3 0 h I) J = ix4 0 h I J from eq_ix4 _, exp2_at]

/-- The softmax's weights. -/
theorem prob_at (h : Fin 16) (I J : Fin 4224) : val_main_v23 (F := Ideal) x0 x1 (ix4 0 h I J)
    = Ideal.div (Ideal.exp (Sg x0 x1 h I.val J.val - mx (Sg x0 x1 h I.val) 4224)) (ls (Sg x0 x1 h I.val) 4224) := by
  rw [val_main_v23_apply, val_main_v22_apply, val_main_v21_apply, exp_at, show idx_main_v21 (idx_main_v22 (ix4 0 h I J)) = ix3 0 h I from eq_ix3 _, sum_at]
  rfl

variable {x0 x1} (r0 : ∀ i, ∃ r : ℝ, x0 i = (r : EReal)) (r1 : ∀ i, ∃ r : ℝ, x1 i = (r : EReal))

include r0 r1 in
/-- The attention's output. -/
theorem out_at (h : Fin 16) (e : Fin 128) (I : Fin 4224) : val_main_v24 (F := Ideal) x0 x1 x2 (ix4 0 h e I) = rowO (Sg x0 x1 h I.val) (fun J => wv x2 h J e) 4224 := by
  obtain ⟨z, hz, hl⟩ := ls_pos r0 r1 h I
  rw [rowO, hl, div_ac _ hz, val_main_v24_apply, Finset.sum_range]
  refine Finset.sum_congr rfl fun J _ => ?_
  rw [show lidx_main_v24 (ix4 0 h e I) J = ix4 0 J h e from eq_ix4 _, show ridx_main_v24 (ix4 0 h e I) J = ix4 0 h I J from eq_ix4 _, padv, prob_at, hl]

theorem idx_out (R : Fin 4224) (h : Fin 16) (e : Fin 128) : idx_main_v25 (idx_main_v26 (idx_main_v27 (ix2 R ⟨128 * h.val + e.val, by omega⟩))) = ix4 0 h e R := funext fun a => Fin.ext (by
  have h0 := R.isLt
  have h1 := h.isLt
  have h2 := e.isLt
  have e0 : (R.val * 2048 + (128 * h.val + e.val)) / 2048 = R.val := by omega
  have e1 : (R.val * 2048 + (128 * h.val + e.val)) / 128 % 16 = h.val := by omega
  have e2 : (R.val * 2048 + (128 * h.val + e.val)) % 128 = e.val := by omega
  match a with
  | ⟨0, _⟩ => rfl
  | ⟨1, _⟩ =>
    show (((R.val * 2048 + (128 * h.val + e.val)) / 2048 * 16 + (R.val * 2048 + (128 * h.val + e.val)) / 128 % 16) * 128 + (R.val * 2048 + (128 * h.val + e.val)) % 128) / 128 % 16 = h.val
    rw [e0, e1, e2]; omega
  | ⟨2, _⟩ =>
    show (((R.val * 2048 + (128 * h.val + e.val)) / 2048 * 16 + (R.val * 2048 + (128 * h.val + e.val)) / 128 % 16) * 128 + (R.val * 2048 + (128 * h.val + e.val)) % 128) % 128 = e.val
    rw [e0, e1, e2]; omega
  | ⟨3, _⟩ =>
    show (((R.val * 2048 + (128 * h.val + e.val)) / 2048 * 16 + (R.val * 2048 + (128 * h.val + e.val)) / 128 % 16) * 128 + (R.val * 2048 + (128 * h.val + e.val)) % 128) / 2048 % 4224 = R.val
    rw [e0, e1, e2]; omega)

include r0 r1 in
/-- The first result. -/
theorem res27_at (R : Fin 4224) (h : Fin 16) (e : Fin 128) :
    val_main_v27 (F := Ideal) x0 x1 x2 (ix2 R ⟨128 * h.val + e.val, by omega⟩) = rowO (Sg x0 x1 h R.val) (fun J => wv x2 h J e) 4224 := by
  rw [val_main_v27_apply, val_main_v26_apply, val_main_v25_apply, idx_out]
  exact out_at x2 r0 r1 h e R

include r0 r1 in
/-- The second result. -/
theorem res47_at (R : Fin 4224) (h : Fin 16) (e : Fin 128) :
    val_main_v47 (F := Ideal) x0 x1 x2 (ix2 R ⟨128 * h.val + e.val, by omega⟩) = rowO (Sg x0 x1 h R.val) (fun J => wv x2 h J e) 4224 :=
  res27_at x2 r0 r1 R h e

/-- The third result. -/
theorem res48_at (h : Fin 16) (R : Fin 4224) : val_main_v48 (F := Ideal) x0 x1 (ix3 h R 0) = rowL (Sg x0 x1 h R.val) 4224 := by
  have hi : idx_main_v48 (ix3 h R 0) = ix4 0 h R 0 := funext fun a => Fin.ext (by
    have h0 := R.isLt
    have h1 := h.isLt
    match a with
    | ⟨0, _⟩ => rfl
    | ⟨1, _⟩ => show ((h.val * 4224 + R.val) * 1 + 0) / 4224 % 16 = h.val; omega
    | ⟨2, _⟩ => show ((h.val * 4224 + R.val) * 1 + 0) / 1 % 4224 = R.val; omega
    | ⟨3, _⟩ => rfl)
  rw [val_main_v48_apply, hi, val_main_v46_apply, val_main_v39_apply, val_main_v45_apply, val_main_v44_apply,
    show idx_main_v39 (ix4 0 h R 0) = ix3 0 h R from eq_ix3 _, show idx_main_v44 (ix4 0 h R 0) = ix3 0 h R from eq_ix3 _, mx2_at, sum2_at]
  rfl
end read
end Cert.AttnRef
end
-- ==== Proof.AttnCall.lean ====
module

public import proofs.«01_k».proof.Proof.Gen.Attn
public import proofs.«01_k».proof.Proof.Gen.Attn.Frame
public import proofs.«01_k».proof.Proof.Gen.AttnIdeal
public import proofs.«01_k».proof.Proof.Gen.AttnIdeal.Value
public import proofs.«01_k».proof.Proof.AttnRef
public import Idealize.ShloMosaic.Lib.Pipeline.ValueKit.Geometry
public import Idealize.ShloMosaic.Lib.Pipeline.ValueKit.Tiles

@[expose] public section

noncomputable section

/-! The forward attention's three arrays. -/
namespace Cert.AttnIdeal.Call

open Idealize.ShloMosaic Idealize.ShloMosaic.ValueIdx Cert.KernelIdeal.Head Cert.KernelIdeal.Tile Cert.Online Cert.AttnRef
open Cert.AttnIdeal Cert.AttnIdeal.Gen Cert.AttnIdeal.Body
open Idealize.ShloMosaic.TcCoe Idealize.ShloMosaic.Tactic Idealize.SL.Sem

/-- The filler of every pad is zero. -/
theorem filler (i : S_.Idx) : sitofp (F := Ideal) .f32 (constantI S_ 32 0#32) i = (0 : EReal) := by
  show ((((0#32 : BitVec 32).toInt : ℝ)) : EReal) = 0
  simp

/-- A cast keeps every entry. -/
theorem trunc_at {t : Shape} (x : FVec Ideal t .f32) (i : t.Idx) : truncf (F := Ideal) .bf16 x bitsLt_bf16_f32 i = x i := rfl

/-- Queries or keys laid out for the call: rows padded to 4224, heads padded to 256 lanes. -/
def wide (x : Q4) : (⟨S4224x4096, .bf16⟩ : BufTy).Contents (Elt Ideal) :=
  truncf (F := Ideal) (φ := .f32) .bf16 (shapeCast S4224x4096 (pad S4224x16x256 ![0, 0, 0] ![112, 0, 64] ![0, 0, 0] (shapeCast S4112x16x192 x shapeCasts_S1x4112x16x192_S4112x16x192)
    (sitofp (F := Ideal) .f32 (constantI S_ 32 0#32)) pads_S4112x16x192_S4224x16x256_01120_000_0640 h_S_) shapeCasts_S4224x16x256_S4224x4096) bitsLt_bf16_f32

/-- Values laid out for the call: rows padded to 4224. -/
def narrow (x : V4) : (⟨S4224x2048, .bf16⟩ : BufTy).Contents (Elt Ideal) :=
  truncf (F := Ideal) (φ := .f32) .bf16 (shapeCast S4224x2048 (pad S4224x16x128 ![0, 0, 0] ![112, 0, 0] ![0, 0, 0] (shapeCast S4112x16x128 x shapeCasts_S1x4112x16x128_S4112x16x128)
    (sitofp (F := Ideal) .f32 (constantI S_ 32 0#32)) pads_S4112x16x128_S4224x16x128_01120_000_000 h_S_) shapeCasts_S4224x16x128_S4224x2048) bitsLt_bf16_f32

/-- The wide layout at an index. -/
theorem wide_at (x : Q4) (R : Fin 4224) (h : Fin 16) (d : Fin 256) : wide x (ix2 R ⟨256 * h.val + d.val, by omega⟩) = wq x h R.val d.val := by
  unfold wide wq
  refine (trunc_at _ _).trans ((shapeCast_apply _ shapeCasts_S4224x16x256_S4224x4096 _ (ix3 R h d) ?_).trans ?_)
  · rw [Shape.rowMajor_val_three, Shape.rowMajor_val_two]
    show (R.val * 16 + h.val) * 256 + d.val = R.val * 4096 + (256 * h.val + d.val)
    omega
  split
  · rename_i hR
    refine (pad_apply_of_inside _ _ _ _ _ _ _ _ (ix3 (⟨R.val, hR.1⟩ : Fin 4112) h (⟨d.val, hR.2⟩ : Fin 192)) (fun a => match a with
      | ⟨0, _⟩ => show R.val = 0 + R.val * 1 by omega
      | ⟨1, _⟩ => show h.val = 0 + h.val * 1 by omega
      | ⟨2, _⟩ => show d.val = 0 + d.val * 1 by omega)).trans ?_
    refine shapeCast_apply _ shapeCasts_S1x4112x16x192_S4112x16x192 _ (ix4 0 (⟨R.val, hR.1⟩ : Fin 4112) h (⟨d.val, hR.2⟩ : Fin 192)) ?_
    rw [Shape.rowMajor_val_three, Shape.rowMajor_val_four]
    show ((0 * 4112 + R.val) * 16 + h.val) * 192 + d.val = (R.val * 16 + h.val) * 192 + d.val
    omega
  · rename_i hR
    by_cases hR1 : R.val < 4112
    · refine (pad_apply_of_not_inside _ _ _ _ _ _ _ _ 2 ?_).trans (filler _)
      show ¬(0 ≤ d.val ∧ (d.val - 0) % 1 = 0 ∧ (d.val - 0) / 1 < 192)
      omega
    · refine (pad_apply_of_not_inside _ _ _ _ _ _ _ _ 0 ?_).trans (filler _)
      show ¬(0 ≤ R.val ∧ (R.val - 0) % 1 = 0 ∧ (R.val - 0) / 1 < 4112)
      omega

/-- The narrow layout at an index. -/
theorem narrow_at (x : V4) (R : Fin 4224) (h : Fin 16) (d : Fin 128) : narrow x (ix2 R ⟨128 * h.val + d.val, by omega⟩) = wv x h R.val d := by
  unfold narrow wv
  refine (trunc_at _ _).trans ((shapeCast_apply _ shapeCasts_S4224x16x128_S4224x2048 _ (ix3 R h d) ?_).trans ?_)
  · rw [Shape.rowMajor_val_three, Shape.rowMajor_val_two]
    show (R.val * 16 + h.val) * 128 + d.val = R.val * 2048 + (128 * h.val + d.val)
    omega
  split
  · rename_i hR
    refine (pad_apply_of_inside _ _ _ _ _ _ _ _ (ix3 (⟨R.val, hR⟩ : Fin 4112) h d) (fun a => match a with
      | ⟨0, _⟩ => show R.val = 0 + R.val * 1 by omega
      | ⟨1, _⟩ => show h.val = 0 + h.val * 1 by omega
      | ⟨2, _⟩ => show d.val = 0 + d.val * 1 by omega)).trans ?_
    refine shapeCast_apply _ shapeCasts_S1x4112x16x128_S4112x16x128 _ (ix4 0 (⟨R.val, hR⟩ : Fin 4112) h d) ?_
    rw [Shape.rowMajor_val_three, Shape.rowMajor_val_four]
    show ((0 * 4112 + R.val) * 16 + h.val) * 128 + d.val = (R.val * 16 + h.val) * 128 + d.val
    omega
  · rename_i hR
    refine (pad_apply_of_not_inside _ _ _ _ _ _ _ _ 0 ?_).trans (filler _)
    show ¬(0 ≤ R.val ∧ (R.val - 0) % 1 = 0 ∧ (R.val - 0) / 1 < 4112)
    omega

theorem e0 : ∀ t : Fin cfg0.N, win0_0.index t = ![(grid0.coords t 1).val, (grid0.coords t 0).val] := (by decide +kernel : ∀ t : Fin grid0.N, _)
theorem e1 : ∀ t : Fin cfg0.N, win0_1.index t = ![0, (grid0.coords t 0).val] := (by decide +kernel : ∀ t : Fin grid0.N, _)
theorem e2 : ∀ t : Fin cfg0.N, win0_2.index t = ![0, (grid0.coords t 0).val] := (by decide +kernel : ∀ t : Fin grid0.N, _)
theorem e3 : ∀ t : Fin cfg0.N, win0_3.index t = ![(grid0.coords t 1).val, (grid0.coords t 0).val] := (by decide +kernel : ∀ t : Fin grid0.N, _)
theorem e4 : ∀ t : Fin cfg0.N, win0_4.index t = ![(grid0.coords t 1).val, (grid0.coords t 0).val] := (by decide +kernel : ∀ t : Fin grid0.N, _)
theorem e5 : ∀ t : Fin cfg0.N, win0_5.index t = ![(grid0.coords t 0).val, (grid0.coords t 1).val, 0] := (by decide +kernel : ∀ t : Fin grid0.N, _)
theorem c0lt : ∀ t : Fin cfg0.N, (grid0.coords t 0).val < 8 := fun t => (grid0.coords t 0).isLt
theorem c1lt : ∀ t : Fin cfg0.N, (grid0.coords t 1).val < 11 := fun t => (grid0.coords t 1).isLt

section
variable (m : (ℓ : Loc nD τ sig) → Buf (Elt Ideal) ℓ) (c : Dev nD) (t : Fin cfg0.N)

abbrev a0 : Q4 := m ((c : Thread nD τ).loc main_arg0)
abbrev a1 : Q4 := m ((c : Thread nD τ).loc main_arg1)
abbrev a2 : V4 := m ((c : Thread nD τ).loc main_arg2)

theorem V_q : (V m c main_v3 : (⟨S4224x4096, .bf16⟩ : BufTy).Contents (Elt Ideal)) = wide (a0 m c) := by
  simp only [V, hostOps0, hostOps0_1, hostOps0_2, hostOps0_3, hostOps0_4, hostOps0_5, hostOps0_6, List.flatten_cons, List.flatten_nil, List.append_nil, List.cons_append, List.nil_append]
  after_results
  rfl

theorem V_k : (V m c main_v7 : (⟨S4224x4096, .bf16⟩ : BufTy).Contents (Elt Ideal)) = wide (a1 m c) := by
  simp only [V, hostOps0, hostOps0_1, hostOps0_2, hostOps0_3, hostOps0_4, hostOps0_5, hostOps0_6, List.flatten_cons, List.flatten_nil, List.append_nil, List.cons_append, List.nil_append]
  after_results
  rfl

theorem V_v : (V m c main_v11 : (⟨S4224x2048, .bf16⟩ : BufTy).Contents (Elt Ideal)) = narrow (a2 m c) := by
  simp only [V, hostOps0, hostOps0_1, hostOps0_2, hostOps0_3, hostOps0_4, hostOps0_5, hostOps0_6, List.flatten_cons, List.flatten_nil, List.append_nil, List.cons_append, List.nil_append]
  after_results
  rfl

/-- The head of lane group `a` at point `t`. -/
def hd (a : Fin 2) : Fin 16 := ⟨2 * (grid0.coords t 0).val + a.val, by have := c0lt t; omega⟩
/-- The array row of a query block's row `j`. -/
def rowOf (j : Fin 384) : Fin 4224 := ⟨384 * (grid0.coords t 1).val + j.val, by have := c1lt t; omega⟩

/-- The queries' block. -/
theorem blk0 (a : Fin 2) (j : Fin 384) (d : Fin 256) : iblk m c 0 t (ix2 j ⟨256 * a.val + d.val, by omega⟩)
    = V m c main_v3 (ix2 (rowOf t j) ⟨256 * (hd t a).val + d.val, by have := (hd t a).isLt; omega⟩) := by
  have := c0lt t
  have := c1lt t
  blk_simp [iblk]
  congr 1
  blk_ext [e0, hd, rowOf]
  change (grid0.coords t 1).val * 384 + j.val = _
  omega

/-- The keys' block. -/
theorem blk1 (a : Fin 2) (I : Fin 4224) (d : Fin 256) : iblk m c 1 t (ix2 I ⟨256 * a.val + d.val, by omega⟩)
    = V m c main_v7 (ix2 I ⟨256 * (hd t a).val + d.val, by have := (hd t a).isLt; omega⟩) := by
  have := c0lt t
  have := c1lt t
  blk_simp [iblk]
  congr 1
  blk_ext [e1, hd]

/-- The values' block. -/
theorem blk2 (a : Fin 2) (I : Fin 4224) (d : Fin 128) : iblk m c 2 t (ix2 I ⟨128 * a.val + d.val, by omega⟩)
    = V m c main_v11 (ix2 I ⟨128 * (hd t a).val + d.val, by have := (hd t a).isLt; omega⟩) := by
  have := c0lt t
  have := c1lt t
  blk_simp [iblk]
  congr 1
  blk_ext [e2, hd]

/-- The blocks at a point hold the padded rows of the point's two heads. -/
theorem holds : Holds (iblk m c 0 t) (iblk m c 1 t) (iblk m c 2 t)
    (fun a j d => wq (a0 m c) (hd t a) (384 * (grid0.coords t 1).val + j.val) d.val) (fun a J d => wq (a1 m c) (hd t a) J d.val)
    (fun a J e => wv (a2 m c) (hd t a) J e) where
  hq a j d := (blk0 m c t a j d).trans ((congrFun (V_q m c) _).trans (wide_at (a0 m c) (rowOf t j) (hd t a) d))
  hk a I d := (blk1 m c t a I d).trans ((congrFun (V_k m c) _).trans (wide_at (a1 m c) I (hd t a) d))
  hv a I e := (blk2 m c t a I e).trans ((congrFun (V_v m c) _).trans (narrow_at (a2 m c) I (hd t a) e))

/-- No key after the query tile adds to a row. -/
theorem past (x0 x1 : Q4) (h : Fin 16) (T : ℕ) (j : Fin 384) (J : ℕ) (hJ : 384 * T + 384 ≤ J) : Sg x0 x1 h (384 * T + j.val) J = ⊥ := by
  unfold Sg
  rw [if_neg (by omega)]

theorem rowO_eq (x0 x1 : Q4) (h : Fin 16) (W : ℕ → EReal) (j : Fin 384) :
    rowO (Sg x0 x1 h (384 * (grid0.coords t 1).val + j.val)) W (384 * (grid0.coords t 1).val + 384) = rowO (Sg x0 x1 h (rowOf t j).val) W 4224 := by
  have := c1lt t
  have hn : 384 * (grid0.coords t 1).val + 384 ≤ 4224 := by omega
  have hp := past x0 x1 h (grid0.coords t 1).val j
  show _ = rowO (Sg x0 x1 h (384 * (grid0.coords t 1).val + j.val)) W 4224
  unfold rowO
  rw [ac_past W hn hp, ls_past hn hp]

theorem rowL_eq (x0 x1 : Q4) (h : Fin 16) (j : Fin 384) :
    rowL (Sg x0 x1 h (384 * (grid0.coords t 1).val + j.val)) (384 * (grid0.coords t 1).val + 384) = rowL (Sg x0 x1 h (rowOf t j).val) 4224 := by
  have := c1lt t
  have hn : 384 * (grid0.coords t 1).val + 384 ≤ 4224 := by omega
  have hp := past x0 x1 h (grid0.coords t 1).val j
  show _ = rowL (Sg x0 x1 h (384 * (grid0.coords t 1).val + j.val)) 4224
  unfold rowL
  rw [mx_past hn hp, ls_past hn hp]

/-- The output block a point writes. -/
theorem pt3 (j : Fin 384) (a : Fin 2) (e : Fin 128) :
    out0_A_3 (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (iblk m c 0 t) (iblk m c 1 t) (iblk m c 2 t) (ix2 j ⟨128 * a.val + e.val, by omega⟩)
    = rowO (Sg (a0 m c) (a1 m c) (hd t a) (rowOf t j).val) (fun J => wv (a2 m c) (hd t a) J e) 4224 :=
  (out3_at c (grid0.coords t) (ms0_0 t) (hs0_0 t) (ms0_1 t) (hs0_1 t) (ms0_2 t) (hs0_2 t) (ms0_3 t) (hs0_3 t) (ms0_4 t) (hs0_4 t) (ms0_5 t) (hs0_5 t) (holds m c t) j a e).trans
    (rowO_eq t (a0 m c) (a1 m c) (hd t a) (fun J => wv (a2 m c) (hd t a) J e) j)

/-- The same output, cast. -/
theorem pt4 (j : Fin 384) (a : Fin 2) (e : Fin 128) :
    out0_A_4 (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (iblk m c 0 t) (iblk m c 1 t) (iblk m c 2 t) (ix2 j ⟨128 * a.val + e.val, by omega⟩)
    = rowO (Sg (a0 m c) (a1 m c) (hd t a) (rowOf t j).val) (fun J => wv (a2 m c) (hd t a) J e) 4224 :=
  (out4_at c (grid0.coords t) (ms0_0 t) (hs0_0 t) (ms0_1 t) (hs0_1 t) (ms0_2 t) (hs0_2 t) (ms0_3 t) (hs0_3 t) (ms0_4 t) (hs0_4 t) (ms0_5 t) (hs0_5 t) (holds m c t) j a e).trans
    (rowO_eq t (a0 m c) (a1 m c) (hd t a) (fun J => wv (a2 m c) (hd t a) J e) j)

/-- The statistics' block a point writes. -/
theorem pt5 (j : Fin 384) (a : Fin 2) :
    out0_A_5 (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (iblk m c 0 t) (iblk m c 1 t) (iblk m c 2 t) (ix3 a j 0)
    = rowL (Sg (a0 m c) (a1 m c) (hd t a) (rowOf t j).val) 4224 :=
  (out5_at c (grid0.coords t) (ms0_0 t) (hs0_0 t) (ms0_1 t) (hs0_1 t) (ms0_2 t) (hs0_2 t) (ms0_3 t) (hs0_3 t) (ms0_4 t) (hs0_4 t) (ms0_5 t) (hs0_5 t) (holds m c t) j a).trans
    (rowL_eq t (a0 m c) (a1 m c) (hd t a) j)

/-- An array that holds every head's output is the kernel's first result. -/
theorem arr3 (G : (⟨S4224x2048, .f32⟩ : BufTy).Contents (Elt Ideal))
    (hG : ∀ (R : Fin 4224) (h : Fin 16) (e : Fin 128), G (ix2 R ⟨128 * h.val + e.val, by omega⟩) = rowO (Sg (a0 m c) (a1 m c) h R.val) (fun J => wv (a2 m c) h J e) 4224) :
    (dats m 0 c).arrAt 3 cfg0.N = G := by
  refine (dats m 0 c).arrAt_eq_of_covers 3 G (by decide +kernel) fun t hf y => ?_
  have h0 := c0lt t
  have h1 := c1lt t
  blk_simp
  rw [after0_3]
  simp only [outsAt0]
  obtain ⟨j, w, rfl⟩ : ∃ (j : Fin 384) (w : Fin 256), y = ix2 j w := ⟨y 0, y 1, eq_ix2 y⟩
  obtain ⟨a, e, rfl⟩ : ∃ (a : Fin 2) (e : Fin 128), w = ⟨128 * a.val + e.val, by omega⟩ :=
    ⟨⟨w.val / 128, by omega⟩, ⟨w.val % 128, by omega⟩, Fin.ext (by show w.val = 128 * (w.val / 128) + w.val % 128; omega)⟩
  rw [pt3 m c t j a e]
  refine (hG (rowOf t j) (hd t a) e).symm.trans ?_
  congr 1
  blk_ext [e3, hd, rowOf]
  change _ = (grid0.coords t 1).val * 384 + j.val
  omega

/-- An array that holds every head's output is the kernel's second result. -/
theorem arr4 (G : (⟨S4224x2048, .bf16⟩ : BufTy).Contents (Elt Ideal))
    (hG : ∀ (R : Fin 4224) (h : Fin 16) (e : Fin 128), G (ix2 R ⟨128 * h.val + e.val, by omega⟩) = rowO (Sg (a0 m c) (a1 m c) h R.val) (fun J => wv (a2 m c) h J e) 4224) :
    (dats m 0 c).arrAt 4 cfg0.N = G := by
  refine (dats m 0 c).arrAt_eq_of_covers 4 G (by decide +kernel) fun t hf y => ?_
  have h0 := c0lt t
  have h1 := c1lt t
  blk_simp
  rw [after0_4]
  simp only [outsAt0]
  obtain ⟨j, w, rfl⟩ : ∃ (j : Fin 384) (w : Fin 256), y = ix2 j w := ⟨y 0, y 1, eq_ix2 y⟩
  obtain ⟨a, e, rfl⟩ : ∃ (a : Fin 2) (e : Fin 128), w = ⟨128 * a.val + e.val, by omega⟩ :=
    ⟨⟨w.val / 128, by omega⟩, ⟨w.val % 128, by omega⟩, Fin.ext (by show w.val = 128 * (w.val / 128) + w.val % 128; omega)⟩
  rw [pt4 m c t j a e]
  refine (hG (rowOf t j) (hd t a) e).symm.trans ?_
  congr 1
  blk_ext [e4, hd, rowOf]
  change _ = (grid0.coords t 1).val * 384 + j.val
  omega

/-- An array that holds every row's statistic is the kernel's third result. -/
theorem arr5 (G : (⟨S16x4224x1, .f32⟩ : BufTy).Contents (Elt Ideal))
    (hG : ∀ (h : Fin 16) (R : Fin 4224), G (ix3 h R 0) = rowL (Sg (a0 m c) (a1 m c) h R.val) 4224) :
    (dats m 0 c).arrAt 5 cfg0.N = G := by
  refine (dats m 0 c).arrAt_eq_of_covers 5 G (by decide +kernel) fun t hf y => ?_
  have h0 := c0lt t
  have h1 := c1lt t
  blk_simp
  rw [after0_5]
  simp only [outsAt0]
  obtain ⟨a, j, rfl⟩ : ∃ (a : Fin 2) (j : Fin 384), y = ix3 a j 0 := ⟨y 0, y 1, by
    refine (eq_ix3 y).trans ?_
    congr 1
    exact Subsingleton.elim (α := Fin 1) _ _⟩
  rw [pt5 m c t j a]
  refine (hG (hd t a) (rowOf t j)).symm.trans ?_
  congr 1
  blk_ext [e5, hd, rowOf]
  · change _ = (grid0.coords t 0).val * 2 + a.val
    omega
  · change _ = (grid0.coords t 1).val * 384 + j.val
    omega

section real
variable (r0 : ∀ i, ∃ r : ℝ, a0 m c i = (r : EReal)) (r1 : ∀ i, ∃ r : ℝ, a1 m c i = (r : EReal))
include r0 r1

/-- The kernel's output is the reference's. -/
theorem out3 : (dats m 0 c).arrAt 3 cfg0.N = Cert.AttnRefIdeal.Read.val_main_v27 (F := Ideal) (a0 m c) (a1 m c) (a2 m c) :=
  arr3 m c _ (Cert.AttnRef.res27_at (a2 m c) r0 r1)

/-- The kernel's cast output is the reference's. -/
theorem out4 : (dats m 0 c).arrAt 4 cfg0.N = Cert.AttnRefIdeal.Read.val_main_v47 (F := Ideal) (a0 m c) (a1 m c) (a2 m c) :=
  arr4 m c _ (Cert.AttnRef.res47_at (a2 m c) r0 r1)
end real

/-- The kernel's row statistics are the reference's. -/
theorem out5 : (dats m 0 c).arrAt 5 cfg0.N = Cert.AttnRefIdeal.Read.val_main_v48 (F := Ideal) (a0 m c) (a1 m c) :=
  arr5 m c _ Cert.AttnRef.res48_at
end
end Cert.AttnIdeal.Call
end
-- ==== Proof.DnormCall.lean ====
module

public import proofs.«01_k».proof.Proof.Gen.Dnorm
public import proofs.«01_k».proof.Proof.Gen.Dnorm.Frame
public import proofs.«01_k».proof.Proof.Gen.DnormIdeal
public import proofs.«01_k».proof.Proof.Gen.DnormIdeal.Value
public import proofs.«01_k».proof.Proof.Gen.DnormRefIdeal
public import proofs.«01_k».proof.Proof.Gen.DnormRefIdeal.Run
public import proofs.«01_k».proof.Proof.Gen.DnormRefIdeal.Read
public import proofs.«01_k».proof.Proof.Block
public import proofs.«01_k».proof.Proof.Tile
public import Idealize.ShloMosaic.Lib.IdealHost

@[expose] public section

set_option maxRecDepth 16384

noncomputable section

/-! The gradient of the norm at one entry, over the extended reals. -/
namespace Cert.NormGrad

open Idealize.ShloMosaic

theorem wN : Ideal.ofBits .f32 0x45000000#32 = ((2048 : ℝ) : EReal) := by
  have h1 : (BitVec.extractLsb' 23 8 0x45000000#32).toNat = 138 := by decide
  have h2 : (BitVec.extractLsb' 0 23 0x45000000#32).toNat = 0 := by decide
  have h3 : (BitVec.extractLsb' (8 + 23) 1 0x45000000#32 == 1#1) = false := by decide
  simp only [Ideal.ofBits, Ideal.ieee, h1, h2, h3]
  norm_num
theorem w2 : Ideal.ofBits .f32 0x40000000#32 = ((2 : ℝ) : EReal) := by
  have h1 : (BitVec.extractLsb' 23 8 0x40000000#32).toNat = 128 := by decide
  have h2 : (BitVec.extractLsb' 0 23 0x40000000#32).toNat = 0 := by decide
  have h3 : (BitVec.extractLsb' (8 + 23) 1 0x40000000#32 == 1#1) = false := by decide
  simp only [Ideal.ofBits, Ideal.ieee, h1, h2, h3]
  norm_num
theorem wM : Ideal.ofBits .f32 0xBF000000#32 = ((-(1 / 2) : ℝ) : EReal) := by
  have h1 : (BitVec.extractLsb' 23 8 0xBF000000#32).toNat = 126 := by decide
  have h2 : (BitVec.extractLsb' 0 23 0xBF000000#32).toNat = 0 := by decide
  have h3 : (BitVec.extractLsb' (8 + 23) 1 0xBF000000#32 == 1#1) = true := by decide
  simp only [Ideal.ofBits, Ideal.ieee, h1, h2, h3]
  norm_num
theorem eps_pos : ∃ e : ℝ, 0 < e ∧ Ideal.ofBits .f32 0x358637BD#32 = (e : EReal) := by
  have h1 : (BitVec.extractLsb' 23 8 0x358637BD#32).toNat = 107 := by decide
  have h2 : (BitVec.extractLsb' 0 23 0x358637BD#32).toNat = 407485 := by decide
  have h3 : (BitVec.extractLsb' (8 + 23) 1 0x358637BD#32 == 1#1) = false := by decide
  simp only [Ideal.ofBits, Ideal.ieee, h1, h2, h3]
  norm_num

/-- The mean of squares with the small word added, of the sum of squares. -/
def arg (s : EReal) : EReal := Ideal.div s (Ideal.ofBits .f32 0x45000000#32) + Ideal.ofBits .f32 0x358637BD#32

/-- A square is not negative. -/
theorem sq_nonneg' (x : EReal) : 0 ≤ x * x := by
  induction x with
  | bot => simp
  | top => simp
  | coe r => exact_mod_cast mul_self_nonneg r

theorem div_N (s : EReal) : Ideal.div s (Ideal.ofBits .f32 0x45000000#32) = s * ((2048⁻¹ : ℝ) : EReal) := by
  rw [wN]
  have h : ((2048 : ℝ) : EReal) ≠ 0 := by exact_mod_cast (by norm_num : (2048 : ℝ) ≠ 0)
  unfold Ideal.div
  rw [if_neg h, ← EReal.coe_inv]

/-- The reciprocal root over its argument is its cube. -/
theorem cube (s : EReal) (hs : 0 ≤ s) : Ideal.div (Ideal.rsqrt (arg s)) (arg s) = Ideal.rsqrt (arg s) * Ideal.rsqrt (arg s) * Ideal.rsqrt (arg s) := by
  obtain ⟨e, he, hE⟩ := eps_pos
  unfold arg
  rw [div_N, hE]
  induction s with
  | bot => simp at hs
  | top =>
    have h : (⊤ : EReal) * ((2048⁻¹ : ℝ) : EReal) + (e : EReal) = ⊤ := by
      rw [EReal.top_mul_coe_of_pos (by norm_num), EReal.top_add_coe]
    rw [h]
    have h0 : Ideal.rsqrt ⊤ = 0 := rfl
    rw [h0]
    unfold Ideal.div
    simp
  | coe r =>
    have hr : 0 ≤ r := by exact_mod_cast hs
    have h : (r : EReal) * ((2048⁻¹ : ℝ) : EReal) + (e : EReal) = ((r * 2048⁻¹ + e : ℝ) : EReal) := by push_cast; rfl
    rw [h]
    have hp : 0 < r * 2048⁻¹ + e := by positivity
    generalize r * 2048⁻¹ + e = a at hp
    have h0 : Ideal.rsqrt (a : EReal) = ((√a)⁻¹ : ℝ) := by
      show (if a < 0 then (⊥ : EReal) else if a = 0 then ⊤ else (((√a)⁻¹ : ℝ) : EReal)) = _
      rw [if_neg (not_lt.mpr hp.le), if_neg hp.ne']
    rw [h0]
    unfold Ideal.div
    have hn : (a : EReal) ≠ 0 := by exact_mod_cast hp.ne'
    rw [if_neg hn, ← EReal.coe_inv, ← EReal.coe_mul, ← EReal.coe_mul, ← EReal.coe_mul]
    congr 1
    rw [mul_assoc]
    congr 1
    rw [← mul_inv, Real.mul_self_sqrt hp.le]

/-- Twice minus a half of anything. -/
theorem twice (y : EReal) : ((-(1 / 2) : ℝ) : EReal) * y + ((-(1 / 2) : ℝ) : EReal) * y = -y := by
  induction y with
  | bot => rw [EReal.coe_mul_bot_of_neg (by norm_num)]; rfl
  | top => rw [EReal.coe_mul_top_of_neg (by norm_num)]; rfl
  | coe r => rw [← EReal.coe_mul, ← EReal.coe_add, ← EReal.coe_neg]; congr 1; ring

/-- One of the two equal parts of the gradient through the squares. -/
theorem part (x r M c : EReal) : M * (((-(1 / 2) : ℝ) : EReal) * r) * c * x = ((-(1 / 2) : ℝ) : EReal) * (x * r * (M * c)) := by
  ac_rfl

end Cert.NormGrad

/-! The gradient of the norm of the residual stream's rows: the call's arrays are the reference's. -/
namespace Cert.DnormIdeal.Call

open Idealize.ShloMosaic Cert.Block
open Cert.DnormIdeal Cert.DnormIdeal.Gen Idealize.ShloMosaic.TcCoe Idealize.ShloMosaic.Tactic Idealize.SL.Sem

/-- What a row is scaled by, of the sum of its squares. -/
abbrev rf (s : EReal) : EReal := Ideal.rsqrt (Cert.NormGrad.arg s)

/-- An entry of the gradient. -/
def dx (x d res : EReal) (S M : EReal) : EReal :=
  rf S * d - x * (rf S * rf S * rf S) * Ideal.div M (Ideal.ofBits .f32 0x45000000#32) + res

theorem pay5_at (x : Vec Ideal S384x2048 .f32) (i : Fin 384) :
    k0_pay5 (F := Ideal) x (ix2 i 0) = rf (∑ j : Fin 2048, x (ix2 i j) * x (ix2 i j)) := by
  pointwise [k0_pay5, k0_pay3]
  rfl

theorem pay6_at (x d : Vec Ideal S384x2048 .f32) (g : Vec Ideal S1x2048 .f32) (res : Vec Ideal S384x2048 .f32) (i : Fin 384) (k : Fin 2048) :
    k0_pay6 (F := Ideal) x d g res (ix2 i k) = dx (x (ix2 i k)) (d (ix2 i k) * g (ix2 0 k)) (res (ix2 i k)) (∑ j : Fin 2048, x (ix2 i j) * x (ix2 i j))
      (∑ j : Fin 2048, x (ix2 i j) * (d (ix2 i j) * g (ix2 0 j))) := by
  pointwise [k0_pay6, k0_pay5, k0_pay4, k0_pay3]
  rfl

theorem pay2_at (x d : Vec Ideal S384x2048 .f32) (r : Vec Ideal S384x1 .f32) (a : Vec Ideal S1x2048 .f32) (k : Fin 2048) :
    k0_pay2 (F := Ideal) x d r a (ix2 0 k) = a (ix2 0 k) + ∑ i : Fin 384, d (ix2 i k) * x (ix2 i k) * r (ix2 i 0) := by
  pointwise [k0_pay2]

section
variable (x0 : (⟨S1x4112x2048, .f32⟩ : BufTy).Contents (Elt Ideal)) (x1 : (⟨S2048, .f32⟩ : BufTy).Contents (Elt Ideal))
  (x2 x3 : (⟨S1x4112x2048, .f32⟩ : BufTy).Contents (Elt Ideal))

/-- A sum over axes of one entry each. -/
theorem reduce_one {s t : Shape} {axes : List (Fin s.rank)} (h : s.ReducesTo axes t) (x : s.Idx → EReal) (z : EReal) (j : t.Idx) (i0 : s.Idx)
    (h1 : ∀ i, h.drop i = j ↔ i = i0) : Ideal.hostReduceAdd h x z j = z + x i0 := by
  unfold Ideal.hostReduceAdd
  congr 1
  rw [Finset.filter_congr (fun i _ => h1 i), Finset.filter_eq', if_pos (Finset.mem_univ _), Finset.sum_singleton]

open Cert.DnormRefIdeal.Read in
theorem v30_at (R : Fin 4112) : val_main_v30 (F := Ideal) x0 x1 x2 (ix1 R) = val_main_v29 (F := Ideal) x0 x1 x2 (ix3 0 R 0) := by
  unfold val_main_v30
  generalize val_main_v29 (F := Ideal) x0 x1 x2 = y
  refine (reduce_one Cert.DnormRefIdeal.Gen.facts.reducesTo_S1x4112x1_S4112_d0_2 y _ (ix1 R) (ix3 0 R 0) fun i => ?_).trans ?_
  · constructor
    · intro e
      funext a
      match a with
      | ⟨0, _⟩ => exact Fin.ext (by have h : (i 0).val < 1 := (i 0).isLt; show (i 0).val = 0; omega)
      | ⟨1, _⟩ => exact Fin.ext (congrArg Fin.val (congrFun e 0))
      | ⟨2, _⟩ => exact Fin.ext (by have h : (i 2).val < 1 := (i 2).isLt; show (i 2).val = 0; omega)
    · rintro rfl
      funext b
      match b with
      | ⟨0, _⟩ => rfl
  · show Ideal.ofBits .f32 0x00000000#32 + _ = _
    rw [Cert.KernelIdeal.Tile.zeroW, zero_add]

open Cert.DnormRefIdeal.Read in
theorem v21_at (k : Fin 2048) : val_main_v21 (F := Ideal) x0 x2 (ix1 k) = val_main_v18 (F := Ideal) x0 x2 (ix3 0 0 k) := by
  unfold val_main_v21
  generalize val_main_v18 (F := Ideal) x0 x2 = y
  refine (reduce_one Cert.DnormRefIdeal.Gen.facts.reducesTo_S1x1x2048_S2048_d0_1 y _ (ix1 k) (ix3 0 0 k) fun i => ?_).trans ?_
  · constructor
    · intro e
      funext a
      match a with
      | ⟨0, _⟩ => exact Fin.ext (by have h : (i 0).val < 1 := (i 0).isLt; show (i 0).val = 0; omega)
      | ⟨1, _⟩ => exact Fin.ext (by have h : (i 1).val < 1 := (i 1).isLt; show (i 1).val = 0; omega)
      | ⟨2, _⟩ => exact Fin.ext (congrArg Fin.val (congrFun e 0))
    · rintro rfl
      funext b
      match b with
      | ⟨0, _⟩ => rfl
  · show Ideal.ofBits .f32 0x00000000#32 + _ = _
    rw [Cert.KernelIdeal.Tile.zeroW, zero_add]

/-- A row's sum of squares. -/
abbrev sq (R : Fin 4112) : EReal := ∑ j : Fin 2048, x0 (ix3 0 R j) * x0 (ix3 0 R j)
/-- A row's sum of its entries times what comes back to them. -/
abbrev mx (R : Fin 4112) : EReal := ∑ j : Fin 2048, x0 (ix3 0 R j) * (x2 (ix3 0 R j) * x1 (ix1 j))

open Cert.DnormRefIdeal.Read in
theorem v6_at (R : Fin 4112) : val_main_v6 (F := Ideal) x0 (ix3 0 R 0) = Cert.NormGrad.arg (sq x0 R) := by
  rw [val_main_v6_apply, val_main_v4_apply, val_main_v2_apply, val_main_v1_apply, val_main_v3_apply, val_main_v5_apply]
  have hx : ∀ j : Fin 2048, idx_main_v1 (idx_main_v2 (ix3 0 R 0)) j = ix3 0 R j := fun j => funext fun a => match a with
    | ⟨0, _⟩ => rfl
    | ⟨1, _⟩ => rfl
    | ⟨2, _⟩ => rfl
  simp only [val_main_v0_apply, hx]
  show Ideal.div (Ideal.ofBits .f32 0x00000000#32 + _) _ + _ = _
  rw [Cert.KernelIdeal.Tile.zeroW, zero_add]
  rfl

open Cert.DnormRefIdeal.Read in
theorem v19_at (R : Fin 4112) (k : Fin 2048) : val_main_v19 (F := Ideal) x1 (ix3 0 R k) = x1 (ix1 k) := by
  rw [val_main_v19_apply, val_main_v13_apply]
  congr 1
  funext a
  match a with
  | ⟨0, _⟩ => rfl

open Cert.DnormRefIdeal.Read in
theorem v24_at (R : Fin 4112) : val_main_v24 (F := Ideal) x0 x1 x2 (ix3 0 R 0) = mx x0 x1 x2 R := by
  rw [val_main_v24_apply, val_main_v23_apply]
  have hx : ∀ j : Fin 2048, idx_main_v23 (idx_main_v24 (ix3 0 R 0)) j = ix3 0 R j := fun j => funext fun a => match a with
    | ⟨0, _⟩ => rfl
    | ⟨1, _⟩ => Fin.ext (by have h := R.isLt; show ((0 * 4112 + R.val) * 1 + 0) % 4112 = R.val; omega)
    | ⟨2, _⟩ => rfl
  simp only [hx, val_main_v22_apply, val_main_v20_apply, v19_at]
  show Ideal.ofBits .f32 0x00000000#32 + _ = _
  rw [Cert.KernelIdeal.Tile.zeroW, zero_add]
  rfl

open Cert.DnormRefIdeal.Read in
theorem v29_at (R : Fin 4112) : val_main_v29 (F := Ideal) x0 x1 x2 (ix3 0 R 0)
    = Ideal.div (mx x0 x1 x2 R * (Ideal.ofBits .f32 0xBF000000#32 * Ideal.div (rf (sq x0 R)) (Cert.NormGrad.arg (sq x0 R)))) (Ideal.ofBits .f32 0x45000000#32) := by
  rw [val_main_v29_apply, val_main_v27_apply, val_main_v28_apply, v24_at, val_main_v10_apply, val_main_v9_apply, val_main_v8_apply, val_main_v7_apply, v6_at]
  rfl

open Cert.DnormRefIdeal.Read in
/-- The reference's gradient at an entry, as it computes it. -/
theorem v37_at (R : Fin 4112) (k : Fin 2048) : val_main_v37 (F := Ideal) x0 x1 x2 x3 (ix3 0 R k)
    = x3 (ix3 0 R k) + (x2 (ix3 0 R k) * x1 (ix1 k) * rf (sq x0 R) + x0 (ix3 0 R k) * val_main_v29 (F := Ideal) x0 x1 x2 (ix3 0 R 0)
      + val_main_v29 (F := Ideal) x0 x1 x2 (ix3 0 R 0) * x0 (ix3 0 R k)) := by
  have h7 : val_main_v25 (F := Ideal) x0 (ix3 0 R k) = rf (sq x0 R) := by
    have e : idx_main_v25 (ix3 0 R k) = ix3 0 R 0 := funext fun a => match a with
      | ⟨0, _⟩ => rfl
      | ⟨1, _⟩ => rfl
      | ⟨2, _⟩ => rfl
    rw [val_main_v25_apply, e, val_main_v7_apply, v6_at]
    rfl
  have h32 : val_main_v32 (F := Ideal) x0 x1 x2 (ix3 0 R k) = val_main_v29 (F := Ideal) x0 x1 x2 (ix3 0 R 0) := by
    have e : idx_main_v31 (idx_main_v32 (ix3 0 R k)) = ix1 R := funext fun a => match a with
      | ⟨0, _⟩ => rfl
    rw [val_main_v32_apply, val_main_v31_apply, e, v30_at]
  rw [val_main_v37_apply, val_main_v36_apply, val_main_v34_apply, val_main_v26_apply, val_main_v20_apply, val_main_v33_apply, val_main_v35_apply, h7, h32, v19_at]
  rfl

/-- The two forms of the gradient at an entry are equal. -/
theorem forms (x d res S M : EReal) (hS : 0 ≤ S) :
    res + (d * rf S + x * Ideal.div (M * (Ideal.ofBits .f32 0xBF000000#32 * Ideal.div (rf S) (Cert.NormGrad.arg S))) (Ideal.ofBits .f32 0x45000000#32)
      + Ideal.div (M * (Ideal.ofBits .f32 0xBF000000#32 * Ideal.div (rf S) (Cert.NormGrad.arg S))) (Ideal.ofBits .f32 0x45000000#32) * x)
    = dx x d res S M := by
  unfold dx
  rw [Cert.NormGrad.cube S hS, Cert.NormGrad.wM, Cert.NormGrad.div_N, Cert.NormGrad.div_N, mul_comm x, add_assoc,
    Cert.NormGrad.part x (rf S * rf S * rf S) M, Cert.NormGrad.twice, sub_eq_add_neg, mul_comm d, add_comm res]

theorem sq_nonneg (R : Fin 4112) : 0 ≤ sq x0 R := Finset.sum_nonneg fun _ _ => Cert.NormGrad.sq_nonneg' _

open Cert.DnormRefIdeal.Read in
theorem ref_at (R : Fin 4112) (k : Fin 2048) : val_main_v37 (F := Ideal) x0 x1 x2 x3 (ix3 0 R k)
    = dx (x0 (ix3 0 R k)) (x2 (ix3 0 R k) * x1 (ix1 k)) (x3 (ix3 0 R k)) (sq x0 R) (mx x0 x1 x2 R) := by
  rw [v37_at, v29_at]
  exact forms _ _ _ _ _ (sq_nonneg x0 R)

open Cert.DnormRefIdeal.Read in
/-- The reference's gradient of the gain. -/
theorem gain_at (k : Fin 2048) : val_main_v41 (F := Ideal) x0 x2 (ix2 0 k) = ∑ R : Fin 4112, x0 (ix3 0 R k) * rf (sq x0 R) * x2 (ix3 0 R k) := by
  rw [val_main_v41_apply]
  have e : idx_main_v41 (ix2 0 k) = ix1 k := funext fun a => match a with
    | ⟨0, _⟩ => rfl
  rw [e, v21_at, val_main_v18_apply]
  have hi : idx_main_v18 (ix3 0 0 k) = ix2 0 k := funext fun a => match a with
    | ⟨0, _⟩ => rfl
    | ⟨1, _⟩ => Fin.ext (by have h := k.isLt; show ((0 * 1 + 0) * 2048 + k.val) % 2048 = k.val; omega)
  rw [hi, val_main_v17_apply]
  have hx : ∀ R : Fin 4112, idx_main_v17 (ix2 0 k) R = ix3 0 R k := fun R => funext fun a => match a with
    | ⟨0, _⟩ => rfl
    | ⟨1, _⟩ => rfl
    | ⟨2, _⟩ => rfl
  have h7 : ∀ R : Fin 4112, val_main_v11 (F := Ideal) x0 (ix3 0 R k) = rf (sq x0 R) := fun R => by
    have e : idx_main_v11 (ix3 0 R k) = ix3 0 R 0 := funext fun a => match a with
      | ⟨0, _⟩ => rfl
      | ⟨1, _⟩ => rfl
      | ⟨2, _⟩ => rfl
    rw [val_main_v11_apply, e, val_main_v7_apply, v6_at]
    rfl
  simp only [hx, val_main_v16_apply, val_main_v12_apply, h7]
  show Ideal.ofBits .f32 0x00000000#32 + _ = _
  rw [Cert.KernelIdeal.Tile.zeroW, zero_add]
  rfl

end

theorem e0 : ∀ t : Fin cfg0.N, win0_0.index t = ![(grid0.coords t 0).val, 0] := (by decide +kernel : ∀ t : Fin grid0.N, _)
theorem e1 : ∀ t : Fin cfg0.N, win0_1.index t = ![0, 0] := (by decide +kernel : ∀ t : Fin grid0.N, _)
theorem e2 : ∀ t : Fin cfg0.N, win0_2.index t = ![(grid0.coords t 0).val, 0] := (by decide +kernel : ∀ t : Fin grid0.N, _)
theorem e3 : ∀ t : Fin cfg0.N, win0_3.index t = ![(grid0.coords t 0).val, 0] := (by decide +kernel : ∀ t : Fin grid0.N, _)
theorem e4 : ∀ t : Fin cfg0.N, win0_4.index t = ![(grid0.coords t 0).val, 0] := (by decide +kernel : ∀ t : Fin grid0.N, _)
theorem e5 : ∀ t : Fin cfg0.N, win0_5.index t = ![(grid0.coords t 0).val, 0] := (by decide +kernel : ∀ t : Fin grid0.N, _)
theorem gc : ∀ t : Fin cfg0.N, (grid0.coords t 0).val = t.val := (by decide +kernel : ∀ t : Fin grid0.N, _)

section
variable (m : (ℓ : Loc nD τ sig) → Buf (Elt Ideal) ℓ) (c : Dev nD) (t : Fin cfg0.N)

/-- The arguments. -/
abbrev a0 : (⟨S1x4112x2048, .f32⟩ : BufTy).Contents (Elt Ideal) := m ((c : Thread nD τ).loc main_arg0)
abbrev a1 : (⟨S2048, .f32⟩ : BufTy).Contents (Elt Ideal) := m ((c : Thread nD τ).loc main_arg1)
abbrev a2 : (⟨S1x4112x2048, .f32⟩ : BufTy).Contents (Elt Ideal) := m ((c : Thread nD τ).loc main_arg2)
abbrev a3 : (⟨S1x4112x2048, .f32⟩ : BufTy).Contents (Elt Ideal) := m ((c : Thread nD τ).loc main_arg3)

theorem V_x (R : Fin 4224) (k : Fin 2048) : (V m c main_v1 : (⟨S4224x2048, .f32⟩ : BufTy).Contents (Elt Ideal)) (ix2 R k) = held (a0 m c) R k := by
  have h : (V m c main_v1 : (⟨S4224x2048, .f32⟩ : BufTy).Contents (Elt Ideal)) = pad S4224x2048 ![0, 0] ![112, 0] ![0, 0] (shapeCast S4112x2048 (a0 m c) shapeCasts_S1x4112x2048_S4112x2048)
      (sitofp (F := Ideal) .f32 (constantI S_ 32 0#32)) pads_S4112x2048_S4224x2048_01120_000 h_S_ := by
    simp only [V, hostOps0, hostOps0_1, hostOps0_2, hostOps0_3, hostOps0_4, hostOps0_5, hostOps0_6, List.flatten_cons, List.flatten_nil, List.append_nil, List.cons_append, List.nil_append]
    after_results
    rfl
  rw [h]
  exact held_at (a0 m c) shapeCasts_S1x4112x2048_S4112x2048 pads_S4112x2048_S4224x2048_01120_000 h_S_ R k

theorem V_d (R : Fin 4224) (k : Fin 2048) : (V m c main_v3 : (⟨S4224x2048, .f32⟩ : BufTy).Contents (Elt Ideal)) (ix2 R k) = held (a2 m c) R k := by
  have h : (V m c main_v3 : (⟨S4224x2048, .f32⟩ : BufTy).Contents (Elt Ideal)) = pad S4224x2048 ![0, 0] ![112, 0] ![0, 0] (shapeCast S4112x2048 (a2 m c) shapeCasts_S1x4112x2048_S4112x2048)
      (sitofp (F := Ideal) .f32 (constantI S_ 32 0#32)) pads_S4112x2048_S4224x2048_01120_000 h_S_ := by
    simp only [V, hostOps0, hostOps0_1, hostOps0_2, hostOps0_3, hostOps0_4, hostOps0_5, hostOps0_6, List.flatten_cons, List.flatten_nil, List.append_nil, List.cons_append, List.nil_append]
    after_results
    rfl
  rw [h]
  exact held_at (a2 m c) shapeCasts_S1x4112x2048_S4112x2048 pads_S4112x2048_S4224x2048_01120_000 h_S_ R k

theorem V_r (R : Fin 4224) (k : Fin 2048) : (V m c main_v5 : (⟨S4224x2048, .f32⟩ : BufTy).Contents (Elt Ideal)) (ix2 R k) = held (a3 m c) R k := by
  have h : (V m c main_v5 : (⟨S4224x2048, .f32⟩ : BufTy).Contents (Elt Ideal)) = pad S4224x2048 ![0, 0] ![112, 0] ![0, 0] (shapeCast S4112x2048 (a3 m c) shapeCasts_S1x4112x2048_S4112x2048)
      (sitofp (F := Ideal) .f32 (constantI S_ 32 0#32)) pads_S4112x2048_S4224x2048_01120_000 h_S_ := by
    simp only [V, hostOps0, hostOps0_1, hostOps0_2, hostOps0_3, hostOps0_4, hostOps0_5, hostOps0_6, List.flatten_cons, List.flatten_nil, List.append_nil, List.cons_append, List.nil_append]
    after_results
    rfl
  rw [h]
  exact held_at (a3 m c) shapeCasts_S1x4112x2048_S4112x2048 pads_S4112x2048_S4224x2048_01120_000 h_S_ R k

theorem V_g (k : Fin 2048) : (V m c main_v6 : (⟨S1x2048, .f32⟩ : BufTy).Contents (Elt Ideal)) (ix2 0 k) = a1 m c (ix1 k) := by
  have h : (V m c main_v6 : (⟨S1x2048, .f32⟩ : BufTy).Contents (Elt Ideal)) = shapeCast S1x2048 (a1 m c) shapeCasts_S2048_S1x2048 := by
    simp only [V, hostOps0, hostOps0_1, hostOps0_2, hostOps0_3, hostOps0_4, hostOps0_5, hostOps0_6, List.flatten_cons, List.flatten_nil, List.append_nil, List.cons_append, List.nil_append]
    after_results
    rfl
  rw [h]
  refine shapeCast_apply (a1 m c) shapeCasts_S2048_S1x2048 (ix2 0 k) (ix1 k) ?_
  rw [Shape.rowMajor_val_one, Shape.rowMajor_val_two]
  show k.val = 0 * 2048 + k.val
  omega

/-- The array row of a block's row. -/
def row (i : Fin 384) : Fin 4224 := ⟨384 * (grid0.coords t 0).val + i.val, by have h : (grid0.coords t 0).val < 11 := (grid0.coords t 0).isLt; omega⟩

theorem blk0 (i : Fin 384) (k : Fin 2048) : iblk m c 0 t (ix2 i k) = held (a0 m c) (row t i) k := by
  refine Eq.trans ?_ (V_x m c (row t i) k)
  blk_simp [iblk]
  congr 1
  blk_ext [e0, row]

theorem blk2 (i : Fin 384) (k : Fin 2048) : iblk m c 2 t (ix2 i k) = held (a2 m c) (row t i) k := by
  refine Eq.trans ?_ (V_d m c (row t i) k)
  blk_simp [iblk]
  congr 1
  blk_ext [e2, row]

theorem blk3 (i : Fin 384) (k : Fin 2048) : iblk m c 3 t (ix2 i k) = held (a3 m c) (row t i) k := by
  refine Eq.trans ?_ (V_r m c (row t i) k)
  blk_simp [iblk]
  congr 1
  blk_ext [e3, row]

theorem blk1 (k : Fin 2048) : iblk m c 1 t (ix2 0 k) = a1 m c (ix1 k) := by
  refine Eq.trans ?_ (V_g m c k)
  blk_simp [iblk]
  congr 1
  blk_ext [e1]

/-- A row's entry of the gradient, and of the gain's gradient. -/
abbrev dxv (R : Fin 4224) (k : Fin 2048) : EReal :=
  dx (held (a0 m c) R k) (held (a2 m c) R k * a1 m c (ix1 k)) (held (a3 m c) R k) (∑ j : Fin 2048, held (a0 m c) R j * held (a0 m c) R j)
    (∑ j : Fin 2048, held (a0 m c) R j * (held (a2 m c) R j * a1 m c (ix1 j)))
abbrev dgv (R : Fin 4224) (k : Fin 2048) : EReal :=
  held (a2 m c) R k * held (a0 m c) R k * rf (∑ j : Fin 2048, held (a0 m c) R j * held (a0 m c) R j)

/-- What the body leaves: the gradient's rows, and the gain's sum begun at the first point and added to after it. -/
theorem o1 (i : Fin 384) (k : Fin 2048) : (outsAt0 m c t.val t.isLt).1 (ix2 i k) = dxv m c (row t i) k := by
  have h : (outsAt0 m c t.val t.isLt).1 (ix2 i k) = k0_pay6 (F := Ideal) (iblk m c 0 t) (iblk m c 2 t) (iblk m c 1 t) (iblk m c 3 t) (ix2 i k) := by
    by_cases h0 : t.val % 11 = 0
    · rw [outsAt0_A m c t h0]
      frame_out
    · rw [outsAt0_B m c t h0]
      frame_out
  rw [h, pay6_at]
  simp only [blk0 m c t, blk1 m c t, blk2 m c t, blk3 m c t]

theorem o2 (i : Fin 384) (k : Fin 2048) : (outsAt0 m c t.val t.isLt).2.1 (ix2 i k) = dxv m c (row t i) k := by
  have h : (outsAt0 m c t.val t.isLt).2.1 (ix2 i k) = k0_pay7 (F := Ideal) (iblk m c 0 t) (iblk m c 2 t) (iblk m c 1 t) (iblk m c 3 t) (ix2 i k) := by
    by_cases h0 : t.val % 11 = 0
    · rw [outsAt0_A m c t h0]
      frame_out
    · rw [outsAt0_B m c t h0]
      frame_out
  rw [h]
  refine (pay6_at _ _ _ _ i k).trans ?_
  simp only [blk0 m c t, blk1 m c t, blk2 m c t, blk3 m c t]

/-- The addend of a point. -/
theorem add_at (a : Vec Ideal S1x2048 .f32) (k : Fin 2048) :
    k0_pay2 (F := Ideal) (k0_pay3 (iblk m c 0 t)) (k0_pay4 (iblk m c 2 t)) (k0_pay5 (iblk m c 0 t)) a (ix2 0 k)
      = a (ix2 0 k) + ∑ i : Fin 384, dgv m c (row t i) k := by
  rw [pay2_at]
  congr 1
  refine Finset.sum_congr rfl fun i _ => ?_
  have h3 : ∀ x : Vec Ideal S384x2048 .f32, k0_pay3 (F := Ideal) x = x := fun x => by
    funext y
    pointwise [k0_pay3]
  have h4 : ∀ x : Vec Ideal S384x2048 .f32, k0_pay4 (F := Ideal) x = x := fun x => by
    funext y
    pointwise [k0_pay4]
  rw [h3, h4, pay5_at]
  simp only [blk0 m c t, blk2 m c t]

theorem o3A (h0 : t.val % 11 = 0) (k : Fin 2048) : (outsAt0 m c t.val t.isLt).2.2 (ix2 0 k) = 0 + ∑ i : Fin 384, dgv m c (row t i) k := by
  rw [outsAt0_A m c t h0]
  frame_out
  refine (add_at m c t _ k).trans ?_
  congr 1
  show Ideal.ofBits .f32 0x00000000#32 = 0
  exact Cert.KernelIdeal.Tile.zeroW

theorem o3B (h0 : ¬t.val % 11 = 0) (k : Fin 2048) : (outsAt0 m c t.val t.isLt).2.2 (ix2 0 k)
    = (outsAt0 m c (t.val - 1) (Nat.lt_of_le_of_lt (Nat.sub_le _ _) t.isLt)).2.2 (ix2 0 k) + ∑ i : Fin 384, dgv m c (row t i) k := by
  rw [outsAt0_B m c t h0]
  frame_out
  exact add_at m c t _ k

end

section
variable (m : (ℓ : Loc nD τ sig) → Buf (Elt Ideal) ℓ) (c : Dev nD)

/-- Arrays that hold these values are the call's results. -/
theorem arr4 (G : (⟨S4224x2048, .f32⟩ : BufTy).Contents (Elt Ideal)) (hG : ∀ (R : Fin 4224) (k : Fin 2048), G (ix2 R k) = dxv m c R k) :
    (dats m 0 c).arrAt 4 cfg0.N = G := by
  refine (dats m 0 c).arrAt_eq_of_covers 4 G (by decide +kernel) fun t hf y => ?_
  blk_simp
  rw [after0_4]
  obtain ⟨i, k, rfl⟩ : ∃ (i : Fin 384) (k : Fin 2048), y = ix2 i k := ⟨y 0, y 1, eq_ix2 y⟩
  rw [o1 m c t i k]
  refine (hG (row t i) k).symm.trans ?_
  congr 1
  blk_ext [e4, row]

theorem arr5 (G : (⟨S4224x2048, .bf16⟩ : BufTy).Contents (Elt Ideal)) (hG : ∀ (R : Fin 4224) (k : Fin 2048), G (ix2 R k) = dxv m c R k) :
    (dats m 0 c).arrAt 5 cfg0.N = G := by
  refine (dats m 0 c).arrAt_eq_of_covers 5 G (by decide +kernel) fun t hf y => ?_
  blk_simp
  rw [after0_5]
  obtain ⟨i, k, rfl⟩ : ∃ (i : Fin 384) (k : Fin 2048), y = ix2 i k := ⟨y 0, y 1, eq_ix2 y⟩
  rw [o2 m c t i k]
  refine (hG (row t i) k).symm.trans ?_
  congr 1
  blk_ext [e5, row]

/-- The last point. -/
abbrev tl : Fin cfg0.N := ⟨10, by decide +kernel⟩

/-- The gain's sum after the last point is that over all rows. -/
theorem total (k : Fin 2048) : (outsAt0 m c tl.val tl.isLt).2.2 (ix2 0 k) = ∑ R : Fin 4224, dgv m c R k := by
  rw [Pipeline.eq_sum_fin_of_reset_step_apply_last (fun n h (k : Fin 2048) => (outsAt0 m c n h).2.2 (ix2 0 k)) 11 (fun _ => (0 : EReal))
    (fun t k => ∑ i : Fin 384, dgv m c (row t i) k) (fun t h k => o3A m c t h k) (fun t h k => o3B m c t h k) (by decide +kernel) tl (by decide +kernel) k, zero_add]
  refine Fin.sum_mul_add_congr (fun s i hl => ?_) (by decide +kernel)
  have e : row s i = ⟨s.val * 384 + i.val, hl⟩ := Fin.ext (by
    show 384 * (grid0.coords s 0).val + i.val = s.val * 384 + i.val
    rw [gc s, Nat.mul_comm])
  rw [e]

theorem arr6 (G : (⟨S1x2048, .f32⟩ : BufTy).Contents (Elt Ideal)) (hG : ∀ k : Fin 2048, G (ix2 0 k) = ∑ R : Fin 4224, dgv m c R k) :
    (dats m 0 c).arrAt 6 cfg0.N = G := by
  refine (dats m 0 c).arrAt_eq_of_after_last 6 tl (by decide +kernel) G fun y => ?_
  blk_simp
  rw [after0_6]
  obtain ⟨i, k, rfl⟩ : ∃ (i : Fin 1) (k : Fin 2048), y = ix2 i k := ⟨y 0, y 1, eq_ix2 y⟩
  obtain rfl : i = 0 := Subsingleton.elim _ _
  refine (total m c k).trans ?_
  refine (hG k).symm.trans ?_
  congr 1

/-- The reference's rows, zero rows included. -/
theorem rows_at (y : (⟨S1x4112x2048, .f32⟩ : BufTy).Contents (Elt Ideal)) (k : Fin 2048)
    (hy : ∀ R : Fin 4112, y (ix3 0 R k) = dx (a0 m c (ix3 0 R k)) (a2 m c (ix3 0 R k) * a1 m c (ix1 k)) (a3 m c (ix3 0 R k)) (sq (a0 m c) R) (mx (a0 m c) (a1 m c) (a2 m c) R))
    (R : Fin 4224) : held y R k = dxv m c R k := by
  unfold dxv held
  split
  · exact hy _
  · simp [dx]

theorem ref39 (R : Fin 4224) (k : Fin 2048) : Cert.DnormRefIdeal.Read.val_main_v39 (F := Ideal) (a0 m c) (a1 m c) (a2 m c) (a3 m c) (ix2 R k) = dxv m c R k :=
  (held_at (Cert.DnormRefIdeal.Read.val_main_v37 (F := Ideal) (a0 m c) (a1 m c) (a2 m c) (a3 m c)) Cert.DnormRefIdeal.Gen.facts.shapeCasts_S1x4112x2048_S4112x2048
    Cert.DnormRefIdeal.Gen.facts.pads_S4112x2048_S4224x2048_01120_000 Cert.DnormRefIdeal.Gen.facts.h_S_ R k).trans
    (rows_at m c _ k (fun R => ref_at _ _ _ _ R k) R)

theorem out4 : (dats m 0 c).arrAt 4 cfg0.N = Cert.DnormRefIdeal.Read.val_main_v39 (F := Ideal) (a0 m c) (a1 m c) (a2 m c) (a3 m c) :=
  arr4 m c _ fun R k => ref39 m c R k

theorem out5 : (dats m 0 c).arrAt 5 cfg0.N = Cert.DnormRefIdeal.Read.val_main_v40 (F := Ideal) (a0 m c) (a1 m c) (a2 m c) (a3 m c) :=
  arr5 m c _ fun R k => ref39 m c R k

theorem out6 : (dats m 0 c).arrAt 6 cfg0.N = Cert.DnormRefIdeal.Read.val_main_v41 (F := Ideal) (a0 m c) (a2 m c) :=
  arr6 m c _ fun k => by
    rw [gain_at, ← sum_rows]
    refine Finset.sum_congr rfl fun R _ => ?_
    unfold dgv held
    split
    · rw [mul_comm (a2 m c _), mul_right_comm]
    · simp

end

end Cert.DnormIdeal.Call
end
-- ==== Proof.LatQCall.lean ====
module

public import proofs.«01_k».proof.Proof.Gen.LatQ
public import proofs.«01_k».proof.Proof.Gen.LatQ.Frame
public import proofs.«01_k».proof.Proof.Gen.LatQIdeal
public import proofs.«01_k».proof.Proof.Gen.LatQIdeal.Value
public import proofs.«01_k».proof.Proof.Gen.LatQRefIdeal
public import proofs.«01_k».proof.Proof.Gen.LatQRefIdeal.Run
public import proofs.«01_k».proof.Proof.Gen.LatQRefIdeal.Read
public import proofs.«01_k».proof.Proof.Block
public import proofs.«01_k».proof.Proof.Tile

@[expose] public section

set_option maxRecDepth 16384

noncomputable section

/-! The norm of latents, columns of the combined projection: the call's array is the reference's. -/
namespace Cert.LatQIdeal.Call

open Idealize.ShloMosaic Cert.Block
open Cert.LatQIdeal Cert.LatQIdeal.Gen Idealize.ShloMosaic.TcCoe Idealize.ShloMosaic.Tactic Idealize.SL.Sem

theorem e0 : ∀ t : Fin cfg0.N, win0_0.index t = ![(grid0.coords t 0).val, 18] := (by decide +kernel : ∀ t : Fin grid0.N, _)
theorem e1 : ∀ t : Fin cfg0.N, win0_1.index t = ![0, 0] := (by decide +kernel : ∀ t : Fin grid0.N, _)
theorem e2 : ∀ t : Fin cfg0.N, win0_2.index t = ![(grid0.coords t 0).val, 0] := (by decide +kernel : ∀ t : Fin grid0.N, _)

/-- What a row is scaled by, of the sum of its squares. -/
def rf (s : EReal) : EReal := Ideal.rsqrt (Ideal.div s (Ideal.ofBits .f32 0x44000000#32) + Ideal.ofBits .f32 0x358637BD#32)

/-- The body at an index of its block. -/
theorem pay_at (x : Vec Ideal S384x512 .f32) (g : Vec Ideal S1x512 .f32) (i : Fin 384) (k : Fin 512) :
    k0_pay1 (F := Ideal) x g (ix2 i k) = x (ix2 i k) * rf (∑ j : Fin 512, x (ix2 i j) * x (ix2 i j)) * g (ix2 0 k) := by
  pointwise [k0_pay1]
  rfl

section
variable (m : (ℓ : Loc nD τ sig) → Buf (Elt Ideal) ℓ) (c : Dev nD) (t : Fin cfg0.N)

/-- The arguments. -/
abbrev b0 : (⟨S1x4112x11520, .f32⟩ : BufTy).Contents (Elt Ideal) := m ((c : Thread nD τ).loc main_arg0)
abbrev a0 : (⟨Cert.LatQRefIdeal.S1x4112x512, .f32⟩ : BufTy).Contents (Elt Ideal) := Cert.LatQRefIdeal.Read.val_main_v0 (F := Ideal) (b0 m c)
abbrev a1 : (⟨S512, .f32⟩ : BufTy).Contents (Elt Ideal) := m ((c : Thread nD τ).loc main_arg1)

theorem V_x (R : Fin 4224) (k : Fin 11520) : (V m c main_v1 : (⟨S4224x11520, .f32⟩ : BufTy).Contents (Elt Ideal)) (ix2 R k) = held (b0 m c) R k := by
  have h : (V m c main_v1 : (⟨S4224x11520, .f32⟩ : BufTy).Contents (Elt Ideal)) = pad S4224x11520 ![0, 0] ![112, 0] ![0, 0] (shapeCast S4112x11520 (b0 m c) shapeCasts_S1x4112x11520_S4112x11520)
      (sitofp (F := Ideal) .f32 (constantI S_ 32 0#32)) pads_S4112x11520_S4224x11520_01120_000 h_S_ := by
    simp only [V, hostOps0, hostOps0_1, hostOps0_2, List.flatten_cons, List.flatten_nil, List.append_nil, List.cons_append, List.nil_append]
    after_results
    rfl
  rw [h]
  exact held_at (b0 m c) shapeCasts_S1x4112x11520_S4112x11520 pads_S4112x11520_S4224x11520_01120_000 h_S_ R k

theorem V_g (k : Fin 512) : (V m c main_v2 : (⟨S1x512, .f32⟩ : BufTy).Contents (Elt Ideal)) (ix2 0 k) = a1 m c (ix1 k) := by
  have h : (V m c main_v2 : (⟨S1x512, .f32⟩ : BufTy).Contents (Elt Ideal)) = shapeCast S1x512 (a1 m c) shapeCasts_S512_S1x512 := by
    simp only [V, hostOps0, hostOps0_1, hostOps0_2, List.flatten_cons, List.flatten_nil, List.append_nil, List.cons_append, List.nil_append]
    after_results
    rfl
  rw [h]
  refine shapeCast_apply (a1 m c) shapeCasts_S512_S1x512 (ix2 0 k) (ix1 k) ?_
  rw [Shape.rowMajor_val_one, Shape.rowMajor_val_two]
  show k.val = 0 * 512 + k.val
  omega

/-- The array row of a block's row. -/
def row (i : Fin 384) : Fin 4224 := ⟨384 * (grid0.coords t 0).val + i.val, by have h : (grid0.coords t 0).val < 11 := (grid0.coords t 0).isLt; omega⟩

/-- A latent's column in the combined projection. -/
abbrev col (k : Fin 512) : Fin 11520 := ⟨9216 + k.val, by omega⟩

theorem held_lt (R : Fin 4224) (k : Fin 512) : held (b0 m c) R (col k) = held (a0 m c) R k := by
  unfold held
  split
  · rename_i h
    refine Eq.symm ((Cert.LatQRefIdeal.Read.val_main_v0_apply (F := Ideal) (b0 m c) (ix3 0 ⟨R.val, h⟩ k)).trans ?_)
    congr 1
    funext a
    match a with
    | ⟨0, _⟩ => rfl
    | ⟨1, _⟩ => rfl
    | ⟨2, _⟩ => rfl
  · rfl

theorem blk0 (i : Fin 384) (k : Fin 512) : X0_0 m c t (ix2 i k) = held (a0 m c) (row t i) k := by
  refine Eq.trans ?_ ((V_x m c (row t i) (col k)).trans (held_lt m c (row t i) k))
  unfold X0_0 Pipeline.Window.fill
  rw [dif_pos (moved0_0 t _)]
  blk_simp [iblk]
  congr 1
  blk_ext [e0, row]

theorem blk1 (k : Fin 512) : iblk m c 1 t (ix2 0 k) = a1 m c (ix1 k) := by
  refine Eq.trans ?_ (V_g m c k)
  blk_simp [iblk]
  congr 1
  blk_ext [e1]

/-- A row's entry of the result. -/
abbrev nrm (R : Fin 4224) (k : Fin 512) : EReal :=
  held (a0 m c) R k * rf (∑ j : Fin 512, held (a0 m c) R j * held (a0 m c) R j) * a1 m c (ix1 k)

/-- The block a point writes. -/
theorem pt (i : Fin 384) (k : Fin 512) : out0_A_2 (F := Ideal) c (grid0.coords t) (ms0_0 t) (hs0_0 t) (ms0_1 t) (hs0_1 t) (ms0_2 t) (hs0_2 t) (X0_0 m c t) (iblk m c 1 t) (ix2 i k)
    = nrm m c (row t i) k := by
  frame_out
  rw [pay_at]
  simp only [blk0 m c t, blk1 m c t]

/-- An array that holds these values is the call's result. -/
theorem arr (G : (⟨S4224x512, .bf16⟩ : BufTy).Contents (Elt Ideal)) (hG : ∀ (R : Fin 4224) (k : Fin 512), G (ix2 R k) = nrm m c R k) :
    (dats m 0 c).arrAt 2 cfg0.N = G := by
  refine (dats m 0 c).arrAt_eq_of_covers 2 G (by decide +kernel) fun t hf y => ?_
  blk_simp
  rw [after0_2]
  simp only [outsAt0]
  obtain ⟨i, k, rfl⟩ : ∃ (i : Fin 384) (k : Fin 512), y = ix2 i k := ⟨y 0, y 1, eq_ix2 y⟩
  rw [pt m c t i k]
  refine (hG (row t i) k).symm.trans ?_
  congr 1
  blk_ext [e2, row]

/-- The reference at an index. -/
theorem ref_at (R : Fin 4112) (k : Fin 512) : Cert.LatQRefIdeal.Read.val_main_v13 (F := Ideal) (b0 m c) (a1 m c) (ix3 0 R k)
    = a0 m c (ix3 0 R k) * rf (∑ j : Fin 512, a0 m c (ix3 0 R j) * a0 m c (ix3 0 R j)) * a1 m c (ix1 k) := by
  open Cert.LatQRefIdeal.Read in
  rw [val_main_v13_apply, val_main_v10_apply, val_main_v9_apply, val_main_v8_apply, val_main_v7_apply, val_main_v5_apply, val_main_v3_apply, val_main_v2_apply,
    val_main_v4_apply, val_main_v6_apply, val_main_v12_apply, val_main_v11_apply]
  show a0 m c (ix3 0 R k) * rf (Ideal.ofBits .f32 0x00000000#32 + ∑ j : Fin 512, _) * _ = _
  rw [Cert.KernelIdeal.Tile.zeroW, zero_add]
  have hg : Cert.LatQRefIdeal.Read.idx_main_v11 (Cert.LatQRefIdeal.Read.idx_main_v12 (ix3 0 R k)) = ix1 k := funext fun a => match a with
    | ⟨0, _⟩ => rfl
  rw [hg]
  have hx : ∀ j : Fin 512, Cert.LatQRefIdeal.Read.idx_main_v2 (Cert.LatQRefIdeal.Read.idx_main_v3 (Cert.LatQRefIdeal.Read.idx_main_v9 (ix3 0 R k))) j = ix3 0 R j := fun j => funext fun a => match a with
    | ⟨0, _⟩ => rfl
    | ⟨1, _⟩ => rfl
    | ⟨2, _⟩ => rfl
  simp only [Cert.LatQRefIdeal.Read.val_main_v1_apply, hx]
  rfl

/-- The padding rows are zero in both. -/
theorem rows_at (z : (⟨3, ![1, 4112, 512]⟩ : Shape).Idx → EReal) (k : Fin 512)
    (hz : ∀ R : Fin 4112, z (ix3 (0 : Fin 1) R k) = a0 m c (ix3 0 R k) * rf (∑ j : Fin 512, a0 m c (ix3 0 R j) * a0 m c (ix3 0 R j)) * a1 m c (ix1 k)) (R : Fin 4224) :
    held z R k = nrm m c R k := by
  unfold nrm held
  by_cases h : R.val < 4112
  · simp only [dif_pos h]
    exact hz _
  · simp only [dif_neg h]
    rw [zero_mul, zero_mul]

/-- The call's array is the reference's. -/
theorem out : (dats m 0 c).arrAt 2 cfg0.N = Cert.LatQRefIdeal.Read.val_main_v16 (F := Ideal) (b0 m c) (a1 m c) :=
  arr m c _ fun R k => (held_at (Cert.LatQRefIdeal.Read.val_main_v13 (F := Ideal) (b0 m c) (a1 m c)) Cert.LatQRefIdeal.Gen.facts.shapeCasts_S1x4112x512_S4112x512
    Cert.LatQRefIdeal.Gen.facts.pads_S4112x512_S4224x512_01120_000 Cert.LatQRefIdeal.Gen.facts.h_S_ R k).trans
    (rows_at m c _ k (fun R => ref_at m c R k) R)

end
end Cert.LatQIdeal.Call
end
-- ==== Proof.LatKvCall.lean ====
module

public import proofs.«01_k».proof.Proof.Gen.LatKv
public import proofs.«01_k».proof.Proof.Gen.LatKv.Frame
public import proofs.«01_k».proof.Proof.Gen.LatKvIdeal
public import proofs.«01_k».proof.Proof.Gen.LatKvIdeal.Value
public import proofs.«01_k».proof.Proof.Gen.LatKvRefIdeal
public import proofs.«01_k».proof.Proof.Gen.LatKvRefIdeal.Run
public import proofs.«01_k».proof.Proof.Gen.LatKvRefIdeal.Read
public import proofs.«01_k».proof.Proof.Block
public import proofs.«01_k».proof.Proof.Tile

@[expose] public section

set_option maxRecDepth 16384

noncomputable section

/-! The norm of latents, columns of the combined projection: the call's array is the reference's. -/
namespace Cert.LatKvIdeal.Call

open Idealize.ShloMosaic Cert.Block
open Cert.LatKvIdeal Cert.LatKvIdeal.Gen Idealize.ShloMosaic.TcCoe Idealize.ShloMosaic.Tactic Idealize.SL.Sem

theorem e0 : ∀ t : Fin cfg0.N, win0_0.index t = ![(grid0.coords t 0).val, 19] := (by decide +kernel : ∀ t : Fin grid0.N, _)
theorem e1 : ∀ t : Fin cfg0.N, win0_1.index t = ![0, 0] := (by decide +kernel : ∀ t : Fin grid0.N, _)
theorem e2 : ∀ t : Fin cfg0.N, win0_2.index t = ![(grid0.coords t 0).val, 0] := (by decide +kernel : ∀ t : Fin grid0.N, _)

/-- What a row is scaled by, of the sum of its squares. -/
def rf (s : EReal) : EReal := Ideal.rsqrt (Ideal.div s (Ideal.ofBits .f32 0x44000000#32) + Ideal.ofBits .f32 0x358637BD#32)

/-- The body at an index of its block. -/
theorem pay_at (x : Vec Ideal S384x512 .f32) (g : Vec Ideal S1x512 .f32) (i : Fin 384) (k : Fin 512) :
    k0_pay1 (F := Ideal) x g (ix2 i k) = x (ix2 i k) * rf (∑ j : Fin 512, x (ix2 i j) * x (ix2 i j)) * g (ix2 0 k) := by
  pointwise [k0_pay1]
  rfl

section
variable (m : (ℓ : Loc nD τ sig) → Buf (Elt Ideal) ℓ) (c : Dev nD) (t : Fin cfg0.N)

/-- The arguments. -/
abbrev b0 : (⟨S1x4112x11520, .f32⟩ : BufTy).Contents (Elt Ideal) := m ((c : Thread nD τ).loc main_arg0)
abbrev a0 : (⟨Cert.LatKvRefIdeal.S1x4112x512, .f32⟩ : BufTy).Contents (Elt Ideal) := Cert.LatKvRefIdeal.Read.val_main_v0 (F := Ideal) (b0 m c)
abbrev a1 : (⟨S512, .f32⟩ : BufTy).Contents (Elt Ideal) := m ((c : Thread nD τ).loc main_arg1)

theorem V_x (R : Fin 4224) (k : Fin 11520) : (V m c main_v1 : (⟨S4224x11520, .f32⟩ : BufTy).Contents (Elt Ideal)) (ix2 R k) = held (b0 m c) R k := by
  have h : (V m c main_v1 : (⟨S4224x11520, .f32⟩ : BufTy).Contents (Elt Ideal)) = pad S4224x11520 ![0, 0] ![112, 0] ![0, 0] (shapeCast S4112x11520 (b0 m c) shapeCasts_S1x4112x11520_S4112x11520)
      (sitofp (F := Ideal) .f32 (constantI S_ 32 0#32)) pads_S4112x11520_S4224x11520_01120_000 h_S_ := by
    simp only [V, hostOps0, hostOps0_1, hostOps0_2, List.flatten_cons, List.flatten_nil, List.append_nil, List.cons_append, List.nil_append]
    after_results
    rfl
  rw [h]
  exact held_at (b0 m c) shapeCasts_S1x4112x11520_S4112x11520 pads_S4112x11520_S4224x11520_01120_000 h_S_ R k

theorem V_g (k : Fin 512) : (V m c main_v2 : (⟨S1x512, .f32⟩ : BufTy).Contents (Elt Ideal)) (ix2 0 k) = a1 m c (ix1 k) := by
  have h : (V m c main_v2 : (⟨S1x512, .f32⟩ : BufTy).Contents (Elt Ideal)) = shapeCast S1x512 (a1 m c) shapeCasts_S512_S1x512 := by
    simp only [V, hostOps0, hostOps0_1, hostOps0_2, List.flatten_cons, List.flatten_nil, List.append_nil, List.cons_append, List.nil_append]
    after_results
    rfl
  rw [h]
  refine shapeCast_apply (a1 m c) shapeCasts_S512_S1x512 (ix2 0 k) (ix1 k) ?_
  rw [Shape.rowMajor_val_one, Shape.rowMajor_val_two]
  show k.val = 0 * 512 + k.val
  omega

/-- The array row of a block's row. -/
def row (i : Fin 384) : Fin 4224 := ⟨384 * (grid0.coords t 0).val + i.val, by have h : (grid0.coords t 0).val < 11 := (grid0.coords t 0).isLt; omega⟩

/-- A latent's column in the combined projection. -/
abbrev col (k : Fin 512) : Fin 11520 := ⟨9728 + k.val, by omega⟩

theorem held_lt (R : Fin 4224) (k : Fin 512) : held (b0 m c) R (col k) = held (a0 m c) R k := by
  unfold held
  split
  · rename_i h
    refine Eq.symm ((Cert.LatKvRefIdeal.Read.val_main_v0_apply (F := Ideal) (b0 m c) (ix3 0 ⟨R.val, h⟩ k)).trans ?_)
    congr 1
    funext a
    match a with
    | ⟨0, _⟩ => rfl
    | ⟨1, _⟩ => rfl
    | ⟨2, _⟩ => rfl
  · rfl

theorem blk0 (i : Fin 384) (k : Fin 512) : X0_0 m c t (ix2 i k) = held (a0 m c) (row t i) k := by
  refine Eq.trans ?_ ((V_x m c (row t i) (col k)).trans (held_lt m c (row t i) k))
  unfold X0_0 Pipeline.Window.fill
  rw [dif_pos (moved0_0 t _)]
  blk_simp [iblk]
  congr 1
  blk_ext [e0, row]

theorem blk1 (k : Fin 512) : iblk m c 1 t (ix2 0 k) = a1 m c (ix1 k) := by
  refine Eq.trans ?_ (V_g m c k)
  blk_simp [iblk]
  congr 1
  blk_ext [e1]

/-- A row's entry of the result. -/
abbrev nrm (R : Fin 4224) (k : Fin 512) : EReal :=
  held (a0 m c) R k * rf (∑ j : Fin 512, held (a0 m c) R j * held (a0 m c) R j) * a1 m c (ix1 k)

/-- The block a point writes. -/
theorem pt (i : Fin 384) (k : Fin 512) : out0_A_2 (F := Ideal) c (grid0.coords t) (ms0_0 t) (hs0_0 t) (ms0_1 t) (hs0_1 t) (ms0_2 t) (hs0_2 t) (X0_0 m c t) (iblk m c 1 t) (ix2 i k)
    = nrm m c (row t i) k := by
  frame_out
  rw [pay_at]
  simp only [blk0 m c t, blk1 m c t]

/-- An array that holds these values is the call's result. -/
theorem arr (G : (⟨S4224x512, .bf16⟩ : BufTy).Contents (Elt Ideal)) (hG : ∀ (R : Fin 4224) (k : Fin 512), G (ix2 R k) = nrm m c R k) :
    (dats m 0 c).arrAt 2 cfg0.N = G := by
  refine (dats m 0 c).arrAt_eq_of_covers 2 G (by decide +kernel) fun t hf y => ?_
  blk_simp
  rw [after0_2]
  simp only [outsAt0]
  obtain ⟨i, k, rfl⟩ : ∃ (i : Fin 384) (k : Fin 512), y = ix2 i k := ⟨y 0, y 1, eq_ix2 y⟩
  rw [pt m c t i k]
  refine (hG (row t i) k).symm.trans ?_
  congr 1
  blk_ext [e2, row]

/-- The reference at an index. -/
theorem ref_at (R : Fin 4112) (k : Fin 512) : Cert.LatKvRefIdeal.Read.val_main_v13 (F := Ideal) (b0 m c) (a1 m c) (ix3 0 R k)
    = a0 m c (ix3 0 R k) * rf (∑ j : Fin 512, a0 m c (ix3 0 R j) * a0 m c (ix3 0 R j)) * a1 m c (ix1 k) := by
  open Cert.LatKvRefIdeal.Read in
  rw [val_main_v13_apply, val_main_v10_apply, val_main_v9_apply, val_main_v8_apply, val_main_v7_apply, val_main_v5_apply, val_main_v3_apply, val_main_v2_apply,
    val_main_v4_apply, val_main_v6_apply, val_main_v12_apply, val_main_v11_apply]
  show a0 m c (ix3 0 R k) * rf (Ideal.ofBits .f32 0x00000000#32 + ∑ j : Fin 512, _) * _ = _
  rw [Cert.KernelIdeal.Tile.zeroW, zero_add]
  have hg : Cert.LatKvRefIdeal.Read.idx_main_v11 (Cert.LatKvRefIdeal.Read.idx_main_v12 (ix3 0 R k)) = ix1 k := funext fun a => match a with
    | ⟨0, _⟩ => rfl
  rw [hg]
  have hx : ∀ j : Fin 512, Cert.LatKvRefIdeal.Read.idx_main_v2 (Cert.LatKvRefIdeal.Read.idx_main_v3 (Cert.LatKvRefIdeal.Read.idx_main_v9 (ix3 0 R k))) j = ix3 0 R j := fun j => funext fun a => match a with
    | ⟨0, _⟩ => rfl
    | ⟨1, _⟩ => rfl
    | ⟨2, _⟩ => rfl
  simp only [Cert.LatKvRefIdeal.Read.val_main_v1_apply, hx]
  rfl

/-- The padding rows are zero in both. -/
theorem rows_at (z : (⟨3, ![1, 4112, 512]⟩ : Shape).Idx → EReal) (k : Fin 512)
    (hz : ∀ R : Fin 4112, z (ix3 (0 : Fin 1) R k) = a0 m c (ix3 0 R k) * rf (∑ j : Fin 512, a0 m c (ix3 0 R j) * a0 m c (ix3 0 R j)) * a1 m c (ix1 k)) (R : Fin 4224) :
    held z R k = nrm m c R k := by
  unfold nrm held
  by_cases h : R.val < 4112
  · simp only [dif_pos h]
    exact hz _
  · simp only [dif_neg h]
    rw [zero_mul, zero_mul]

/-- The call's array is the reference's. -/
theorem out : (dats m 0 c).arrAt 2 cfg0.N = Cert.LatKvRefIdeal.Read.val_main_v16 (F := Ideal) (b0 m c) (a1 m c) :=
  arr m c _ fun R k => (held_at (Cert.LatKvRefIdeal.Read.val_main_v13 (F := Ideal) (b0 m c) (a1 m c)) Cert.LatKvRefIdeal.Gen.facts.shapeCasts_S1x4112x512_S4112x512
    Cert.LatKvRefIdeal.Gen.facts.pads_S4112x512_S4224x512_01120_000 Cert.LatKvRefIdeal.Gen.facts.h_S_ R k).trans
    (rows_at m c _ k (fun R => ref_at m c R k) R)

end
end Cert.LatKvIdeal.Call
end
-- ==== Proof.DlatQCall.lean ====
module

public import proofs.«01_k».proof.Proof.Gen.DlatQ
public import proofs.«01_k».proof.Proof.Gen.DlatQ.Frame
public import proofs.«01_k».proof.Proof.Gen.DlatQIdeal
public import proofs.«01_k».proof.Proof.Gen.DlatQIdeal.Value
public import proofs.«01_k».proof.Proof.Gen.DlatQRefIdeal
public import proofs.«01_k».proof.Proof.Gen.DlatQRefIdeal.Run
public import proofs.«01_k».proof.Proof.Gen.DlatQRefIdeal.Read
public import proofs.«01_k».proof.Proof.Block
public import proofs.«01_k».proof.Proof.Tile
public import Idealize.ShloMosaic.Lib.IdealHost

@[expose] public section

set_option maxRecDepth 16384

noncomputable section

/-! The gradient of the norm at one entry, over the extended reals. -/
namespace Cert.DlatQGrad

open Idealize.ShloMosaic

theorem wN : Ideal.ofBits .f32 0x44000000#32 = ((512 : ℝ) : EReal) := by
  have h1 : (BitVec.extractLsb' 23 8 0x44000000#32).toNat = 136 := by decide
  have h2 : (BitVec.extractLsb' 0 23 0x44000000#32).toNat = 0 := by decide
  have h3 : (BitVec.extractLsb' (8 + 23) 1 0x44000000#32 == 1#1) = false := by decide
  simp only [Ideal.ofBits, Ideal.ieee, h1, h2, h3]
  norm_num
theorem w2 : Ideal.ofBits .f32 0x40000000#32 = ((2 : ℝ) : EReal) := by
  have h1 : (BitVec.extractLsb' 23 8 0x40000000#32).toNat = 128 := by decide
  have h2 : (BitVec.extractLsb' 0 23 0x40000000#32).toNat = 0 := by decide
  have h3 : (BitVec.extractLsb' (8 + 23) 1 0x40000000#32 == 1#1) = false := by decide
  simp only [Ideal.ofBits, Ideal.ieee, h1, h2, h3]
  norm_num
theorem wM : Ideal.ofBits .f32 0xBF000000#32 = ((-(1 / 2) : ℝ) : EReal) := by
  have h1 : (BitVec.extractLsb' 23 8 0xBF000000#32).toNat = 126 := by decide
  have h2 : (BitVec.extractLsb' 0 23 0xBF000000#32).toNat = 0 := by decide
  have h3 : (BitVec.extractLsb' (8 + 23) 1 0xBF000000#32 == 1#1) = true := by decide
  simp only [Ideal.ofBits, Ideal.ieee, h1, h2, h3]
  norm_num
theorem eps_pos : ∃ e : ℝ, 0 < e ∧ Ideal.ofBits .f32 0x358637BD#32 = (e : EReal) := by
  have h1 : (BitVec.extractLsb' 23 8 0x358637BD#32).toNat = 107 := by decide
  have h2 : (BitVec.extractLsb' 0 23 0x358637BD#32).toNat = 407485 := by decide
  have h3 : (BitVec.extractLsb' (8 + 23) 1 0x358637BD#32 == 1#1) = false := by decide
  simp only [Ideal.ofBits, Ideal.ieee, h1, h2, h3]
  norm_num

/-- The mean of squares with the small word added, of the sum of squares. -/
def arg (s : EReal) : EReal := Ideal.div s (Ideal.ofBits .f32 0x44000000#32) + Ideal.ofBits .f32 0x358637BD#32

/-- A square is not negative. -/
theorem sq_nonneg' (x : EReal) : 0 ≤ x * x := by
  induction x with
  | bot => simp
  | top => simp
  | coe r => exact_mod_cast mul_self_nonneg r

theorem div_N (s : EReal) : Ideal.div s (Ideal.ofBits .f32 0x44000000#32) = s * ((512⁻¹ : ℝ) : EReal) := by
  rw [wN]
  have h : ((512 : ℝ) : EReal) ≠ 0 := by exact_mod_cast (by norm_num : (512 : ℝ) ≠ 0)
  unfold Ideal.div
  rw [if_neg h, ← EReal.coe_inv]

/-- The reciprocal root over its argument is its cube. -/
theorem cube (s : EReal) (hs : 0 ≤ s) : Ideal.div (Ideal.rsqrt (arg s)) (arg s) = Ideal.rsqrt (arg s) * Ideal.rsqrt (arg s) * Ideal.rsqrt (arg s) := by
  obtain ⟨e, he, hE⟩ := eps_pos
  unfold arg
  rw [div_N, hE]
  induction s with
  | bot => simp at hs
  | top =>
    have h : (⊤ : EReal) * ((512⁻¹ : ℝ) : EReal) + (e : EReal) = ⊤ := by
      rw [EReal.top_mul_coe_of_pos (by norm_num), EReal.top_add_coe]
    rw [h]
    have h0 : Ideal.rsqrt ⊤ = 0 := rfl
    rw [h0]
    unfold Ideal.div
    simp
  | coe r =>
    have hr : 0 ≤ r := by exact_mod_cast hs
    have h : (r : EReal) * ((512⁻¹ : ℝ) : EReal) + (e : EReal) = ((r * 512⁻¹ + e : ℝ) : EReal) := by push_cast; rfl
    rw [h]
    have hp : 0 < r * 512⁻¹ + e := by positivity
    generalize r * 512⁻¹ + e = a at hp
    have h0 : Ideal.rsqrt (a : EReal) = ((√a)⁻¹ : ℝ) := by
      show (if a < 0 then (⊥ : EReal) else if a = 0 then ⊤ else (((√a)⁻¹ : ℝ) : EReal)) = _
      rw [if_neg (not_lt.mpr hp.le), if_neg hp.ne']
    rw [h0]
    unfold Ideal.div
    have hn : (a : EReal) ≠ 0 := by exact_mod_cast hp.ne'
    rw [if_neg hn, ← EReal.coe_inv, ← EReal.coe_mul, ← EReal.coe_mul, ← EReal.coe_mul]
    congr 1
    rw [mul_assoc]
    congr 1
    rw [← mul_inv, Real.mul_self_sqrt hp.le]

/-- Twice minus a half of anything. -/
theorem twice (y : EReal) : ((-(1 / 2) : ℝ) : EReal) * y + ((-(1 / 2) : ℝ) : EReal) * y = -y := by
  induction y with
  | bot => rw [EReal.coe_mul_bot_of_neg (by norm_num)]; rfl
  | top => rw [EReal.coe_mul_top_of_neg (by norm_num)]; rfl
  | coe r => rw [← EReal.coe_mul, ← EReal.coe_add, ← EReal.coe_neg]; congr 1; ring

/-- One of the two equal parts of the gradient through the squares. -/
theorem part (x r M c : EReal) : M * (((-(1 / 2) : ℝ) : EReal) * r) * c * x = ((-(1 / 2) : ℝ) : EReal) * (x * r * (M * c)) := by
  ac_rfl

end Cert.DlatQGrad

/-! The gradient of the norm of latents, columns of the combined projection: the call's arrays are the reference's. -/
namespace Cert.DlatQIdeal.Call

open Idealize.ShloMosaic Cert.Block
open Cert.DlatQIdeal Cert.DlatQIdeal.Gen Idealize.ShloMosaic.TcCoe Idealize.ShloMosaic.Tactic Idealize.SL.Sem

/-- What a row is scaled by, of the sum of its squares. -/
abbrev rf (s : EReal) : EReal := Ideal.rsqrt (Cert.DlatQGrad.arg s)

/-- An entry of the gradient. -/
def dx (x d : EReal) (S M : EReal) : EReal :=
  rf S * d - x * (rf S * rf S * rf S) * Ideal.div M (Ideal.ofBits .f32 0x44000000#32)

theorem pay5_at (x : Vec Ideal S384x512 .f32) (i : Fin 384) :
    k0_pay4 (F := Ideal) x (ix2 i 0) = rf (∑ j : Fin 512, x (ix2 i j) * x (ix2 i j)) := by
  pointwise [k0_pay4, k0_pay2]
  rfl

theorem pay6_at (x d : Vec Ideal S384x512 .f32) (g : Vec Ideal S1x512 .f32) (i : Fin 384) (k : Fin 512) :
    k0_pay5 (F := Ideal) x d g (ix2 i k) = dx (x (ix2 i k)) (d (ix2 i k) * g (ix2 0 k)) (∑ j : Fin 512, x (ix2 i j) * x (ix2 i j))
      (∑ j : Fin 512, x (ix2 i j) * (d (ix2 i j) * g (ix2 0 j))) := by
  pointwise [k0_pay5, k0_pay4, k0_pay3, k0_pay2]
  rfl

theorem pay2_at (x d : Vec Ideal S384x512 .f32) (r : Vec Ideal S384x1 .f32) (a : Vec Ideal S1x512 .f32) (k : Fin 512) :
    k0_pay1 (F := Ideal) x d r a (ix2 0 k) = a (ix2 0 k) + ∑ i : Fin 384, d (ix2 i k) * x (ix2 i k) * r (ix2 i 0) := by
  pointwise [k0_pay1]

section
variable (x0 : (⟨S1x4112x11520, .f32⟩ : BufTy).Contents (Elt Ideal)) (x1 : (⟨S512, .f32⟩ : BufTy).Contents (Elt Ideal))
  (x2 : (⟨S1x4112x512, .f32⟩ : BufTy).Contents (Elt Ideal))

/-- A sum over axes of one entry each. -/
theorem reduce_one {s t : Shape} {axes : List (Fin s.rank)} (h : s.ReducesTo axes t) (x : s.Idx → EReal) (z : EReal) (j : t.Idx) (i0 : s.Idx)
    (h1 : ∀ i, h.drop i = j ↔ i = i0) : Ideal.hostReduceAdd h x z j = z + x i0 := by
  unfold Ideal.hostReduceAdd
  congr 1
  rw [Finset.filter_congr (fun i _ => h1 i), Finset.filter_eq', if_pos (Finset.mem_univ _), Finset.sum_singleton]

open Cert.DlatQRefIdeal.Read in
theorem v30_at (R : Fin 4112) : val_main_v31 (F := Ideal) x0 x1 x2 (ix1 R) = val_main_v30 (F := Ideal) x0 x1 x2 (ix3 0 R 0) := by
  unfold val_main_v31
  generalize val_main_v30 (F := Ideal) x0 x1 x2 = y
  refine (reduce_one Cert.DlatQRefIdeal.Gen.facts.reducesTo_S1x4112x1_S4112_d0_2 y _ (ix1 R) (ix3 0 R 0) fun i => ?_).trans ?_
  · constructor
    · intro e
      funext a
      match a with
      | ⟨0, _⟩ => exact Fin.ext (by have h : (i 0).val < 1 := (i 0).isLt; show (i 0).val = 0; omega)
      | ⟨1, _⟩ => exact Fin.ext (congrArg Fin.val (congrFun e 0))
      | ⟨2, _⟩ => exact Fin.ext (by have h : (i 2).val < 1 := (i 2).isLt; show (i 2).val = 0; omega)
    · rintro rfl
      funext b
      match b with
      | ⟨0, _⟩ => rfl
  · show Ideal.ofBits .f32 0x00000000#32 + _ = _
    rw [Cert.KernelIdeal.Tile.zeroW, zero_add]

open Cert.DlatQRefIdeal.Read in
theorem v21_at (k : Fin 512) : val_main_v22 (F := Ideal) x0 x2 (ix1 k) = val_main_v19 (F := Ideal) x0 x2 (ix3 0 0 k) := by
  unfold val_main_v22
  generalize val_main_v19 (F := Ideal) x0 x2 = y
  refine (reduce_one Cert.DlatQRefIdeal.Gen.facts.reducesTo_S1x1x512_S512_d0_1 y _ (ix1 k) (ix3 0 0 k) fun i => ?_).trans ?_
  · constructor
    · intro e
      funext a
      match a with
      | ⟨0, _⟩ => exact Fin.ext (by have h : (i 0).val < 1 := (i 0).isLt; show (i 0).val = 0; omega)
      | ⟨1, _⟩ => exact Fin.ext (by have h : (i 1).val < 1 := (i 1).isLt; show (i 1).val = 0; omega)
      | ⟨2, _⟩ => exact Fin.ext (congrArg Fin.val (congrFun e 0))
    · rintro rfl
      funext b
      match b with
      | ⟨0, _⟩ => rfl
  · show Ideal.ofBits .f32 0x00000000#32 + _ = _
    rw [Cert.KernelIdeal.Tile.zeroW, zero_add]

/-- The latents. -/
abbrev lt : (⟨S1x4112x512, .f32⟩ : BufTy).Contents (Elt Ideal) := Cert.DlatQRefIdeal.Read.val_main_v0 (F := Ideal) x0

/-- A row's sum of squares. -/
abbrev sq (R : Fin 4112) : EReal := ∑ j : Fin 512, lt x0 (ix3 0 R j) * lt x0 (ix3 0 R j)
/-- A row's sum of its entries times what comes back to them. -/
abbrev mx (R : Fin 4112) : EReal := ∑ j : Fin 512, lt x0 (ix3 0 R j) * (x2 (ix3 0 R j) * x1 (ix1 j))

open Cert.DlatQRefIdeal.Read in
theorem v6_at (R : Fin 4112) : val_main_v7 (F := Ideal) x0 (ix3 0 R 0) = Cert.DlatQGrad.arg (sq x0 R) := by
  rw [val_main_v7_apply, val_main_v5_apply, val_main_v3_apply, val_main_v2_apply, val_main_v4_apply, val_main_v6_apply]
  have hx : ∀ j : Fin 512, idx_main_v2 (idx_main_v3 (ix3 0 R 0)) j = ix3 0 R j := fun j => funext fun a => match a with
    | ⟨0, _⟩ => rfl
    | ⟨1, _⟩ => rfl
    | ⟨2, _⟩ => rfl
  simp only [val_main_v1_apply, hx]
  show Ideal.div (Ideal.ofBits .f32 0x00000000#32 + _) _ + _ = _
  rw [Cert.KernelIdeal.Tile.zeroW, zero_add]
  rfl

open Cert.DlatQRefIdeal.Read in
theorem v19_at (R : Fin 4112) (k : Fin 512) : val_main_v20 (F := Ideal) x1 (ix3 0 R k) = x1 (ix1 k) := by
  rw [val_main_v20_apply, val_main_v14_apply]
  congr 1
  funext a
  match a with
  | ⟨0, _⟩ => rfl

open Cert.DlatQRefIdeal.Read in
theorem v24_at (R : Fin 4112) : val_main_v25 (F := Ideal) x0 x1 x2 (ix3 0 R 0) = mx x0 x1 x2 R := by
  rw [val_main_v25_apply, val_main_v24_apply]
  have hx : ∀ j : Fin 512, idx_main_v24 (idx_main_v25 (ix3 0 R 0)) j = ix3 0 R j := fun j => funext fun a => match a with
    | ⟨0, _⟩ => rfl
    | ⟨1, _⟩ => Fin.ext (by have h := R.isLt; show ((0 * 4112 + R.val) * 1 + 0) % 4112 = R.val; omega)
    | ⟨2, _⟩ => rfl
  simp only [hx, val_main_v23_apply, val_main_v21_apply, v19_at]
  show Ideal.ofBits .f32 0x00000000#32 + _ = _
  rw [Cert.KernelIdeal.Tile.zeroW, zero_add]
  rfl

open Cert.DlatQRefIdeal.Read in
theorem v29_at (R : Fin 4112) : val_main_v30 (F := Ideal) x0 x1 x2 (ix3 0 R 0)
    = Ideal.div (mx x0 x1 x2 R * (Ideal.ofBits .f32 0xBF000000#32 * Ideal.div (rf (sq x0 R)) (Cert.DlatQGrad.arg (sq x0 R)))) (Ideal.ofBits .f32 0x44000000#32) := by
  rw [val_main_v30_apply, val_main_v28_apply, val_main_v29_apply, v24_at, val_main_v11_apply, val_main_v10_apply, val_main_v9_apply, val_main_v8_apply, v6_at]
  rfl

open Cert.DlatQRefIdeal.Read in
/-- The reference's gradient at an entry, as it computes it. -/
theorem v37_at (R : Fin 4112) (k : Fin 512) : val_main_v37 (F := Ideal) x0 x1 x2 (ix3 0 R k)
    = x2 (ix3 0 R k) * x1 (ix1 k) * rf (sq x0 R) + lt x0 (ix3 0 R k) * val_main_v30 (F := Ideal) x0 x1 x2 (ix3 0 R 0)
      + val_main_v30 (F := Ideal) x0 x1 x2 (ix3 0 R 0) * lt x0 (ix3 0 R k) := by
  have h7 : val_main_v26 (F := Ideal) x0 (ix3 0 R k) = rf (sq x0 R) := by
    have e : idx_main_v26 (ix3 0 R k) = ix3 0 R 0 := funext fun a => match a with
      | ⟨0, _⟩ => rfl
      | ⟨1, _⟩ => rfl
      | ⟨2, _⟩ => rfl
    rw [val_main_v26_apply, e, val_main_v8_apply, v6_at]
    rfl
  have h32 : val_main_v33 (F := Ideal) x0 x1 x2 (ix3 0 R k) = val_main_v30 (F := Ideal) x0 x1 x2 (ix3 0 R 0) := by
    have e : idx_main_v32 (idx_main_v33 (ix3 0 R k)) = ix1 R := funext fun a => match a with
      | ⟨0, _⟩ => rfl
    rw [val_main_v33_apply, val_main_v32_apply, e, v30_at]
  rw [val_main_v37_apply, val_main_v35_apply, val_main_v27_apply, val_main_v21_apply, val_main_v34_apply, val_main_v36_apply, h7, h32, v19_at]
  rfl

/-- The two forms of the gradient at an entry are equal. -/
theorem forms (x d S M : EReal) (hS : 0 ≤ S) :
    d * rf S + x * Ideal.div (M * (Ideal.ofBits .f32 0xBF000000#32 * Ideal.div (rf S) (Cert.DlatQGrad.arg S))) (Ideal.ofBits .f32 0x44000000#32)
      + Ideal.div (M * (Ideal.ofBits .f32 0xBF000000#32 * Ideal.div (rf S) (Cert.DlatQGrad.arg S))) (Ideal.ofBits .f32 0x44000000#32) * x
    = dx x d S M := by
  unfold dx
  rw [Cert.DlatQGrad.cube S hS, Cert.DlatQGrad.wM, Cert.DlatQGrad.div_N, Cert.DlatQGrad.div_N, mul_comm x, add_assoc,
    Cert.DlatQGrad.part x (rf S * rf S * rf S) M, Cert.DlatQGrad.twice, sub_eq_add_neg, mul_comm d]

theorem sq_nonneg (R : Fin 4112) : 0 ≤ sq x0 R := Finset.sum_nonneg fun _ _ => Cert.DlatQGrad.sq_nonneg' _

open Cert.DlatQRefIdeal.Read in
theorem ref_at (R : Fin 4112) (k : Fin 512) : val_main_v37 (F := Ideal) x0 x1 x2 (ix3 0 R k)
    = dx (lt x0 (ix3 0 R k)) (x2 (ix3 0 R k) * x1 (ix1 k)) (sq x0 R) (mx x0 x1 x2 R) := by
  rw [v37_at, v29_at]
  exact forms _ _ _ _ (sq_nonneg x0 R)

open Cert.DlatQRefIdeal.Read in
/-- The reference's gradient of the gain. -/
theorem gain_at (k : Fin 512) : val_main_v41 (F := Ideal) x0 x2 (ix2 0 k) = ∑ R : Fin 4112, lt x0 (ix3 0 R k) * rf (sq x0 R) * x2 (ix3 0 R k) := by
  rw [val_main_v41_apply]
  have e : idx_main_v41 (ix2 0 k) = ix1 k := funext fun a => match a with
    | ⟨0, _⟩ => rfl
  rw [e, v21_at, val_main_v19_apply]
  have hi : idx_main_v19 (ix3 0 0 k) = ix2 0 k := funext fun a => match a with
    | ⟨0, _⟩ => rfl
    | ⟨1, _⟩ => Fin.ext (by have h := k.isLt; show ((0 * 1 + 0) * 512 + k.val) % 512 = k.val; omega)
  rw [hi, val_main_v18_apply]
  have hx : ∀ R : Fin 4112, idx_main_v18 (ix2 0 k) R = ix3 0 R k := fun R => funext fun a => match a with
    | ⟨0, _⟩ => rfl
    | ⟨1, _⟩ => rfl
    | ⟨2, _⟩ => rfl
  have h7 : ∀ R : Fin 4112, val_main_v12 (F := Ideal) x0 (ix3 0 R k) = rf (sq x0 R) := fun R => by
    have e : idx_main_v12 (ix3 0 R k) = ix3 0 R 0 := funext fun a => match a with
      | ⟨0, _⟩ => rfl
      | ⟨1, _⟩ => rfl
      | ⟨2, _⟩ => rfl
    rw [val_main_v12_apply, e, val_main_v8_apply, v6_at]
    rfl
  simp only [hx, val_main_v17_apply, val_main_v13_apply, h7]
  show Ideal.ofBits .f32 0x00000000#32 + _ = _
  rw [Cert.KernelIdeal.Tile.zeroW, zero_add]
  rfl

end

theorem e0 : ∀ t : Fin cfg0.N, win0_0.index t = ![(grid0.coords t 0).val, 18] := (by decide +kernel : ∀ t : Fin grid0.N, _)
theorem e1 : ∀ t : Fin cfg0.N, win0_1.index t = ![0, 0] := (by decide +kernel : ∀ t : Fin grid0.N, _)
theorem e2 : ∀ t : Fin cfg0.N, win0_2.index t = ![(grid0.coords t 0).val, 0] := (by decide +kernel : ∀ t : Fin grid0.N, _)
theorem e3 : ∀ t : Fin cfg0.N, win0_3.index t = ![(grid0.coords t 0).val, 0] := (by decide +kernel : ∀ t : Fin grid0.N, _)
theorem e4 : ∀ t : Fin cfg0.N, win0_4.index t = ![(grid0.coords t 0).val, 0] := (by decide +kernel : ∀ t : Fin grid0.N, _)
theorem gc : ∀ t : Fin cfg0.N, (grid0.coords t 0).val = t.val := (by decide +kernel : ∀ t : Fin grid0.N, _)

section
variable (m : (ℓ : Loc nD τ sig) → Buf (Elt Ideal) ℓ) (c : Dev nD) (t : Fin cfg0.N)

/-- The arguments. -/
abbrev b0 : (⟨S1x4112x11520, .f32⟩ : BufTy).Contents (Elt Ideal) := m ((c : Thread nD τ).loc main_arg0)
abbrev a0 : (⟨S1x4112x512, .f32⟩ : BufTy).Contents (Elt Ideal) := lt (b0 m c)
abbrev a1 : (⟨S512, .f32⟩ : BufTy).Contents (Elt Ideal) := m ((c : Thread nD τ).loc main_arg1)
abbrev a2 : (⟨S1x4112x512, .f32⟩ : BufTy).Contents (Elt Ideal) := m ((c : Thread nD τ).loc main_arg2)

theorem V_x (R : Fin 4224) (k : Fin 11520) : (V m c main_v1 : (⟨S4224x11520, .f32⟩ : BufTy).Contents (Elt Ideal)) (ix2 R k) = held (b0 m c) R k := by
  have h : (V m c main_v1 : (⟨S4224x11520, .f32⟩ : BufTy).Contents (Elt Ideal)) = pad S4224x11520 ![0, 0] ![112, 0] ![0, 0] (shapeCast S4112x11520 (b0 m c) shapeCasts_S1x4112x11520_S4112x11520)
      (sitofp (F := Ideal) .f32 (constantI S_ 32 0#32)) pads_S4112x11520_S4224x11520_01120_000 h_S_ := by
    simp only [V, hostOps0, hostOps0_1, hostOps0_2, hostOps0_3, hostOps0_4, List.flatten_cons, List.flatten_nil, List.append_nil, List.cons_append, List.nil_append]
    after_results
    rfl
  rw [h]
  exact held_at (b0 m c) shapeCasts_S1x4112x11520_S4112x11520 pads_S4112x11520_S4224x11520_01120_000 h_S_ R k

theorem V_d (R : Fin 4224) (k : Fin 512) : (V m c main_v3 : (⟨S4224x512, .f32⟩ : BufTy).Contents (Elt Ideal)) (ix2 R k) = held (a2 m c) R k := by
  have h : (V m c main_v3 : (⟨S4224x512, .f32⟩ : BufTy).Contents (Elt Ideal)) = pad S4224x512 ![0, 0] ![112, 0] ![0, 0] (shapeCast S4112x512 (a2 m c) shapeCasts_S1x4112x512_S4112x512)
      (sitofp (F := Ideal) .f32 (constantI S_ 32 0#32)) pads_S4112x512_S4224x512_01120_000 h_S_ := by
    simp only [V, hostOps0, hostOps0_1, hostOps0_2, hostOps0_3, hostOps0_4, List.flatten_cons, List.flatten_nil, List.append_nil, List.cons_append, List.nil_append]
    after_results
    rfl
  rw [h]
  exact held_at (a2 m c) shapeCasts_S1x4112x512_S4112x512 pads_S4112x512_S4224x512_01120_000 h_S_ R k

theorem V_g (k : Fin 512) : (V m c main_v4 : (⟨S1x512, .f32⟩ : BufTy).Contents (Elt Ideal)) (ix2 0 k) = a1 m c (ix1 k) := by
  have h : (V m c main_v4 : (⟨S1x512, .f32⟩ : BufTy).Contents (Elt Ideal)) = shapeCast S1x512 (a1 m c) shapeCasts_S512_S1x512 := by
    simp only [V, hostOps0, hostOps0_1, hostOps0_2, hostOps0_3, hostOps0_4, List.flatten_cons, List.flatten_nil, List.append_nil, List.cons_append, List.nil_append]
    after_results
    rfl
  rw [h]
  refine shapeCast_apply (a1 m c) shapeCasts_S512_S1x512 (ix2 0 k) (ix1 k) ?_
  rw [Shape.rowMajor_val_one, Shape.rowMajor_val_two]
  show k.val = 0 * 512 + k.val
  omega

/-- The array row of a block's row. -/
def row (i : Fin 384) : Fin 4224 := ⟨384 * (grid0.coords t 0).val + i.val, by have h : (grid0.coords t 0).val < 11 := (grid0.coords t 0).isLt; omega⟩

/-- A latent's column in the combined projection. -/
abbrev col (k : Fin 512) : Fin 11520 := ⟨9216 + k.val, by omega⟩

theorem held_lt (R : Fin 4224) (k : Fin 512) : held (b0 m c) R (col k) = held (a0 m c) R k := by
  unfold held
  split
  · rename_i h
    refine Eq.symm ((Cert.DlatQRefIdeal.Read.val_main_v0_apply (F := Ideal) (b0 m c) (ix3 0 ⟨R.val, h⟩ k)).trans ?_)
    congr 1
    funext a
    match a with
    | ⟨0, _⟩ => rfl
    | ⟨1, _⟩ => rfl
    | ⟨2, _⟩ => rfl
  · rfl

theorem blk0 (i : Fin 384) (k : Fin 512) : X0_0 m c t (ix2 i k) = held (a0 m c) (row t i) k := by
  refine Eq.trans ?_ ((V_x m c (row t i) (col k)).trans (held_lt m c (row t i) k))
  unfold X0_0 Pipeline.Window.fill
  rw [dif_pos (moved0_0 t _)]
  blk_simp [iblk]
  congr 1
  blk_ext [e0, row]

theorem blk2 (i : Fin 384) (k : Fin 512) : iblk m c 2 t (ix2 i k) = held (a2 m c) (row t i) k := by
  refine Eq.trans ?_ (V_d m c (row t i) k)
  blk_simp [iblk]
  congr 1
  blk_ext [e2, row]

theorem blk1 (k : Fin 512) : iblk m c 1 t (ix2 0 k) = a1 m c (ix1 k) := by
  refine Eq.trans ?_ (V_g m c k)
  blk_simp [iblk]
  congr 1
  blk_ext [e1]

/-- A row's entry of the gradient, and of the gain's gradient. -/
abbrev dxv (R : Fin 4224) (k : Fin 512) : EReal :=
  dx (held (a0 m c) R k) (held (a2 m c) R k * a1 m c (ix1 k)) (∑ j : Fin 512, held (a0 m c) R j * held (a0 m c) R j)
    (∑ j : Fin 512, held (a0 m c) R j * (held (a2 m c) R j * a1 m c (ix1 j)))
abbrev dgv (R : Fin 4224) (k : Fin 512) : EReal :=
  held (a2 m c) R k * held (a0 m c) R k * rf (∑ j : Fin 512, held (a0 m c) R j * held (a0 m c) R j)

/-- What the body leaves: the gradient's rows, and the gain's sum begun at the first point and added to after it. -/
theorem o1 (i : Fin 384) (k : Fin 512) : (outsAt0 m c t.val t.isLt).1 (ix2 i k) = dxv m c (row t i) k := by
  have h : (outsAt0 m c t.val t.isLt).1 (ix2 i k) = k0_pay5 (F := Ideal) (X0_0 m c t) (iblk m c 2 t) (iblk m c 1 t) (ix2 i k) := by
    by_cases h0 : t.val % 11 = 0
    · rw [outsAt0_A m c t h0]
      frame_out
    · rw [outsAt0_B m c t h0]
      frame_out
  rw [h, pay6_at]
  simp only [blk0 m c t, blk1 m c t, blk2 m c t]

theorem o2 (i : Fin 384) (k : Fin 512) : (outsAt0 m c t.val t.isLt).2.1 (ix2 i k) = dxv m c (row t i) k := by
  have h : (outsAt0 m c t.val t.isLt).2.1 (ix2 i k) = k0_pay6 (F := Ideal) (X0_0 m c t) (iblk m c 2 t) (iblk m c 1 t) (ix2 i k) := by
    by_cases h0 : t.val % 11 = 0
    · rw [outsAt0_A m c t h0]
      frame_out
    · rw [outsAt0_B m c t h0]
      frame_out
  rw [h]
  refine (pay6_at _ _ _ i k).trans ?_
  simp only [blk0 m c t, blk1 m c t, blk2 m c t]

/-- The addend of a point. -/
theorem add_at (a : Vec Ideal S1x512 .f32) (k : Fin 512) :
    k0_pay1 (F := Ideal) (k0_pay2 (X0_0 m c t)) (k0_pay3 (iblk m c 2 t)) (k0_pay4 (X0_0 m c t)) a (ix2 0 k)
      = a (ix2 0 k) + ∑ i : Fin 384, dgv m c (row t i) k := by
  rw [pay2_at]
  congr 1
  refine Finset.sum_congr rfl fun i _ => ?_
  have h3 : ∀ x : Vec Ideal S384x512 .f32, k0_pay2 (F := Ideal) x = x := fun x => by
    funext y
    pointwise [k0_pay2]
  have h4 : ∀ x : Vec Ideal S384x512 .f32, k0_pay3 (F := Ideal) x = x := fun x => by
    funext y
    pointwise [k0_pay3]
  rw [h3, h4, pay5_at]
  simp only [blk0 m c t, blk2 m c t]

theorem o3A (h0 : t.val % 11 = 0) (k : Fin 512) : (outsAt0 m c t.val t.isLt).2.2 (ix2 0 k) = 0 + ∑ i : Fin 384, dgv m c (row t i) k := by
  rw [outsAt0_A m c t h0]
  frame_out
  refine (add_at m c t _ k).trans ?_
  congr 1
  show Ideal.ofBits .f32 0x00000000#32 = 0
  exact Cert.KernelIdeal.Tile.zeroW

theorem o3B (h0 : ¬t.val % 11 = 0) (k : Fin 512) : (outsAt0 m c t.val t.isLt).2.2 (ix2 0 k)
    = (outsAt0 m c (t.val - 1) (Nat.lt_of_le_of_lt (Nat.sub_le _ _) t.isLt)).2.2 (ix2 0 k) + ∑ i : Fin 384, dgv m c (row t i) k := by
  rw [outsAt0_B m c t h0]
  frame_out
  exact add_at m c t _ k

end

section
variable (m : (ℓ : Loc nD τ sig) → Buf (Elt Ideal) ℓ) (c : Dev nD)

/-- Arrays that hold these values are the call's results. -/
theorem arr3 (G : (⟨S4224x512, .f32⟩ : BufTy).Contents (Elt Ideal)) (hG : ∀ (R : Fin 4224) (k : Fin 512), G (ix2 R k) = dxv m c R k) :
    (dats m 0 c).arrAt 3 cfg0.N = G := by
  refine (dats m 0 c).arrAt_eq_of_covers 3 G (by decide +kernel) fun t hf y => ?_
  blk_simp
  rw [after0_3]
  obtain ⟨i, k, rfl⟩ : ∃ (i : Fin 384) (k : Fin 512), y = ix2 i k := ⟨y 0, y 1, eq_ix2 y⟩
  rw [o1 m c t i k]
  refine (hG (row t i) k).symm.trans ?_
  congr 1
  blk_ext [e3, row]

theorem arr4 (G : (⟨S4224x512, .bf16⟩ : BufTy).Contents (Elt Ideal)) (hG : ∀ (R : Fin 4224) (k : Fin 512), G (ix2 R k) = dxv m c R k) :
    (dats m 0 c).arrAt 4 cfg0.N = G := by
  refine (dats m 0 c).arrAt_eq_of_covers 4 G (by decide +kernel) fun t hf y => ?_
  blk_simp
  rw [after0_4]
  obtain ⟨i, k, rfl⟩ : ∃ (i : Fin 384) (k : Fin 512), y = ix2 i k := ⟨y 0, y 1, eq_ix2 y⟩
  rw [o2 m c t i k]
  refine (hG (row t i) k).symm.trans ?_
  congr 1
  blk_ext [e4, row]

/-- The last point. -/
abbrev tl : Fin cfg0.N := ⟨10, by decide +kernel⟩

/-- The gain's sum after the last point is that over all rows. -/
theorem total (k : Fin 512) : (outsAt0 m c tl.val tl.isLt).2.2 (ix2 0 k) = ∑ R : Fin 4224, dgv m c R k := by
  rw [Pipeline.eq_sum_fin_of_reset_step_apply_last (fun n h (k : Fin 512) => (outsAt0 m c n h).2.2 (ix2 0 k)) 11 (fun _ => (0 : EReal))
    (fun t k => ∑ i : Fin 384, dgv m c (row t i) k) (fun t h k => o3A m c t h k) (fun t h k => o3B m c t h k) (by decide +kernel) tl (by decide +kernel) k, zero_add]
  refine Fin.sum_mul_add_congr (fun s i hl => ?_) (by decide +kernel)
  have e : row s i = ⟨s.val * 384 + i.val, hl⟩ := Fin.ext (by
    show 384 * (grid0.coords s 0).val + i.val = s.val * 384 + i.val
    rw [gc s, Nat.mul_comm])
  rw [e]

theorem arr5 (G : (⟨S1x512, .f32⟩ : BufTy).Contents (Elt Ideal)) (hG : ∀ k : Fin 512, G (ix2 0 k) = ∑ R : Fin 4224, dgv m c R k) :
    (dats m 0 c).arrAt 5 cfg0.N = G := by
  refine (dats m 0 c).arrAt_eq_of_after_last 5 tl (by decide +kernel) G fun y => ?_
  blk_simp
  rw [after0_5]
  obtain ⟨i, k, rfl⟩ : ∃ (i : Fin 1) (k : Fin 512), y = ix2 i k := ⟨y 0, y 1, eq_ix2 y⟩
  obtain rfl : i = 0 := Subsingleton.elim _ _
  refine (total m c k).trans ?_
  refine (hG k).symm.trans ?_
  congr 1

/-- The reference's rows, zero rows included. -/
theorem rows_at (y : (⟨S1x4112x512, .f32⟩ : BufTy).Contents (Elt Ideal)) (k : Fin 512)
    (hy : ∀ R : Fin 4112, y (ix3 0 R k) = dx (a0 m c (ix3 0 R k)) (a2 m c (ix3 0 R k) * a1 m c (ix1 k)) (sq (b0 m c) R) (mx (b0 m c) (a1 m c) (a2 m c) R))
    (R : Fin 4224) : held y R k = dxv m c R k := by
  unfold dxv held
  split
  · exact hy _
  · simp [dx]

theorem ref39 (R : Fin 4224) (k : Fin 512) : Cert.DlatQRefIdeal.Read.val_main_v39 (F := Ideal) (b0 m c) (a1 m c) (a2 m c) (ix2 R k) = dxv m c R k :=
  (held_at (Cert.DlatQRefIdeal.Read.val_main_v37 (F := Ideal) (b0 m c) (a1 m c) (a2 m c)) Cert.DlatQRefIdeal.Gen.facts.shapeCasts_S1x4112x512_S4112x512
    Cert.DlatQRefIdeal.Gen.facts.pads_S4112x512_S4224x512_01120_000 Cert.DlatQRefIdeal.Gen.facts.h_S_ R k).trans
    (rows_at m c _ k (fun R => ref_at _ _ _ R k) R)

theorem out3 : (dats m 0 c).arrAt 3 cfg0.N = Cert.DlatQRefIdeal.Read.val_main_v39 (F := Ideal) (b0 m c) (a1 m c) (a2 m c) :=
  arr3 m c _ fun R k => ref39 m c R k

theorem out4 : (dats m 0 c).arrAt 4 cfg0.N = Cert.DlatQRefIdeal.Read.val_main_v40 (F := Ideal) (b0 m c) (a1 m c) (a2 m c) :=
  arr4 m c _ fun R k => ref39 m c R k

theorem out5 : (dats m 0 c).arrAt 5 cfg0.N = Cert.DlatQRefIdeal.Read.val_main_v41 (F := Ideal) (b0 m c) (a2 m c) :=
  arr5 m c _ fun k => by
    rw [gain_at, ← sum_rows]
    refine Finset.sum_congr rfl fun R _ => ?_
    unfold dgv held
    split
    · rw [mul_comm (a2 m c _), mul_right_comm]
    · simp

end

end Cert.DlatQIdeal.Call
end
-- ==== Proof.DlatKvCall.lean ====
module

public import proofs.«01_k».proof.Proof.Gen.DlatKv
public import proofs.«01_k».proof.Proof.Gen.DlatKv.Frame
public import proofs.«01_k».proof.Proof.Gen.DlatKvIdeal
public import proofs.«01_k».proof.Proof.Gen.DlatKvIdeal.Value
public import proofs.«01_k».proof.Proof.Gen.DlatKvRefIdeal
public import proofs.«01_k».proof.Proof.Gen.DlatKvRefIdeal.Run
public import proofs.«01_k».proof.Proof.Gen.DlatKvRefIdeal.Read
public import proofs.«01_k».proof.Proof.Block
public import proofs.«01_k».proof.Proof.Tile
public import Idealize.ShloMosaic.Lib.IdealHost

@[expose] public section

set_option maxRecDepth 16384

noncomputable section

/-! The gradient of the norm at one entry, over the extended reals. -/
namespace Cert.DlatKvGrad

open Idealize.ShloMosaic

theorem wN : Ideal.ofBits .f32 0x44000000#32 = ((512 : ℝ) : EReal) := by
  have h1 : (BitVec.extractLsb' 23 8 0x44000000#32).toNat = 136 := by decide
  have h2 : (BitVec.extractLsb' 0 23 0x44000000#32).toNat = 0 := by decide
  have h3 : (BitVec.extractLsb' (8 + 23) 1 0x44000000#32 == 1#1) = false := by decide
  simp only [Ideal.ofBits, Ideal.ieee, h1, h2, h3]
  norm_num
theorem w2 : Ideal.ofBits .f32 0x40000000#32 = ((2 : ℝ) : EReal) := by
  have h1 : (BitVec.extractLsb' 23 8 0x40000000#32).toNat = 128 := by decide
  have h2 : (BitVec.extractLsb' 0 23 0x40000000#32).toNat = 0 := by decide
  have h3 : (BitVec.extractLsb' (8 + 23) 1 0x40000000#32 == 1#1) = false := by decide
  simp only [Ideal.ofBits, Ideal.ieee, h1, h2, h3]
  norm_num
theorem wM : Ideal.ofBits .f32 0xBF000000#32 = ((-(1 / 2) : ℝ) : EReal) := by
  have h1 : (BitVec.extractLsb' 23 8 0xBF000000#32).toNat = 126 := by decide
  have h2 : (BitVec.extractLsb' 0 23 0xBF000000#32).toNat = 0 := by decide
  have h3 : (BitVec.extractLsb' (8 + 23) 1 0xBF000000#32 == 1#1) = true := by decide
  simp only [Ideal.ofBits, Ideal.ieee, h1, h2, h3]
  norm_num
theorem eps_pos : ∃ e : ℝ, 0 < e ∧ Ideal.ofBits .f32 0x358637BD#32 = (e : EReal) := by
  have h1 : (BitVec.extractLsb' 23 8 0x358637BD#32).toNat = 107 := by decide
  have h2 : (BitVec.extractLsb' 0 23 0x358637BD#32).toNat = 407485 := by decide
  have h3 : (BitVec.extractLsb' (8 + 23) 1 0x358637BD#32 == 1#1) = false := by decide
  simp only [Ideal.ofBits, Ideal.ieee, h1, h2, h3]
  norm_num

/-- The mean of squares with the small word added, of the sum of squares. -/
def arg (s : EReal) : EReal := Ideal.div s (Ideal.ofBits .f32 0x44000000#32) + Ideal.ofBits .f32 0x358637BD#32

/-- A square is not negative. -/
theorem sq_nonneg' (x : EReal) : 0 ≤ x * x := by
  induction x with
  | bot => simp
  | top => simp
  | coe r => exact_mod_cast mul_self_nonneg r

theorem div_N (s : EReal) : Ideal.div s (Ideal.ofBits .f32 0x44000000#32) = s * ((512⁻¹ : ℝ) : EReal) := by
  rw [wN]
  have h : ((512 : ℝ) : EReal) ≠ 0 := by exact_mod_cast (by norm_num : (512 : ℝ) ≠ 0)
  unfold Ideal.div
  rw [if_neg h, ← EReal.coe_inv]

/-- The reciprocal root over its argument is its cube. -/
theorem cube (s : EReal) (hs : 0 ≤ s) : Ideal.div (Ideal.rsqrt (arg s)) (arg s) = Ideal.rsqrt (arg s) * Ideal.rsqrt (arg s) * Ideal.rsqrt (arg s) := by
  obtain ⟨e, he, hE⟩ := eps_pos
  unfold arg
  rw [div_N, hE]
  induction s with
  | bot => simp at hs
  | top =>
    have h : (⊤ : EReal) * ((512⁻¹ : ℝ) : EReal) + (e : EReal) = ⊤ := by
      rw [EReal.top_mul_coe_of_pos (by norm_num), EReal.top_add_coe]
    rw [h]
    have h0 : Ideal.rsqrt ⊤ = 0 := rfl
    rw [h0]
    unfold Ideal.div
    simp
  | coe r =>
    have hr : 0 ≤ r := by exact_mod_cast hs
    have h : (r : EReal) * ((512⁻¹ : ℝ) : EReal) + (e : EReal) = ((r * 512⁻¹ + e : ℝ) : EReal) := by push_cast; rfl
    rw [h]
    have hp : 0 < r * 512⁻¹ + e := by positivity
    generalize r * 512⁻¹ + e = a at hp
    have h0 : Ideal.rsqrt (a : EReal) = ((√a)⁻¹ : ℝ) := by
      show (if a < 0 then (⊥ : EReal) else if a = 0 then ⊤ else (((√a)⁻¹ : ℝ) : EReal)) = _
      rw [if_neg (not_lt.mpr hp.le), if_neg hp.ne']
    rw [h0]
    unfold Ideal.div
    have hn : (a : EReal) ≠ 0 := by exact_mod_cast hp.ne'
    rw [if_neg hn, ← EReal.coe_inv, ← EReal.coe_mul, ← EReal.coe_mul, ← EReal.coe_mul]
    congr 1
    rw [mul_assoc]
    congr 1
    rw [← mul_inv, Real.mul_self_sqrt hp.le]

/-- Twice minus a half of anything. -/
theorem twice (y : EReal) : ((-(1 / 2) : ℝ) : EReal) * y + ((-(1 / 2) : ℝ) : EReal) * y = -y := by
  induction y with
  | bot => rw [EReal.coe_mul_bot_of_neg (by norm_num)]; rfl
  | top => rw [EReal.coe_mul_top_of_neg (by norm_num)]; rfl
  | coe r => rw [← EReal.coe_mul, ← EReal.coe_add, ← EReal.coe_neg]; congr 1; ring

/-- One of the two equal parts of the gradient through the squares. -/
theorem part (x r M c : EReal) : M * (((-(1 / 2) : ℝ) : EReal) * r) * c * x = ((-(1 / 2) : ℝ) : EReal) * (x * r * (M * c)) := by
  ac_rfl

end Cert.DlatKvGrad

/-! The gradient of the norm of latents, columns of the combined projection: the call's arrays are the reference's. -/
namespace Cert.DlatKvIdeal.Call

open Idealize.ShloMosaic Cert.Block
open Cert.DlatKvIdeal Cert.DlatKvIdeal.Gen Idealize.ShloMosaic.TcCoe Idealize.ShloMosaic.Tactic Idealize.SL.Sem

/-- What a row is scaled by, of the sum of its squares. -/
abbrev rf (s : EReal) : EReal := Ideal.rsqrt (Cert.DlatKvGrad.arg s)

/-- An entry of the gradient. -/
def dx (x d : EReal) (S M : EReal) : EReal :=
  rf S * d - x * (rf S * rf S * rf S) * Ideal.div M (Ideal.ofBits .f32 0x44000000#32)

theorem pay5_at (x : Vec Ideal S384x512 .f32) (i : Fin 384) :
    k0_pay4 (F := Ideal) x (ix2 i 0) = rf (∑ j : Fin 512, x (ix2 i j) * x (ix2 i j)) := by
  pointwise [k0_pay4, k0_pay2]
  rfl

theorem pay6_at (x d : Vec Ideal S384x512 .f32) (g : Vec Ideal S1x512 .f32) (i : Fin 384) (k : Fin 512) :
    k0_pay5 (F := Ideal) x d g (ix2 i k) = dx (x (ix2 i k)) (d (ix2 i k) * g (ix2 0 k)) (∑ j : Fin 512, x (ix2 i j) * x (ix2 i j))
      (∑ j : Fin 512, x (ix2 i j) * (d (ix2 i j) * g (ix2 0 j))) := by
  pointwise [k0_pay5, k0_pay4, k0_pay3, k0_pay2]
  rfl

theorem pay2_at (x d : Vec Ideal S384x512 .f32) (r : Vec Ideal S384x1 .f32) (a : Vec Ideal S1x512 .f32) (k : Fin 512) :
    k0_pay1 (F := Ideal) x d r a (ix2 0 k) = a (ix2 0 k) + ∑ i : Fin 384, d (ix2 i k) * x (ix2 i k) * r (ix2 i 0) := by
  pointwise [k0_pay1]

section
variable (x0 : (⟨S1x4112x11520, .f32⟩ : BufTy).Contents (Elt Ideal)) (x1 : (⟨S512, .f32⟩ : BufTy).Contents (Elt Ideal))
  (x2 : (⟨S1x4112x512, .f32⟩ : BufTy).Contents (Elt Ideal))

/-- A sum over axes of one entry each. -/
theorem reduce_one {s t : Shape} {axes : List (Fin s.rank)} (h : s.ReducesTo axes t) (x : s.Idx → EReal) (z : EReal) (j : t.Idx) (i0 : s.Idx)
    (h1 : ∀ i, h.drop i = j ↔ i = i0) : Ideal.hostReduceAdd h x z j = z + x i0 := by
  unfold Ideal.hostReduceAdd
  congr 1
  rw [Finset.filter_congr (fun i _ => h1 i), Finset.filter_eq', if_pos (Finset.mem_univ _), Finset.sum_singleton]

open Cert.DlatKvRefIdeal.Read in
theorem v30_at (R : Fin 4112) : val_main_v31 (F := Ideal) x0 x1 x2 (ix1 R) = val_main_v30 (F := Ideal) x0 x1 x2 (ix3 0 R 0) := by
  unfold val_main_v31
  generalize val_main_v30 (F := Ideal) x0 x1 x2 = y
  refine (reduce_one Cert.DlatKvRefIdeal.Gen.facts.reducesTo_S1x4112x1_S4112_d0_2 y _ (ix1 R) (ix3 0 R 0) fun i => ?_).trans ?_
  · constructor
    · intro e
      funext a
      match a with
      | ⟨0, _⟩ => exact Fin.ext (by have h : (i 0).val < 1 := (i 0).isLt; show (i 0).val = 0; omega)
      | ⟨1, _⟩ => exact Fin.ext (congrArg Fin.val (congrFun e 0))
      | ⟨2, _⟩ => exact Fin.ext (by have h : (i 2).val < 1 := (i 2).isLt; show (i 2).val = 0; omega)
    · rintro rfl
      funext b
      match b with
      | ⟨0, _⟩ => rfl
  · show Ideal.ofBits .f32 0x00000000#32 + _ = _
    rw [Cert.KernelIdeal.Tile.zeroW, zero_add]

open Cert.DlatKvRefIdeal.Read in
theorem v21_at (k : Fin 512) : val_main_v22 (F := Ideal) x0 x2 (ix1 k) = val_main_v19 (F := Ideal) x0 x2 (ix3 0 0 k) := by
  unfold val_main_v22
  generalize val_main_v19 (F := Ideal) x0 x2 = y
  refine (reduce_one Cert.DlatKvRefIdeal.Gen.facts.reducesTo_S1x1x512_S512_d0_1 y _ (ix1 k) (ix3 0 0 k) fun i => ?_).trans ?_
  · constructor
    · intro e
      funext a
      match a with
      | ⟨0, _⟩ => exact Fin.ext (by have h : (i 0).val < 1 := (i 0).isLt; show (i 0).val = 0; omega)
      | ⟨1, _⟩ => exact Fin.ext (by have h : (i 1).val < 1 := (i 1).isLt; show (i 1).val = 0; omega)
      | ⟨2, _⟩ => exact Fin.ext (congrArg Fin.val (congrFun e 0))
    · rintro rfl
      funext b
      match b with
      | ⟨0, _⟩ => rfl
  · show Ideal.ofBits .f32 0x00000000#32 + _ = _
    rw [Cert.KernelIdeal.Tile.zeroW, zero_add]

/-- The latents. -/
abbrev lt : (⟨S1x4112x512, .f32⟩ : BufTy).Contents (Elt Ideal) := Cert.DlatKvRefIdeal.Read.val_main_v0 (F := Ideal) x0

/-- A row's sum of squares. -/
abbrev sq (R : Fin 4112) : EReal := ∑ j : Fin 512, lt x0 (ix3 0 R j) * lt x0 (ix3 0 R j)
/-- A row's sum of its entries times what comes back to them. -/
abbrev mx (R : Fin 4112) : EReal := ∑ j : Fin 512, lt x0 (ix3 0 R j) * (x2 (ix3 0 R j) * x1 (ix1 j))

open Cert.DlatKvRefIdeal.Read in
theorem v6_at (R : Fin 4112) : val_main_v7 (F := Ideal) x0 (ix3 0 R 0) = Cert.DlatKvGrad.arg (sq x0 R) := by
  rw [val_main_v7_apply, val_main_v5_apply, val_main_v3_apply, val_main_v2_apply, val_main_v4_apply, val_main_v6_apply]
  have hx : ∀ j : Fin 512, idx_main_v2 (idx_main_v3 (ix3 0 R 0)) j = ix3 0 R j := fun j => funext fun a => match a with
    | ⟨0, _⟩ => rfl
    | ⟨1, _⟩ => rfl
    | ⟨2, _⟩ => rfl
  simp only [val_main_v1_apply, hx]
  show Ideal.div (Ideal.ofBits .f32 0x00000000#32 + _) _ + _ = _
  rw [Cert.KernelIdeal.Tile.zeroW, zero_add]
  rfl

open Cert.DlatKvRefIdeal.Read in
theorem v19_at (R : Fin 4112) (k : Fin 512) : val_main_v20 (F := Ideal) x1 (ix3 0 R k) = x1 (ix1 k) := by
  rw [val_main_v20_apply, val_main_v14_apply]
  congr 1
  funext a
  match a with
  | ⟨0, _⟩ => rfl

open Cert.DlatKvRefIdeal.Read in
theorem v24_at (R : Fin 4112) : val_main_v25 (F := Ideal) x0 x1 x2 (ix3 0 R 0) = mx x0 x1 x2 R := by
  rw [val_main_v25_apply, val_main_v24_apply]
  have hx : ∀ j : Fin 512, idx_main_v24 (idx_main_v25 (ix3 0 R 0)) j = ix3 0 R j := fun j => funext fun a => match a with
    | ⟨0, _⟩ => rfl
    | ⟨1, _⟩ => Fin.ext (by have h := R.isLt; show ((0 * 4112 + R.val) * 1 + 0) % 4112 = R.val; omega)
    | ⟨2, _⟩ => rfl
  simp only [hx, val_main_v23_apply, val_main_v21_apply, v19_at]
  show Ideal.ofBits .f32 0x00000000#32 + _ = _
  rw [Cert.KernelIdeal.Tile.zeroW, zero_add]
  rfl

open Cert.DlatKvRefIdeal.Read in
theorem v29_at (R : Fin 4112) : val_main_v30 (F := Ideal) x0 x1 x2 (ix3 0 R 0)
    = Ideal.div (mx x0 x1 x2 R * (Ideal.ofBits .f32 0xBF000000#32 * Ideal.div (rf (sq x0 R)) (Cert.DlatKvGrad.arg (sq x0 R)))) (Ideal.ofBits .f32 0x44000000#32) := by
  rw [val_main_v30_apply, val_main_v28_apply, val_main_v29_apply, v24_at, val_main_v11_apply, val_main_v10_apply, val_main_v9_apply, val_main_v8_apply, v6_at]
  rfl

open Cert.DlatKvRefIdeal.Read in
/-- The reference's gradient at an entry, as it computes it. -/
theorem v37_at (R : Fin 4112) (k : Fin 512) : val_main_v37 (F := Ideal) x0 x1 x2 (ix3 0 R k)
    = x2 (ix3 0 R k) * x1 (ix1 k) * rf (sq x0 R) + lt x0 (ix3 0 R k) * val_main_v30 (F := Ideal) x0 x1 x2 (ix3 0 R 0)
      + val_main_v30 (F := Ideal) x0 x1 x2 (ix3 0 R 0) * lt x0 (ix3 0 R k) := by
  have h7 : val_main_v26 (F := Ideal) x0 (ix3 0 R k) = rf (sq x0 R) := by
    have e : idx_main_v26 (ix3 0 R k) = ix3 0 R 0 := funext fun a => match a with
      | ⟨0, _⟩ => rfl
      | ⟨1, _⟩ => rfl
      | ⟨2, _⟩ => rfl
    rw [val_main_v26_apply, e, val_main_v8_apply, v6_at]
    rfl
  have h32 : val_main_v33 (F := Ideal) x0 x1 x2 (ix3 0 R k) = val_main_v30 (F := Ideal) x0 x1 x2 (ix3 0 R 0) := by
    have e : idx_main_v32 (idx_main_v33 (ix3 0 R k)) = ix1 R := funext fun a => match a with
      | ⟨0, _⟩ => rfl
    rw [val_main_v33_apply, val_main_v32_apply, e, v30_at]
  rw [val_main_v37_apply, val_main_v35_apply, val_main_v27_apply, val_main_v21_apply, val_main_v34_apply, val_main_v36_apply, h7, h32, v19_at]
  rfl

/-- The two forms of the gradient at an entry are equal. -/
theorem forms (x d S M : EReal) (hS : 0 ≤ S) :
    d * rf S + x * Ideal.div (M * (Ideal.ofBits .f32 0xBF000000#32 * Ideal.div (rf S) (Cert.DlatKvGrad.arg S))) (Ideal.ofBits .f32 0x44000000#32)
      + Ideal.div (M * (Ideal.ofBits .f32 0xBF000000#32 * Ideal.div (rf S) (Cert.DlatKvGrad.arg S))) (Ideal.ofBits .f32 0x44000000#32) * x
    = dx x d S M := by
  unfold dx
  rw [Cert.DlatKvGrad.cube S hS, Cert.DlatKvGrad.wM, Cert.DlatKvGrad.div_N, Cert.DlatKvGrad.div_N, mul_comm x, add_assoc,
    Cert.DlatKvGrad.part x (rf S * rf S * rf S) M, Cert.DlatKvGrad.twice, sub_eq_add_neg, mul_comm d]

theorem sq_nonneg (R : Fin 4112) : 0 ≤ sq x0 R := Finset.sum_nonneg fun _ _ => Cert.DlatKvGrad.sq_nonneg' _

open Cert.DlatKvRefIdeal.Read in
theorem ref_at (R : Fin 4112) (k : Fin 512) : val_main_v37 (F := Ideal) x0 x1 x2 (ix3 0 R k)
    = dx (lt x0 (ix3 0 R k)) (x2 (ix3 0 R k) * x1 (ix1 k)) (sq x0 R) (mx x0 x1 x2 R) := by
  rw [v37_at, v29_at]
  exact forms _ _ _ _ (sq_nonneg x0 R)

open Cert.DlatKvRefIdeal.Read in
/-- The reference's gradient of the gain. -/
theorem gain_at (k : Fin 512) : val_main_v41 (F := Ideal) x0 x2 (ix2 0 k) = ∑ R : Fin 4112, lt x0 (ix3 0 R k) * rf (sq x0 R) * x2 (ix3 0 R k) := by
  rw [val_main_v41_apply]
  have e : idx_main_v41 (ix2 0 k) = ix1 k := funext fun a => match a with
    | ⟨0, _⟩ => rfl
  rw [e, v21_at, val_main_v19_apply]
  have hi : idx_main_v19 (ix3 0 0 k) = ix2 0 k := funext fun a => match a with
    | ⟨0, _⟩ => rfl
    | ⟨1, _⟩ => Fin.ext (by have h := k.isLt; show ((0 * 1 + 0) * 512 + k.val) % 512 = k.val; omega)
  rw [hi, val_main_v18_apply]
  have hx : ∀ R : Fin 4112, idx_main_v18 (ix2 0 k) R = ix3 0 R k := fun R => funext fun a => match a with
    | ⟨0, _⟩ => rfl
    | ⟨1, _⟩ => rfl
    | ⟨2, _⟩ => rfl
  have h7 : ∀ R : Fin 4112, val_main_v12 (F := Ideal) x0 (ix3 0 R k) = rf (sq x0 R) := fun R => by
    have e : idx_main_v12 (ix3 0 R k) = ix3 0 R 0 := funext fun a => match a with
      | ⟨0, _⟩ => rfl
      | ⟨1, _⟩ => rfl
      | ⟨2, _⟩ => rfl
    rw [val_main_v12_apply, e, val_main_v8_apply, v6_at]
    rfl
  simp only [hx, val_main_v17_apply, val_main_v13_apply, h7]
  show Ideal.ofBits .f32 0x00000000#32 + _ = _
  rw [Cert.KernelIdeal.Tile.zeroW, zero_add]
  rfl

end

theorem e0 : ∀ t : Fin cfg0.N, win0_0.index t = ![(grid0.coords t 0).val, 19] := (by decide +kernel : ∀ t : Fin grid0.N, _)
theorem e1 : ∀ t : Fin cfg0.N, win0_1.index t = ![0, 0] := (by decide +kernel : ∀ t : Fin grid0.N, _)
theorem e2 : ∀ t : Fin cfg0.N, win0_2.index t = ![(grid0.coords t 0).val, 0] := (by decide +kernel : ∀ t : Fin grid0.N, _)
theorem e3 : ∀ t : Fin cfg0.N, win0_3.index t = ![(grid0.coords t 0).val, 0] := (by decide +kernel : ∀ t : Fin grid0.N, _)
theorem e4 : ∀ t : Fin cfg0.N, win0_4.index t = ![(grid0.coords t 0).val, 0] := (by decide +kernel : ∀ t : Fin grid0.N, _)
theorem gc : ∀ t : Fin cfg0.N, (grid0.coords t 0).val = t.val := (by decide +kernel : ∀ t : Fin grid0.N, _)

section
variable (m : (ℓ : Loc nD τ sig) → Buf (Elt Ideal) ℓ) (c : Dev nD) (t : Fin cfg0.N)

/-- The arguments. -/
abbrev b0 : (⟨S1x4112x11520, .f32⟩ : BufTy).Contents (Elt Ideal) := m ((c : Thread nD τ).loc main_arg0)
abbrev a0 : (⟨S1x4112x512, .f32⟩ : BufTy).Contents (Elt Ideal) := lt (b0 m c)
abbrev a1 : (⟨S512, .f32⟩ : BufTy).Contents (Elt Ideal) := m ((c : Thread nD τ).loc main_arg1)
abbrev a2 : (⟨S1x4112x512, .f32⟩ : BufTy).Contents (Elt Ideal) := m ((c : Thread nD τ).loc main_arg2)

theorem V_x (R : Fin 4224) (k : Fin 11520) : (V m c main_v1 : (⟨S4224x11520, .f32⟩ : BufTy).Contents (Elt Ideal)) (ix2 R k) = held (b0 m c) R k := by
  have h : (V m c main_v1 : (⟨S4224x11520, .f32⟩ : BufTy).Contents (Elt Ideal)) = pad S4224x11520 ![0, 0] ![112, 0] ![0, 0] (shapeCast S4112x11520 (b0 m c) shapeCasts_S1x4112x11520_S4112x11520)
      (sitofp (F := Ideal) .f32 (constantI S_ 32 0#32)) pads_S4112x11520_S4224x11520_01120_000 h_S_ := by
    simp only [V, hostOps0, hostOps0_1, hostOps0_2, hostOps0_3, hostOps0_4, List.flatten_cons, List.flatten_nil, List.append_nil, List.cons_append, List.nil_append]
    after_results
    rfl
  rw [h]
  exact held_at (b0 m c) shapeCasts_S1x4112x11520_S4112x11520 pads_S4112x11520_S4224x11520_01120_000 h_S_ R k

theorem V_d (R : Fin 4224) (k : Fin 512) : (V m c main_v3 : (⟨S4224x512, .f32⟩ : BufTy).Contents (Elt Ideal)) (ix2 R k) = held (a2 m c) R k := by
  have h : (V m c main_v3 : (⟨S4224x512, .f32⟩ : BufTy).Contents (Elt Ideal)) = pad S4224x512 ![0, 0] ![112, 0] ![0, 0] (shapeCast S4112x512 (a2 m c) shapeCasts_S1x4112x512_S4112x512)
      (sitofp (F := Ideal) .f32 (constantI S_ 32 0#32)) pads_S4112x512_S4224x512_01120_000 h_S_ := by
    simp only [V, hostOps0, hostOps0_1, hostOps0_2, hostOps0_3, hostOps0_4, List.flatten_cons, List.flatten_nil, List.append_nil, List.cons_append, List.nil_append]
    after_results
    rfl
  rw [h]
  exact held_at (a2 m c) shapeCasts_S1x4112x512_S4112x512 pads_S4112x512_S4224x512_01120_000 h_S_ R k

theorem V_g (k : Fin 512) : (V m c main_v4 : (⟨S1x512, .f32⟩ : BufTy).Contents (Elt Ideal)) (ix2 0 k) = a1 m c (ix1 k) := by
  have h : (V m c main_v4 : (⟨S1x512, .f32⟩ : BufTy).Contents (Elt Ideal)) = shapeCast S1x512 (a1 m c) shapeCasts_S512_S1x512 := by
    simp only [V, hostOps0, hostOps0_1, hostOps0_2, hostOps0_3, hostOps0_4, List.flatten_cons, List.flatten_nil, List.append_nil, List.cons_append, List.nil_append]
    after_results
    rfl
  rw [h]
  refine shapeCast_apply (a1 m c) shapeCasts_S512_S1x512 (ix2 0 k) (ix1 k) ?_
  rw [Shape.rowMajor_val_one, Shape.rowMajor_val_two]
  show k.val = 0 * 512 + k.val
  omega

/-- The array row of a block's row. -/
def row (i : Fin 384) : Fin 4224 := ⟨384 * (grid0.coords t 0).val + i.val, by have h : (grid0.coords t 0).val < 11 := (grid0.coords t 0).isLt; omega⟩

/-- A latent's column in the combined projection. -/
abbrev col (k : Fin 512) : Fin 11520 := ⟨9728 + k.val, by omega⟩

theorem held_lt (R : Fin 4224) (k : Fin 512) : held (b0 m c) R (col k) = held (a0 m c) R k := by
  unfold held
  split
  · rename_i h
    refine Eq.symm ((Cert.DlatKvRefIdeal.Read.val_main_v0_apply (F := Ideal) (b0 m c) (ix3 0 ⟨R.val, h⟩ k)).trans ?_)
    congr 1
    funext a
    match a with
    | ⟨0, _⟩ => rfl
    | ⟨1, _⟩ => rfl
    | ⟨2, _⟩ => rfl
  · rfl

theorem blk0 (i : Fin 384) (k : Fin 512) : X0_0 m c t (ix2 i k) = held (a0 m c) (row t i) k := by
  refine Eq.trans ?_ ((V_x m c (row t i) (col k)).trans (held_lt m c (row t i) k))
  unfold X0_0 Pipeline.Window.fill
  rw [dif_pos (moved0_0 t _)]
  blk_simp [iblk]
  congr 1
  blk_ext [e0, row]

theorem blk2 (i : Fin 384) (k : Fin 512) : iblk m c 2 t (ix2 i k) = held (a2 m c) (row t i) k := by
  refine Eq.trans ?_ (V_d m c (row t i) k)
  blk_simp [iblk]
  congr 1
  blk_ext [e2, row]

theorem blk1 (k : Fin 512) : iblk m c 1 t (ix2 0 k) = a1 m c (ix1 k) := by
  refine Eq.trans ?_ (V_g m c k)
  blk_simp [iblk]
  congr 1
  blk_ext [e1]

/-- A row's entry of the gradient, and of the gain's gradient. -/
abbrev dxv (R : Fin 4224) (k : Fin 512) : EReal :=
  dx (held (a0 m c) R k) (held (a2 m c) R k * a1 m c (ix1 k)) (∑ j : Fin 512, held (a0 m c) R j * held (a0 m c) R j)
    (∑ j : Fin 512, held (a0 m c) R j * (held (a2 m c) R j * a1 m c (ix1 j)))
abbrev dgv (R : Fin 4224) (k : Fin 512) : EReal :=
  held (a2 m c) R k * held (a0 m c) R k * rf (∑ j : Fin 512, held (a0 m c) R j * held (a0 m c) R j)

/-- What the body leaves: the gradient's rows, and the gain's sum begun at the first point and added to after it. -/
theorem o1 (i : Fin 384) (k : Fin 512) : (outsAt0 m c t.val t.isLt).1 (ix2 i k) = dxv m c (row t i) k := by
  have h : (outsAt0 m c t.val t.isLt).1 (ix2 i k) = k0_pay5 (F := Ideal) (X0_0 m c t) (iblk m c 2 t) (iblk m c 1 t) (ix2 i k) := by
    by_cases h0 : t.val % 11 = 0
    · rw [outsAt0_A m c t h0]
      frame_out
    · rw [outsAt0_B m c t h0]
      frame_out
  rw [h, pay6_at]
  simp only [blk0 m c t, blk1 m c t, blk2 m c t]

theorem o2 (i : Fin 384) (k : Fin 512) : (outsAt0 m c t.val t.isLt).2.1 (ix2 i k) = dxv m c (row t i) k := by
  have h : (outsAt0 m c t.val t.isLt).2.1 (ix2 i k) = k0_pay6 (F := Ideal) (X0_0 m c t) (iblk m c 2 t) (iblk m c 1 t) (ix2 i k) := by
    by_cases h0 : t.val % 11 = 0
    · rw [outsAt0_A m c t h0]
      frame_out
    · rw [outsAt0_B m c t h0]
      frame_out
  rw [h]
  refine (pay6_at _ _ _ i k).trans ?_
  simp only [blk0 m c t, blk1 m c t, blk2 m c t]

/-- The addend of a point. -/
theorem add_at (a : Vec Ideal S1x512 .f32) (k : Fin 512) :
    k0_pay1 (F := Ideal) (k0_pay2 (X0_0 m c t)) (k0_pay3 (iblk m c 2 t)) (k0_pay4 (X0_0 m c t)) a (ix2 0 k)
      = a (ix2 0 k) + ∑ i : Fin 384, dgv m c (row t i) k := by
  rw [pay2_at]
  congr 1
  refine Finset.sum_congr rfl fun i _ => ?_
  have h3 : ∀ x : Vec Ideal S384x512 .f32, k0_pay2 (F := Ideal) x = x := fun x => by
    funext y
    pointwise [k0_pay2]
  have h4 : ∀ x : Vec Ideal S384x512 .f32, k0_pay3 (F := Ideal) x = x := fun x => by
    funext y
    pointwise [k0_pay3]
  rw [h3, h4, pay5_at]
  simp only [blk0 m c t, blk2 m c t]

theorem o3A (h0 : t.val % 11 = 0) (k : Fin 512) : (outsAt0 m c t.val t.isLt).2.2 (ix2 0 k) = 0 + ∑ i : Fin 384, dgv m c (row t i) k := by
  rw [outsAt0_A m c t h0]
  frame_out
  refine (add_at m c t _ k).trans ?_
  congr 1
  show Ideal.ofBits .f32 0x00000000#32 = 0
  exact Cert.KernelIdeal.Tile.zeroW

theorem o3B (h0 : ¬t.val % 11 = 0) (k : Fin 512) : (outsAt0 m c t.val t.isLt).2.2 (ix2 0 k)
    = (outsAt0 m c (t.val - 1) (Nat.lt_of_le_of_lt (Nat.sub_le _ _) t.isLt)).2.2 (ix2 0 k) + ∑ i : Fin 384, dgv m c (row t i) k := by
  rw [outsAt0_B m c t h0]
  frame_out
  exact add_at m c t _ k

end

section
variable (m : (ℓ : Loc nD τ sig) → Buf (Elt Ideal) ℓ) (c : Dev nD)

/-- Arrays that hold these values are the call's results. -/
theorem arr3 (G : (⟨S4224x512, .f32⟩ : BufTy).Contents (Elt Ideal)) (hG : ∀ (R : Fin 4224) (k : Fin 512), G (ix2 R k) = dxv m c R k) :
    (dats m 0 c).arrAt 3 cfg0.N = G := by
  refine (dats m 0 c).arrAt_eq_of_covers 3 G (by decide +kernel) fun t hf y => ?_
  blk_simp
  rw [after0_3]
  obtain ⟨i, k, rfl⟩ : ∃ (i : Fin 384) (k : Fin 512), y = ix2 i k := ⟨y 0, y 1, eq_ix2 y⟩
  rw [o1 m c t i k]
  refine (hG (row t i) k).symm.trans ?_
  congr 1
  blk_ext [e3, row]

theorem arr4 (G : (⟨S4224x512, .bf16⟩ : BufTy).Contents (Elt Ideal)) (hG : ∀ (R : Fin 4224) (k : Fin 512), G (ix2 R k) = dxv m c R k) :
    (dats m 0 c).arrAt 4 cfg0.N = G := by
  refine (dats m 0 c).arrAt_eq_of_covers 4 G (by decide +kernel) fun t hf y => ?_
  blk_simp
  rw [after0_4]
  obtain ⟨i, k, rfl⟩ : ∃ (i : Fin 384) (k : Fin 512), y = ix2 i k := ⟨y 0, y 1, eq_ix2 y⟩
  rw [o2 m c t i k]
  refine (hG (row t i) k).symm.trans ?_
  congr 1
  blk_ext [e4, row]

/-- The last point. -/
abbrev tl : Fin cfg0.N := ⟨10, by decide +kernel⟩

/-- The gain's sum after the last point is that over all rows. -/
theorem total (k : Fin 512) : (outsAt0 m c tl.val tl.isLt).2.2 (ix2 0 k) = ∑ R : Fin 4224, dgv m c R k := by
  rw [Pipeline.eq_sum_fin_of_reset_step_apply_last (fun n h (k : Fin 512) => (outsAt0 m c n h).2.2 (ix2 0 k)) 11 (fun _ => (0 : EReal))
    (fun t k => ∑ i : Fin 384, dgv m c (row t i) k) (fun t h k => o3A m c t h k) (fun t h k => o3B m c t h k) (by decide +kernel) tl (by decide +kernel) k, zero_add]
  refine Fin.sum_mul_add_congr (fun s i hl => ?_) (by decide +kernel)
  have e : row s i = ⟨s.val * 384 + i.val, hl⟩ := Fin.ext (by
    show 384 * (grid0.coords s 0).val + i.val = s.val * 384 + i.val
    rw [gc s, Nat.mul_comm])
  rw [e]

theorem arr5 (G : (⟨S1x512, .f32⟩ : BufTy).Contents (Elt Ideal)) (hG : ∀ k : Fin 512, G (ix2 0 k) = ∑ R : Fin 4224, dgv m c R k) :
    (dats m 0 c).arrAt 5 cfg0.N = G := by
  refine (dats m 0 c).arrAt_eq_of_after_last 5 tl (by decide +kernel) G fun y => ?_
  blk_simp
  rw [after0_5]
  obtain ⟨i, k, rfl⟩ : ∃ (i : Fin 1) (k : Fin 512), y = ix2 i k := ⟨y 0, y 1, eq_ix2 y⟩
  obtain rfl : i = 0 := Subsingleton.elim _ _
  refine (total m c k).trans ?_
  refine (hG k).symm.trans ?_
  congr 1

/-- The reference's rows, zero rows included. -/
theorem rows_at (y : (⟨S1x4112x512, .f32⟩ : BufTy).Contents (Elt Ideal)) (k : Fin 512)
    (hy : ∀ R : Fin 4112, y (ix3 0 R k) = dx (a0 m c (ix3 0 R k)) (a2 m c (ix3 0 R k) * a1 m c (ix1 k)) (sq (b0 m c) R) (mx (b0 m c) (a1 m c) (a2 m c) R))
    (R : Fin 4224) : held y R k = dxv m c R k := by
  unfold dxv held
  split
  · exact hy _
  · simp [dx]

theorem ref39 (R : Fin 4224) (k : Fin 512) : Cert.DlatKvRefIdeal.Read.val_main_v39 (F := Ideal) (b0 m c) (a1 m c) (a2 m c) (ix2 R k) = dxv m c R k :=
  (held_at (Cert.DlatKvRefIdeal.Read.val_main_v37 (F := Ideal) (b0 m c) (a1 m c) (a2 m c)) Cert.DlatKvRefIdeal.Gen.facts.shapeCasts_S1x4112x512_S4112x512
    Cert.DlatKvRefIdeal.Gen.facts.pads_S4112x512_S4224x512_01120_000 Cert.DlatKvRefIdeal.Gen.facts.h_S_ R k).trans
    (rows_at m c _ k (fun R => ref_at _ _ _ R k) R)

theorem out3 : (dats m 0 c).arrAt 3 cfg0.N = Cert.DlatKvRefIdeal.Read.val_main_v39 (F := Ideal) (b0 m c) (a1 m c) (a2 m c) :=
  arr3 m c _ fun R k => ref39 m c R k

theorem out4 : (dats m 0 c).arrAt 4 cfg0.N = Cert.DlatKvRefIdeal.Read.val_main_v40 (F := Ideal) (b0 m c) (a1 m c) (a2 m c) :=
  arr4 m c _ fun R k => ref39 m c R k

theorem out5 : (dats m 0 c).arrAt 5 cfg0.N = Cert.DlatKvRefIdeal.Read.val_main_v41 (F := Ideal) (b0 m c) (a2 m c) :=
  arr5 m c _ fun k => by
    rw [gain_at, ← sum_rows]
    refine Finset.sum_congr rfl fun R _ => ?_
    unfold dgv held
    split
    · rw [mul_comm (a2 m c _), mul_right_comm]
    · simp

end

end Cert.DlatKvIdeal.Call
end
-- ==== Proof.Finite.lean ====
module

public import proofs.«01_k».proof.Pre_finite_args
public import proofs.«01_k».proof.Pre_finite_qk
public import proofs.«01_k».proof.Proof.Rows

@[expose] public section

noncomputable section

/-! Arguments that the precondition holds of are real. -/
namespace Cert.Finite

open Idealize.ShloMosaic Idealize.ShloMosaic.ValueIdx

/-- The precondition's own broadcasts. -/
theorem facts : Cert.Pre_finite_args.Facts where
  bcast_S_S1x4112x16x192 := by decide
  bcast_S_S1x4112x16x128 := by decide

/-- The same of the attention's forward pass. -/
theorem facts_qk : Cert.Pre_finite_qk.Facts where
  bcast_S_S1x4112x16x192 := by decide

/-- A number whose absolute value is below infinity is real. -/
theorem real_of_abs (x : EReal) (h : max x (-x) < ⊤) : ∃ r : ℝ, x = (r : EReal) :=
  ⟨x.toReal, (EReal.coe_toReal (fun e => by rw [e] at h; simp at h) (fun e => by rw [e] at h; simp at h)).symm⟩

/-- Every entry of a compared array is real. -/
theorem real_at {s : Shape} (x y : FVec Ideal s .f32) (hy : ∀ i, y i = ⊤)
    (h : cmpf (F := Ideal) .olt (Host.absf x) y = fun _ => 1#1) (i : s.Idx) : ∃ r : ℝ, x i = (r : EReal) := by
  have e : BitVec.ofBool (decide (max (x i) (-(x i)) < y i)) = 1#1 := congrFun h i
  rw [hy] at e
  refine real_of_abs _ ?_
  by_contra hh
  rw [decide_eq_false hh] at e
  exact absurd e (by decide)

end Cert.Finite
end
-- ==== Proof.lean ====
module

public import proofs.«01_k».proof.Defs
public import proofs.«01_k».proof.Proof.Gen.Kernel
public import proofs.«01_k».proof.Proof.Gen.Kernel.Frame
public import proofs.«01_k».proof.Proof.Gen.KernelIdeal
public import proofs.«01_k».proof.Proof.Gen.KernelIdeal.Value
public import proofs.«01_k».proof.Proof.Gen.ReferenceIdeal
public import proofs.«01_k».proof.Proof.Gen.ReferenceIdeal.Run
public import proofs.«01_k».proof.Proof.Gen.ReferenceIdeal.Read
public import proofs.«01_k».proof.Proof.Array
public import proofs.«01_k».proof.Proof.Gen.Merge
public import proofs.«01_k».proof.Proof.Gen.Merge.Frame
public import proofs.«01_k».proof.Proof.Gen.MergeIdeal
public import proofs.«01_k».proof.Proof.Gen.MergeIdeal.Frame
public import proofs.«01_k».proof.Proof.Gen.MergeIdeal.Value
public import proofs.«01_k».proof.Proof.Gen.MergeRefIdeal
public import proofs.«01_k».proof.Proof.Gen.MergeRefIdeal.Run
public import proofs.«01_k».proof.Proof.Gen.MergeRefIdeal.Read
public import proofs.«01_k».proof.Proof.Gen.Act
public import proofs.«01_k».proof.Proof.Gen.Act.Frame
public import proofs.«01_k».proof.Proof.Gen.ActIdeal
public import proofs.«01_k».proof.Proof.Gen.ActIdeal.Frame
public import proofs.«01_k».proof.Proof.Gen.ActIdeal.Value
public import proofs.«01_k».proof.Proof.Gen.ActRefIdeal
public import proofs.«01_k».proof.Proof.Gen.ActRefIdeal.Run
public import proofs.«01_k».proof.Proof.Gen.ActRefIdeal.Read
public import proofs.«01_k».proof.Proof.Gen.Down
public import proofs.«01_k».proof.Proof.Gen.Down.Frame
public import proofs.«01_k».proof.Proof.Gen.DownIdeal
public import proofs.«01_k».proof.Proof.Gen.DownIdeal.Frame
public import proofs.«01_k».proof.Proof.Gen.DownIdeal.Value
public import proofs.«01_k».proof.Proof.Gen.DownRefIdeal
public import proofs.«01_k».proof.Proof.Gen.DownRefIdeal.Run
public import proofs.«01_k».proof.Proof.Gen.DownRefIdeal.Read
public import proofs.«01_k».proof.Proof.Gen.Up
public import proofs.«01_k».proof.Proof.Gen.Up.Frame
public import proofs.«01_k».proof.Proof.Gen.UpIdeal
public import proofs.«01_k».proof.Proof.Gen.UpIdeal.Frame
public import proofs.«01_k».proof.Proof.Gen.UpIdeal.Value
public import proofs.«01_k».proof.Proof.Gen.UpRefIdeal
public import proofs.«01_k».proof.Proof.Gen.UpRefIdeal.Run
public import proofs.«01_k».proof.Proof.Gen.UpRefIdeal.Read
public import proofs.«01_k».proof.Proof.Gen.H2
public import proofs.«01_k».proof.Proof.Gen.H2.Frame
public import proofs.«01_k».proof.Proof.Gen.H2Ideal
public import proofs.«01_k».proof.Proof.Gen.H2Ideal.Frame
public import proofs.«01_k».proof.Proof.Gen.H2Ideal.Value
public import proofs.«01_k».proof.Proof.Gen.H2RefIdeal
public import proofs.«01_k».proof.Proof.Gen.H2RefIdeal.Run
public import proofs.«01_k».proof.Proof.Gen.H2RefIdeal.Read
public import proofs.«01_k».proof.Proof.Gen.Do
public import proofs.«01_k».proof.Proof.Gen.Do.Frame
public import proofs.«01_k».proof.Proof.Gen.DoIdeal
public import proofs.«01_k».proof.Proof.Gen.DoIdeal.Frame
public import proofs.«01_k».proof.Proof.Gen.DoIdeal.Value
public import proofs.«01_k».proof.Proof.Gen.DoRefIdeal
public import proofs.«01_k».proof.Proof.Gen.DoRefIdeal.Run
public import proofs.«01_k».proof.Proof.Gen.DoRefIdeal.Read
public import proofs.«01_k».proof.Proof.Gen.Da
public import proofs.«01_k».proof.Proof.Gen.Da.Frame
public import proofs.«01_k».proof.Proof.Gen.DaIdeal
public import proofs.«01_k».proof.Proof.Gen.DaIdeal.Frame
public import proofs.«01_k».proof.Proof.Gen.DaIdeal.Value
public import proofs.«01_k».proof.Proof.Gen.DaRefIdeal
public import proofs.«01_k».proof.Proof.Gen.DaRefIdeal.Run
public import proofs.«01_k».proof.Proof.Gen.DaRefIdeal.Read
public import proofs.«01_k».proof.Proof.Gen.Dkv
public import proofs.«01_k».proof.Proof.Gen.Dkv.Frame
public import proofs.«01_k».proof.Proof.Gen.DkvIdeal
public import proofs.«01_k».proof.Proof.Gen.DkvIdeal.Frame
public import proofs.«01_k».proof.Proof.Gen.DkvIdeal.Value
public import proofs.«01_k».proof.Proof.Gen.DkvRefIdeal
public import proofs.«01_k».proof.Proof.Gen.DkvRefIdeal.Run
public import proofs.«01_k».proof.Proof.Gen.DkvRefIdeal.Read
public import proofs.«01_k».proof.Proof.Gen.Go
public import proofs.«01_k».proof.Proof.Gen.Go.Frame
public import proofs.«01_k».proof.Proof.Gen.GoIdeal
public import proofs.«01_k».proof.Proof.Gen.GoIdeal.Frame
public import proofs.«01_k».proof.Proof.Gen.GoIdeal.Value
public import proofs.«01_k».proof.Proof.Gen.GoRefIdeal
public import proofs.«01_k».proof.Proof.Gen.GoRefIdeal.Run
public import proofs.«01_k».proof.Proof.Gen.GoRefIdeal.Read
public import proofs.«01_k».proof.Proof.Gen.Ga
public import proofs.«01_k».proof.Proof.Gen.Ga.Frame
public import proofs.«01_k».proof.Proof.Gen.GaIdeal
public import proofs.«01_k».proof.Proof.Gen.GaIdeal.Frame
public import proofs.«01_k».proof.Proof.Gen.GaIdeal.Value
public import proofs.«01_k».proof.Proof.Gen.GaRefIdeal
public import proofs.«01_k».proof.Proof.Gen.GaRefIdeal.Run
public import proofs.«01_k».proof.Proof.Gen.GaRefIdeal.Read
public import proofs.«01_k».proof.Proof.Gen.Gkv
public import proofs.«01_k».proof.Proof.Gen.Gkv.Frame
public import proofs.«01_k».proof.Proof.Gen.GkvIdeal
public import proofs.«01_k».proof.Proof.Gen.GkvIdeal.Frame
public import proofs.«01_k».proof.Proof.Gen.GkvIdeal.Value
public import proofs.«01_k».proof.Proof.Gen.GkvRefIdeal
public import proofs.«01_k».proof.Proof.Gen.GkvRefIdeal.Run
public import proofs.«01_k».proof.Proof.Gen.GkvRefIdeal.Read
public import proofs.«01_k».proof.Proof.Gen.Gin
public import proofs.«01_k».proof.Proof.Gen.Gin.Frame
public import proofs.«01_k».proof.Proof.Gen.GinIdeal
public import proofs.«01_k».proof.Proof.Gen.GinIdeal.Frame
public import proofs.«01_k».proof.Proof.Gen.GinIdeal.Value
public import proofs.«01_k».proof.Proof.Gen.GinRefIdeal
public import proofs.«01_k».proof.Proof.Gen.GinRefIdeal.Run
public import proofs.«01_k».proof.Proof.Gen.GinRefIdeal.Read
public import proofs.«01_k».proof.Proof.Gen.Fb
public import proofs.«01_k».proof.Proof.Gen.Fb.Frame
public import proofs.«01_k».proof.Proof.Gen.FbIdeal
public import proofs.«01_k».proof.Proof.Gen.FbIdeal.Frame
public import proofs.«01_k».proof.Proof.Gen.FbIdeal.Value
public import proofs.«01_k».proof.Proof.Gen.FbRefIdeal
public import proofs.«01_k».proof.Proof.Gen.FbRefIdeal.Run
public import proofs.«01_k».proof.Proof.Gen.FbRefIdeal.Read
public import proofs.«01_k».proof.Proof.Gen.Fa
public import proofs.«01_k».proof.Proof.Gen.Fa.Frame
public import proofs.«01_k».proof.Proof.Gen.FaIdeal
public import proofs.«01_k».proof.Proof.Gen.FaIdeal.Frame
public import proofs.«01_k».proof.Proof.Gen.FaIdeal.Value
public import proofs.«01_k».proof.Proof.Gen.FaRefIdeal
public import proofs.«01_k».proof.Proof.Gen.FaRefIdeal.Run
public import proofs.«01_k».proof.Proof.Gen.FaRefIdeal.Read
public import proofs.«01_k».proof.Proof.Gen.Fkv
public import proofs.«01_k».proof.Proof.Gen.Fkv.Frame
public import proofs.«01_k».proof.Proof.Gen.FkvIdeal
public import proofs.«01_k».proof.Proof.Gen.FkvIdeal.Frame
public import proofs.«01_k».proof.Proof.Gen.FkvIdeal.Value
public import proofs.«01_k».proof.Proof.Gen.FkvRefIdeal
public import proofs.«01_k».proof.Proof.Gen.FkvRefIdeal.Run
public import proofs.«01_k».proof.Proof.Gen.FkvRefIdeal.Read
public import proofs.«01_k».proof.Proof.Gen.Fo
public import proofs.«01_k».proof.Proof.Gen.Fo.Frame
public import proofs.«01_k».proof.Proof.Gen.FoIdeal
public import proofs.«01_k».proof.Proof.Gen.FoIdeal.Frame
public import proofs.«01_k».proof.Proof.Gen.FoIdeal.Value
public import proofs.«01_k».proof.Proof.Gen.FoRefIdeal
public import proofs.«01_k».proof.Proof.Gen.FoRefIdeal.Run
public import proofs.«01_k».proof.Proof.Gen.FoRefIdeal.Read
public import proofs.«01_k».proof.Proof.Gen.Fdown
public import proofs.«01_k».proof.Proof.Gen.Fdown.Frame
public import proofs.«01_k».proof.Proof.Gen.FdownIdeal
public import proofs.«01_k».proof.Proof.Gen.FdownIdeal.Frame
public import proofs.«01_k».proof.Proof.Gen.FdownIdeal.Value
public import proofs.«01_k».proof.Proof.Gen.FdownRefIdeal
public import proofs.«01_k».proof.Proof.Gen.FdownRefIdeal.Run
public import proofs.«01_k».proof.Proof.Gen.FdownRefIdeal.Read
public import proofs.«01_k».proof.Proof.Gen.Fup
public import proofs.«01_k».proof.Proof.Gen.Fup.Frame
public import proofs.«01_k».proof.Proof.Gen.FupIdeal
public import proofs.«01_k».proof.Proof.Gen.FupIdeal.Frame
public import proofs.«01_k».proof.Proof.Gen.FupIdeal.Value
public import proofs.«01_k».proof.Proof.Gen.FupRefIdeal
public import proofs.«01_k».proof.Proof.Gen.FupRefIdeal.Run
public import proofs.«01_k».proof.Proof.Gen.FupRefIdeal.Read
public import proofs.«01_k».proof.Proof.Gen.Mix
public import proofs.«01_k».proof.Proof.Gen.Mix.Frame
public import proofs.«01_k».proof.Proof.Gen.MixIdeal
public import proofs.«01_k».proof.Proof.Gen.MixIdeal.Frame
public import proofs.«01_k».proof.Proof.Gen.MixIdeal.Value
public import proofs.«01_k».proof.Proof.Gen.MixRefIdeal
public import proofs.«01_k».proof.Proof.Gen.MixRefIdeal.Run
public import proofs.«01_k».proof.Proof.Gen.MixRefIdeal.Read
public import proofs.«01_k».proof.Proof.Gen.Norm
public import proofs.«01_k».proof.Proof.Gen.Norm.Frame
public import proofs.«01_k».proof.Proof.Gen.NormIdeal
public import proofs.«01_k».proof.Proof.Gen.NormIdeal.Frame
public import proofs.«01_k».proof.Proof.Gen.NormIdeal.Value
public import proofs.«01_k».proof.Proof.Gen.NormRefIdeal
public import proofs.«01_k».proof.Proof.Gen.NormRefIdeal.Run
public import proofs.«01_k».proof.Proof.Gen.NormRefIdeal.Read
public import proofs.«01_k».proof.Proof.Gen.Attn
public import proofs.«01_k».proof.Proof.Gen.Attn.Frame
public import proofs.«01_k».proof.Proof.Gen.AttnIdeal
public import proofs.«01_k».proof.Proof.Gen.AttnIdeal.Frame
public import proofs.«01_k».proof.Proof.Gen.AttnIdeal.Value
public import proofs.«01_k».proof.Proof.Gen.AttnRefIdeal
public import proofs.«01_k».proof.Proof.Gen.AttnRefIdeal.Run
public import proofs.«01_k».proof.Proof.Gen.AttnRefIdeal.Read
public import proofs.«01_k».proof.Proof.Gen.Dnorm
public import proofs.«01_k».proof.Proof.Gen.Dnorm.Frame
public import proofs.«01_k».proof.Proof.Gen.DnormIdeal
public import proofs.«01_k».proof.Proof.Gen.DnormIdeal.Frame
public import proofs.«01_k».proof.Proof.Gen.DnormIdeal.Value
public import proofs.«01_k».proof.Proof.Gen.DnormRefIdeal
public import proofs.«01_k».proof.Proof.Gen.DnormRefIdeal.Run
public import proofs.«01_k».proof.Proof.Gen.DnormRefIdeal.Read
public import proofs.«01_k».proof.Proof.Gen.LatQ
public import proofs.«01_k».proof.Proof.Gen.LatQ.Frame
public import proofs.«01_k».proof.Proof.Gen.LatQIdeal
public import proofs.«01_k».proof.Proof.Gen.LatQIdeal.Frame
public import proofs.«01_k».proof.Proof.Gen.LatQIdeal.Value
public import proofs.«01_k».proof.Proof.Gen.LatQRefIdeal
public import proofs.«01_k».proof.Proof.Gen.LatQRefIdeal.Run
public import proofs.«01_k».proof.Proof.Gen.LatQRefIdeal.Read
public import proofs.«01_k».proof.Proof.Gen.LatKv
public import proofs.«01_k».proof.Proof.Gen.LatKv.Frame
public import proofs.«01_k».proof.Proof.Gen.LatKvIdeal
public import proofs.«01_k».proof.Proof.Gen.LatKvIdeal.Frame
public import proofs.«01_k».proof.Proof.Gen.LatKvIdeal.Value
public import proofs.«01_k».proof.Proof.Gen.LatKvRefIdeal
public import proofs.«01_k».proof.Proof.Gen.LatKvRefIdeal.Run
public import proofs.«01_k».proof.Proof.Gen.LatKvRefIdeal.Read
public import proofs.«01_k».proof.Proof.Gen.DlatQ
public import proofs.«01_k».proof.Proof.Gen.DlatQ.Frame
public import proofs.«01_k».proof.Proof.Gen.DlatQIdeal
public import proofs.«01_k».proof.Proof.Gen.DlatQIdeal.Frame
public import proofs.«01_k».proof.Proof.Gen.DlatQIdeal.Value
public import proofs.«01_k».proof.Proof.Gen.DlatQRefIdeal
public import proofs.«01_k».proof.Proof.Gen.DlatQRefIdeal.Run
public import proofs.«01_k».proof.Proof.Gen.DlatQRefIdeal.Read
public import proofs.«01_k».proof.Proof.Gen.DlatKv
public import proofs.«01_k».proof.Proof.Gen.DlatKv.Frame
public import proofs.«01_k».proof.Proof.Gen.DlatKvIdeal
public import proofs.«01_k».proof.Proof.Gen.DlatKvIdeal.Frame
public import proofs.«01_k».proof.Proof.Gen.DlatKvIdeal.Value
public import proofs.«01_k».proof.Proof.Gen.DlatKvRefIdeal
public import proofs.«01_k».proof.Proof.Gen.DlatKvRefIdeal.Run
public import proofs.«01_k».proof.Proof.Gen.DlatKvRefIdeal.Read
public import proofs.«01_k».proof.Proof.MergeCall
public import proofs.«01_k».proof.Proof.ActCall
public import proofs.«01_k».proof.Proof.DownCall
public import proofs.«01_k».proof.Proof.UpCall
public import proofs.«01_k».proof.Proof.H2Call
public import proofs.«01_k».proof.Proof.DoCall
public import proofs.«01_k».proof.Proof.DaCall
public import proofs.«01_k».proof.Proof.DkvCall
public import proofs.«01_k».proof.Proof.GoCall
public import proofs.«01_k».proof.Proof.GaCall
public import proofs.«01_k».proof.Proof.GkvCall
public import proofs.«01_k».proof.Proof.GinCall
public import proofs.«01_k».proof.Proof.FbCall
public import proofs.«01_k».proof.Proof.FaCall
public import proofs.«01_k».proof.Proof.FkvCall
public import proofs.«01_k».proof.Proof.FoCall
public import proofs.«01_k».proof.Proof.FdownCall
public import proofs.«01_k».proof.Proof.FupCall
public import proofs.«01_k».proof.Proof.MixCall
public import proofs.«01_k».proof.Proof.NormCall
public import proofs.«01_k».proof.Proof.AttnCall
public import proofs.«01_k».proof.Proof.DnormCall
public import proofs.«01_k».proof.Proof.LatQCall
public import proofs.«01_k».proof.Proof.LatKvCall
public import proofs.«01_k».proof.Proof.DlatQCall
public import proofs.«01_k».proof.Proof.DlatKvCall
public import proofs.«01_k».proof.Proof.Finite
public import Idealize.ShloMosaic.Adequacy
public import Idealize.ShloMosaic.Init

@[expose] public section

noncomputable section

namespace Cert.Proof

open Idealize.ShloMosaic Idealize.SL.Sem

local instance : Cert.Pre_finite_args.Facts := Cert.Finite.facts
local instance : Cert.Pre_finite_qk.Facts := Cert.Finite.facts_qk

section
open Cert.KernelIdeal Cert.KernelIdeal.Gen Cert.KernelIdeal.Prelude
variable (m : (ℓ : Loc nD τ sig) → Buf (Elt Ideal) ℓ)

/-- The words of +∞ at every place are the top. -/
theorem tops {s : Shape} (h : (⟨0, ![]⟩ : Shape).BroadcastsInDim s (![] : Fin 0 → Fin s.rank)) (i : s.Idx) :
    broadcastInDim s ![] h (constant (F := Ideal) ⟨0, ![]⟩ .f32 0x7F800000#32) i = ⊤ := Cert.Rows.topW

/-- Under the precondition the kernel's two arrays are the reference's. -/
theorem arrays (hp : Cert.Pre_KernelIdeal_finite_args m) (c : Dev nD) :
    (dats m 0 c).arrAt 6 cfg0.N = Cert.ReferenceIdeal.Read.val_main_v66 (F := Ideal) (a0 m c) (a1 m c) (a2 m c) (a3 m c)
    ∧ (dats m 0 c).arrAt 7 cfg0.N = Cert.ReferenceIdeal.Read.val_main_v69 (F := Ideal) (a0 m c) (a1 m c) (a3 m c) := by
  obtain ⟨p0, p1, p2, p3⟩ := hp c
  have r0 := fun I h d => Cert.Finite.real_at (a0 m c) _ (tops _) p0 (ValueIdx.ix4 0 I h d)
  have r1 := fun I h d => Cert.Finite.real_at (a1 m c) _ (tops _) p1 (ValueIdx.ix4 0 I h d)
  have r2 := fun I h d => Cert.Finite.real_at (a2 m c) _ (tops _) p2 (ValueIdx.ix4 0 I h d)
  have r3 := fun I h d => Cert.Finite.real_at (a3 m c) _ (tops _) p3 (ValueIdx.ix4 0 I h d)
  choose q hq using r0
  choose k hk using r1
  choose v hv using r2
  choose o ho using r3
  have rM := Cert.Rows.max_real (score (a0 m c) (a1 m c)) (Cert.Rows.sR q k) (Cert.Ref.score_at hq hk) reducesTo_S1x16x4112x4112_S1x16x4112_d3 h_S_
  choose M hM using rM
  exact ⟨Arr.out6 m c hq hk hv ho hM, Arr.out7 m c hq hk hv ho hM⟩
end

/-- The reference runs, keeps its arguments and leaves every counter at zero. -/
theorem frame_ref : Cert.quiescent_ReferenceIdeal := fun m g _ =>
  (θ_run Cert.ReferenceIdeal.defs _ _).mono (fun r h => ⟨fun c => (h c).2.2, sem_eq_zero_of_no_sems (by decide) r.2⟩)
    (Cert.ReferenceIdeal.Value.run (F := Ideal) m g)

/-- The kernel's results are the reference's. -/
theorem algebraic : Cert.algebraic_KernelIdeal_ReferenceIdeal_pre_finite_args := fun m g m' g' hp ha => by
  refine ⟨fun c => (Cert.KernelIdeal.Gen.dats m 0 c).arrAt 6 Cert.KernelIdeal.cfg0.N, fun c => (Cert.KernelIdeal.Gen.dats m 0 c).arrAt 7 Cert.KernelIdeal.cfg0.N,
    Cert.KernelIdeal.Value.run_blocks m g, ?_⟩
  refine (θ_run Cert.ReferenceIdeal.defs _ _).mono (fun r h c => ?_) (Cert.ReferenceIdeal.Value.run (F := Ideal) m' g')
  obtain ⟨e0, e1, hk⟩ := h c
  obtain ⟨b0, b1, b2, b3⟩ := ha c
  obtain ⟨o6, o7⟩ := arrays m hp c
  refine ⟨e0.trans ?_, e1.trans ?_, hk⟩
  · rw [Cert.ReferenceIdeal.Read.val_main_v66_eq, b0, b1, b2, b3]
    exact o6.symm
  · rw [Cert.ReferenceIdeal.Read.val_main_v69_eq, b0, b1, b3]
    exact o7.symm

/-- The gradient of the merge of the branches: the reference of `Merge` runs, keeps its arguments and leaves every counter at zero. -/
theorem frame_Merge : Cert.quiescent_MergeRefIdeal := fun m g _ =>
  (θ_run Cert.MergeRefIdeal.defs _ _).mono (fun r h => ⟨fun c => (h c).2.2.2.2.2.2, sem_eq_zero_of_no_sems (by decide) r.2⟩)
    (Cert.MergeRefIdeal.Value.run (F := Ideal) m g)

/-- The gradient of the merge of the branches: the results of the kernel `Merge` are the reference's. -/
theorem algebraic_Merge : Cert.algebraic_MergeIdeal_MergeRefIdeal := fun m g m' g' _ ha => by
  refine ⟨fun c => (Cert.MergeIdeal.Gen.dats m 0 c).arrAt 7 Cert.MergeIdeal.cfg0.N, fun c => (Cert.MergeIdeal.Gen.dats m 0 c).arrAt 8 Cert.MergeIdeal.cfg0.N, fun c => (Cert.MergeIdeal.Gen.dats m 0 c).arrAt 9 Cert.MergeIdeal.cfg0.N, fun c => (Cert.MergeIdeal.Gen.dats m 0 c).arrAt 10 Cert.MergeIdeal.cfg0.N, fun c => (Cert.MergeIdeal.Gen.dats m 0 c).arrAt 11 Cert.MergeIdeal.cfg0.N, fun c => (Cert.MergeIdeal.Gen.dats m 0 c).arrAt 12 Cert.MergeIdeal.cfg0.N,
    Cert.MergeIdeal.Value.run_blocks m g, ?_⟩
  refine (θ_run Cert.MergeRefIdeal.defs _ _).mono (fun r h c => ?_) (Cert.MergeRefIdeal.Value.run (F := Ideal) m' g')
  obtain ⟨e0, e1, e2, e3, e4, e5, hk⟩ := h c
  obtain ⟨b0, b1, b2, b3, b4⟩ := ha c
  refine ⟨e0.trans ?_, e1.trans ?_, e2.trans ?_, e3.trans ?_, e4.trans ?_, e5.trans ?_, hk⟩
  · rw [Cert.MergeRefIdeal.Read.val_main_v41_eq, b0, b4]
    exact (Cert.MergeIdeal.Call.out7 m c).symm
  · rw [Cert.MergeRefIdeal.Read.val_main_v44_eq, b0, b4]
    exact (Cert.MergeIdeal.Call.out8 m c).symm
  · rw [Cert.MergeRefIdeal.Read.val_main_v47_eq, b0, b4]
    exact (Cert.MergeIdeal.Call.out9 m c).symm
  · rw [Cert.MergeRefIdeal.Read.val_main_v53_eq, b0, b1, b2, b3, b4]
    exact (Cert.MergeIdeal.Call.out10 m c).symm
  · rw [Cert.MergeRefIdeal.Read.val_main_v56_eq, b0, b1, b2, b3, b4]
    exact (Cert.MergeIdeal.Call.out11 m c).symm
  · rw [Cert.MergeRefIdeal.Read.val_main_v59_eq, b0, b1, b2, b3, b4]
    exact (Cert.MergeIdeal.Call.out12 m c).symm

/-- The gradient of the hidden layer's argument: the reference of `Act` runs, keeps its arguments and leaves every counter at zero. -/
theorem frame_Act : Cert.quiescent_ActRefIdeal := fun m g _ =>
  (θ_run Cert.ActRefIdeal.defs _ _).mono (fun r h => ⟨fun c => (h c).2, sem_eq_zero_of_no_sems (by decide) r.2⟩)
    (Cert.ActRefIdeal.Value.run (F := Ideal) m g)

/-- The gradient of the hidden layer's argument: the results of the kernel `Act` are the reference's. -/
theorem algebraic_Act : Cert.algebraic_ActIdeal_ActRefIdeal := fun m g m' g' _ ha => by
  refine ⟨fun c => (Cert.ActIdeal.Gen.dats m 0 c).arrAt 3 Cert.ActIdeal.cfg0.N,
    Cert.ActIdeal.Value.run_blocks m g, ?_⟩
  refine (θ_run Cert.ActRefIdeal.defs _ _).mono (fun r h c => ?_) (Cert.ActRefIdeal.Value.run (F := Ideal) m' g')
  obtain ⟨e0, hk⟩ := h c
  obtain ⟨b0, b1, b2⟩ := ha c
  refine ⟨e0.trans ?_, hk⟩
  · rw [Cert.ActRefIdeal.Read.val_main_v14_eq, b0, b1, b2]
    exact (Cert.ActIdeal.Call.out m c).symm

/-- The gradient of the MLP's second weight: the reference of `Down` runs, keeps its arguments and leaves every counter at zero. -/
theorem frame_Down : Cert.quiescent_DownRefIdeal := fun m g _ =>
  (θ_run Cert.DownRefIdeal.defs _ _).mono (fun r h => ⟨fun c => (h c).2, sem_eq_zero_of_no_sems (by decide) r.2⟩)
    (Cert.DownRefIdeal.Value.run (F := Ideal) m g)

/-- The gradient of the MLP's second weight: the results of the kernel `Down` are the reference's. -/
theorem algebraic_Down : Cert.algebraic_DownIdeal_DownRefIdeal := fun m g m' g' _ ha => by
  refine ⟨fun c => (Cert.DownIdeal.Gen.dats m 0 c).arrAt 2 Cert.DownIdeal.cfg0.N,
    Cert.DownIdeal.Value.run_blocks m g, ?_⟩
  refine (θ_run Cert.DownRefIdeal.defs _ _).mono (fun r h c => ?_) (Cert.DownRefIdeal.Value.run (F := Ideal) m' g')
  obtain ⟨e0, hk⟩ := h c
  obtain ⟨b0, b1⟩ := ha c
  refine ⟨e0.trans ?_, hk⟩
  · rw [Cert.DownRefIdeal.Read.val_main_v6_eq, b0, b1]
    exact (Cert.DownIdeal.Call.out m c).symm

/-- The gradient of the MLP's first weight: the reference of `Up` runs, keeps its arguments and leaves every counter at zero. -/
theorem frame_Up : Cert.quiescent_UpRefIdeal := fun m g _ =>
  (θ_run Cert.UpRefIdeal.defs _ _).mono (fun r h => ⟨fun c => (h c).2, sem_eq_zero_of_no_sems (by decide) r.2⟩)
    (Cert.UpRefIdeal.Value.run (F := Ideal) m g)

/-- The gradient of the MLP's first weight: the results of the kernel `Up` are the reference's. -/
theorem algebraic_Up : Cert.algebraic_UpIdeal_UpRefIdeal := fun m g m' g' _ ha => by
  refine ⟨fun c => (Cert.UpIdeal.Gen.dats m 0 c).arrAt 2 Cert.UpIdeal.cfg0.N,
    Cert.UpIdeal.Value.run_blocks m g, ?_⟩
  refine (θ_run Cert.UpRefIdeal.defs _ _).mono (fun r h c => ?_) (Cert.UpRefIdeal.Value.run (F := Ideal) m' g')
  obtain ⟨e0, hk⟩ := h c
  obtain ⟨b0, b1⟩ := ha c
  refine ⟨e0.trans ?_, hk⟩
  · rw [Cert.UpRefIdeal.Read.val_main_v4_eq, b0, b1]
    exact (Cert.UpIdeal.Call.out m c).symm

/-- The gradient of the MLP's argument: the reference of `H2` runs, keeps its arguments and leaves every counter at zero. -/
theorem frame_H2 : Cert.quiescent_H2RefIdeal := fun m g _ =>
  (θ_run Cert.H2RefIdeal.defs _ _).mono (fun r h => ⟨fun c => (h c).2, sem_eq_zero_of_no_sems (by decide) r.2⟩)
    (Cert.H2RefIdeal.Value.run (F := Ideal) m g)

/-- The gradient of the MLP's argument: the results of the kernel `H2` are the reference's. -/
theorem algebraic_H2 : Cert.algebraic_H2Ideal_H2RefIdeal := fun m g m' g' _ ha => by
  refine ⟨fun c => (Cert.H2Ideal.Gen.dats m 0 c).arrAt 2 Cert.H2Ideal.cfg0.N,
    Cert.H2Ideal.Value.run_blocks m g, ?_⟩
  refine (θ_run Cert.H2RefIdeal.defs _ _).mono (fun r h c => ?_) (Cert.H2RefIdeal.Value.run (F := Ideal) m' g')
  obtain ⟨e0, hk⟩ := h c
  obtain ⟨b0, b1⟩ := ha c
  refine ⟨e0.trans ?_, hk⟩
  · rw [Cert.H2RefIdeal.Read.val_main_v4_eq, b0, b1]
    exact (Cert.H2Ideal.Call.out m c).symm

/-- A gradient through a product: the reference of `Do` runs, keeps its arguments and leaves every counter at zero. -/
theorem frame_Do : Cert.quiescent_DoRefIdeal := fun m g _ =>
  (θ_run Cert.DoRefIdeal.defs _ _).mono (fun r h => ⟨fun c => (h c).2, sem_eq_zero_of_no_sems (by decide) r.2⟩)
    (Cert.DoRefIdeal.Value.run (F := Ideal) m g)

/-- A gradient through a product: the results of the kernel `Do` are the reference's. -/
theorem algebraic_Do : Cert.algebraic_DoIdeal_DoRefIdeal := fun m g m' g' _ ha => by
  refine ⟨fun c => (Cert.DoIdeal.Gen.dats m 0 c).arrAt 2 Cert.DoIdeal.cfg0.N,
    Cert.DoIdeal.Value.run_blocks m g, ?_⟩
  refine (θ_run Cert.DoRefIdeal.defs _ _).mono (fun r h c => ?_) (Cert.DoRefIdeal.Value.run (F := Ideal) m' g')
  obtain ⟨e0, hk⟩ := h c
  obtain ⟨b0, b1⟩ := ha c
  refine ⟨e0.trans ?_, hk⟩
  · rw [Cert.DoRefIdeal.Read.val_main_v4_eq, b0, b1]
    exact (Cert.DoIdeal.Call.out m c).symm

/-- A gradient through a product: the reference of `Da` runs, keeps its arguments and leaves every counter at zero. -/
theorem frame_Da : Cert.quiescent_DaRefIdeal := fun m g _ =>
  (θ_run Cert.DaRefIdeal.defs _ _).mono (fun r h => ⟨fun c => (h c).2, sem_eq_zero_of_no_sems (by decide) r.2⟩)
    (Cert.DaRefIdeal.Value.run (F := Ideal) m g)

/-- A gradient through a product: the results of the kernel `Da` are the reference's. -/
theorem algebraic_Da : Cert.algebraic_DaIdeal_DaRefIdeal := fun m g m' g' _ ha => by
  refine ⟨fun c => (Cert.DaIdeal.Gen.dats m 0 c).arrAt 2 Cert.DaIdeal.cfg0.N,
    Cert.DaIdeal.Value.run_blocks m g, ?_⟩
  refine (θ_run Cert.DaRefIdeal.defs _ _).mono (fun r h c => ?_) (Cert.DaRefIdeal.Value.run (F := Ideal) m' g')
  obtain ⟨e0, hk⟩ := h c
  obtain ⟨b0, b1⟩ := ha c
  refine ⟨e0.trans ?_, hk⟩
  · rw [Cert.DaRefIdeal.Read.val_main_v4_eq, b0, b1]
    exact (Cert.DaIdeal.Call.out m c).symm

/-- A gradient through a product: the reference of `Dkv` runs, keeps its arguments and leaves every counter at zero. -/
theorem frame_Dkv : Cert.quiescent_DkvRefIdeal := fun m g _ =>
  (θ_run Cert.DkvRefIdeal.defs _ _).mono (fun r h => ⟨fun c => (h c).2, sem_eq_zero_of_no_sems (by decide) r.2⟩)
    (Cert.DkvRefIdeal.Value.run (F := Ideal) m g)

/-- A gradient through a product: the results of the kernel `Dkv` are the reference's. -/
theorem algebraic_Dkv : Cert.algebraic_DkvIdeal_DkvRefIdeal := fun m g m' g' _ ha => by
  refine ⟨fun c => (Cert.DkvIdeal.Gen.dats m 0 c).arrAt 2 Cert.DkvIdeal.cfg0.N,
    Cert.DkvIdeal.Value.run_blocks m g, ?_⟩
  refine (θ_run Cert.DkvRefIdeal.defs _ _).mono (fun r h c => ?_) (Cert.DkvRefIdeal.Value.run (F := Ideal) m' g')
  obtain ⟨e0, hk⟩ := h c
  obtain ⟨b0, b1⟩ := ha c
  refine ⟨e0.trans ?_, hk⟩
  · rw [Cert.DkvRefIdeal.Read.val_main_v4_eq, b0, b1]
    exact (Cert.DkvIdeal.Call.out m c).symm

/-- A weight's gradient: the reference of `Go` runs, keeps its arguments and leaves every counter at zero. -/
theorem frame_Go : Cert.quiescent_GoRefIdeal := fun m g _ =>
  (θ_run Cert.GoRefIdeal.defs _ _).mono (fun r h => ⟨fun c => (h c).2, sem_eq_zero_of_no_sems (by decide) r.2⟩)
    (Cert.GoRefIdeal.Value.run (F := Ideal) m g)

/-- A weight's gradient: the results of the kernel `Go` are the reference's. -/
theorem algebraic_Go : Cert.algebraic_GoIdeal_GoRefIdeal := fun m g m' g' _ ha => by
  refine ⟨fun c => (Cert.GoIdeal.Gen.dats m 0 c).arrAt 2 Cert.GoIdeal.cfg0.N,
    Cert.GoIdeal.Value.run_blocks m g, ?_⟩
  refine (θ_run Cert.GoRefIdeal.defs _ _).mono (fun r h c => ?_) (Cert.GoRefIdeal.Value.run (F := Ideal) m' g')
  obtain ⟨e0, hk⟩ := h c
  obtain ⟨b0, b1⟩ := ha c
  refine ⟨e0.trans ?_, hk⟩
  · rw [Cert.GoRefIdeal.Read.val_main_v4_eq, b0, b1]
    exact (Cert.GoIdeal.Call.out m c).symm

/-- A weight's gradient: the reference of `Ga` runs, keeps its arguments and leaves every counter at zero. -/
theorem frame_Ga : Cert.quiescent_GaRefIdeal := fun m g _ =>
  (θ_run Cert.GaRefIdeal.defs _ _).mono (fun r h => ⟨fun c => (h c).2, sem_eq_zero_of_no_sems (by decide) r.2⟩)
    (Cert.GaRefIdeal.Value.run (F := Ideal) m g)

/-- A weight's gradient: the results of the kernel `Ga` are the reference's. -/
theorem algebraic_Ga : Cert.algebraic_GaIdeal_GaRefIdeal := fun m g m' g' _ ha => by
  refine ⟨fun c => (Cert.GaIdeal.Gen.dats m 0 c).arrAt 2 Cert.GaIdeal.cfg0.N,
    Cert.GaIdeal.Value.run_blocks m g, ?_⟩
  refine (θ_run Cert.GaRefIdeal.defs _ _).mono (fun r h c => ?_) (Cert.GaRefIdeal.Value.run (F := Ideal) m' g')
  obtain ⟨e0, hk⟩ := h c
  obtain ⟨b0, b1⟩ := ha c
  refine ⟨e0.trans ?_, hk⟩
  · rw [Cert.GaRefIdeal.Read.val_main_v4_eq, b0, b1]
    exact (Cert.GaIdeal.Call.out m c).symm

/-- A weight's gradient: the reference of `Gkv` runs, keeps its arguments and leaves every counter at zero. -/
theorem frame_Gkv : Cert.quiescent_GkvRefIdeal := fun m g _ =>
  (θ_run Cert.GkvRefIdeal.defs _ _).mono (fun r h => ⟨fun c => (h c).2, sem_eq_zero_of_no_sems (by decide) r.2⟩)
    (Cert.GkvRefIdeal.Value.run (F := Ideal) m g)

/-- A weight's gradient: the results of the kernel `Gkv` are the reference's. -/
theorem algebraic_Gkv : Cert.algebraic_GkvIdeal_GkvRefIdeal := fun m g m' g' _ ha => by
  refine ⟨fun c => (Cert.GkvIdeal.Gen.dats m 0 c).arrAt 2 Cert.GkvIdeal.cfg0.N,
    Cert.GkvIdeal.Value.run_blocks m g, ?_⟩
  refine (θ_run Cert.GkvRefIdeal.defs _ _).mono (fun r h c => ?_) (Cert.GkvRefIdeal.Value.run (F := Ideal) m' g')
  obtain ⟨e0, hk⟩ := h c
  obtain ⟨b0, b1⟩ := ha c
  refine ⟨e0.trans ?_, hk⟩
  · rw [Cert.GkvRefIdeal.Read.val_main_v4_eq, b0, b1]
    exact (Cert.GkvIdeal.Call.out m c).symm

/-- A weight's gradient: the reference of `Gin` runs, keeps its arguments and leaves every counter at zero. -/
theorem frame_Gin : Cert.quiescent_GinRefIdeal := fun m g _ =>
  (θ_run Cert.GinRefIdeal.defs _ _).mono (fun r h => ⟨fun c => (h c).2, sem_eq_zero_of_no_sems (by decide) r.2⟩)
    (Cert.GinRefIdeal.Value.run (F := Ideal) m g)

/-- A weight's gradient: the results of the kernel `Gin` are the reference's. -/
theorem algebraic_Gin : Cert.algebraic_GinIdeal_GinRefIdeal := fun m g m' g' _ ha => by
  refine ⟨fun c => (Cert.GinIdeal.Gen.dats m 0 c).arrAt 2 Cert.GinIdeal.cfg0.N,
    Cert.GinIdeal.Value.run_blocks m g, ?_⟩
  refine (θ_run Cert.GinRefIdeal.defs _ _).mono (fun r h c => ?_) (Cert.GinRefIdeal.Value.run (F := Ideal) m' g')
  obtain ⟨e0, hk⟩ := h c
  obtain ⟨b0, b1⟩ := ha c
  refine ⟨e0.trans ?_, hk⟩
  · rw [Cert.GinRefIdeal.Read.val_main_v4_eq, b0, b1]
    exact (Cert.GinIdeal.Call.out m c).symm

/-- A projection: the reference of `Fb` runs, keeps its arguments and leaves every counter at zero. -/
theorem frame_Fb : Cert.quiescent_FbRefIdeal := fun m g _ =>
  (θ_run Cert.FbRefIdeal.defs _ _).mono (fun r h => ⟨fun c => (h c).2, sem_eq_zero_of_no_sems (by decide) r.2⟩)
    (Cert.FbRefIdeal.Value.run (F := Ideal) m g)

/-- A projection: the results of the kernel `Fb` are the reference's. -/
theorem algebraic_Fb : Cert.algebraic_FbIdeal_FbRefIdeal := fun m g m' g' _ ha => by
  refine ⟨fun c => (Cert.FbIdeal.Gen.dats m 0 c).arrAt 2 Cert.FbIdeal.cfg0.N,
    Cert.FbIdeal.Value.run_blocks m g, ?_⟩
  refine (θ_run Cert.FbRefIdeal.defs _ _).mono (fun r h c => ?_) (Cert.FbRefIdeal.Value.run (F := Ideal) m' g')
  obtain ⟨e0, hk⟩ := h c
  obtain ⟨b0, b1⟩ := ha c
  refine ⟨e0.trans ?_, hk⟩
  · rw [Cert.FbRefIdeal.Read.val_main_v2_eq, b0, b1]
    exact (Cert.FbIdeal.Call.out m c).symm

/-- A projection: the reference of `Fa` runs, keeps its arguments and leaves every counter at zero. -/
theorem frame_Fa : Cert.quiescent_FaRefIdeal := fun m g _ =>
  (θ_run Cert.FaRefIdeal.defs _ _).mono (fun r h => ⟨fun c => (h c).2, sem_eq_zero_of_no_sems (by decide) r.2⟩)
    (Cert.FaRefIdeal.Value.run (F := Ideal) m g)

/-- A projection: the results of the kernel `Fa` are the reference's. -/
theorem algebraic_Fa : Cert.algebraic_FaIdeal_FaRefIdeal := fun m g m' g' _ ha => by
  refine ⟨fun c => (Cert.FaIdeal.Gen.dats m 0 c).arrAt 2 Cert.FaIdeal.cfg0.N,
    Cert.FaIdeal.Value.run_blocks m g, ?_⟩
  refine (θ_run Cert.FaRefIdeal.defs _ _).mono (fun r h c => ?_) (Cert.FaRefIdeal.Value.run (F := Ideal) m' g')
  obtain ⟨e0, hk⟩ := h c
  obtain ⟨b0, b1⟩ := ha c
  refine ⟨e0.trans ?_, hk⟩
  · rw [Cert.FaRefIdeal.Read.val_main_v2_eq, b0, b1]
    exact (Cert.FaIdeal.Call.out m c).symm

/-- A projection: the reference of `Fkv` runs, keeps its arguments and leaves every counter at zero. -/
theorem frame_Fkv : Cert.quiescent_FkvRefIdeal := fun m g _ =>
  (θ_run Cert.FkvRefIdeal.defs _ _).mono (fun r h => ⟨fun c => (h c).2, sem_eq_zero_of_no_sems (by decide) r.2⟩)
    (Cert.FkvRefIdeal.Value.run (F := Ideal) m g)

/-- A projection: the results of the kernel `Fkv` are the reference's. -/
theorem algebraic_Fkv : Cert.algebraic_FkvIdeal_FkvRefIdeal := fun m g m' g' _ ha => by
  refine ⟨fun c => (Cert.FkvIdeal.Gen.dats m 0 c).arrAt 2 Cert.FkvIdeal.cfg0.N,
    Cert.FkvIdeal.Value.run_blocks m g, ?_⟩
  refine (θ_run Cert.FkvRefIdeal.defs _ _).mono (fun r h c => ?_) (Cert.FkvRefIdeal.Value.run (F := Ideal) m' g')
  obtain ⟨e0, hk⟩ := h c
  obtain ⟨b0, b1⟩ := ha c
  refine ⟨e0.trans ?_, hk⟩
  · rw [Cert.FkvRefIdeal.Read.val_main_v2_eq, b0, b1]
    exact (Cert.FkvIdeal.Call.out m c).symm

/-- A projection with its residual: the reference of `Fo` runs, keeps its arguments and leaves every counter at zero. -/
theorem frame_Fo : Cert.quiescent_FoRefIdeal := fun m g _ =>
  (θ_run Cert.FoRefIdeal.defs _ _).mono (fun r h => ⟨fun c => (h c).2, sem_eq_zero_of_no_sems (by decide) r.2⟩)
    (Cert.FoRefIdeal.Value.run (F := Ideal) m g)

/-- A projection with its residual: the results of the kernel `Fo` are the reference's. -/
theorem algebraic_Fo : Cert.algebraic_FoIdeal_FoRefIdeal := fun m g m' g' _ ha => by
  refine ⟨fun c => (Cert.FoIdeal.Gen.dats m 0 c).arrAt 3 Cert.FoIdeal.cfg0.N,
    Cert.FoIdeal.Value.run_blocks m g, ?_⟩
  refine (θ_run Cert.FoRefIdeal.defs _ _).mono (fun r h c => ?_) (Cert.FoRefIdeal.Value.run (F := Ideal) m' g')
  obtain ⟨e0, hk⟩ := h c
  obtain ⟨b0, b1, b2⟩ := ha c
  refine ⟨e0.trans ?_, hk⟩
  · rw [Cert.FoRefIdeal.Read.val_main_v3_eq, b0, b1, b2]
    exact (Cert.FoIdeal.Call.out m c).symm

/-- A projection with its residual: the reference of `Fdown` runs, keeps its arguments and leaves every counter at zero. -/
theorem frame_Fdown : Cert.quiescent_FdownRefIdeal := fun m g _ =>
  (θ_run Cert.FdownRefIdeal.defs _ _).mono (fun r h => ⟨fun c => (h c).2, sem_eq_zero_of_no_sems (by decide) r.2⟩)
    (Cert.FdownRefIdeal.Value.run (F := Ideal) m g)

/-- A projection with its residual: the results of the kernel `Fdown` are the reference's. -/
theorem algebraic_Fdown : Cert.algebraic_FdownIdeal_FdownRefIdeal := fun m g m' g' _ ha => by
  refine ⟨fun c => (Cert.FdownIdeal.Gen.dats m 0 c).arrAt 3 Cert.FdownIdeal.cfg0.N,
    Cert.FdownIdeal.Value.run_blocks m g, ?_⟩
  refine (θ_run Cert.FdownRefIdeal.defs _ _).mono (fun r h c => ?_) (Cert.FdownRefIdeal.Value.run (F := Ideal) m' g')
  obtain ⟨e0, hk⟩ := h c
  obtain ⟨b0, b1, b2⟩ := ha c
  refine ⟨e0.trans ?_, hk⟩
  · rw [Cert.FdownRefIdeal.Read.val_main_v3_eq, b0, b1, b2]
    exact (Cert.FdownIdeal.Call.out m c).symm

/-- The MLP's hidden layer: the reference of `Fup` runs, keeps its arguments and leaves every counter at zero. -/
theorem frame_Fup : Cert.quiescent_FupRefIdeal := fun m g _ =>
  (θ_run Cert.FupRefIdeal.defs _ _).mono (fun r h => ⟨fun c => (h c).2.2, sem_eq_zero_of_no_sems (by decide) r.2⟩)
    (Cert.FupRefIdeal.Value.run (F := Ideal) m g)

/-- The MLP's hidden layer: the results of the kernel `Fup` are the reference's. -/
theorem algebraic_Fup : Cert.algebraic_FupIdeal_FupRefIdeal := fun m g m' g' _ ha => by
  refine ⟨fun c => (Cert.FupIdeal.Gen.dats m 0 c).arrAt 2 Cert.FupIdeal.cfg0.N, fun c => (Cert.FupIdeal.Gen.dats m 0 c).arrAt 3 Cert.FupIdeal.cfg0.N,
    Cert.FupIdeal.Value.run_blocks m g, ?_⟩
  refine (θ_run Cert.FupRefIdeal.defs _ _).mono (fun r h c => ?_) (Cert.FupRefIdeal.Value.run (F := Ideal) m' g')
  obtain ⟨e0, e1, hk⟩ := h c
  obtain ⟨b0, b1⟩ := ha c
  refine ⟨e0.trans ?_, e1.trans ?_, hk⟩
  · rw [Cert.FupRefIdeal.Read.val_main_v2_eq, b0, b1]
    exact (Cert.FupIdeal.Call.out m c).symm
  · rw [Cert.FupRefIdeal.Read.val_main_v7_eq, b0, b1]
    exact (Cert.FupIdeal.Call.out2 m c).symm

/-- The merge of the branches: the reference of `Mix` runs, keeps its arguments and leaves every counter at zero. -/
theorem frame_Mix : Cert.quiescent_MixRefIdeal := fun m g _ =>
  (θ_run Cert.MixRefIdeal.defs _ _).mono (fun r h => ⟨fun c => (h c).2, sem_eq_zero_of_no_sems (by decide) r.2⟩)
    (Cert.MixRefIdeal.Value.run (F := Ideal) m g)

/-- The merge of the branches: the results of the kernel `Mix` are the reference's. -/
theorem algebraic_Mix : Cert.algebraic_MixIdeal_MixRefIdeal := fun m g m' g' _ ha => by
  refine ⟨fun c => (Cert.MixIdeal.Gen.dats m 0 c).arrAt 6 Cert.MixIdeal.cfg0.N,
    Cert.MixIdeal.Value.run_blocks m g, ?_⟩
  refine (θ_run Cert.MixRefIdeal.defs _ _).mono (fun r h c => ?_) (Cert.MixRefIdeal.Value.run (F := Ideal) m' g')
  obtain ⟨e0, hk⟩ := h c
  obtain ⟨b0, b1, b2, b3⟩ := ha c
  refine ⟨e0.trans ?_, hk⟩
  · rw [Cert.MixRefIdeal.Read.val_main_v20_eq, b0, b1, b2, b3]
    exact (Cert.MixIdeal.Call.out6 m c).symm

/-- The norm of the residual stream: the reference of `Norm` runs, keeps its arguments and leaves every counter at zero. -/
theorem frame_Norm : Cert.quiescent_NormRefIdeal := fun m g _ =>
  (θ_run Cert.NormRefIdeal.defs _ _).mono (fun r h => ⟨fun c => (h c).2, sem_eq_zero_of_no_sems (by decide) r.2⟩)
    (Cert.NormRefIdeal.Value.run (F := Ideal) m g)

/-- The norm of the residual stream: the results of the kernel `Norm` are the reference's. -/
theorem algebraic_Norm : Cert.algebraic_NormIdeal_NormRefIdeal := fun m g m' g' _ ha => by
  refine ⟨fun c => (Cert.NormIdeal.Gen.dats m 0 c).arrAt 2 Cert.NormIdeal.cfg0.N,
    Cert.NormIdeal.Value.run_blocks m g, ?_⟩
  refine (θ_run Cert.NormRefIdeal.defs _ _).mono (fun r h c => ?_) (Cert.NormRefIdeal.Value.run (F := Ideal) m' g')
  obtain ⟨e0, hk⟩ := h c
  obtain ⟨b0, b1⟩ := ha c
  refine ⟨e0.trans ?_, hk⟩
  · rw [Cert.NormRefIdeal.Read.val_main_v15_eq, b0, b1]
    exact (Cert.NormIdeal.Call.out m c).symm

/-- The attention's forward pass: the reference of `Attn` runs, keeps its arguments and leaves every counter at zero. -/
theorem frame_Attn : Cert.quiescent_AttnRefIdeal := fun m g _ =>
  (θ_run Cert.AttnRefIdeal.defs _ _).mono (fun r h => ⟨fun c => (h c).2.2.2, sem_eq_zero_of_no_sems (by decide) r.2⟩)
    (Cert.AttnRefIdeal.Value.run (F := Ideal) m g)

/-- The attention's forward pass: the results of the kernel `Attn` are the reference's. -/
theorem algebraic_Attn : Cert.algebraic_AttnIdeal_AttnRefIdeal_pre_finite_qk := fun m g m' g' hp ha => by
  refine ⟨fun c => (Cert.AttnIdeal.Gen.dats m 0 c).arrAt 3 Cert.AttnIdeal.cfg0.N, fun c => (Cert.AttnIdeal.Gen.dats m 0 c).arrAt 4 Cert.AttnIdeal.cfg0.N, fun c => (Cert.AttnIdeal.Gen.dats m 0 c).arrAt 5 Cert.AttnIdeal.cfg0.N,
    Cert.AttnIdeal.Value.run_blocks m g, ?_⟩
  refine (θ_run Cert.AttnRefIdeal.defs _ _).mono (fun r h c => ?_) (Cert.AttnRefIdeal.Value.run (F := Ideal) m' g')
  obtain ⟨e0, e1, e2, hk⟩ := h c
  obtain ⟨b0, b1, b2⟩ := ha c
  obtain ⟨p0, p1⟩ := hp c
  have r0 := fun i => Cert.Finite.real_at (Cert.AttnIdeal.Call.a0 m c) _ (tops _) p0 i
  have r1 := fun i => Cert.Finite.real_at (Cert.AttnIdeal.Call.a1 m c) _ (tops _) p1 i
  refine ⟨e0.trans ?_, e1.trans ?_, e2.trans ?_, hk⟩
  · rw [Cert.AttnRefIdeal.Read.val_main_v27_eq, b0, b1, b2]
    exact (Cert.AttnIdeal.Call.out3 m c r0 r1).symm
  · rw [Cert.AttnRefIdeal.Read.val_main_v47_eq, b0, b1, b2]
    exact (Cert.AttnIdeal.Call.out4 m c r0 r1).symm
  · rw [Cert.AttnRefIdeal.Read.val_main_v48_eq, b0, b1]
    exact (Cert.AttnIdeal.Call.out5 m c).symm

/-- The gradient of the norm: the reference of `Dnorm` runs, keeps its arguments and leaves every counter at zero. -/
theorem frame_Dnorm : Cert.quiescent_DnormRefIdeal := fun m g _ =>
  (θ_run Cert.DnormRefIdeal.defs _ _).mono (fun r h => ⟨fun c => (h c).2.2.2, sem_eq_zero_of_no_sems (by decide) r.2⟩)
    (Cert.DnormRefIdeal.Value.run (F := Ideal) m g)

/-- The gradient of the norm: the results of the kernel `Dnorm` are the reference's. -/
theorem algebraic_Dnorm : Cert.algebraic_DnormIdeal_DnormRefIdeal := fun m g m' g' _ ha => by
  refine ⟨fun c => (Cert.DnormIdeal.Gen.dats m 0 c).arrAt 4 Cert.DnormIdeal.cfg0.N, fun c => (Cert.DnormIdeal.Gen.dats m 0 c).arrAt 5 Cert.DnormIdeal.cfg0.N, fun c => (Cert.DnormIdeal.Gen.dats m 0 c).arrAt 6 Cert.DnormIdeal.cfg0.N,
    Cert.DnormIdeal.Value.run_blocks m g, ?_⟩
  refine (θ_run Cert.DnormRefIdeal.defs _ _).mono (fun r h c => ?_) (Cert.DnormRefIdeal.Value.run (F := Ideal) m' g')
  obtain ⟨e0, e1, e2, hk⟩ := h c
  obtain ⟨b0, b1, b2, b3⟩ := ha c
  refine ⟨e0.trans ?_, e1.trans ?_, e2.trans ?_, hk⟩
  · rw [Cert.DnormRefIdeal.Read.val_main_v39_eq, b0, b1, b2, b3]
    exact (Cert.DnormIdeal.Call.out4 m c).symm
  · rw [Cert.DnormRefIdeal.Read.val_main_v40_eq, b0, b1, b2, b3]
    exact (Cert.DnormIdeal.Call.out5 m c).symm
  · rw [Cert.DnormRefIdeal.Read.val_main_v41_eq, b0, b2]
    exact (Cert.DnormIdeal.Call.out6 m c).symm

/-- The norm of the queries' latents: the reference of `LatQ` runs, keeps its arguments and leaves every counter at zero. -/
theorem frame_LatQ : Cert.quiescent_LatQRefIdeal := fun m g _ =>
  (θ_run Cert.LatQRefIdeal.defs _ _).mono (fun r h => ⟨fun c => (h c).2, sem_eq_zero_of_no_sems (by decide) r.2⟩)
    (Cert.LatQRefIdeal.Value.run (F := Ideal) m g)

/-- The norm of the queries' latents: the results of the kernel `LatQ` are the reference's. -/
theorem algebraic_LatQ : Cert.algebraic_LatQIdeal_LatQRefIdeal := fun m g m' g' _ ha => by
  refine ⟨fun c => (Cert.LatQIdeal.Gen.dats m 0 c).arrAt 2 Cert.LatQIdeal.cfg0.N,
    Cert.LatQIdeal.Value.run_blocks m g, ?_⟩
  refine (θ_run Cert.LatQRefIdeal.defs _ _).mono (fun r h c => ?_) (Cert.LatQRefIdeal.Value.run (F := Ideal) m' g')
  obtain ⟨e0, hk⟩ := h c
  obtain ⟨b0, b1⟩ := ha c
  refine ⟨e0.trans ?_, hk⟩
  · rw [Cert.LatQRefIdeal.Read.val_main_v16_eq, b0, b1]
    exact (Cert.LatQIdeal.Call.out m c).symm

/-- The norm of the keys' and values' latents: the reference of `LatKv` runs, keeps its arguments and leaves every counter at zero. -/
theorem frame_LatKv : Cert.quiescent_LatKvRefIdeal := fun m g _ =>
  (θ_run Cert.LatKvRefIdeal.defs _ _).mono (fun r h => ⟨fun c => (h c).2, sem_eq_zero_of_no_sems (by decide) r.2⟩)
    (Cert.LatKvRefIdeal.Value.run (F := Ideal) m g)

/-- The norm of the keys' and values' latents: the results of the kernel `LatKv` are the reference's. -/
theorem algebraic_LatKv : Cert.algebraic_LatKvIdeal_LatKvRefIdeal := fun m g m' g' _ ha => by
  refine ⟨fun c => (Cert.LatKvIdeal.Gen.dats m 0 c).arrAt 2 Cert.LatKvIdeal.cfg0.N,
    Cert.LatKvIdeal.Value.run_blocks m g, ?_⟩
  refine (θ_run Cert.LatKvRefIdeal.defs _ _).mono (fun r h c => ?_) (Cert.LatKvRefIdeal.Value.run (F := Ideal) m' g')
  obtain ⟨e0, hk⟩ := h c
  obtain ⟨b0, b1⟩ := ha c
  refine ⟨e0.trans ?_, hk⟩
  · rw [Cert.LatKvRefIdeal.Read.val_main_v16_eq, b0, b1]
    exact (Cert.LatKvIdeal.Call.out m c).symm

/-- The gradient of the queries' latents: the reference of `DlatQ` runs, keeps its arguments and leaves every counter at zero. -/
theorem frame_DlatQ : Cert.quiescent_DlatQRefIdeal := fun m g _ =>
  (θ_run Cert.DlatQRefIdeal.defs _ _).mono (fun r h => ⟨fun c => (h c).2.2.2, sem_eq_zero_of_no_sems (by decide) r.2⟩)
    (Cert.DlatQRefIdeal.Value.run (F := Ideal) m g)

/-- The gradient of the queries' latents: the results of the kernel `DlatQ` are the reference's. -/
theorem algebraic_DlatQ : Cert.algebraic_DlatQIdeal_DlatQRefIdeal := fun m g m' g' _ ha => by
  refine ⟨fun c => (Cert.DlatQIdeal.Gen.dats m 0 c).arrAt 3 Cert.DlatQIdeal.cfg0.N, fun c => (Cert.DlatQIdeal.Gen.dats m 0 c).arrAt 4 Cert.DlatQIdeal.cfg0.N, fun c => (Cert.DlatQIdeal.Gen.dats m 0 c).arrAt 5 Cert.DlatQIdeal.cfg0.N,
    Cert.DlatQIdeal.Value.run_blocks m g, ?_⟩
  refine (θ_run Cert.DlatQRefIdeal.defs _ _).mono (fun r h c => ?_) (Cert.DlatQRefIdeal.Value.run (F := Ideal) m' g')
  obtain ⟨e0, e1, e2, hk⟩ := h c
  obtain ⟨b0, b1, b2⟩ := ha c
  refine ⟨e0.trans ?_, e1.trans ?_, e2.trans ?_, hk⟩
  · rw [Cert.DlatQRefIdeal.Read.val_main_v39_eq, b0, b1, b2]
    exact (Cert.DlatQIdeal.Call.out3 m c).symm
  · rw [Cert.DlatQRefIdeal.Read.val_main_v40_eq, b0, b1, b2]
    exact (Cert.DlatQIdeal.Call.out4 m c).symm
  · rw [Cert.DlatQRefIdeal.Read.val_main_v41_eq, b0, b2]
    exact (Cert.DlatQIdeal.Call.out5 m c).symm

/-- The gradient of the keys' and values' latents: the reference of `DlatKv` runs, keeps its arguments and leaves every counter at zero. -/
theorem frame_DlatKv : Cert.quiescent_DlatKvRefIdeal := fun m g _ =>
  (θ_run Cert.DlatKvRefIdeal.defs _ _).mono (fun r h => ⟨fun c => (h c).2.2.2, sem_eq_zero_of_no_sems (by decide) r.2⟩)
    (Cert.DlatKvRefIdeal.Value.run (F := Ideal) m g)

/-- The gradient of the keys' and values' latents: the results of the kernel `DlatKv` are the reference's. -/
theorem algebraic_DlatKv : Cert.algebraic_DlatKvIdeal_DlatKvRefIdeal := fun m g m' g' _ ha => by
  refine ⟨fun c => (Cert.DlatKvIdeal.Gen.dats m 0 c).arrAt 3 Cert.DlatKvIdeal.cfg0.N, fun c => (Cert.DlatKvIdeal.Gen.dats m 0 c).arrAt 4 Cert.DlatKvIdeal.cfg0.N, fun c => (Cert.DlatKvIdeal.Gen.dats m 0 c).arrAt 5 Cert.DlatKvIdeal.cfg0.N,
    Cert.DlatKvIdeal.Value.run_blocks m g, ?_⟩
  refine (θ_run Cert.DlatKvRefIdeal.defs _ _).mono (fun r h c => ?_) (Cert.DlatKvRefIdeal.Value.run (F := Ideal) m' g')
  obtain ⟨e0, e1, e2, hk⟩ := h c
  obtain ⟨b0, b1, b2⟩ := ha c
  refine ⟨e0.trans ?_, e1.trans ?_, e2.trans ?_, hk⟩
  · rw [Cert.DlatKvRefIdeal.Read.val_main_v39_eq, b0, b1, b2]
    exact (Cert.DlatKvIdeal.Call.out3 m c).symm
  · rw [Cert.DlatKvRefIdeal.Read.val_main_v40_eq, b0, b1, b2]
    exact (Cert.DlatKvIdeal.Call.out4 m c).symm
  · rw [Cert.DlatKvRefIdeal.Read.val_main_v41_eq, b0, b2]
    exact (Cert.DlatKvIdeal.Call.out5 m c).symm

/-- Every claim of the certificate. -/
theorem claim : Cert.Claim := ⟨Cert.Kernel.Gen.facts, Cert.KernelIdeal.Gen.facts, Cert.ReferenceIdeal.Gen.facts,
  Cert.Merge.Gen.facts, Cert.MergeIdeal.Gen.facts, Cert.MergeRefIdeal.Gen.facts,
  Cert.Act.Gen.facts, Cert.ActIdeal.Gen.facts, Cert.ActRefIdeal.Gen.facts,
  Cert.Down.Gen.facts, Cert.DownIdeal.Gen.facts, Cert.DownRefIdeal.Gen.facts,
  Cert.Up.Gen.facts, Cert.UpIdeal.Gen.facts, Cert.UpRefIdeal.Gen.facts,
  Cert.H2.Gen.facts, Cert.H2Ideal.Gen.facts, Cert.H2RefIdeal.Gen.facts,
  Cert.Do.Gen.facts, Cert.DoIdeal.Gen.facts, Cert.DoRefIdeal.Gen.facts,
  Cert.Da.Gen.facts, Cert.DaIdeal.Gen.facts, Cert.DaRefIdeal.Gen.facts,
  Cert.Dkv.Gen.facts, Cert.DkvIdeal.Gen.facts, Cert.DkvRefIdeal.Gen.facts,
  Cert.Go.Gen.facts, Cert.GoIdeal.Gen.facts, Cert.GoRefIdeal.Gen.facts,
  Cert.Ga.Gen.facts, Cert.GaIdeal.Gen.facts, Cert.GaRefIdeal.Gen.facts,
  Cert.Gkv.Gen.facts, Cert.GkvIdeal.Gen.facts, Cert.GkvRefIdeal.Gen.facts,
  Cert.Gin.Gen.facts, Cert.GinIdeal.Gen.facts, Cert.GinRefIdeal.Gen.facts,
  Cert.Fb.Gen.facts, Cert.FbIdeal.Gen.facts, Cert.FbRefIdeal.Gen.facts,
  Cert.Fa.Gen.facts, Cert.FaIdeal.Gen.facts, Cert.FaRefIdeal.Gen.facts,
  Cert.Fkv.Gen.facts, Cert.FkvIdeal.Gen.facts, Cert.FkvRefIdeal.Gen.facts,
  Cert.Fo.Gen.facts, Cert.FoIdeal.Gen.facts, Cert.FoRefIdeal.Gen.facts,
  Cert.Fdown.Gen.facts, Cert.FdownIdeal.Gen.facts, Cert.FdownRefIdeal.Gen.facts,
  Cert.Fup.Gen.facts, Cert.FupIdeal.Gen.facts, Cert.FupRefIdeal.Gen.facts,
  Cert.Mix.Gen.facts, Cert.MixIdeal.Gen.facts, Cert.MixRefIdeal.Gen.facts,
  Cert.Norm.Gen.facts, Cert.NormIdeal.Gen.facts, Cert.NormRefIdeal.Gen.facts,
  Cert.Attn.Gen.facts, Cert.AttnIdeal.Gen.facts, Cert.AttnRefIdeal.Gen.facts,
  Cert.Dnorm.Gen.facts, Cert.DnormIdeal.Gen.facts, Cert.DnormRefIdeal.Gen.facts,
  Cert.LatQ.Gen.facts, Cert.LatQIdeal.Gen.facts, Cert.LatQRefIdeal.Gen.facts,
  Cert.LatKv.Gen.facts, Cert.LatKvIdeal.Gen.facts, Cert.LatKvRefIdeal.Gen.facts,
  Cert.DlatQ.Gen.facts, Cert.DlatQIdeal.Gen.facts, Cert.DlatQRefIdeal.Gen.facts,
  Cert.DlatKv.Gen.facts, Cert.DlatKvIdeal.Gen.facts, Cert.DlatKvRefIdeal.Gen.facts,
  Cert.Finite.facts, Cert.Finite.facts_qk,
  fun m g _ => Cert.Kernel.Gen.frame m g, fun m g _ => Cert.KernelIdeal.Gen.frame m g, fun m g _ => Cert.KernelIdeal.Gen.frame m g,
  fun m g _ => frame_ref m g trivial, fun m g _ => frame_ref m g trivial,
  fun m g _ => Cert.Merge.Gen.frame m g, fun m g _ => Cert.MergeIdeal.Gen.frame m g, frame_Merge,
  fun m g _ => Cert.Act.Gen.frame m g, fun m g _ => Cert.ActIdeal.Gen.frame m g, frame_Act,
  fun m g _ => Cert.Down.Gen.frame m g, fun m g _ => Cert.DownIdeal.Gen.frame m g, frame_Down,
  fun m g _ => Cert.Up.Gen.frame m g, fun m g _ => Cert.UpIdeal.Gen.frame m g, frame_Up,
  fun m g _ => Cert.H2.Gen.frame m g, fun m g _ => Cert.H2Ideal.Gen.frame m g, frame_H2,
  fun m g _ => Cert.Do.Gen.frame m g, fun m g _ => Cert.DoIdeal.Gen.frame m g, frame_Do,
  fun m g _ => Cert.Da.Gen.frame m g, fun m g _ => Cert.DaIdeal.Gen.frame m g, frame_Da,
  fun m g _ => Cert.Dkv.Gen.frame m g, fun m g _ => Cert.DkvIdeal.Gen.frame m g, frame_Dkv,
  fun m g _ => Cert.Go.Gen.frame m g, fun m g _ => Cert.GoIdeal.Gen.frame m g, frame_Go,
  fun m g _ => Cert.Ga.Gen.frame m g, fun m g _ => Cert.GaIdeal.Gen.frame m g, frame_Ga,
  fun m g _ => Cert.Gkv.Gen.frame m g, fun m g _ => Cert.GkvIdeal.Gen.frame m g, frame_Gkv,
  fun m g _ => Cert.Gin.Gen.frame m g, fun m g _ => Cert.GinIdeal.Gen.frame m g, frame_Gin,
  fun m g _ => Cert.Fb.Gen.frame m g, fun m g _ => Cert.FbIdeal.Gen.frame m g, frame_Fb,
  fun m g _ => Cert.Fa.Gen.frame m g, fun m g _ => Cert.FaIdeal.Gen.frame m g, frame_Fa,
  fun m g _ => Cert.Fkv.Gen.frame m g, fun m g _ => Cert.FkvIdeal.Gen.frame m g, frame_Fkv,
  fun m g _ => Cert.Fo.Gen.frame m g, fun m g _ => Cert.FoIdeal.Gen.frame m g, frame_Fo,
  fun m g _ => Cert.Fdown.Gen.frame m g, fun m g _ => Cert.FdownIdeal.Gen.frame m g, frame_Fdown,
  fun m g _ => Cert.Fup.Gen.frame m g, fun m g _ => Cert.FupIdeal.Gen.frame m g, frame_Fup,
  fun m g _ => Cert.Mix.Gen.frame m g, fun m g _ => Cert.MixIdeal.Gen.frame m g, frame_Mix,
  fun m g _ => Cert.Norm.Gen.frame m g, fun m g _ => Cert.NormIdeal.Gen.frame m g, frame_Norm,
  fun m g _ => Cert.Attn.Gen.frame m g, fun m g _ => Cert.AttnIdeal.Gen.frame m g, fun m g _ => Cert.AttnIdeal.Gen.frame m g,
  fun m g _ => frame_Attn m g trivial, fun m g _ => frame_Attn m g trivial,
  fun m g _ => Cert.Dnorm.Gen.frame m g, fun m g _ => Cert.DnormIdeal.Gen.frame m g, frame_Dnorm,
  fun m g _ => Cert.LatQ.Gen.frame m g, fun m g _ => Cert.LatQIdeal.Gen.frame m g, frame_LatQ,
  fun m g _ => Cert.LatKv.Gen.frame m g, fun m g _ => Cert.LatKvIdeal.Gen.frame m g, frame_LatKv,
  fun m g _ => Cert.DlatQ.Gen.frame m g, fun m g _ => Cert.DlatQIdeal.Gen.frame m g, frame_DlatQ,
  fun m g _ => Cert.DlatKv.Gen.frame m g, fun m g _ => Cert.DlatKvIdeal.Gen.frame m g, frame_DlatKv,
  trivial, algebraic,
  trivial, algebraic_Merge,
  trivial, algebraic_Act,
  trivial, algebraic_Down,
  trivial, algebraic_Up,
  trivial, algebraic_H2,
  trivial, algebraic_Do,
  trivial, algebraic_Da,
  trivial, algebraic_Dkv,
  trivial, algebraic_Go,
  trivial, algebraic_Ga,
  trivial, algebraic_Gkv,
  trivial, algebraic_Gin,
  trivial, algebraic_Fb,
  trivial, algebraic_Fa,
  trivial, algebraic_Fkv,
  trivial, algebraic_Fo,
  trivial, algebraic_Fdown,
  trivial, algebraic_Fup,
  trivial, algebraic_Mix,
  trivial, algebraic_Norm,
  trivial, algebraic_Attn,
  trivial, algebraic_Dnorm,
  trivial, algebraic_LatQ,
  trivial, algebraic_LatKv,
  trivial, algebraic_DlatQ,
  trivial, algebraic_DlatKv⟩

end Cert.Proof

end
